-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ffn_finite [hPre_ffn_finite : Cert.Pre_ffn_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ffn_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ffn_finite [hPre_ffn_finite : Cert.Pre_ffn_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ffn_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_MixBwdKernel (m : (ℓ : Loc Cert.MixBwdKernel.nD Cert.MixBwdKernel.τ Cert.MixBwdKernel.sig) → Buf (Elt Bits) ℓ) : Prop :=
  True

def Pre_MixBwdKernelIdeal (m : (ℓ : Loc Cert.MixBwdKernelIdeal.nD Cert.MixBwdKernelIdeal.τ Cert.MixBwdKernelIdeal.sig) → Buf (Elt Ideal) ℓ) : Prop :=
  True

def Pre_MixBwdKernelIdeal_mixb_finite [hPre_mixb_finite : Cert.Pre_mixb_finite.Facts] (m : (ℓ : Loc Cert.MixBwdKernelIdeal.nD Cert.MixBwdKernelIdeal.τ Cert.MixBwdKernelIdeal.sig) → Buf (Elt Ideal) ℓ) : Prop :=
  ∀ c : Dev Cert.MixBwdKernelIdeal.nD,
    (Cert.Pre_mixb_finite.fn (F := Ideal) (m ((c.tc : Thread Cert.MixBwdKernelIdeal.nD Cert.MixBwdKernelIdeal.τ).loc Cert.MixBwdKernelIdeal.main_arg0)) (m ((c.tc : Thread Cert.MixBwdKernelIdeal.nD Cert.MixBwdKernelIdeal.τ).loc Cert.MixBwdKernelIdeal.main_arg1)) (m ((c.tc : Thread Cert.MixBwdKernelIdeal.nD Cert.MixBwdKernelIdeal.τ).loc Cert.MixBwdKernelIdeal.main_arg2)) (m ((c.tc : Thread Cert.MixBwdKernelIdeal.nD Cert.MixBwdKernelIdeal.τ).loc Cert.MixBwdKernelIdeal.main_arg3)) (m ((c.tc : Thread Cert.MixBwdKernelIdeal.nD Cert.MixBwdKernelIdeal.τ).loc Cert.MixBwdKernelIdeal.main_arg4)) (m ((c.tc : Thread Cert.MixBwdKernelIdeal.nD Cert.MixBwdKernelIdeal.τ).loc Cert.MixBwdKernelIdeal.main_arg5)) (m ((c.tc : Thread Cert.MixBwdKernelIdeal.nD Cert.MixBwdKernelIdeal.τ).loc Cert.MixBwdKernelIdeal.main_arg6)) (m ((c.tc : Thread Cert.MixBwdKernelIdeal.nD Cert.MixBwdKernelIdeal.τ).loc Cert.MixBwdKernelIdeal.main_arg7)) (m ((c.tc : Thread Cert.MixBwdKernelIdeal.nD Cert.MixBwdKernelIdeal.τ).loc Cert.MixBwdKernelIdeal.main_arg8)) (m ((c.tc : Thread Cert.MixBwdKernelIdeal.nD Cert.MixBwdKernelIdeal.τ).loc Cert.MixBwdKernelIdeal.main_arg9)) (m ((c.tc : Thread Cert.MixBwdKernelIdeal.nD Cert.MixBwdKernelIdeal.τ).loc Cert.MixBwdKernelIdeal.main_arg10))) = (fun _ => 1#1)

def Pre_MixBwdReferenceIdeal (m : (ℓ : Loc Cert.MixBwdReferenceIdeal.nD Cert.MixBwdReferenceIdeal.τ Cert.MixBwdReferenceIdeal.sig) → Buf (Elt Ideal) ℓ) : Prop :=
  True

def Pre_MixBwdReferenceIdeal_mixb_finite [hPre_mixb_finite : Cert.Pre_mixb_finite.Facts] (m : (ℓ : Loc Cert.MixBwdReferenceIdeal.nD Cert.MixBwdReferenceIdeal.τ Cert.MixBwdReferenceIdeal.sig) → Buf (Elt Ideal) ℓ) : Prop :=
  ∀ c : Dev Cert.MixBwdReferenceIdeal.nD,
    (Cert.Pre_mixb_finite.fn (F := Ideal) (m ((c.tc : Thread Cert.MixBwdReferenceIdeal.nD Cert.MixBwdReferenceIdeal.τ).loc Cert.MixBwdReferenceIdeal.main_arg0)) (m ((c.tc : Thread Cert.MixBwdReferenceIdeal.nD Cert.MixBwdReferenceIdeal.τ).loc Cert.MixBwdReferenceIdeal.main_arg1)) (m ((c.tc : Thread Cert.MixBwdReferenceIdeal.nD Cert.MixBwdReferenceIdeal.τ).loc Cert.MixBwdReferenceIdeal.main_arg2)) (m ((c.tc : Thread Cert.MixBwdReferenceIdeal.nD Cert.MixBwdReferenceIdeal.τ).loc Cert.MixBwdReferenceIdeal.main_arg3)) (m ((c.tc : Thread Cert.MixBwdReferenceIdeal.nD Cert.MixBwdReferenceIdeal.τ).loc Cert.MixBwdReferenceIdeal.main_arg4)) (m ((c.tc : Thread Cert.MixBwdReferenceIdeal.nD Cert.MixBwdReferenceIdeal.τ).loc Cert.MixBwdReferenceIdeal.main_arg5)) (m ((c.tc : Thread Cert.MixBwdReferenceIdeal.nD Cert.MixBwdReferenceIdeal.τ).loc Cert.MixBwdReferenceIdeal.main_arg6)) (m ((c.tc : Thread Cert.MixBwdReferenceIdeal.nD Cert.MixBwdReferenceIdeal.τ).loc Cert.MixBwdReferenceIdeal.main_arg7)) (m ((c.tc : Thread Cert.MixBwdReferenceIdeal.nD Cert.MixBwdReferenceIdeal.τ).loc Cert.MixBwdReferenceIdeal.main_arg8)) (m ((c.tc : Thread Cert.MixBwdReferenceIdeal.nD Cert.MixBwdReferenceIdeal.τ).loc Cert.MixBwdReferenceIdeal.main_arg9)) (m ((c.tc : Thread Cert.MixBwdReferenceIdeal.nD Cert.MixBwdReferenceIdeal.τ).loc Cert.MixBwdReferenceIdeal.main_arg10))) = (fun _ => 1#1)

def Pre_Ffn2Kernel (m : (ℓ : Loc Cert.Ffn2Kernel.nD Cert.Ffn2Kernel.τ Cert.Ffn2Kernel.sig) → Buf (Elt Bits) ℓ) : Prop :=
  True

def Pre_Ffn2KernelIdeal (m : (ℓ : Loc Cert.Ffn2KernelIdeal.nD Cert.Ffn2KernelIdeal.τ Cert.Ffn2KernelIdeal.sig) → Buf (Elt Ideal) ℓ) : Prop :=
  True

def Pre_Ffn2KernelIdeal_ffn2_finite [hPre_ffn2_finite : Cert.Pre_ffn2_finite.Facts] (m : (ℓ : Loc Cert.Ffn2KernelIdeal.nD Cert.Ffn2KernelIdeal.τ Cert.Ffn2KernelIdeal.sig) → Buf (Elt Ideal) ℓ) : Prop :=
  ∀ c : Dev Cert.Ffn2KernelIdeal.nD,
    (Cert.Pre_ffn2_finite.fn (F := Ideal) (m ((c.tc : Thread Cert.Ffn2KernelIdeal.nD Cert.Ffn2KernelIdeal.τ).loc Cert.Ffn2KernelIdeal.main_arg0)) (m ((c.tc : Thread Cert.Ffn2KernelIdeal.nD Cert.Ffn2KernelIdeal.τ).loc Cert.Ffn2KernelIdeal.main_arg1)) (m ((c.tc : Thread Cert.Ffn2KernelIdeal.nD Cert.Ffn2KernelIdeal.τ).loc Cert.Ffn2KernelIdeal.main_arg2)) (m ((c.tc : Thread Cert.Ffn2KernelIdeal.nD Cert.Ffn2KernelIdeal.τ).loc Cert.Ffn2KernelIdeal.main_arg3)) (m ((c.tc : Thread Cert.Ffn2KernelIdeal.nD Cert.Ffn2KernelIdeal.τ).loc Cert.Ffn2KernelIdeal.main_arg4)) (m ((c.tc : Thread Cert.Ffn2KernelIdeal.nD Cert.Ffn2KernelIdeal.τ).loc Cert.Ffn2KernelIdeal.main_arg5)) (m ((c.tc : Thread Cert.Ffn2KernelIdeal.nD Cert.Ffn2KernelIdeal.τ).loc Cert.Ffn2KernelIdeal.main_arg6)) (m ((c.tc : Thread Cert.Ffn2KernelIdeal.nD Cert.Ffn2KernelIdeal.τ).loc Cert.Ffn2KernelIdeal.main_arg7)) (m ((c.tc : Thread Cert.Ffn2KernelIdeal.nD Cert.Ffn2KernelIdeal.τ).loc Cert.Ffn2KernelIdeal.main_arg8))) = (fun _ => 1#1)

def Pre_Ffn2ReferenceIdeal (m : (ℓ : Loc Cert.Ffn2ReferenceIdeal.nD Cert.Ffn2ReferenceIdeal.τ Cert.Ffn2ReferenceIdeal.sig) → Buf (Elt Ideal) ℓ) : Prop :=
  True

def Pre_Ffn2ReferenceIdeal_ffn2_finite [hPre_ffn2_finite : Cert.Pre_ffn2_finite.Facts] (m : (ℓ : Loc Cert.Ffn2ReferenceIdeal.nD Cert.Ffn2ReferenceIdeal.τ Cert.Ffn2ReferenceIdeal.sig) → Buf (Elt Ideal) ℓ) : Prop :=
  ∀ c : Dev Cert.Ffn2ReferenceIdeal.nD,
    (Cert.Pre_ffn2_finite.fn (F := Ideal) (m ((c.tc : Thread Cert.Ffn2ReferenceIdeal.nD Cert.Ffn2ReferenceIdeal.τ).loc Cert.Ffn2ReferenceIdeal.main_arg0)) (m ((c.tc : Thread Cert.Ffn2ReferenceIdeal.nD Cert.Ffn2ReferenceIdeal.τ).loc Cert.Ffn2ReferenceIdeal.main_arg1)) (m ((c.tc : Thread Cert.Ffn2ReferenceIdeal.nD Cert.Ffn2ReferenceIdeal.τ).loc Cert.Ffn2ReferenceIdeal.main_arg2)) (m ((c.tc : Thread Cert.Ffn2ReferenceIdeal.nD Cert.Ffn2ReferenceIdeal.τ).loc Cert.Ffn2ReferenceIdeal.main_arg3)) (m ((c.tc : Thread Cert.Ffn2ReferenceIdeal.nD Cert.Ffn2ReferenceIdeal.τ).loc Cert.Ffn2ReferenceIdeal.main_arg4)) (m ((c.tc : Thread Cert.Ffn2ReferenceIdeal.nD Cert.Ffn2ReferenceIdeal.τ).loc Cert.Ffn2ReferenceIdeal.main_arg5)) (m ((c.tc : Thread Cert.Ffn2ReferenceIdeal.nD Cert.Ffn2ReferenceIdeal.τ).loc Cert.Ffn2ReferenceIdeal.main_arg6)) (m ((c.tc : Thread Cert.Ffn2ReferenceIdeal.nD Cert.Ffn2ReferenceIdeal.τ).loc Cert.Ffn2ReferenceIdeal.main_arg7)) (m ((c.tc : Thread Cert.Ffn2ReferenceIdeal.nD Cert.Ffn2ReferenceIdeal.τ).loc Cert.Ffn2ReferenceIdeal.main_arg8))) = (fun _ => 1#1)

def Pre_SsdBwdKernel (m : (ℓ : Loc Cert.SsdBwdKernel.nD Cert.SsdBwdKernel.τ Cert.SsdBwdKernel.sig) → Buf (Elt Bits) ℓ) : Prop :=
  True

def Pre_SsdBwdKernelIdeal (m : (ℓ : Loc Cert.SsdBwdKernelIdeal.nD Cert.SsdBwdKernelIdeal.τ Cert.SsdBwdKernelIdeal.sig) → Buf (Elt Ideal) ℓ) : Prop :=
  True

def Pre_TailKernel (m : (ℓ : Loc Cert.TailKernel.nD Cert.TailKernel.τ Cert.TailKernel.sig) → Buf (Elt Bits) ℓ) : Prop :=
  True

def Pre_TailKernelIdeal (m : (ℓ : Loc Cert.TailKernelIdeal.nD Cert.TailKernelIdeal.τ Cert.TailKernelIdeal.sig) → Buf (Elt Ideal) ℓ) : Prop :=
  True

def Pre_TailKernelIdeal_tail_finite [hPre_tail_finite : Cert.Pre_tail_finite.Facts] (m : (ℓ : Loc Cert.TailKernelIdeal.nD Cert.TailKernelIdeal.τ Cert.TailKernelIdeal.sig) → Buf (Elt Ideal) ℓ) : Prop :=
  ∀ c : Dev Cert.TailKernelIdeal.nD,
    (Cert.Pre_tail_finite.fn (F := Ideal) (m ((c.tc : Thread Cert.TailKernelIdeal.nD Cert.TailKernelIdeal.τ).loc Cert.TailKernelIdeal.main_arg0)) (m ((c.tc : Thread Cert.TailKernelIdeal.nD Cert.TailKernelIdeal.τ).loc Cert.TailKernelIdeal.main_arg1)) (m ((c.tc : Thread Cert.TailKernelIdeal.nD Cert.TailKernelIdeal.τ).loc Cert.TailKernelIdeal.main_arg2)) (m ((c.tc : Thread Cert.TailKernelIdeal.nD Cert.TailKernelIdeal.τ).loc Cert.TailKernelIdeal.main_arg3)) (m ((c.tc : Thread Cert.TailKernelIdeal.nD Cert.TailKernelIdeal.τ).loc Cert.TailKernelIdeal.main_arg4)) (m ((c.tc : Thread Cert.TailKernelIdeal.nD Cert.TailKernelIdeal.τ).loc Cert.TailKernelIdeal.main_arg5)) (m ((c.tc : Thread Cert.TailKernelIdeal.nD Cert.TailKernelIdeal.τ).loc Cert.TailKernelIdeal.main_arg6)) (m ((c.tc : Thread Cert.TailKernelIdeal.nD Cert.TailKernelIdeal.τ).loc Cert.TailKernelIdeal.main_arg7))) = (fun _ => 1#1)

def Pre_TailReferenceIdeal (m : (ℓ : Loc Cert.TailReferenceIdeal.nD Cert.TailReferenceIdeal.τ Cert.TailReferenceIdeal.sig) → Buf (Elt Ideal) ℓ) : Prop :=
  True

def Pre_TailReferenceIdeal_tail_finite [hPre_tail_finite : Cert.Pre_tail_finite.Facts] (m : (ℓ : Loc Cert.TailReferenceIdeal.nD Cert.TailReferenceIdeal.τ Cert.TailReferenceIdeal.sig) → Buf (Elt Ideal) ℓ) : Prop :=
  ∀ c : Dev Cert.TailReferenceIdeal.nD,
    (Cert.Pre_tail_finite.fn (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4)) (m ((c.tc : Thread Cert.TailReferenceIdeal.nD Cert.TailReferenceIdeal.τ).loc Cert.TailReferenceIdeal.main_arg5)) (m ((c.tc : Thread Cert.TailReferenceIdeal.nD Cert.TailReferenceIdeal.τ).loc Cert.TailReferenceIdeal.main_arg6)) (m ((c.tc : Thread Cert.TailReferenceIdeal.nD Cert.TailReferenceIdeal.τ).loc Cert.TailReferenceIdeal.main_arg7))) = (fun _ => 1#1)

def Pre_SsdFwdKernel (m : (ℓ : Loc Cert.SsdFwdKernel.nD Cert.SsdFwdKernel.τ Cert.SsdFwdKernel.sig) → Buf (Elt Bits) ℓ) : Prop :=
  True

def Pre_SsdFwdKernelIdeal (m : (ℓ : Loc Cert.SsdFwdKernelIdeal.nD Cert.SsdFwdKernelIdeal.τ Cert.SsdFwdKernelIdeal.sig) → Buf (Elt Ideal) ℓ) : Prop :=
  True

def Pre_AdamwKernel (m : (ℓ : Loc Cert.AdamwKernel.nD Cert.AdamwKernel.τ Cert.AdamwKernel.sig) → Buf (Elt Bits) ℓ) : Prop :=
  True

def Pre_AdamwKernelIdeal (m : (ℓ : Loc Cert.AdamwKernelIdeal.nD Cert.AdamwKernelIdeal.τ Cert.AdamwKernelIdeal.sig) → Buf (Elt Ideal) ℓ) : Prop :=
  True

def Pre_AdamwReferenceIdeal (m : (ℓ : Loc Cert.AdamwReferenceIdeal.nD Cert.AdamwReferenceIdeal.τ Cert.AdamwReferenceIdeal.sig) → Buf (Elt Ideal) ℓ) : Prop :=
  True

def Pre_DwKernel (m : (ℓ : Loc Cert.DwKernel.nD Cert.DwKernel.τ Cert.DwKernel.sig) → Buf (Elt Bits) ℓ) : Prop :=
  True

def Pre_DwKernelIdeal (m : (ℓ : Loc Cert.DwKernelIdeal.nD Cert.DwKernelIdeal.τ Cert.DwKernelIdeal.sig) → Buf (Elt Ideal) ℓ) : Prop :=
  True

def Pre_DwReferenceIdeal (m : (ℓ : Loc Cert.DwReferenceIdeal.nD Cert.DwReferenceIdeal.τ Cert.DwReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_ffn_finite [hKernelIdeal : Cert.KernelIdeal.Facts] [hPre_ffn_finite : Cert.Pre_ffn_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ffn_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_ffn_finite [hReferenceIdeal : Cert.ReferenceIdeal.Facts] [hPre_ffn_finite : Cert.Pre_ffn_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ffn_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7))
      ∧ r.2.sem = fun _ => 0)

def quiescent_MixBwdKernel [hMixBwdKernel : Cert.MixBwdKernel.Facts] : Prop :=
  ∀ (m : (ℓ : Loc Cert.MixBwdKernel.nD Cert.MixBwdKernel.τ Cert.MixBwdKernel.sig) → Buf (Elt Bits) ℓ) (g : Dev Cert.MixBwdKernel.nD → PrngReg), Pre_MixBwdKernel m →
    θ_run (Cert.MixBwdKernel.defs (F := Bits)) (onTc (τ := Cert.MixBwdKernel.τ) (Cert.MixBwdKernel.main (F := Bits))) ⟨m, fun _ => 0, g⟩ (fun r => (∀ c : Dev Cert.MixBwdKernel.nD,
      r.2.mem ((c.tc : Thread Cert.MixBwdKernel.nD Cert.MixBwdKernel.τ).loc Cert.MixBwdKernel.main_arg0) = m ((c.tc : Thread Cert.MixBwdKernel.nD Cert.MixBwdKernel.τ).loc Cert.MixBwdKernel.main_arg0)
      ∧ r.2.mem ((c.tc : Thread Cert.MixBwdKernel.nD Cert.MixBwdKernel.τ).loc Cert.MixBwdKernel.main_arg1) = m ((c.tc : Thread Cert.MixBwdKernel.nD Cert.MixBwdKernel.τ).loc Cert.MixBwdKernel.main_arg1)
      ∧ r.2.mem ((c.tc : Thread Cert.MixBwdKernel.nD Cert.MixBwdKernel.τ).loc Cert.MixBwdKernel.main_arg2) = m ((c.tc : Thread Cert.MixBwdKernel.nD Cert.MixBwdKernel.τ).loc Cert.MixBwdKernel.main_arg2)
      ∧ r.2.mem ((c.tc : Thread Cert.MixBwdKernel.nD Cert.MixBwdKernel.τ).loc Cert.MixBwdKernel.main_arg3) = m ((c.tc : Thread Cert.MixBwdKernel.nD Cert.MixBwdKernel.τ).loc Cert.MixBwdKernel.main_arg3)
      ∧ r.2.mem ((c.tc : Thread Cert.MixBwdKernel.nD Cert.MixBwdKernel.τ).loc Cert.MixBwdKernel.main_arg4) = m ((c.tc : Thread Cert.MixBwdKernel.nD Cert.MixBwdKernel.τ).loc Cert.MixBwdKernel.main_arg4)
      ∧ r.2.mem ((c.tc : Thread Cert.MixBwdKernel.nD Cert.MixBwdKernel.τ).loc Cert.MixBwdKernel.main_arg5) = m ((c.tc : Thread Cert.MixBwdKernel.nD Cert.MixBwdKernel.τ).loc Cert.MixBwdKernel.main_arg5)
      ∧ r.2.mem ((c.tc : Thread Cert.MixBwdKernel.nD Cert.MixBwdKernel.τ).loc Cert.MixBwdKernel.main_arg6) = m ((c.tc : Thread Cert.MixBwdKernel.nD Cert.MixBwdKernel.τ).loc Cert.MixBwdKernel.main_arg6)
      ∧ r.2.mem ((c.tc : Thread Cert.MixBwdKernel.nD Cert.MixBwdKernel.τ).loc Cert.MixBwdKernel.main_arg7) = m ((c.tc : Thread Cert.MixBwdKernel.nD Cert.MixBwdKernel.τ).loc Cert.MixBwdKernel.main_arg7)
      ∧ r.2.mem ((c.tc : Thread Cert.MixBwdKernel.nD Cert.MixBwdKernel.τ).loc Cert.MixBwdKernel.main_arg8) = m ((c.tc : Thread Cert.MixBwdKernel.nD Cert.MixBwdKernel.τ).loc Cert.MixBwdKernel.main_arg8)
      ∧ r.2.mem ((c.tc : Thread Cert.MixBwdKernel.nD Cert.MixBwdKernel.τ).loc Cert.MixBwdKernel.main_arg9) = m ((c.tc : Thread Cert.MixBwdKernel.nD Cert.MixBwdKernel.τ).loc Cert.MixBwdKernel.main_arg9)
      ∧ r.2.mem ((c.tc : Thread Cert.MixBwdKernel.nD Cert.MixBwdKernel.τ).loc Cert.MixBwdKernel.main_arg10) = m ((c.tc : Thread Cert.MixBwdKernel.nD Cert.MixBwdKernel.τ).loc Cert.MixBwdKernel.main_arg10))
      ∧ r.2.sem = fun _ => 0)

def quiescent_MixBwdKernelIdeal [hMixBwdKernelIdeal : Cert.MixBwdKernelIdeal.Facts] : Prop :=
  ∀ (m : (ℓ : Loc Cert.MixBwdKernelIdeal.nD Cert.MixBwdKernelIdeal.τ Cert.MixBwdKernelIdeal.sig) → Buf (Elt Ideal) ℓ) (g : Dev Cert.MixBwdKernelIdeal.nD → PrngReg), Pre_MixBwdKernelIdeal m →
    θ_run (Cert.MixBwdKernelIdeal.defs (F := Ideal)) (onTc (τ := Cert.MixBwdKernelIdeal.τ) (Cert.MixBwdKernelIdeal.main (F := Ideal))) ⟨m, fun _ => 0, g⟩ (fun r => (∀ c : Dev Cert.MixBwdKernelIdeal.nD,
      r.2.mem ((c.tc : Thread Cert.MixBwdKernelIdeal.nD Cert.MixBwdKernelIdeal.τ).loc Cert.MixBwdKernelIdeal.main_arg0) = m ((c.tc : Thread Cert.MixBwdKernelIdeal.nD Cert.MixBwdKernelIdeal.τ).loc Cert.MixBwdKernelIdeal.main_arg0)
      ∧ r.2.mem ((c.tc : Thread Cert.MixBwdKernelIdeal.nD Cert.MixBwdKernelIdeal.τ).loc Cert.MixBwdKernelIdeal.main_arg1) = m ((c.tc : Thread Cert.MixBwdKernelIdeal.nD Cert.MixBwdKernelIdeal.τ).loc Cert.MixBwdKernelIdeal.main_arg1)
      ∧ r.2.mem ((c.tc : Thread Cert.MixBwdKernelIdeal.nD Cert.MixBwdKernelIdeal.τ).loc Cert.MixBwdKernelIdeal.main_arg2) = m ((c.tc : Thread Cert.MixBwdKernelIdeal.nD Cert.MixBwdKernelIdeal.τ).loc Cert.MixBwdKernelIdeal.main_arg2)
      ∧ r.2.mem ((c.tc : Thread Cert.MixBwdKernelIdeal.nD Cert.MixBwdKernelIdeal.τ).loc Cert.MixBwdKernelIdeal.main_arg3) = m ((c.tc : Thread Cert.MixBwdKernelIdeal.nD Cert.MixBwdKernelIdeal.τ).loc Cert.MixBwdKernelIdeal.main_arg3)
      ∧ r.2.mem ((c.tc : Thread Cert.MixBwdKernelIdeal.nD Cert.MixBwdKernelIdeal.τ).loc Cert.MixBwdKernelIdeal.main_arg4) = m ((c.tc : Thread Cert.MixBwdKernelIdeal.nD Cert.MixBwdKernelIdeal.τ).loc Cert.MixBwdKernelIdeal.main_arg4)
      ∧ r.2.mem ((c.tc : Thread Cert.MixBwdKernelIdeal.nD Cert.MixBwdKernelIdeal.τ).loc Cert.MixBwdKernelIdeal.main_arg5) = m ((c.tc : Thread Cert.MixBwdKernelIdeal.nD Cert.MixBwdKernelIdeal.τ).loc Cert.MixBwdKernelIdeal.main_arg5)
      ∧ r.2.mem ((c.tc : Thread Cert.MixBwdKernelIdeal.nD Cert.MixBwdKernelIdeal.τ).loc Cert.MixBwdKernelIdeal.main_arg6) = m ((c.tc : Thread Cert.MixBwdKernelIdeal.nD Cert.MixBwdKernelIdeal.τ).loc Cert.MixBwdKernelIdeal.main_arg6)
      ∧ r.2.mem ((c.tc : Thread Cert.MixBwdKernelIdeal.nD Cert.MixBwdKernelIdeal.τ).loc Cert.MixBwdKernelIdeal.main_arg7) = m ((c.tc : Thread Cert.MixBwdKernelIdeal.nD Cert.MixBwdKernelIdeal.τ).loc Cert.MixBwdKernelIdeal.main_arg7)
      ∧ r.2.mem ((c.tc : Thread Cert.MixBwdKernelIdeal.nD Cert.MixBwdKernelIdeal.τ).loc Cert.MixBwdKernelIdeal.main_arg8) = m ((c.tc : Thread Cert.MixBwdKernelIdeal.nD Cert.MixBwdKernelIdeal.τ).loc Cert.MixBwdKernelIdeal.main_arg8)
      ∧ r.2.mem ((c.tc : Thread Cert.MixBwdKernelIdeal.nD Cert.MixBwdKernelIdeal.τ).loc Cert.MixBwdKernelIdeal.main_arg9) = m ((c.tc : Thread Cert.MixBwdKernelIdeal.nD Cert.MixBwdKernelIdeal.τ).loc Cert.MixBwdKernelIdeal.main_arg9)
      ∧ r.2.mem ((c.tc : Thread Cert.MixBwdKernelIdeal.nD Cert.MixBwdKernelIdeal.τ).loc Cert.MixBwdKernelIdeal.main_arg10) = m ((c.tc : Thread Cert.MixBwdKernelIdeal.nD Cert.MixBwdKernelIdeal.τ).loc Cert.MixBwdKernelIdeal.main_arg10))
      ∧ r.2.sem = fun _ => 0)

def quiescent_MixBwdKernelIdeal_pre_mixb_finite [hMixBwdKernelIdeal : Cert.MixBwdKernelIdeal.Facts] [hPre_mixb_finite : Cert.Pre_mixb_finite.Facts] : Prop :=
  ∀ (m : (ℓ : Loc Cert.MixBwdKernelIdeal.nD Cert.MixBwdKernelIdeal.τ Cert.MixBwdKernelIdeal.sig) → Buf (Elt Ideal) ℓ) (g : Dev Cert.MixBwdKernelIdeal.nD → PrngReg), Pre_MixBwdKernelIdeal_mixb_finite m →
    θ_run (Cert.MixBwdKernelIdeal.defs (F := Ideal)) (onTc (τ := Cert.MixBwdKernelIdeal.τ) (Cert.MixBwdKernelIdeal.main (F := Ideal))) ⟨m, fun _ => 0, g⟩ (fun r => (∀ c : Dev Cert.MixBwdKernelIdeal.nD,
      r.2.mem ((c.tc : Thread Cert.MixBwdKernelIdeal.nD Cert.MixBwdKernelIdeal.τ).loc Cert.MixBwdKernelIdeal.main_arg0) = m ((c.tc : Thread Cert.MixBwdKernelIdeal.nD Cert.MixBwdKernelIdeal.τ).loc Cert.MixBwdKernelIdeal.main_arg0)
      ∧ r.2.mem ((c.tc : Thread Cert.MixBwdKernelIdeal.nD Cert.MixBwdKernelIdeal.τ).loc Cert.MixBwdKernelIdeal.main_arg1) = m ((c.tc : Thread Cert.MixBwdKernelIdeal.nD Cert.MixBwdKernelIdeal.τ).loc Cert.MixBwdKernelIdeal.main_arg1)
      ∧ r.2.mem ((c.tc : Thread Cert.MixBwdKernelIdeal.nD Cert.MixBwdKernelIdeal.τ).loc Cert.MixBwdKernelIdeal.main_arg2) = m ((c.tc : Thread Cert.MixBwdKernelIdeal.nD Cert.MixBwdKernelIdeal.τ).loc Cert.MixBwdKernelIdeal.main_arg2)
      ∧ r.2.mem ((c.tc : Thread Cert.MixBwdKernelIdeal.nD Cert.MixBwdKernelIdeal.τ).loc Cert.MixBwdKernelIdeal.main_arg3) = m ((c.tc : Thread Cert.MixBwdKernelIdeal.nD Cert.MixBwdKernelIdeal.τ).loc Cert.MixBwdKernelIdeal.main_arg3)
      ∧ r.2.mem ((c.tc : Thread Cert.MixBwdKernelIdeal.nD Cert.MixBwdKernelIdeal.τ).loc Cert.MixBwdKernelIdeal.main_arg4) = m ((c.tc : Thread Cert.MixBwdKernelIdeal.nD Cert.MixBwdKernelIdeal.τ).loc Cert.MixBwdKernelIdeal.main_arg4)
      ∧ r.2.mem ((c.tc : Thread Cert.MixBwdKernelIdeal.nD Cert.MixBwdKernelIdeal.τ).loc Cert.MixBwdKernelIdeal.main_arg5) = m ((c.tc : Thread Cert.MixBwdKernelIdeal.nD Cert.MixBwdKernelIdeal.τ).loc Cert.MixBwdKernelIdeal.main_arg5)
      ∧ r.2.mem ((c.tc : Thread Cert.MixBwdKernelIdeal.nD Cert.MixBwdKernelIdeal.τ).loc Cert.MixBwdKernelIdeal.main_arg6) = m ((c.tc : Thread Cert.MixBwdKernelIdeal.nD Cert.MixBwdKernelIdeal.τ).loc Cert.MixBwdKernelIdeal.main_arg6)
      ∧ r.2.mem ((c.tc : Thread Cert.MixBwdKernelIdeal.nD Cert.MixBwdKernelIdeal.τ).loc Cert.MixBwdKernelIdeal.main_arg7) = m ((c.tc : Thread Cert.MixBwdKernelIdeal.nD Cert.MixBwdKernelIdeal.τ).loc Cert.MixBwdKernelIdeal.main_arg7)
      ∧ r.2.mem ((c.tc : Thread Cert.MixBwdKernelIdeal.nD Cert.MixBwdKernelIdeal.τ).loc Cert.MixBwdKernelIdeal.main_arg8) = m ((c.tc : Thread Cert.MixBwdKernelIdeal.nD Cert.MixBwdKernelIdeal.τ).loc Cert.MixBwdKernelIdeal.main_arg8)
      ∧ r.2.mem ((c.tc : Thread Cert.MixBwdKernelIdeal.nD Cert.MixBwdKernelIdeal.τ).loc Cert.MixBwdKernelIdeal.main_arg9) = m ((c.tc : Thread Cert.MixBwdKernelIdeal.nD Cert.MixBwdKernelIdeal.τ).loc Cert.MixBwdKernelIdeal.main_arg9)
      ∧ r.2.mem ((c.tc : Thread Cert.MixBwdKernelIdeal.nD Cert.MixBwdKernelIdeal.τ).loc Cert.MixBwdKernelIdeal.main_arg10) = m ((c.tc : Thread Cert.MixBwdKernelIdeal.nD Cert.MixBwdKernelIdeal.τ).loc Cert.MixBwdKernelIdeal.main_arg10))
      ∧ r.2.sem = fun _ => 0)

def quiescent_MixBwdReferenceIdeal [hMixBwdReferenceIdeal : Cert.MixBwdReferenceIdeal.Facts] : Prop :=
  ∀ (m : (ℓ : Loc Cert.MixBwdReferenceIdeal.nD Cert.MixBwdReferenceIdeal.τ Cert.MixBwdReferenceIdeal.sig) → Buf (Elt Ideal) ℓ) (g : Dev Cert.MixBwdReferenceIdeal.nD → PrngReg), Pre_MixBwdReferenceIdeal m →
    θ_run (Cert.MixBwdReferenceIdeal.defs (F := Ideal)) (onTc (τ := Cert.MixBwdReferenceIdeal.τ) (Cert.MixBwdReferenceIdeal.main (F := Ideal))) ⟨m, fun _ => 0, g⟩ (fun r => (∀ c : Dev Cert.MixBwdReferenceIdeal.nD,
      r.2.mem ((c.tc : Thread Cert.MixBwdReferenceIdeal.nD Cert.MixBwdReferenceIdeal.τ).loc Cert.MixBwdReferenceIdeal.main_arg0) = m ((c.tc : Thread Cert.MixBwdReferenceIdeal.nD Cert.MixBwdReferenceIdeal.τ).loc Cert.MixBwdReferenceIdeal.main_arg0)
      ∧ r.2.mem ((c.tc : Thread Cert.MixBwdReferenceIdeal.nD Cert.MixBwdReferenceIdeal.τ).loc Cert.MixBwdReferenceIdeal.main_arg1) = m ((c.tc : Thread Cert.MixBwdReferenceIdeal.nD Cert.MixBwdReferenceIdeal.τ).loc Cert.MixBwdReferenceIdeal.main_arg1)
      ∧ r.2.mem ((c.tc : Thread Cert.MixBwdReferenceIdeal.nD Cert.MixBwdReferenceIdeal.τ).loc Cert.MixBwdReferenceIdeal.main_arg2) = m ((c.tc : Thread Cert.MixBwdReferenceIdeal.nD Cert.MixBwdReferenceIdeal.τ).loc Cert.MixBwdReferenceIdeal.main_arg2)
      ∧ r.2.mem ((c.tc : Thread Cert.MixBwdReferenceIdeal.nD Cert.MixBwdReferenceIdeal.τ).loc Cert.MixBwdReferenceIdeal.main_arg3) = m ((c.tc : Thread Cert.MixBwdReferenceIdeal.nD Cert.MixBwdReferenceIdeal.τ).loc Cert.MixBwdReferenceIdeal.main_arg3)
      ∧ r.2.mem ((c.tc : Thread Cert.MixBwdReferenceIdeal.nD Cert.MixBwdReferenceIdeal.τ).loc Cert.MixBwdReferenceIdeal.main_arg4) = m ((c.tc : Thread Cert.MixBwdReferenceIdeal.nD Cert.MixBwdReferenceIdeal.τ).loc Cert.MixBwdReferenceIdeal.main_arg4)
      ∧ r.2.mem ((c.tc : Thread Cert.MixBwdReferenceIdeal.nD Cert.MixBwdReferenceIdeal.τ).loc Cert.MixBwdReferenceIdeal.main_arg5) = m ((c.tc : Thread Cert.MixBwdReferenceIdeal.nD Cert.MixBwdReferenceIdeal.τ).loc Cert.MixBwdReferenceIdeal.main_arg5)
      ∧ r.2.mem ((c.tc : Thread Cert.MixBwdReferenceIdeal.nD Cert.MixBwdReferenceIdeal.τ).loc Cert.MixBwdReferenceIdeal.main_arg6) = m ((c.tc : Thread Cert.MixBwdReferenceIdeal.nD Cert.MixBwdReferenceIdeal.τ).loc Cert.MixBwdReferenceIdeal.main_arg6)
      ∧ r.2.mem ((c.tc : Thread Cert.MixBwdReferenceIdeal.nD Cert.MixBwdReferenceIdeal.τ).loc Cert.MixBwdReferenceIdeal.main_arg7) = m ((c.tc : Thread Cert.MixBwdReferenceIdeal.nD Cert.MixBwdReferenceIdeal.τ).loc Cert.MixBwdReferenceIdeal.main_arg7)
      ∧ r.2.mem ((c.tc : Thread Cert.MixBwdReferenceIdeal.nD Cert.MixBwdReferenceIdeal.τ).loc Cert.MixBwdReferenceIdeal.main_arg8) = m ((c.tc : Thread Cert.MixBwdReferenceIdeal.nD Cert.MixBwdReferenceIdeal.τ).loc Cert.MixBwdReferenceIdeal.main_arg8)
      ∧ r.2.mem ((c.tc : Thread Cert.MixBwdReferenceIdeal.nD Cert.MixBwdReferenceIdeal.τ).loc Cert.MixBwdReferenceIdeal.main_arg9) = m ((c.tc : Thread Cert.MixBwdReferenceIdeal.nD Cert.MixBwdReferenceIdeal.τ).loc Cert.MixBwdReferenceIdeal.main_arg9)
      ∧ r.2.mem ((c.tc : Thread Cert.MixBwdReferenceIdeal.nD Cert.MixBwdReferenceIdeal.τ).loc Cert.MixBwdReferenceIdeal.main_arg10) = m ((c.tc : Thread Cert.MixBwdReferenceIdeal.nD Cert.MixBwdReferenceIdeal.τ).loc Cert.MixBwdReferenceIdeal.main_arg10))
      ∧ r.2.sem = fun _ => 0)

def quiescent_MixBwdReferenceIdeal_pre_mixb_finite [hMixBwdReferenceIdeal : Cert.MixBwdReferenceIdeal.Facts] [hPre_mixb_finite : Cert.Pre_mixb_finite.Facts] : Prop :=
  ∀ (m : (ℓ : Loc Cert.MixBwdReferenceIdeal.nD Cert.MixBwdReferenceIdeal.τ Cert.MixBwdReferenceIdeal.sig) → Buf (Elt Ideal) ℓ) (g : Dev Cert.MixBwdReferenceIdeal.nD → PrngReg), Pre_MixBwdReferenceIdeal_mixb_finite m →
    θ_run (Cert.MixBwdReferenceIdeal.defs (F := Ideal)) (onTc (τ := Cert.MixBwdReferenceIdeal.τ) (Cert.MixBwdReferenceIdeal.main (F := Ideal))) ⟨m, fun _ => 0, g⟩ (fun r => (∀ c : Dev Cert.MixBwdReferenceIdeal.nD,
      r.2.mem ((c.tc : Thread Cert.MixBwdReferenceIdeal.nD Cert.MixBwdReferenceIdeal.τ).loc Cert.MixBwdReferenceIdeal.main_arg0) = m ((c.tc : Thread Cert.MixBwdReferenceIdeal.nD Cert.MixBwdReferenceIdeal.τ).loc Cert.MixBwdReferenceIdeal.main_arg0)
      ∧ r.2.mem ((c.tc : Thread Cert.MixBwdReferenceIdeal.nD Cert.MixBwdReferenceIdeal.τ).loc Cert.MixBwdReferenceIdeal.main_arg1) = m ((c.tc : Thread Cert.MixBwdReferenceIdeal.nD Cert.MixBwdReferenceIdeal.τ).loc Cert.MixBwdReferenceIdeal.main_arg1)
      ∧ r.2.mem ((c.tc : Thread Cert.MixBwdReferenceIdeal.nD Cert.MixBwdReferenceIdeal.τ).loc Cert.MixBwdReferenceIdeal.main_arg2) = m ((c.tc : Thread Cert.MixBwdReferenceIdeal.nD Cert.MixBwdReferenceIdeal.τ).loc Cert.MixBwdReferenceIdeal.main_arg2)
      ∧ r.2.mem ((c.tc : Thread Cert.MixBwdReferenceIdeal.nD Cert.MixBwdReferenceIdeal.τ).loc Cert.MixBwdReferenceIdeal.main_arg3) = m ((c.tc : Thread Cert.MixBwdReferenceIdeal.nD Cert.MixBwdReferenceIdeal.τ).loc Cert.MixBwdReferenceIdeal.main_arg3)
      ∧ r.2.mem ((c.tc : Thread Cert.MixBwdReferenceIdeal.nD Cert.MixBwdReferenceIdeal.τ).loc Cert.MixBwdReferenceIdeal.main_arg4) = m ((c.tc : Thread Cert.MixBwdReferenceIdeal.nD Cert.MixBwdReferenceIdeal.τ).loc Cert.MixBwdReferenceIdeal.main_arg4)
      ∧ r.2.mem ((c.tc : Thread Cert.MixBwdReferenceIdeal.nD Cert.MixBwdReferenceIdeal.τ).loc Cert.MixBwdReferenceIdeal.main_arg5) = m ((c.tc : Thread Cert.MixBwdReferenceIdeal.nD Cert.MixBwdReferenceIdeal.τ).loc Cert.MixBwdReferenceIdeal.main_arg5)
      ∧ r.2.mem ((c.tc : Thread Cert.MixBwdReferenceIdeal.nD Cert.MixBwdReferenceIdeal.τ).loc Cert.MixBwdReferenceIdeal.main_arg6) = m ((c.tc : Thread Cert.MixBwdReferenceIdeal.nD Cert.MixBwdReferenceIdeal.τ).loc Cert.MixBwdReferenceIdeal.main_arg6)
      ∧ r.2.mem ((c.tc : Thread Cert.MixBwdReferenceIdeal.nD Cert.MixBwdReferenceIdeal.τ).loc Cert.MixBwdReferenceIdeal.main_arg7) = m ((c.tc : Thread Cert.MixBwdReferenceIdeal.nD Cert.MixBwdReferenceIdeal.τ).loc Cert.MixBwdReferenceIdeal.main_arg7)
      ∧ r.2.mem ((c.tc : Thread Cert.MixBwdReferenceIdeal.nD Cert.MixBwdReferenceIdeal.τ).loc Cert.MixBwdReferenceIdeal.main_arg8) = m ((c.tc : Thread Cert.MixBwdReferenceIdeal.nD Cert.MixBwdReferenceIdeal.τ).loc Cert.MixBwdReferenceIdeal.main_arg8)
      ∧ r.2.mem ((c.tc : Thread Cert.MixBwdReferenceIdeal.nD Cert.MixBwdReferenceIdeal.τ).loc Cert.MixBwdReferenceIdeal.main_arg9) = m ((c.tc : Thread Cert.MixBwdReferenceIdeal.nD Cert.MixBwdReferenceIdeal.τ).loc Cert.MixBwdReferenceIdeal.main_arg9)
      ∧ r.2.mem ((c.tc : Thread Cert.MixBwdReferenceIdeal.nD Cert.MixBwdReferenceIdeal.τ).loc Cert.MixBwdReferenceIdeal.main_arg10) = m ((c.tc : Thread Cert.MixBwdReferenceIdeal.nD Cert.MixBwdReferenceIdeal.τ).loc Cert.MixBwdReferenceIdeal.main_arg10))
      ∧ r.2.sem = fun _ => 0)

def quiescent_Ffn2Kernel [hFfn2Kernel : Cert.Ffn2Kernel.Facts] : Prop :=
  ∀ (m : (ℓ : Loc Cert.Ffn2Kernel.nD Cert.Ffn2Kernel.τ Cert.Ffn2Kernel.sig) → Buf (Elt Bits) ℓ) (g : Dev Cert.Ffn2Kernel.nD → PrngReg), Pre_Ffn2Kernel m →
    θ_run (Cert.Ffn2Kernel.defs (F := Bits)) (onTc (τ := Cert.Ffn2Kernel.τ) (Cert.Ffn2Kernel.main (F := Bits))) ⟨m, fun _ => 0, g⟩ (fun r => (∀ c : Dev Cert.Ffn2Kernel.nD,
      r.2.mem ((c.tc : Thread Cert.Ffn2Kernel.nD Cert.Ffn2Kernel.τ).loc Cert.Ffn2Kernel.main_arg0) = m ((c.tc : Thread Cert.Ffn2Kernel.nD Cert.Ffn2Kernel.τ).loc Cert.Ffn2Kernel.main_arg0)
      ∧ r.2.mem ((c.tc : Thread Cert.Ffn2Kernel.nD Cert.Ffn2Kernel.τ).loc Cert.Ffn2Kernel.main_arg1) = m ((c.tc : Thread Cert.Ffn2Kernel.nD Cert.Ffn2Kernel.τ).loc Cert.Ffn2Kernel.main_arg1)
      ∧ r.2.mem ((c.tc : Thread Cert.Ffn2Kernel.nD Cert.Ffn2Kernel.τ).loc Cert.Ffn2Kernel.main_arg2) = m ((c.tc : Thread Cert.Ffn2Kernel.nD Cert.Ffn2Kernel.τ).loc Cert.Ffn2Kernel.main_arg2)
      ∧ r.2.mem ((c.tc : Thread Cert.Ffn2Kernel.nD Cert.Ffn2Kernel.τ).loc Cert.Ffn2Kernel.main_arg3) = m ((c.tc : Thread Cert.Ffn2Kernel.nD Cert.Ffn2Kernel.τ).loc Cert.Ffn2Kernel.main_arg3)
      ∧ r.2.mem ((c.tc : Thread Cert.Ffn2Kernel.nD Cert.Ffn2Kernel.τ).loc Cert.Ffn2Kernel.main_arg4) = m ((c.tc : Thread Cert.Ffn2Kernel.nD Cert.Ffn2Kernel.τ).loc Cert.Ffn2Kernel.main_arg4)
      ∧ r.2.mem ((c.tc : Thread Cert.Ffn2Kernel.nD Cert.Ffn2Kernel.τ).loc Cert.Ffn2Kernel.main_arg5) = m ((c.tc : Thread Cert.Ffn2Kernel.nD Cert.Ffn2Kernel.τ).loc Cert.Ffn2Kernel.main_arg5)
      ∧ r.2.mem ((c.tc : Thread Cert.Ffn2Kernel.nD Cert.Ffn2Kernel.τ).loc Cert.Ffn2Kernel.main_arg6) = m ((c.tc : Thread Cert.Ffn2Kernel.nD Cert.Ffn2Kernel.τ).loc Cert.Ffn2Kernel.main_arg6)
      ∧ r.2.mem ((c.tc : Thread Cert.Ffn2Kernel.nD Cert.Ffn2Kernel.τ).loc Cert.Ffn2Kernel.main_arg7) = m ((c.tc : Thread Cert.Ffn2Kernel.nD Cert.Ffn2Kernel.τ).loc Cert.Ffn2Kernel.main_arg7)
      ∧ r.2.mem ((c.tc : Thread Cert.Ffn2Kernel.nD Cert.Ffn2Kernel.τ).loc Cert.Ffn2Kernel.main_arg8) = m ((c.tc : Thread Cert.Ffn2Kernel.nD Cert.Ffn2Kernel.τ).loc Cert.Ffn2Kernel.main_arg8))
      ∧ r.2.sem = fun _ => 0)

def quiescent_Ffn2KernelIdeal [hFfn2KernelIdeal : Cert.Ffn2KernelIdeal.Facts] : Prop :=
  ∀ (m : (ℓ : Loc Cert.Ffn2KernelIdeal.nD Cert.Ffn2KernelIdeal.τ Cert.Ffn2KernelIdeal.sig) → Buf (Elt Ideal) ℓ) (g : Dev Cert.Ffn2KernelIdeal.nD → PrngReg), Pre_Ffn2KernelIdeal m →
    θ_run (Cert.Ffn2KernelIdeal.defs (F := Ideal)) (onTc (τ := Cert.Ffn2KernelIdeal.τ) (Cert.Ffn2KernelIdeal.main (F := Ideal))) ⟨m, fun _ => 0, g⟩ (fun r => (∀ c : Dev Cert.Ffn2KernelIdeal.nD,
      r.2.mem ((c.tc : Thread Cert.Ffn2KernelIdeal.nD Cert.Ffn2KernelIdeal.τ).loc Cert.Ffn2KernelIdeal.main_arg0) = m ((c.tc : Thread Cert.Ffn2KernelIdeal.nD Cert.Ffn2KernelIdeal.τ).loc Cert.Ffn2KernelIdeal.main_arg0)
      ∧ r.2.mem ((c.tc : Thread Cert.Ffn2KernelIdeal.nD Cert.Ffn2KernelIdeal.τ).loc Cert.Ffn2KernelIdeal.main_arg1) = m ((c.tc : Thread Cert.Ffn2KernelIdeal.nD Cert.Ffn2KernelIdeal.τ).loc Cert.Ffn2KernelIdeal.main_arg1)
      ∧ r.2.mem ((c.tc : Thread Cert.Ffn2KernelIdeal.nD Cert.Ffn2KernelIdeal.τ).loc Cert.Ffn2KernelIdeal.main_arg2) = m ((c.tc : Thread Cert.Ffn2KernelIdeal.nD Cert.Ffn2KernelIdeal.τ).loc Cert.Ffn2KernelIdeal.main_arg2)
      ∧ r.2.mem ((c.tc : Thread Cert.Ffn2KernelIdeal.nD Cert.Ffn2KernelIdeal.τ).loc Cert.Ffn2KernelIdeal.main_arg3) = m ((c.tc : Thread Cert.Ffn2KernelIdeal.nD Cert.Ffn2KernelIdeal.τ).loc Cert.Ffn2KernelIdeal.main_arg3)
      ∧ r.2.mem ((c.tc : Thread Cert.Ffn2KernelIdeal.nD Cert.Ffn2KernelIdeal.τ).loc Cert.Ffn2KernelIdeal.main_arg4) = m ((c.tc : Thread Cert.Ffn2KernelIdeal.nD Cert.Ffn2KernelIdeal.τ).loc Cert.Ffn2KernelIdeal.main_arg4)
      ∧ r.2.mem ((c.tc : Thread Cert.Ffn2KernelIdeal.nD Cert.Ffn2KernelIdeal.τ).loc Cert.Ffn2KernelIdeal.main_arg5) = m ((c.tc : Thread Cert.Ffn2KernelIdeal.nD Cert.Ffn2KernelIdeal.τ).loc Cert.Ffn2KernelIdeal.main_arg5)
      ∧ r.2.mem ((c.tc : Thread Cert.Ffn2KernelIdeal.nD Cert.Ffn2KernelIdeal.τ).loc Cert.Ffn2KernelIdeal.main_arg6) = m ((c.tc : Thread Cert.Ffn2KernelIdeal.nD Cert.Ffn2KernelIdeal.τ).loc Cert.Ffn2KernelIdeal.main_arg6)
      ∧ r.2.mem ((c.tc : Thread Cert.Ffn2KernelIdeal.nD Cert.Ffn2KernelIdeal.τ).loc Cert.Ffn2KernelIdeal.main_arg7) = m ((c.tc : Thread Cert.Ffn2KernelIdeal.nD Cert.Ffn2KernelIdeal.τ).loc Cert.Ffn2KernelIdeal.main_arg7)
      ∧ r.2.mem ((c.tc : Thread Cert.Ffn2KernelIdeal.nD Cert.Ffn2KernelIdeal.τ).loc Cert.Ffn2KernelIdeal.main_arg8) = m ((c.tc : Thread Cert.Ffn2KernelIdeal.nD Cert.Ffn2KernelIdeal.τ).loc Cert.Ffn2KernelIdeal.main_arg8))
      ∧ r.2.sem = fun _ => 0)

def quiescent_Ffn2KernelIdeal_pre_ffn2_finite [hFfn2KernelIdeal : Cert.Ffn2KernelIdeal.Facts] [hPre_ffn2_finite : Cert.Pre_ffn2_finite.Facts] : Prop :=
  ∀ (m : (ℓ : Loc Cert.Ffn2KernelIdeal.nD Cert.Ffn2KernelIdeal.τ Cert.Ffn2KernelIdeal.sig) → Buf (Elt Ideal) ℓ) (g : Dev Cert.Ffn2KernelIdeal.nD → PrngReg), Pre_Ffn2KernelIdeal_ffn2_finite m →
    θ_run (Cert.Ffn2KernelIdeal.defs (F := Ideal)) (onTc (τ := Cert.Ffn2KernelIdeal.τ) (Cert.Ffn2KernelIdeal.main (F := Ideal))) ⟨m, fun _ => 0, g⟩ (fun r => (∀ c : Dev Cert.Ffn2KernelIdeal.nD,
      r.2.mem ((c.tc : Thread Cert.Ffn2KernelIdeal.nD Cert.Ffn2KernelIdeal.τ).loc Cert.Ffn2KernelIdeal.main_arg0) = m ((c.tc : Thread Cert.Ffn2KernelIdeal.nD Cert.Ffn2KernelIdeal.τ).loc Cert.Ffn2KernelIdeal.main_arg0)
      ∧ r.2.mem ((c.tc : Thread Cert.Ffn2KernelIdeal.nD Cert.Ffn2KernelIdeal.τ).loc Cert.Ffn2KernelIdeal.main_arg1) = m ((c.tc : Thread Cert.Ffn2KernelIdeal.nD Cert.Ffn2KernelIdeal.τ).loc Cert.Ffn2KernelIdeal.main_arg1)
      ∧ r.2.mem ((c.tc : Thread Cert.Ffn2KernelIdeal.nD Cert.Ffn2KernelIdeal.τ).loc Cert.Ffn2KernelIdeal.main_arg2) = m ((c.tc : Thread Cert.Ffn2KernelIdeal.nD Cert.Ffn2KernelIdeal.τ).loc Cert.Ffn2KernelIdeal.main_arg2)
      ∧ r.2.mem ((c.tc : Thread Cert.Ffn2KernelIdeal.nD Cert.Ffn2KernelIdeal.τ).loc Cert.Ffn2KernelIdeal.main_arg3) = m ((c.tc : Thread Cert.Ffn2KernelIdeal.nD Cert.Ffn2KernelIdeal.τ).loc Cert.Ffn2KernelIdeal.main_arg3)
      ∧ r.2.mem ((c.tc : Thread Cert.Ffn2KernelIdeal.nD Cert.Ffn2KernelIdeal.τ).loc Cert.Ffn2KernelIdeal.main_arg4) = m ((c.tc : Thread Cert.Ffn2KernelIdeal.nD Cert.Ffn2KernelIdeal.τ).loc Cert.Ffn2KernelIdeal.main_arg4)
      ∧ r.2.mem ((c.tc : Thread Cert.Ffn2KernelIdeal.nD Cert.Ffn2KernelIdeal.τ).loc Cert.Ffn2KernelIdeal.main_arg5) = m ((c.tc : Thread Cert.Ffn2KernelIdeal.nD Cert.Ffn2KernelIdeal.τ).loc Cert.Ffn2KernelIdeal.main_arg5)
      ∧ r.2.mem ((c.tc : Thread Cert.Ffn2KernelIdeal.nD Cert.Ffn2KernelIdeal.τ).loc Cert.Ffn2KernelIdeal.main_arg6) = m ((c.tc : Thread Cert.Ffn2KernelIdeal.nD Cert.Ffn2KernelIdeal.τ).loc Cert.Ffn2KernelIdeal.main_arg6)
      ∧ r.2.mem ((c.tc : Thread Cert.Ffn2KernelIdeal.nD Cert.Ffn2KernelIdeal.τ).loc Cert.Ffn2KernelIdeal.main_arg7) = m ((c.tc : Thread Cert.Ffn2KernelIdeal.nD Cert.Ffn2KernelIdeal.τ).loc Cert.Ffn2KernelIdeal.main_arg7)
      ∧ r.2.mem ((c.tc : Thread Cert.Ffn2KernelIdeal.nD Cert.Ffn2KernelIdeal.τ).loc Cert.Ffn2KernelIdeal.main_arg8) = m ((c.tc : Thread Cert.Ffn2KernelIdeal.nD Cert.Ffn2KernelIdeal.τ).loc Cert.Ffn2KernelIdeal.main_arg8))
      ∧ r.2.sem = fun _ => 0)

def quiescent_Ffn2ReferenceIdeal [hFfn2ReferenceIdeal : Cert.Ffn2ReferenceIdeal.Facts] : Prop :=
  ∀ (m : (ℓ : Loc Cert.Ffn2ReferenceIdeal.nD Cert.Ffn2ReferenceIdeal.τ Cert.Ffn2ReferenceIdeal.sig) → Buf (Elt Ideal) ℓ) (g : Dev Cert.Ffn2ReferenceIdeal.nD → PrngReg), Pre_Ffn2ReferenceIdeal m →
    θ_run (Cert.Ffn2ReferenceIdeal.defs (F := Ideal)) (onTc (τ := Cert.Ffn2ReferenceIdeal.τ) (Cert.Ffn2ReferenceIdeal.main (F := Ideal))) ⟨m, fun _ => 0, g⟩ (fun r => (∀ c : Dev Cert.Ffn2ReferenceIdeal.nD,
      r.2.mem ((c.tc : Thread Cert.Ffn2ReferenceIdeal.nD Cert.Ffn2ReferenceIdeal.τ).loc Cert.Ffn2ReferenceIdeal.main_arg0) = m ((c.tc : Thread Cert.Ffn2ReferenceIdeal.nD Cert.Ffn2ReferenceIdeal.τ).loc Cert.Ffn2ReferenceIdeal.main_arg0)
      ∧ r.2.mem ((c.tc : Thread Cert.Ffn2ReferenceIdeal.nD Cert.Ffn2ReferenceIdeal.τ).loc Cert.Ffn2ReferenceIdeal.main_arg1) = m ((c.tc : Thread Cert.Ffn2ReferenceIdeal.nD Cert.Ffn2ReferenceIdeal.τ).loc Cert.Ffn2ReferenceIdeal.main_arg1)
      ∧ r.2.mem ((c.tc : Thread Cert.Ffn2ReferenceIdeal.nD Cert.Ffn2ReferenceIdeal.τ).loc Cert.Ffn2ReferenceIdeal.main_arg2) = m ((c.tc : Thread Cert.Ffn2ReferenceIdeal.nD Cert.Ffn2ReferenceIdeal.τ).loc Cert.Ffn2ReferenceIdeal.main_arg2)
      ∧ r.2.mem ((c.tc : Thread Cert.Ffn2ReferenceIdeal.nD Cert.Ffn2ReferenceIdeal.τ).loc Cert.Ffn2ReferenceIdeal.main_arg3) = m ((c.tc : Thread Cert.Ffn2ReferenceIdeal.nD Cert.Ffn2ReferenceIdeal.τ).loc Cert.Ffn2ReferenceIdeal.main_arg3)
      ∧ r.2.mem ((c.tc : Thread Cert.Ffn2ReferenceIdeal.nD Cert.Ffn2ReferenceIdeal.τ).loc Cert.Ffn2ReferenceIdeal.main_arg4) = m ((c.tc : Thread Cert.Ffn2ReferenceIdeal.nD Cert.Ffn2ReferenceIdeal.τ).loc Cert.Ffn2ReferenceIdeal.main_arg4)
      ∧ r.2.mem ((c.tc : Thread Cert.Ffn2ReferenceIdeal.nD Cert.Ffn2ReferenceIdeal.τ).loc Cert.Ffn2ReferenceIdeal.main_arg5) = m ((c.tc : Thread Cert.Ffn2ReferenceIdeal.nD Cert.Ffn2ReferenceIdeal.τ).loc Cert.Ffn2ReferenceIdeal.main_arg5)
      ∧ r.2.mem ((c.tc : Thread Cert.Ffn2ReferenceIdeal.nD Cert.Ffn2ReferenceIdeal.τ).loc Cert.Ffn2ReferenceIdeal.main_arg6) = m ((c.tc : Thread Cert.Ffn2ReferenceIdeal.nD Cert.Ffn2ReferenceIdeal.τ).loc Cert.Ffn2ReferenceIdeal.main_arg6)
      ∧ r.2.mem ((c.tc : Thread Cert.Ffn2ReferenceIdeal.nD Cert.Ffn2ReferenceIdeal.τ).loc Cert.Ffn2ReferenceIdeal.main_arg7) = m ((c.tc : Thread Cert.Ffn2ReferenceIdeal.nD Cert.Ffn2ReferenceIdeal.τ).loc Cert.Ffn2ReferenceIdeal.main_arg7)
      ∧ r.2.mem ((c.tc : Thread Cert.Ffn2ReferenceIdeal.nD Cert.Ffn2ReferenceIdeal.τ).loc Cert.Ffn2ReferenceIdeal.main_arg8) = m ((c.tc : Thread Cert.Ffn2ReferenceIdeal.nD Cert.Ffn2ReferenceIdeal.τ).loc Cert.Ffn2ReferenceIdeal.main_arg8))
      ∧ r.2.sem = fun _ => 0)

def quiescent_Ffn2ReferenceIdeal_pre_ffn2_finite [hFfn2ReferenceIdeal : Cert.Ffn2ReferenceIdeal.Facts] [hPre_ffn2_finite : Cert.Pre_ffn2_finite.Facts] : Prop :=
  ∀ (m : (ℓ : Loc Cert.Ffn2ReferenceIdeal.nD Cert.Ffn2ReferenceIdeal.τ Cert.Ffn2ReferenceIdeal.sig) → Buf (Elt Ideal) ℓ) (g : Dev Cert.Ffn2ReferenceIdeal.nD → PrngReg), Pre_Ffn2ReferenceIdeal_ffn2_finite m →
    θ_run (Cert.Ffn2ReferenceIdeal.defs (F := Ideal)) (onTc (τ := Cert.Ffn2ReferenceIdeal.τ) (Cert.Ffn2ReferenceIdeal.main (F := Ideal))) ⟨m, fun _ => 0, g⟩ (fun r => (∀ c : Dev Cert.Ffn2ReferenceIdeal.nD,
      r.2.mem ((c.tc : Thread Cert.Ffn2ReferenceIdeal.nD Cert.Ffn2ReferenceIdeal.τ).loc Cert.Ffn2ReferenceIdeal.main_arg0) = m ((c.tc : Thread Cert.Ffn2ReferenceIdeal.nD Cert.Ffn2ReferenceIdeal.τ).loc Cert.Ffn2ReferenceIdeal.main_arg0)
      ∧ r.2.mem ((c.tc : Thread Cert.Ffn2ReferenceIdeal.nD Cert.Ffn2ReferenceIdeal.τ).loc Cert.Ffn2ReferenceIdeal.main_arg1) = m ((c.tc : Thread Cert.Ffn2ReferenceIdeal.nD Cert.Ffn2ReferenceIdeal.τ).loc Cert.Ffn2ReferenceIdeal.main_arg1)
      ∧ r.2.mem ((c.tc : Thread Cert.Ffn2ReferenceIdeal.nD Cert.Ffn2ReferenceIdeal.τ).loc Cert.Ffn2ReferenceIdeal.main_arg2) = m ((c.tc : Thread Cert.Ffn2ReferenceIdeal.nD Cert.Ffn2ReferenceIdeal.τ).loc Cert.Ffn2ReferenceIdeal.main_arg2)
      ∧ r.2.mem ((c.tc : Thread Cert.Ffn2ReferenceIdeal.nD Cert.Ffn2ReferenceIdeal.τ).loc Cert.Ffn2ReferenceIdeal.main_arg3) = m ((c.tc : Thread Cert.Ffn2ReferenceIdeal.nD Cert.Ffn2ReferenceIdeal.τ).loc Cert.Ffn2ReferenceIdeal.main_arg3)
      ∧ r.2.mem ((c.tc : Thread Cert.Ffn2ReferenceIdeal.nD Cert.Ffn2ReferenceIdeal.τ).loc Cert.Ffn2ReferenceIdeal.main_arg4) = m ((c.tc : Thread Cert.Ffn2ReferenceIdeal.nD Cert.Ffn2ReferenceIdeal.τ).loc Cert.Ffn2ReferenceIdeal.main_arg4)
      ∧ r.2.mem ((c.tc : Thread Cert.Ffn2ReferenceIdeal.nD Cert.Ffn2ReferenceIdeal.τ).loc Cert.Ffn2ReferenceIdeal.main_arg5) = m ((c.tc : Thread Cert.Ffn2ReferenceIdeal.nD Cert.Ffn2ReferenceIdeal.τ).loc Cert.Ffn2ReferenceIdeal.main_arg5)
      ∧ r.2.mem ((c.tc : Thread Cert.Ffn2ReferenceIdeal.nD Cert.Ffn2ReferenceIdeal.τ).loc Cert.Ffn2ReferenceIdeal.main_arg6) = m ((c.tc : Thread Cert.Ffn2ReferenceIdeal.nD Cert.Ffn2ReferenceIdeal.τ).loc Cert.Ffn2ReferenceIdeal.main_arg6)
      ∧ r.2.mem ((c.tc : Thread Cert.Ffn2ReferenceIdeal.nD Cert.Ffn2ReferenceIdeal.τ).loc Cert.Ffn2ReferenceIdeal.main_arg7) = m ((c.tc : Thread Cert.Ffn2ReferenceIdeal.nD Cert.Ffn2ReferenceIdeal.τ).loc Cert.Ffn2ReferenceIdeal.main_arg7)
      ∧ r.2.mem ((c.tc : Thread Cert.Ffn2ReferenceIdeal.nD Cert.Ffn2ReferenceIdeal.τ).loc Cert.Ffn2ReferenceIdeal.main_arg8) = m ((c.tc : Thread Cert.Ffn2ReferenceIdeal.nD Cert.Ffn2ReferenceIdeal.τ).loc Cert.Ffn2ReferenceIdeal.main_arg8))
      ∧ r.2.sem = fun _ => 0)

def quiescent_SsdBwdKernel [hSsdBwdKernel : Cert.SsdBwdKernel.Facts] : Prop :=
  ∀ (m : (ℓ : Loc Cert.SsdBwdKernel.nD Cert.SsdBwdKernel.τ Cert.SsdBwdKernel.sig) → Buf (Elt Bits) ℓ) (g : Dev Cert.SsdBwdKernel.nD → PrngReg), Pre_SsdBwdKernel m →
    θ_run (Cert.SsdBwdKernel.defs (F := Bits)) (onTc (τ := Cert.SsdBwdKernel.τ) (Cert.SsdBwdKernel.main (F := Bits))) ⟨m, fun _ => 0, g⟩ (fun r => (∀ c : Dev Cert.SsdBwdKernel.nD,
      r.2.mem ((c.tc : Thread Cert.SsdBwdKernel.nD Cert.SsdBwdKernel.τ).loc Cert.SsdBwdKernel.main_arg0) = m ((c.tc : Thread Cert.SsdBwdKernel.nD Cert.SsdBwdKernel.τ).loc Cert.SsdBwdKernel.main_arg0)
      ∧ r.2.mem ((c.tc : Thread Cert.SsdBwdKernel.nD Cert.SsdBwdKernel.τ).loc Cert.SsdBwdKernel.main_arg1) = m ((c.tc : Thread Cert.SsdBwdKernel.nD Cert.SsdBwdKernel.τ).loc Cert.SsdBwdKernel.main_arg1)
      ∧ r.2.mem ((c.tc : Thread Cert.SsdBwdKernel.nD Cert.SsdBwdKernel.τ).loc Cert.SsdBwdKernel.main_arg2) = m ((c.tc : Thread Cert.SsdBwdKernel.nD Cert.SsdBwdKernel.τ).loc Cert.SsdBwdKernel.main_arg2)
      ∧ r.2.mem ((c.tc : Thread Cert.SsdBwdKernel.nD Cert.SsdBwdKernel.τ).loc Cert.SsdBwdKernel.main_arg3) = m ((c.tc : Thread Cert.SsdBwdKernel.nD Cert.SsdBwdKernel.τ).loc Cert.SsdBwdKernel.main_arg3)
      ∧ r.2.mem ((c.tc : Thread Cert.SsdBwdKernel.nD Cert.SsdBwdKernel.τ).loc Cert.SsdBwdKernel.main_arg4) = m ((c.tc : Thread Cert.SsdBwdKernel.nD Cert.SsdBwdKernel.τ).loc Cert.SsdBwdKernel.main_arg4)
      ∧ r.2.mem ((c.tc : Thread Cert.SsdBwdKernel.nD Cert.SsdBwdKernel.τ).loc Cert.SsdBwdKernel.main_arg5) = m ((c.tc : Thread Cert.SsdBwdKernel.nD Cert.SsdBwdKernel.τ).loc Cert.SsdBwdKernel.main_arg5)
      ∧ r.2.mem ((c.tc : Thread Cert.SsdBwdKernel.nD Cert.SsdBwdKernel.τ).loc Cert.SsdBwdKernel.main_arg6) = m ((c.tc : Thread Cert.SsdBwdKernel.nD Cert.SsdBwdKernel.τ).loc Cert.SsdBwdKernel.main_arg6)
      ∧ r.2.mem ((c.tc : Thread Cert.SsdBwdKernel.nD Cert.SsdBwdKernel.τ).loc Cert.SsdBwdKernel.main_arg7) = m ((c.tc : Thread Cert.SsdBwdKernel.nD Cert.SsdBwdKernel.τ).loc Cert.SsdBwdKernel.main_arg7)
      ∧ r.2.mem ((c.tc : Thread Cert.SsdBwdKernel.nD Cert.SsdBwdKernel.τ).loc Cert.SsdBwdKernel.main_arg8) = m ((c.tc : Thread Cert.SsdBwdKernel.nD Cert.SsdBwdKernel.τ).loc Cert.SsdBwdKernel.main_arg8)
      ∧ r.2.mem ((c.tc : Thread Cert.SsdBwdKernel.nD Cert.SsdBwdKernel.τ).loc Cert.SsdBwdKernel.main_arg9) = m ((c.tc : Thread Cert.SsdBwdKernel.nD Cert.SsdBwdKernel.τ).loc Cert.SsdBwdKernel.main_arg9)
      ∧ r.2.mem ((c.tc : Thread Cert.SsdBwdKernel.nD Cert.SsdBwdKernel.τ).loc Cert.SsdBwdKernel.main_arg10) = m ((c.tc : Thread Cert.SsdBwdKernel.nD Cert.SsdBwdKernel.τ).loc Cert.SsdBwdKernel.main_arg10)
      ∧ r.2.mem ((c.tc : Thread Cert.SsdBwdKernel.nD Cert.SsdBwdKernel.τ).loc Cert.SsdBwdKernel.main_arg11) = m ((c.tc : Thread Cert.SsdBwdKernel.nD Cert.SsdBwdKernel.τ).loc Cert.SsdBwdKernel.main_arg11)
      ∧ r.2.mem ((c.tc : Thread Cert.SsdBwdKernel.nD Cert.SsdBwdKernel.τ).loc Cert.SsdBwdKernel.main_arg12) = m ((c.tc : Thread Cert.SsdBwdKernel.nD Cert.SsdBwdKernel.τ).loc Cert.SsdBwdKernel.main_arg12)
      ∧ r.2.mem ((c.tc : Thread Cert.SsdBwdKernel.nD Cert.SsdBwdKernel.τ).loc Cert.SsdBwdKernel.main_arg13) = m ((c.tc : Thread Cert.SsdBwdKernel.nD Cert.SsdBwdKernel.τ).loc Cert.SsdBwdKernel.main_arg13))
      ∧ r.2.sem = fun _ => 0)

def quiescent_SsdBwdKernelIdeal [hSsdBwdKernelIdeal : Cert.SsdBwdKernelIdeal.Facts] : Prop :=
  ∀ (m : (ℓ : Loc Cert.SsdBwdKernelIdeal.nD Cert.SsdBwdKernelIdeal.τ Cert.SsdBwdKernelIdeal.sig) → Buf (Elt Ideal) ℓ) (g : Dev Cert.SsdBwdKernelIdeal.nD → PrngReg), Pre_SsdBwdKernelIdeal m →
    θ_run (Cert.SsdBwdKernelIdeal.defs (F := Ideal)) (onTc (τ := Cert.SsdBwdKernelIdeal.τ) (Cert.SsdBwdKernelIdeal.main (F := Ideal))) ⟨m, fun _ => 0, g⟩ (fun r => (∀ c : Dev Cert.SsdBwdKernelIdeal.nD,
      r.2.mem ((c.tc : Thread Cert.SsdBwdKernelIdeal.nD Cert.SsdBwdKernelIdeal.τ).loc Cert.SsdBwdKernelIdeal.main_arg0) = m ((c.tc : Thread Cert.SsdBwdKernelIdeal.nD Cert.SsdBwdKernelIdeal.τ).loc Cert.SsdBwdKernelIdeal.main_arg0)
      ∧ r.2.mem ((c.tc : Thread Cert.SsdBwdKernelIdeal.nD Cert.SsdBwdKernelIdeal.τ).loc Cert.SsdBwdKernelIdeal.main_arg1) = m ((c.tc : Thread Cert.SsdBwdKernelIdeal.nD Cert.SsdBwdKernelIdeal.τ).loc Cert.SsdBwdKernelIdeal.main_arg1)
      ∧ r.2.mem ((c.tc : Thread Cert.SsdBwdKernelIdeal.nD Cert.SsdBwdKernelIdeal.τ).loc Cert.SsdBwdKernelIdeal.main_arg2) = m ((c.tc : Thread Cert.SsdBwdKernelIdeal.nD Cert.SsdBwdKernelIdeal.τ).loc Cert.SsdBwdKernelIdeal.main_arg2)
      ∧ r.2.mem ((c.tc : Thread Cert.SsdBwdKernelIdeal.nD Cert.SsdBwdKernelIdeal.τ).loc Cert.SsdBwdKernelIdeal.main_arg3) = m ((c.tc : Thread Cert.SsdBwdKernelIdeal.nD Cert.SsdBwdKernelIdeal.τ).loc Cert.SsdBwdKernelIdeal.main_arg3)
      ∧ r.2.mem ((c.tc : Thread Cert.SsdBwdKernelIdeal.nD Cert.SsdBwdKernelIdeal.τ).loc Cert.SsdBwdKernelIdeal.main_arg4) = m ((c.tc : Thread Cert.SsdBwdKernelIdeal.nD Cert.SsdBwdKernelIdeal.τ).loc Cert.SsdBwdKernelIdeal.main_arg4)
      ∧ r.2.mem ((c.tc : Thread Cert.SsdBwdKernelIdeal.nD Cert.SsdBwdKernelIdeal.τ).loc Cert.SsdBwdKernelIdeal.main_arg5) = m ((c.tc : Thread Cert.SsdBwdKernelIdeal.nD Cert.SsdBwdKernelIdeal.τ).loc Cert.SsdBwdKernelIdeal.main_arg5)
      ∧ r.2.mem ((c.tc : Thread Cert.SsdBwdKernelIdeal.nD Cert.SsdBwdKernelIdeal.τ).loc Cert.SsdBwdKernelIdeal.main_arg6) = m ((c.tc : Thread Cert.SsdBwdKernelIdeal.nD Cert.SsdBwdKernelIdeal.τ).loc Cert.SsdBwdKernelIdeal.main_arg6)
      ∧ r.2.mem ((c.tc : Thread Cert.SsdBwdKernelIdeal.nD Cert.SsdBwdKernelIdeal.τ).loc Cert.SsdBwdKernelIdeal.main_arg7) = m ((c.tc : Thread Cert.SsdBwdKernelIdeal.nD Cert.SsdBwdKernelIdeal.τ).loc Cert.SsdBwdKernelIdeal.main_arg7)
      ∧ r.2.mem ((c.tc : Thread Cert.SsdBwdKernelIdeal.nD Cert.SsdBwdKernelIdeal.τ).loc Cert.SsdBwdKernelIdeal.main_arg8) = m ((c.tc : Thread Cert.SsdBwdKernelIdeal.nD Cert.SsdBwdKernelIdeal.τ).loc Cert.SsdBwdKernelIdeal.main_arg8)
      ∧ r.2.mem ((c.tc : Thread Cert.SsdBwdKernelIdeal.nD Cert.SsdBwdKernelIdeal.τ).loc Cert.SsdBwdKernelIdeal.main_arg9) = m ((c.tc : Thread Cert.SsdBwdKernelIdeal.nD Cert.SsdBwdKernelIdeal.τ).loc Cert.SsdBwdKernelIdeal.main_arg9)
      ∧ r.2.mem ((c.tc : Thread Cert.SsdBwdKernelIdeal.nD Cert.SsdBwdKernelIdeal.τ).loc Cert.SsdBwdKernelIdeal.main_arg10) = m ((c.tc : Thread Cert.SsdBwdKernelIdeal.nD Cert.SsdBwdKernelIdeal.τ).loc Cert.SsdBwdKernelIdeal.main_arg10)
      ∧ r.2.mem ((c.tc : Thread Cert.SsdBwdKernelIdeal.nD Cert.SsdBwdKernelIdeal.τ).loc Cert.SsdBwdKernelIdeal.main_arg11) = m ((c.tc : Thread Cert.SsdBwdKernelIdeal.nD Cert.SsdBwdKernelIdeal.τ).loc Cert.SsdBwdKernelIdeal.main_arg11)
      ∧ r.2.mem ((c.tc : Thread Cert.SsdBwdKernelIdeal.nD Cert.SsdBwdKernelIdeal.τ).loc Cert.SsdBwdKernelIdeal.main_arg12) = m ((c.tc : Thread Cert.SsdBwdKernelIdeal.nD Cert.SsdBwdKernelIdeal.τ).loc Cert.SsdBwdKernelIdeal.main_arg12)
      ∧ r.2.mem ((c.tc : Thread Cert.SsdBwdKernelIdeal.nD Cert.SsdBwdKernelIdeal.τ).loc Cert.SsdBwdKernelIdeal.main_arg13) = m ((c.tc : Thread Cert.SsdBwdKernelIdeal.nD Cert.SsdBwdKernelIdeal.τ).loc Cert.SsdBwdKernelIdeal.main_arg13))
      ∧ r.2.sem = fun _ => 0)

def quiescent_TailKernel [hTailKernel : Cert.TailKernel.Facts] : Prop :=
  ∀ (m : (ℓ : Loc Cert.TailKernel.nD Cert.TailKernel.τ Cert.TailKernel.sig) → Buf (Elt Bits) ℓ) (g : Dev Cert.TailKernel.nD → PrngReg), Pre_TailKernel m →
    θ_run (Cert.TailKernel.defs (F := Bits)) (onTc (τ := Cert.TailKernel.τ) (Cert.TailKernel.main (F := Bits))) ⟨m, fun _ => 0, g⟩ (fun r => (∀ c : Dev Cert.TailKernel.nD,
      r.2.mem ((c.tc : Thread Cert.TailKernel.nD Cert.TailKernel.τ).loc Cert.TailKernel.main_arg0) = m ((c.tc : Thread Cert.TailKernel.nD Cert.TailKernel.τ).loc Cert.TailKernel.main_arg0)
      ∧ r.2.mem ((c.tc : Thread Cert.TailKernel.nD Cert.TailKernel.τ).loc Cert.TailKernel.main_arg1) = m ((c.tc : Thread Cert.TailKernel.nD Cert.TailKernel.τ).loc Cert.TailKernel.main_arg1)
      ∧ r.2.mem ((c.tc : Thread Cert.TailKernel.nD Cert.TailKernel.τ).loc Cert.TailKernel.main_arg2) = m ((c.tc : Thread Cert.TailKernel.nD Cert.TailKernel.τ).loc Cert.TailKernel.main_arg2)
      ∧ r.2.mem ((c.tc : Thread Cert.TailKernel.nD Cert.TailKernel.τ).loc Cert.TailKernel.main_arg3) = m ((c.tc : Thread Cert.TailKernel.nD Cert.TailKernel.τ).loc Cert.TailKernel.main_arg3)
      ∧ r.2.mem ((c.tc : Thread Cert.TailKernel.nD Cert.TailKernel.τ).loc Cert.TailKernel.main_arg4) = m ((c.tc : Thread Cert.TailKernel.nD Cert.TailKernel.τ).loc Cert.TailKernel.main_arg4)
      ∧ r.2.mem ((c.tc : Thread Cert.TailKernel.nD Cert.TailKernel.τ).loc Cert.TailKernel.main_arg5) = m ((c.tc : Thread Cert.TailKernel.nD Cert.TailKernel.τ).loc Cert.TailKernel.main_arg5)
      ∧ r.2.mem ((c.tc : Thread Cert.TailKernel.nD Cert.TailKernel.τ).loc Cert.TailKernel.main_arg6) = m ((c.tc : Thread Cert.TailKernel.nD Cert.TailKernel.τ).loc Cert.TailKernel.main_arg6)
      ∧ r.2.mem ((c.tc : Thread Cert.TailKernel.nD Cert.TailKernel.τ).loc Cert.TailKernel.main_arg7) = m ((c.tc : Thread Cert.TailKernel.nD Cert.TailKernel.τ).loc Cert.TailKernel.main_arg7))
      ∧ r.2.sem = fun _ => 0)

def quiescent_TailKernelIdeal [hTailKernelIdeal : Cert.TailKernelIdeal.Facts] : Prop :=
  ∀ (m : (ℓ : Loc Cert.TailKernelIdeal.nD Cert.TailKernelIdeal.τ Cert.TailKernelIdeal.sig) → Buf (Elt Ideal) ℓ) (g : Dev Cert.TailKernelIdeal.nD → PrngReg), Pre_TailKernelIdeal m →
    θ_run (Cert.TailKernelIdeal.defs (F := Ideal)) (onTc (τ := Cert.TailKernelIdeal.τ) (Cert.TailKernelIdeal.main (F := Ideal))) ⟨m, fun _ => 0, g⟩ (fun r => (∀ c : Dev Cert.TailKernelIdeal.nD,
      r.2.mem ((c.tc : Thread Cert.TailKernelIdeal.nD Cert.TailKernelIdeal.τ).loc Cert.TailKernelIdeal.main_arg0) = m ((c.tc : Thread Cert.TailKernelIdeal.nD Cert.TailKernelIdeal.τ).loc Cert.TailKernelIdeal.main_arg0)
      ∧ r.2.mem ((c.tc : Thread Cert.TailKernelIdeal.nD Cert.TailKernelIdeal.τ).loc Cert.TailKernelIdeal.main_arg1) = m ((c.tc : Thread Cert.TailKernelIdeal.nD Cert.TailKernelIdeal.τ).loc Cert.TailKernelIdeal.main_arg1)
      ∧ r.2.mem ((c.tc : Thread Cert.TailKernelIdeal.nD Cert.TailKernelIdeal.τ).loc Cert.TailKernelIdeal.main_arg2) = m ((c.tc : Thread Cert.TailKernelIdeal.nD Cert.TailKernelIdeal.τ).loc Cert.TailKernelIdeal.main_arg2)
      ∧ r.2.mem ((c.tc : Thread Cert.TailKernelIdeal.nD Cert.TailKernelIdeal.τ).loc Cert.TailKernelIdeal.main_arg3) = m ((c.tc : Thread Cert.TailKernelIdeal.nD Cert.TailKernelIdeal.τ).loc Cert.TailKernelIdeal.main_arg3)
      ∧ r.2.mem ((c.tc : Thread Cert.TailKernelIdeal.nD Cert.TailKernelIdeal.τ).loc Cert.TailKernelIdeal.main_arg4) = m ((c.tc : Thread Cert.TailKernelIdeal.nD Cert.TailKernelIdeal.τ).loc Cert.TailKernelIdeal.main_arg4)
      ∧ r.2.mem ((c.tc : Thread Cert.TailKernelIdeal.nD Cert.TailKernelIdeal.τ).loc Cert.TailKernelIdeal.main_arg5) = m ((c.tc : Thread Cert.TailKernelIdeal.nD Cert.TailKernelIdeal.τ).loc Cert.TailKernelIdeal.main_arg5)
      ∧ r.2.mem ((c.tc : Thread Cert.TailKernelIdeal.nD Cert.TailKernelIdeal.τ).loc Cert.TailKernelIdeal.main_arg6) = m ((c.tc : Thread Cert.TailKernelIdeal.nD Cert.TailKernelIdeal.τ).loc Cert.TailKernelIdeal.main_arg6)
      ∧ r.2.mem ((c.tc : Thread Cert.TailKernelIdeal.nD Cert.TailKernelIdeal.τ).loc Cert.TailKernelIdeal.main_arg7) = m ((c.tc : Thread Cert.TailKernelIdeal.nD Cert.TailKernelIdeal.τ).loc Cert.TailKernelIdeal.main_arg7))
      ∧ r.2.sem = fun _ => 0)

def quiescent_TailKernelIdeal_pre_tail_finite [hTailKernelIdeal : Cert.TailKernelIdeal.Facts] [hPre_tail_finite : Cert.Pre_tail_finite.Facts] : Prop :=
  ∀ (m : (ℓ : Loc Cert.TailKernelIdeal.nD Cert.TailKernelIdeal.τ Cert.TailKernelIdeal.sig) → Buf (Elt Ideal) ℓ) (g : Dev Cert.TailKernelIdeal.nD → PrngReg), Pre_TailKernelIdeal_tail_finite m →
    θ_run (Cert.TailKernelIdeal.defs (F := Ideal)) (onTc (τ := Cert.TailKernelIdeal.τ) (Cert.TailKernelIdeal.main (F := Ideal))) ⟨m, fun _ => 0, g⟩ (fun r => (∀ c : Dev Cert.TailKernelIdeal.nD,
      r.2.mem ((c.tc : Thread Cert.TailKernelIdeal.nD Cert.TailKernelIdeal.τ).loc Cert.TailKernelIdeal.main_arg0) = m ((c.tc : Thread Cert.TailKernelIdeal.nD Cert.TailKernelIdeal.τ).loc Cert.TailKernelIdeal.main_arg0)
      ∧ r.2.mem ((c.tc : Thread Cert.TailKernelIdeal.nD Cert.TailKernelIdeal.τ).loc Cert.TailKernelIdeal.main_arg1) = m ((c.tc : Thread Cert.TailKernelIdeal.nD Cert.TailKernelIdeal.τ).loc Cert.TailKernelIdeal.main_arg1)
      ∧ r.2.mem ((c.tc : Thread Cert.TailKernelIdeal.nD Cert.TailKernelIdeal.τ).loc Cert.TailKernelIdeal.main_arg2) = m ((c.tc : Thread Cert.TailKernelIdeal.nD Cert.TailKernelIdeal.τ).loc Cert.TailKernelIdeal.main_arg2)
      ∧ r.2.mem ((c.tc : Thread Cert.TailKernelIdeal.nD Cert.TailKernelIdeal.τ).loc Cert.TailKernelIdeal.main_arg3) = m ((c.tc : Thread Cert.TailKernelIdeal.nD Cert.TailKernelIdeal.τ).loc Cert.TailKernelIdeal.main_arg3)
      ∧ r.2.mem ((c.tc : Thread Cert.TailKernelIdeal.nD Cert.TailKernelIdeal.τ).loc Cert.TailKernelIdeal.main_arg4) = m ((c.tc : Thread Cert.TailKernelIdeal.nD Cert.TailKernelIdeal.τ).loc Cert.TailKernelIdeal.main_arg4)
      ∧ r.2.mem ((c.tc : Thread Cert.TailKernelIdeal.nD Cert.TailKernelIdeal.τ).loc Cert.TailKernelIdeal.main_arg5) = m ((c.tc : Thread Cert.TailKernelIdeal.nD Cert.TailKernelIdeal.τ).loc Cert.TailKernelIdeal.main_arg5)
      ∧ r.2.mem ((c.tc : Thread Cert.TailKernelIdeal.nD Cert.TailKernelIdeal.τ).loc Cert.TailKernelIdeal.main_arg6) = m ((c.tc : Thread Cert.TailKernelIdeal.nD Cert.TailKernelIdeal.τ).loc Cert.TailKernelIdeal.main_arg6)
      ∧ r.2.mem ((c.tc : Thread Cert.TailKernelIdeal.nD Cert.TailKernelIdeal.τ).loc Cert.TailKernelIdeal.main_arg7) = m ((c.tc : Thread Cert.TailKernelIdeal.nD Cert.TailKernelIdeal.τ).loc Cert.TailKernelIdeal.main_arg7))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7))
      ∧ r.2.sem = fun _ => 0)

def quiescent_TailReferenceIdeal_pre_tail_finite [hTailReferenceIdeal : Cert.TailReferenceIdeal.Facts] [hPre_tail_finite : Cert.Pre_tail_finite.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal_tail_finite m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7))
      ∧ r.2.sem = fun _ => 0)

def quiescent_SsdFwdKernel [hSsdFwdKernel : Cert.SsdFwdKernel.Facts] : Prop :=
  ∀ (m : (ℓ : Loc Cert.SsdFwdKernel.nD Cert.SsdFwdKernel.τ Cert.SsdFwdKernel.sig) → Buf (Elt Bits) ℓ) (g : Dev Cert.SsdFwdKernel.nD → PrngReg), Pre_SsdFwdKernel m →
    θ_run (Cert.SsdFwdKernel.defs (F := Bits)) (onTc (τ := Cert.SsdFwdKernel.τ) (Cert.SsdFwdKernel.main (F := Bits))) ⟨m, fun _ => 0, g⟩ (fun r => (∀ c : Dev Cert.SsdFwdKernel.nD,
      r.2.mem ((c.tc : Thread Cert.SsdFwdKernel.nD Cert.SsdFwdKernel.τ).loc Cert.SsdFwdKernel.main_arg0) = m ((c.tc : Thread Cert.SsdFwdKernel.nD Cert.SsdFwdKernel.τ).loc Cert.SsdFwdKernel.main_arg0)
      ∧ r.2.mem ((c.tc : Thread Cert.SsdFwdKernel.nD Cert.SsdFwdKernel.τ).loc Cert.SsdFwdKernel.main_arg1) = m ((c.tc : Thread Cert.SsdFwdKernel.nD Cert.SsdFwdKernel.τ).loc Cert.SsdFwdKernel.main_arg1)
      ∧ r.2.mem ((c.tc : Thread Cert.SsdFwdKernel.nD Cert.SsdFwdKernel.τ).loc Cert.SsdFwdKernel.main_arg2) = m ((c.tc : Thread Cert.SsdFwdKernel.nD Cert.SsdFwdKernel.τ).loc Cert.SsdFwdKernel.main_arg2)
      ∧ r.2.mem ((c.tc : Thread Cert.SsdFwdKernel.nD Cert.SsdFwdKernel.τ).loc Cert.SsdFwdKernel.main_arg3) = m ((c.tc : Thread Cert.SsdFwdKernel.nD Cert.SsdFwdKernel.τ).loc Cert.SsdFwdKernel.main_arg3)
      ∧ r.2.mem ((c.tc : Thread Cert.SsdFwdKernel.nD Cert.SsdFwdKernel.τ).loc Cert.SsdFwdKernel.main_arg4) = m ((c.tc : Thread Cert.SsdFwdKernel.nD Cert.SsdFwdKernel.τ).loc Cert.SsdFwdKernel.main_arg4)
      ∧ r.2.mem ((c.tc : Thread Cert.SsdFwdKernel.nD Cert.SsdFwdKernel.τ).loc Cert.SsdFwdKernel.main_arg5) = m ((c.tc : Thread Cert.SsdFwdKernel.nD Cert.SsdFwdKernel.τ).loc Cert.SsdFwdKernel.main_arg5)
      ∧ r.2.mem ((c.tc : Thread Cert.SsdFwdKernel.nD Cert.SsdFwdKernel.τ).loc Cert.SsdFwdKernel.main_arg6) = m ((c.tc : Thread Cert.SsdFwdKernel.nD Cert.SsdFwdKernel.τ).loc Cert.SsdFwdKernel.main_arg6)
      ∧ r.2.mem ((c.tc : Thread Cert.SsdFwdKernel.nD Cert.SsdFwdKernel.τ).loc Cert.SsdFwdKernel.main_arg7) = m ((c.tc : Thread Cert.SsdFwdKernel.nD Cert.SsdFwdKernel.τ).loc Cert.SsdFwdKernel.main_arg7)
      ∧ r.2.mem ((c.tc : Thread Cert.SsdFwdKernel.nD Cert.SsdFwdKernel.τ).loc Cert.SsdFwdKernel.main_arg8) = m ((c.tc : Thread Cert.SsdFwdKernel.nD Cert.SsdFwdKernel.τ).loc Cert.SsdFwdKernel.main_arg8))
      ∧ r.2.sem = fun _ => 0)

def quiescent_SsdFwdKernelIdeal [hSsdFwdKernelIdeal : Cert.SsdFwdKernelIdeal.Facts] : Prop :=
  ∀ (m : (ℓ : Loc Cert.SsdFwdKernelIdeal.nD Cert.SsdFwdKernelIdeal.τ Cert.SsdFwdKernelIdeal.sig) → Buf (Elt Ideal) ℓ) (g : Dev Cert.SsdFwdKernelIdeal.nD → PrngReg), Pre_SsdFwdKernelIdeal m →
    θ_run (Cert.SsdFwdKernelIdeal.defs (F := Ideal)) (onTc (τ := Cert.SsdFwdKernelIdeal.τ) (Cert.SsdFwdKernelIdeal.main (F := Ideal))) ⟨m, fun _ => 0, g⟩ (fun r => (∀ c : Dev Cert.SsdFwdKernelIdeal.nD,
      r.2.mem ((c.tc : Thread Cert.SsdFwdKernelIdeal.nD Cert.SsdFwdKernelIdeal.τ).loc Cert.SsdFwdKernelIdeal.main_arg0) = m ((c.tc : Thread Cert.SsdFwdKernelIdeal.nD Cert.SsdFwdKernelIdeal.τ).loc Cert.SsdFwdKernelIdeal.main_arg0)
      ∧ r.2.mem ((c.tc : Thread Cert.SsdFwdKernelIdeal.nD Cert.SsdFwdKernelIdeal.τ).loc Cert.SsdFwdKernelIdeal.main_arg1) = m ((c.tc : Thread Cert.SsdFwdKernelIdeal.nD Cert.SsdFwdKernelIdeal.τ).loc Cert.SsdFwdKernelIdeal.main_arg1)
      ∧ r.2.mem ((c.tc : Thread Cert.SsdFwdKernelIdeal.nD Cert.SsdFwdKernelIdeal.τ).loc Cert.SsdFwdKernelIdeal.main_arg2) = m ((c.tc : Thread Cert.SsdFwdKernelIdeal.nD Cert.SsdFwdKernelIdeal.τ).loc Cert.SsdFwdKernelIdeal.main_arg2)
      ∧ r.2.mem ((c.tc : Thread Cert.SsdFwdKernelIdeal.nD Cert.SsdFwdKernelIdeal.τ).loc Cert.SsdFwdKernelIdeal.main_arg3) = m ((c.tc : Thread Cert.SsdFwdKernelIdeal.nD Cert.SsdFwdKernelIdeal.τ).loc Cert.SsdFwdKernelIdeal.main_arg3)
      ∧ r.2.mem ((c.tc : Thread Cert.SsdFwdKernelIdeal.nD Cert.SsdFwdKernelIdeal.τ).loc Cert.SsdFwdKernelIdeal.main_arg4) = m ((c.tc : Thread Cert.SsdFwdKernelIdeal.nD Cert.SsdFwdKernelIdeal.τ).loc Cert.SsdFwdKernelIdeal.main_arg4)
      ∧ r.2.mem ((c.tc : Thread Cert.SsdFwdKernelIdeal.nD Cert.SsdFwdKernelIdeal.τ).loc Cert.SsdFwdKernelIdeal.main_arg5) = m ((c.tc : Thread Cert.SsdFwdKernelIdeal.nD Cert.SsdFwdKernelIdeal.τ).loc Cert.SsdFwdKernelIdeal.main_arg5)
      ∧ r.2.mem ((c.tc : Thread Cert.SsdFwdKernelIdeal.nD Cert.SsdFwdKernelIdeal.τ).loc Cert.SsdFwdKernelIdeal.main_arg6) = m ((c.tc : Thread Cert.SsdFwdKernelIdeal.nD Cert.SsdFwdKernelIdeal.τ).loc Cert.SsdFwdKernelIdeal.main_arg6)
      ∧ r.2.mem ((c.tc : Thread Cert.SsdFwdKernelIdeal.nD Cert.SsdFwdKernelIdeal.τ).loc Cert.SsdFwdKernelIdeal.main_arg7) = m ((c.tc : Thread Cert.SsdFwdKernelIdeal.nD Cert.SsdFwdKernelIdeal.τ).loc Cert.SsdFwdKernelIdeal.main_arg7)
      ∧ r.2.mem ((c.tc : Thread Cert.SsdFwdKernelIdeal.nD Cert.SsdFwdKernelIdeal.τ).loc Cert.SsdFwdKernelIdeal.main_arg8) = m ((c.tc : Thread Cert.SsdFwdKernelIdeal.nD Cert.SsdFwdKernelIdeal.τ).loc Cert.SsdFwdKernelIdeal.main_arg8))
      ∧ r.2.sem = fun _ => 0)

def quiescent_AdamwKernel [hAdamwKernel : Cert.AdamwKernel.Facts] : Prop :=
  ∀ (m : (ℓ : Loc Cert.AdamwKernel.nD Cert.AdamwKernel.τ Cert.AdamwKernel.sig) → Buf (Elt Bits) ℓ) (g : Dev Cert.AdamwKernel.nD → PrngReg), Pre_AdamwKernel m →
    θ_run (Cert.AdamwKernel.defs (F := Bits)) (onTc (τ := Cert.AdamwKernel.τ) (Cert.AdamwKernel.main (F := Bits))) ⟨m, fun _ => 0, g⟩ (fun r => (∀ c : Dev Cert.AdamwKernel.nD,
      r.2.mem ((c.tc : Thread Cert.AdamwKernel.nD Cert.AdamwKernel.τ).loc Cert.AdamwKernel.main_arg0) = m ((c.tc : Thread Cert.AdamwKernel.nD Cert.AdamwKernel.τ).loc Cert.AdamwKernel.main_arg0)
      ∧ r.2.mem ((c.tc : Thread Cert.AdamwKernel.nD Cert.AdamwKernel.τ).loc Cert.AdamwKernel.main_arg1) = m ((c.tc : Thread Cert.AdamwKernel.nD Cert.AdamwKernel.τ).loc Cert.AdamwKernel.main_arg1)
      ∧ r.2.mem ((c.tc : Thread Cert.AdamwKernel.nD Cert.AdamwKernel.τ).loc Cert.AdamwKernel.main_arg2) = m ((c.tc : Thread Cert.AdamwKernel.nD Cert.AdamwKernel.τ).loc Cert.AdamwKernel.main_arg2)
      ∧ r.2.mem ((c.tc : Thread Cert.AdamwKernel.nD Cert.AdamwKernel.τ).loc Cert.AdamwKernel.main_arg3) = m ((c.tc : Thread Cert.AdamwKernel.nD Cert.AdamwKernel.τ).loc Cert.AdamwKernel.main_arg3))
      ∧ r.2.sem = fun _ => 0)

def quiescent_AdamwKernelIdeal [hAdamwKernelIdeal : Cert.AdamwKernelIdeal.Facts] : Prop :=
  ∀ (m : (ℓ : Loc Cert.AdamwKernelIdeal.nD Cert.AdamwKernelIdeal.τ Cert.AdamwKernelIdeal.sig) → Buf (Elt Ideal) ℓ) (g : Dev Cert.AdamwKernelIdeal.nD → PrngReg), Pre_AdamwKernelIdeal m →
    θ_run (Cert.AdamwKernelIdeal.defs (F := Ideal)) (onTc (τ := Cert.AdamwKernelIdeal.τ) (Cert.AdamwKernelIdeal.main (F := Ideal))) ⟨m, fun _ => 0, g⟩ (fun r => (∀ c : Dev Cert.AdamwKernelIdeal.nD,
      r.2.mem ((c.tc : Thread Cert.AdamwKernelIdeal.nD Cert.AdamwKernelIdeal.τ).loc Cert.AdamwKernelIdeal.main_arg0) = m ((c.tc : Thread Cert.AdamwKernelIdeal.nD Cert.AdamwKernelIdeal.τ).loc Cert.AdamwKernelIdeal.main_arg0)
      ∧ r.2.mem ((c.tc : Thread Cert.AdamwKernelIdeal.nD Cert.AdamwKernelIdeal.τ).loc Cert.AdamwKernelIdeal.main_arg1) = m ((c.tc : Thread Cert.AdamwKernelIdeal.nD Cert.AdamwKernelIdeal.τ).loc Cert.AdamwKernelIdeal.main_arg1)
      ∧ r.2.mem ((c.tc : Thread Cert.AdamwKernelIdeal.nD Cert.AdamwKernelIdeal.τ).loc Cert.AdamwKernelIdeal.main_arg2) = m ((c.tc : Thread Cert.AdamwKernelIdeal.nD Cert.AdamwKernelIdeal.τ).loc Cert.AdamwKernelIdeal.main_arg2)
      ∧ r.2.mem ((c.tc : Thread Cert.AdamwKernelIdeal.nD Cert.AdamwKernelIdeal.τ).loc Cert.AdamwKernelIdeal.main_arg3) = m ((c.tc : Thread Cert.AdamwKernelIdeal.nD Cert.AdamwKernelIdeal.τ).loc Cert.AdamwKernelIdeal.main_arg3))
      ∧ r.2.sem = fun _ => 0)

def quiescent_AdamwReferenceIdeal [hAdamwReferenceIdeal : Cert.AdamwReferenceIdeal.Facts] : Prop :=
  ∀ (m : (ℓ : Loc Cert.AdamwReferenceIdeal.nD Cert.AdamwReferenceIdeal.τ Cert.AdamwReferenceIdeal.sig) → Buf (Elt Ideal) ℓ) (g : Dev Cert.AdamwReferenceIdeal.nD → PrngReg), Pre_AdamwReferenceIdeal m →
    θ_run (Cert.AdamwReferenceIdeal.defs (F := Ideal)) (onTc (τ := Cert.AdamwReferenceIdeal.τ) (Cert.AdamwReferenceIdeal.main (F := Ideal))) ⟨m, fun _ => 0, g⟩ (fun r => (∀ c : Dev Cert.AdamwReferenceIdeal.nD,
      r.2.mem ((c.tc : Thread Cert.AdamwReferenceIdeal.nD Cert.AdamwReferenceIdeal.τ).loc Cert.AdamwReferenceIdeal.main_arg0) = m ((c.tc : Thread Cert.AdamwReferenceIdeal.nD Cert.AdamwReferenceIdeal.τ).loc Cert.AdamwReferenceIdeal.main_arg0)
      ∧ r.2.mem ((c.tc : Thread Cert.AdamwReferenceIdeal.nD Cert.AdamwReferenceIdeal.τ).loc Cert.AdamwReferenceIdeal.main_arg1) = m ((c.tc : Thread Cert.AdamwReferenceIdeal.nD Cert.AdamwReferenceIdeal.τ).loc Cert.AdamwReferenceIdeal.main_arg1)
      ∧ r.2.mem ((c.tc : Thread Cert.AdamwReferenceIdeal.nD Cert.AdamwReferenceIdeal.τ).loc Cert.AdamwReferenceIdeal.main_arg2) = m ((c.tc : Thread Cert.AdamwReferenceIdeal.nD Cert.AdamwReferenceIdeal.τ).loc Cert.AdamwReferenceIdeal.main_arg2)
      ∧ r.2.mem ((c.tc : Thread Cert.AdamwReferenceIdeal.nD Cert.AdamwReferenceIdeal.τ).loc Cert.AdamwReferenceIdeal.main_arg3) = m ((c.tc : Thread Cert.AdamwReferenceIdeal.nD Cert.AdamwReferenceIdeal.τ).loc Cert.AdamwReferenceIdeal.main_arg3))
      ∧ r.2.sem = fun _ => 0)

def quiescent_DwKernel [hDwKernel : Cert.DwKernel.Facts] : Prop :=
  ∀ (m : (ℓ : Loc Cert.DwKernel.nD Cert.DwKernel.τ Cert.DwKernel.sig) → Buf (Elt Bits) ℓ) (g : Dev Cert.DwKernel.nD → PrngReg), Pre_DwKernel m →
    θ_run (Cert.DwKernel.defs (F := Bits)) (onTc (τ := Cert.DwKernel.τ) (Cert.DwKernel.main (F := Bits))) ⟨m, fun _ => 0, g⟩ (fun r => (∀ c : Dev Cert.DwKernel.nD,
      r.2.mem ((c.tc : Thread Cert.DwKernel.nD Cert.DwKernel.τ).loc Cert.DwKernel.main_arg0) = m ((c.tc : Thread Cert.DwKernel.nD Cert.DwKernel.τ).loc Cert.DwKernel.main_arg0)
      ∧ r.2.mem ((c.tc : Thread Cert.DwKernel.nD Cert.DwKernel.τ).loc Cert.DwKernel.main_arg1) = m ((c.tc : Thread Cert.DwKernel.nD Cert.DwKernel.τ).loc Cert.DwKernel.main_arg1))
      ∧ r.2.sem = fun _ => 0)

def quiescent_DwKernelIdeal [hDwKernelIdeal : Cert.DwKernelIdeal.Facts] : Prop :=
  ∀ (m : (ℓ : Loc Cert.DwKernelIdeal.nD Cert.DwKernelIdeal.τ Cert.DwKernelIdeal.sig) → Buf (Elt Ideal) ℓ) (g : Dev Cert.DwKernelIdeal.nD → PrngReg), Pre_DwKernelIdeal m →
    θ_run (Cert.DwKernelIdeal.defs (F := Ideal)) (onTc (τ := Cert.DwKernelIdeal.τ) (Cert.DwKernelIdeal.main (F := Ideal))) ⟨m, fun _ => 0, g⟩ (fun r => (∀ c : Dev Cert.DwKernelIdeal.nD,
      r.2.mem ((c.tc : Thread Cert.DwKernelIdeal.nD Cert.DwKernelIdeal.τ).loc Cert.DwKernelIdeal.main_arg0) = m ((c.tc : Thread Cert.DwKernelIdeal.nD Cert.DwKernelIdeal.τ).loc Cert.DwKernelIdeal.main_arg0)
      ∧ r.2.mem ((c.tc : Thread Cert.DwKernelIdeal.nD Cert.DwKernelIdeal.τ).loc Cert.DwKernelIdeal.main_arg1) = m ((c.tc : Thread Cert.DwKernelIdeal.nD Cert.DwKernelIdeal.τ).loc Cert.DwKernelIdeal.main_arg1))
      ∧ r.2.sem = fun _ => 0)

def quiescent_DwReferenceIdeal [hDwReferenceIdeal : Cert.DwReferenceIdeal.Facts] : Prop :=
  ∀ (m : (ℓ : Loc Cert.DwReferenceIdeal.nD Cert.DwReferenceIdeal.τ Cert.DwReferenceIdeal.sig) → Buf (Elt Ideal) ℓ) (g : Dev Cert.DwReferenceIdeal.nD → PrngReg), Pre_DwReferenceIdeal m →
    θ_run (Cert.DwReferenceIdeal.defs (F := Ideal)) (onTc (τ := Cert.DwReferenceIdeal.τ) (Cert.DwReferenceIdeal.main (F := Ideal))) ⟨m, fun _ => 0, g⟩ (fun r => (∀ c : Dev Cert.DwReferenceIdeal.nD,
      r.2.mem ((c.tc : Thread Cert.DwReferenceIdeal.nD Cert.DwReferenceIdeal.τ).loc Cert.DwReferenceIdeal.main_arg0) = m ((c.tc : Thread Cert.DwReferenceIdeal.nD Cert.DwReferenceIdeal.τ).loc Cert.DwReferenceIdeal.main_arg0)
      ∧ r.2.mem ((c.tc : Thread Cert.DwReferenceIdeal.nD Cert.DwReferenceIdeal.τ).loc Cert.DwReferenceIdeal.main_arg1) = m ((c.tc : Thread Cert.DwReferenceIdeal.nD Cert.DwReferenceIdeal.τ).loc Cert.DwReferenceIdeal.main_arg1))
      ∧ r.2.sem = fun _ => 0)

def preserves_Kernel_KernelIdeal : Prop :=
  True

def algebraic_KernelIdeal_ReferenceIdeal_pre_ffn_finite [hKernelIdeal : Cert.KernelIdeal.Facts] [hReferenceIdeal : Cert.ReferenceIdeal.Facts] [hPre_ffn_finite : Cert.Pre_ffn_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ffn_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v9_0)) (v5 : (c : Dev Cert.KernelIdeal.nD) → Buf (Elt Ideal) ((c.tc : Thread Cert.KernelIdeal.nD Cert.KernelIdeal.τ).loc Cert.KernelIdeal.main_v9_1)) (v6 : (c : Dev Cert.KernelIdeal.nD) → Buf (Elt Ideal) ((c.tc : Thread Cert.KernelIdeal.nD Cert.KernelIdeal.τ).loc Cert.KernelIdeal.main_v9_2)) (v7 : (c : Dev Cert.KernelIdeal.nD) → Buf (Elt Ideal) ((c.tc : Thread Cert.KernelIdeal.nD Cert.KernelIdeal.τ).loc Cert.KernelIdeal.main_v9_3)) (v8 : (c : Dev Cert.KernelIdeal.nD) → Buf (Elt Ideal) ((c.tc : Thread Cert.KernelIdeal.nD Cert.KernelIdeal.τ).loc Cert.KernelIdeal.main_v9_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_v9_0) = v4 c
          ∧ r.2.mem ((c.tc : Thread Cert.KernelIdeal.nD Cert.KernelIdeal.τ).loc Cert.KernelIdeal.main_v9_1) = v5 c
          ∧ r.2.mem ((c.tc : Thread Cert.KernelIdeal.nD Cert.KernelIdeal.τ).loc Cert.KernelIdeal.main_v9_2) = v6 c
          ∧ r.2.mem ((c.tc : Thread Cert.KernelIdeal.nD Cert.KernelIdeal.τ).loc Cert.KernelIdeal.main_v9_3) = v7 c
          ∧ r.2.mem ((c.tc : Thread Cert.KernelIdeal.nD Cert.KernelIdeal.τ).loc Cert.KernelIdeal.main_v9_4) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_v60) = v3 c
          ∧ r.2.mem ((c.tc : Thread Cert.ReferenceIdeal.nD Cert.ReferenceIdeal.τ).loc Cert.ReferenceIdeal.main_v61) = v4 c
          ∧ r.2.mem ((c.tc : Thread Cert.ReferenceIdeal.nD Cert.ReferenceIdeal.τ).loc Cert.ReferenceIdeal.main_v62) = v5 c
          ∧ r.2.mem ((c.tc : Thread Cert.ReferenceIdeal.nD Cert.ReferenceIdeal.τ).loc Cert.ReferenceIdeal.main_v63) = v6 c
          ∧ r.2.mem ((c.tc : Thread Cert.ReferenceIdeal.nD Cert.ReferenceIdeal.τ).loc Cert.ReferenceIdeal.main_v64) = v7 c
          ∧ r.2.mem ((c.tc : Thread Cert.ReferenceIdeal.nD Cert.ReferenceIdeal.τ).loc Cert.ReferenceIdeal.main_v65) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_MixKernel_MixKernelIdeal : Prop :=
  IdealRules.named_const.Statement Cert.MixKernelIdeal.κ "half_sqrt" .f32 0x3F3504F3#32 (((Real.sqrt 2)⁻¹ : ℝ) : EReal)
  ∧ IdealRules.named_const.Statement Cert.MixKernelIdeal.κ "density" .f32 0x3ECC422A#32 (((9465531 / 16777216) * (Real.sqrt 2)⁻¹ : ℝ) : EReal)

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)) →
    ∃ (v0 : (c : Dev Cert.MixKernelIdeal.nD) → Buf (Elt Ideal) ((c.tc : Thread Cert.MixKernelIdeal.nD Cert.MixKernelIdeal.τ).loc Cert.MixKernelIdeal.main_v9_0)) (v1 : (c : Dev Cert.MixKernelIdeal.nD) → Buf (Elt Ideal) ((c.tc : Thread Cert.MixKernelIdeal.nD Cert.MixKernelIdeal.τ).loc Cert.MixKernelIdeal.main_v9_1)) (v2 : (c : Dev Cert.MixKernelIdeal.nD) → Buf (Elt Ideal) ((c.tc : Thread Cert.MixKernelIdeal.nD Cert.MixKernelIdeal.τ).loc Cert.MixKernelIdeal.main_v9_2)) (v3 : (c : Dev Cert.MixKernelIdeal.nD) → Buf (Elt Ideal) ((c.tc : Thread Cert.MixKernelIdeal.nD Cert.MixKernelIdeal.τ).loc Cert.MixKernelIdeal.main_v9_3)) (v4 : (c : Dev Cert.MixKernelIdeal.nD) → Buf (Elt Ideal) ((c.tc : Thread Cert.MixKernelIdeal.nD Cert.MixKernelIdeal.τ).loc Cert.MixKernelIdeal.main_v9_4)) (v5 : (c : Dev Cert.MixKernelIdeal.nD) → Buf (Elt Ideal) ((c.tc : Thread Cert.MixKernelIdeal.nD Cert.MixKernelIdeal.τ).loc Cert.MixKernelIdeal.main_v9_5)) (v6 : (c : Dev Cert.MixKernelIdeal.nD) → Buf (Elt Ideal) ((c.tc : Thread Cert.MixKernelIdeal.nD Cert.MixKernelIdeal.τ).loc Cert.MixKernelIdeal.main_v9_6)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v9_0) = v0 c
          ∧ r.2.mem ((c.tc : Thread Cert.MixKernelIdeal.nD Cert.MixKernelIdeal.τ).loc Cert.MixKernelIdeal.main_v9_1) = v1 c
          ∧ r.2.mem ((c.tc : Thread Cert.MixKernelIdeal.nD Cert.MixKernelIdeal.τ).loc Cert.MixKernelIdeal.main_v9_2) = v2 c
          ∧ r.2.mem ((c.tc : Thread Cert.MixKernelIdeal.nD Cert.MixKernelIdeal.τ).loc Cert.MixKernelIdeal.main_v9_3) = v3 c
          ∧ r.2.mem ((c.tc : Thread Cert.MixKernelIdeal.nD Cert.MixKernelIdeal.τ).loc Cert.MixKernelIdeal.main_v9_4) = v4 c
          ∧ r.2.mem ((c.tc : Thread Cert.MixKernelIdeal.nD Cert.MixKernelIdeal.τ).loc Cert.MixKernelIdeal.main_v9_5) = v5 c
          ∧ r.2.mem ((c.tc : Thread Cert.MixKernelIdeal.nD Cert.MixKernelIdeal.τ).loc Cert.MixKernelIdeal.main_v9_6) = v6 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v100) = v0 c
          ∧ r.2.mem ((c.tc : Thread Cert.MixReferenceIdeal.nD Cert.MixReferenceIdeal.τ).loc Cert.MixReferenceIdeal.main_v101) = v1 c
          ∧ r.2.mem ((c.tc : Thread Cert.MixReferenceIdeal.nD Cert.MixReferenceIdeal.τ).loc Cert.MixReferenceIdeal.main_v102) = v2 c
          ∧ r.2.mem ((c.tc : Thread Cert.MixReferenceIdeal.nD Cert.MixReferenceIdeal.τ).loc Cert.MixReferenceIdeal.main_v103) = v3 c
          ∧ r.2.mem ((c.tc : Thread Cert.MixReferenceIdeal.nD Cert.MixReferenceIdeal.τ).loc Cert.MixReferenceIdeal.main_v104) = v4 c
          ∧ r.2.mem ((c.tc : Thread Cert.MixReferenceIdeal.nD Cert.MixReferenceIdeal.τ).loc Cert.MixReferenceIdeal.main_v105) = v5 c
          ∧ r.2.mem ((c.tc : Thread Cert.MixReferenceIdeal.nD Cert.MixReferenceIdeal.τ).loc Cert.MixReferenceIdeal.main_v106) = v6 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7))

def preserves_MixBwdKernel_MixBwdKernelIdeal : Prop :=
  True

def algebraic_MixBwdKernelIdeal_MixBwdReferenceIdeal_pre_mixb_finite [hMixBwdKernelIdeal : Cert.MixBwdKernelIdeal.Facts] [hMixBwdReferenceIdeal : Cert.MixBwdReferenceIdeal.Facts] [hPre_mixb_finite : Cert.Pre_mixb_finite.Facts] : Prop :=
  ∀ (m : (ℓ : Loc Cert.MixBwdKernelIdeal.nD Cert.MixBwdKernelIdeal.τ Cert.MixBwdKernelIdeal.sig) → Buf (Elt Ideal) ℓ) (g : Dev Cert.MixBwdKernelIdeal.nD → PrngReg)
    (m' : (ℓ : Loc Cert.MixBwdReferenceIdeal.nD Cert.MixBwdReferenceIdeal.τ Cert.MixBwdReferenceIdeal.sig) → Buf (Elt Ideal) ℓ) (g' : Dev Cert.MixBwdReferenceIdeal.nD → PrngReg), Pre_MixBwdKernelIdeal_mixb_finite m →
    (∀ c : Dev Cert.MixBwdKernelIdeal.nD,
      m' ((c.tc : Thread Cert.MixBwdReferenceIdeal.nD Cert.MixBwdReferenceIdeal.τ).loc Cert.MixBwdReferenceIdeal.main_arg0) = m ((c.tc : Thread Cert.MixBwdKernelIdeal.nD Cert.MixBwdKernelIdeal.τ).loc Cert.MixBwdKernelIdeal.main_arg0)
      ∧ m' ((c.tc : Thread Cert.MixBwdReferenceIdeal.nD Cert.MixBwdReferenceIdeal.τ).loc Cert.MixBwdReferenceIdeal.main_arg1) = m ((c.tc : Thread Cert.MixBwdKernelIdeal.nD Cert.MixBwdKernelIdeal.τ).loc Cert.MixBwdKernelIdeal.main_arg1)
      ∧ m' ((c.tc : Thread Cert.MixBwdReferenceIdeal.nD Cert.MixBwdReferenceIdeal.τ).loc Cert.MixBwdReferenceIdeal.main_arg2) = m ((c.tc : Thread Cert.MixBwdKernelIdeal.nD Cert.MixBwdKernelIdeal.τ).loc Cert.MixBwdKernelIdeal.main_arg2)
      ∧ m' ((c.tc : Thread Cert.MixBwdReferenceIdeal.nD Cert.MixBwdReferenceIdeal.τ).loc Cert.MixBwdReferenceIdeal.main_arg3) = m ((c.tc : Thread Cert.MixBwdKernelIdeal.nD Cert.MixBwdKernelIdeal.τ).loc Cert.MixBwdKernelIdeal.main_arg3)
      ∧ m' ((c.tc : Thread Cert.MixBwdReferenceIdeal.nD Cert.MixBwdReferenceIdeal.τ).loc Cert.MixBwdReferenceIdeal.main_arg4) = m ((c.tc : Thread Cert.MixBwdKernelIdeal.nD Cert.MixBwdKernelIdeal.τ).loc Cert.MixBwdKernelIdeal.main_arg4)
      ∧ m' ((c.tc : Thread Cert.MixBwdReferenceIdeal.nD Cert.MixBwdReferenceIdeal.τ).loc Cert.MixBwdReferenceIdeal.main_arg5) = m ((c.tc : Thread Cert.MixBwdKernelIdeal.nD Cert.MixBwdKernelIdeal.τ).loc Cert.MixBwdKernelIdeal.main_arg5)
      ∧ m' ((c.tc : Thread Cert.MixBwdReferenceIdeal.nD Cert.MixBwdReferenceIdeal.τ).loc Cert.MixBwdReferenceIdeal.main_arg6) = m ((c.tc : Thread Cert.MixBwdKernelIdeal.nD Cert.MixBwdKernelIdeal.τ).loc Cert.MixBwdKernelIdeal.main_arg6)
      ∧ m' ((c.tc : Thread Cert.MixBwdReferenceIdeal.nD Cert.MixBwdReferenceIdeal.τ).loc Cert.MixBwdReferenceIdeal.main_arg7) = m ((c.tc : Thread Cert.MixBwdKernelIdeal.nD Cert.MixBwdKernelIdeal.τ).loc Cert.MixBwdKernelIdeal.main_arg7)
      ∧ m' ((c.tc : Thread Cert.MixBwdReferenceIdeal.nD Cert.MixBwdReferenceIdeal.τ).loc Cert.MixBwdReferenceIdeal.main_arg8) = m ((c.tc : Thread Cert.MixBwdKernelIdeal.nD Cert.MixBwdKernelIdeal.τ).loc Cert.MixBwdKernelIdeal.main_arg8)
      ∧ m' ((c.tc : Thread Cert.MixBwdReferenceIdeal.nD Cert.MixBwdReferenceIdeal.τ).loc Cert.MixBwdReferenceIdeal.main_arg9) = m ((c.tc : Thread Cert.MixBwdKernelIdeal.nD Cert.MixBwdKernelIdeal.τ).loc Cert.MixBwdKernelIdeal.main_arg9)
      ∧ m' ((c.tc : Thread Cert.MixBwdReferenceIdeal.nD Cert.MixBwdReferenceIdeal.τ).loc Cert.MixBwdReferenceIdeal.main_arg10) = m ((c.tc : Thread Cert.MixBwdKernelIdeal.nD Cert.MixBwdKernelIdeal.τ).loc Cert.MixBwdKernelIdeal.main_arg10)) →
    ∃ (v0 : (c : Dev Cert.MixBwdKernelIdeal.nD) → Buf (Elt Ideal) ((c.tc : Thread Cert.MixBwdKernelIdeal.nD Cert.MixBwdKernelIdeal.τ).loc Cert.MixBwdKernelIdeal.main_v50_0)) (v1 : (c : Dev Cert.MixBwdKernelIdeal.nD) → Buf (Elt Ideal) ((c.tc : Thread Cert.MixBwdKernelIdeal.nD Cert.MixBwdKernelIdeal.τ).loc Cert.MixBwdKernelIdeal.main_v50_1)) (v2 : (c : Dev Cert.MixBwdKernelIdeal.nD) → Buf (Elt Ideal) ((c.tc : Thread Cert.MixBwdKernelIdeal.nD Cert.MixBwdKernelIdeal.τ).loc Cert.MixBwdKernelIdeal.main_v50_2)) (v3 : (c : Dev Cert.MixBwdKernelIdeal.nD) → Buf (Elt Ideal) ((c.tc : Thread Cert.MixBwdKernelIdeal.nD Cert.MixBwdKernelIdeal.τ).loc Cert.MixBwdKernelIdeal.main_v50_3)) (v4 : (c : Dev Cert.MixBwdKernelIdeal.nD) → Buf (Elt Ideal) ((c.tc : Thread Cert.MixBwdKernelIdeal.nD Cert.MixBwdKernelIdeal.τ).loc Cert.MixBwdKernelIdeal.main_v50_4)) (v5 : (c : Dev Cert.MixBwdKernelIdeal.nD) → Buf (Elt Ideal) ((c.tc : Thread Cert.MixBwdKernelIdeal.nD Cert.MixBwdKernelIdeal.τ).loc Cert.MixBwdKernelIdeal.main_v50_5)) (v6 : (c : Dev Cert.MixBwdKernelIdeal.nD) → Buf (Elt Ideal) ((c.tc : Thread Cert.MixBwdKernelIdeal.nD Cert.MixBwdKernelIdeal.τ).loc Cert.MixBwdKernelIdeal.main_v50_6)) (v7 : (c : Dev Cert.MixBwdKernelIdeal.nD) → Buf (Elt Ideal) ((c.tc : Thread Cert.MixBwdKernelIdeal.nD Cert.MixBwdKernelIdeal.τ).loc Cert.MixBwdKernelIdeal.main_v50_7)),
      θ_run (Cert.MixBwdKernelIdeal.defs (F := Ideal)) (onTc (τ := Cert.MixBwdKernelIdeal.τ) (Cert.MixBwdKernelIdeal.main (F := Ideal))) ⟨m, fun _ => 0, g⟩ (fun r => ∀ c : Dev Cert.MixBwdKernelIdeal.nD,
          r.2.mem ((c.tc : Thread Cert.MixBwdKernelIdeal.nD Cert.MixBwdKernelIdeal.τ).loc Cert.MixBwdKernelIdeal.main_v50_0) = v0 c
          ∧ r.2.mem ((c.tc : Thread Cert.MixBwdKernelIdeal.nD Cert.MixBwdKernelIdeal.τ).loc Cert.MixBwdKernelIdeal.main_v50_1) = v1 c
          ∧ r.2.mem ((c.tc : Thread Cert.MixBwdKernelIdeal.nD Cert.MixBwdKernelIdeal.τ).loc Cert.MixBwdKernelIdeal.main_v50_2) = v2 c
          ∧ r.2.mem ((c.tc : Thread Cert.MixBwdKernelIdeal.nD Cert.MixBwdKernelIdeal.τ).loc Cert.MixBwdKernelIdeal.main_v50_3) = v3 c
          ∧ r.2.mem ((c.tc : Thread Cert.MixBwdKernelIdeal.nD Cert.MixBwdKernelIdeal.τ).loc Cert.MixBwdKernelIdeal.main_v50_4) = v4 c
          ∧ r.2.mem ((c.tc : Thread Cert.MixBwdKernelIdeal.nD Cert.MixBwdKernelIdeal.τ).loc Cert.MixBwdKernelIdeal.main_v50_5) = v5 c
          ∧ r.2.mem ((c.tc : Thread Cert.MixBwdKernelIdeal.nD Cert.MixBwdKernelIdeal.τ).loc Cert.MixBwdKernelIdeal.main_v50_6) = v6 c
          ∧ r.2.mem ((c.tc : Thread Cert.MixBwdKernelIdeal.nD Cert.MixBwdKernelIdeal.τ).loc Cert.MixBwdKernelIdeal.main_v50_7) = v7 c
          ∧ r.2.mem ((c.tc : Thread Cert.MixBwdKernelIdeal.nD Cert.MixBwdKernelIdeal.τ).loc Cert.MixBwdKernelIdeal.main_arg0) = m ((c.tc : Thread Cert.MixBwdKernelIdeal.nD Cert.MixBwdKernelIdeal.τ).loc Cert.MixBwdKernelIdeal.main_arg0)
          ∧ r.2.mem ((c.tc : Thread Cert.MixBwdKernelIdeal.nD Cert.MixBwdKernelIdeal.τ).loc Cert.MixBwdKernelIdeal.main_arg1) = m ((c.tc : Thread Cert.MixBwdKernelIdeal.nD Cert.MixBwdKernelIdeal.τ).loc Cert.MixBwdKernelIdeal.main_arg1)
          ∧ r.2.mem ((c.tc : Thread Cert.MixBwdKernelIdeal.nD Cert.MixBwdKernelIdeal.τ).loc Cert.MixBwdKernelIdeal.main_arg2) = m ((c.tc : Thread Cert.MixBwdKernelIdeal.nD Cert.MixBwdKernelIdeal.τ).loc Cert.MixBwdKernelIdeal.main_arg2)
          ∧ r.2.mem ((c.tc : Thread Cert.MixBwdKernelIdeal.nD Cert.MixBwdKernelIdeal.τ).loc Cert.MixBwdKernelIdeal.main_arg3) = m ((c.tc : Thread Cert.MixBwdKernelIdeal.nD Cert.MixBwdKernelIdeal.τ).loc Cert.MixBwdKernelIdeal.main_arg3)
          ∧ r.2.mem ((c.tc : Thread Cert.MixBwdKernelIdeal.nD Cert.MixBwdKernelIdeal.τ).loc Cert.MixBwdKernelIdeal.main_arg4) = m ((c.tc : Thread Cert.MixBwdKernelIdeal.nD Cert.MixBwdKernelIdeal.τ).loc Cert.MixBwdKernelIdeal.main_arg4)
          ∧ r.2.mem ((c.tc : Thread Cert.MixBwdKernelIdeal.nD Cert.MixBwdKernelIdeal.τ).loc Cert.MixBwdKernelIdeal.main_arg5) = m ((c.tc : Thread Cert.MixBwdKernelIdeal.nD Cert.MixBwdKernelIdeal.τ).loc Cert.MixBwdKernelIdeal.main_arg5)
          ∧ r.2.mem ((c.tc : Thread Cert.MixBwdKernelIdeal.nD Cert.MixBwdKernelIdeal.τ).loc Cert.MixBwdKernelIdeal.main_arg6) = m ((c.tc : Thread Cert.MixBwdKernelIdeal.nD Cert.MixBwdKernelIdeal.τ).loc Cert.MixBwdKernelIdeal.main_arg6)
          ∧ r.2.mem ((c.tc : Thread Cert.MixBwdKernelIdeal.nD Cert.MixBwdKernelIdeal.τ).loc Cert.MixBwdKernelIdeal.main_arg7) = m ((c.tc : Thread Cert.MixBwdKernelIdeal.nD Cert.MixBwdKernelIdeal.τ).loc Cert.MixBwdKernelIdeal.main_arg7)
          ∧ r.2.mem ((c.tc : Thread Cert.MixBwdKernelIdeal.nD Cert.MixBwdKernelIdeal.τ).loc Cert.MixBwdKernelIdeal.main_arg8) = m ((c.tc : Thread Cert.MixBwdKernelIdeal.nD Cert.MixBwdKernelIdeal.τ).loc Cert.MixBwdKernelIdeal.main_arg8)
          ∧ r.2.mem ((c.tc : Thread Cert.MixBwdKernelIdeal.nD Cert.MixBwdKernelIdeal.τ).loc Cert.MixBwdKernelIdeal.main_arg9) = m ((c.tc : Thread Cert.MixBwdKernelIdeal.nD Cert.MixBwdKernelIdeal.τ).loc Cert.MixBwdKernelIdeal.main_arg9)
          ∧ r.2.mem ((c.tc : Thread Cert.MixBwdKernelIdeal.nD Cert.MixBwdKernelIdeal.τ).loc Cert.MixBwdKernelIdeal.main_arg10) = m ((c.tc : Thread Cert.MixBwdKernelIdeal.nD Cert.MixBwdKernelIdeal.τ).loc Cert.MixBwdKernelIdeal.main_arg10))
      ∧ θ_run (Cert.MixBwdReferenceIdeal.defs (F := Ideal)) (onTc (τ := Cert.MixBwdReferenceIdeal.τ) (Cert.MixBwdReferenceIdeal.main (F := Ideal))) ⟨m', fun _ => 0, g'⟩ (fun r => ∀ c : Dev Cert.MixBwdReferenceIdeal.nD,
          r.2.mem ((c.tc : Thread Cert.MixBwdReferenceIdeal.nD Cert.MixBwdReferenceIdeal.τ).loc Cert.MixBwdReferenceIdeal.main_v192) = v0 c
          ∧ r.2.mem ((c.tc : Thread Cert.MixBwdReferenceIdeal.nD Cert.MixBwdReferenceIdeal.τ).loc Cert.MixBwdReferenceIdeal.main_v193) = v1 c
          ∧ r.2.mem ((c.tc : Thread Cert.MixBwdReferenceIdeal.nD Cert.MixBwdReferenceIdeal.τ).loc Cert.MixBwdReferenceIdeal.main_v194) = v2 c
          ∧ r.2.mem ((c.tc : Thread Cert.MixBwdReferenceIdeal.nD Cert.MixBwdReferenceIdeal.τ).loc Cert.MixBwdReferenceIdeal.main_v195) = v3 c
          ∧ r.2.mem ((c.tc : Thread Cert.MixBwdReferenceIdeal.nD Cert.MixBwdReferenceIdeal.τ).loc Cert.MixBwdReferenceIdeal.main_v196) = v4 c
          ∧ r.2.mem ((c.tc : Thread Cert.MixBwdReferenceIdeal.nD Cert.MixBwdReferenceIdeal.τ).loc Cert.MixBwdReferenceIdeal.main_v123) = v5 c
          ∧ r.2.mem ((c.tc : Thread Cert.MixBwdReferenceIdeal.nD Cert.MixBwdReferenceIdeal.τ).loc Cert.MixBwdReferenceIdeal.main_v197) = v6 c
          ∧ r.2.mem ((c.tc : Thread Cert.MixBwdReferenceIdeal.nD Cert.MixBwdReferenceIdeal.τ).loc Cert.MixBwdReferenceIdeal.main_v198) = v7 c
          ∧ r.2.mem ((c.tc : Thread Cert.MixBwdReferenceIdeal.nD Cert.MixBwdReferenceIdeal.τ).loc Cert.MixBwdReferenceIdeal.main_arg0) = m' ((c.tc : Thread Cert.MixBwdReferenceIdeal.nD Cert.MixBwdReferenceIdeal.τ).loc Cert.MixBwdReferenceIdeal.main_arg0)
          ∧ r.2.mem ((c.tc : Thread Cert.MixBwdReferenceIdeal.nD Cert.MixBwdReferenceIdeal.τ).loc Cert.MixBwdReferenceIdeal.main_arg1) = m' ((c.tc : Thread Cert.MixBwdReferenceIdeal.nD Cert.MixBwdReferenceIdeal.τ).loc Cert.MixBwdReferenceIdeal.main_arg1)
          ∧ r.2.mem ((c.tc : Thread Cert.MixBwdReferenceIdeal.nD Cert.MixBwdReferenceIdeal.τ).loc Cert.MixBwdReferenceIdeal.main_arg2) = m' ((c.tc : Thread Cert.MixBwdReferenceIdeal.nD Cert.MixBwdReferenceIdeal.τ).loc Cert.MixBwdReferenceIdeal.main_arg2)
          ∧ r.2.mem ((c.tc : Thread Cert.MixBwdReferenceIdeal.nD Cert.MixBwdReferenceIdeal.τ).loc Cert.MixBwdReferenceIdeal.main_arg3) = m' ((c.tc : Thread Cert.MixBwdReferenceIdeal.nD Cert.MixBwdReferenceIdeal.τ).loc Cert.MixBwdReferenceIdeal.main_arg3)
          ∧ r.2.mem ((c.tc : Thread Cert.MixBwdReferenceIdeal.nD Cert.MixBwdReferenceIdeal.τ).loc Cert.MixBwdReferenceIdeal.main_arg4) = m' ((c.tc : Thread Cert.MixBwdReferenceIdeal.nD Cert.MixBwdReferenceIdeal.τ).loc Cert.MixBwdReferenceIdeal.main_arg4)
          ∧ r.2.mem ((c.tc : Thread Cert.MixBwdReferenceIdeal.nD Cert.MixBwdReferenceIdeal.τ).loc Cert.MixBwdReferenceIdeal.main_arg5) = m' ((c.tc : Thread Cert.MixBwdReferenceIdeal.nD Cert.MixBwdReferenceIdeal.τ).loc Cert.MixBwdReferenceIdeal.main_arg5)
          ∧ r.2.mem ((c.tc : Thread Cert.MixBwdReferenceIdeal.nD Cert.MixBwdReferenceIdeal.τ).loc Cert.MixBwdReferenceIdeal.main_arg6) = m' ((c.tc : Thread Cert.MixBwdReferenceIdeal.nD Cert.MixBwdReferenceIdeal.τ).loc Cert.MixBwdReferenceIdeal.main_arg6)
          ∧ r.2.mem ((c.tc : Thread Cert.MixBwdReferenceIdeal.nD Cert.MixBwdReferenceIdeal.τ).loc Cert.MixBwdReferenceIdeal.main_arg7) = m' ((c.tc : Thread Cert.MixBwdReferenceIdeal.nD Cert.MixBwdReferenceIdeal.τ).loc Cert.MixBwdReferenceIdeal.main_arg7)
          ∧ r.2.mem ((c.tc : Thread Cert.MixBwdReferenceIdeal.nD Cert.MixBwdReferenceIdeal.τ).loc Cert.MixBwdReferenceIdeal.main_arg8) = m' ((c.tc : Thread Cert.MixBwdReferenceIdeal.nD Cert.MixBwdReferenceIdeal.τ).loc Cert.MixBwdReferenceIdeal.main_arg8)
          ∧ r.2.mem ((c.tc : Thread Cert.MixBwdReferenceIdeal.nD Cert.MixBwdReferenceIdeal.τ).loc Cert.MixBwdReferenceIdeal.main_arg9) = m' ((c.tc : Thread Cert.MixBwdReferenceIdeal.nD Cert.MixBwdReferenceIdeal.τ).loc Cert.MixBwdReferenceIdeal.main_arg9)
          ∧ r.2.mem ((c.tc : Thread Cert.MixBwdReferenceIdeal.nD Cert.MixBwdReferenceIdeal.τ).loc Cert.MixBwdReferenceIdeal.main_arg10) = m' ((c.tc : Thread Cert.MixBwdReferenceIdeal.nD Cert.MixBwdReferenceIdeal.τ).loc Cert.MixBwdReferenceIdeal.main_arg10))

def preserves_Ffn2Kernel_Ffn2KernelIdeal : Prop :=
  True

def algebraic_Ffn2KernelIdeal_Ffn2ReferenceIdeal_pre_ffn2_finite [hFfn2KernelIdeal : Cert.Ffn2KernelIdeal.Facts] [hFfn2ReferenceIdeal : Cert.Ffn2ReferenceIdeal.Facts] [hPre_ffn2_finite : Cert.Pre_ffn2_finite.Facts] : Prop :=
  ∀ (m : (ℓ : Loc Cert.Ffn2KernelIdeal.nD Cert.Ffn2KernelIdeal.τ Cert.Ffn2KernelIdeal.sig) → Buf (Elt Ideal) ℓ) (g : Dev Cert.Ffn2KernelIdeal.nD → PrngReg)
    (m' : (ℓ : Loc Cert.Ffn2ReferenceIdeal.nD Cert.Ffn2ReferenceIdeal.τ Cert.Ffn2ReferenceIdeal.sig) → Buf (Elt Ideal) ℓ) (g' : Dev Cert.Ffn2ReferenceIdeal.nD → PrngReg), Pre_Ffn2KernelIdeal_ffn2_finite m →
    (∀ c : Dev Cert.Ffn2KernelIdeal.nD,
      m' ((c.tc : Thread Cert.Ffn2ReferenceIdeal.nD Cert.Ffn2ReferenceIdeal.τ).loc Cert.Ffn2ReferenceIdeal.main_arg0) = m ((c.tc : Thread Cert.Ffn2KernelIdeal.nD Cert.Ffn2KernelIdeal.τ).loc Cert.Ffn2KernelIdeal.main_arg0)
      ∧ m' ((c.tc : Thread Cert.Ffn2ReferenceIdeal.nD Cert.Ffn2ReferenceIdeal.τ).loc Cert.Ffn2ReferenceIdeal.main_arg1) = m ((c.tc : Thread Cert.Ffn2KernelIdeal.nD Cert.Ffn2KernelIdeal.τ).loc Cert.Ffn2KernelIdeal.main_arg1)
      ∧ m' ((c.tc : Thread Cert.Ffn2ReferenceIdeal.nD Cert.Ffn2ReferenceIdeal.τ).loc Cert.Ffn2ReferenceIdeal.main_arg2) = m ((c.tc : Thread Cert.Ffn2KernelIdeal.nD Cert.Ffn2KernelIdeal.τ).loc Cert.Ffn2KernelIdeal.main_arg2)
      ∧ m' ((c.tc : Thread Cert.Ffn2ReferenceIdeal.nD Cert.Ffn2ReferenceIdeal.τ).loc Cert.Ffn2ReferenceIdeal.main_arg3) = m ((c.tc : Thread Cert.Ffn2KernelIdeal.nD Cert.Ffn2KernelIdeal.τ).loc Cert.Ffn2KernelIdeal.main_arg3)
      ∧ m' ((c.tc : Thread Cert.Ffn2ReferenceIdeal.nD Cert.Ffn2ReferenceIdeal.τ).loc Cert.Ffn2ReferenceIdeal.main_arg4) = m ((c.tc : Thread Cert.Ffn2KernelIdeal.nD Cert.Ffn2KernelIdeal.τ).loc Cert.Ffn2KernelIdeal.main_arg4)
      ∧ m' ((c.tc : Thread Cert.Ffn2ReferenceIdeal.nD Cert.Ffn2ReferenceIdeal.τ).loc Cert.Ffn2ReferenceIdeal.main_arg5) = m ((c.tc : Thread Cert.Ffn2KernelIdeal.nD Cert.Ffn2KernelIdeal.τ).loc Cert.Ffn2KernelIdeal.main_arg5)
      ∧ m' ((c.tc : Thread Cert.Ffn2ReferenceIdeal.nD Cert.Ffn2ReferenceIdeal.τ).loc Cert.Ffn2ReferenceIdeal.main_arg6) = m ((c.tc : Thread Cert.Ffn2KernelIdeal.nD Cert.Ffn2KernelIdeal.τ).loc Cert.Ffn2KernelIdeal.main_arg6)
      ∧ m' ((c.tc : Thread Cert.Ffn2ReferenceIdeal.nD Cert.Ffn2ReferenceIdeal.τ).loc Cert.Ffn2ReferenceIdeal.main_arg7) = m ((c.tc : Thread Cert.Ffn2KernelIdeal.nD Cert.Ffn2KernelIdeal.τ).loc Cert.Ffn2KernelIdeal.main_arg7)
      ∧ m' ((c.tc : Thread Cert.Ffn2ReferenceIdeal.nD Cert.Ffn2ReferenceIdeal.τ).loc Cert.Ffn2ReferenceIdeal.main_arg8) = m ((c.tc : Thread Cert.Ffn2KernelIdeal.nD Cert.Ffn2KernelIdeal.τ).loc Cert.Ffn2KernelIdeal.main_arg8)) →
    ∃ (v0 : (c : Dev Cert.Ffn2KernelIdeal.nD) → Buf (Elt Ideal) ((c.tc : Thread Cert.Ffn2KernelIdeal.nD Cert.Ffn2KernelIdeal.τ).loc Cert.Ffn2KernelIdeal.main_v10_0)) (v1 : (c : Dev Cert.Ffn2KernelIdeal.nD) → Buf (Elt Ideal) ((c.tc : Thread Cert.Ffn2KernelIdeal.nD Cert.Ffn2KernelIdeal.τ).loc Cert.Ffn2KernelIdeal.main_v10_1)) (v2 : (c : Dev Cert.Ffn2KernelIdeal.nD) → Buf (Elt Ideal) ((c.tc : Thread Cert.Ffn2KernelIdeal.nD Cert.Ffn2KernelIdeal.τ).loc Cert.Ffn2KernelIdeal.main_v10_2)) (v3 : (c : Dev Cert.Ffn2KernelIdeal.nD) → Buf (Elt Ideal) ((c.tc : Thread Cert.Ffn2KernelIdeal.nD Cert.Ffn2KernelIdeal.τ).loc Cert.Ffn2KernelIdeal.main_v10_3)) (v4 : (c : Dev Cert.Ffn2KernelIdeal.nD) → Buf (Elt Ideal) ((c.tc : Thread Cert.Ffn2KernelIdeal.nD Cert.Ffn2KernelIdeal.τ).loc Cert.Ffn2KernelIdeal.main_v10_4)) (v5 : (c : Dev Cert.Ffn2KernelIdeal.nD) → Buf (Elt Ideal) ((c.tc : Thread Cert.Ffn2KernelIdeal.nD Cert.Ffn2KernelIdeal.τ).loc Cert.Ffn2KernelIdeal.main_v11_0)) (v6 : (c : Dev Cert.Ffn2KernelIdeal.nD) → Buf (Elt Ideal) ((c.tc : Thread Cert.Ffn2KernelIdeal.nD Cert.Ffn2KernelIdeal.τ).loc Cert.Ffn2KernelIdeal.main_v11_1)) (v7 : (c : Dev Cert.Ffn2KernelIdeal.nD) → Buf (Elt Ideal) ((c.tc : Thread Cert.Ffn2KernelIdeal.nD Cert.Ffn2KernelIdeal.τ).loc Cert.Ffn2KernelIdeal.main_v11_2)) (v8 : (c : Dev Cert.Ffn2KernelIdeal.nD) → Buf (Elt Ideal) ((c.tc : Thread Cert.Ffn2KernelIdeal.nD Cert.Ffn2KernelIdeal.τ).loc Cert.Ffn2KernelIdeal.main_v11_3)) (v9 : (c : Dev Cert.Ffn2KernelIdeal.nD) → Buf (Elt Ideal) ((c.tc : Thread Cert.Ffn2KernelIdeal.nD Cert.Ffn2KernelIdeal.τ).loc Cert.Ffn2KernelIdeal.main_v11_4)) (v10 : (c : Dev Cert.Ffn2KernelIdeal.nD) → Buf (Elt Ideal) ((c.tc : Thread Cert.Ffn2KernelIdeal.nD Cert.Ffn2KernelIdeal.τ).loc Cert.Ffn2KernelIdeal.main_v11_5)) (v11 : (c : Dev Cert.Ffn2KernelIdeal.nD) → Buf (Elt Ideal) ((c.tc : Thread Cert.Ffn2KernelIdeal.nD Cert.Ffn2KernelIdeal.τ).loc Cert.Ffn2KernelIdeal.main_v11_6)),
      θ_run (Cert.Ffn2KernelIdeal.defs (F := Ideal)) (onTc (τ := Cert.Ffn2KernelIdeal.τ) (Cert.Ffn2KernelIdeal.main (F := Ideal))) ⟨m, fun _ => 0, g⟩ (fun r => ∀ c : Dev Cert.Ffn2KernelIdeal.nD,
          r.2.mem ((c.tc : Thread Cert.Ffn2KernelIdeal.nD Cert.Ffn2KernelIdeal.τ).loc Cert.Ffn2KernelIdeal.main_v10_0) = v0 c
          ∧ r.2.mem ((c.tc : Thread Cert.Ffn2KernelIdeal.nD Cert.Ffn2KernelIdeal.τ).loc Cert.Ffn2KernelIdeal.main_v10_1) = v1 c
          ∧ r.2.mem ((c.tc : Thread Cert.Ffn2KernelIdeal.nD Cert.Ffn2KernelIdeal.τ).loc Cert.Ffn2KernelIdeal.main_v10_2) = v2 c
          ∧ r.2.mem ((c.tc : Thread Cert.Ffn2KernelIdeal.nD Cert.Ffn2KernelIdeal.τ).loc Cert.Ffn2KernelIdeal.main_v10_3) = v3 c
          ∧ r.2.mem ((c.tc : Thread Cert.Ffn2KernelIdeal.nD Cert.Ffn2KernelIdeal.τ).loc Cert.Ffn2KernelIdeal.main_v10_4) = v4 c
          ∧ r.2.mem ((c.tc : Thread Cert.Ffn2KernelIdeal.nD Cert.Ffn2KernelIdeal.τ).loc Cert.Ffn2KernelIdeal.main_v11_0) = v5 c
          ∧ r.2.mem ((c.tc : Thread Cert.Ffn2KernelIdeal.nD Cert.Ffn2KernelIdeal.τ).loc Cert.Ffn2KernelIdeal.main_v11_1) = v6 c
          ∧ r.2.mem ((c.tc : Thread Cert.Ffn2KernelIdeal.nD Cert.Ffn2KernelIdeal.τ).loc Cert.Ffn2KernelIdeal.main_v11_2) = v7 c
          ∧ r.2.mem ((c.tc : Thread Cert.Ffn2KernelIdeal.nD Cert.Ffn2KernelIdeal.τ).loc Cert.Ffn2KernelIdeal.main_v11_3) = v8 c
          ∧ r.2.mem ((c.tc : Thread Cert.Ffn2KernelIdeal.nD Cert.Ffn2KernelIdeal.τ).loc Cert.Ffn2KernelIdeal.main_v11_4) = v9 c
          ∧ r.2.mem ((c.tc : Thread Cert.Ffn2KernelIdeal.nD Cert.Ffn2KernelIdeal.τ).loc Cert.Ffn2KernelIdeal.main_v11_5) = v10 c
          ∧ r.2.mem ((c.tc : Thread Cert.Ffn2KernelIdeal.nD Cert.Ffn2KernelIdeal.τ).loc Cert.Ffn2KernelIdeal.main_v11_6) = v11 c
          ∧ r.2.mem ((c.tc : Thread Cert.Ffn2KernelIdeal.nD Cert.Ffn2KernelIdeal.τ).loc Cert.Ffn2KernelIdeal.main_arg0) = m ((c.tc : Thread Cert.Ffn2KernelIdeal.nD Cert.Ffn2KernelIdeal.τ).loc Cert.Ffn2KernelIdeal.main_arg0)
          ∧ r.2.mem ((c.tc : Thread Cert.Ffn2KernelIdeal.nD Cert.Ffn2KernelIdeal.τ).loc Cert.Ffn2KernelIdeal.main_arg1) = m ((c.tc : Thread Cert.Ffn2KernelIdeal.nD Cert.Ffn2KernelIdeal.τ).loc Cert.Ffn2KernelIdeal.main_arg1)
          ∧ r.2.mem ((c.tc : Thread Cert.Ffn2KernelIdeal.nD Cert.Ffn2KernelIdeal.τ).loc Cert.Ffn2KernelIdeal.main_arg2) = m ((c.tc : Thread Cert.Ffn2KernelIdeal.nD Cert.Ffn2KernelIdeal.τ).loc Cert.Ffn2KernelIdeal.main_arg2)
          ∧ r.2.mem ((c.tc : Thread Cert.Ffn2KernelIdeal.nD Cert.Ffn2KernelIdeal.τ).loc Cert.Ffn2KernelIdeal.main_arg3) = m ((c.tc : Thread Cert.Ffn2KernelIdeal.nD Cert.Ffn2KernelIdeal.τ).loc Cert.Ffn2KernelIdeal.main_arg3)
          ∧ r.2.mem ((c.tc : Thread Cert.Ffn2KernelIdeal.nD Cert.Ffn2KernelIdeal.τ).loc Cert.Ffn2KernelIdeal.main_arg4) = m ((c.tc : Thread Cert.Ffn2KernelIdeal.nD Cert.Ffn2KernelIdeal.τ).loc Cert.Ffn2KernelIdeal.main_arg4)
          ∧ r.2.mem ((c.tc : Thread Cert.Ffn2KernelIdeal.nD Cert.Ffn2KernelIdeal.τ).loc Cert.Ffn2KernelIdeal.main_arg5) = m ((c.tc : Thread Cert.Ffn2KernelIdeal.nD Cert.Ffn2KernelIdeal.τ).loc Cert.Ffn2KernelIdeal.main_arg5)
          ∧ r.2.mem ((c.tc : Thread Cert.Ffn2KernelIdeal.nD Cert.Ffn2KernelIdeal.τ).loc Cert.Ffn2KernelIdeal.main_arg6) = m ((c.tc : Thread Cert.Ffn2KernelIdeal.nD Cert.Ffn2KernelIdeal.τ).loc Cert.Ffn2KernelIdeal.main_arg6)
          ∧ r.2.mem ((c.tc : Thread Cert.Ffn2KernelIdeal.nD Cert.Ffn2KernelIdeal.τ).loc Cert.Ffn2KernelIdeal.main_arg7) = m ((c.tc : Thread Cert.Ffn2KernelIdeal.nD Cert.Ffn2KernelIdeal.τ).loc Cert.Ffn2KernelIdeal.main_arg7)
          ∧ r.2.mem ((c.tc : Thread Cert.Ffn2KernelIdeal.nD Cert.Ffn2KernelIdeal.τ).loc Cert.Ffn2KernelIdeal.main_arg8) = m ((c.tc : Thread Cert.Ffn2KernelIdeal.nD Cert.Ffn2KernelIdeal.τ).loc Cert.Ffn2KernelIdeal.main_arg8))
      ∧ θ_run (Cert.Ffn2ReferenceIdeal.defs (F := Ideal)) (onTc (τ := Cert.Ffn2ReferenceIdeal.τ) (Cert.Ffn2ReferenceIdeal.main (F := Ideal))) ⟨m', fun _ => 0, g'⟩ (fun r => ∀ c : Dev Cert.Ffn2ReferenceIdeal.nD,
          r.2.mem ((c.tc : Thread Cert.Ffn2ReferenceIdeal.nD Cert.Ffn2ReferenceIdeal.τ).loc Cert.Ffn2ReferenceIdeal.main_v5) = v0 c
          ∧ r.2.mem ((c.tc : Thread Cert.Ffn2ReferenceIdeal.nD Cert.Ffn2ReferenceIdeal.τ).loc Cert.Ffn2ReferenceIdeal.main_v33) = v1 c
          ∧ r.2.mem ((c.tc : Thread Cert.Ffn2ReferenceIdeal.nD Cert.Ffn2ReferenceIdeal.τ).loc Cert.Ffn2ReferenceIdeal.main_v69) = v2 c
          ∧ r.2.mem ((c.tc : Thread Cert.Ffn2ReferenceIdeal.nD Cert.Ffn2ReferenceIdeal.τ).loc Cert.Ffn2ReferenceIdeal.main_v70) = v3 c
          ∧ r.2.mem ((c.tc : Thread Cert.Ffn2ReferenceIdeal.nD Cert.Ffn2ReferenceIdeal.τ).loc Cert.Ffn2ReferenceIdeal.main_v71) = v4 c
          ∧ r.2.mem ((c.tc : Thread Cert.Ffn2ReferenceIdeal.nD Cert.Ffn2ReferenceIdeal.τ).loc Cert.Ffn2ReferenceIdeal.main_v65) = v5 c
          ∧ r.2.mem ((c.tc : Thread Cert.Ffn2ReferenceIdeal.nD Cert.Ffn2ReferenceIdeal.τ).loc Cert.Ffn2ReferenceIdeal.main_v72) = v6 c
          ∧ r.2.mem ((c.tc : Thread Cert.Ffn2ReferenceIdeal.nD Cert.Ffn2ReferenceIdeal.τ).loc Cert.Ffn2ReferenceIdeal.main_v73) = v7 c
          ∧ r.2.mem ((c.tc : Thread Cert.Ffn2ReferenceIdeal.nD Cert.Ffn2ReferenceIdeal.τ).loc Cert.Ffn2ReferenceIdeal.main_v74) = v8 c
          ∧ r.2.mem ((c.tc : Thread Cert.Ffn2ReferenceIdeal.nD Cert.Ffn2ReferenceIdeal.τ).loc Cert.Ffn2ReferenceIdeal.main_v75) = v9 c
          ∧ r.2.mem ((c.tc : Thread Cert.Ffn2ReferenceIdeal.nD Cert.Ffn2ReferenceIdeal.τ).loc Cert.Ffn2ReferenceIdeal.main_v76) = v10 c
          ∧ r.2.mem ((c.tc : Thread Cert.Ffn2ReferenceIdeal.nD Cert.Ffn2ReferenceIdeal.τ).loc Cert.Ffn2ReferenceIdeal.main_v77) = v11 c
          ∧ r.2.mem ((c.tc : Thread Cert.Ffn2ReferenceIdeal.nD Cert.Ffn2ReferenceIdeal.τ).loc Cert.Ffn2ReferenceIdeal.main_arg0) = m' ((c.tc : Thread Cert.Ffn2ReferenceIdeal.nD Cert.Ffn2ReferenceIdeal.τ).loc Cert.Ffn2ReferenceIdeal.main_arg0)
          ∧ r.2.mem ((c.tc : Thread Cert.Ffn2ReferenceIdeal.nD Cert.Ffn2ReferenceIdeal.τ).loc Cert.Ffn2ReferenceIdeal.main_arg1) = m' ((c.tc : Thread Cert.Ffn2ReferenceIdeal.nD Cert.Ffn2ReferenceIdeal.τ).loc Cert.Ffn2ReferenceIdeal.main_arg1)
          ∧ r.2.mem ((c.tc : Thread Cert.Ffn2ReferenceIdeal.nD Cert.Ffn2ReferenceIdeal.τ).loc Cert.Ffn2ReferenceIdeal.main_arg2) = m' ((c.tc : Thread Cert.Ffn2ReferenceIdeal.nD Cert.Ffn2ReferenceIdeal.τ).loc Cert.Ffn2ReferenceIdeal.main_arg2)
          ∧ r.2.mem ((c.tc : Thread Cert.Ffn2ReferenceIdeal.nD Cert.Ffn2ReferenceIdeal.τ).loc Cert.Ffn2ReferenceIdeal.main_arg3) = m' ((c.tc : Thread Cert.Ffn2ReferenceIdeal.nD Cert.Ffn2ReferenceIdeal.τ).loc Cert.Ffn2ReferenceIdeal.main_arg3)
          ∧ r.2.mem ((c.tc : Thread Cert.Ffn2ReferenceIdeal.nD Cert.Ffn2ReferenceIdeal.τ).loc Cert.Ffn2ReferenceIdeal.main_arg4) = m' ((c.tc : Thread Cert.Ffn2ReferenceIdeal.nD Cert.Ffn2ReferenceIdeal.τ).loc Cert.Ffn2ReferenceIdeal.main_arg4)
          ∧ r.2.mem ((c.tc : Thread Cert.Ffn2ReferenceIdeal.nD Cert.Ffn2ReferenceIdeal.τ).loc Cert.Ffn2ReferenceIdeal.main_arg5) = m' ((c.tc : Thread Cert.Ffn2ReferenceIdeal.nD Cert.Ffn2ReferenceIdeal.τ).loc Cert.Ffn2ReferenceIdeal.main_arg5)
          ∧ r.2.mem ((c.tc : Thread Cert.Ffn2ReferenceIdeal.nD Cert.Ffn2ReferenceIdeal.τ).loc Cert.Ffn2ReferenceIdeal.main_arg6) = m' ((c.tc : Thread Cert.Ffn2ReferenceIdeal.nD Cert.Ffn2ReferenceIdeal.τ).loc Cert.Ffn2ReferenceIdeal.main_arg6)
          ∧ r.2.mem ((c.tc : Thread Cert.Ffn2ReferenceIdeal.nD Cert.Ffn2ReferenceIdeal.τ).loc Cert.Ffn2ReferenceIdeal.main_arg7) = m' ((c.tc : Thread Cert.Ffn2ReferenceIdeal.nD Cert.Ffn2ReferenceIdeal.τ).loc Cert.Ffn2ReferenceIdeal.main_arg7)
          ∧ r.2.mem ((c.tc : Thread Cert.Ffn2ReferenceIdeal.nD Cert.Ffn2ReferenceIdeal.τ).loc Cert.Ffn2ReferenceIdeal.main_arg8) = m' ((c.tc : Thread Cert.Ffn2ReferenceIdeal.nD Cert.Ffn2ReferenceIdeal.τ).loc Cert.Ffn2ReferenceIdeal.main_arg8))

def preserves_SsdBwdKernel_SsdBwdKernelIdeal : Prop :=
  True

def preserves_TailKernel_TailKernelIdeal : Prop :=
  True

def algebraic_TailKernelIdeal_TailReferenceIdeal_pre_tail_finite [hTailKernelIdeal : Cert.TailKernelIdeal.Facts] [hTailReferenceIdeal : Cert.TailReferenceIdeal.Facts] [hPre_tail_finite : Cert.Pre_tail_finite.Facts] : Prop :=
  ∀ (m : (ℓ : Loc Cert.TailKernelIdeal.nD Cert.TailKernelIdeal.τ Cert.TailKernelIdeal.sig) → Buf (Elt Ideal) ℓ) (g : Dev Cert.TailKernelIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailKernelIdeal_tail_finite m →
    (∀ c : Dev Cert.TailKernelIdeal.nD,
      m' ((c.tc : Thread Cert.TailReferenceIdeal.nD Cert.TailReferenceIdeal.τ).loc Cert.TailReferenceIdeal.main_arg0) = m ((c.tc : Thread Cert.TailKernelIdeal.nD Cert.TailKernelIdeal.τ).loc Cert.TailKernelIdeal.main_arg0)
      ∧ m' ((c.tc : Thread Cert.TailReferenceIdeal.nD Cert.TailReferenceIdeal.τ).loc Cert.TailReferenceIdeal.main_arg1) = m ((c.tc : Thread Cert.TailKernelIdeal.nD Cert.TailKernelIdeal.τ).loc Cert.TailKernelIdeal.main_arg1)
      ∧ m' ((c.tc : Thread Cert.TailReferenceIdeal.nD Cert.TailReferenceIdeal.τ).loc Cert.TailReferenceIdeal.main_arg2) = m ((c.tc : Thread Cert.TailKernelIdeal.nD Cert.TailKernelIdeal.τ).loc Cert.TailKernelIdeal.main_arg2)
      ∧ m' ((c.tc : Thread Cert.TailReferenceIdeal.nD Cert.TailReferenceIdeal.τ).loc Cert.TailReferenceIdeal.main_arg3) = m ((c.tc : Thread Cert.TailKernelIdeal.nD Cert.TailKernelIdeal.τ).loc Cert.TailKernelIdeal.main_arg3)
      ∧ m' ((c.tc : Thread Cert.TailReferenceIdeal.nD Cert.TailReferenceIdeal.τ).loc Cert.TailReferenceIdeal.main_arg4) = m ((c.tc : Thread Cert.TailKernelIdeal.nD Cert.TailKernelIdeal.τ).loc Cert.TailKernelIdeal.main_arg4)
      ∧ m' ((c.tc : Thread Cert.TailReferenceIdeal.nD Cert.TailReferenceIdeal.τ).loc Cert.TailReferenceIdeal.main_arg5) = m ((c.tc : Thread Cert.TailKernelIdeal.nD Cert.TailKernelIdeal.τ).loc Cert.TailKernelIdeal.main_arg5)
      ∧ m' ((c.tc : Thread Cert.TailReferenceIdeal.nD Cert.TailReferenceIdeal.τ).loc Cert.TailReferenceIdeal.main_arg6) = m ((c.tc : Thread Cert.TailKernelIdeal.nD Cert.TailKernelIdeal.τ).loc Cert.TailKernelIdeal.main_arg6)
      ∧ m' ((c.tc : Thread Cert.TailReferenceIdeal.nD Cert.TailReferenceIdeal.τ).loc Cert.TailReferenceIdeal.main_arg7) = m ((c.tc : Thread Cert.TailKernelIdeal.nD Cert.TailKernelIdeal.τ).loc Cert.TailKernelIdeal.main_arg7)) →
    ∃ (v0 : (c : Dev Cert.TailKernelIdeal.nD) → Buf (Elt Ideal) ((c.tc : Thread Cert.TailKernelIdeal.nD Cert.TailKernelIdeal.τ).loc Cert.TailKernelIdeal.main_v14_0)) (v1 : (c : Dev Cert.TailKernelIdeal.nD) → Buf (Elt Ideal) ((c.tc : Thread Cert.TailKernelIdeal.nD Cert.TailKernelIdeal.τ).loc Cert.TailKernelIdeal.main_v14_1)) (v2 : (c : Dev Cert.TailKernelIdeal.nD) → Buf (Elt Ideal) ((c.tc : Thread Cert.TailKernelIdeal.nD Cert.TailKernelIdeal.τ).loc Cert.TailKernelIdeal.main_v14_2)) (v3 : (c : Dev Cert.TailKernelIdeal.nD) → Buf (Elt Ideal) ((c.tc : Thread Cert.TailKernelIdeal.nD Cert.TailKernelIdeal.τ).loc Cert.TailKernelIdeal.main_v14_3)) (v4 : (c : Dev Cert.TailKernelIdeal.nD) → Buf (Elt Ideal) ((c.tc : Thread Cert.TailKernelIdeal.nD Cert.TailKernelIdeal.τ).loc Cert.TailKernelIdeal.main_v14_4)) (v5 : (c : Dev Cert.TailKernelIdeal.nD) → Buf (Elt Ideal) ((c.tc : Thread Cert.TailKernelIdeal.nD Cert.TailKernelIdeal.τ).loc Cert.TailKernelIdeal.main_v14_5)) (v6 : (c : Dev Cert.TailKernelIdeal.nD) → Buf (Elt Ideal) ((c.tc : Thread Cert.TailKernelIdeal.nD Cert.TailKernelIdeal.τ).loc Cert.TailKernelIdeal.main_v14_6)),
      θ_run (Cert.TailKernelIdeal.defs (F := Ideal)) (onTc (τ := Cert.TailKernelIdeal.τ) (Cert.TailKernelIdeal.main (F := Ideal))) ⟨m, fun _ => 0, g⟩ (fun r => ∀ c : Dev Cert.TailKernelIdeal.nD,
          r.2.mem ((c.tc : Thread Cert.TailKernelIdeal.nD Cert.TailKernelIdeal.τ).loc Cert.TailKernelIdeal.main_v14_0) = v0 c
          ∧ r.2.mem ((c.tc : Thread Cert.TailKernelIdeal.nD Cert.TailKernelIdeal.τ).loc Cert.TailKernelIdeal.main_v14_1) = v1 c
          ∧ r.2.mem ((c.tc : Thread Cert.TailKernelIdeal.nD Cert.TailKernelIdeal.τ).loc Cert.TailKernelIdeal.main_v14_2) = v2 c
          ∧ r.2.mem ((c.tc : Thread Cert.TailKernelIdeal.nD Cert.TailKernelIdeal.τ).loc Cert.TailKernelIdeal.main_v14_3) = v3 c
          ∧ r.2.mem ((c.tc : Thread Cert.TailKernelIdeal.nD Cert.TailKernelIdeal.τ).loc Cert.TailKernelIdeal.main_v14_4) = v4 c
          ∧ r.2.mem ((c.tc : Thread Cert.TailKernelIdeal.nD Cert.TailKernelIdeal.τ).loc Cert.TailKernelIdeal.main_v14_5) = v5 c
          ∧ r.2.mem ((c.tc : Thread Cert.TailKernelIdeal.nD Cert.TailKernelIdeal.τ).loc Cert.TailKernelIdeal.main_v14_6) = v6 c
          ∧ r.2.mem ((c.tc : Thread Cert.TailKernelIdeal.nD Cert.TailKernelIdeal.τ).loc Cert.TailKernelIdeal.main_arg0) = m ((c.tc : Thread Cert.TailKernelIdeal.nD Cert.TailKernelIdeal.τ).loc Cert.TailKernelIdeal.main_arg0)
          ∧ r.2.mem ((c.tc : Thread Cert.TailKernelIdeal.nD Cert.TailKernelIdeal.τ).loc Cert.TailKernelIdeal.main_arg1) = m ((c.tc : Thread Cert.TailKernelIdeal.nD Cert.TailKernelIdeal.τ).loc Cert.TailKernelIdeal.main_arg1)
          ∧ r.2.mem ((c.tc : Thread Cert.TailKernelIdeal.nD Cert.TailKernelIdeal.τ).loc Cert.TailKernelIdeal.main_arg2) = m ((c.tc : Thread Cert.TailKernelIdeal.nD Cert.TailKernelIdeal.τ).loc Cert.TailKernelIdeal.main_arg2)
          ∧ r.2.mem ((c.tc : Thread Cert.TailKernelIdeal.nD Cert.TailKernelIdeal.τ).loc Cert.TailKernelIdeal.main_arg3) = m ((c.tc : Thread Cert.TailKernelIdeal.nD Cert.TailKernelIdeal.τ).loc Cert.TailKernelIdeal.main_arg3)
          ∧ r.2.mem ((c.tc : Thread Cert.TailKernelIdeal.nD Cert.TailKernelIdeal.τ).loc Cert.TailKernelIdeal.main_arg4) = m ((c.tc : Thread Cert.TailKernelIdeal.nD Cert.TailKernelIdeal.τ).loc Cert.TailKernelIdeal.main_arg4)
          ∧ r.2.mem ((c.tc : Thread Cert.TailKernelIdeal.nD Cert.TailKernelIdeal.τ).loc Cert.TailKernelIdeal.main_arg5) = m ((c.tc : Thread Cert.TailKernelIdeal.nD Cert.TailKernelIdeal.τ).loc Cert.TailKernelIdeal.main_arg5)
          ∧ r.2.mem ((c.tc : Thread Cert.TailKernelIdeal.nD Cert.TailKernelIdeal.τ).loc Cert.TailKernelIdeal.main_arg6) = m ((c.tc : Thread Cert.TailKernelIdeal.nD Cert.TailKernelIdeal.τ).loc Cert.TailKernelIdeal.main_arg6)
          ∧ r.2.mem ((c.tc : Thread Cert.TailKernelIdeal.nD Cert.TailKernelIdeal.τ).loc Cert.TailKernelIdeal.main_arg7) = m ((c.tc : Thread Cert.TailKernelIdeal.nD Cert.TailKernelIdeal.τ).loc Cert.TailKernelIdeal.main_arg7))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v118) = v0 c
          ∧ r.2.mem ((c.tc : Thread Cert.TailReferenceIdeal.nD Cert.TailReferenceIdeal.τ).loc Cert.TailReferenceIdeal.main_v119) = v1 c
          ∧ r.2.mem ((c.tc : Thread Cert.TailReferenceIdeal.nD Cert.TailReferenceIdeal.τ).loc Cert.TailReferenceIdeal.main_v120) = v2 c
          ∧ r.2.mem ((c.tc : Thread Cert.TailReferenceIdeal.nD Cert.TailReferenceIdeal.τ).loc Cert.TailReferenceIdeal.main_v96) = v3 c
          ∧ r.2.mem ((c.tc : Thread Cert.TailReferenceIdeal.nD Cert.TailReferenceIdeal.τ).loc Cert.TailReferenceIdeal.main_v121) = v4 c
          ∧ r.2.mem ((c.tc : Thread Cert.TailReferenceIdeal.nD Cert.TailReferenceIdeal.τ).loc Cert.TailReferenceIdeal.main_v130) = v5 c
          ∧ r.2.mem ((c.tc : Thread Cert.TailReferenceIdeal.nD Cert.TailReferenceIdeal.τ).loc Cert.TailReferenceIdeal.main_v131) = v6 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7))

def preserves_SsdFwdKernel_SsdFwdKernelIdeal : Prop :=
  True

def preserves_AdamwKernel_AdamwKernelIdeal : Prop :=
  True

def algebraic_AdamwKernelIdeal_AdamwReferenceIdeal [hAdamwKernelIdeal : Cert.AdamwKernelIdeal.Facts] [hAdamwReferenceIdeal : Cert.AdamwReferenceIdeal.Facts] : Prop :=
  ∀ (m : (ℓ : Loc Cert.AdamwKernelIdeal.nD Cert.AdamwKernelIdeal.τ Cert.AdamwKernelIdeal.sig) → Buf (Elt Ideal) ℓ) (g : Dev Cert.AdamwKernelIdeal.nD → PrngReg)
    (m' : (ℓ : Loc Cert.AdamwReferenceIdeal.nD Cert.AdamwReferenceIdeal.τ Cert.AdamwReferenceIdeal.sig) → Buf (Elt Ideal) ℓ) (g' : Dev Cert.AdamwReferenceIdeal.nD → PrngReg), Pre_AdamwKernelIdeal m →
    (∀ c : Dev Cert.AdamwKernelIdeal.nD,
      m' ((c.tc : Thread Cert.AdamwReferenceIdeal.nD Cert.AdamwReferenceIdeal.τ).loc Cert.AdamwReferenceIdeal.main_arg0) = m ((c.tc : Thread Cert.AdamwKernelIdeal.nD Cert.AdamwKernelIdeal.τ).loc Cert.AdamwKernelIdeal.main_arg0)
      ∧ m' ((c.tc : Thread Cert.AdamwReferenceIdeal.nD Cert.AdamwReferenceIdeal.τ).loc Cert.AdamwReferenceIdeal.main_arg1) = m ((c.tc : Thread Cert.AdamwKernelIdeal.nD Cert.AdamwKernelIdeal.τ).loc Cert.AdamwKernelIdeal.main_arg1)
      ∧ m' ((c.tc : Thread Cert.AdamwReferenceIdeal.nD Cert.AdamwReferenceIdeal.τ).loc Cert.AdamwReferenceIdeal.main_arg2) = m ((c.tc : Thread Cert.AdamwKernelIdeal.nD Cert.AdamwKernelIdeal.τ).loc Cert.AdamwKernelIdeal.main_arg2)
      ∧ m' ((c.tc : Thread Cert.AdamwReferenceIdeal.nD Cert.AdamwReferenceIdeal.τ).loc Cert.AdamwReferenceIdeal.main_arg3) = m ((c.tc : Thread Cert.AdamwKernelIdeal.nD Cert.AdamwKernelIdeal.τ).loc Cert.AdamwKernelIdeal.main_arg3)) →
    ∃ (v0 : (c : Dev Cert.AdamwKernelIdeal.nD) → Buf (Elt Ideal) ((c.tc : Thread Cert.AdamwKernelIdeal.nD Cert.AdamwKernelIdeal.τ).loc Cert.AdamwKernelIdeal.main_v8_0)) (v1 : (c : Dev Cert.AdamwKernelIdeal.nD) → Buf (Elt Ideal) ((c.tc : Thread Cert.AdamwKernelIdeal.nD Cert.AdamwKernelIdeal.τ).loc Cert.AdamwKernelIdeal.main_v8_1)) (v2 : (c : Dev Cert.AdamwKernelIdeal.nD) → Buf (Elt Ideal) ((c.tc : Thread Cert.AdamwKernelIdeal.nD Cert.AdamwKernelIdeal.τ).loc Cert.AdamwKernelIdeal.main_v8_2)),
      θ_run (Cert.AdamwKernelIdeal.defs (F := Ideal)) (onTc (τ := Cert.AdamwKernelIdeal.τ) (Cert.AdamwKernelIdeal.main (F := Ideal))) ⟨m, fun _ => 0, g⟩ (fun r => ∀ c : Dev Cert.AdamwKernelIdeal.nD,
          r.2.mem ((c.tc : Thread Cert.AdamwKernelIdeal.nD Cert.AdamwKernelIdeal.τ).loc Cert.AdamwKernelIdeal.main_v8_0) = v0 c
          ∧ r.2.mem ((c.tc : Thread Cert.AdamwKernelIdeal.nD Cert.AdamwKernelIdeal.τ).loc Cert.AdamwKernelIdeal.main_v8_1) = v1 c
          ∧ r.2.mem ((c.tc : Thread Cert.AdamwKernelIdeal.nD Cert.AdamwKernelIdeal.τ).loc Cert.AdamwKernelIdeal.main_v8_2) = v2 c
          ∧ r.2.mem ((c.tc : Thread Cert.AdamwKernelIdeal.nD Cert.AdamwKernelIdeal.τ).loc Cert.AdamwKernelIdeal.main_arg0) = m ((c.tc : Thread Cert.AdamwKernelIdeal.nD Cert.AdamwKernelIdeal.τ).loc Cert.AdamwKernelIdeal.main_arg0)
          ∧ r.2.mem ((c.tc : Thread Cert.AdamwKernelIdeal.nD Cert.AdamwKernelIdeal.τ).loc Cert.AdamwKernelIdeal.main_arg1) = m ((c.tc : Thread Cert.AdamwKernelIdeal.nD Cert.AdamwKernelIdeal.τ).loc Cert.AdamwKernelIdeal.main_arg1)
          ∧ r.2.mem ((c.tc : Thread Cert.AdamwKernelIdeal.nD Cert.AdamwKernelIdeal.τ).loc Cert.AdamwKernelIdeal.main_arg2) = m ((c.tc : Thread Cert.AdamwKernelIdeal.nD Cert.AdamwKernelIdeal.τ).loc Cert.AdamwKernelIdeal.main_arg2)
          ∧ r.2.mem ((c.tc : Thread Cert.AdamwKernelIdeal.nD Cert.AdamwKernelIdeal.τ).loc Cert.AdamwKernelIdeal.main_arg3) = m ((c.tc : Thread Cert.AdamwKernelIdeal.nD Cert.AdamwKernelIdeal.τ).loc Cert.AdamwKernelIdeal.main_arg3))
      ∧ θ_run (Cert.AdamwReferenceIdeal.defs (F := Ideal)) (onTc (τ := Cert.AdamwReferenceIdeal.τ) (Cert.AdamwReferenceIdeal.main (F := Ideal))) ⟨m', fun _ => 0, g'⟩ (fun r => ∀ c : Dev Cert.AdamwReferenceIdeal.nD,
          r.2.mem ((c.tc : Thread Cert.AdamwReferenceIdeal.nD Cert.AdamwReferenceIdeal.τ).loc Cert.AdamwReferenceIdeal.main_v25) = v0 c
          ∧ r.2.mem ((c.tc : Thread Cert.AdamwReferenceIdeal.nD Cert.AdamwReferenceIdeal.τ).loc Cert.AdamwReferenceIdeal.main_v27) = v1 c
          ∧ r.2.mem ((c.tc : Thread Cert.AdamwReferenceIdeal.nD Cert.AdamwReferenceIdeal.τ).loc Cert.AdamwReferenceIdeal.main_v29) = v2 c
          ∧ r.2.mem ((c.tc : Thread Cert.AdamwReferenceIdeal.nD Cert.AdamwReferenceIdeal.τ).loc Cert.AdamwReferenceIdeal.main_arg0) = m' ((c.tc : Thread Cert.AdamwReferenceIdeal.nD Cert.AdamwReferenceIdeal.τ).loc Cert.AdamwReferenceIdeal.main_arg0)
          ∧ r.2.mem ((c.tc : Thread Cert.AdamwReferenceIdeal.nD Cert.AdamwReferenceIdeal.τ).loc Cert.AdamwReferenceIdeal.main_arg1) = m' ((c.tc : Thread Cert.AdamwReferenceIdeal.nD Cert.AdamwReferenceIdeal.τ).loc Cert.AdamwReferenceIdeal.main_arg1)
          ∧ r.2.mem ((c.tc : Thread Cert.AdamwReferenceIdeal.nD Cert.AdamwReferenceIdeal.τ).loc Cert.AdamwReferenceIdeal.main_arg2) = m' ((c.tc : Thread Cert.AdamwReferenceIdeal.nD Cert.AdamwReferenceIdeal.τ).loc Cert.AdamwReferenceIdeal.main_arg2)
          ∧ r.2.mem ((c.tc : Thread Cert.AdamwReferenceIdeal.nD Cert.AdamwReferenceIdeal.τ).loc Cert.AdamwReferenceIdeal.main_arg3) = m' ((c.tc : Thread Cert.AdamwReferenceIdeal.nD Cert.AdamwReferenceIdeal.τ).loc Cert.AdamwReferenceIdeal.main_arg3))

def preserves_DwKernel_DwKernelIdeal : Prop :=
  True

def algebraic_DwKernelIdeal_DwReferenceIdeal [hDwKernelIdeal : Cert.DwKernelIdeal.Facts] [hDwReferenceIdeal : Cert.DwReferenceIdeal.Facts] : Prop :=
  ∀ (m : (ℓ : Loc Cert.DwKernelIdeal.nD Cert.DwKernelIdeal.τ Cert.DwKernelIdeal.sig) → Buf (Elt Ideal) ℓ) (g : Dev Cert.DwKernelIdeal.nD → PrngReg)
    (m' : (ℓ : Loc Cert.DwReferenceIdeal.nD Cert.DwReferenceIdeal.τ Cert.DwReferenceIdeal.sig) → Buf (Elt Ideal) ℓ) (g' : Dev Cert.DwReferenceIdeal.nD → PrngReg), Pre_DwKernelIdeal m →
    (∀ c : Dev Cert.DwKernelIdeal.nD,
      m' ((c.tc : Thread Cert.DwReferenceIdeal.nD Cert.DwReferenceIdeal.τ).loc Cert.DwReferenceIdeal.main_arg0) = m ((c.tc : Thread Cert.DwKernelIdeal.nD Cert.DwKernelIdeal.τ).loc Cert.DwKernelIdeal.main_arg0)
      ∧ m' ((c.tc : Thread Cert.DwReferenceIdeal.nD Cert.DwReferenceIdeal.τ).loc Cert.DwReferenceIdeal.main_arg1) = m ((c.tc : Thread Cert.DwKernelIdeal.nD Cert.DwKernelIdeal.τ).loc Cert.DwKernelIdeal.main_arg1)) →
    ∃ (v0 : (c : Dev Cert.DwKernelIdeal.nD) → Buf (Elt Ideal) ((c.tc : Thread Cert.DwKernelIdeal.nD Cert.DwKernelIdeal.τ).loc Cert.DwKernelIdeal.main_v0)),
      θ_run (Cert.DwKernelIdeal.defs (F := Ideal)) (onTc (τ := Cert.DwKernelIdeal.τ) (Cert.DwKernelIdeal.main (F := Ideal))) ⟨m, fun _ => 0, g⟩ (fun r => ∀ c : Dev Cert.DwKernelIdeal.nD,
          r.2.mem ((c.tc : Thread Cert.DwKernelIdeal.nD Cert.DwKernelIdeal.τ).loc Cert.DwKernelIdeal.main_v0) = v0 c
          ∧ r.2.mem ((c.tc : Thread Cert.DwKernelIdeal.nD Cert.DwKernelIdeal.τ).loc Cert.DwKernelIdeal.main_arg0) = m ((c.tc : Thread Cert.DwKernelIdeal.nD Cert.DwKernelIdeal.τ).loc Cert.DwKernelIdeal.main_arg0)
          ∧ r.2.mem ((c.tc : Thread Cert.DwKernelIdeal.nD Cert.DwKernelIdeal.τ).loc Cert.DwKernelIdeal.main_arg1) = m ((c.tc : Thread Cert.DwKernelIdeal.nD Cert.DwKernelIdeal.τ).loc Cert.DwKernelIdeal.main_arg1))
      ∧ θ_run (Cert.DwReferenceIdeal.defs (F := Ideal)) (onTc (τ := Cert.DwReferenceIdeal.τ) (Cert.DwReferenceIdeal.main (F := Ideal))) ⟨m', fun _ => 0, g'⟩ (fun r => ∀ c : Dev Cert.DwReferenceIdeal.nD,
          r.2.mem ((c.tc : Thread Cert.DwReferenceIdeal.nD Cert.DwReferenceIdeal.τ).loc Cert.DwReferenceIdeal.main_v9) = v0 c
          ∧ r.2.mem ((c.tc : Thread Cert.DwReferenceIdeal.nD Cert.DwReferenceIdeal.τ).loc Cert.DwReferenceIdeal.main_arg0) = m' ((c.tc : Thread Cert.DwReferenceIdeal.nD Cert.DwReferenceIdeal.τ).loc Cert.DwReferenceIdeal.main_arg0)
          ∧ r.2.mem ((c.tc : Thread Cert.DwReferenceIdeal.nD Cert.DwReferenceIdeal.τ).loc Cert.DwReferenceIdeal.main_arg1) = m' ((c.tc : Thread Cert.DwReferenceIdeal.nD Cert.DwReferenceIdeal.τ).loc Cert.DwReferenceIdeal.main_arg1))

def Claim : Prop :=
  ∃ (hKernel : Cert.Kernel.Facts) (hKernelIdeal : Cert.KernelIdeal.Facts) (hReferenceIdeal : Cert.ReferenceIdeal.Facts) (hMixKernel : Cert.MixKernel.Facts) (hMixKernelIdeal : Cert.MixKernelIdeal.Facts) (hMixReferenceIdeal : Cert.MixReferenceIdeal.Facts) (hMixBwdKernel : Cert.MixBwdKernel.Facts) (hMixBwdKernelIdeal : Cert.MixBwdKernelIdeal.Facts) (hMixBwdReferenceIdeal : Cert.MixBwdReferenceIdeal.Facts) (hFfn2Kernel : Cert.Ffn2Kernel.Facts) (hFfn2KernelIdeal : Cert.Ffn2KernelIdeal.Facts) (hFfn2ReferenceIdeal : Cert.Ffn2ReferenceIdeal.Facts) (hSsdBwdKernel : Cert.SsdBwdKernel.Facts) (hSsdBwdKernelIdeal : Cert.SsdBwdKernelIdeal.Facts) (hTailKernel : Cert.TailKernel.Facts) (hTailKernelIdeal : Cert.TailKernelIdeal.Facts) (hTailReferenceIdeal : Cert.TailReferenceIdeal.Facts) (hSsdFwdKernel : Cert.SsdFwdKernel.Facts) (hSsdFwdKernelIdeal : Cert.SsdFwdKernelIdeal.Facts) (hAdamwKernel : Cert.AdamwKernel.Facts) (hAdamwKernelIdeal : Cert.AdamwKernelIdeal.Facts) (hAdamwReferenceIdeal : Cert.AdamwReferenceIdeal.Facts) (hDwKernel : Cert.DwKernel.Facts) (hDwKernelIdeal : Cert.DwKernelIdeal.Facts) (hDwReferenceIdeal : Cert.DwReferenceIdeal.Facts) (hPre_ffn_finite : Cert.Pre_ffn_finite.Facts) (hPre_mixb_finite : Cert.Pre_mixb_finite.Facts) (hPre_ffn2_finite : Cert.Pre_ffn2_finite.Facts) (hPre_tail_finite : Cert.Pre_tail_finite.Facts),
    quiescent_Kernel (hKernel := hKernel)
    ∧ quiescent_KernelIdeal (hKernelIdeal := hKernelIdeal)
    ∧ quiescent_KernelIdeal_pre_ffn_finite (hKernelIdeal := hKernelIdeal) (hPre_ffn_finite := hPre_ffn_finite)
    ∧ quiescent_ReferenceIdeal (hReferenceIdeal := hReferenceIdeal)
    ∧ quiescent_ReferenceIdeal_pre_ffn_finite (hReferenceIdeal := hReferenceIdeal) (hPre_ffn_finite := hPre_ffn_finite)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_MixBwdKernel (hMixBwdKernel := hMixBwdKernel)
    ∧ quiescent_MixBwdKernelIdeal (hMixBwdKernelIdeal := hMixBwdKernelIdeal)
    ∧ quiescent_MixBwdKernelIdeal_pre_mixb_finite (hMixBwdKernelIdeal := hMixBwdKernelIdeal) (hPre_mixb_finite := hPre_mixb_finite)
    ∧ quiescent_MixBwdReferenceIdeal (hMixBwdReferenceIdeal := hMixBwdReferenceIdeal)
    ∧ quiescent_MixBwdReferenceIdeal_pre_mixb_finite (hMixBwdReferenceIdeal := hMixBwdReferenceIdeal) (hPre_mixb_finite := hPre_mixb_finite)
    ∧ quiescent_Ffn2Kernel (hFfn2Kernel := hFfn2Kernel)
    ∧ quiescent_Ffn2KernelIdeal (hFfn2KernelIdeal := hFfn2KernelIdeal)
    ∧ quiescent_Ffn2KernelIdeal_pre_ffn2_finite (hFfn2KernelIdeal := hFfn2KernelIdeal) (hPre_ffn2_finite := hPre_ffn2_finite)
    ∧ quiescent_Ffn2ReferenceIdeal (hFfn2ReferenceIdeal := hFfn2ReferenceIdeal)
    ∧ quiescent_Ffn2ReferenceIdeal_pre_ffn2_finite (hFfn2ReferenceIdeal := hFfn2ReferenceIdeal) (hPre_ffn2_finite := hPre_ffn2_finite)
    ∧ quiescent_SsdBwdKernel (hSsdBwdKernel := hSsdBwdKernel)
    ∧ quiescent_SsdBwdKernelIdeal (hSsdBwdKernelIdeal := hSsdBwdKernelIdeal)
    ∧ quiescent_TailKernel (hTailKernel := hTailKernel)
    ∧ quiescent_TailKernelIdeal (hTailKernelIdeal := hTailKernelIdeal)
    ∧ quiescent_TailKernelIdeal_pre_tail_finite (hTailKernelIdeal := hTailKernelIdeal) (hPre_tail_finite := hPre_tail_finite)
    ∧ quiescent_TailReferenceIdeal (hTailReferenceIdeal := hTailReferenceIdeal)
    ∧ quiescent_TailReferenceIdeal_pre_tail_finite (hTailReferenceIdeal := hTailReferenceIdeal) (hPre_tail_finite := hPre_tail_finite)
    ∧ quiescent_SsdFwdKernel (hSsdFwdKernel := hSsdFwdKernel)
    ∧ quiescent_SsdFwdKernelIdeal (hSsdFwdKernelIdeal := hSsdFwdKernelIdeal)
    ∧ quiescent_AdamwKernel (hAdamwKernel := hAdamwKernel)
    ∧ quiescent_AdamwKernelIdeal (hAdamwKernelIdeal := hAdamwKernelIdeal)
    ∧ quiescent_AdamwReferenceIdeal (hAdamwReferenceIdeal := hAdamwReferenceIdeal)
    ∧ quiescent_DwKernel (hDwKernel := hDwKernel)
    ∧ quiescent_DwKernelIdeal (hDwKernelIdeal := hDwKernelIdeal)
    ∧ quiescent_DwReferenceIdeal (hDwReferenceIdeal := hDwReferenceIdeal)
    ∧ preserves_Kernel_KernelIdeal
    ∧ algebraic_KernelIdeal_ReferenceIdeal_pre_ffn_finite (hKernelIdeal := hKernelIdeal) (hReferenceIdeal := hReferenceIdeal) (hPre_ffn_finite := hPre_ffn_finite)
    ∧ preserves_MixKernel_MixKernelIdeal
    ∧ algebraic_MixKernelIdeal_MixReferenceIdeal (hMixKernelIdeal := hMixKernelIdeal) (hMixReferenceIdeal := hMixReferenceIdeal)
    ∧ preserves_MixBwdKernel_MixBwdKernelIdeal
    ∧ algebraic_MixBwdKernelIdeal_MixBwdReferenceIdeal_pre_mixb_finite (hMixBwdKernelIdeal := hMixBwdKernelIdeal) (hMixBwdReferenceIdeal := hMixBwdReferenceIdeal) (hPre_mixb_finite := hPre_mixb_finite)
    ∧ preserves_Ffn2Kernel_Ffn2KernelIdeal
    ∧ algebraic_Ffn2KernelIdeal_Ffn2ReferenceIdeal_pre_ffn2_finite (hFfn2KernelIdeal := hFfn2KernelIdeal) (hFfn2ReferenceIdeal := hFfn2ReferenceIdeal) (hPre_ffn2_finite := hPre_ffn2_finite)
    ∧ preserves_SsdBwdKernel_SsdBwdKernelIdeal
    ∧ preserves_TailKernel_TailKernelIdeal
    ∧ algebraic_TailKernelIdeal_TailReferenceIdeal_pre_tail_finite (hTailKernelIdeal := hTailKernelIdeal) (hTailReferenceIdeal := hTailReferenceIdeal) (hPre_tail_finite := hPre_tail_finite)
    ∧ preserves_SsdFwdKernel_SsdFwdKernelIdeal
    ∧ preserves_AdamwKernel_AdamwKernelIdeal
    ∧ algebraic_AdamwKernelIdeal_AdamwReferenceIdeal (hAdamwKernelIdeal := hAdamwKernelIdeal) (hAdamwReferenceIdeal := hAdamwReferenceIdeal)
    ∧ preserves_DwKernel_DwKernelIdeal
    ∧ algebraic_DwKernelIdeal_DwReferenceIdeal (hDwKernelIdeal := hDwKernelIdeal) (hDwReferenceIdeal := hDwReferenceIdeal)
-- ==== Pre_ffn2_finite.lean ====
abbrev S8192x1024 : Shape := ⟨2, ![8192, 1024]⟩
abbrev S1x2048x1024 : Shape := ⟨3, ![1, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x2048x1024 : S_.BroadcastsInDim S1x2048x1024 (![] : Fin 0 → Fin S1x2048x1024.rank)
  reducesTo_S1x2048x1024_S_d0_1_2 : S1x2048x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part2 {F : FTy → Type} [FloatOps F] (main_v5 : IVec S_ 1) (main_v9 : IVec S_ 1) (main_v13 : IVec S_ 1) (main_v17 : IVec S_ 1) (main_v21 : IVec S_ 1) (main_v25 : IVec S_ 1) (main_v29 : IVec S_ 1) (main_v32 : IVec S8192x1024 1) : IVec S_ 1 :=
  let main_c_13 : IVec S_ 1 := constantI S_ 1 1#1
  let main_v33 : IVec S_ 1 := (fun x v => Host.reduce IntOp.andi x v reducesTo_S8192x1024_S_d0_1 h_S_) main_v32 main_c_13
  let main_v34 : IVec S_ 1 := andi main_v5 main_v9
  let main_v35 : IVec S_ 1 := andi main_v34 main_v13
  let main_v36 : IVec S_ 1 := andi main_v35 main_v17
  let main_v37 : IVec S_ 1 := andi main_v36 main_v21
  let main_v38 : IVec S_ 1 := andi main_v37 main_v25
  let main_v39 : IVec S_ 1 := andi main_v38 main_v29
  let main_v40 : IVec S_ 1 := andi main_v39 main_v33
  main_v40

def fn_part1 {F : FTy → Type} [FloatOps F] (main_arg4 : FVec F S1x1024 .f32) (main_arg6 : FVec F S1x1024x2816 .f32) (main_arg7 : FVec F S1x2816x1024 .f32) (main_arg8 : FVec F S8192x1024 .f32) (main_v5 : IVec S_ 1) (main_v9 : IVec S_ 1) (main_v13 : IVec S_ 1) (main_v16 : IVec S1x2048x1024 1) : IVec S_ 1 :=
  let main_c_5 : IVec S_ 1 := constantI S_ 1 1#1
  let main_v17 : IVec S_ 1 := (fun x v => Host.reduce IntOp.andi x v reducesTo_S1x2048x1024_S_d0_1_2 h_S_) main_v16 main_c_5
  let main_v18 : FVec F S1x1024 .f32 := Host.absf main_arg4
  let main_cst_6 : FVec F S_ .f32 := constant S_ .f32 0x7F800000#32
  let main_v19 : FVec F S1x1024 .f32 := broadcastInDim S1x1024 ![] bcast_S_S1x1024 main_cst_6
  let main_v20 : IVec S1x1024 1 := cmpf .olt main_v18 main_v19
  let main_c_7 : IVec S_ 1 := constantI S_ 1 1#1
  let main_v21 : IVec S_ 1 := (fun x v => Host.reduce IntOp.andi x v reducesTo_S1x1024_S_d0_1 h_S_) main_v20 main_c_7
  let main_v22 : FVec F S1x1024x2816 .f32 := Host.absf main_arg6
  let main_cst_8 : FVec F S_ .f32 := constant S_ .f32 0x7F800000#32
  let main_v23 : FVec F S1x1024x2816 .f32 := broadcastInDim S1x1024x2816 ![] bcast_S_S1x1024x2816 main_cst_8
  let main_v24 : IVec S1x1024x2816 1 := cmpf .olt main_v22 main_v23
  let main_c_9 : IVec S_ 1 := constantI S_ 1 1#1
  let main_v25 : IVec S_ 1 := (fun x v => Host.reduce IntOp.andi x v reducesTo_S1x1024x2816_S_d0_1_2 h_S_) main_v24 main_c_9
  let main_v26 : FVec F S1x2816x1024 .f32 := Host.absf main_arg7
  let main_cst_10 : FVec F S_ .f32 := constant S_ .f32 0x7F800000#32
  let main_v27 : FVec F S1x2816x1024 .f32 := broadcastInDim S1x2816x1024 ![] bcast_S_S1x2816x1024 main_cst_10
  let main_v28 : IVec S1x2816x1024 1 := cmpf .olt main_v26 main_v27
  let main_c_11 : IVec S_ 1 := constantI S_ 1 1#1
  let main_v29 : IVec S_ 1 := (fun x v => Host.reduce IntOp.andi x v reducesTo_S1x2816x1024_S_d0_1_2 h_S_) main_v28 main_c_11
  let main_v30 : FVec F S8192x1024 .f32 := Host.absf main_arg8
  let main_cst_12 : FVec F S_ .f32 := constant S_ .f32 0x7F800000#32
  let main_v31 : FVec F S8192x1024 .f32 := broadcastInDim S8192x1024 ![] bcast_S_S8192x1024 main_cst_12
  let main_v32 : IVec S8192x1024 1 := cmpf .olt main_v30 main_v31
  fn_part2 (F := F) main_v5 main_v9 main_v13 main_v17 main_v21 main_v25 main_v29 main_v32

def fn {F : FTy → Type} [FloatOps F] (main_arg0 : FVec F S8192x1024 .f32) (main_arg1 : FVec F S8192x1024 .bf16) (main_arg2 : FVec F S8192x1024 .bf16) (main_arg3 : FVec F S1x2048x1024 .f32) (main_arg4 : FVec F S1x1024 .f32) (main_arg5 : FVec F S1x1024x2816 .f32) (main_arg6 : FVec F S1x1024x2816 .f32) (main_arg7 : FVec F S1x2816x1024 .f32) (main_arg8 : FVec F S8192x1024 .f32) : IVec S_ 1 :=
  let main_v0 : FVec F S8192x1024 .f32 := (extf .f32 · bitsLt_bf16_f32) main_arg1
  let main_v1 : FVec F S8192x1024 .f32 := (extf .f32 · bitsLt_bf16_f32) main_arg2
  let main_v2 : FVec F S8192x1024 .f32 := Host.absf main_arg0
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_c : IVec S_ 1 := constantI S_ 1 1#1
  let main_v5 : IVec S_ 1 := (fun x v => Host.reduce IntOp.andi x v reducesTo_S8192x1024_S_d0_1 h_S_) main_v4 main_c
  let main_v6 : FVec F S8192x1024 .f32 := Host.absf main_v0
  let main_cst_0 : FVec F S_ .f32 := constant S_ .f32 0x7F800000#32
  let main_v7 : FVec F S8192x1024 .f32 := broadcastInDim S8192x1024 ![] bcast_S_S8192x1024 main_cst_0
  let main_v8 : IVec S8192x1024 1 := cmpf .olt main_v6 main_v7
  let main_c_1 : IVec S_ 1 := constantI S_ 1 1#1
  let main_v9 : IVec S_ 1 := (fun x v => Host.reduce IntOp.andi x v reducesTo_S8192x1024_S_d0_1 h_S_) main_v8 main_c_1
  let main_v10 : FVec F S8192x1024 .f32 := Host.absf main_v1
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_c_3 : IVec S_ 1 := constantI S_ 1 1#1
  let main_v13 : IVec S_ 1 := (fun x v => Host.reduce IntOp.andi x v reducesTo_S8192x1024_S_d0_1 h_S_) main_v12 main_c_3
  let main_v14 : FVec F S1x2048x1024 .f32 := Host.absf main_arg3
  let main_cst_4 : FVec F S_ .f32 := constant S_ .f32 0x7F800000#32
  let main_v15 : FVec F S1x2048x1024 .f32 := broadcastInDim S1x2048x1024 ![] bcast_S_S1x2048x1024 main_cst_4
  let main_v16 : IVec S1x2048x1024 1 := cmpf .olt main_v14 main_v15
  fn_part1 (F := F) main_arg4 main_arg6 main_arg7 main_arg8 main_v5 main_v9 main_v13 main_v16
-- ==== Pre_ffn_finite.lean ====
abbrev S8192x1024 : Shape := ⟨2, ![8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part1 {F : FTy → Type} [FloatOps F] (main_arg5 : FVec F S8192x1024 .f32) (main_v3 : IVec S_ 1) (main_v7 : IVec S_ 1) (main_v11 : IVec S_ 1) (main_v15 : IVec S_ 1) : IVec S_ 1 :=
  let main_v16 : FVec F S8192x1024 .f32 := Host.absf main_arg5
  let main_cst_6 : FVec F S_ .f32 := constant S_ .f32 0x7F800000#32
  let main_v17 : FVec F S8192x1024 .f32 := broadcastInDim S8192x1024 ![] bcast_S_S8192x1024 main_cst_6
  let main_v18 : IVec S8192x1024 1 := cmpf .olt main_v16 main_v17
  let main_c_7 : IVec S_ 1 := constantI S_ 1 1#1
  let main_v19 : IVec S_ 1 := (fun x v => Host.reduce IntOp.andi x v reducesTo_S8192x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S8192x1024 .f32) (main_arg1 : FVec F S1x1024 .f32) (main_arg2 : FVec F S1x1024x2816 .f32) (main_arg3 : FVec F S1x1024x2816 .f32) (main_arg4 : FVec F S1x2816x1024 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1x1024x2816 .f32 := Host.absf main_arg3
  let main_cst_2 : FVec F S_ .f32 := constant S_ .f32 0x7F800000#32
  let main_v9 : FVec F S1x1024x2816 .f32 := broadcastInDim S1x1024x2816 ![] bcast_S_S1x1024x2816 main_cst_2
  let main_v10 : IVec S1x1024x2816 1 := cmpf .olt main_v8 main_v9
  let main_c_3 : IVec S_ 1 := constantI S_ 1 1#1
  let main_v11 : IVec S_ 1 := (fun x v => Host.reduce IntOp.andi x v reducesTo_S1x1024x2816_S_d0_1_2 h_S_) main_v10 main_c_3
  let main_v12 : FVec F S1x2816x1024 .f32 := Host.absf main_arg4
  let main_cst_4 : FVec F S_ .f32 := constant S_ .f32 0x7F800000#32
  let main_v13 : FVec F S1x2816x1024 .f32 := broadcastInDim S1x2816x1024 ![] bcast_S_S1x2816x1024 main_cst_4
  let main_v14 : IVec S1x2816x1024 1 := cmpf .olt main_v12 main_v13
  let main_c_5 : IVec S_ 1 := constantI S_ 1 1#1
  let main_v15 : IVec S_ 1 := (fun x v => Host.reduce IntOp.andi x v reducesTo_S1x2816x1024_S_d0_1_2 h_S_) main_v14 main_c_5
  fn_part1 (F := F) main_arg5 main_v3 main_v7 main_v11 main_v15
-- ==== Pre_mixb_finite.lean ====
abbrev S8192x1024 : Shape := ⟨2, ![8192, 1024]⟩
abbrev S1x1024 : Shape := ⟨2, ![1, 1024]⟩
abbrev S1x1024x4624 : Shape := ⟨3, ![1, 1024, 4624]⟩
abbrev S1x8x128x128 : Shape := ⟨4, ![1, 8, 128, 128]⟩
abbrev S1x8x128 : Shape := ⟨3, ![1, 8, 128]⟩
abbrev S8192x2688 : Shape := ⟨2, ![8192, 2688]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x4624 : S_.BroadcastsInDim S1x1024x4624 (![] : Fin 0 → Fin S1x1024x4624.rank)
  reducesTo_S1x1024x4624_S_d0_1_2 : S1x1024x4624.ReducesTo [0, 1, 2] S_
  bcast_S_S1x8x128x128 : S_.BroadcastsInDim S1x8x128x128 (![] : Fin 0 → Fin S1x8x128x128.rank)
  reducesTo_S1x8x128x128_S_d0_1_2_3 : S1x8x128x128.ReducesTo [0, 1, 2, 3] S_
  bcast_S_S1x8x128 : S_.BroadcastsInDim S1x8x128 (![] : Fin 0 → Fin S1x8x128.rank)
  reducesTo_S1x8x128_S_d0_1_2 : S1x8x128.ReducesTo [0, 1, 2] S_

variable [Facts]

def fn_part2 {F : FTy → Type} [FloatOps F] (main_v0 : FVec F S8192x1024 .f32) (main_v4 : IVec S_ 1) (main_v8 : IVec S_ 1) (main_v12 : IVec S_ 1) (main_v16 : IVec S_ 1) (main_v20 : IVec S_ 1) (main_v24 : IVec S_ 1) (main_v28 : IVec S_ 1) (main_v31 : IVec S1x1024 1) (main_c_13 : IVec S_ 1) : IVec S_ 1 :=
  let main_v32 : IVec S_ 1 := (fun x v => Host.reduce IntOp.andi x v reducesTo_S1x1024_S_d0_1 h_S_) main_v31 main_c_13
  let main_v33 : FVec F S8192x1024 .f32 := Host.absf main_v0
  let main_cst_14 : FVec F S_ .f32 := constant S_ .f32 0x7F800000#32
  let main_v34 : FVec F S8192x1024 .f32 := broadcastInDim S8192x1024 ![] bcast_S_S8192x1024 main_cst_14
  let main_v35 : IVec S8192x1024 1 := cmpf .olt main_v33 main_v34
  let main_c_15 : IVec S_ 1 := constantI S_ 1 1#1
  let main_v36 : IVec S_ 1 := (fun x v => Host.reduce IntOp.andi x v reducesTo_S8192x1024_S_d0_1 h_S_) main_v35 main_c_15
  let main_v37 : IVec S_ 1 := andi main_v4 main_v8
  let main_v38 : IVec S_ 1 := andi main_v37 main_v12
  let main_v39 : IVec S_ 1 := andi main_v38 main_v16
  let main_v40 : IVec S_ 1 := andi main_v39 main_v20
  let main_v41 : IVec S_ 1 := andi main_v40 main_v24
  let main_v42 : IVec S_ 1 := andi main_v41 main_v28
  let main_v43 : IVec S_ 1 := andi main_v42 main_v32
  let main_v44 : IVec S_ 1 := andi main_v43 main_v36
  main_v44

def fn_part1 {F : FTy → Type} [FloatOps F] (main_arg4 : FVec F S1x1024 .f32) (main_arg5 : FVec F S1x8x128x128 .f32) (main_arg6 : FVec F S1x8x128 .f32) (main_arg7 : FVec F S1x1024 .f32) (main_v0 : FVec F S8192x1024 .f32) (main_v4 : IVec S_ 1) (main_v8 : IVec S_ 1) (main_v12 : IVec S_ 1) (main_v15 : IVec S1x1024 1) (main_c_5 : IVec S_ 1) : IVec S_ 1 :=
  let main_v16 : IVec S_ 1 := (fun x v => Host.reduce IntOp.andi x v reducesTo_S1x1024_S_d0_1 h_S_) main_v15 main_c_5
  let main_v17 : FVec F S1x1024 .f32 := Host.absf main_arg4
  let main_cst_6 : FVec F S_ .f32 := constant S_ .f32 0x7F800000#32
  let main_v18 : FVec F S1x1024 .f32 := broadcastInDim S1x1024 ![] bcast_S_S1x1024 main_cst_6
  let main_v19 : IVec S1x1024 1 := cmpf .olt main_v17 main_v18
  let main_c_7 : IVec S_ 1 := constantI S_ 1 1#1
  let main_v20 : IVec S_ 1 := (fun x v => Host.reduce IntOp.andi x v reducesTo_S1x1024_S_d0_1 h_S_) main_v19 main_c_7
  let main_v21 : FVec F S1x8x128x128 .f32 := Host.absf main_arg5
  let main_cst_8 : FVec F S_ .f32 := constant S_ .f32 0x7F800000#32
  let main_v22 : FVec F S1x8x128x128 .f32 := broadcastInDim S1x8x128x128 ![] bcast_S_S1x8x128x128 main_cst_8
  let main_v23 : IVec S1x8x128x128 1 := cmpf .olt main_v21 main_v22
  let main_c_9 : IVec S_ 1 := constantI S_ 1 1#1
  let main_v24 : IVec S_ 1 := (fun x v => Host.reduce IntOp.andi x v reducesTo_S1x8x128x128_S_d0_1_2_3 h_S_) main_v23 main_c_9
  let main_v25 : FVec F S1x8x128 .f32 := Host.absf main_arg6
  let main_cst_10 : FVec F S_ .f32 := constant S_ .f32 0x7F800000#32
  let main_v26 : FVec F S1x8x128 .f32 := broadcastInDim S1x8x128 ![] bcast_S_S1x8x128 main_cst_10
  let main_v27 : IVec S1x8x128 1 := cmpf .olt main_v25 main_v26
  let main_c_11 : IVec S_ 1 := constantI S_ 1 1#1
  let main_v28 : IVec S_ 1 := (fun x v => Host.reduce IntOp.andi x v reducesTo_S1x8x128_S_d0_1_2 h_S_) main_v27 main_c_11
  let main_v29 : FVec F S1x1024 .f32 := Host.absf main_arg7
  let main_cst_12 : FVec F S_ .f32 := constant S_ .f32 0x7F800000#32
  let main_v30 : FVec F S1x1024 .f32 := broadcastInDim S1x1024 ![] bcast_S_S1x1024 main_cst_12
  let main_v31 : IVec S1x1024 1 := cmpf .olt main_v29 main_v30
  let main_c_13 : IVec S_ 1 := constantI S_ 1 1#1
  fn_part2 (F := F) main_v0 main_v4 main_v8 main_v12 main_v16 main_v20 main_v24 main_v28 main_v31 main_c_13

def fn {F : FTy → Type} [FloatOps F] (main_arg0 : FVec F S8192x1024 .f32) (main_arg1 : FVec F S1x1024 .f32) (main_arg2 : FVec F S1x1024x4624 .f32) (main_arg3 : FVec F S1x1024 .f32) (main_arg4 : FVec F S1x1024 .f32) (main_arg5 : FVec F S1x8x128x128 .f32) (main_arg6 : FVec F S1x8x128 .f32) (main_arg7 : FVec F S1x1024 .f32) (main_arg8 : FVec F S8192x1024 .f32) (main_arg9 : FVec F S8192x1024 .bf16) (main_arg10 : FVec F S8192x2688 .bf16) : IVec S_ 1 :=
  let main_v0 : FVec F S8192x1024 .f32 := (extf .f32 · bitsLt_bf16_f32) main_arg9
  let main_v1 : FVec F S8192x1024 .f32 := Host.absf main_arg0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S1x1024 .f32 := Host.absf main_arg1
  let main_cst_0 : FVec F S_ .f32 := constant S_ .f32 0x7F800000#32
  let main_v6 : FVec F S1x1024 .f32 := broadcastInDim S1x1024 ![] bcast_S_S1x1024 main_cst_0
  let main_v7 : IVec S1x1024 1 := cmpf .olt main_v5 main_v6
  let main_c_1 : IVec S_ 1 := constantI S_ 1 1#1
  let main_v8 : IVec S_ 1 := (fun x v => Host.reduce IntOp.andi x v reducesTo_S1x1024_S_d0_1 h_S_) main_v7 main_c_1
  let main_v9 : FVec F S1x1024x4624 .f32 := Host.absf main_arg2
  let main_cst_2 : FVec F S_ .f32 := constant S_ .f32 0x7F800000#32
  let main_v10 : FVec F S1x1024x4624 .f32 := broadcastInDim S1x1024x4624 ![] bcast_S_S1x1024x4624 main_cst_2
  let main_v11 : IVec S1x1024x4624 1 := cmpf .olt main_v9 main_v10
  let main_c_3 : IVec S_ 1 := constantI S_ 1 1#1
  let main_v12 : IVec S_ 1 := (fun x v => Host.reduce IntOp.andi x v reducesTo_S1x1024x4624_S_d0_1_2 h_S_) main_v11 main_c_3
  let main_v13 : FVec F S1x1024 .f32 := Host.absf main_arg3
  let main_cst_4 : FVec F S_ .f32 := constant S_ .f32 0x7F800000#32
  let main_v14 : FVec F S1x1024 .f32 := broadcastInDim S1x1024 ![] bcast_S_S1x1024 main_cst_4
  let main_v15 : IVec S1x1024 1 := cmpf .olt main_v13 main_v14
  let main_c_5 : IVec S_ 1 := constantI S_ 1 1#1
  fn_part1 (F := F) main_arg4 main_arg5 main_arg6 main_arg7 main_v0 main_v4 main_v8 main_v12 main_v15 main_c_5
-- ==== Pre_tail_finite.lean ====
abbrev S8192x1024 : Shape := ⟨2, ![8192, 1024]⟩
abbrev S8192x256 : Shape := ⟨2, ![8192, 256]⟩
abbrev S1x1024 : Shape := ⟨2, ![1, 1024]⟩
abbrev S1x1024x1024 : Shape := ⟨3, ![1, 1024, 1024]⟩
abbrev S1x256x1024 : Shape := ⟨3, ![1, 256, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8192x1024 .f32) (main_arg1 : FVec F S8192x256 .f32) (main_arg2 : FVec F S8192x1024 .f32) (main_arg3 : FVec F S1x1024 .f32) (main_arg4 : FVec F S1x1024x1024 .f32) (main_arg5 : FVec F S1x1024 .f32) (main_arg6 : FVec F S1x256x1024 .f32) (main_arg7 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg3
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1x1024x1024 .f32 := Host.absf main_arg4
  let main_cst_2 : FVec F S_ .f32 := constant S_ .f32 0x7F800000#32
  let main_v9 : FVec F S1x1024x1024 .f32 := broadcastInDim S1x1024x1024 ![] bcast_S_S1x1024x1024 main_cst_2
  let main_v10 : IVec S1x1024x1024 1 := cmpf .olt main_v8 main_v9
  let main_c_3 : IVec S_ 1 := constantI S_ 1 1#1
  let main_v11 : IVec S_ 1 := (fun x v => Host.reduce IntOp.andi x v reducesTo_S1x1024x1024_S_d0_1_2 h_S_) main_v10 main_c_3
  let main_v12 : FVec F S1x1024 .f32 := Host.absf main_arg5
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_v3 main_v7 main_v11 main_v15
-- ==== Kernel.lean ====
abbrev S8192x1024 : Shape := ⟨2, ![8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1024 : Shape := ⟨1, ![1024]⟩

abbrev nBuf : Space → Nat
  | .hbm => 23
  | .vmem => 35
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | .hbm, ⟨9, _⟩ => ⟨S1024x2816, .f32⟩
  | .hbm, ⟨10, _⟩ => ⟨S2816x1024, .f32⟩
  | .hbm, ⟨11, _⟩ => ⟨S2816x1024, .bf16⟩
  | .hbm, ⟨12, _⟩ => ⟨S2816x1024, .f32⟩
  | .hbm, ⟨13, _⟩ => ⟨S2816x1024, .bf16⟩
  | .hbm, ⟨14, _⟩ => ⟨S8192x1024, .f32⟩
  | .hbm, ⟨15, _⟩ => ⟨S8192x1024, .bf16⟩
  | .hbm, ⟨16, _⟩ => ⟨S8192x2816, .bf16⟩
  | .hbm, ⟨17, _⟩ => ⟨S8192x2816, .bf16⟩
  | .hbm, ⟨18, _⟩ => ⟨S8192x1024, .f32⟩
  | .hbm, ⟨19, _⟩ => ⟨S8192x2816, .bf16⟩
  | .hbm, ⟨20, _⟩ => ⟨S8192x2816, .bf16⟩
  | .hbm, ⟨21, _⟩ => ⟨S8192x2816, .bf16⟩
  | .hbm, ⟨22, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x2816, .bf16⟩
  | .local _ .vmem, ⟨23, _⟩ => ⟨S2816x1024, .bf16⟩
  | .local _ .vmem, ⟨24, _⟩ => ⟨S2816x1024, .bf16⟩
  | .local _ .vmem, ⟨25, _⟩ => ⟨S2816x1024, .bf16⟩
  | .local _ .vmem, ⟨26, _⟩ => ⟨S256x1024, .f32⟩
  | .local _ .vmem, ⟨27, _⟩ => ⟨S256x1024, .f32⟩
  | .local _ .vmem, ⟨28, _⟩ => ⟨S256x2816, .bf16⟩
  | .local _ .vmem, ⟨29, _⟩ => ⟨S256x2816, .bf16⟩
  | .local _ .vmem, ⟨30, _⟩ => ⟨S256x2816, .bf16⟩
  | .local _ .vmem, ⟨31, _⟩ => ⟨S256x2816, .bf16⟩
  | .local _ .vmem, ⟨32, _⟩ => ⟨S256x2816, .bf16⟩
  | .local _ .vmem, ⟨33, _⟩ => ⟨S256x2816, .bf16⟩
  | .local _ .vmem, ⟨34, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg10_1 : Ref sig .tc := ⟨.vmem, 31, rfl⟩
abbrev cc1_stg11_0 : Ref sig .tc := ⟨.vmem, 32, rfl⟩
abbrev cc1_stg11_1 : Ref sig .tc := ⟨.vmem, 33, rfl⟩
abbrev cc1_stg12_0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem8_1 : DmaSem sig := 27
abbrev cc1_sem9_0 : DmaSem sig := 28
abbrev cc1_sem9_1 : DmaSem sig := 29
abbrev cc1_sem10_0 : DmaSem sig := 30
abbrev cc1_sem10_1 : DmaSem sig := 31
abbrev cc1_sem11_0 : DmaSem sig := 32
abbrev cc1_sem11_1 : DmaSem sig := 33
abbrev cc1_sem12_0 : DmaSem sig := 34

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S2816x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2816x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2816x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x2816 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x2816 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x2816 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]
-- ==== ReferenceIdeal.lean ====
abbrev S8192x1024 : Shape := ⟨2, ![8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S8192x2816 : Shape := ⟨2, ![8192, 2816]⟩
abbrev S2816x1024 : Shape := ⟨2, ![2816, 1024]⟩

abbrev nBuf : Space → Nat
  | .hbm => 98
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S8192x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S1024x2816, .f32⟩
  | .hbm, ⟨28, _⟩ => ⟨S8192x2816, .f32⟩
  | .hbm, ⟨29, _⟩ => ⟨S1024x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S2816x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S1024, .f32⟩
  | .hbm, ⟨73, _⟩ => ⟨S8192x1024, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S8192x1024, .f32⟩
  | .hbm, ⟨78, _⟩ => ⟨S8192x1024, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S_, .f32⟩
  | .hbm, ⟨84, _⟩ => ⟨S8192, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .bf16⟩
  | .hbm, ⟨91, _⟩ => ⟨S8192x2816, .bf16⟩
  | .hbm, ⟨92, _⟩ => ⟨S8192x2816, .bf16⟩
  | .hbm, ⟨93, _⟩ => ⟨S8192x1024, .f32⟩
  | .hbm, ⟨94, _⟩ => ⟨S8192x2816, .bf16⟩
  | .hbm, ⟨95, _⟩ => ⟨S8192x2816, .bf16⟩
  | .hbm, ⟨96, _⟩ => ⟨S8192x2816, .bf16⟩
  | .hbm, ⟨97, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v21_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v21_1 : Ref sig .tc := ⟨.hbm, 42, rfl⟩
abbrev main_v21_0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_5 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_6 : Ref sig .tc := ⟨.hbm, 71, rfl⟩
abbrev main_v43 : Ref sig .tc := ⟨.hbm, 72, rfl⟩
abbrev main_v44 : Ref sig .tc := ⟨.hbm, 73, rfl⟩
abbrev main_cst_7 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_8 : Ref sig .tc := ⟨.hbm, 80, rfl⟩
abbrev main_v50 : Ref sig .tc := ⟨.hbm, 81, rfl⟩
abbrev main_v51 : Ref sig .tc := ⟨.hbm, 82, rfl⟩
abbrev main_cst_9 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩

abbrev nD : Nat := 1
abbrev τ : Topo := Topo.v7x

variable {F : FTy → Type} [FloatOps F]
-- ==== MixKernel.lean ====
abbrev S8192x1024 : Shape := ⟨2, ![8192, 1024]⟩
abbrev S1x1024 : Shape := ⟨2, ![1, 1024]⟩
abbrev S1x1024x4624 : Shape := ⟨3, ![1, 1024, 4624]⟩
abbrev S1x8x128x128 : Shape := ⟨4, ![1, 8, 128, 128]⟩
abbrev S1x8x128 : Shape := ⟨3, ![1, 8, 128]⟩
abbrev S1024x4624 : Shape := ⟨2, ![1024, 4624]⟩
abbrev S4624x1024 : Shape := ⟨2, ![4624, 1024]⟩
abbrev S2048x1024 : Shape := ⟨2, ![2048, 1024]⟩
abbrev S2576x1024 : Shape := ⟨2, ![2576, 1024]⟩
abbrev S_ : Shape := ⟨0, ![]⟩
abbrev S2688x1024 : Shape := ⟨2, ![2688, 1024]⟩
abbrev S8x128x128 : Shape := ⟨3, ![8, 128, 128]⟩
abbrev S8x128 : Shape := ⟨2, ![8, 128]⟩
abbrev S128x8 : Shape := ⟨2, ![128, 8]⟩
abbrev S8192x2048 : Shape := ⟨2, ![8192, 2048]⟩
abbrev S8192x1536 : Shape := ⟨2, ![8192, 1536]⟩
abbrev S8192x128 : Shape := ⟨2, ![8192, 128]⟩
abbrev S512x1024 : Shape := ⟨2, ![512, 1024]⟩
abbrev S512x2048 : Shape := ⟨2, ![512, 2048]⟩
abbrev S512x1536 : Shape := ⟨2, ![512, 1536]⟩
abbrev S512x128 : Shape := ⟨2, ![512, 128]⟩
abbrev S512 : Shape := ⟨1, ![512]⟩
abbrev S512x1 : Shape := ⟨2, ![512, 1]⟩
abbrev S512x2688 : Shape := ⟨2, ![512, 2688]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 26
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x4624, .f32⟩
  | .hbm, ⟨3, _⟩ => ⟨S1x1024, .f32⟩
  | .hbm, ⟨4, _⟩ => ⟨S1x1024, .f32⟩
  | .hbm, ⟨5, _⟩ => ⟨S1x8x128x128, .f32⟩
  | .hbm, ⟨6, _⟩ => ⟨S1x8x128, .f32⟩
  | .hbm, ⟨7, _⟩ => ⟨S1x1024, .f32⟩
  | .hbm, ⟨8, _⟩ => ⟨S1024x4624, .f32⟩
  | .hbm, ⟨9, _⟩ => ⟨S4624x1024, .f32⟩
  | .hbm, ⟨10, _⟩ => ⟨S4624x1024, .bf16⟩
  | .hbm, ⟨11, _⟩ => ⟨S2048x1024, .bf16⟩
  | .hbm, ⟨12, _⟩ => ⟨S2576x1024, .bf16⟩
  | .hbm, ⟨13, _⟩ => ⟨S_, .i32⟩
  | .hbm, ⟨14, _⟩ => ⟨S_, .bf16⟩
  | .hbm, ⟨15, _⟩ => ⟨S2688x1024, .bf16⟩
  | .hbm, ⟨16, _⟩ => ⟨S8x128x128, .f32⟩
  | .hbm, ⟨17, _⟩ => ⟨S8x128, .f32⟩
  | .hbm, ⟨18, _⟩ => ⟨S128x8, .f32⟩
  | .hbm, ⟨19, _⟩ => ⟨S8192x1024, .bf16⟩
  | .hbm, ⟨20, _⟩ => ⟨S8192x2048, .bf16⟩
  | .hbm, ⟨21, _⟩ => ⟨S8192x2048, .bf16⟩
  | .hbm, ⟨22, _⟩ => ⟨S8192x1024, .bf16⟩
  | .hbm, ⟨23, _⟩ => ⟨S8192x1536, .bf16⟩
  | .hbm, ⟨24, _⟩ => ⟨S8192x128, .f32⟩
  | .hbm, ⟨25, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2048x1024, .bf16⟩
  | .local _ .vmem, ⟨4, _⟩ => ⟨S2688x1024, .bf16⟩
  | .local _ .vmem, ⟨5, _⟩ => ⟨S1x1024, .f32⟩
  | .local _ .vmem, ⟨6, _⟩ => ⟨S1x1024, .f32⟩
  | .local _ .vmem, ⟨7, _⟩ => ⟨S8x128x128, .f32⟩
  | .local _ .vmem, ⟨8, _⟩ => ⟨S128x8, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S512x1024, .bf16⟩
  | .local _ .vmem, ⟨17, _⟩ => ⟨S512x1024, .bf16⟩
  | .local _ .vmem, ⟨18, _⟩ => ⟨S512x1536, .bf16⟩
  | .local _ .vmem, ⟨19, _⟩ => ⟨S512x1536, .bf16⟩
  | .local _ .vmem, ⟨20, _⟩ => ⟨S512x128, .f32⟩
  | .local _ .vmem, ⟨21, _⟩ => ⟨S512x128, .f32⟩
  | .local _ .vmem, ⟨22, _⟩ => ⟨S512x1024, .bf16⟩
  | .local _ .vmem, ⟨23, _⟩ => ⟨S512x1024, .bf16⟩
  | .local _ .vmem, ⟨24, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev main_v9_4 : Ref sig .tc := ⟨.hbm, 23, rfl⟩
abbrev main_v9_5 : Ref sig .tc := ⟨.hbm, 24, rfl⟩
abbrev main_v9_6 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2688x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1536 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MixKernelIdeal.lean ====
variable {F : FTy → Type} [FloatOps F] [Named F]
def κ : String → Option EReal := fun
  | "density" => some (((9465531 / 16777216) * (Real.sqrt 2)⁻¹ : ℝ) : EReal)
  | "half_sqrt" => some (((Real.sqrt 2)⁻¹ : ℝ) : EReal)
  | _ => none
-- ==== MixReferenceIdeal.lean ====
abbrev S8192x1024 : Shape := ⟨2, ![8192, 1024]⟩
abbrev S1x1024 : Shape := ⟨2, ![1, 1024]⟩
abbrev S1x1024x4624 : Shape := ⟨3, ![1, 1024, 4624]⟩
abbrev S1x8x128x128 : Shape := ⟨4, ![1, 8, 128, 128]⟩
abbrev S1x8x128 : Shape := ⟨3, ![1, 8, 128]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x4624 : Shape := ⟨2, ![1024, 4624]⟩
abbrev S8192x4624 : Shape := ⟨2, ![8192, 4624]⟩
abbrev S8192x1536 : Shape := ⟨2, ![8192, 1536]⟩
abbrev S8192x16 : Shape := ⟨2, ![8192, 16]⟩
abbrev S8192x2048 : Shape := ⟨2, ![8192, 2048]⟩
abbrev S8x128x128 : Shape := ⟨3, ![8, 128, 128]⟩
abbrev S8x128 : Shape := ⟨2, ![8, 128]⟩
abbrev S64x128x8x128 : Shape := ⟨4, ![64, 128, 8, 128]⟩
abbrev S128x128 : Shape := ⟨2, ![128, 128]⟩
abbrev S8x64x128x128 : Shape := ⟨4, ![8, 64, 128, 128]⟩
abbrev S128x8 : Shape := ⟨2, ![128, 8]⟩
abbrev S1x128x8x1 : Shape := ⟨4, ![1, 128, 8, 1]⟩
abbrev S8192x128 : Shape := ⟨2, ![8192, 128]⟩

abbrev nBuf : Space → Nat
  | .hbm => 144
  | .vmem => 0
  | .smem => 0
  | _ => 0

abbrev hbmTy0_0 (i : Nat) : BufTy := match i % 128 with
  | 0 => ⟨S8192x1024, .f32⟩
  | 1 => ⟨S1x1024, .f32⟩
  | 2 => ⟨S1x1024x4624, .f32⟩
  | 3 => ⟨S1x1024, .f32⟩
  | 4 => ⟨S1x1024, .f32⟩
  | 5 => ⟨S1x8x128x128, .f32⟩
  | 6 => ⟨S1x8x128, .f32⟩
  | 7 => ⟨S1x1024, .f32⟩
  | 8 => ⟨S1024, .f32⟩
  | 9 => ⟨S8192x1024, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x1, .f32⟩
  | 20 => ⟨S8192x1024, .f32⟩
  | 21 => ⟨S8192x1024, .f32⟩
  | 22 => ⟨S1x1024, .f32⟩
  | 23 => ⟨S8192x1024, .f32⟩
  | 24 => ⟨S8192x1024, .f32⟩
  | 25 => ⟨S1024x4624, .f32⟩
  | 26 => ⟨S8192x4624, .f32⟩
  | 27 => ⟨S8192x1024, .f32⟩
  | 28 => ⟨S8192x1024, .f32⟩
  | 29 => ⟨S8192x1024, .f32⟩
  | 30 => ⟨S8192x1536, .f32⟩
  | 31 => ⟨S8192x16, .f32⟩
  | 32 => ⟨S8192x2048, .f32⟩
  | 33 => ⟨S_, .f32⟩
  | 34 => ⟨S8192x2048, .f32⟩
  | 35 => ⟨S8192x2048, .f32⟩
  | 36 => ⟨S8192x2048, .f32⟩
  | 37 => ⟨S_, .f32⟩
  | 38 => ⟨S_, .f32⟩
  | 39 => ⟨S8192x2048, .f32⟩
  | 40 => ⟨S8192x2048, .f32⟩
  | 41 => ⟨S8192x2048, .f32⟩
  | 42 => ⟨S8192x2048, .f32⟩
  | 43 => ⟨S8192x2048, .f32⟩
  | 44 => ⟨S8192x2048, .f32⟩
  | 45 => ⟨S8192x2048, .f32⟩
  | 46 => ⟨S_, .f32⟩
  | 47 => ⟨S8192x2048, .f32⟩
  | 48 => ⟨S8192x2048, .f32⟩
  | 49 => ⟨S8192x2048, .f32⟩
  | 50 => ⟨S_, .f32⟩
  | 51 => ⟨S8192x2048, .f32⟩
  | 52 => ⟨S8192x2048, .f32⟩
  | 53 => ⟨S8192x2048, .f32⟩
  | 54 => ⟨S8192x2048, .f32⟩
  | 55 => ⟨S8192x2048, .f32⟩
  | 56 => ⟨S8192x2048, .f32⟩
  | 57 => ⟨S_, .f32⟩
  | 58 => ⟨S8192x2048, .f32⟩
  | 59 => ⟨S8192x2048, .f32⟩
  | 60 => ⟨S8192x2048, .f32⟩
  | 61 => ⟨S8192x1024, .f32⟩
  | 62 => ⟨S8192x1024, .f32⟩
  | 63 => ⟨S1024, .f32⟩
  | 64 => ⟨S1024, .f32⟩
  | 65 => ⟨S8x128x128, .f32⟩
  | 66 => ⟨S8x128, .f32⟩
  | 67 => ⟨S1024, .f32⟩
  | 68 => ⟨S_, .f32⟩
  | 69 => ⟨S8192, .f32⟩
  | 70 => ⟨S8192x1, .f32⟩
  | 71 => ⟨S_, .f32⟩
  | 72 => ⟨S8192x1, .f32⟩
  | 73 => ⟨S8192x1, .f32⟩
  | 74 => ⟨S8192x1024, .f32⟩
  | 75 => ⟨S8192x1024, .f32⟩
  | 76 => ⟨S8192x1024, .f32⟩
  | 77 => ⟨S_, .f32⟩
  | 78 => ⟨S8192, .f32⟩
  | 79 => ⟨S8192x1, .f32⟩
  | 80 => ⟨S_, .f32⟩
  | 81 => ⟨S8192x1, .f32⟩
  | 82 => ⟨S8192x1, .f32⟩
  | 83 => ⟨S_, .f32⟩
  | 84 => ⟨S8192x1, .f32⟩
  | 85 => ⟨S8192x1, .f32⟩
  | 86 => ⟨S8192x1, .f32⟩
  | 87 => ⟨S8192x1024, .f32⟩
  | 88 => ⟨S8192x1024, .f32⟩
  | 89 => ⟨S1x1024, .f32⟩
  | 90 => ⟨S8192x1024, .f32⟩
  | 91 => ⟨S8192x1024, .f32⟩
  | 92 => ⟨S1x1024, .f32⟩
  | 93 => ⟨S8192x1024, .f32⟩
  | 94 => ⟨S8192x1024, .f32⟩
  | 95 => ⟨S64x128x8x128, .f32⟩
  | 96 => ⟨S_, .i1⟩
  | 97 => ⟨S128x128, .i1⟩
  | 98 => ⟨S128x128, .i32⟩
  | 99 => ⟨S_, .i32⟩
  | 100 => ⟨S128x128, .i32⟩
  | 101 => ⟨S128x128, .i32⟩
  | 102 => ⟨S128x128, .i32⟩
  | 103 => ⟨S128x128, .i1⟩
  | 104 => ⟨S_, .i1⟩
  | 105 => ⟨S128x128, .i1⟩
  | 106 => ⟨S128x128, .i1⟩
  | 107 => ⟨S_, .f32⟩
  | 108 => ⟨S8x128x128, .f32⟩
  | 109 => ⟨S8x128x128, .i1⟩
  | 110 => ⟨S8x128x128, .f32⟩
  | 111 => ⟨S8x64x128x128, .f32⟩
  | 112 => ⟨S64x128x8x128, .f32⟩
  | 113 => ⟨S128x8, .f32⟩
  | 114 => ⟨S1x128x8x1, .f32⟩
  | 115 => ⟨S64x128x8x128, .f32⟩
  | 116 => ⟨S64x128x8x128, .f32⟩
  | 117 => ⟨S8192x1024, .f32⟩
  | 118 => ⟨S8192x1024, .f32⟩
  | 119 => ⟨S8192x1024, .f32⟩
  | 120 => ⟨S_, .f32⟩
  | 121 => ⟨S8192, .f32⟩
  | 122 => ⟨S8192x1, .f32⟩
  | 123 => ⟨S_, .f32⟩
  | 124 => ⟨S8192x1, .f32⟩
  | 125 => ⟨S8192x1, .f32⟩
  | 126 => ⟨S_, .f32⟩
  | 127 => ⟨S8192x1, .f32⟩
  | _ => ⟨S8192x1024, .f32⟩

abbrev hbmTy0_1 (i : Nat) : BufTy := match i % 128 with
  | 0 => ⟨S8192x1, .f32⟩
  | 1 => ⟨S8192x1, .f32⟩
  | 2 => ⟨S8192x1024, .f32⟩
  | 3 => ⟨S8192x1024, .f32⟩
  | 4 => ⟨S1x1024, .f32⟩
  | 5 => ⟨S8192x1024, .f32⟩
  | 6 => ⟨S8192x1024, .f32⟩
  | 7 => ⟨S8192x1024, .bf16⟩
  | 8 => ⟨S8192x2048, .bf16⟩
  | 9 => ⟨S8192x2048, .bf16⟩
  | 10 => ⟨S8192x1024, .bf16⟩
  | 11 => ⟨S8192x1536, .bf16⟩
  | 12 => ⟨S_, .i32⟩
  | 13 => ⟨S_, .f32⟩
  | 14 => ⟨S8192x128, .f32⟩
  | 15 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_v52 : Ref sig .tc := ⟨.hbm, 69, rfl⟩
abbrev main_v53 : Ref sig .tc := ⟨.hbm, 70, rfl⟩
abbrev main_cst_8 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_9 : Ref sig .tc := ⟨.hbm, 77, rfl⟩
abbrev main_v59 : Ref sig .tc := ⟨.hbm, 78, rfl⟩
abbrev main_v60 : Ref sig .tc := ⟨.hbm, 79, rfl⟩
abbrev main_cst_10 : Ref sig .tc := ⟨.hbm, 80, rfl⟩
abbrev main_v61 : Ref sig .tc := ⟨.hbm, 81, rfl⟩
abbrev main_v62 : Ref sig .tc := ⟨.hbm, 82, rfl⟩
abbrev main_cst_11 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_c : Ref sig .tc := ⟨.hbm, 96, rfl⟩
abbrev main_v75 : Ref sig .tc := ⟨.hbm, 97, rfl⟩
abbrev main_call0_v0 : Ref sig .tc := ⟨.hbm, 98, rfl⟩
abbrev main_call0_c : Ref sig .tc := ⟨.hbm, 99, rfl⟩
abbrev main_call0_v1 : Ref sig .tc := ⟨.hbm, 100, rfl⟩
abbrev main_call0_v2 : Ref sig .tc := ⟨.hbm, 101, rfl⟩
abbrev main_call0_v3 : Ref sig .tc := ⟨.hbm, 102, rfl⟩
abbrev main_call0_v4 : Ref sig .tc := ⟨.hbm, 103, rfl⟩
abbrev main_call0_c_0 : Ref sig .tc := ⟨.hbm, 104, rfl⟩
abbrev main_call0_v5 : Ref sig .tc := ⟨.hbm, 105, rfl⟩
abbrev main_v76 : Ref sig .tc := ⟨.hbm, 106, rfl⟩
abbrev main_cst_12 : Ref sig .tc := ⟨.hbm, 107, rfl⟩
abbrev main_v77 : Ref sig .tc := ⟨.hbm, 108, rfl⟩
abbrev main_call1_v0 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_13 : Ref sig .tc := ⟨.hbm, 120, rfl⟩
abbrev main_v88 : Ref sig .tc := ⟨.hbm, 121, rfl⟩
abbrev main_v89 : Ref sig .tc := ⟨.hbm, 122, rfl⟩
abbrev main_cst_14 : Ref sig .tc := ⟨.hbm, 123, rfl⟩
abbrev main_v90 : Ref sig .tc := ⟨.hbm, 124, rfl⟩
abbrev main_v91 : Ref sig .tc := ⟨.hbm, 125, rfl⟩
abbrev main_cst_15 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_c_16 : Ref sig .tc := ⟨.hbm, 140, rfl⟩
abbrev main_call2_v0 : Ref sig .tc := ⟨.hbm, 141, rfl⟩
abbrev main_v105 : Ref sig .tc := ⟨.hbm, 142, rfl⟩
abbrev main_v106 : Ref sig .tc := ⟨.hbm, 143, rfl⟩

abbrev nD : Nat := 1
abbrev τ : Topo := Topo.v7x

variable {F : FTy → Type} [FloatOps F]
-- ==== MixBwdKernel.lean ====
abbrev S8192x1024 : Shape := ⟨2, ![8192, 1024]⟩
abbrev S1x1024 : Shape := ⟨2, ![1, 1024]⟩
abbrev S1x1024x4624 : Shape := ⟨3, ![1, 1024, 4624]⟩
abbrev S1x8x128x128 : Shape := ⟨4, ![1, 8, 128, 128]⟩
abbrev S1x8x128 : Shape := ⟨3, ![1, 8, 128]⟩
abbrev S8192x2688 : Shape := ⟨2, ![8192, 2688]⟩
abbrev S1024x4624 : Shape := ⟨2, ![1024, 4624]⟩
abbrev S4624x1024 : Shape := ⟨2, ![4624, 1024]⟩
abbrev S2048x1024 : Shape := ⟨2, ![2048, 1024]⟩
abbrev S2576x1024 : Shape := ⟨2, ![2576, 1024]⟩
abbrev S_ : Shape := ⟨0, ![]⟩
abbrev S2688x1024 : Shape := ⟨2, ![2688, 1024]⟩
abbrev S1024 : Shape := ⟨1, ![1024]⟩
abbrev S8192 : Shape := ⟨1, ![8192]⟩
abbrev S8192x1 : Shape := ⟨2, ![8192, 1]⟩
abbrev S1024x2048 : Shape := ⟨2, ![1024, 2048]⟩
abbrev S8192x2048 : Shape := ⟨2, ![8192, 2048]⟩
abbrev S8x128x128 : Shape := ⟨3, ![8, 128, 128]⟩
abbrev S8x128 : Shape := ⟨2, ![8, 128]⟩
abbrev S128x8 : Shape := ⟨2, ![128, 8]⟩
abbrev S256x1024 : Shape := ⟨2, ![256, 1024]⟩
abbrev S256x2048 : Shape := ⟨2, ![256, 2048]⟩
abbrev S256x2688 : Shape := ⟨2, ![256, 2688]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x1 : Shape := ⟨2, ![128, 1]⟩
abbrev S1x8 : Shape := ⟨2, ![1, 8]⟩
abbrev S128 : Shape := ⟨1, ![128]⟩

abbrev nBuf : Space → Nat
  | .hbm => 80
  | .vmem => 32
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x4624, .f32⟩
  | .hbm, ⟨3, _⟩ => ⟨S1x1024, .f32⟩
  | .hbm, ⟨4, _⟩ => ⟨S1x1024, .f32⟩
  | .hbm, ⟨5, _⟩ => ⟨S1x8x128x128, .f32⟩
  | .hbm, ⟨6, _⟩ => ⟨S1x8x128, .f32⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S8192x2688, .bf16⟩
  | .hbm, ⟨11, _⟩ => ⟨S1024x4624, .f32⟩
  | .hbm, ⟨12, _⟩ => ⟨S4624x1024, .f32⟩
  | .hbm, ⟨13, _⟩ => ⟨S4624x1024, .bf16⟩
  | .hbm, ⟨14, _⟩ => ⟨S2048x1024, .bf16⟩
  | .hbm, ⟨15, _⟩ => ⟨S2576x1024, .bf16⟩
  | .hbm, ⟨16, _⟩ => ⟨S_, .i32⟩
  | .hbm, ⟨17, _⟩ => ⟨S_, .bf16⟩
  | .hbm, ⟨18, _⟩ => ⟨S2688x1024, .bf16⟩
  | .hbm, ⟨19, _⟩ => ⟨S1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S1024x4624, .f32⟩
  | .hbm, ⟨37, _⟩ => ⟨S1024x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S_, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S_, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S_, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .bf16⟩
  | .hbm, ⟨68, _⟩ => ⟨S8192x2048, .bf16⟩
  | .hbm, ⟨69, _⟩ => ⟨S8x128x128, .f32⟩
  | .hbm, ⟨70, _⟩ => ⟨S8x128, .f32⟩
  | .hbm, ⟨71, _⟩ => ⟨S128x8, .f32⟩
  | .hbm, ⟨72, _⟩ => ⟨S8192x1024, .f32⟩
  | .hbm, ⟨73, _⟩ => ⟨S8192x2048, .bf16⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S8x128x128, .f32⟩
  | .hbm, ⟨78, _⟩ => ⟨S128x8, .f32⟩
  | .hbm, ⟨79, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x1024, .bf16⟩
  | .local _ .vmem, ⟨10, _⟩ => ⟨S256x1024, .bf16⟩
  | .local _ .vmem, ⟨11, _⟩ => ⟨S256x2688, .bf16⟩
  | .local _ .vmem, ⟨12, _⟩ => ⟨S256x2688, .bf16⟩
  | .local _ .vmem, ⟨13, _⟩ => ⟨S2048x1024, .bf16⟩
  | .local _ .vmem, ⟨14, _⟩ => ⟨S2688x1024, .bf16⟩
  | .local _ .vmem, ⟨15, _⟩ => ⟨S1x1024, .f32⟩
  | .local _ .vmem, ⟨16, _⟩ => ⟨S1x1024, .f32⟩
  | .local _ .vmem, ⟨17, _⟩ => ⟨S8x128x128, .f32⟩
  | .local _ .vmem, ⟨18, _⟩ => ⟨S128x8, .f32⟩
  | .local _ .vmem, ⟨19, _⟩ => ⟨S1x1024, .f32⟩
  | .local _ .vmem, ⟨20, _⟩ => ⟨S256x1024, .f32⟩
  | .local _ .vmem, ⟨21, _⟩ => ⟨S256x1024, .f32⟩
  | .local _ .vmem, ⟨22, _⟩ => ⟨S256x2048, .bf16⟩
  | .local _ .vmem, ⟨23, _⟩ => ⟨S256x2048, .bf16⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S8x128x128, .f32⟩
  | .local _ .vmem, ⟨28, _⟩ => ⟨S128x8, .f32⟩
  | .local _ .vmem, ⟨29, _⟩ => ⟨S1x1024, .f32⟩
  | .local _ .vmem, ⟨30, _⟩ => ⟨S256x1024, .f32⟩
  | .local _ .vmem, ⟨31, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50_0 : Ref sig .tc := ⟨.hbm, 72, rfl⟩
abbrev main_v50_1 : Ref sig .tc := ⟨.hbm, 73, rfl⟩
abbrev main_v50_2 : Ref sig .tc := ⟨.hbm, 74, rfl⟩
abbrev main_v50_3 : Ref sig .tc := ⟨.hbm, 75, rfl⟩
abbrev main_v50_4 : Ref sig .tc := ⟨.hbm, 76, rfl⟩
abbrev main_v50_5 : Ref sig .tc := ⟨.hbm, 77, rfl⟩
abbrev main_v50_6 : Ref sig .tc := ⟨.hbm, 78, rfl⟩
abbrev main_v50_7 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg21_0 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem21_0 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2688 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2688x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x8 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== MixBwdReferenceIdeal.lean ====
abbrev S8192x1024 : Shape := ⟨2, ![8192, 1024]⟩
abbrev S1x1024 : Shape := ⟨2, ![1, 1024]⟩
abbrev S1x1024x4624 : Shape := ⟨3, ![1, 1024, 4624]⟩
abbrev S1x8x128x128 : Shape := ⟨4, ![1, 8, 128, 128]⟩
abbrev S1x8x128 : Shape := ⟨3, ![1, 8, 128]⟩
abbrev S8192x2688 : Shape := ⟨2, ![8192, 2688]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x4624 : Shape := ⟨2, ![1024, 4624]⟩
abbrev S8192x4624 : Shape := ⟨2, ![8192, 4624]⟩
abbrev S8192x2048 : Shape := ⟨2, ![8192, 2048]⟩
abbrev S8x128x128 : Shape := ⟨3, ![8, 128, 128]⟩
abbrev S8x128 : Shape := ⟨2, ![8, 128]⟩
abbrev S64x128x8x128 : Shape := ⟨4, ![64, 128, 8, 128]⟩
abbrev S128x128 : Shape := ⟨2, ![128, 128]⟩
abbrev S8x64x128x128 : Shape := ⟨4, ![8, 64, 128, 128]⟩
abbrev S128x8 : Shape := ⟨2, ![128, 8]⟩
abbrev S1x128x8x1 : Shape := ⟨4, ![1, 128, 8, 1]⟩
abbrev S8192x2576 : Shape := ⟨2, ![8192, 2576]⟩

abbrev nBuf : Space → Nat
  | .hbm => 266
  | .vmem => 0
  | .smem => 0
  | _ => 0

abbrev hbmTy0_0 (i : Nat) : BufTy := match i % 128 with
  | 0 => ⟨S8192x1024, .f32⟩
  | 1 => ⟨S1x1024, .f32⟩
  | 2 => ⟨S1x1024x4624, .f32⟩
  | 3 => ⟨S1x1024, .f32⟩
  | 4 => ⟨S1x1024, .f32⟩
  | 5 => ⟨S1x8x128x128, .f32⟩
  | 6 => ⟨S1x8x128, .f32⟩
  | 7 => ⟨S1x1024, .f32⟩
  | 8 => ⟨S8192x1024, .f32⟩
  | 9 => ⟨S8192x1024, .bf16⟩
  | 10 => ⟨S8192x2688, .bf16⟩
  | 11 => ⟨S1024, .f32⟩
  | 12 => ⟨S8192x1024, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1, .f32⟩
  | 23 => ⟨S8192x1, .f32⟩
  | 24 => ⟨S_, .f32⟩
  | 25 => ⟨S8192x1, .f32⟩
  | 26 => ⟨S8192x1, .f32⟩
  | 27 => ⟨S8192x1024, .f32⟩
  | 28 => ⟨S8192x1024, .f32⟩
  | 29 => ⟨S1x1024, .f32⟩
  | 30 => ⟨S8192x1024, .f32⟩
  | 31 => ⟨S8192x1024, .f32⟩
  | 32 => ⟨S1024x4624, .f32⟩
  | 33 => ⟨S8192x4624, .f32⟩
  | 34 => ⟨S8192x2048, .f32⟩
  | 35 => ⟨S_, .f32⟩
  | 36 => ⟨S8192x2048, .f32⟩
  | 37 => ⟨S8192x2048, .f32⟩
  | 38 => ⟨S8192x2048, .f32⟩
  | 39 => ⟨S_, .f32⟩
  | 40 => ⟨S8192x2048, .f32⟩
  | 41 => ⟨S8192x2048, .f32⟩
  | 42 => ⟨S8192x2048, .f32⟩
  | 43 => ⟨S8192x2048, .f32⟩
  | 44 => ⟨S8192x2048, .f32⟩
  | 45 => ⟨S8192x2048, .f32⟩
  | 46 => ⟨S8192x2048, .f32⟩
  | 47 => ⟨S8192x1024, .f32⟩
  | 48 => ⟨S8192x1024, .f32⟩
  | 49 => ⟨S1024, .f32⟩
  | 50 => ⟨S1024, .f32⟩
  | 51 => ⟨S8x128x128, .f32⟩
  | 52 => ⟨S8x128, .f32⟩
  | 53 => ⟨S1024, .f32⟩
  | 54 => ⟨S_, .f32⟩
  | 55 => ⟨S8192, .f32⟩
  | 56 => ⟨S8192x1, .f32⟩
  | 57 => ⟨S_, .f32⟩
  | 58 => ⟨S8192x1, .f32⟩
  | 59 => ⟨S8192x1, .f32⟩
  | 60 => ⟨S8192x1024, .f32⟩
  | 61 => ⟨S8192x1024, .f32⟩
  | 62 => ⟨S8192x1024, .f32⟩
  | 63 => ⟨S_, .f32⟩
  | 64 => ⟨S8192, .f32⟩
  | 65 => ⟨S8192x1, .f32⟩
  | 66 => ⟨S_, .f32⟩
  | 67 => ⟨S8192x1, .f32⟩
  | 68 => ⟨S8192x1, .f32⟩
  | 69 => ⟨S_, .f32⟩
  | 70 => ⟨S8192x1, .f32⟩
  | 71 => ⟨S8192x1, .f32⟩
  | 72 => ⟨S8192x1, .f32⟩
  | 73 => ⟨S8192x1, .f32⟩
  | 74 => ⟨S_, .f32⟩
  | 75 => ⟨S8192x1, .f32⟩
  | 76 => ⟨S8192x1, .f32⟩
  | 77 => ⟨S8192x1024, .f32⟩
  | 78 => ⟨S8192x1024, .f32⟩
  | 79 => ⟨S1x1024, .f32⟩
  | 80 => ⟨S8192x1024, .f32⟩
  | 81 => ⟨S8192x1024, .f32⟩
  | 82 => ⟨S1x1024, .f32⟩
  | 83 => ⟨S8192x1024, .f32⟩
  | 84 => ⟨S8192x1024, .f32⟩
  | 85 => ⟨S64x128x8x128, .f32⟩
  | 86 => ⟨S_, .i1⟩
  | 87 => ⟨S128x128, .i1⟩
  | 88 => ⟨S128x128, .i32⟩
  | 89 => ⟨S_, .i32⟩
  | 90 => ⟨S128x128, .i32⟩
  | 91 => ⟨S128x128, .i32⟩
  | 92 => ⟨S128x128, .i32⟩
  | 93 => ⟨S128x128, .i1⟩
  | 94 => ⟨S_, .i1⟩
  | 95 => ⟨S128x128, .i1⟩
  | 96 => ⟨S128x128, .i1⟩
  | 97 => ⟨S_, .f32⟩
  | 98 => ⟨S8x128x128, .f32⟩
  | 99 => ⟨S8x128x128, .i1⟩
  | 100 => ⟨S8x128x128, .f32⟩
  | 101 => ⟨S_, .f32⟩
  | 102 => ⟨S8x128x128, .f32⟩
  | 103 => ⟨S8x64x128x128, .f32⟩
  | 104 => ⟨S64x128x8x128, .f32⟩
  | 105 => ⟨S128x8, .f32⟩
  | 106 => ⟨S1x128x8x1, .f32⟩
  | 107 => ⟨S64x128x8x128, .f32⟩
  | 108 => ⟨S64x128x8x128, .f32⟩
  | 109 => ⟨S8192x1024, .f32⟩
  | 110 => ⟨S8192x1024, .f32⟩
  | 111 => ⟨S8192x1024, .f32⟩
  | 112 => ⟨S_, .f32⟩
  | 113 => ⟨S8192, .f32⟩
  | 114 => ⟨S8192x1, .f32⟩
  | 115 => ⟨S_, .f32⟩
  | 116 => ⟨S8192x1, .f32⟩
  | 117 => ⟨S8192x1, .f32⟩
  | 118 => ⟨S_, .f32⟩
  | 119 => ⟨S8192x1, .f32⟩
  | 120 => ⟨S8192x1, .f32⟩
  | 121 => ⟨S8192x1, .f32⟩
  | 122 => ⟨S8192x1, .f32⟩
  | 123 => ⟨S_, .f32⟩
  | 124 => ⟨S8192x1, .f32⟩
  | 125 => ⟨S8192x1, .f32⟩
  | 126 => ⟨S8192x1024, .f32⟩
  | 127 => ⟨S8192x1024, .f32⟩
  | _ => ⟨S8192x1024, .f32⟩

abbrev hbmTy0_1 (i : Nat) : BufTy := match i % 128 with
  | 0 => ⟨S1x1024, .f32⟩
  | 1 => ⟨S8192x1024, .f32⟩
  | 2 => ⟨S8192x1024, .f32⟩
  | 3 => ⟨S8192x1024, .f32⟩
  | 4 => ⟨S8192x1024, .f32⟩
  | 5 => ⟨S_, .f32⟩
  | 6 => ⟨S1024, .f32⟩
  | 7 => ⟨S1x1024, .f32⟩
  | 8 => ⟨S8192x1024, .f32⟩
  | 9 => ⟨S8192x1024, .f32⟩
  | 10 => ⟨S_, .f32⟩
  | 11 => ⟨S1024, .f32⟩
  | 12 => ⟨S8192x1024, .f32⟩
  | 13 => ⟨S_, .f32⟩
  | 14 => ⟨S8192, .f32⟩
  | 15 => ⟨S8192x1, .f32⟩
  | 16 => ⟨S8192x1024, .f32⟩
  | 17 => ⟨S8192x1024, .f32⟩
  | 18 => ⟨S8192x1, .f32⟩
  | 19 => ⟨S_, .f32⟩
  | 20 => ⟨S8192x1, .f32⟩
  | 21 => ⟨S8192x1, .f32⟩
  | 22 => ⟨S_, .f32⟩
  | 23 => ⟨S8192, .f32⟩
  | 24 => ⟨S8192x1024, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S8192x1024, .f32⟩
  | 31 => ⟨S64x128x8x128, .f32⟩
  | 32 => ⟨S_, .f32⟩
  | 33 => ⟨S128x8, .f32⟩
  | 34 => ⟨S1x128x8x1, .f32⟩
  | 35 => ⟨S_, .f32⟩
  | 36 => ⟨S128x8, .f32⟩
  | 37 => ⟨S8x128, .f32⟩
  | 38 => ⟨S8x64x128x128, .f32⟩
  | 39 => ⟨S8x128x128, .f32⟩
  | 40 => ⟨S8x64x128x128, .f32⟩
  | 41 => ⟨S64x128x8x128, .f32⟩
  | 42 => ⟨S_, .f32⟩
  | 43 => ⟨S8x128x128, .f32⟩
  | 44 => ⟨S8x128x128, .f32⟩
  | 45 => ⟨S8192x1024, .f32⟩
  | 46 => ⟨S_, .f32⟩
  | 47 => ⟨S1024, .f32⟩
  | 48 => ⟨S1x1024, .f32⟩
  | 49 => ⟨S_, .f32⟩
  | 50 => ⟨S1024, .f32⟩
  | 51 => ⟨S8192x1024, .f32⟩
  | 52 => ⟨S_, .f32⟩
  | 53 => ⟨S1024, .f32⟩
  | 54 => ⟨S1x1024, .f32⟩
  | 55 => ⟨S8192x1024, .f32⟩
  | 56 => ⟨S8192x1024, .f32⟩
  | 57 => ⟨S_, .f32⟩
  | 58 => ⟨S1024, .f32⟩
  | 59 => ⟨S8192x1024, .f32⟩
  | 60 => ⟨S_, .f32⟩
  | 61 => ⟨S8192, .f32⟩
  | 62 => ⟨S8192x1, .f32⟩
  | 63 => ⟨S8192x1024, .f32⟩
  | 64 => ⟨S8192x1024, .f32⟩
  | 65 => ⟨S8192x1, .f32⟩
  | 66 => ⟨S_, .f32⟩
  | 67 => ⟨S8192x1, .f32⟩
  | 68 => ⟨S8192x1, .f32⟩
  | 69 => ⟨S_, .f32⟩
  | 70 => ⟨S8192, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S8192x1024, .f32⟩
  | 77 => ⟨S_, .f32⟩
  | 78 => ⟨S8192, .f32⟩
  | 79 => ⟨S8192x1, .f32⟩
  | 80 => ⟨S_, .f32⟩
  | 81 => ⟨S8192x1, .f32⟩
  | 82 => ⟨S8192x1, .f32⟩
  | 83 => ⟨S_, .f32⟩
  | 84 => ⟨S8192, .f32⟩
  | 85 => ⟨S8192x1024, .f32⟩
  | 86 => ⟨S8192x1024, .f32⟩
  | 87 => ⟨S8192x2048, .f32⟩
  | 88 => ⟨S8192x2048, .f32⟩
  | 89 => ⟨S8192x2048, .f32⟩
  | 90 => ⟨S_, .f32⟩
  | 91 => ⟨S8192x2048, .f32⟩
  | 92 => ⟨S8192x2048, .f32⟩
  | 93 => ⟨S8192x2048, .f32⟩
  | 94 => ⟨S_, .f32⟩
  | 95 => ⟨S8192x2048, .f32⟩
  | 96 => ⟨S8192x2048, .f32⟩
  | 97 => ⟨S8192x2048, .f32⟩
  | 98 => ⟨S_, .f32⟩
  | 99 => ⟨S8192x2048, .f32⟩
  | 100 => ⟨S8192x2048, .f32⟩
  | 101 => ⟨S8192x2048, .f32⟩
  | 102 => ⟨S8192x2576, .bf16⟩
  | 103 => ⟨S8192x2576, .f32⟩
  | 104 => ⟨S8192x4624, .f32⟩
  | 105 => ⟨S8192x1024, .f32⟩
  | 106 => ⟨S8192x1024, .f32⟩
  | 107 => ⟨S_, .f32⟩
  | 108 => ⟨S1024, .f32⟩
  | 109 => ⟨S1x1024, .f32⟩
  | 110 => ⟨S8192x1024, .f32⟩
  | 111 => ⟨S8192x1024, .f32⟩
  | 112 => ⟨S_, .f32⟩
  | 113 => ⟨S1024, .f32⟩
  | 114 => ⟨S8192x1024, .f32⟩
  | 115 => ⟨S_, .f32⟩
  | 116 => ⟨S8192, .f32⟩
  | 117 => ⟨S8192x1, .f32⟩
  | 118 => ⟨S8192x1024, .f32⟩
  | 119 => ⟨S8192x1024, .f32⟩
  | 120 => ⟨S8192x1, .f32⟩
  | 121 => ⟨S_, .f32⟩
  | 122 => ⟨S8192x1, .f32⟩
  | 123 => ⟨S8192x1, .f32⟩
  | 124 => ⟨S_, .f32⟩
  | 125 => ⟨S8192, .f32⟩
  | 126 => ⟨S8192x1024, .f32⟩
  | 127 => ⟨S8192x1024, .f32⟩
  | _ => ⟨S8192x1024, .f32⟩

abbrev hbmTy0_2 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x2048, .bf16⟩
  | 5 => ⟨S1x1024, .f32⟩
  | 6 => ⟨S1x1024, .f32⟩
  | 7 => ⟨S1x1024, .f32⟩
  | 8 => ⟨S128x8, .f32⟩
  | 9 => ⟨S1x1024, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c : Ref sig .tc := ⟨.hbm, 86, rfl⟩
abbrev main_v63 : Ref sig .tc := ⟨.hbm, 87, rfl⟩
abbrev main_call0_v0 : Ref sig .tc := ⟨.hbm, 88, rfl⟩
abbrev main_call0_c : Ref sig .tc := ⟨.hbm, 89, rfl⟩
abbrev main_call0_v1 : Ref sig .tc := ⟨.hbm, 90, rfl⟩
abbrev main_call0_v2 : Ref sig .tc := ⟨.hbm, 91, rfl⟩
abbrev main_call0_v3 : Ref sig .tc := ⟨.hbm, 92, rfl⟩
abbrev main_call0_v4 : Ref sig .tc := ⟨.hbm, 93, rfl⟩
abbrev main_call0_c_0 : Ref sig .tc := ⟨.hbm, 94, rfl⟩
abbrev main_call0_v5 : Ref sig .tc := ⟨.hbm, 95, rfl⟩
abbrev main_v64 : Ref sig .tc := ⟨.hbm, 96, rfl⟩
abbrev main_cst_11 : Ref sig .tc := ⟨.hbm, 97, rfl⟩
abbrev main_v65 : Ref sig .tc := ⟨.hbm, 98, rfl⟩
abbrev main_v66_1 : Ref sig .tc := ⟨.hbm, 99, rfl⟩
abbrev main_v66_0 : Ref sig .tc := ⟨.hbm, 100, rfl⟩
abbrev main_call1_cst : Ref sig .tc := ⟨.hbm, 101, rfl⟩
abbrev main_v66_2 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_12 : Ref sig .tc := ⟨.hbm, 112, rfl⟩
abbrev main_v76 : Ref sig .tc := ⟨.hbm, 113, rfl⟩
abbrev main_v77 : Ref sig .tc := ⟨.hbm, 114, rfl⟩
abbrev main_cst_13 : Ref sig .tc := ⟨.hbm, 115, rfl⟩
abbrev main_v78 : Ref sig .tc := ⟨.hbm, 116, rfl⟩
abbrev main_v79 : Ref sig .tc := ⟨.hbm, 117, rfl⟩
abbrev main_cst_14 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_15 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_16 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_17 : Ref sig .tc := ⟨.hbm, 138, rfl⟩
abbrev main_v97 : Ref sig .tc := ⟨.hbm, 139, rfl⟩
abbrev main_v98 : Ref sig .tc := ⟨.hbm, 140, rfl⟩
abbrev main_cst_18 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst_19 : Ref sig .tc := ⟨.hbm, 147, rfl⟩
abbrev main_v104 : Ref sig .tc := ⟨.hbm, 148, rfl⟩
abbrev main_v105 : Ref sig .tc := ⟨.hbm, 149, rfl⟩
abbrev main_cst_20 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_cst_21 : Ref sig .tc := ⟨.hbm, 160, rfl⟩
abbrev main_v115 : Ref sig .tc := ⟨.hbm, 161, rfl⟩
abbrev main_v116 : Ref sig .tc := ⟨.hbm, 162, rfl⟩
abbrev main_cst_22 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_call2_cst : Ref sig .tc := ⟨.hbm, 170, rfl⟩
abbrev main_call2_v0 : Ref sig .tc := ⟨.hbm, 171, rfl⟩
abbrev main_v123 : Ref sig .tc := ⟨.hbm, 172, rfl⟩
abbrev main_v124 : Ref sig .tc := ⟨.hbm, 173, rfl⟩
abbrev main_cst_23 : Ref sig .tc := ⟨.hbm, 174, rfl⟩
abbrev main_v125 : Ref sig .tc := ⟨.hbm, 175, rfl⟩
abbrev main_v126 : Ref sig .tc := ⟨.hbm, 176, rfl⟩
abbrev main_cst_24 : Ref sig .tc := ⟨.hbm, 177, rfl⟩
abbrev main_v127 : Ref sig .tc := ⟨.hbm, 178, rfl⟩
abbrev main_v128 : Ref sig .tc := ⟨.hbm, 179, rfl⟩
abbrev main_cst_25 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_cst_26 : Ref sig .tc := ⟨.hbm, 185, rfl⟩
abbrev main_v133 : Ref sig .tc := ⟨.hbm, 186, rfl⟩
abbrev main_v134 : Ref sig .tc := ⟨.hbm, 187, rfl⟩
abbrev main_cst_27 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_cst_28 : Ref sig .tc := ⟨.hbm, 194, rfl⟩
abbrev main_v140 : Ref sig .tc := ⟨.hbm, 195, rfl⟩
abbrev main_v141 : Ref sig .tc := ⟨.hbm, 196, rfl⟩
abbrev main_cst_29 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_cst_30 : Ref sig .tc := ⟨.hbm, 205, rfl⟩
abbrev main_v149 : Ref sig .tc := ⟨.hbm, 206, rfl⟩
abbrev main_v150 : Ref sig .tc := ⟨.hbm, 207, rfl⟩
abbrev main_cst_31 : Ref sig .tc := ⟨.hbm, 208, rfl⟩
abbrev main_v151 : Ref sig .tc := ⟨.hbm, 209, rfl⟩
abbrev main_v152 : Ref sig .tc := ⟨.hbm, 210, rfl⟩
abbrev main_cst_32 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_cst_33 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_cst_34 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_cst_35 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_cst_36 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_cst_37 : Ref sig .tc := ⟨.hbm, 240, rfl⟩
abbrev main_v177 : Ref sig .tc := ⟨.hbm, 241, rfl⟩
abbrev main_v178 : Ref sig .tc := ⟨.hbm, 242, rfl⟩
abbrev main_cst_38 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_cst_39 : Ref sig .tc := ⟨.hbm, 249, rfl⟩
abbrev main_v184 : Ref sig .tc := ⟨.hbm, 250, rfl⟩
abbrev main_v185 : Ref sig .tc := ⟨.hbm, 251, rfl⟩
abbrev main_cst_40 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩

abbrev nD : Nat := 1
abbrev τ : Topo := Topo.v7x

variable {F : FTy → Type} [FloatOps F]
-- ==== Ffn2Kernel.lean ====
abbrev S8192x1024 : Shape := ⟨2, ![8192, 1024]⟩
abbrev S1x2048x1024 : Shape := ⟨3, ![1, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S2048x1024 : Shape := ⟨2, ![2048, 1024]⟩
abbrev S8192x2816 : Shape := ⟨2, ![8192, 2816]⟩
abbrev S256x1024 : Shape := ⟨2, ![256, 1024]⟩
abbrev S256x2816 : Shape := ⟨2, ![256, 2816]⟩
abbrev S1024x1024 : Shape := ⟨2, ![1024, 1024]⟩
abbrev S256 : Shape := ⟨1, ![256]⟩
abbrev S256x1 : Shape := ⟨2, ![256, 1]⟩
abbrev S1024 : Shape := ⟨1, ![1024]⟩

abbrev nBuf : Space → Nat
  | .hbm => 31
  | .vmem => 47
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S1x2048x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S8192x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | .hbm, ⟨12, _⟩ => ⟨S1024x2816, .f32⟩
  | .hbm, ⟨13, _⟩ => ⟨S2816x1024, .f32⟩
  | .hbm, ⟨14, _⟩ => ⟨S2816x1024, .bf16⟩
  | .hbm, ⟨15, _⟩ => ⟨S2816x1024, .f32⟩
  | .hbm, ⟨16, _⟩ => ⟨S2816x1024, .bf16⟩
  | .hbm, ⟨17, _⟩ => ⟨S2048x1024, .f32⟩
  | .hbm, ⟨18, _⟩ => ⟨S2048x1024, .bf16⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S8192x2816, .bf16⟩
  | .hbm, ⟨23, _⟩ => ⟨S8192x2816, .bf16⟩
  | .hbm, ⟨24, _⟩ => ⟨S8192x1024, .f32⟩
  | .hbm, ⟨25, _⟩ => ⟨S8192x2816, .bf16⟩
  | .hbm, ⟨26, _⟩ => ⟨S8192x2816, .bf16⟩
  | .hbm, ⟨27, _⟩ => ⟨S8192x2816, .bf16⟩
  | .hbm, ⟨28, _⟩ => ⟨S1x1024, .f32⟩
  | .hbm, ⟨29, _⟩ => ⟨S8192x1024, .bf16⟩
  | .hbm, ⟨30, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S2048x1024, .bf16⟩
  | .local _ .vmem, ⟨7, _⟩ => ⟨S1x1024, .f32⟩
  | .local _ .vmem, ⟨8, _⟩ => ⟨S2816x1024, .bf16⟩
  | .local _ .vmem, ⟨9, _⟩ => ⟨S2816x1024, .bf16⟩
  | .local _ .vmem, ⟨10, _⟩ => ⟨S2816x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S1x1024, .f32⟩
  | .local _ .vmem, ⟨26, _⟩ => ⟨S256x2816, .bf16⟩
  | .local _ .vmem, ⟨27, _⟩ => ⟨S256x2816, .bf16⟩
  | .local _ .vmem, ⟨28, _⟩ => ⟨S256x2816, .bf16⟩
  | .local _ .vmem, ⟨29, _⟩ => ⟨S256x2816, .bf16⟩
  | .local _ .vmem, ⟨30, _⟩ => ⟨S2816x1024, .bf16⟩
  | .local _ .vmem, ⟨31, _⟩ => ⟨S2816x1024, .bf16⟩
  | .local _ .vmem, ⟨32, _⟩ => ⟨S2816x1024, .bf16⟩
  | .local _ .vmem, ⟨33, _⟩ => ⟨S2048x1024, .bf16⟩
  | .local _ .vmem, ⟨34, _⟩ => ⟨S256x1024, .f32⟩
  | .local _ .vmem, ⟨35, _⟩ => ⟨S256x1024, .f32⟩
  | .local _ .vmem, ⟨36, _⟩ => ⟨S256x2816, .bf16⟩
  | .local _ .vmem, ⟨37, _⟩ => ⟨S256x2816, .bf16⟩
  | .local _ .vmem, ⟨38, _⟩ => ⟨S256x2816, .bf16⟩
  | .local _ .vmem, ⟨39, _⟩ => ⟨S256x2816, .bf16⟩
  | .local _ .vmem, ⟨40, _⟩ => ⟨S256x2816, .bf16⟩
  | .local _ .vmem, ⟨41, _⟩ => ⟨S256x2816, .bf16⟩
  | .local _ .vmem, ⟨42, _⟩ => ⟨S1x1024, .f32⟩
  | .local _ .vmem, ⟨43, _⟩ => ⟨S256x1024, .bf16⟩
  | .local _ .vmem, ⟨44, _⟩ => ⟨S256x1024, .bf16⟩
  | .local _ .vmem, ⟨45, _⟩ => ⟨S256x1024, .bf16⟩
  | .local _ .vmem, ⟨46, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v10_4 : Ref sig .tc := ⟨.hbm, 23, rfl⟩
abbrev main_v11_0 : Ref sig .tc := ⟨.hbm, 24, rfl⟩
abbrev main_v11_1 : Ref sig .tc := ⟨.hbm, 25, rfl⟩
abbrev main_v11_2 : Ref sig .tc := ⟨.hbm, 26, rfl⟩
abbrev main_v11_3 : Ref sig .tc := ⟨.hbm, 27, rfl⟩
abbrev main_v11_4 : Ref sig .tc := ⟨.hbm, 28, rfl⟩
abbrev main_v11_5 : Ref sig .tc := ⟨.hbm, 29, rfl⟩
abbrev main_v11_6 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg6_0 : Ref sig .tc := ⟨.vmem, 31, rfl⟩
abbrev cc1_stg7_0 : Ref sig .tc := ⟨.vmem, 32, rfl⟩
abbrev cc1_stg8_0 : Ref sig .tc := ⟨.vmem, 33, rfl⟩
abbrev cc1_stg9_0 : Ref sig .tc := ⟨.vmem, 34, rfl⟩
abbrev cc1_stg9_1 : Ref sig .tc := ⟨.vmem, 35, rfl⟩
abbrev cc1_stg10_0 : Ref sig .tc := ⟨.vmem, 36, rfl⟩
abbrev cc1_stg10_1 : Ref sig .tc := ⟨.vmem, 37, rfl⟩
abbrev cc1_stg11_0 : Ref sig .tc := ⟨.vmem, 38, rfl⟩
abbrev cc1_stg11_1 : Ref sig .tc := ⟨.vmem, 39, rfl⟩
abbrev cc1_stg12_0 : Ref sig .tc := ⟨.vmem, 40, rfl⟩
abbrev cc1_stg12_1 : Ref sig .tc := ⟨.vmem, 41, rfl⟩
abbrev cc1_stg13_0 : Ref sig .tc := ⟨.vmem, 42, rfl⟩
abbrev cc1_stg14_0 : Ref sig .tc := ⟨.vmem, 43, rfl⟩
abbrev cc1_stg14_1 : Ref sig .tc := ⟨.vmem, 44, rfl⟩
abbrev cc1_stg15_0 : Ref sig .tc := ⟨.vmem, 45, rfl⟩
abbrev cc1_stg15_1 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem3_0 : DmaSem sig := 26
abbrev cc1_sem3_1 : DmaSem sig := 27
abbrev cc1_sem4_0 : DmaSem sig := 28
abbrev cc1_sem4_1 : DmaSem sig := 29
abbrev cc1_sem5_0 : DmaSem sig := 30
abbrev cc1_sem6_0 : DmaSem sig := 31
abbrev cc1_sem7_0 : DmaSem sig := 32
abbrev cc1_sem8_0 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem14_0 : DmaSem sig := 43
abbrev cc1_sem14_1 : DmaSem sig := 44
abbrev cc1_sem15_0 : DmaSem sig := 45
abbrev cc1_sem15_1 : DmaSem sig := 46

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S2816x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2816x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2816x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S2048x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S256x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x2816 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x2816 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x2816 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 1 → Memref sig .tc .vmem S1x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S256x1024 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S256x1024 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]
-- ==== Ffn2ReferenceIdeal.lean ====
abbrev S8192x1024 : Shape := ⟨2, ![8192, 1024]⟩
abbrev S1x2048x1024 : Shape := ⟨3, ![1, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S8192x2048 : Shape := ⟨2, ![8192, 2048]⟩
abbrev S2048x1024 : Shape := ⟨2, ![2048, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S8192x2816 : Shape := ⟨2, ![8192, 2816]⟩
abbrev S2816x1024 : Shape := ⟨2, ![2816, 1024]⟩

abbrev nBuf : Space → Nat
  | .hbm => 113
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S1x2048x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x2048, .f32⟩
  | .hbm, ⟨12, _⟩ => ⟨S2048x1024, .f32⟩
  | .hbm, ⟨13, _⟩ => ⟨S8192x1024, .f32⟩
  | .hbm, ⟨14, _⟩ => ⟨S8192x1024, .f32⟩
  | .hbm, ⟨15, _⟩ => ⟨S1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S1024x2816, .f32⟩
  | .hbm, ⟨37, _⟩ => ⟨S8192x2816, .f32⟩
  | .hbm, ⟨38, _⟩ => ⟨S1024x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S_, .f32⟩
  | .hbm, ⟨43, _⟩ => ⟨S8192x2816, .f32⟩
  | .hbm, ⟨44, _⟩ => ⟨S8192x2816, .f32⟩
  | .hbm, ⟨45, _⟩ => ⟨S_, .f32⟩
  | .hbm, ⟨46, _⟩ => ⟨S8192x2816, .f32⟩
  | .hbm, ⟨47, _⟩ => ⟨S8192x2816, .f32⟩
  | .hbm, ⟨48, _⟩ => ⟨S_, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S2816x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192x1024, .f32⟩
  | .hbm, ⟨64, _⟩ => ⟨S8192x1024, .f32⟩
  | .hbm, ⟨65, _⟩ => ⟨S8192x2816, .f32⟩
  | .hbm, ⟨66, _⟩ => ⟨S8192x2816, .f32⟩
  | .hbm, ⟨67, _⟩ => ⟨S8192x2816, .f32⟩
  | .hbm, ⟨68, _⟩ => ⟨S8192x2816, .f32⟩
  | .hbm, ⟨69, _⟩ => ⟨S8192x2816, .f32⟩
  | .hbm, ⟨70, _⟩ => ⟨S8192x2816, .f32⟩
  | .hbm, ⟨71, _⟩ => ⟨S8192x2816, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S1024, .f32⟩
  | .hbm, ⟨83, _⟩ => ⟨S8192x1024, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S8192x1024, .f32⟩
  | .hbm, ⟨88, _⟩ => ⟨S8192x1024, .f32⟩
  | .hbm, ⟨89, _⟩ => ⟨S8192x1, .f32⟩
  | .hbm, ⟨90, _⟩ => ⟨S_, .f32⟩
  | .hbm, ⟨91, _⟩ => ⟨S8192x1, .f32⟩
  | .hbm, ⟨92, _⟩ => ⟨S8192x1, .f32⟩
  | .hbm, ⟨93, _⟩ => ⟨S_, .f32⟩
  | .hbm, ⟨94, _⟩ => ⟨S8192, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S8192x2048, .f32⟩
  | .hbm, ⟨102, _⟩ => ⟨S8192x1024, .f32⟩
  | .hbm, ⟨103, _⟩ => ⟨S8192x1024, .f32⟩
  | .hbm, ⟨104, _⟩ => ⟨S8192x1024, .bf16⟩
  | .hbm, ⟨105, _⟩ => ⟨S8192x2816, .bf16⟩
  | .hbm, ⟨106, _⟩ => ⟨S8192x2816, .bf16⟩
  | .hbm, ⟨107, _⟩ => ⟨S8192x2816, .bf16⟩
  | .hbm, ⟨108, _⟩ => ⟨S8192x2816, .bf16⟩
  | .hbm, ⟨109, _⟩ => ⟨S8192x2816, .bf16⟩
  | .hbm, ⟨110, _⟩ => ⟨S1x1024, .f32⟩
  | .hbm, ⟨111, _⟩ => ⟨S8192x1024, .bf16⟩
  | .hbm, ⟨112, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v27_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v27_1 : Ref sig .tc := ⟨.hbm, 51, rfl⟩
abbrev main_v27_0 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_3 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_4 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_5 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_6 : Ref sig .tc := ⟨.hbm, 81, rfl⟩
abbrev main_v50 : Ref sig .tc := ⟨.hbm, 82, rfl⟩
abbrev main_v51 : Ref sig .tc := ⟨.hbm, 83, rfl⟩
abbrev main_cst_7 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_8 : Ref sig .tc := ⟨.hbm, 90, rfl⟩
abbrev main_v57 : Ref sig .tc := ⟨.hbm, 91, rfl⟩
abbrev main_v58 : Ref sig .tc := ⟨.hbm, 92, rfl⟩
abbrev main_cst_9 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩

abbrev nD : Nat := 1
abbrev τ : Topo := Topo.v7x

variable {F : FTy → Type} [FloatOps F]
-- ==== SsdBwdKernel.lean ====
abbrev S8192x1536 : Shape := ⟨2, ![8192, 1536]⟩
abbrev S8192x1024 : Shape := ⟨2, ![8192, 1024]⟩
abbrev S8192x128 : Shape := ⟨2, ![8192, 128]⟩
abbrev S64x8x128x128 : Shape := ⟨4, ![64, 8, 128, 128]⟩
abbrev S4x1536 : Shape := ⟨2, ![4, 1536]⟩
abbrev S1x1536 : Shape := ⟨2, ![1, 1536]⟩
abbrev S1x128 : Shape := ⟨2, ![1, 128]⟩
abbrev S1x1024 : Shape := ⟨2, ![1, 1024]⟩
abbrev S1024 : Shape := ⟨1, ![1024]⟩
abbrev S_ : Shape := ⟨0, ![]⟩
abbrev S128 : Shape := ⟨1, ![128]⟩
abbrev S128x1 : Shape := ⟨2, ![128, 1]⟩
abbrev S128x1024 : Shape := ⟨2, ![128, 1024]⟩
abbrev S1x128x1x1024 : Shape := ⟨4, ![1, 128, 1, 1024]⟩
abbrev S3x128x1x1024 : Shape := ⟨4, ![3, 128, 1, 1024]⟩
abbrev S384x1024 : Shape := ⟨2, ![384, 1024]⟩
abbrev S1024x128 : Shape := ⟨2, ![1024, 128]⟩
abbrev S1x1024x1x128 : Shape := ⟨4, ![1, 1024, 1, 128]⟩
abbrev S2x1024x1x128 : Shape := ⟨4, ![2, 1024, 1, 128]⟩
abbrev S2048x128 : Shape := ⟨2, ![2048, 128]⟩
abbrev S8192x2688 : Shape := ⟨2, ![8192, 2688]⟩
abbrev S512x1536 : Shape := ⟨2, ![512, 1536]⟩
abbrev S512x1024 : Shape := ⟨2, ![512, 1024]⟩
abbrev S512x128 : Shape := ⟨2, ![512, 128]⟩
abbrev S4x8x128x128 : Shape := ⟨4, ![4, 8, 128, 128]⟩
abbrev S512x2688 : Shape := ⟨2, ![512, 2688]⟩
abbrev S8x128x128 : Shape := ⟨3, ![8, 128, 128]⟩
abbrev S16x1536 : Shape := ⟨2, ![16, 1536]⟩
abbrev S128x1536 : Shape := ⟨2, ![128, 1536]⟩
abbrev S128x128 : Shape := ⟨2, ![128, 128]⟩
abbrev S128x384 : Shape := ⟨2, ![128, 384]⟩
abbrev S8x128 : Shape := ⟨2, ![8, 128]⟩
abbrev S8x384 : Shape := ⟨2, ![8, 384]⟩
abbrev S8x1024 : Shape := ⟨2, ![8, 1024]⟩
abbrev S1x8x128x128 : Shape := ⟨4, ![1, 8, 128, 128]⟩
abbrev S1x128x128 : Shape := ⟨3, ![1, 128, 128]⟩
abbrev S128x512 : Shape := ⟨2, ![128, 512]⟩
abbrev S256x128 : Shape := ⟨2, ![256, 128]⟩
abbrev S256 : Shape := ⟨1, ![256]⟩
abbrev S256x1 : Shape := ⟨2, ![256, 1]⟩
abbrev S1x1 : Shape := ⟨2, ![1, 1]⟩
abbrev S64x1 : Shape := ⟨2, ![64, 1]⟩
abbrev S1x64x1 : Shape := ⟨3, ![1, 64, 1]⟩
abbrev S1 : Shape := ⟨1, ![1]⟩
abbrev S1x1x1 : Shape := ⟨3, ![1, 1, 1]⟩
abbrev S512x2048 : Shape := ⟨2, ![512, 2048]⟩
abbrev S144x1536 : Shape := ⟨2, ![144, 1536]⟩
abbrev S1536 : Shape := ⟨1, ![1536]⟩
abbrev S128x144 : Shape := ⟨2, ![128, 144]⟩
abbrev S128x288 : Shape := ⟨2, ![128, 288]⟩
abbrev S288x1536 : Shape := ⟨2, ![288, 1536]⟩

abbrev nBuf : Space → Nat
  | .hbm => 54
  | .vmem => 34
  | .smem => 0
  | _ => 0

abbrev bufTy : (tb : Table) → Fin (tcTables nBuf tb) → BufTy
  | .hbm, ⟨0, _⟩ => ⟨S8192x1536, .bf16⟩
  | .hbm, ⟨1, _⟩ => ⟨S8192x1536, .f32⟩
  | .hbm, ⟨2, _⟩ => ⟨S8192x1536, .f32⟩
  | .hbm, ⟨3, _⟩ => ⟨S8192x1024, .f32⟩
  | .hbm, ⟨4, _⟩ => ⟨S8192x1024, .bf16⟩
  | .hbm, ⟨5, _⟩ => ⟨S8192x128, .f32⟩
  | .hbm, ⟨6, _⟩ => ⟨S64x8x128x128, .f32⟩
  | .hbm, ⟨7, _⟩ => ⟨S8192x1024, .bf16⟩
  | .hbm, ⟨8, _⟩ => ⟨S4x1536, .f32⟩
  | .hbm, ⟨9, _⟩ => ⟨S1x1536, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S1x1024, .f32⟩
  | .hbm, ⟨14, _⟩ => ⟨S1024, .i32⟩
  | .hbm, ⟨15, _⟩ => ⟨S1x1024, .i32⟩
  | .hbm, ⟨16, _⟩ => ⟨S_, .i32⟩
  | .hbm, ⟨17, _⟩ => ⟨S_, .i32⟩
  | .hbm, ⟨18, _⟩ => ⟨S1x1024, .i32⟩
  | .hbm, ⟨19, _⟩ => ⟨S1x1024, .i32⟩
  | .hbm, ⟨20, _⟩ => ⟨S1x1024, .i32⟩
  | .hbm, ⟨21, _⟩ => ⟨S_, .i32⟩
  | .hbm, ⟨22, _⟩ => ⟨S1x1024, .i32⟩
  | .hbm, ⟨23, _⟩ => ⟨S1x1024, .i1⟩
  | .hbm, ⟨24, _⟩ => ⟨S1x1024, .i32⟩
  | .hbm, ⟨25, _⟩ => ⟨S1x1024, .i32⟩
  | .hbm, ⟨26, _⟩ => ⟨S_, .i32⟩
  | .hbm, ⟨27, _⟩ => ⟨S1x1024, .i32⟩
  | .hbm, ⟨28, _⟩ => ⟨S1x1024, .i1⟩
  | .hbm, ⟨29, _⟩ => ⟨S1x1024, .i1⟩
  | .hbm, ⟨30, _⟩ => ⟨S_, .i32⟩
  | .hbm, ⟨31, _⟩ => ⟨S1x1024, .i32⟩
  | .hbm, ⟨32, _⟩ => ⟨S1x1024, .i32⟩
  | .hbm, ⟨33, _⟩ => ⟨S1x1024, .i32⟩
  | .hbm, ⟨34, _⟩ => ⟨S128, .i32⟩
  | .hbm, ⟨35, _⟩ => ⟨S128x1, .i32⟩
  | .hbm, ⟨36, _⟩ => ⟨S128x1024, .i32⟩
  | .hbm, ⟨37, _⟩ => ⟨S128x1024, .i32⟩
  | .hbm, ⟨38, _⟩ => ⟨S128x1024, .i1⟩
  | .hbm, ⟨39, _⟩ => ⟨S128x1024, .bf16⟩
  | .hbm, ⟨40, _⟩ => ⟨S1x128x1x1024, .bf16⟩
  | .hbm, ⟨41, _⟩ => ⟨S3x128x1x1024, .bf16⟩
  | .hbm, ⟨42, _⟩ => ⟨S384x1024, .bf16⟩
  | .hbm, ⟨43, _⟩ => ⟨S1024x128, .bf16⟩
  | .hbm, ⟨44, _⟩ => ⟨S1x1024x1x128, .bf16⟩
  | .hbm, ⟨45, _⟩ => ⟨S2x1024x1x128, .bf16⟩
  | .hbm, ⟨46, _⟩ => ⟨S2048x128, .bf16⟩
  | .hbm, ⟨47, _⟩ => ⟨S8192x2688, .bf16⟩
  | .hbm, ⟨48, _⟩ => ⟨S4x1536, .f32⟩
  | .hbm, ⟨49, _⟩ => ⟨S1x1536, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S512x1536, .f32⟩
  | .local _ .vmem, ⟨3, _⟩ => ⟨S512x1536, .f32⟩
  | .local _ .vmem, ⟨4, _⟩ => ⟨S512x1536, .f32⟩
  | .local _ .vmem, ⟨5, _⟩ => ⟨S512x1536, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x128, .f32⟩
  | .local _ .vmem, ⟨11, _⟩ => ⟨S512x128, .f32⟩
  | .local _ .vmem, ⟨12, _⟩ => ⟨S4x8x128x128, .f32⟩
  | .local _ .vmem, ⟨13, _⟩ => ⟨S4x8x128x128, .f32⟩
  | .local _ .vmem, ⟨14, _⟩ => ⟨S512x1024, .bf16⟩
  | .local _ .vmem, ⟨15, _⟩ => ⟨S512x1024, .bf16⟩
  | .local _ .vmem, ⟨16, _⟩ => ⟨S4x1536, .f32⟩
  | .local _ .vmem, ⟨17, _⟩ => ⟨S1x1536, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x1024, .f32⟩
  | .local _ .vmem, ⟨22, _⟩ => ⟨S384x1024, .bf16⟩
  | .local _ .vmem, ⟨23, _⟩ => ⟨S2048x128, .bf16⟩
  | .local _ .vmem, ⟨24, _⟩ => ⟨S512x2688, .bf16⟩
  | .local _ .vmem, ⟨25, _⟩ => ⟨S512x2688, .bf16⟩
  | .local _ .vmem, ⟨26, _⟩ => ⟨S4x1536, .f32⟩
  | .local _ .vmem, ⟨27, _⟩ => ⟨S1x1536, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x1024, .f32⟩
  | .local _ .vmem, ⟨32, _⟩ => ⟨S8x128x128, .f32⟩
  | .local _ .vmem, ⟨33, _⟩ => ⟨S16x1536, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16_0 : Ref sig .tc := ⟨.hbm, 47, rfl⟩
abbrev main_v16_1 : Ref sig .tc := ⟨.hbm, 48, rfl⟩
abbrev main_v16_2 : Ref sig .tc := ⟨.hbm, 49, rfl⟩
abbrev main_v16_3 : Ref sig .tc := ⟨.hbm, 50, rfl⟩
abbrev main_v16_4 : Ref sig .tc := ⟨.hbm, 51, rfl⟩
abbrev main_v16_5 : Ref sig .tc := ⟨.hbm, 52, rfl⟩
abbrev main_v16_6 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg21_0 : Ref sig .tc := ⟨.vmem, 30, rfl⟩
abbrev cc0_stg22_0 : Ref sig .tc := ⟨.vmem, 31, rfl⟩
abbrev cc0_scratch0 : Ref sig .tc := ⟨.vmem, 32, rfl⟩
abbrev cc0_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem21_0 : DmaSem sig := 30
abbrev cc0_sem22_0 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S384x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2048x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x2688 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S4x1536 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1536 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== TailKernel.lean ====
abbrev S8192x1024 : Shape := ⟨2, ![8192, 1024]⟩
abbrev S8192x256 : Shape := ⟨2, ![8192, 256]⟩
abbrev S1x1024 : Shape := ⟨2, ![1, 1024]⟩
abbrev S1x1024x1024 : Shape := ⟨3, ![1, 1024, 1024]⟩
abbrev S1x256x1024 : Shape := ⟨3, ![1, 256, 1024]⟩
abbrev S1024 : Shape := ⟨1, ![1024]⟩
abbrev S256x1024 : Shape := ⟨2, ![256, 1024]⟩
abbrev S256x256 : Shape := ⟨2, ![256, 256]⟩
abbrev S1x256x256 : Shape := ⟨3, ![1, 256, 256]⟩
abbrev S4x256x256 : Shape := ⟨3, ![4, 256, 256]⟩
abbrev S1024x1024 : Shape := ⟨2, ![1024, 1024]⟩
abbrev S1x128 : Shape := ⟨2, ![1, 128]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x512 : Shape := ⟨2, ![1, 512]⟩
abbrev S1 : Shape := ⟨1, ![1]⟩
abbrev S1x1 : Shape := ⟨2, ![1, 1]⟩

abbrev nBuf : Space → Nat
  | .hbm => 29
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S1x1024, .f32⟩
  | .hbm, ⟨4, _⟩ => ⟨S1x1024x1024, .f32⟩
  | .hbm, ⟨5, _⟩ => ⟨S1x1024, .f32⟩
  | .hbm, ⟨6, _⟩ => ⟨S1x256x1024, .f32⟩
  | .hbm, ⟨7, _⟩ => ⟨S1024, .f32⟩
  | .hbm, ⟨8, _⟩ => ⟨S256x1024, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S256x256, .f32⟩
  | .hbm, ⟨13, _⟩ => ⟨S1x256x256, .f32⟩
  | .hbm, ⟨14, _⟩ => ⟨S1x256x256, .f32⟩
  | .hbm, ⟨15, _⟩ => ⟨S1x256x256, .f32⟩
  | .hbm, ⟨16, _⟩ => ⟨S1x256x256, .f32⟩
  | .hbm, ⟨17, _⟩ => ⟨S4x256x256, .f32⟩
  | .hbm, ⟨18, _⟩ => ⟨S4x256x256, .bf16⟩
  | .hbm, ⟨19, _⟩ => ⟨S1024x1024, .f32⟩
  | .hbm, ⟨20, _⟩ => ⟨S1024x1024, .bf16⟩
  | .hbm, ⟨21, _⟩ => ⟨S1x1024, .f32⟩
  | .hbm, ⟨22, _⟩ => ⟨S8192x1024, .f32⟩
  | .hbm, ⟨23, _⟩ => ⟨S1x128, .f32⟩
  | .hbm, ⟨24, _⟩ => ⟨S1x1024, .f32⟩
  | .hbm, ⟨25, _⟩ => ⟨S1024x1024, .f32⟩
  | .hbm, ⟨26, _⟩ => ⟨S1x1024, .f32⟩
  | .hbm, ⟨27, _⟩ => ⟨S4x256x256, .f32⟩
  | .hbm, ⟨28, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S4x256x256, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x128, .f32⟩
  | .local _ .vmem, ⟨14, _⟩ => ⟨S1x1024, .f32⟩
  | .local _ .vmem, ⟨15, _⟩ => ⟨S1024x1024, .f32⟩
  | .local _ .vmem, ⟨16, _⟩ => ⟨S1x1024, .f32⟩
  | .local _ .vmem, ⟨17, _⟩ => ⟨S4x256x256, .f32⟩
  | .local _ .vmem, ⟨18, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev main_v14_3 : Ref sig .tc := ⟨.hbm, 25, rfl⟩
abbrev main_v14_4 : Ref sig .tc := ⟨.hbm, 26, rfl⟩
abbrev main_v14_5 : Ref sig .tc := ⟨.hbm, 27, rfl⟩
abbrev main_v14_6 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== TailReferenceIdeal.lean ====
abbrev S8192x1024 : Shape := ⟨2, ![8192, 1024]⟩
abbrev S8192x256 : Shape := ⟨2, ![8192, 256]⟩
abbrev S1x1024 : Shape := ⟨2, ![1, 1024]⟩
abbrev S1x1024x1024 : Shape := ⟨3, ![1, 1024, 1024]⟩
abbrev S1x256x1024 : Shape := ⟨3, ![1, 256, 1024]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1024x256 : Shape := ⟨2, ![1024, 256]⟩
abbrev S1x128 : Shape := ⟨2, ![1, 128]⟩
abbrev S256x256 : Shape := ⟨2, ![256, 256]⟩
abbrev S1x256x256 : Shape := ⟨3, ![1, 256, 256]⟩
abbrev S4x256x256 : Shape := ⟨3, ![4, 256, 256]⟩

abbrev nBuf : Space → Nat
  | .hbm => 171
  | .vmem => 0
  | .smem => 0
  | _ => 0

abbrev hbmTy0_0 (i : Nat) : BufTy := match i % 128 with
  | 0 => ⟨S8192x1024, .f32⟩
  | 1 => ⟨S8192x256, .f32⟩
  | 2 => ⟨S8192x1024, .f32⟩
  | 3 => ⟨S1x1024, .f32⟩
  | 4 => ⟨S1x1024x1024, .f32⟩
  | 5 => ⟨S1x1024, .f32⟩
  | 6 => ⟨S1x256x1024, .f32⟩
  | 7 => ⟨S1024, .f32⟩
  | 8 => ⟨S1024, .f32⟩
  | 9 => ⟨S1024x1024, .f32⟩
  | 10 => ⟨S1024, .f32⟩
  | 11 => ⟨S256x1024, .f32⟩
  | 12 => ⟨S8192x1024, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1, .f32⟩
  | 23 => ⟨S8192x1, .f32⟩
  | 24 => ⟨S_, .f32⟩
  | 25 => ⟨S8192x1, .f32⟩
  | 26 => ⟨S8192x1, .f32⟩
  | 27 => ⟨S8192x1024, .f32⟩
  | 28 => ⟨S8192x1024, .f32⟩
  | 29 => ⟨S1x1024, .f32⟩
  | 30 => ⟨S8192x1024, .f32⟩
  | 31 => ⟨S8192x1024, .f32⟩
  | 32 => ⟨S8192x1024, .f32⟩
  | 33 => ⟨S1x1024, .f32⟩
  | 34 => ⟨S8192x1024, .f32⟩
  | 35 => ⟨S8192x1024, .f32⟩
  | 36 => ⟨S8192x1024, .f32⟩
  | 37 => ⟨S8192x1024, .f32⟩
  | 38 => ⟨S_, .f32⟩
  | 39 => ⟨S8192x1024, .f32⟩
  | 40 => ⟨S8192x1024, .f32⟩
  | 41 => ⟨S_, .f32⟩
  | 42 => ⟨S8192x1024, .f32⟩
  | 43 => ⟨S8192x1024, .f32⟩
  | 44 => ⟨S_, .f32⟩
  | 45 => ⟨S8192x1024, .f32⟩
  | 46 => ⟨S8192x1024, .f32⟩
  | 47 => ⟨S8192x1024, .f32⟩
  | 48 => ⟨S8192x1024, .f32⟩
  | 49 => ⟨S8192x1024, .f32⟩
  | 50 => ⟨S8192x1024, .f32⟩
  | 51 => ⟨S8192x1024, .f32⟩
  | 52 => ⟨S_, .f32⟩
  | 53 => ⟨S8192, .f32⟩
  | 54 => ⟨S8192x1, .f32⟩
  | 55 => ⟨S_, .f32⟩
  | 56 => ⟨S8192x1, .f32⟩
  | 57 => ⟨S8192x1, .f32⟩
  | 58 => ⟨S_, .f32⟩
  | 59 => ⟨S8192x1, .f32⟩
  | 60 => ⟨S8192x1, .f32⟩
  | 61 => ⟨S8192x1, .f32⟩
  | 62 => ⟨S8192x1, .f32⟩
  | 63 => ⟨S_, .f32⟩
  | 64 => ⟨S8192x1, .f32⟩
  | 65 => ⟨S8192x1, .f32⟩
  | 66 => ⟨S8192x1024, .f32⟩
  | 67 => ⟨S8192x1024, .f32⟩
  | 68 => ⟨S1x1024, .f32⟩
  | 69 => ⟨S8192x1024, .f32⟩
  | 70 => ⟨S8192x1024, .f32⟩
  | 71 => ⟨S8192x1024, .f32⟩
  | 72 => ⟨S8192x1024, .f32⟩
  | 73 => ⟨S_, .f32⟩
  | 74 => ⟨S8192x1024, .f32⟩
  | 75 => ⟨S8192x1024, .f32⟩
  | 76 => ⟨S_, .f32⟩
  | 77 => ⟨S8192, .f32⟩
  | 78 => ⟨S_, .f32⟩
  | 79 => ⟨S8192, .f32⟩
  | 80 => ⟨S8192, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S8192, .f32⟩
  | 89 => ⟨S_, .f32⟩
  | 90 => ⟨S8192, .f32⟩
  | 91 => ⟨S8192, .f32⟩
  | 92 => ⟨S8192x1024, .f32⟩
  | 93 => ⟨S8192x1024, .f32⟩
  | 94 => ⟨S8192x1024, .f32⟩
  | 95 => ⟨S_, .f32⟩
  | 96 => ⟨S1024, .f32⟩
  | 97 => ⟨S1x1024, .f32⟩
  | 98 => ⟨S8192x1024, .f32⟩
  | 99 => ⟨S8192x1024, .f32⟩
  | 100 => ⟨S_, .f32⟩
  | 101 => ⟨S1024, .f32⟩
  | 102 => ⟨S8192x1024, .f32⟩
  | 103 => ⟨S_, .f32⟩
  | 104 => ⟨S8192, .f32⟩
  | 105 => ⟨S8192x1, .f32⟩
  | 106 => ⟨S8192x1024, .f32⟩
  | 107 => ⟨S8192x1024, .f32⟩
  | 108 => ⟨S8192x1, .f32⟩
  | 109 => ⟨S_, .f32⟩
  | 110 => ⟨S8192x1, .f32⟩
  | 111 => ⟨S8192x1, .f32⟩
  | 112 => ⟨S_, .f32⟩
  | 113 => ⟨S8192, .f32⟩
  | 114 => ⟨S8192x1024, .f32⟩
  | 115 => ⟨S8192x1024, .f32⟩
  | 116 => ⟨S8192x1024, .f32⟩
  | 117 => ⟨S8192x1024, .f32⟩
  | 118 => ⟨S8192x1024, .f32⟩
  | 119 => ⟨S8192x1024, .f32⟩
  | 120 => ⟨S8192x1024, .f32⟩
  | 121 => ⟨S1024x256, .f32⟩
  | 122 => ⟨S256x1024, .f32⟩
  | 123 => ⟨S8192x1024, .f32⟩
  | 124 => ⟨S_, .f32⟩
  | 125 => ⟨S1024, .f32⟩
  | 126 => ⟨S1x1024, .f32⟩
  | 127 => ⟨S_, .f32⟩
  | _ => ⟨S8192x1024, .f32⟩

abbrev hbmTy0_1 (i : Nat) : BufTy := match i % 128 with
  | 0 => ⟨S1024, .f32⟩
  | 1 => ⟨S1024x1024, .f32⟩
  | 2 => ⟨S1024x1024, .f32⟩
  | 3 => ⟨S8192x1024, .f32⟩
  | 4 => ⟨S8192x1024, .f32⟩
  | 5 => ⟨S_, .f32⟩
  | 6 => ⟨S1024, .f32⟩
  | 7 => ⟨S1x1024, .f32⟩
  | 8 => ⟨S8192x1024, .f32⟩
  | 9 => ⟨S8192x1024, .f32⟩
  | 10 => ⟨S_, .f32⟩
  | 11 => ⟨S1024, .f32⟩
  | 12 => ⟨S8192x1024, .f32⟩
  | 13 => ⟨S_, .f32⟩
  | 14 => ⟨S8192, .f32⟩
  | 15 => ⟨S8192x1, .f32⟩
  | 16 => ⟨S8192x1024, .f32⟩
  | 17 => ⟨S8192x1024, .f32⟩
  | 18 => ⟨S8192x1024, .f32⟩
  | 19 => ⟨S8192x1, .f32⟩
  | 20 => ⟨S_, .f32⟩
  | 21 => ⟨S8192x1, .f32⟩
  | 22 => ⟨S8192x1, .f32⟩
  | 23 => ⟨S_, .f32⟩
  | 24 => ⟨S8192, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S1x128, .f32⟩
  | 31 => ⟨S1x1024, .f32⟩
  | 32 => ⟨S1x1024, .f32⟩
  | 33 => ⟨S256x256, .f32⟩
  | 34 => ⟨S256x256, .f32⟩
  | 35 => ⟨S256x256, .f32⟩
  | 36 => ⟨S256x256, .f32⟩
  | 37 => ⟨S1x256x256, .f32⟩
  | 38 => ⟨S1x256x256, .f32⟩
  | 39 => ⟨S1x256x256, .f32⟩
  | 40 => ⟨S1x256x256, .f32⟩
  | 41 => ⟨S4x256x256, .f32⟩
  | 42 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_cst_11 : Ref sig .tc := ⟨.hbm, 76, rfl⟩
abbrev main_v56 : Ref sig .tc := ⟨.hbm, 77, rfl⟩
abbrev main_cst_12 : Ref sig .tc := ⟨.hbm, 78, rfl⟩
abbrev main_v57 : Ref sig .tc := ⟨.hbm, 79, rfl⟩
abbrev main_v58 : Ref sig .tc := ⟨.hbm, 80, rfl⟩
abbrev main_cst_13 : Ref sig .tc := ⟨.hbm, 81, rfl⟩
abbrev main_v59 : Ref sig .tc := ⟨.hbm, 82, rfl⟩
abbrev main_cst_14 : Ref sig .tc := ⟨.hbm, 83, rfl⟩
abbrev main_v60 : Ref sig .tc := ⟨.hbm, 84, rfl⟩
abbrev main_cst_15 : Ref sig .tc := ⟨.hbm, 85, rfl⟩
abbrev main_cst_16 : Ref sig .tc := ⟨.hbm, 86, rfl⟩
abbrev main_v61 : Ref sig .tc := ⟨.hbm, 87, rfl⟩
abbrev main_v62 : Ref sig .tc := ⟨.hbm, 88, rfl⟩
abbrev main_cst_17 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_18 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_19 : Ref sig .tc := ⟨.hbm, 100, rfl⟩
abbrev main_v72 : Ref sig .tc := ⟨.hbm, 101, rfl⟩
abbrev main_v73 : Ref sig .tc := ⟨.hbm, 102, rfl⟩
abbrev main_cst_20 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_21 : Ref sig .tc := ⟨.hbm, 109, rfl⟩
abbrev main_v79 : Ref sig .tc := ⟨.hbm, 110, rfl⟩
abbrev main_v80 : Ref sig .tc := ⟨.hbm, 111, rfl⟩
abbrev main_cst_22 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_23 : Ref sig .tc := ⟨.hbm, 124, rfl⟩
abbrev main_v92 : Ref sig .tc := ⟨.hbm, 125, rfl⟩
abbrev main_v93 : Ref sig .tc := ⟨.hbm, 126, rfl⟩
abbrev main_cst_24 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_25 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_26 : Ref sig .tc := ⟨.hbm, 138, rfl⟩
abbrev main_v103 : Ref sig .tc := ⟨.hbm, 139, rfl⟩
abbrev main_v104 : Ref sig .tc := ⟨.hbm, 140, rfl⟩
abbrev main_cst_27 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_cst_28 : Ref sig .tc := ⟨.hbm, 148, rfl⟩
abbrev main_v111 : Ref sig .tc := ⟨.hbm, 149, rfl⟩
abbrev main_v112 : Ref sig .tc := ⟨.hbm, 150, rfl⟩
abbrev main_cst_29 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩

abbrev nD : Nat := 1
abbrev τ : Topo := Topo.v7x

variable {F : FTy → Type} [FloatOps F]
-- ==== SsdFwdKernel.lean ====
abbrev S8192x1536 : Shape := ⟨2, ![8192, 1536]⟩
abbrev S8192x1024 : Shape := ⟨2, ![8192, 1024]⟩
abbrev S8192x128 : Shape := ⟨2, ![8192, 128]⟩
abbrev S4x1536 : Shape := ⟨2, ![4, 1536]⟩
abbrev S1x1536 : Shape := ⟨2, ![1, 1536]⟩
abbrev S1x128 : Shape := ⟨2, ![1, 128]⟩
abbrev S1x1024 : Shape := ⟨2, ![1, 1024]⟩
abbrev S1024 : Shape := ⟨1, ![1024]⟩
abbrev S_ : Shape := ⟨0, ![]⟩
abbrev S128 : Shape := ⟨1, ![128]⟩
abbrev S128x1 : Shape := ⟨2, ![128, 1]⟩
abbrev S128x1024 : Shape := ⟨2, ![128, 1024]⟩
abbrev S1x128x1x1024 : Shape := ⟨4, ![1, 128, 1, 1024]⟩
abbrev S3x128x1x1024 : Shape := ⟨4, ![3, 128, 1, 1024]⟩
abbrev S384x1024 : Shape := ⟨2, ![384, 1024]⟩
abbrev S1024x128 : Shape := ⟨2, ![1024, 128]⟩
abbrev S1x1024x1x128 : Shape := ⟨4, ![1, 1024, 1, 128]⟩
abbrev S2x1024x1x128 : Shape := ⟨4, ![2, 1024, 1, 128]⟩
abbrev S2048x128 : Shape := ⟨2, ![2048, 128]⟩
abbrev S64x8x128x128 : Shape := ⟨4, ![64, 8, 128, 128]⟩
abbrev S512x1536 : Shape := ⟨2, ![512, 1536]⟩
abbrev S16x1536 : Shape := ⟨2, ![16, 1536]⟩
abbrev S512x1024 : Shape := ⟨2, ![512, 1024]⟩
abbrev S512x128 : Shape := ⟨2, ![512, 128]⟩
abbrev S4x8x128x128 : Shape := ⟨4, ![4, 8, 128, 128]⟩
abbrev S8x128x128 : Shape := ⟨3, ![8, 128, 128]⟩
abbrev S128x128 : Shape := ⟨2, ![128, 128]⟩
abbrev S128x1536 : Shape := ⟨2, ![128, 1536]⟩
abbrev S144x1536 : Shape := ⟨2, ![144, 1536]⟩
abbrev S128x144 : Shape := ⟨2, ![128, 144]⟩
abbrev S128x384 : Shape := ⟨2, ![128, 384]⟩
abbrev S8x128 : Shape := ⟨2, ![8, 128]⟩
abbrev S8x384 : Shape := ⟨2, ![8, 384]⟩
abbrev S8x1024 : Shape := ⟨2, ![8, 1024]⟩
abbrev S1x128x128 : Shape := ⟨3, ![1, 128, 128]⟩
abbrev S128x256 : Shape := ⟨2, ![128, 256]⟩
abbrev S256x128 : Shape := ⟨2, ![256, 128]⟩
abbrev S1x1x128x128 : Shape := ⟨4, ![1, 1, 128, 128]⟩
abbrev S1x1 : Shape := ⟨2, ![1, 1]⟩
abbrev S128x512 : Shape := ⟨2, ![128, 512]⟩

abbrev nBuf : Space → Nat
  | .hbm => 47
  | .vmem => 26
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S8192x128, .f32⟩
  | .hbm, ⟨3, _⟩ => ⟨S4x1536, .f32⟩
  | .hbm, ⟨4, _⟩ => ⟨S1x1536, .f32⟩
  | .hbm, ⟨5, _⟩ => ⟨S1x128, .f32⟩
  | .hbm, ⟨6, _⟩ => ⟨S1x128, .f32⟩
  | .hbm, ⟨7, _⟩ => ⟨S1x128, .f32⟩
  | .hbm, ⟨8, _⟩ => ⟨S1x1024, .f32⟩
  | .hbm, ⟨9, _⟩ => ⟨S1024, .i32⟩
  | .hbm, ⟨10, _⟩ => ⟨S1x1024, .i32⟩
  | .hbm, ⟨11, _⟩ => ⟨S_, .i32⟩
  | .hbm, ⟨12, _⟩ => ⟨S_, .i32⟩
  | .hbm, ⟨13, _⟩ => ⟨S1x1024, .i32⟩
  | .hbm, ⟨14, _⟩ => ⟨S1x1024, .i32⟩
  | .hbm, ⟨15, _⟩ => ⟨S1x1024, .i32⟩
  | .hbm, ⟨16, _⟩ => ⟨S_, .i32⟩
  | .hbm, ⟨17, _⟩ => ⟨S1x1024, .i32⟩
  | .hbm, ⟨18, _⟩ => ⟨S1x1024, .i1⟩
  | .hbm, ⟨19, _⟩ => ⟨S1x1024, .i32⟩
  | .hbm, ⟨20, _⟩ => ⟨S1x1024, .i32⟩
  | .hbm, ⟨21, _⟩ => ⟨S_, .i32⟩
  | .hbm, ⟨22, _⟩ => ⟨S1x1024, .i32⟩
  | .hbm, ⟨23, _⟩ => ⟨S1x1024, .i1⟩
  | .hbm, ⟨24, _⟩ => ⟨S1x1024, .i1⟩
  | .hbm, ⟨25, _⟩ => ⟨S_, .i32⟩
  | .hbm, ⟨26, _⟩ => ⟨S1x1024, .i32⟩
  | .hbm, ⟨27, _⟩ => ⟨S1x1024, .i32⟩
  | .hbm, ⟨28, _⟩ => ⟨S1x1024, .i32⟩
  | .hbm, ⟨29, _⟩ => ⟨S128, .i32⟩
  | .hbm, ⟨30, _⟩ => ⟨S128x1, .i32⟩
  | .hbm, ⟨31, _⟩ => ⟨S128x1024, .i32⟩
  | .hbm, ⟨32, _⟩ => ⟨S128x1024, .i32⟩
  | .hbm, ⟨33, _⟩ => ⟨S128x1024, .i1⟩
  | .hbm, ⟨34, _⟩ => ⟨S128x1024, .bf16⟩
  | .hbm, ⟨35, _⟩ => ⟨S1x128x1x1024, .bf16⟩
  | .hbm, ⟨36, _⟩ => ⟨S3x128x1x1024, .bf16⟩
  | .hbm, ⟨37, _⟩ => ⟨S384x1024, .bf16⟩
  | .hbm, ⟨38, _⟩ => ⟨S1024x128, .bf16⟩
  | .hbm, ⟨39, _⟩ => ⟨S1x1024x1x128, .bf16⟩
  | .hbm, ⟨40, _⟩ => ⟨S2x1024x1x128, .bf16⟩
  | .hbm, ⟨41, _⟩ => ⟨S2048x128, .bf16⟩
  | .hbm, ⟨42, _⟩ => ⟨S8192x1024, .bf16⟩
  | .hbm, ⟨43, _⟩ => ⟨S8192x1536, .f32⟩
  | .hbm, ⟨44, _⟩ => ⟨S8192x1536, .f32⟩
  | .hbm, ⟨45, _⟩ => ⟨S8192x1024, .f32⟩
  | .hbm, ⟨46, _⟩ => ⟨S64x8x128x128, .f32⟩
  | .local _ .vmem, ⟨0, _⟩ => ⟨S512x1536, .bf16⟩
  | .local _ .vmem, ⟨1, _⟩ => ⟨S512x1536, .bf16⟩
  | .local _ .vmem, ⟨2, _⟩ => ⟨S16x1536, .bf16⟩
  | .local _ .vmem, ⟨3, _⟩ => ⟨S16x1536, .bf16⟩
  | .local _ .vmem, ⟨4, _⟩ => ⟨S512x1024, .bf16⟩
  | .local _ .vmem, ⟨5, _⟩ => ⟨S512x1024, .bf16⟩
  | .local _ .vmem, ⟨6, _⟩ => ⟨S512x128, .f32⟩
  | .local _ .vmem, ⟨7, _⟩ => ⟨S512x128, .f32⟩
  | .local _ .vmem, ⟨8, _⟩ => ⟨S4x1536, .f32⟩
  | .local _ .vmem, ⟨9, _⟩ => ⟨S1x1536, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x1024, .f32⟩
  | .local _ .vmem, ⟨14, _⟩ => ⟨S384x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1536, .f32⟩
  | .local _ .vmem, ⟨18, _⟩ => ⟨S512x1536, .f32⟩
  | .local _ .vmem, ⟨19, _⟩ => ⟨S512x1536, .f32⟩
  | .local _ .vmem, ⟨20, _⟩ => ⟨S512x1536, .f32⟩
  | .local _ .vmem, ⟨21, _⟩ => ⟨S512x1024, .f32⟩
  | .local _ .vmem, ⟨22, _⟩ => ⟨S512x1024, .f32⟩
  | .local _ .vmem, ⟨23, _⟩ => ⟨S4x8x128x128, .f32⟩
  | .local _ .vmem, ⟨24, _⟩ => ⟨S4x8x128x128, .f32⟩
  | .local _ .vmem, ⟨25, _⟩ => ⟨S8x128x128, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16_0 : Ref sig .tc := ⟨.hbm, 42, rfl⟩
abbrev main_v16_1 : Ref sig .tc := ⟨.hbm, 43, rfl⟩
abbrev main_v16_2 : Ref sig .tc := ⟨.hbm, 44, rfl⟩
abbrev main_v16_3 : Ref sig .tc := ⟨.hbm, 45, rfl⟩
abbrev main_v16_4 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S384x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1536 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x8x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== AdamwKernel.lean ====
abbrev S1x1024x1156 : Shape := ⟨3, ![1, 1024, 1156]⟩
abbrev S8x128x1156 : Shape := ⟨3, ![8, 128, 1156]⟩
abbrev S1156x8x128 : Shape := ⟨3, ![1156, 8, 128]⟩
abbrev S289x8x128 : Shape := ⟨3, ![289, 8, 128]⟩

abbrev nBuf : Space → Nat
  | .hbm => 15
  | .vmem => 14
  | .smem => 0
  | _ => 0

abbrev bufTy : (tb : Table) → Fin (tcTables nBuf tb) → BufTy
  | .hbm, ⟨0, _⟩ => ⟨S1x1024x1156, .f32⟩
  | .hbm, ⟨1, _⟩ => ⟨S1x1024x1156, .f32⟩
  | .hbm, ⟨2, _⟩ => ⟨S1x1024x1156, .f32⟩
  | .hbm, ⟨3, _⟩ => ⟨S1x1024x1156, .f32⟩
  | .hbm, ⟨4, _⟩ => ⟨S8x128x1156, .f32⟩
  | .hbm, ⟨5, _⟩ => ⟨S1156x8x128, .f32⟩
  | .hbm, ⟨6, _⟩ => ⟨S8x128x1156, .f32⟩
  | .hbm, ⟨7, _⟩ => ⟨S1156x8x128, .f32⟩
  | .hbm, ⟨8, _⟩ => ⟨S8x128x1156, .f32⟩
  | .hbm, ⟨9, _⟩ => ⟨S1156x8x128, .f32⟩
  | .hbm, ⟨10, _⟩ => ⟨S8x128x1156, .f32⟩
  | .hbm, ⟨11, _⟩ => ⟨S1156x8x128, .f32⟩
  | .hbm, ⟨12, _⟩ => ⟨S1156x8x128, .f32⟩
  | .hbm, ⟨13, _⟩ => ⟨S1156x8x128, .f32⟩
  | .hbm, ⟨14, _⟩ => ⟨S1156x8x128, .f32⟩
  | .local _ .vmem, ⟨0, _⟩ => ⟨S289x8x128, .f32⟩
  | .local _ .vmem, ⟨1, _⟩ => ⟨S289x8x128, .f32⟩
  | .local _ .vmem, ⟨2, _⟩ => ⟨S289x8x128, .f32⟩
  | .local _ .vmem, ⟨3, _⟩ => ⟨S289x8x128, .f32⟩
  | .local _ .vmem, ⟨4, _⟩ => ⟨S289x8x128, .f32⟩
  | .local _ .vmem, ⟨5, _⟩ => ⟨S289x8x128, .f32⟩
  | .local _ .vmem, ⟨6, _⟩ => ⟨S289x8x128, .f32⟩
  | .local _ .vmem, ⟨7, _⟩ => ⟨S289x8x128, .f32⟩
  | .local _ .vmem, ⟨8, _⟩ => ⟨S289x8x128, .f32⟩
  | .local _ .vmem, ⟨9, _⟩ => ⟨S289x8x128, .f32⟩
  | .local _ .vmem, ⟨10, _⟩ => ⟨S289x8x128, .f32⟩
  | .local _ .vmem, ⟨11, _⟩ => ⟨S289x8x128, .f32⟩
  | .local _ .vmem, ⟨12, _⟩ => ⟨S289x8x128, .f32⟩
  | .local _ .vmem, ⟨13, _⟩ => ⟨S289x8x128, .f32⟩
  | _, _ => ⟨S1x1024x1156, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S289x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S289x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S289x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S289x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S289x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S289x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S289x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwReferenceIdeal.lean ====
abbrev S1x1024x1156 : Shape := ⟨3, ![1, 1024, 1156]⟩
abbrev S_ : Shape := ⟨0, ![]⟩
abbrev S8x128x1156 : Shape := ⟨3, ![8, 128, 1156]⟩
abbrev S1156x8x128 : Shape := ⟨3, ![1156, 8, 128]⟩

abbrev nBuf : Space → Nat
  | .hbm => 43
  | .vmem => 0
  | .smem => 0
  | _ => 0

abbrev bufTy : (tb : Table) → Fin (tcTables nBuf tb) → BufTy
  | .hbm, ⟨0, _⟩ => ⟨S1x1024x1156, .f32⟩
  | .hbm, ⟨1, _⟩ => ⟨S1x1024x1156, .f32⟩
  | .hbm, ⟨2, _⟩ => ⟨S1x1024x1156, .f32⟩
  | .hbm, ⟨3, _⟩ => ⟨S1x1024x1156, .f32⟩
  | .hbm, ⟨4, _⟩ => ⟨S_, .f32⟩
  | .hbm, ⟨5, _⟩ => ⟨S1x1024x1156, .f32⟩
  | .hbm, ⟨6, _⟩ => ⟨S1x1024x1156, .f32⟩
  | .hbm, ⟨7, _⟩ => ⟨S_, .f32⟩
  | .hbm, ⟨8, _⟩ => ⟨S1x1024x1156, .f32⟩
  | .hbm, ⟨9, _⟩ => ⟨S1x1024x1156, .f32⟩
  | .hbm, ⟨10, _⟩ => ⟨S1x1024x1156, .f32⟩
  | .hbm, ⟨11, _⟩ => ⟨S_, .f32⟩
  | .hbm, ⟨12, _⟩ => ⟨S1x1024x1156, .f32⟩
  | .hbm, ⟨13, _⟩ => ⟨S1x1024x1156, .f32⟩
  | .hbm, ⟨14, _⟩ => ⟨S1x1024x1156, .f32⟩
  | .hbm, ⟨15, _⟩ => ⟨S_, .f32⟩
  | .hbm, ⟨16, _⟩ => ⟨S1x1024x1156, .f32⟩
  | .hbm, ⟨17, _⟩ => ⟨S1x1024x1156, .f32⟩
  | .hbm, ⟨18, _⟩ => ⟨S1x1024x1156, .f32⟩
  | .hbm, ⟨19, _⟩ => ⟨S_, .f32⟩
  | .hbm, ⟨20, _⟩ => ⟨S1x1024x1156, .f32⟩
  | .hbm, ⟨21, _⟩ => ⟨S1x1024x1156, .f32⟩
  | .hbm, ⟨22, _⟩ => ⟨S_, .f32⟩
  | .hbm, ⟨23, _⟩ => ⟨S1x1024x1156, .f32⟩
  | .hbm, ⟨24, _⟩ => ⟨S1x1024x1156, .f32⟩
  | .hbm, ⟨25, _⟩ => ⟨S1x1024x1156, .f32⟩
  | .hbm, ⟨26, _⟩ => ⟨S_, .f32⟩
  | .hbm, ⟨27, _⟩ => ⟨S1x1024x1156, .f32⟩
  | .hbm, ⟨28, _⟩ => ⟨S1x1024x1156, .f32⟩
  | .hbm, ⟨29, _⟩ => ⟨S1x1024x1156, .f32⟩
  | .hbm, ⟨30, _⟩ => ⟨S_, .f32⟩
  | .hbm, ⟨31, _⟩ => ⟨S1x1024x1156, .f32⟩
  | .hbm, ⟨32, _⟩ => ⟨S1x1024x1156, .f32⟩
  | .hbm, ⟨33, _⟩ => ⟨S1x1024x1156, .f32⟩
  | .hbm, ⟨34, _⟩ => ⟨S_, .f32⟩
  | .hbm, ⟨35, _⟩ => ⟨S1x1024x1156, .f32⟩
  | .hbm, ⟨36, _⟩ => ⟨S1x1024x1156, .f32⟩
  | .hbm, ⟨37, _⟩ => ⟨S8x128x1156, .f32⟩
  | .hbm, ⟨38, _⟩ => ⟨S1156x8x128, .f32⟩
  | .hbm, ⟨39, _⟩ => ⟨S8x128x1156, .f32⟩
  | .hbm, ⟨40, _⟩ => ⟨S1156x8x128, .f32⟩
  | .hbm, ⟨41, _⟩ => ⟨S8x128x1156, .f32⟩
  | .hbm, ⟨42, _⟩ => ⟨S1156x8x128, .f32⟩
  | _, _ => ⟨S1x1024x1156, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== DwKernel.lean ====
abbrev S8192x2816 : Shape := ⟨2, ![8192, 2816]⟩
abbrev S8192x1024 : Shape := ⟨2, ![8192, 1024]⟩
abbrev S2816x1024 : Shape := ⟨2, ![2816, 1024]⟩
abbrev S2048x2816 : Shape := ⟨2, ![2048, 2816]⟩
abbrev S2048x512 : Shape := ⟨2, ![2048, 512]⟩
abbrev S2816x512 : Shape := ⟨2, ![2816, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S2048x2816, .bf16⟩
  | .local _ .vmem, ⟨1, _⟩ => ⟨S2048x2816, .bf16⟩
  | .local _ .vmem, ⟨2, _⟩ => ⟨S2048x512, .f32⟩
  | .local _ .vmem, ⟨3, _⟩ => ⟨S2048x512, .f32⟩
  | .local _ .vmem, ⟨4, _⟩ => ⟨S2816x512, .bf16⟩
  | .local _ .vmem, ⟨5, _⟩ => ⟨S2816x512, .bf16⟩
  | .local _ .vmem, ⟨6, _⟩ => ⟨S2816x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwReferenceIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 15
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S1024x2816, .f32⟩
  | .hbm, ⟨13, _⟩ => ⟨S2816x1024, .f32⟩
  | .hbm, ⟨14, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Proof.FfnRun.lean ====
/- The whole run of the two FFN calls, named buffer by buffer: every buffer of a core that outlives the run ends at
   the contents the chain of boundaries `W3` names. The frame states this of the arguments alone; the value proof
   reads the results off the same run. -/
module

public import proofs.«01_k».proof.Proof.Gen.KernelIdeal.Frame

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer outside the scoped ones ends at its contents at the last boundary, and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W3 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

end Cert.KernelIdeal.Ffn

end
-- ==== Proof.FfnSpec.lean ====
/- The FFN half-step of the model, row by row, over the extended reals: one row `x` of the activations, the norm's
   gain `g`, the three weights laid out hidden column by hidden column, and a row `ct` of the cotangent. Both programs
   are shown to compute these rows. -/
module

public import Idealize.ShloMosaic.PureOps.Ideal.Laws
public import Idealize.ShloMosaic.Lib.ValueIdx

@[expose] public section

noncomputable section

namespace Cert.Ffn

open Idealize.ShloMosaic

/-- 0.5, 1024, the norm's epsilon and −0.5, as the programs print them. -/
abbrev half : EReal := Ideal.ofBits .f32 0x3F000000#32
abbrev width : EReal := Ideal.ofBits .f32 0x44800000#32
abbrev eps : EReal := Ideal.ofBits .f32 0x358637BD#32
abbrev mhalf : EReal := Ideal.ofBits .f32 0xBF000000#32

/-- The mean square of a row, plus epsilon. -/
def ms (x : Fin 1024 → EReal) : EReal := Ideal.div (∑ k, x k * x k) width + eps

/-- The reciprocal root of it. -/
def rs (x : Fin 1024 → EReal) : EReal := Ideal.rsqrt (ms x)

/-- The normed row. -/
def nrm (x g : Fin 1024 → EReal) (k : Fin 1024) : EReal := x k * rs x * g k

/-- A row against the columns of a weight: `n · w`. -/
def up (n : Fin 1024 → EReal) (w : Fin 2816 → Fin 1024 → EReal) (j : Fin 2816) : EReal := ∑ k, n k * w j k

/-- The logistic function. -/
def sg (a : EReal) : EReal := Ideal.div 1 (1 + Ideal.exp (-a))

/-- The gated hidden row's element. -/
def gate (a b : EReal) : EReal := a * sg a * b

/-- The half-step's output row. -/
def out (x : Fin 1024 → EReal) (hm : Fin 2816 → EReal) (wd : Fin 2816 → Fin 1024 → EReal) (k : Fin 1024) : EReal :=
  x k + half * ∑ j, hm j * wd j k

/-- The hidden row's cotangent. -/
def dhm (ct : Fin 1024 → EReal) (wd : Fin 2816 → Fin 1024 → EReal) (j : Fin 2816) : EReal :=
  ∑ k, half * ct k * wd j k

/-- The gate's gradient in the gated half, with the logistic's derivative folded in. -/
def da (d a b : EReal) : EReal := d * b * (sg a * (1 + a * (1 - sg a)))

/-- The same gradient as the chain rule writes it, term by term. -/
def daChain (d a b : EReal) : EReal := d * b * sg a + a * (d * b) * (sg a * (1 - sg a))

/-- The gate's gradient in the other half. -/
def db (d a : EReal) : EReal := d * (a * sg a)

/-- The normed row's cotangent. -/
def dn (u v : Fin 2816 → EReal) (wg wu : Fin 2816 → Fin 1024 → EReal) (k : Fin 1024) : EReal :=
  (∑ j, u j * wg j k) + ∑ j, v j * wu j k

/-- The mean square's cotangent, spread over the row. -/
def dms (x g d : Fin 1024 → EReal) : EReal :=
  Ideal.div ((∑ k, x k * (d k * g k)) * (mhalf * Ideal.div (rs x) (ms x))) width

/-- The input row's gradient: the residual's part and the norm's. -/
def dx (ct x g d : Fin 1024 → EReal) (k : Fin 1024) : EReal :=
  ct k + (d k * g k * rs x + x k * dms x g d + dms x g d * x k)

/-- One row's part of the gain's gradient. -/
def dg (x d : Fin 1024 → EReal) (k : Fin 1024) : EReal := x k * rs x * d k

end Cert.Ffn

end
-- ==== Proof.FfnPay.lean ====
/- What the two FFN calls' bodies store, read at an element of a block: the rows of `FfnSpec`. -/
module

public import proofs.«01_k».proof.Proof.FfnSpec
public import proofs.«01_k».proof.Proof.Gen.KernelIdeal.Skeleton
public import Idealize.ShloMosaic.Lib.Pointwise

@[expose] public section

set_option maxRecDepth 16384

noncomputable section

namespace Cert.KernelIdeal.Ffn

open Cert.KernelIdeal Cert.KernelIdeal.Gen Cert.Ffn
open Idealize.ShloMosaic Idealize.ShloMosaic.TcCoe Idealize.SL.Sem

/-- Row `r` of a matrix. -/
abbrev row {a b : Nat} (X : Shape.Idx ⟨2, ![a, b]⟩ → EReal) (r : Fin a) : Fin b → EReal := fun k => X (ix2 r k)

/-- A matrix by its coordinates. -/
abbrev mat {a b : Nat} (X : Shape.Idx ⟨2, ![a, b]⟩ → EReal) : Fin a → Fin b → EReal := fun r k => X (ix2 r k)

variable (x : FVec Ideal S256x1024 .f32) (g : FVec Ideal S1x1024 .f32)
variable (wg wu wd : FVec Ideal S2816x1024 .bf16) (a b : FVec Ideal S256x2816 .bf16) (ct : FVec Ideal S256x1024 .f32)
variable (r : Fin 256) (k : Fin 1024) (j : Fin 2816)

theorem pay0_n : k0_pay2 (F := Ideal) x g (ix2 r k) = nrm (row x r) (row g 0) k := by
  pointwise [k0_pay2]
  rfl

theorem pay0_a : k0_pay3 (F := Ideal) x g wg (ix2 r j) = up (nrm (row x r) (row g 0)) (mat wg) j := by
  pointwise [k0_pay3, pay0_n]
  rfl

theorem pay0_b : k0_pay4 (F := Ideal) x g wu (ix2 r j) = up (nrm (row x r) (row g 0)) (mat wu) j := by
  pointwise [k0_pay4, pay0_n]
  rfl

theorem pay0_h : k0_pay1 (F := Ideal) x (k0_pay4 x g wu) (k0_pay5 x g wg) (k0_pay6 x g wg) wd (ix2 r k)
    = out (row x r) (fun j => gate (up (nrm (row x r) (row g 0)) (mat wg) j) (up (nrm (row x r) (row g 0)) (mat wu) j)) (mat wd) k := by
  pointwise [k0_pay1, k0_pay5, k0_pay6, pay0_a, pay0_b]
  simp only [out, gate, sg, zero_sub]

theorem pay1_d : k1_pay4 (F := Ideal) ct wd (ix2 r j) = dhm (row ct r) (mat wd) j := by
  pointwise [k1_pay4]
  rfl

theorem pay1_s : k1_pay7 (F := Ideal) a (ix2 r j) = sg (a (ix2 r j)) := by
  pointwise [k1_pay7, k1_pay5]
  simp only [sg, zero_sub]

theorem pay1_da : k1_pay9 (F := Ideal) ct wd a b (ix2 r j) = da (dhm (row ct r) (mat wd) j) (a (ix2 r j)) (b (ix2 r j)) := by
  pointwise [k1_pay9, k1_pay5, k1_pay6, pay1_d, pay1_s]
  rfl

theorem pay1_db : k1_pay10 (F := Ideal) ct wd a (ix2 r j) = db (dhm (row ct r) (mat wd) j) (a (ix2 r j)) := by
  pointwise [k1_pay10, k1_pay8, k1_pay5, pay1_d, pay1_s]
  rfl

theorem pay1_hm : k1_pay11 (F := Ideal) (k1_pay6 b) (k1_pay8 a) (ix2 r j) = gate (a (ix2 r j)) (b (ix2 r j)) := by
  pointwise [k1_pay11, k1_pay6, k1_pay8, k1_pay5, pay1_s]
  rfl

theorem pay1_dn (u v : FVec Ideal S256x2816 .bf16) :
    k1_pay12 (F := Ideal) u v wg wu (ix2 r k) = dn (row u r) (row v r) (mat wg) (mat wu) k := by
  pointwise [k1_pay12]
  rfl

theorem pay1_ms (q : Fin 1) : k1_pay13 (F := Ideal) x (ix2 r q) = ms (row x r) := by
  pointwise [k1_pay13]
  rfl

theorem pay1_rs (q : Fin 1) : k1_pay14 (F := Ideal) x (ix2 r q) = rs (row x r) := by
  pointwise [k1_pay14, pay1_ms]
  rfl

theorem pay1_dg (u v : FVec Ideal S256x2816 .bf16) :
    k1_pay15 (F := Ideal) u v wg wu x (ix2 0 k) = ∑ r, dg (row x r) (dn (row u r) (row v r) (mat wg) (mat wu)) k := by
  pointwise [k1_pay15, pay1_rs, pay1_dn]
  rfl

theorem pay1_dx (u v : FVec Ideal S256x2816 .bf16) :
    k1_pay1 (F := Ideal) ct x (k1_pay17 u v wg wu x g) (k1_pay18 u v wg wu x g) (ix2 r k)
      = dx (row ct r) (row x r) (row g 0) (dn (row u r) (row v r) (mat wg) (mat wu)) k := by
  pointwise [k1_pay1, k1_pay16, k1_pay17, k1_pay18, pay1_rs, pay1_ms, pay1_dn]
  simp only [Finset.univ_unique, Finset.sum_singleton]
  rfl

theorem pay1_acc (p q : FVec Ideal S1x1024 .f32) (k : Fin 1024) :
    k1_pay2 (F := Ideal) p q (ix2 0 k) = q (ix2 0 k) + p (ix2 0 k) := by
  pointwise [k1_pay2]

end Cert.KernelIdeal.Ffn

end
-- ==== Proof.FfnFwd.lean ====
/- The forward call's four result arrays, from the blocks its points write: each a row function of the call's arrays. -/
module

public import proofs.«01_k».proof.Proof.FfnPay
public import proofs.«01_k».proof.Proof.Gen.KernelIdeal.Frame
public import Idealize.ShloMosaic.Lib.Pipeline.ValueKit

@[expose] public section

set_option maxRecDepth 16384

noncomputable section

namespace Cert.KernelIdeal.Ffn

open Cert.KernelIdeal Cert.KernelIdeal.Gen Cert.Ffn
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The forward call's results as functions of its arrays. -/
def nArr (X : FVec Ideal S8192x1024 .f32) (g : FVec Ideal S1x1024 .f32) : FVec Ideal S8192x1024 .bf16 :=
  fun i => nrm (row X (i 0)) (row g 0) (i 1)
def upArr (X : FVec Ideal S8192x1024 .f32) (g : FVec Ideal S1x1024 .f32) (w : FVec Ideal S2816x1024 .bf16) :
    FVec Ideal S8192x2816 .bf16 :=
  fun i => up (nrm (row X (i 0)) (row g 0)) (mat w) (i 1)
def hArr (X : FVec Ideal S8192x1024 .f32) (g : FVec Ideal S1x1024 .f32) (wg wu wd : FVec Ideal S2816x1024 .bf16) :
    FVec Ideal S8192x1024 .f32 :=
  fun i => out (row X (i 0)) (fun j => gate (up (nrm (row X (i 0)) (row g 0)) (mat wg) j)
    (up (nrm (row X (i 0)) (row g 0)) (mat wu) j)) (mat wd) (i 1)

theorem idx0 : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The array row a point's block row sits at. -/
def rowAt (t : Fin cfg0.N) (r : Fin 256) : Fin 8192 := ⟨t.val * 256 + r.val, by
  have h := t.isLt; have h32 : cfg0.N = 32 := N_0; omega⟩

theorem row0_x (c : Dev nD) (t : Fin cfg0.N) (r : Fin 256) :
    row (iblk0 (F := Ideal) V c 0 t) r = row (V c main_arg0) (rowAt t r) := by
  funext k
  show iblk0 V c 0 t (ix2 r k) = V c main_arg0 (ix2 (rowAt t r) k)
  blk_ext [iblk0, idx0 t, rowAt]

theorem blk0_g (c : Dev nD) (t : Fin cfg0.N) : iblk0 (F := Ideal) V c 1 t = V c main_arg1 := by
  funext y; blk_ext [iblk0, idx0 t]

theorem blk0_wg (c : Dev nD) (t : Fin cfg0.N) : iblk0 (F := Ideal) V c 2 t = V c main_v2 := by
  funext y; blk_ext [iblk0, idx0 t]

theorem blk0_wu (c : Dev nD) (t : Fin cfg0.N) : iblk0 (F := Ideal) V c 3 t = V c main_v5 := by
  funext y; blk_ext [iblk0, idx0 t]

theorem blk0_wd (c : Dev nD) (t : Fin cfg0.N) : iblk0 (F := Ideal) V c 4 t = V c main_v7 := by
  funext y; blk_ext [iblk0, idx0 t]

/-- The normed activations. -/
theorem final0_6 (c : Dev nD) : (dat0 (F := Ideal) V c).arrAt 6 cfg0.N = nArr (V c main_arg0) (V c main_arg1) := by
  refine (dat0 V c).arrAt_eq_of_covers 6 _ (by decide +kernel) fun t _ y => ?_
  obtain ⟨r, k, rfl⟩ : ∃ (r : Fin 256) (k : Fin 1024), y = (ix2 r k : S256x1024.Idx) := ⟨y 0, y 1, eq_ix2 y⟩
  have e : ((cfg0.win 6).blk t).view.emb (ix2 r k : S256x1024.Idx) = (ix2 (rowAt t r) k : S8192x1024.Idx) := by
    blk_ext [idx0 t, rowAt]
  rw [e]
  blk_simp
  rw [after0_6]; frame_out
  refine (pay0_n ..).trans ?_
  rw [row0_x, blk0_g]
  rfl

/-- The gated half of the hidden rows. -/
theorem final0_7 (c : Dev nD) : (dat0 (F := Ideal) V c).arrAt 7 cfg0.N = upArr (V c main_arg0) (V c main_arg1) (V c main_v2) := by
  refine (dat0 V c).arrAt_eq_of_covers 7 _ (by decide +kernel) fun t _ y => ?_
  obtain ⟨r, k, rfl⟩ : ∃ (r : Fin 256) (k : Fin 2816), y = (ix2 r k : S256x2816.Idx) := ⟨y 0, y 1, eq_ix2 y⟩
  have e : ((cfg0.win 7).blk t).view.emb (ix2 r k : S256x2816.Idx) = (ix2 (rowAt t r) k : S8192x2816.Idx) := by
    blk_ext [idx0 t, rowAt]
  rw [e]
  blk_simp
  rw [after0_7]; frame_out
  refine (pay0_a ..).trans ?_
  rw [row0_x, blk0_g, blk0_wg]
  rfl

/-- The other half. -/
theorem final0_8 (c : Dev nD) : (dat0 (F := Ideal) V c).arrAt 8 cfg0.N = upArr (V c main_arg0) (V c main_arg1) (V c main_v5) := by
  refine (dat0 V c).arrAt_eq_of_covers 8 _ (by decide +kernel) fun t _ y => ?_
  obtain ⟨r, k, rfl⟩ : ∃ (r : Fin 256) (k : Fin 2816), y = (ix2 r k : S256x2816.Idx) := ⟨y 0, y 1, eq_ix2 y⟩
  have e : ((cfg0.win 8).blk t).view.emb (ix2 r k : S256x2816.Idx) = (ix2 (rowAt t r) k : S8192x2816.Idx) := by
    blk_ext [idx0 t, rowAt]
  rw [e]
  blk_simp
  rw [after0_8]; frame_out
  refine (pay0_b ..).trans ?_
  rw [row0_x, blk0_g, blk0_wu]
  rfl

/-- The half-step's output. -/
theorem final0_5 (c : Dev nD) : (dat0 (F := Ideal) V c).arrAt 5 cfg0.N = hArr (V c main_arg0) (V c main_arg1) (V c main_v2) (V c main_v5) (V c main_v7) := by
  refine (dat0 V c).arrAt_eq_of_covers 5 _ (by decide +kernel) fun t _ y => ?_
  obtain ⟨r, k, rfl⟩ : ∃ (r : Fin 256) (k : Fin 1024), y = (ix2 r k : S256x1024.Idx) := ⟨y 0, y 1, eq_ix2 y⟩
  have e : ((cfg0.win 5).blk t).view.emb (ix2 r k : S256x1024.Idx) = (ix2 (rowAt t r) k : S8192x1024.Idx) := by
    blk_ext [idx0 t, rowAt]
  rw [e]
  blk_simp
  rw [after0_5]; frame_out
  refine (pay0_h ..).trans ?_
  rw [row0_x, blk0_g, blk0_wg, blk0_wu, blk0_wd]
  rfl

end Cert.KernelIdeal.Ffn

end
-- ==== Proof.FfnBwd.lean ====
/- The backward call's five result arrays: four from the block each point writes, the gain's gradient from the block
   that every point adds its rows to. -/
module

public import proofs.«01_k».proof.Proof.FfnFwd

@[expose] public section

set_option maxRecDepth 16384

noncomputable section

namespace Cert.KernelIdeal.Ffn

open Cert.KernelIdeal Cert.KernelIdeal.Gen Cert.Ffn
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

section Arrays

variable (ct X : FVec Ideal S8192x1024 .f32) (g : FVec Ideal S1x1024 .f32) (A B : FVec Ideal S8192x2816 .bf16)
variable (wg wu wd : FVec Ideal S2816x1024 .bf16)

/-- The backward call's results as functions of its arrays. -/
def daArr : FVec Ideal S8192x2816 .bf16 := fun i => da (dhm (row ct (i 0)) (mat wd) (i 1)) (A i) (B i)
def dbArr : FVec Ideal S8192x2816 .bf16 := fun i => db (dhm (row ct (i 0)) (mat wd) (i 1)) (A i)
def hmArr : FVec Ideal S8192x2816 .bf16 := fun i => gate (A i) (B i)
/-- The normed row's cotangent, row by row. -/
def dnRow (i : Fin 8192) : Fin 1024 → EReal :=
  dn (row (daArr ct A B wd) i) (row (dbArr ct A wd) i) (mat wg) (mat wu)
def dxArr : FVec Ideal S8192x1024 .f32 := fun i =>
  dx (row ct (i 0)) (row X (i 0)) (row g 0) (dnRow ct A B wg wu wd (i 0)) (i 1)
def dgArr : FVec Ideal S1x1024 .f32 := fun i => ∑ r : Fin 8192, dg (row X r) (dnRow ct A B wg wu wd r) (i 1)

end Arrays

theorem idx1 : ∀ t : Fin cfg1.N, win1_0.index t = ![t.val, 0] ∧ win1_1.index t = ![t.val, 0] ∧ win1_2.index t = ![0, 0]
    ∧ win1_3.index t = ![t.val, 0] ∧ win1_4.index t = ![t.val, 0] ∧ win1_5.index t = ![0, 0] ∧ win1_6.index t = ![0, 0]
    ∧ win1_7.index t = ![0, 0] ∧ win1_8.index t = ![t.val, 0] ∧ win1_9.index t = ![t.val, 0]
    ∧ win1_10.index t = ![t.val, 0] ∧ win1_11.index t = ![t.val, 0] ∧ win1_12.index t = ![0, 0] :=
  (by decide +kernel : ∀ t : Fin grid1.N, _)

section Blocks

variable (c : Dev nD) (t : Fin cfg1.N)

theorem row1_ct (r : Fin 256) : row (iblk1 (F := Ideal) V c 0 t) r = row (V c main_arg5) (rowAt t r) := by
  funext k
  show iblk1 V c 0 t (ix2 r k) = V c main_arg5 (ix2 (rowAt t r) k)
  blk_ext [iblk1, idx1 t, rowAt]

theorem row1_x (r : Fin 256) : row (iblk1 (F := Ideal) V c 1 t) r = row (V c main_arg0) (rowAt t r) := by
  funext k
  show iblk1 V c 1 t (ix2 r k) = V c main_arg0 (ix2 (rowAt t r) k)
  blk_ext [iblk1, idx1 t, rowAt]

theorem blk1_a (r : Fin 256) (j : Fin 2816) :
    iblk1 (F := Ideal) V c 3 t (ix2 r j) = V c main_v8_2 (ix2 (rowAt t r) j) := by
  blk_ext [iblk1, idx1 t, rowAt]

theorem blk1_b (r : Fin 256) (j : Fin 2816) :
    iblk1 (F := Ideal) V c 4 t (ix2 r j) = V c main_v8_3 (ix2 (rowAt t r) j) := by
  blk_ext [iblk1, idx1 t, rowAt]

theorem blk1_g : iblk1 (F := Ideal) V c 2 t = V c main_arg1 := by
  funext y; blk_ext [iblk1, idx1 t]

theorem blk1_wg : iblk1 (F := Ideal) V c 5 t = V c main_v2 := by
  funext y; blk_ext [iblk1, idx1 t]

theorem blk1_wu : iblk1 (F := Ideal) V c 6 t = V c main_v5 := by
  funext y; blk_ext [iblk1, idx1 t]

theorem blk1_wd : iblk1 (F := Ideal) V c 7 t = V c main_v7 := by
  funext y; blk_ext [iblk1, idx1 t]

end Blocks

section Stored

variable (c : Dev nD) (t : Fin cfg1.N)

/-- The two hidden cotangents of a point's block. -/
def daB := k1_pay9 (F := Ideal) (iblk1 V c 0 t) (iblk1 V c 7 t) (iblk1 V c 3 t) (iblk1 V c 4 t)
def dbB := k1_pay10 (F := Ideal) (iblk1 V c 0 t) (iblk1 V c 7 t) (iblk1 V c 3 t)
/-- A point's part of the gain's gradient. -/
def dgB := k1_pay15 (F := Ideal) (daB V c t) (dbB V c t) (iblk1 V c 5 t) (iblk1 V c 6 t) (iblk1 V c 1 t)

theorem stored_da : (outsAt1 (F := Ideal) V c t.val t.isLt).2.1 = daB V c t := by
  by_cases h0 : t.val % 32 = 0
  · rw [outsAt1_A V c t h0]; frame_out; rfl
  · rw [outsAt1_B V c t h0]; frame_out; rfl

theorem stored_db : (outsAt1 (F := Ideal) V c t.val t.isLt).2.2.1 = dbB V c t := by
  by_cases h0 : t.val % 32 = 0
  · rw [outsAt1_A V c t h0]; frame_out; rfl
  · rw [outsAt1_B V c t h0]; frame_out; rfl

theorem stored_hm : (outsAt1 (F := Ideal) V c t.val t.isLt).2.2.2.1
    = k1_pay11 (k1_pay6 (iblk1 V c 4 t)) (k1_pay8 (iblk1 V c 3 t)) := by
  by_cases h0 : t.val % 32 = 0
  · rw [outsAt1_A V c t h0]; frame_out
  · rw [outsAt1_B V c t h0]; frame_out

theorem stored_dx : (outsAt1 (F := Ideal) V c t.val t.isLt).1
    = k1_pay1 (iblk1 V c 0 t) (iblk1 V c 1 t)
        (k1_pay17 (daB V c t) (dbB V c t) (iblk1 V c 5 t) (iblk1 V c 6 t) (iblk1 V c 1 t) (iblk1 V c 2 t))
        (k1_pay18 (daB V c t) (dbB V c t) (iblk1 V c 5 t) (iblk1 V c 6 t) (iblk1 V c 1 t) (iblk1 V c 2 t)) := by
  by_cases h0 : t.val % 32 = 0
  · rw [outsAt1_A V c t h0]; frame_out; rfl
  · rw [outsAt1_B V c t h0]; frame_out; rfl

theorem stored_dg_first (h0 : t.val % 32 = 0) :
    (outsAt1 (F := Ideal) V c t.val t.isLt).2.2.2.2 = k1_pay2 (dgB V c t) (k1_pay3 (F := Ideal)) := by
  rw [outsAt1_A V c t h0]; frame_out; rfl

theorem stored_dg_next (h0 : ¬t.val % 32 = 0) :
    (outsAt1 (F := Ideal) V c t.val t.isLt).2.2.2.2
      = k1_pay2 (dgB V c t) (outsAt1 V c (t.val - 1) (Nat.lt_of_le_of_lt (Nat.sub_le _ _) t.isLt)).2.2.2.2 := by
  rw [outsAt1_B V c t h0]; frame_out; rfl

end Stored

section Rows

variable (c : Dev nD) (t : Fin cfg1.N) (r : Fin 256)

theorem row_da : row (daB V c t) r
    = row (daArr (V c main_arg5) (V c main_v8_2) (V c main_v8_3) (V c main_v7)) (rowAt t r) := by
  funext j
  refine (pay1_da ..).trans ?_
  rw [row1_ct, blk1_wd, blk1_a, blk1_b]
  rfl

theorem row_db : row (dbB V c t) r = row (dbArr (V c main_arg5) (V c main_v8_2) (V c main_v7)) (rowAt t r) := by
  funext j
  refine (pay1_db ..).trans ?_
  rw [row1_ct, blk1_wd, blk1_a]
  rfl

theorem dgB_at (k : Fin 1024) : dgB V c t (ix2 0 k) = ∑ r : Fin 256, dg (row (V c main_arg0) (rowAt t r))
    (dnRow (V c main_arg5) (V c main_v8_2) (V c main_v8_3) (V c main_v2) (V c main_v5) (V c main_v7) (rowAt t r)) k := by
  refine (pay1_dg ..).trans (Finset.sum_congr rfl fun r _ => ?_)
  rw [row1_x, row_da, row_db, blk1_wg, blk1_wu]
  rfl

end Rows

/-- The gated half's cotangent. -/
theorem final1_9 (c : Dev nD) : (dat1 (F := Ideal) V c).arrAt 9 cfg1.N
    = daArr (V c main_arg5) (V c main_v8_2) (V c main_v8_3) (V c main_v7) := by
  refine (dat1 V c).arrAt_eq_of_covers 9 _ (by decide +kernel) fun t _ y => ?_
  obtain ⟨r, k, rfl⟩ : ∃ (r : Fin 256) (k : Fin 2816), y = (ix2 r k : S256x2816.Idx) := ⟨y 0, y 1, eq_ix2 y⟩
  have e : ((cfg1.win 9).blk t).view.emb (ix2 r k : S256x2816.Idx) = (ix2 (rowAt t r) k : S8192x2816.Idx) := by
    blk_ext [idx1 t, rowAt]
  rw [e]
  blk_simp
  rw [after1_9, stored_da]
  exact congrFun (row_da V c t r) k

/-- The other half's cotangent. -/
theorem final1_10 (c : Dev nD) : (dat1 (F := Ideal) V c).arrAt 10 cfg1.N
    = dbArr (V c main_arg5) (V c main_v8_2) (V c main_v7) := by
  refine (dat1 V c).arrAt_eq_of_covers 10 _ (by decide +kernel) fun t _ y => ?_
  obtain ⟨r, k, rfl⟩ : ∃ (r : Fin 256) (k : Fin 2816), y = (ix2 r k : S256x2816.Idx) := ⟨y 0, y 1, eq_ix2 y⟩
  have e : ((cfg1.win 10).blk t).view.emb (ix2 r k : S256x2816.Idx) = (ix2 (rowAt t r) k : S8192x2816.Idx) := by
    blk_ext [idx1 t, rowAt]
  rw [e]
  blk_simp
  rw [after1_10, stored_db]
  exact congrFun (row_db V c t r) k

/-- The gated hidden rows. -/
theorem final1_11 (c : Dev nD) : (dat1 (F := Ideal) V c).arrAt 11 cfg1.N = hmArr (V c main_v8_2) (V c main_v8_3) := by
  refine (dat1 V c).arrAt_eq_of_covers 11 _ (by decide +kernel) fun t _ y => ?_
  obtain ⟨r, k, rfl⟩ : ∃ (r : Fin 256) (k : Fin 2816), y = (ix2 r k : S256x2816.Idx) := ⟨y 0, y 1, eq_ix2 y⟩
  have e : ((cfg1.win 11).blk t).view.emb (ix2 r k : S256x2816.Idx) = (ix2 (rowAt t r) k : S8192x2816.Idx) := by
    blk_ext [idx1 t, rowAt]
  rw [e]
  blk_simp
  rw [after1_11, stored_hm]
  refine (pay1_hm ..).trans ?_
  rw [blk1_a, blk1_b]
  rfl

/-- The input rows' gradient. -/
theorem final1_8 (c : Dev nD) : (dat1 (F := Ideal) V c).arrAt 8 cfg1.N
    = dxArr (V c main_arg5) (V c main_arg0) (V c main_arg1) (V c main_v8_2) (V c main_v8_3) (V c main_v2) (V c main_v5)
        (V c main_v7) := by
  refine (dat1 V c).arrAt_eq_of_covers 8 _ (by decide +kernel) fun t _ y => ?_
  obtain ⟨r, k, rfl⟩ : ∃ (r : Fin 256) (k : Fin 1024), y = (ix2 r k : S256x1024.Idx) := ⟨y 0, y 1, eq_ix2 y⟩
  have e : ((cfg1.win 8).blk t).view.emb (ix2 r k : S256x1024.Idx) = (ix2 (rowAt t r) k : S8192x1024.Idx) := by
    blk_ext [idx1 t, rowAt]
  rw [e]
  blk_simp
  rw [after1_8, stored_dx]
  refine (pay1_dx ..).trans ?_
  rw [row1_ct, row1_x, row_da, row_db, blk1_g, blk1_wg, blk1_wu]
  rfl

/-- The gain's gradient: every block's rows, added up point after point. -/
theorem final1_12 (c : Dev nD) : (dat1 (F := Ideal) V c).arrAt 12 cfg1.N
    = dgArr (V c main_arg5) (V c main_arg0) (V c main_v8_2) (V c main_v8_3) (V c main_v2) (V c main_v5) (V c main_v7) := by
  refine (dat1 V c).arrAt_eq_of_covers 12 _ (by decide +kernel) fun t hf y => ?_
  obtain ⟨q, k, rfl⟩ : ∃ (q : Fin 1) (k : Fin 1024), y = (ix2 q k : S1x1024.Idx) := ⟨y 0, y 1, eq_ix2 y⟩
  obtain rfl : q = 0 := Subsingleton.elim _ _
  have e : ((cfg1.win 12).blk t).view.emb (ix2 (0 : Fin 1) k : S1x1024.Idx) = (ix2 0 k : S1x1024.Idx) := by
    blk_ext [idx1 t]
  rw [e]
  blk_simp
  rw [after1_12]
  have hN : cfg1.N = 32 := N_1
  have hl : t.val + 1 = cfg1.N := by
    have h := (flush1_12 t).mp hf
    have := t.isLt
    omega
  refine (Pipeline.eq_sum_fin_of_reset_step_apply_last (fun n h => (fun k : Fin 1024 => (outsAt1 V c n h).2.2.2.2 (ix2 0 k)))
    32 (fun _ => 0) (fun t k => dgB V c t (ix2 0 k)) (fun t h k => ?_) (fun t h k => ?_) hN.le t hl k).trans ?_
  · show (outsAt1 V c t.val t.isLt).2.2.2.2 (ix2 0 k) = _
    rw [stored_dg_first V c t h, pay1_acc]
    congr 1
    simp [k1_pay3, Ideal.ofBits, Ideal.ieee]
    rfl
  · show (outsAt1 V c t.val t.isLt).2.2.2.2 (ix2 0 k) = _
    rw [stored_dg_next V c t h, pay1_acc]
  · rw [zero_add]
    simp only [dgB_at]
    exact Fin.sum_mul_add_congr (L := 8192) (fun s r hl => rfl) (by rw [hN])

end Cert.KernelIdeal.Ffn

end
-- ==== Proof.FfnHost.lean ====
/- The two calls' arrays between the calls, as functions of the program's arguments: the weights the host laid out, what
   the forward call saved, and every result. -/
module

public import proofs.«01_k».proof.Proof.FfnBwd

@[expose] public section

set_option maxRecDepth 16384

noncomputable section

namespace Cert.KernelIdeal.Ffn

open Cert.KernelIdeal Cert.KernelIdeal.Gen Cert.Ffn
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The arguments on a device. -/
abbrev aX : FVec Ideal S8192x1024 .f32 := m ((c : Thread nD τ).loc main_arg0)
abbrev aG : FVec Ideal S1x1024 .f32 := m ((c : Thread nD τ).loc main_arg1)
abbrev aWg : FVec Ideal S1x1024x2816 .f32 := m ((c : Thread nD τ).loc main_arg2)
abbrev aWu : FVec Ideal S1x1024x2816 .f32 := m ((c : Thread nD τ).loc main_arg3)
abbrev aWd : FVec Ideal S1x2816x1024 .f32 := m ((c : Thread nD τ).loc main_arg4)
abbrev aCt : FVec Ideal S8192x1024 .f32 := m ((c : Thread nD τ).loc main_arg5)

/-- The weights as the calls take them. -/
def wgt : FVec Ideal S2816x1024 .bf16 := fun i => aWg m c (ix3 0 (i 1) (i 0))
def wut : FVec Ideal S2816x1024 .bf16 := fun i => aWu m c (ix3 0 (i 1) (i 0))
def wdt : FVec Ideal S2816x1024 .bf16 := fun i => aWd m c (ix3 0 (i 0) (i 1))

theorem V1_wg : V1 m ρ c main_v2 = wgt m c := by
  show StableHlo.after hostOps0 (W0 m ρ c) (Proc.devRef .tc main_v2) = _
  after_results_simp
  funext i
  obtain ⟨r, k, rfl⟩ : ∃ (r : Fin 2816) (k : Fin 1024), i = (ix2 r k : S2816x1024.Idx) := ⟨i 0, i 1, eq_ix2 i⟩
  change truncf .bf16 (transpose S2816x1024 [1, 0] (shapeCast S1024x2816 (aWg m c) shapeCasts_S1x1024x2816_S1024x2816)
    transposes_S1024x2816_S2816x1024_1_0) bitsLt_bf16_f32 (ix2 r k) = _
  pointwise []
  rfl

theorem V1_wu : V1 m ρ c main_v5 = wut m c := by
  show StableHlo.after hostOps0 (W0 m ρ c) (Proc.devRef .tc main_v5) = _
  after_results_simp
  funext i
  obtain ⟨r, k, rfl⟩ : ∃ (r : Fin 2816) (k : Fin 1024), i = (ix2 r k : S2816x1024.Idx) := ⟨i 0, i 1, eq_ix2 i⟩
  change truncf .bf16 (transpose S2816x1024 [1, 0] (shapeCast S1024x2816 (aWu m c) shapeCasts_S1x1024x2816_S1024x2816)
    transposes_S1024x2816_S2816x1024_1_0) bitsLt_bf16_f32 (ix2 r k) = _
  pointwise []
  rfl

theorem V1_wd : V1 m ρ c main_v7 = wdt m c := by
  show StableHlo.after hostOps0 (W0 m ρ c) (Proc.devRef .tc main_v7) = _
  after_results_simp
  funext i
  obtain ⟨r, k, rfl⟩ : ∃ (r : Fin 2816) (k : Fin 1024), i = (ix2 r k : S2816x1024.Idx) := ⟨i 0, i 1, eq_ix2 i⟩
  change truncf .bf16 (shapeCast S2816x1024 (aWd m c) shapeCasts_S1x2816x1024_S2816x1024) bitsLt_bf16_f32 (ix2 r k) = _
  pointwise []
  rfl

theorem V1_x : V1 m ρ c main_arg0 = aX m c := W1_args m ρ c main_arg0 (by decide)
theorem V1_g : V1 m ρ c main_arg1 = aG m c := W1_args m ρ c main_arg1 (by decide)
theorem V1_ct : V1 m ρ c main_arg5 = aCt m c := W1_args m ρ c main_arg5 (by decide)

/-- The forward call's results as functions of the arguments. -/
abbrev H1 := hArr (aX m c) (aG m c) (wgt m c) (wut m c) (wdt m c)
abbrev N1 := nArr (aX m c) (aG m c)
abbrev A1 := upArr (aX m c) (aG m c) (wgt m c)
abbrev B1 := upArr (aX m c) (aG m c) (wut m c)

theorem V2_h : V2 m ρ c main_v8_0 = H1 m c := by
  refine (W2_arr m ρ c 5).trans ((final0_5 (V1 m ρ) c).trans ?_)
  rw [V1_x, V1_g, V1_wg, V1_wu, V1_wd]
theorem V2_n : V2 m ρ c main_v8_1 = N1 m c := by
  refine (W2_arr m ρ c 6).trans ((final0_6 (V1 m ρ) c).trans ?_)
  rw [V1_x, V1_g]
theorem V2_a : V2 m ρ c main_v8_2 = A1 m c := by
  refine (W2_arr m ρ c 7).trans ((final0_7 (V1 m ρ) c).trans ?_)
  rw [V1_x, V1_g, V1_wg]
theorem V2_b : V2 m ρ c main_v8_3 = B1 m c := by
  refine (W2_arr m ρ c 8).trans ((final0_8 (V1 m ρ) c).trans ?_)
  rw [V1_x, V1_g, V1_wu]
theorem V2_wg : V2 m ρ c main_v2 = wgt m c := (W2_of m ρ c main_v2 (by decide)).trans (V1_wg m ρ c)
theorem V2_wu : V2 m ρ c main_v5 = wut m c := (W2_of m ρ c main_v5 (by decide)).trans (V1_wu m ρ c)
theorem V2_wd : V2 m ρ c main_v7 = wdt m c := (W2_of m ρ c main_v7 (by decide)).trans (V1_wd m ρ c)
theorem V2_x : V2 m ρ c main_arg0 = aX m c := (W2_of m ρ c main_arg0 (by decide)).trans (V1_x m ρ c)
theorem V2_g : V2 m ρ c main_arg1 = aG m c := (W2_of m ρ c main_arg1 (by decide)).trans (V1_g m ρ c)
theorem V2_ct : V2 m ρ c main_arg5 = aCt m c := (W2_of m ρ c main_arg5 (by decide)).trans (V1_ct m ρ c)

/-- The forward call's results are still there at the end. -/
theorem W3_h : W3 m ρ c (Proc.devRef .tc main_v8_0) = H1 m c := (W3_of m ρ c main_v8_0 (by decide)).trans (V2_h m ρ c)
theorem W3_n : W3 m ρ c (Proc.devRef .tc main_v8_1) = N1 m c := (W3_of m ρ c main_v8_1 (by decide)).trans (V2_n m ρ c)
theorem W3_a : W3 m ρ c (Proc.devRef .tc main_v8_2) = A1 m c := (W3_of m ρ c main_v8_2 (by decide)).trans (V2_a m ρ c)
theorem W3_b : W3 m ρ c (Proc.devRef .tc main_v8_3) = B1 m c := (W3_of m ρ c main_v8_3 (by decide)).trans (V2_b m ρ c)

/-- The backward call's results. -/
theorem W3_dx : W3 m ρ c (Proc.devRef .tc main_v9_0)
    = dxArr (aCt m c) (aX m c) (aG m c) (A1 m c) (B1 m c) (wgt m c) (wut m c) (wdt m c) := by
  refine (W3_arr m ρ c 8).trans ((final1_8 (V2 m ρ) c).trans ?_)
  rw [V2_ct, V2_x, V2_g, V2_a, V2_b, V2_wg, V2_wu, V2_wd]
theorem W3_da : W3 m ρ c (Proc.devRef .tc main_v9_1) = daArr (aCt m c) (A1 m c) (B1 m c) (wdt m c) := by
  refine (W3_arr m ρ c 9).trans ((final1_9 (V2 m ρ) c).trans ?_)
  rw [V2_ct, V2_a, V2_b, V2_wd]
theorem W3_db : W3 m ρ c (Proc.devRef .tc main_v9_2) = dbArr (aCt m c) (A1 m c) (wdt m c) := by
  refine (W3_arr m ρ c 10).trans ((final1_10 (V2 m ρ) c).trans ?_)
  rw [V2_ct, V2_a, V2_wd]
theorem W3_hm : W3 m ρ c (Proc.devRef .tc main_v9_3) = hmArr (A1 m c) (B1 m c) := by
  refine (W3_arr m ρ c 11).trans ((final1_11 (V2 m ρ) c).trans ?_)
  rw [V2_a, V2_b]
theorem W3_dg : W3 m ρ c (Proc.devRef .tc main_v9_4)
    = dgArr (aCt m c) (aX m c) (A1 m c) (B1 m c) (wgt m c) (wut m c) (wdt m c) := by
  refine (W3_arr m ρ c 12).trans ((final1_12 (V2 m ρ) c).trans ?_)
  rw [V2_ct, V2_x, V2_a, V2_b, V2_wg, V2_wu, V2_wd]

end Cert.KernelIdeal.Ffn

end
-- ==== Proof.FfnRef.lean ====
/- The reference's arrays, read at an element: the rows of `FfnSpec`. -/
module

public import proofs.«01_k».proof.Proof.FfnSpec
public import proofs.«01_k».proof.Proof.Gen.ReferenceIdeal.Read
public import Idealize.ShloMosaic.Lib.Pointwise

@[expose] public section

set_option maxRecDepth 16384

noncomputable section

namespace Cert.ReferenceIdeal.Ffn

open Cert.ReferenceIdeal Cert.ReferenceIdeal.Gen Cert.ReferenceIdeal.Read Cert.Ffn
open Idealize.ShloMosaic Idealize.ShloMosaic.TcCoe Idealize.SL.Sem

/-- Row `r` of a matrix. -/
abbrev row {a b : Nat} (X : Shape.Idx ⟨2, ![a, b]⟩ → EReal) (r : Fin a) : Fin b → EReal := fun k => X (ix2 r k)

/-- A weight's columns, and a weight's rows. -/
abbrev cols {a b : Nat} (w : Shape.Idx ⟨3, ![1, a, b]⟩ → EReal) : Fin b → Fin a → EReal := fun j k => w (ix3 0 k j)
abbrev rows {a b : Nat} (w : Shape.Idx ⟨3, ![1, a, b]⟩ → EReal) : Fin a → Fin b → EReal := fun j k => w (ix3 0 j k)

variable (x0 : FVec Ideal S8192x1024 .f32) (x1 : FVec Ideal S1x1024 .f32) (x2 x3 : FVec Ideal S1x1024x2816 .f32)
variable (x4 : FVec Ideal S1x2816x1024 .f32) (x5 : FVec Ideal S8192x1024 .f32)
variable (i : Fin 8192) (k : Fin 1024) (j : Fin 2816)

theorem v7_at (q : Fin 1) : val_main_v7 (F := Ideal) x0 (ix2 i q) = ms (row x0 i) := by
  pointwise [val_main_v7, val_main_v6, val_main_v5, val_main_v4, val_main_v3, val_main_v2, val_main_v1, val_main_cst,
    val_main_cst_0, val_main_cst_1]
  rfl

theorem v8_at (q : Fin 1) : val_main_v8 (F := Ideal) x0 (ix2 i q) = rs (row x0 i) := by
  pointwise [val_main_v8, v7_at]
  rfl

theorem v13_at : val_main_v13 (F := Ideal) x0 (ix2 i k) = x0 (ix2 i k) * rs (row x0 i) := by
  pointwise [val_main_v13, val_main_v12, v8_at]

theorem v16_at : val_main_v16 (F := Ideal) x0 x1 (ix2 i k) = nrm (row x0 i) (row x1 0) k := by
  pointwise [val_main_v16, val_main_v15, val_main_v14, val_main_v0, v13_at]
  rfl

theorem v18_at : val_main_v18 (F := Ideal) x0 x1 x2 (ix2 i j) = up (nrm (row x0 i) (row x1 0)) (cols x2) j := by
  pointwise [val_main_v18, val_main_v17, v16_at]
  rfl

theorem v20_at : val_main_v20 (F := Ideal) x0 x1 x3 (ix2 i j) = up (nrm (row x0 i) (row x1 0)) (cols x3) j := by
  pointwise [val_main_v20, val_main_v19, v16_at]
  rfl

theorem s_at : val_main_v21_2 (F := Ideal) x0 x1 x2 (ix2 i j) = sg (val_main_v18 (F := Ideal) x0 x1 x2 (ix2 i j)) := by
  pointwise [val_main_v21_2, val_main_call0_v4, val_main_call0_v3, val_main_call0_v2, val_main_call0_v1, val_main_call0_v0,
    val_main_call0_cst, val_main_call0_cst_0]
  simp only [sg]

theorem v22_at : val_main_v22 (F := Ideal) x0 x1 x2 x3 (ix2 i j)
    = gate (up (nrm (row x0 i) (row x1 0)) (cols x2) j) (up (nrm (row x0 i) (row x1 0)) (cols x3) j) := by
  pointwise [val_main_v22, val_main_v21_0, s_at, v18_at, v20_at]
  rfl

theorem v27_at : val_main_v27 (F := Ideal) x0 x1 x2 x3 x4 (ix2 i k)
    = out (row x0 i) (fun j => gate (up (nrm (row x0 i) (row x1 0)) (cols x2) j) (up (nrm (row x0 i) (row x1 0)) (cols x3) j))
        (rows x4) k := by
  pointwise [val_main_v27, val_main_v26, val_main_v25, val_main_v24, val_main_v23, val_main_cst_3, v22_at]
  rfl

theorem v31_at : val_main_v31 (F := Ideal) x4 x5 (ix2 i j) = dhm (row x5 i) (rows x4) j := by
  pointwise [val_main_v31, val_main_v30, val_main_v29, val_main_v28, val_main_v23, val_main_cst_4]
  rfl

theorem v32_at : val_main_v32 (F := Ideal) x0 x1 x2 x4 x5 (ix2 i j)
    = db (dhm (row x5 i) (rows x4) j) (up (nrm (row x0 i) (row x1 0)) (cols x2) j) := by
  pointwise [val_main_v32, val_main_v21_0, s_at, v18_at, v31_at]
  rw [mul_comm]
  rfl

/-- The gated half's gradient as the chain rule writes it. -/
theorem v34_at : val_main_v34 (F := Ideal) x0 x1 x2 x3 x4 x5 (ix2 i j)
    = daChain (dhm (row x5 i) (rows x4) j) (up (nrm (row x0 i) (row x1 0)) (cols x2) j)
        (up (nrm (row x0 i) (row x1 0)) (cols x3) j) := by
  pointwise [val_main_v34, val_main_call1_v2, val_main_call1_v1, val_main_call1_v0, val_main_v33, val_main_v21_1,
    val_main_call0_v7, val_main_call0_v6, val_main_call0_cst_1, s_at, v18_at, v20_at, v31_at]
  rfl

section Grad

/-- The hidden rows' two gradients in the reference, at a row. -/
abbrev ru : Fin 2816 → EReal := row (val_main_v34 (F := Ideal) x0 x1 x2 x3 x4 x5) i
abbrev rv : Fin 2816 → EReal := row (val_main_v32 (F := Ideal) x0 x1 x2 x4 x5) i

theorem v37_at : val_main_v37 (F := Ideal) x0 x1 x2 x3 x4 x5 (ix2 i k)
    = dn (ru x0 x1 x2 x3 x4 x5 i) (rv x0 x1 x2 x4 x5 i) (cols x2) (cols x3) k := by
  pointwise [val_main_v37, val_main_v36, val_main_v35, val_main_v17, val_main_v19]
  rw [add_comm]
  rfl

theorem v42_at : val_main_v42 (F := Ideal) x0 x1 x2 x3 x4 x5 (ix2 i k)
    = dn (ru x0 x1 x2 x3 x4 x5 i) (rv x0 x1 x2 x4 x5 i) (cols x2) (cols x3) k * x1 (ix2 0 k) := by
  pointwise [val_main_v42, val_main_v41, val_main_v14, val_main_v0, v37_at]

theorem v11_at (q : Fin 1) : val_main_v11 (F := Ideal) x0 (ix2 i q) = mhalf * Ideal.div (rs (row x0 i)) (ms (row x0 i)) := by
  pointwise [val_main_v11, val_main_v10, val_main_v9, val_main_cst_2, v8_at, v7_at]

theorem v53_at : val_main_v53 (F := Ideal) x0 x1 x2 x3 x4 x5 (ix2 i k)
    = dms (row x0 i) (row x1 0) (dn (ru x0 x1 x2 x3 x4 x5 i) (rv x0 x1 x2 x4 x5 i) (cols x2) (cols x3)) := by
  pointwise [val_main_v53, val_main_v52, val_main_v51, val_main_v50, val_main_v49, val_main_v46, val_main_v45, val_main_v44,
    val_main_cst_7, val_main_cst_8, val_main_cst_9, v42_at, v11_at]
  simp only [Finset.univ_unique, Finset.sum_singleton]
  rfl

theorem v61_at : val_main_v61 (F := Ideal) x0 x1 x2 x3 x4 x5 (ix2 i k)
    = dx (row x5 i) (row x0 i) (row x1 0) (dn (ru x0 x1 x2 x3 x4 x5 i) (rv x0 x1 x2 x4 x5 i) (cols x2) (cols x3)) k := by
  pointwise [val_main_v61, val_main_v57, val_main_v56, val_main_v55, val_main_v54, val_main_v48, val_main_v47, v8_at, v42_at,
    v53_at]
  rfl

theorem v65_at (q : Fin 1) : val_main_v65 (F := Ideal) x0 x1 x2 x3 x4 x5 (ix2 q k)
    = ∑ i, dg (row x0 i) (dn (ru x0 x1 x2 x3 x4 x5 i) (rv x0 x1 x2 x4 x5 i) (cols x2) (cols x3)) k := by
  pointwise [val_main_v65, val_main_v43, val_main_v40, val_main_v39, val_main_v38, val_main_cst_5, val_main_cst_6, v13_at, v37_at]
  simp only [Finset.univ_unique, Finset.sum_singleton]
  rfl

end Grad

end Cert.ReferenceIdeal.Ffn

end
-- ==== Proof.Finite.lean ====
/- Finite extended reals: closed under the operations the programs take, and what an argument's precondition says. -/
module

public import Idealize.ShloMosaic.PureOps.Ideal.Laws
public import Idealize.ShloMosaic.Lib.ValueIdx
public import Idealize.ShloMosaic.Lib.ReduceAll

@[expose] public section

noncomputable section

namespace Cert

open Idealize.ShloMosaic

/-- An extended real that is a real. -/
def IsReal (x : EReal) : Prop := ∃ r : ℝ, x = (r : EReal)

namespace IsReal

variable {x y : EReal}

theorem coe (r : ℝ) : IsReal (r : EReal) := ⟨r, rfl⟩
theorem zero : IsReal 0 := ⟨0, rfl⟩
theorem one : IsReal 1 := ⟨1, rfl⟩

theorem mul (hx : IsReal x) (hy : IsReal y) : IsReal (x * y) := by
  obtain ⟨a, rfl⟩ := hx; obtain ⟨b, rfl⟩ := hy; exact ⟨a * b, (EReal.coe_mul a b).symm⟩

theorem add (hx : IsReal x) (hy : IsReal y) : IsReal (x + y) := by
  obtain ⟨a, rfl⟩ := hx; obtain ⟨b, rfl⟩ := hy; exact ⟨a + b, (EReal.coe_add a b).symm⟩

theorem sub (hx : IsReal x) (hy : IsReal y) : IsReal (x - y) := by
  obtain ⟨a, rfl⟩ := hx; obtain ⟨b, rfl⟩ := hy; exact ⟨a - b, (EReal.coe_sub a b).symm⟩

theorem neg (hx : IsReal x) : IsReal (-x) := by
  obtain ⟨a, rfl⟩ := hx; exact ⟨-a, (EReal.coe_neg a).symm⟩

theorem sum {ι : Type*} (s : Finset ι) {f : ι → EReal} (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem sum_univ {ι : Type*} [Fintype ι] {f : ι → EReal} (h : ∀ i, IsReal (f i)) : IsReal (∑ i, f i) :=
  sum _ fun i _ => h i

theorem exp (hx : IsReal x) : IsReal (Ideal.exp x) := by
  obtain ⟨a, rfl⟩ := hx; exact ⟨Real.exp a, rfl⟩

/-- A quotient by a real that is not zero. -/
theorem div {r : ℝ} (hx : IsReal x) (hr : r ≠ 0) : IsReal (Ideal.div x (r : EReal)) := by
  rw [Ideal.div_coe hr]; exact hx.mul (coe _)

/-- A value below infinity in absolute value is a real. -/
theorem of_abs_lt (h : max x (-x) < ⊤) : IsReal x := by
  induction x with
  | bot => simp at h
  | top => simp at h
  | coe r => exact ⟨r, rfl⟩

/-- The positive square root's reciprocal of a positive real. -/
theorem rsqrt {r : ℝ} (hr : 0 < r) : IsReal (Ideal.rsqrt (r : EReal)) := by
  rw [Ideal.rsqrt_coe, if_neg hr.not_gt, if_neg hr.ne']; exact coe _

/-- What a precondition says that tests every element of an array against infinity. -/
theorem of_all {s t u v : Shape} {axes : List (Fin s.rank)} [Subsingleton t.Idx] (x : FVec Ideal s .f32) (d : Fin u.rank → Fin s.rank)
    (hb : u.BroadcastsInDim s d) (init : v.Idx → BitVec 1) (hr : s.ReducesTo axes t) (hv : 0 < v.numel) (j : t.Idx)
    (h : Host.reduce IntOp.andi (cmpf .olt (Host.absf x) (broadcastInDim s d hb (constant u .f32 0x7F800000#32))) init hr hv j
      = 1#1) (i : s.Idx) : IsReal (x i) := by
  have e := Host.reduce_andi_all _ _ _ _ j h i
  have ht : Ideal.ofBits .f32 0x7F800000#32 = ⊤ := by simp [Ideal.ofBits, Ideal.ieee]
  change Ideal.cmp .olt (max (x i) (-(x i))) (Ideal.ofBits .f32 0x7F800000#32) = 1#1 at e
  rw [ht] at e
  refine of_abs_lt ?_
  by_contra hn
  simp [Ideal.cmp, hn] at e

end IsReal

end Cert

end
-- ==== Proof.FfnFin.lean ====
/- Where the half-step's arguments are finite, its hidden rows' cotangent is, and the gate's gradient is one number
   whether the logistic's derivative is folded in or expanded. -/
module

public import proofs.«01_k».proof.Proof.Finite
public import proofs.«01_k».proof.Proof.FfnSpec

@[expose] public section

noncomputable section

namespace Cert.Ffn

open Idealize.ShloMosaic Cert

theorem half_eq : half = ((1 / 2 : ℝ) : EReal) := by
  simp [half, Ideal.ofBits, Ideal.ieee, -EReal.coe_mul]; norm_num
theorem width_eq : width = ((1024 : ℝ) : EReal) := by
  simp [width, Ideal.ofBits, Ideal.ieee, -EReal.coe_mul]; norm_num
theorem eps_pos : ∃ r : ℝ, 0 < r ∧ eps = (r : EReal) :=
  ⟨8796093 * (2 : ℝ) ^ (-43 : ℤ), by positivity, by simp [eps, Ideal.ofBits, Ideal.ieee, -EReal.coe_mul]⟩

theorem sg_bot : sg ⊥ = 0 := by
  have h : Ideal.exp (-(⊥ : EReal)) = ⊤ := by rw [EReal.neg_bot]; rfl
  have h1 : (1 : EReal) + ⊤ = ⊤ := EReal.coe_add_top 1
  rw [sg, h, h1, Ideal.div, if_neg (by simp), EReal.inv_top, mul_zero]

theorem sg_top : sg ⊤ = 1 := by
  have h : Ideal.exp (-(⊤ : EReal)) = 0 := by rw [EReal.neg_top]; rfl
  rw [sg, h, add_zero, Ideal.div, if_neg one_ne_zero, one_mul]
  rw [← EReal.coe_one, ← EReal.coe_inv, inv_one]

/-- The gate's gradient, folded in or expanded: one number where the cotangent's product is finite, whatever the
    activation (at an infinite one the logistic is 0 or 1 and both sides are the cotangent's product or 0). -/
theorem da_eq {d b : EReal} (h : IsReal (d * b)) (a : EReal) : da d a b = daChain d a b := by
  obtain ⟨p, hp⟩ := h
  unfold da daChain
  rw [hp]
  induction a with
  | bot => simp [sg_bot]
  | top =>
    have h : (1 : EReal) - 1 = 0 := by rw [← EReal.coe_one, ← EReal.coe_sub, sub_self, EReal.coe_zero]
    simp [sg_top, h]
  | coe a =>
    have hne : (1 + Real.exp (-a)) ≠ 0 := by positivity
    have hs : sg (a : EReal) = ((1 / (1 + Real.exp (-a)) : ℝ) : EReal) := by
      unfold sg
      rw [← EReal.coe_neg, Ideal.exp_coe, ← EReal.coe_one, ← EReal.coe_add, Ideal.div_coe hne, ← EReal.coe_mul, one_mul]
    rw [hs, ← EReal.coe_one]
    simp only [← EReal.coe_sub, ← EReal.coe_mul, ← EReal.coe_add]
    congr 1
    ring

/-- The mean square of a finite row is a positive real. -/
theorem ms_real {x : Fin 1024 → EReal} (hx : ∀ k, IsReal (x k)) : ∃ r : ℝ, 0 < r ∧ ms x = (r : EReal) := by
  choose f hf using hx
  obtain ⟨e, he, hE⟩ := eps_pos
  refine ⟨(∑ k, f k * f k) / 1024 + e, ?_, ?_⟩
  · have : 0 ≤ ∑ k, f k * f k := Finset.sum_nonneg fun k _ => mul_self_nonneg _
    positivity
  · unfold ms
    rw [width_eq, hE, Ideal.div_coe (by norm_num)]
    have : (∑ k, x k * x k) = ((∑ k, f k * f k : ℝ) : EReal) := by
      simp only [hf, ← EReal.coe_mul]
      exact (map_sum (⟨⟨Real.toEReal, rfl⟩, EReal.coe_add⟩ : ℝ →+ EReal) _ _).symm
    rw [this, ← EReal.coe_mul, ← EReal.coe_add]
    congr 1
    ring

theorem nrm_real {x g : Fin 1024 → EReal} (hx : ∀ k, IsReal (x k)) (hg : ∀ k, IsReal (g k)) (k : Fin 1024) :
    IsReal (nrm x g k) := by
  obtain ⟨r, hr, hm⟩ := ms_real hx
  have : IsReal (rs x) := by rw [rs, hm]; exact IsReal.rsqrt hr
  exact ((hx k).mul this).mul (hg k)

theorem up_real {n : Fin 1024 → EReal} {w : Fin 2816 → Fin 1024 → EReal} (hn : ∀ k, IsReal (n k))
    (hw : ∀ j k, IsReal (w j k)) (j : Fin 2816) : IsReal (up n w j) :=
  IsReal.sum_univ fun k => (hn k).mul (hw j k)

theorem dhm_real {ct : Fin 1024 → EReal} {wd : Fin 2816 → Fin 1024 → EReal} (hc : ∀ k, IsReal (ct k))
    (hw : ∀ j k, IsReal (wd j k)) (j : Fin 2816) : IsReal (dhm ct wd j) :=
  IsReal.sum_univ fun k => ((half_eq ▸ IsReal.coe _ : IsReal half).mul (hc k)).mul (hw j k)

end Cert.Ffn

end
-- ==== Proof.FfnClaim.lean ====
/- The claims about the FFN half-step: the frames of the three programs, and that both idealized programs end at the
   same nine arrays. -/
module

public import proofs.«01_k».proof.Defs
public import proofs.«01_k».proof.Proof.FfnRun
public import proofs.«01_k».proof.Proof.FfnHost
public import proofs.«01_k».proof.Proof.FfnRef
public import proofs.«01_k».proof.Proof.FfnFin
public import proofs.«01_k».proof.Proof.Gen.Kernel.Frame
public import proofs.«01_k».proof.Proof.Gen.ReferenceIdeal.Run
public import proofs.«01_k».proof.Proof.Gen.Pre_ffn_finite

@[expose] public section

set_option maxRecDepth 16384

noncomputable section

namespace Cert.Ffn

open Idealize.ShloMosaic Idealize.ShloMosaic.TcCoe Idealize.SL.Sem
open Cert.KernelIdeal (S8192x1024 S8192x2816 S1x1024)
open Cert.KernelIdeal.Ffn hiding row
open Cert.ReferenceIdeal.Ffn

theorem frame_reference : Cert.quiescent_ReferenceIdeal := fun m ρ _ =>
  (θ_run _ _ _).mono (fun _ h => ⟨fun c => (h c).2.2.2.2.2.2.2.2.2, sem_eq_zero_of_no_sems (by decide) _⟩)
    (Cert.ReferenceIdeal.Value.run (F := Ideal) m ρ)

section Values

variable (m : (ℓ : Loc KernelIdeal.nD KernelIdeal.τ KernelIdeal.sig) → Buf (Elt Ideal) ℓ) (ρ : Dev KernelIdeal.nD → PrngReg)
variable (c : Dev KernelIdeal.nD)

/-- What the precondition says of a device's arguments. -/
theorem pre_real (h : Cert.Pre_KernelIdeal_ffn_finite m) : (∀ i, IsReal (aX m c i)) ∧ (∀ i, IsReal (aG m c i))
    ∧ (∀ i, IsReal (aWu m c i)) ∧ (∀ i, IsReal (aWd m c i)) ∧ ∀ i, IsReal (aCt m c i) := by
  have e := congrFun (h c) (fun a => a.elim0)
  obtain ⟨e, e5⟩ := IntOp.andi_eq_one.mp e
  obtain ⟨e, e4⟩ := IntOp.andi_eq_one.mp e
  obtain ⟨e, e3⟩ := IntOp.andi_eq_one.mp e
  obtain ⟨e0, e1⟩ := IntOp.andi_eq_one.mp e
  exact ⟨IsReal.of_all _ _ _ _ _ _ _ e0, IsReal.of_all _ _ _ _ _ _ _ e1, IsReal.of_all _ _ _ _ _ _ _ e3,
    IsReal.of_all _ _ _ _ _ _ _ e4, IsReal.of_all _ _ _ _ _ _ _ e5⟩

/-- The reference's results at the kernel's arguments are the kernel's. -/
theorem ref_h : ReferenceIdeal.Read.val_main_v27 (F := Ideal) (aX m c) (aG m c) (aWg m c) (aWu m c) (aWd m c) = H1 m c := by
  funext i
  obtain ⟨r, k, rfl⟩ : ∃ (r : Fin 8192) (k : Fin 1024), i = (ix2 r k : S8192x1024.Idx) := ⟨i 0, i 1, eq_ix2 i⟩
  exact v27_at ..

theorem ref_n : ReferenceIdeal.Read.val_main_v58 (F := Ideal) (aX m c) (aG m c) = N1 m c := by
  funext i
  obtain ⟨r, k, rfl⟩ : ∃ (r : Fin 8192) (k : Fin 1024), i = (ix2 r k : S8192x1024.Idx) := ⟨i 0, i 1, eq_ix2 i⟩
  exact v16_at ..

theorem ref_a : ReferenceIdeal.Read.val_main_v59 (F := Ideal) (aX m c) (aG m c) (aWg m c) = A1 m c := by
  funext i
  obtain ⟨r, k, rfl⟩ : ∃ (r : Fin 8192) (k : Fin 2816), i = (ix2 r k : S8192x2816.Idx) := ⟨i 0, i 1, eq_ix2 i⟩
  exact v18_at ..

theorem ref_b : ReferenceIdeal.Read.val_main_v60 (F := Ideal) (aX m c) (aG m c) (aWu m c) = B1 m c := by
  funext i
  obtain ⟨r, k, rfl⟩ : ∃ (r : Fin 8192) (k : Fin 2816), i = (ix2 r k : S8192x2816.Idx) := ⟨i 0, i 1, eq_ix2 i⟩
  exact v20_at ..

theorem ref_hm : ReferenceIdeal.Read.val_main_v64 (F := Ideal) (aX m c) (aG m c) (aWg m c) (aWu m c) = hmArr (A1 m c) (B1 m c) := by
  funext i
  obtain ⟨r, k, rfl⟩ : ∃ (r : Fin 8192) (k : Fin 2816), i = (ix2 r k : S8192x2816.Idx) := ⟨i 0, i 1, eq_ix2 i⟩
  exact v22_at ..

theorem ref_db : ReferenceIdeal.Read.val_main_v63 (F := Ideal) (aX m c) (aG m c) (aWg m c) (aWd m c) (aCt m c)
    = dbArr (aCt m c) (A1 m c) (wdt m c) := by
  funext i
  obtain ⟨r, k, rfl⟩ : ∃ (r : Fin 8192) (k : Fin 2816), i = (ix2 r k : S8192x2816.Idx) := ⟨i 0, i 1, eq_ix2 i⟩
  exact v32_at ..

/-- The gated half's gradient, where the arguments are finite. -/
theorem ref_v34 (h : Cert.Pre_KernelIdeal_ffn_finite m) :
    ReferenceIdeal.Read.val_main_v34 (F := Ideal) (aX m c) (aG m c) (aWg m c) (aWu m c) (aWd m c) (aCt m c)
      = daArr (aCt m c) (A1 m c) (B1 m c) (wdt m c) := by
  obtain ⟨hx, hg, hu, hd, hc⟩ := pre_real m c h
  funext i
  obtain ⟨r, k, rfl⟩ : ∃ (r : Fin 8192) (k : Fin 2816), i = (ix2 r k : S8192x2816.Idx) := ⟨i 0, i 1, eq_ix2 i⟩
  refine (v34_at ..).trans (da_eq ?_ _).symm
  exact (dhm_real (fun _ => hc _) (fun _ _ => hd _) _).mul
    (up_real (nrm_real (fun _ => hx _) (fun _ => hg _)) (fun _ _ => hu _) _)

theorem ref_dx (h : Cert.Pre_KernelIdeal_ffn_finite m) :
    ReferenceIdeal.Read.val_main_v61 (F := Ideal) (aX m c) (aG m c) (aWg m c) (aWu m c) (aWd m c) (aCt m c)
      = dxArr (aCt m c) (aX m c) (aG m c) (A1 m c) (B1 m c) (wgt m c) (wut m c) (wdt m c) := by
  funext i
  obtain ⟨r, k, rfl⟩ : ∃ (r : Fin 8192) (k : Fin 1024), i = (ix2 r k : S8192x1024.Idx) := ⟨i 0, i 1, eq_ix2 i⟩
  refine (v61_at ..).trans ?_
  rw [ru, rv, ref_v34 m c h]
  have e : ReferenceIdeal.Read.val_main_v32 (F := Ideal) (aX m c) (aG m c) (aWg m c) (aWd m c) (aCt m c)
    = dbArr (aCt m c) (A1 m c) (wdt m c) := ref_db m c
  rw [e]
  rfl

theorem ref_dg (h : Cert.Pre_KernelIdeal_ffn_finite m) :
    ReferenceIdeal.Read.val_main_v65 (F := Ideal) (aX m c) (aG m c) (aWg m c) (aWu m c) (aWd m c) (aCt m c)
      = dgArr (aCt m c) (aX m c) (A1 m c) (B1 m c) (wgt m c) (wut m c) (wdt m c) := by
  funext i
  obtain ⟨r, k, rfl⟩ : ∃ (r : Fin 1) (k : Fin 1024), i = (ix2 r k : S1x1024.Idx) := ⟨i 0, i 1, eq_ix2 i⟩
  refine (v65_at ..).trans ?_
  simp only [ru, rv, ref_v34 m c h]
  have e : ReferenceIdeal.Read.val_main_v32 (F := Ideal) (aX m c) (aG m c) (aWg m c) (aWd m c) (aCt m c)
    = dbArr (aCt m c) (A1 m c) (wdt m c) := ref_db m c
  simp only [e]
  rfl

end Values

/-- Both programs end at the same arrays. -/
theorem value : Cert.algebraic_KernelIdeal_ReferenceIdeal_pre_ffn_finite := fun m ρ m' ρ' hp hag =>
  ⟨H1 m, N1 m, A1 m, B1 m,
    fun c => dxArr (aCt m c) (aX m c) (aG m c) (A1 m c) (B1 m c) (wgt m c) (wut m c) (wdt m c),
    fun c => daArr (aCt m c) (A1 m c) (B1 m c) (wdt m c), fun c => dbArr (aCt m c) (A1 m c) (wdt m c),
    fun c => hmArr (A1 m c) (B1 m c), fun c => dgArr (aCt m c) (aX m c) (A1 m c) (B1 m c) (wgt m c) (wut m c) (wdt m c),
    (θ_run _ _ _).mono (fun _ h c =>
      ⟨(h.1 c _ (KernelIdeal.Gen.mem_uc _ (by decide))).trans (W3_h m ρ c), (h.1 c _ (KernelIdeal.Gen.mem_uc _ (by decide))).trans (W3_n m ρ c),
        (h.1 c _ (KernelIdeal.Gen.mem_uc _ (by decide))).trans (W3_a m ρ c), (h.1 c _ (KernelIdeal.Gen.mem_uc _ (by decide))).trans (W3_b m ρ c),
        (h.1 c _ (KernelIdeal.Gen.mem_uc _ (by decide))).trans (W3_dx m ρ c), (h.1 c _ (KernelIdeal.Gen.mem_uc _ (by decide))).trans (W3_da m ρ c),
        (h.1 c _ (KernelIdeal.Gen.mem_uc _ (by decide))).trans (W3_db m ρ c), (h.1 c _ (KernelIdeal.Gen.mem_uc _ (by decide))).trans (W3_hm m ρ c),
        (h.1 c _ (KernelIdeal.Gen.mem_uc _ (by decide))).trans (W3_dg m ρ c),
        (h.1 c _ (KernelIdeal.Gen.mem_uc _ (by decide))).trans (KernelIdeal.Gen.W3_main_arg0 m ρ c),
        (h.1 c _ (KernelIdeal.Gen.mem_uc _ (by decide))).trans (KernelIdeal.Gen.W3_main_arg1 m ρ c),
        (h.1 c _ (KernelIdeal.Gen.mem_uc _ (by decide))).trans (KernelIdeal.Gen.W3_main_arg2 m ρ c),
        (h.1 c _ (KernelIdeal.Gen.mem_uc _ (by decide))).trans (KernelIdeal.Gen.W3_main_arg3 m ρ c),
        (h.1 c _ (KernelIdeal.Gen.mem_uc _ (by decide))).trans (KernelIdeal.Gen.W3_main_arg4 m ρ c),
        (h.1 c _ (KernelIdeal.Gen.mem_uc _ (by decide))).trans (KernelIdeal.Gen.W3_main_arg5 m ρ c)⟩)
      (KernelIdeal.Ffn.run_all (F := Ideal) m ρ),
    (θ_run _ _ _).mono (fun _ h c => by
      obtain ⟨h0, h1, h2, h3, h4, h5, h6, h7, h8, ha⟩ := h c
      obtain ⟨a0, a1, a2, a3, a4, a5⟩ := hag c
      refine ⟨h0.trans ?_, h1.trans ?_, h2.trans ?_, h3.trans ?_, h4.trans ?_, h5.trans ?_, h6.trans ?_, h7.trans ?_,
        h8.trans ?_, ha⟩
      · rw [ReferenceIdeal.Read.val_main_v27_eq, a0, a1, a2, a3, a4]; exact ref_h m c
      · rw [ReferenceIdeal.Read.val_main_v58_eq, a0, a1]; exact ref_n m c
      · rw [ReferenceIdeal.Read.val_main_v59_eq, a0, a1, a2]; exact ref_a m c
      · rw [ReferenceIdeal.Read.val_main_v60_eq, a0, a1, a3]; exact ref_b m c
      · rw [ReferenceIdeal.Read.val_main_v61_eq, a0, a1, a2, a3, a4, a5]; exact ref_dx m c hp
      · rw [ReferenceIdeal.Read.val_main_v62_eq, a0, a1, a2, a3, a4, a5]; exact ref_v34 m c hp
      · rw [ReferenceIdeal.Read.val_main_v63_eq, a0, a1, a2, a4, a5]; exact ref_db m c
      · rw [ReferenceIdeal.Read.val_main_v64_eq, a0, a1, a2, a3]; exact ref_hm m c
      · rw [ReferenceIdeal.Read.val_main_v65_eq, a0, a1, a2, a3, a4, a5]; exact ref_dg m c hp)
      (Cert.ReferenceIdeal.Value.run (F := Ideal) m' ρ')⟩

end Cert.Ffn

end
-- ==== Proof.MixSpec.lean ====
/- The token mixer's spatial gating, row by row over the extended reals: the functions both programs' arrays are read as. -/
module

public import proofs.«01_k».proof.Proof.FfnSpec

@[expose] public section

noncomputable section

namespace Cert.Mix

open Idealize.ShloMosaic Cert.Ffn

/-- The root of one half, and the slope's factor: half the reference's `2/√π` (as it is printed) times that root. -/
abbrev hs : EReal := (((Real.sqrt 2)⁻¹ : ℝ) : EReal)
abbrev dens : EReal := (((9465531 / 16777216 : ℝ) * (Real.sqrt 2)⁻¹ : ℝ) : EReal)

/-- A product of two rows. -/
def dot {n : Nat} (a w : Fin n → EReal) : EReal := ∑ k, a k * w k

/-- The gelu's weight of its argument, the gelu, and its slope. -/
def cdf (x : EReal) : EReal := half * (1 + Ideal.erf (x * hs))
def gel (x : EReal) : EReal := x * cdf x
def slp (x : EReal) : EReal := cdf x + x * (dens * Ideal.exp (mhalf * x * x))

/-- A row's mean, its deviations, the layernorm before and after its weights. -/
def mean (x : Fin 1024 → EReal) : EReal := Ideal.div (∑ k, x k) width
def dev (x : Fin 1024 → EReal) (k : Fin 1024) : EReal := x k - mean x
def lnr (x : Fin 1024 → EReal) (k : Fin 1024) : EReal := dev x k * rs (dev x)
def ln (x g b : Fin 1024 → EReal) (k : Fin 1024) : EReal := lnr x k * g k + b k

/-- Row `t` of a tile of 128 rows, mixed: the head's lower-triangular weights against the tile's rows `v`, plus a bias. -/
def mix (w : Fin 128 → EReal) (b : EReal) (v : Fin 128 → EReal) (t : Fin 128) : EReal :=
  (∑ s : Fin 128, (if s ≤ t then w s else 0) * v s) + b

/-- The head of a column, the place of a row in its tile of 128 rows, and the tile's row at a place. -/
def head (k : Fin 1024) : Fin 8 := ⟨k.val / 128, by omega⟩
def place {n : Nat} (r : Fin n) : Fin 128 := ⟨r.val % 128, by omega⟩
def tileRow {n : Nat} (h : 128 ∣ n) (r : Fin n) (s : Fin 128) : Fin n := ⟨r.val / 128 * 128 + s.val, by omega⟩

/-- An array's rows mixed within their tiles, head by head. -/
def mixed {n : Nat} (h : 128 ∣ n) (w : Fin 8 → Fin 128 → Fin 128 → EReal) (b : Fin 8 → Fin 128 → EReal)
    (v : Fin n → Fin 1024 → EReal) (r : Fin n) (k : Fin 1024) : EReal :=
  mix (w (head k) (place r)) (b (head k) (place r)) (fun s => v (tileRow h r s) k) (place r)

theorem toInt_small (n : Nat) (h : n < 128) : (BitVec.ofNat 32 n).toInt = n := by
  have e : (BitVec.ofNat 32 n).toNat = n := by rw [BitVec.toNat_ofNat, Nat.mod_eq_of_lt (by omega)]
  rw [BitVec.toInt_eq_toNat_of_lt (by rw [e]; omega), e]

/-- A lower-triangular mask kept in one bit. -/
theorem mask_at (s t : Fin 128) (w : EReal) :
    Scalar.select (IntOp.cmpi CmpIPredicate.sle (BitVec.ofNat 32 ↑s) (BitVec.ofNat 32 ↑t)) w (0 : EReal)
      = if s ≤ t then w else 0 := by
  have e : (BitVec.ofNat 32 s.val).sle (BitVec.ofNat 32 t.val) = decide (s ≤ t) := by
    rw [BitVec.sle, toInt_small _ s.isLt, toInt_small _ t.isLt]
    exact decide_eq_decide.mpr (by rw [Fin.le_def]; omega)
  unfold Scalar.select IntOp.cmpi
  simp only [e]
  by_cases h : s ≤ t <;> simp only [h, decide_true, decide_false, if_true, if_false] <;> rfl

/-- The same mask with its sides exchanged, taken from a mask kept in one bit. -/
theorem mask_ge (s t : Fin 128) (w : EReal) :
    Scalar.select (Scalar.select (IntOp.cmpi CmpIPredicate.sge (IntOp.addi (BitVec.ofNat 32 ↑t) 0#32) (BitVec.ofNat 32 ↑s)) 1#1 0#1) w (0 : EReal)
      = if s ≤ t then w else 0 := by
  have e : (BitVec.ofNat 32 s.val).sle (BitVec.ofNat 32 t.val) = decide (s ≤ t) := by
    rw [BitVec.sle, toInt_small _ s.isLt, toInt_small _ t.isLt]
    exact decide_eq_decide.mpr (by rw [Fin.le_def]; omega)
  unfold Scalar.select IntOp.cmpi IntOp.addi
  simp only [BitVec.add_zero, e]
  by_cases h : s ≤ t <;> simp [h]

end Cert.Mix

end
-- ==== Proof.MixPay.lean ====
/- The forward body's values of the token mixer's gating, read at an element: the rows of `MixSpec`. -/
module

public import proofs.«01_k».proof.Proof.MixSpec
public import proofs.«01_k».proof.Proof.Gen.MixKernelIdeal.Skeleton
public import Idealize.ShloMosaic.Lib.Pointwise

@[expose] public section

set_option maxRecDepth 16384

noncomputable section

namespace Cert.MixKernelIdeal.Mix

open Cert.MixKernelIdeal Cert.MixKernelIdeal.Gen Cert.Ffn Cert.Mix
open Idealize.ShloMosaic Idealize.ShloMosaic.TcCoe Idealize.SL.Sem

/-- Row `r` of a matrix. -/
abbrev row {a b : Nat} (X : Shape.Idx ⟨2, ![a, b]⟩ → EReal) (r : Fin a) : Fin b → EReal := fun k => X (ix2 r k)

variable (x : FVec Ideal S512x1024 .f32) (g lg lb go : FVec Ideal S1x1024 .f32) (wu : FVec Ideal S2048x1024 .bf16)
variable (wz : FVec Ideal S2688x1024 .bf16) (a : FVec Ideal S512x2048 .f32)
variable (r : Fin 512) (k : Fin 1024) (j : Fin 2048) (l : Fin 2688)

theorem pay_n : k0_pay1 (F := Ideal) x g (ix2 r k) = nrm (row x r) (row g 0) k := by
  pointwise [k0_pay1]
  rfl

theorem pay_zxd : k0_pay2 (F := Ideal) x g wz (ix2 r l) = dot (nrm (row x r) (row g 0)) (row wz l) := by
  pointwise [k0_pay2, pay_n]
  rfl

theorem pay_z : k0_pay3 (F := Ideal) x g wz (ix2 r k) = dot (nrm (row x r) (row g 0)) (row wz ⟨k.val, by omega⟩) := by
  pointwise [k0_pay3, pay_zxd]

theorem pay_xbc (q : Fin 1536) : k0_pay4 (F := Ideal) x g wz (ix2 r q)
    = dot (nrm (row x r) (row g 0)) (row wz ⟨1024 + q.val, by omega⟩) := by
  pointwise [k0_pay4, pay_zxd]

theorem pay_dt (q : Fin 128) : k0_pay5 (F := Ideal) x g wz (ix2 r q)
    = dot (nrm (row x r) (row g 0)) (row wz ⟨2560 + q.val, by omega⟩) := by
  pointwise [k0_pay5, pay_zxd]

theorem pay_uv : k0_pay6 (F := Ideal) x g wu (ix2 r j) = dot (nrm (row x r) (row g 0)) (row wu j) := by
  pointwise [k0_pay6, pay_n]
  rfl

theorem pay_cdf : k0_pay8 (F := Ideal) a k0_pay7 (ix2 r j) = cdf (a (ix2 r j)) := by
  pointwise [k0_pay8, k0_pay7]
  rfl

theorem pay_act : k0_pay9 (F := Ideal) a k0_pay7 (ix2 r j) = gel (a (ix2 r j)) := by
  pointwise [k0_pay9, pay_cdf]
  rfl

theorem pay_slope : k0_pay10 (F := Ideal) a k0_pay7 (ix2 r j) = slp (a (ix2 r j)) := by
  pointwise [k0_pay10, pay_cdf]
  rfl

theorem pay_ug : k0_pay11 (F := Ideal) a k0_pay7 (ix2 r k) = gel (a (ix2 r ⟨k.val, by omega⟩)) := by
  pointwise [k0_pay11, pay_act]

theorem pay_lnr : k0_pay12 (F := Ideal) a k0_pay7 (ix2 r k) = lnr (fun k => gel (a (ix2 r ⟨1024 + k.val, by omega⟩))) k := by
  pointwise [k0_pay12, pay_act]
  rfl

theorem pay_ln : k0_pay13 (F := Ideal) lg lb (k0_pay12 a k0_pay7) (ix2 r k)
    = ln (fun k => gel (a (ix2 r ⟨1024 + k.val, by omega⟩))) (row lg 0) (row lb 0) k := by
  pointwise [k0_pay13, pay_lnr]
  rfl

theorem pay_ya (u v : FVec Ideal S512x1024 .f32) : k0_pay70 (F := Ideal) u v go (ix2 r k)
    = nrm (fun k => u (ix2 r k) * v (ix2 r k)) (row go 0) k := by
  pointwise [k0_pay70]
  rfl

/-- One tile of the mixing, as the body computes it, from a head's weights, the tile's rows and the head's biases. -/
def tile (w : FVec Ideal S1x128x128 .f32) (vt : FVec Ideal S128x128 .bf16) (bt : FVec Ideal S128x1 .f32) : FVec Ideal S128x128 .f32 :=
  shapeCast S128x128 (addf (matmul dot_S128x128_S128x128_S128x128_1_0_0_1_n_n none (k0_pay16 (F := Ideal) w)
    vt (constant S128x128 .f32 0x00000000#32)) (broadcastTo S128x128 bt broadcasts_S128x1_S128x128)) shapeCasts_S128x128_S128x128

theorem tile_at (w : FVec Ideal S1x128x128 .f32) (vt : FVec Ideal S128x128 .bf16) (bt : FVec Ideal S128x1 .f32) (t k : Fin 128) :
    tile w vt bt (ix2 t k) = mix (fun s => w (ix3 0 t s)) (bt (ix2 t 0)) (fun s => vt (ix2 s k)) t := by
  pointwise [tile, k0_pay16, k0_pay15]
  simp only [mask_at, mix, ite_mul, zero_mul]

end Cert.MixKernelIdeal.Mix

end
-- ==== Proof.Tiles.lean ====
/- A buffer filled tile by tile and then read: the function its tiles are cut from. -/
module

public import Idealize.ShloMosaic.Lib.Pipeline.ValueKit
public import Idealize.ShloMosaic.Lib.Pointwise

@[expose] public section

noncomputable section

namespace Cert.Tiles

open Idealize.ShloMosaic Idealize.SL.Sem

/-- A read after stores that reach every element and that all store their parts of one function `G` is that function. -/
theorem readCov_apply {sig : RefSig} {κ : Kind} {sp : Space} {s : Shape} {e : EltTy} (v : View sig κ sp s e) (G : s.Idx → Elt Ideal e)
    (L : List (View.Piece (Elt Ideal) s e)) (hG : ∀ p ∈ L, ∀ x : p.1.shape.Idx, p.2 x = G (p.1.emb x))
    (hc : ∀ y, ∃ p ∈ L, y ∈ p.1.set) (B : LoadRect s) (j : B.shape.Idx) : v.readCov L B j = G (B.idx j) :=
  View.read_writes_apply_of_pieces v v.junk G L hG _ (hc _)

/-- A cut of a matrix, at an element. -/
theorem cut_at {α : Type} {n m a b o q : Nat} (X : (⟨2, ![n, m]⟩ : Shape).Idx → α)
    (h : (⟨2, ![n, m]⟩ : Shape).Slices ![o, q] ⟨2, ![a, b]⟩) (t : Fin a) (k : Fin b) (ho : o + a ≤ n) (hq : q + b ≤ m) :
    extractStridedSlice ⟨2, ![a, b]⟩ ![o, q] X h (ix2 t k) = X (ix2 ⟨o + t.val, by omega⟩ ⟨q + k.val, by omega⟩) := by
  show X _ = X _
  congr 1
  funext a
  match a with
  | 0 => rfl
  | 1 => rfl

/-- One matrix of a stack, at an element. -/
theorem ld_at {e : EltTy} {n a b : Nat} (w : (⟨3, ![n, a, b]⟩ : Shape).Idx → Elt Ideal e) (h : Nat)
    (inb : ∀ i, (![h, 0, 0] : Fin 3 → Nat) i + (![1, a, b] : Fin 3 → Nat) i ≤ (⟨3, ![n, a, b]⟩ : Shape).size i)
    (hh : h < n) (t : Fin a) (s : Fin b) :
    View.ld (Val := Elt Ideal) w (Rect.unit (s := ⟨3, ![n, a, b]⟩) ![h, 0, 0] ![1, a, b] inb) (ix3 0 t s) = w (ix3 ⟨h, hh⟩ t s) :=
  View.ld_unit_apply_of w _ _ inb _ _ fun i => by
    match i with
    | 0 => rfl
    | 1 => exact (Nat.zero_add _).symm
    | 2 => exact (Nat.zero_add _).symm

/-- An element of a block cut from a matrix, placed in the matrix. -/
theorem emb_at {n m a b o q : Nat} (inb : ∀ i, (![o, q] : Fin 2 → Nat) i + (![a, b] : Fin 2 → Nat) i ≤ (⟨2, ![n, m]⟩ : Shape).size i)
    (t : Fin a) (k : Fin b) (ho : o + a ≤ n) (hq : q + b ≤ m) :
    (Rect.unit (s := ⟨2, ![n, m]⟩) ![o, q] ![a, b] inb).emb (ix2 t k) = ix2 ⟨o + t.val, by omega⟩ ⟨q + k.val, by omega⟩ := by
  funext i
  match i with
  | 0 => exact Fin.ext (Rect.idx_unit_val _ _ inb _ 0)
  | 1 => exact Fin.ext (Rect.idx_unit_val _ _ inb _ 1)

/-- The rectangle of a whole matrix places an element where it is. -/
theorem whole_at {n m : Nat} (inb : ∀ i, (![0, 0] : Fin 2 → Nat) i + (![n, m] : Fin 2 → Nat) i ≤ (⟨2, ![n, m]⟩ : Shape).size i)
    (r : Fin n) (k : Fin m) : (Rect.unit (s := ⟨2, ![n, m]⟩) ![0, 0] ![n, m] inb).idx (ix2 r k) = ix2 r k := by
  funext i
  match i with
  | 0 => exact Fin.ext ((Rect.idx_unit_val _ _ inb _ 0).trans (Nat.zero_add _))
  | 1 => exact Fin.ext ((Rect.idx_unit_val _ _ inb _ 1).trans (Nat.zero_add _))

end Cert.Tiles

end
-- ==== Proof.MixFwd.lean ====
/- The forward call's result arrays, from the blocks its points write: each a row function of the call's arrays. -/
module

public import proofs.«01_k».proof.Proof.MixPay
public import proofs.«01_k».proof.Proof.Tiles
public import proofs.«01_k».proof.Proof.Gen.MixKernelIdeal.Value
public import Idealize.ShloMosaic.Lib.Pipeline.ValueKit

@[expose] public section

set_option maxRecDepth 16384

noncomputable section

namespace Cert.MixKernelIdeal.Mix

open Cert.MixKernelIdeal Cert.MixKernelIdeal.Gen Cert.Ffn Cert.Mix Cert.Tiles
open Idealize.ShloMosaic Idealize.ShloMosaic.TcCoe Idealize.SL.Sem
open Idealize.ShloMosaic.Pipeline (Dat)

/-- One tile is the mixing at its rows and columns. -/
theorem tile_mixed (W : FVec Ideal S8x128x128 .f32) (B : FVec Ideal S128x8 .f32) (vn : FVec Ideal S512x1024 .bf16) (o q : Nat)
    (inb) (h1 : S512x1024.Slices ![o, q] S128x128) (h2 : S128x8.Slices ![0, q / 128] S128x1)
    (ho : o % 128 = 0) (ho' : o + 128 ≤ 512) (hq : q % 128 = 0) (hq' : q + 128 ≤ 1024) (inb2) (x : S128x128.Idx) :
    (fun y : S512x1024.Idx => mixed (n := 512) (by decide) (fun h t s => W (ix3 h t s)) (fun h t => B (ix2 t h)) (fun r k => vn (ix2 r k)) (y 0) (y 1))
        ((Rect.unit (s := S512x1024) ![o, q] ![128, 128] inb2).emb x)
      = tile (View.ld (Val := Elt Ideal) (e' := .f32) W (Rect.unit (s := S8x128x128) ![q / 128, 0, 0] ![1, 128, 128] inb)) (extractStridedSlice S128x128 ![o, q] vn h1)
        (extractStridedSlice S128x1 ![0, q / 128] (k0_pay14 B) h2) x := by
  obtain ⟨t, k, rfl⟩ : ∃ t k : Fin 128, x = (ix2 t k : S128x128.Idx) := ⟨x 0, x 1, eq_ix2 x⟩
  symm
  rw [tile_at]
  rw [emb_at inb2 t k ho' (by omega), cut_at _ _ _ _ (by decide) (by omega)]
  have eh : head ⟨q + k.val, by omega⟩ = ⟨q / 128, by omega⟩ := Fin.ext (by show (q + k.val) / 128 = q / 128; omega)
  have ep : place (⟨o + t.val, by omega⟩ : Fin 512) = t := Fin.ext (by show (o + t.val) % 128 = t.val; omega)
  show _ = mix (fun s => W (ix3 (head ⟨q + k.val, _⟩) (place (⟨o + t.val, _⟩ : Fin 512)) s))
    (B (ix2 (place (⟨o + t.val, _⟩ : Fin 512)) (head ⟨q + k.val, _⟩)))
    (fun s => vn (ix2 (tileRow (n := 512) _ ⟨o + t.val, _⟩ s) ⟨q + k.val, _⟩)) (place (⟨o + t.val, _⟩ : Fin 512))
  rw [eh, ep]
  refine congr (congr (congr (congrArg mix ?_) ?_) ?_) rfl
  · funext s
    exact ld_at (e := .f32) W (q / 128) _ _ t s
  · show k0_pay14 (F := Ideal) B _ = _
    pointwise [k0_pay14]
  · funext s
    rw [cut_at _ _ _ _ ho' (by omega)]
    exact congrArg vn (congrArg (fun a => ix2 a _) (Fin.ext (by show o + s.val = (o + t.val) / 128 * 128 + s.val; omega)))

variable (m : (ℓ : Loc nD τ sig) → Buf (Elt Ideal) ℓ)

set_option maxHeartbeats 1000000 in
/-- The gated rows of a point's tiles. -/
theorem after15 (c : Dev nD) (t : Fin cfg0.N) (r : Fin 512) (k : Fin 1024) :
    (outsAt0 m c t).2.2.2.2.2.2 (ix2 r k)
      = nrm (fun k => gel (k0_pay6 (iblk m c 0 t) (iblk m c 1 t) (iblk m c 2 t) (ix2 r ⟨k.val, by omega⟩))
          * mixed (n := 512) (by decide) (fun h t' s => (iblk m c 6 t : FVec Ideal S8x128x128 .f32) (ix3 h t' s))
              (fun h t' => (iblk m c 7 t : FVec Ideal S128x8 .f32) (ix2 t' h))
              (fun r => ln (fun k => gel (k0_pay6 (iblk m c 0 t) (iblk m c 1 t) (iblk m c 2 t) (ix2 r ⟨1024 + k.val, by omega⟩)))
                (row (iblk m c 4 t) 0) (row (iblk m c 5 t) 0)) r k)
        (row (iblk m c 8 t) 0) k := by
  unfold outsAt0; frame_out
  refine (pay_ya ..).trans (congrArg (fun f => nrm f _ k) (funext fun k => congrArg₂ (· * ·) (pay_ug ..) ?_))
  refine (readCov_apply (e := .f32) _ (fun y : S512x1024.Idx => mixed (n := 512) (by decide)
    (fun h t' s => (iblk m c 6 t : FVec Ideal S8x128x128 .f32) (ix3 h t' s))
    (fun h t' => (iblk m c 7 t : FVec Ideal S128x8 .f32) (ix2 t' h))
    (fun r k => k0_pay13 (F := Ideal) (iblk m c 4 t) (iblk m c 5 t)
      (k0_pay12 (k0_pay6 (iblk m c 0 t) (iblk m c 1 t) (iblk m c 2 t)) k0_pay7) (ix2 r k)) (y 0) (y 1)) _ ?_ ?_ _ _).trans ?_
  · repeat'
      first
      | exact List.forall_mem_nil _
      | refine List.forall_mem_cons.mpr ⟨fun x => Eq.symm (tile_mixed (iblk m c 6 t) (iblk m c 7 t) (k0_pay13 (F := Ideal) (iblk m c 4 t) (iblk m c 5 t)
          (k0_pay12 (k0_pay6 (iblk m c 0 t) (iblk m c 1 t) (iblk m c 2 t)) k0_pay7)) _ _ _ _ _ (by decide) (by decide) (by decide) (by decide) (by decide) x), ?_⟩
  · exact fun y => View.cover_of_tiledL _ ![128, 128] (by sl_kernel_rfl) y
  · refine (congrArg (fun y : S512x1024.Idx => mixed (n := 512) (by decide)
      (fun h t' s => (iblk m c 6 t : FVec Ideal S8x128x128 .f32) (ix3 h t' s))
      (fun h t' => (iblk m c 7 t : FVec Ideal S128x8 .f32) (ix2 t' h)) _ (y 0) (y 1)) (whole_at _ r k)).trans ?_
    exact congrArg (fun f => mixed (n := 512) _ _ _ f r k) (funext fun r => funext fun k => pay_ln ..)

end Cert.MixKernelIdeal.Mix
end
-- ==== Proof.MixArr.lean ====
/- The forward call's seven result arrays as functions of its arrays. -/
module

public import proofs.«01_k».proof.Proof.MixFwd

@[expose] public section

set_option maxRecDepth 16384

noncomputable section

namespace Cert.MixKernelIdeal.Mix

open Cert.MixKernelIdeal Cert.MixKernelIdeal.Gen Cert.Ffn Cert.Mix Cert.Tiles
open Idealize.ShloMosaic Idealize.ShloMosaic.TcCoe Idealize.SL.Sem
open Idealize.ShloMosaic.Pipeline (Dat)

/-- The normed rows, a projection of them, and the gated mixing's normed rows. -/
def nArr (X : FVec Ideal S8192x1024 .f32) (g : FVec Ideal S1x1024 .f32) : FVec Ideal S8192x1024 .bf16 :=
  fun i => nrm (row X (i 0)) (row g 0) (i 1)
def prj {n : Nat} (X : FVec Ideal S8192x1024 .f32) (g : FVec Ideal S1x1024 .f32) (w : Shape.Idx ⟨2, ![n, 1024]⟩ → EReal) (r : Fin 8192) (j : Fin n) : EReal :=
  dot (nrm (row X r) (row g 0)) (row w j)
def yaArr (X : FVec Ideal S8192x1024 .f32) (g : FVec Ideal S1x1024 .f32) (w : FVec Ideal S2048x1024 .bf16) (lg lb : FVec Ideal S1x1024 .f32)
    (ws : FVec Ideal S8x128x128 .f32) (bs : FVec Ideal S128x8 .f32) (go : FVec Ideal S1x1024 .f32) : FVec Ideal S8192x1024 .bf16 :=
  fun i => nrm (fun k => gel (prj X g w (i 0) ⟨k.val, by omega⟩)
      * mixed (n := 8192) (by decide) (fun h t s => ws (ix3 h t s)) (fun h t => bs (ix2 t h))
          (fun r => ln (fun k => gel (prj X g w r ⟨1024 + k.val, by omega⟩)) (row lg 0) (row lb 0)) (i 0) k) (row go 0) (i 1)

theorem idx0 : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0, 0]
    ∧ win0_7.index t = ![0, 0] ∧ win0_8.index t = ![0, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0]
    ∧ win0_15.index t = ![t.val, 0] :=
  (by decide +kernel : ∀ t : Fin grid0.N, _)

/-- The array row a point's block row sits at. -/
def rowAt (t : Fin cfg0.N) (r : Fin 512) : Fin 8192 := ⟨t.val * 512 + r.val, by
  have h := t.isLt; have h32 : cfg0.N = 16 := N_0; omega⟩

/-- The tiles of a block are the array's tiles. -/
theorem mixed_rowAt (t : Fin cfg0.N) (w : Fin 8 → Fin 128 → Fin 128 → EReal) (b : Fin 8 → Fin 128 → EReal) (f : Fin 8192 → Fin 1024 → EReal)
    (r : Fin 512) (k : Fin 1024) :
    mixed (n := 512) (by decide) w b (fun r => f (rowAt t r)) r k = mixed (n := 8192) (by decide) w b f (rowAt t r) k := by
  have ep : place (rowAt t r) = place r := Fin.ext (by show (t.val * 512 + r.val) % 128 = r.val % 128; omega)
  have et (s : Fin 128) : rowAt t (tileRow (n := 512) (by decide) r s) = tileRow (n := 8192) (by decide) (rowAt t r) s :=
    Fin.ext (by show t.val * 512 + (r.val / 128 * 128 + s.val) = (t.val * 512 + r.val) / 128 * 128 + s.val; omega)
  unfold mixed
  simp only [ep, et]

theorem ya_rowAt (X : FVec Ideal S8192x1024 .f32) (g : FVec Ideal S1x1024 .f32) (w : FVec Ideal S2048x1024 .bf16) (lg lb : FVec Ideal S1x1024 .f32)
    (ws : FVec Ideal S8x128x128 .f32) (bs : FVec Ideal S128x8 .f32) (go : FVec Ideal S1x1024 .f32) (t : Fin cfg0.N) (r : Fin 512) (k : Fin 1024) :
    nrm (fun k => gel (dot (nrm (row X (rowAt t r)) (row g 0)) (row w ⟨k.val, by omega⟩))
        * mixed (n := 512) (by decide) (fun h t s => ws (ix3 h t s)) (fun h t => bs (ix2 t h))
            (fun r => ln (fun k => gel (dot (nrm (row X (rowAt t r)) (row g 0)) (row w ⟨1024 + k.val, by omega⟩))) (row lg 0) (row lb 0)) r k)
        (row go 0) k
      = yaArr X g w lg lb ws bs go (ix2 (rowAt t r) k) := by
  have e (k : Fin 1024) := mixed_rowAt t (fun h t s => ws (ix3 h t s)) (fun h t => bs (ix2 t h))
    (fun r => ln (fun k => gel (dot (nrm (row X r) (row g 0)) (row w ⟨1024 + k.val, by omega⟩))) (row lg 0) (row lb 0)) r k
  simp only [e]
  rfl

variable (m : (ℓ : Loc nD τ sig) → Buf (Elt Ideal) ℓ)

theorem row_x (c : Dev nD) (t : Fin cfg0.N) (r : Fin 512) : row (iblk (F := Ideal) m c 0 t) r = row (V m c main_arg0) (rowAt t r) := by
  funext k
  show iblk m c 0 t (ix2 r k) = V m c main_arg0 (ix2 (rowAt t r) k)
  blk_ext [iblk, idx0 t, rowAt]

theorem blk_g (c : Dev nD) (t : Fin cfg0.N) : iblk (F := Ideal) m c 1 t = V m c main_arg1 := by
  funext y; blk_ext [iblk, idx0 t]
theorem blk_wu (c : Dev nD) (t : Fin cfg0.N) : iblk (F := Ideal) m c 2 t = V m c main_v3 := by
  funext y; blk_ext [iblk, idx0 t]
theorem blk_wz (c : Dev nD) (t : Fin cfg0.N) : iblk (F := Ideal) m c 3 t = V m c main_v5 := by
  funext y; blk_ext [iblk, idx0 t]
theorem blk_lg (c : Dev nD) (t : Fin cfg0.N) : iblk (F := Ideal) m c 4 t = V m c main_arg3 := by
  funext y; blk_ext [iblk, idx0 t]
theorem blk_lb (c : Dev nD) (t : Fin cfg0.N) : iblk (F := Ideal) m c 5 t = V m c main_arg4 := by
  funext y; blk_ext [iblk, idx0 t]
theorem blk_ws (c : Dev nD) (t : Fin cfg0.N) : iblk (F := Ideal) m c 6 t = V m c main_v6 := by
  funext y; blk_ext [iblk, idx0 t]
theorem blk_bs (c : Dev nD) (t : Fin cfg0.N) : iblk (F := Ideal) m c 7 t = V m c main_v8 := by
  funext y; blk_ext [iblk, idx0 t]
theorem blk_go (c : Dev nD) (t : Fin cfg0.N) : iblk (F := Ideal) m c 8 t = V m c main_arg7 := by
  funext y; blk_ext [iblk, idx0 t]

theorem final_9 (c : Dev nD) : (dats (F := Ideal) m 0 c).arrAt 9 cfg0.N = nArr (V m c main_arg0) (V m c main_arg1) := by
  refine (dats m 0 c).arrAt_eq_of_covers 9 _ (by decide +kernel) fun t _ y => ?_
  obtain ⟨r, k, rfl⟩ : ∃ (r : Fin 512) (k : Fin 1024), y = (ix2 r k : S512x1024.Idx) := ⟨y 0, y 1, eq_ix2 y⟩
  have e : ((cfg0.win 9).blk t).view.emb (ix2 r k : S512x1024.Idx) = (ix2 (rowAt t r) k : S8192x1024.Idx) := by
    blk_ext [idx0 t, rowAt]
  rw [e]
  blk_simp
  rw [after0_9]; unfold outsAt0; frame_out
  refine (pay_n ..).trans ?_
  rw [row_x, blk_g]
  rfl

/-- The gelu and its slope of the projected rows. -/
theorem final_10 (c : Dev nD) : (dats (F := Ideal) m 0 c).arrAt 10 cfg0.N
    = ((fun i => gel (prj (V m c main_arg0) (V m c main_arg1) (V m c main_v3) (i 0) (i 1))) : FVec Ideal S8192x2048 .bf16) := by
  refine (dats m 0 c).arrAt_eq_of_covers 10 _ (by decide +kernel) fun t _ y => ?_
  obtain ⟨r, k, rfl⟩ : ∃ (r : Fin 512) (k : Fin 2048), y = (ix2 r k : S512x2048.Idx) := ⟨y 0, y 1, eq_ix2 y⟩
  have e : ((cfg0.win 10).blk t).view.emb (ix2 r k : S512x2048.Idx) = (ix2 (rowAt t r) k : S8192x2048.Idx) := by
    blk_ext [idx0 t, rowAt]
  rw [e]
  blk_simp
  rw [after0_10]; unfold outsAt0; frame_out
  refine (pay_act ..).trans ?_
  rw [pay_uv, row_x, blk_g, blk_wu]
  rfl

theorem final_11 (c : Dev nD) : (dats (F := Ideal) m 0 c).arrAt 11 cfg0.N
    = ((fun i => slp (prj (V m c main_arg0) (V m c main_arg1) (V m c main_v3) (i 0) (i 1))) : FVec Ideal S8192x2048 .bf16) := by
  refine (dats m 0 c).arrAt_eq_of_covers 11 _ (by decide +kernel) fun t _ y => ?_
  obtain ⟨r, k, rfl⟩ : ∃ (r : Fin 512) (k : Fin 2048), y = (ix2 r k : S512x2048.Idx) := ⟨y 0, y 1, eq_ix2 y⟩
  have e : ((cfg0.win 11).blk t).view.emb (ix2 r k : S512x2048.Idx) = (ix2 (rowAt t r) k : S8192x2048.Idx) := by
    blk_ext [idx0 t, rowAt]
  rw [e]
  blk_simp
  rw [after0_11]; unfold outsAt0; frame_out
  refine (pay_slope ..).trans ?_
  rw [pay_uv, row_x, blk_g, blk_wu]
  rfl

/-- The three parts of the other projection. -/
theorem final_12 (c : Dev nD) : (dats (F := Ideal) m 0 c).arrAt 12 cfg0.N
    = ((fun i => prj (n := 2688) (V m c main_arg0) (V m c main_arg1) (V m c main_v5) (i 0) ⟨(i 1).val, Nat.lt_trans (i 1).isLt (by decide)⟩) : FVec Ideal S8192x1024 .bf16) := by
  refine (dats m 0 c).arrAt_eq_of_covers 12 _ (by decide +kernel) fun t _ y => ?_
  obtain ⟨r, k, rfl⟩ : ∃ (r : Fin 512) (k : Fin 1024), y = (ix2 r k : S512x1024.Idx) := ⟨y 0, y 1, eq_ix2 y⟩
  have e : ((cfg0.win 12).blk t).view.emb (ix2 r k : S512x1024.Idx) = (ix2 (rowAt t r) k : S8192x1024.Idx) := by
    blk_ext [idx0 t, rowAt]
  rw [e]
  blk_simp
  rw [after0_12]; unfold outsAt0; frame_out
  refine (pay_z ..).trans ?_
  rw [row_x, blk_g, blk_wz]
  rfl

theorem final_13 (c : Dev nD) : (dats (F := Ideal) m 0 c).arrAt 13 cfg0.N
    = ((fun i => prj (n := 2688) (V m c main_arg0) (V m c main_arg1) (V m c main_v5) (i 0) ⟨1024 + (i 1).val, by
        have h : (i 1).val < 1536 := (i 1).isLt; omega⟩) : FVec Ideal S8192x1536 .bf16) := by
  refine (dats m 0 c).arrAt_eq_of_covers 13 _ (by decide +kernel) fun t _ y => ?_
  obtain ⟨r, k, rfl⟩ : ∃ (r : Fin 512) (k : Fin 1536), y = (ix2 r k : S512x1536.Idx) := ⟨y 0, y 1, eq_ix2 y⟩
  have e : ((cfg0.win 13).blk t).view.emb (ix2 r k : S512x1536.Idx) = (ix2 (rowAt t r) k : S8192x1536.Idx) := by
    blk_ext [idx0 t, rowAt]
  rw [e]
  blk_simp
  rw [after0_13]; unfold outsAt0; frame_out
  refine (pay_xbc ..).trans ?_
  rw [row_x, blk_g, blk_wz]
  rfl

theorem final_14 (c : Dev nD) : (dats (F := Ideal) m 0 c).arrAt 14 cfg0.N
    = ((fun i => prj (n := 2688) (V m c main_arg0) (V m c main_arg1) (V m c main_v5) (i 0) ⟨2560 + (i 1).val, by
        have h : (i 1).val < 128 := (i 1).isLt; omega⟩) : FVec Ideal S8192x128 .f32) := by
  refine (dats m 0 c).arrAt_eq_of_covers 14 _ (by decide +kernel) fun t _ y => ?_
  obtain ⟨r, k, rfl⟩ : ∃ (r : Fin 512) (k : Fin 128), y = (ix2 r k : S512x128.Idx) := ⟨y 0, y 1, eq_ix2 y⟩
  have e : ((cfg0.win 14).blk t).view.emb (ix2 r k : S512x128.Idx) = (ix2 (rowAt t r) k : S8192x128.Idx) := by
    blk_ext [idx0 t, rowAt]
  rw [e]
  blk_simp
  rw [after0_14]; unfold outsAt0; frame_out
  refine (pay_dt ..).trans ?_
  rw [row_x, blk_g, blk_wz]
  rfl

/-- The gated mixing, normed. -/
theorem final_15 (c : Dev nD) : (dats (F := Ideal) m 0 c).arrAt 15 cfg0.N
    = yaArr (V m c main_arg0) (V m c main_arg1) (V m c main_v3) (V m c main_arg3) (V m c main_arg4) (V m c main_v6) (V m c main_v8) (V m c main_arg7) := by
  refine (dats m 0 c).arrAt_eq_of_covers 15 _ (by decide +kernel) fun t _ y => ?_
  obtain ⟨r, k, rfl⟩ : ∃ (r : Fin 512) (k : Fin 1024), y = (ix2 r k : S512x1024.Idx) := ⟨y 0, y 1, eq_ix2 y⟩
  have e : ((cfg0.win 15).blk t).view.emb (ix2 r k : S512x1024.Idx) = (ix2 (rowAt t r) k : S8192x1024.Idx) := by
    blk_ext [idx0 t, rowAt]
  rw [e]
  blk_simp
  rw [after0_15]
  refine (after15 m c t r k).trans ?_
  simp only [pay_uv, row_x, blk_g, blk_wu, blk_lg, blk_lb, blk_ws, blk_bs, blk_go]
  exact ya_rowAt ..

end Cert.MixKernelIdeal.Mix

end
-- ==== Proof.MixHost.lean ====
/- The forward call's arrays before the call as functions of the program's arguments: the weights as the host laid
   them out. -/
module

public import proofs.«01_k».proof.Proof.MixArr

@[expose] public section

set_option maxRecDepth 16384

noncomputable section

namespace Cert.MixKernelIdeal.Mix

open Cert.MixKernelIdeal Cert.MixKernelIdeal.Gen Cert.Ffn Cert.Mix
open Idealize.ShloMosaic Idealize.ShloMosaic.TcCoe Idealize.SL.Sem

variable (m : (ℓ : Loc nD τ sig) → Buf (Elt Ideal) ℓ) (c : Dev nD)

/-- The arguments on a device. -/
abbrev aX : FVec Ideal S8192x1024 .f32 := m ((c : Thread nD τ).loc main_arg0)
abbrev aG : FVec Ideal S1x1024 .f32 := m ((c : Thread nD τ).loc main_arg1)
abbrev aW : FVec Ideal S1x1024x4624 .f32 := m ((c : Thread nD τ).loc main_arg2)
abbrev aLg : FVec Ideal S1x1024 .f32 := m ((c : Thread nD τ).loc main_arg3)
abbrev aLb : FVec Ideal S1x1024 .f32 := m ((c : Thread nD τ).loc main_arg4)
abbrev aWs : FVec Ideal S1x8x128x128 .f32 := m ((c : Thread nD τ).loc main_arg5)
abbrev aBs : FVec Ideal S1x8x128 .f32 := m ((c : Thread nD τ).loc main_arg6)
abbrev aGo : FVec Ideal S1x1024 .f32 := m ((c : Thread nD τ).loc main_arg7)

/-- The two parts of the projection's weight as the call takes them, the second with rows of zeros below. -/
def wut : FVec Ideal S2048x1024 .bf16 := fun i => aW m c (ix3 0 (i 1) ⟨(i 0).val, Nat.lt_trans (i 0).isLt (by decide)⟩)
def wzt : FVec Ideal S2688x1024 .bf16 := fun i =>
  if h : (i 0).val < 2576 then aW m c (ix3 0 (i 1) ⟨2048 + (i 0).val, by omega⟩) else 0

theorem V_wu : V m c main_v3 = wut m c := by
  show StableHlo.after (List.flatten [hostOps0, hostOps0_1, hostOps0_2]) (fun b => m (c, b)) (Proc.devRef .tc main_v3) = _
  simp only [hostOps0, hostOps0_1, hostOps0_2, List.flatten_cons, List.flatten_nil, List.append_nil, List.cons_append, List.nil_append]
  after_results_simp
  funext i
  obtain ⟨r, k, rfl⟩ : ∃ (r : Fin 2048) (k : Fin 1024), i = (ix2 r k : S2048x1024.Idx) := ⟨i 0, i 1, eq_ix2 i⟩
  change extractStridedSlice S2048x1024 ![0, 0] (truncf .bf16 (transpose S4624x1024 [1, 0] (shapeCast S1024x4624 (aW m c) shapeCasts_S1x1024x4624_S1024x4624) transposes_S1024x4624_S4624x1024_1_0) bitsLt_bf16_f32) slices_S4624x1024_S2048x1024_0_0 (ix2 r k) = _
  pointwise []
  rfl

theorem V_wz : V m c main_v5 = wzt m c := by
  show StableHlo.after (List.flatten [hostOps0, hostOps0_1, hostOps0_2]) (fun b => m (c, b)) (Proc.devRef .tc main_v5) = _
  simp only [hostOps0, hostOps0_1, hostOps0_2, List.flatten_cons, List.flatten_nil, List.append_nil, List.cons_append, List.nil_append]
  after_results_simp
  funext i
  obtain ⟨r, k, rfl⟩ : ∃ (r : Fin 2688) (k : Fin 1024), i = (ix2 r k : S2688x1024.Idx) := ⟨i 0, i 1, eq_ix2 i⟩
  change pad S2688x1024 ![0, 0] ![112, 0] ![0, 0] (extractStridedSlice S2576x1024 ![2048, 0] (truncf .bf16 (transpose S4624x1024 [1, 0] (shapeCast S1024x4624 (aW m c) shapeCasts_S1x1024x4624_S1024x4624) transposes_S1024x4624_S4624x1024_1_0) bitsLt_bf16_f32) slices_S4624x1024_S2576x1024_2048_0)
    (sitofp (F := Ideal) .bf16 (constantI S_ 32 0#32)) pads_S2576x1024_S2688x1024_01120_000 h_S_ (ix2 r k) = _
  pointwise []
  have z : (FloatOps.sitofp (F := Ideal) .bf16 (0#32) : EReal) = 0 := by
    show (((0#32 : BitVec 32).toInt : ℝ) : EReal) = 0
    simp
  rw [z]
  rfl

theorem V_ws : V m c main_v6 = fun i => aWs m c (ix4 0 (i 0) (i 1) (i 2)) := by
  show StableHlo.after (List.flatten [hostOps0, hostOps0_1, hostOps0_2]) (fun b => m (c, b)) (Proc.devRef .tc main_v6) = _
  simp only [hostOps0, hostOps0_1, hostOps0_2, List.flatten_cons, List.flatten_nil, List.append_nil, List.cons_append, List.nil_append]
  after_results_simp
  funext i
  obtain ⟨h, t, s, rfl⟩ : ∃ (h : Fin 8) (t s : Fin 128), i = (ix3 h t s : S8x128x128.Idx) := ⟨i 0, i 1, i 2, eq_ix3 i⟩
  change shapeCast S8x128x128 (aWs m c) shapeCasts_S1x8x128x128_S8x128x128 (ix3 h t s) = _
  pointwise []

theorem V_bs : V m c main_v8 = fun i => aBs m c (ix3 0 (i 1) (i 0)) := by
  show StableHlo.after (List.flatten [hostOps0, hostOps0_1, hostOps0_2]) (fun b => m (c, b)) (Proc.devRef .tc main_v8) = _
  simp only [hostOps0, hostOps0_1, hostOps0_2, List.flatten_cons, List.flatten_nil, List.append_nil, List.cons_append, List.nil_append]
  after_results_simp
  funext i
  obtain ⟨t, h, rfl⟩ : ∃ (t : Fin 128) (h : Fin 8), i = (ix2 t h : S128x8.Idx) := ⟨i 0, i 1, eq_ix2 i⟩
  change transpose S128x8 [1, 0] (shapeCast S8x128 (aBs m c) shapeCasts_S1x8x128_S8x128) transposes_S8x128_S128x8_1_0 (ix2 t h) = _
  pointwise []

end Cert.MixKernelIdeal.Mix

end
-- ==== Proof.MixLaw.lean ====
/- The gelu and its slope as the reference writes them are the functions of `MixSpec`, at every extended real. -/
module

public import proofs.«01_k».proof.Proof.MixSpec
public import proofs.«01_k».proof.Proof.FfnFin

@[expose] public section

noncomputable section

namespace Cert.Mix

open Idealize.ShloMosaic Cert.Ffn

theorem mhalf_eq : mhalf = ((-(1 / 2) : ℝ) : EReal) := by
  simp [mhalf, Ideal.ofBits, Ideal.ieee, -EReal.coe_mul]; norm_num

/-- The root of one half. -/
theorem root_half : Ideal.sqrt half = hs := by
  rw [half_eq]
  show (if (1 / 2 : ℝ) < 0 then (⊥ : EReal) else ((Real.sqrt (1 / 2) : ℝ) : EReal)) = hs
  rw [if_neg (by norm_num), one_div, Real.sqrt_inv]

theorem hs_pos : (0 : ℝ) < (Real.sqrt 2)⁻¹ := inv_pos.mpr (Real.sqrt_pos.mpr (by norm_num))

theorem hs_sq : (Real.sqrt 2)⁻¹ * (Real.sqrt 2)⁻¹ = (1 / 2 : ℝ) := by
  rw [← mul_inv, Real.mul_self_sqrt (by norm_num)]; norm_num

/-- The gaussian's exponent, as a square and as a product. -/
theorem exponent (x : EReal) : -((-x * hs) * (-x * hs)) = mhalf * x * x := by
  rw [mhalf_eq]
  induction x with
  | bot =>
    rw [EReal.neg_bot, EReal.top_mul_coe_of_pos hs_pos, EReal.coe_mul_bot_of_neg (by norm_num)]
    simp
  | top =>
    rw [EReal.neg_top, EReal.bot_mul_coe_of_pos hs_pos, EReal.coe_mul_top_of_neg (by norm_num)]
    simp
  | coe r =>
    rw [← EReal.coe_neg, ← EReal.coe_mul, ← EReal.coe_mul, ← EReal.coe_neg, ← EReal.coe_mul, ← EReal.coe_mul]
    congr 1
    linear_combination (-(r * r)) * hs_sq

/-- The gelu, with the complementary error function. -/
theorem gel_erfc (x : EReal) : half * x * Ideal.erfc (-x * hs) = gel x := by
  rw [neg_mul, Ideal.erfc_neg, gel, cdf, mul_comm half x, mul_assoc]

/-- The factor of the slope as the reference prints it. -/
theorem dens_eq : Ideal.ofBits .f32 0xBF906EBB#32 = ((-(9465531 / 8388608) : ℝ) : EReal) := by
  simp [Ideal.ofBits, Ideal.ieee, -EReal.coe_mul]; norm_num

/-- The slope of the gelu as the chain rule writes it. -/
theorem slp_erfc (x : EReal) :
    -(Ideal.ofBits .f32 0xBF906EBB#32 * (half * x) * Ideal.exp (-(-x * hs * (-x * hs))) * hs) + half * Ideal.erfc (-x * hs) = slp x := by
  rw [exponent, neg_mul x hs, Ideal.erfc_neg, slp, cdf, add_comm]
  congr 1
  rw [dens_eq, half_eq]
  induction x with
  | bot =>
    rw [mhalf_eq, EReal.coe_mul_bot_of_neg (show (-(1 / 2) : ℝ) < 0 by norm_num), EReal.top_mul_bot]
    have e : Ideal.exp ⊥ = 0 := rfl
    rw [e]; simp
  | top =>
    rw [mhalf_eq, EReal.coe_mul_top_of_neg (show (-(1 / 2) : ℝ) < 0 by norm_num), EReal.bot_mul_top]
    have e : Ideal.exp ⊥ = 0 := rfl
    rw [e]; simp
  | coe r =>
    obtain ⟨e, he⟩ := IsReal.exp (((IsReal.coe (-(1 / 2))).mul (IsReal.coe r)).mul (IsReal.coe r))
    rw [mhalf_eq, he]
    simp only [← EReal.coe_mul, ← EReal.coe_neg]
    congr 1
    ring

end Cert.Mix

end
-- ==== Proof.MixRef.lean ====
/- The reference's arrays of the mixer's forward pass, read at an element: the rows of `MixSpec`. -/
module

public import proofs.«01_k».proof.Proof.MixLaw
public import proofs.«01_k».proof.Proof.Gen.MixReferenceIdeal.Read
public import Idealize.ShloMosaic.Lib.Pointwise
public import Idealize.ShloMosaic.PureOps.Ideal.Laws

@[expose] public section

set_option maxRecDepth 16384

noncomputable section

namespace Cert.MixReferenceIdeal.Mix

open Cert.MixReferenceIdeal Cert.MixReferenceIdeal.Gen Cert.MixReferenceIdeal.Read Cert.Ffn Cert.Mix
open Idealize.ShloMosaic Idealize.ShloMosaic.TcCoe Idealize.SL.Sem

/-- Row `r` of a matrix, and a weight's columns. -/
abbrev row {a b : Nat} (X : Shape.Idx ⟨2, ![a, b]⟩ → EReal) (r : Fin a) : Fin b → EReal := fun k => X (ix2 r k)
abbrev cols {a b : Nat} (w : Shape.Idx ⟨3, ![1, a, b]⟩ → EReal) : Fin b → Fin a → EReal := fun j k => w (ix3 0 k j)

variable (x0 : FVec Ideal S8192x1024 .f32) (x1 x3 x4 x7 : FVec Ideal S1x1024 .f32) (x2 : FVec Ideal S1x1024x4624 .f32)
variable (x5 : FVec Ideal S1x8x128x128 .f32) (x6 : FVec Ideal S1x8x128 .f32)
variable (i : Fin 8192) (k : Fin 1024) (j : Fin 2048) (l : Fin 4624)

theorem v8_at (q : Fin 1) : val_main_v8 (F := Ideal) x0 (ix2 i q) = rs (row x0 i) := by
  pointwise [val_main_v8, val_main_v7, val_main_v6, val_main_v5, val_main_v4, val_main_v3, val_main_v2, val_main_v1, val_main_cst,
    val_main_cst_0, val_main_cst_1]
  rfl

theorem v13_at : val_main_v13 (F := Ideal) x0 x1 (ix2 i k) = nrm (row x0 i) (row x1 0) k := by
  pointwise [val_main_v13, val_main_v12, val_main_v11, val_main_v10, val_main_v9, val_main_v0, v8_at]
  rfl

theorem v15_at : val_main_v15 (F := Ideal) x0 x1 x2 (ix2 i l) = dot (nrm (row x0 i) (row x1 0)) (cols x2 l) := by
  pointwise [val_main_v15, val_main_v14, v13_at]
  rfl

theorem v18_at : val_main_v18 (F := Ideal) x0 x1 x2 (ix2 i k)
    = dot (nrm (row x0 i) (row x1 0)) (cols x2 ⟨2048 + k.val, by omega⟩) := by
  pointwise [val_main_v18, v15_at]

theorem v19_at (q : Fin 1536) : val_main_v19 (F := Ideal) x0 x1 x2 (ix2 i q)
    = dot (nrm (row x0 i) (row x1 0)) (cols x2 ⟨3072 + q.val, by omega⟩) := by
  pointwise [val_main_v19, v15_at]

theorem v20_at (q : Fin 16) : val_main_v20 (F := Ideal) x0 x1 x2 (ix2 i q)
    = dot (nrm (row x0 i) (row x1 0)) (cols x2 ⟨4608 + q.val, by omega⟩) := by
  pointwise [val_main_v20, v15_at]

theorem v21_at : val_main_v21 (F := Ideal) x0 x1 x2 (ix2 i j)
    = dot (nrm (row x0 i) (row x1 0)) (cols x2 ⟨j.val, by omega⟩) := by
  pointwise [val_main_v21, v15_at]

theorem v105_at (q : Fin 128) : val_main_v105 (F := Ideal) x0 x1 x2 (ix2 i q)
    = if h : q.val < 16 then dot (nrm (row x0 i) (row x1 0)) (cols x2 ⟨4608 + q.val, by omega⟩) else 0 := by
  pointwise [val_main_v105, val_main_call2_v0, val_main_c_16, v20_at]
  have z : (FloatOps.sitofp (F := Ideal) .f32 (0#32) : EReal) = 0 := by
    show (((0#32 : BitVec 32).toInt : ℝ) : EReal) = 0
    simp
  rw [z]

theorem v25_eq (y) : val_main_v25 (F := Ideal) y = hs := by
  pointwise [val_main_v25, val_main_cst_3]
  exact root_half

theorem v32_at : val_main_v32 (F := Ideal) x0 x1 x2 (ix2 i j) = gel (val_main_v21 (F := Ideal) x0 x1 x2 (ix2 i j)) := by
  pointwise [val_main_v32, val_main_v28, val_main_v27, val_main_v26, v25_eq, val_main_v24, val_main_v23, val_main_v22, val_main_cst_2]
  exact gel_erfc _

theorem v44_at : val_main_v44 (F := Ideal) x0 x1 x2 (ix2 i j) = slp (val_main_v21 (F := Ideal) x0 x1 x2 (ix2 i j)) := by
  pointwise [val_main_v44, val_main_v43, val_main_v42, val_main_v41, val_main_v40, val_main_v39, val_main_v38, val_main_v37, val_main_v36,
    val_main_v35, val_main_v34, val_main_v33, val_main_v31, val_main_v30, val_main_v29,
    val_main_v28, val_main_v27, val_main_v26, v25_eq, val_main_v24, val_main_v23, val_main_v22, val_main_cst_2, val_main_cst_4,
    val_main_cst_5, val_main_cst_6]
  exact slp_erfc _

theorem v73_at : val_main_v73 (F := Ideal) x0 x1 x2 x3 x4 (ix2 i k)
    = ln (fun k => val_main_v32 (F := Ideal) x0 x1 x2 (ix2 i ⟨1024 + k.val, by omega⟩)) (row x3 0) (row x4 0) k := by
  have e (k : Fin 1024) : val_main_v57 (F := Ideal) x0 x1 x2 (ix2 i k)
      = dev (fun k => val_main_v32 (F := Ideal) x0 x1 x2 (ix2 i ⟨1024 + k.val, by omega⟩)) k := by
    pointwise [val_main_v57, val_main_v56, val_main_v55, val_main_v54, val_main_v53, val_main_v52, val_main_v46, val_main_cst_7, val_main_cst_8]
    rfl
  pointwise [val_main_v73, val_main_v72, val_main_v71, val_main_v70, val_main_v69, val_main_v68, val_main_v67, val_main_v66, val_main_v65,
    val_main_v64, val_main_v63, val_main_v62, val_main_v61, val_main_v60, val_main_v59, val_main_v58, e, val_main_cst_9, val_main_cst_10,
    val_main_cst_11, val_main_v47, val_main_v48]
  rfl

theorem v78_at (h : Fin 8) (t s : Fin 128) : val_main_v78 (F := Ideal) x5 (ix3 h t s) = if s ≤ t then x5 (ix4 0 h t s) else 0 := by
  pointwise [val_main_v78, val_main_call1_v0, val_main_v76, val_main_call0_v5, val_main_call0_c_0, val_main_call0_v4, val_main_call0_v3,
    val_main_call0_v2, val_main_call0_v1, val_main_call0_v0, val_main_call0_c, val_main_v75, val_main_c, val_main_v77, val_main_cst_12, val_main_v49]
  exact mask_ge ..

theorem v84_at (a : Fin 64) (t q : Fin 128) (h : Fin 8) : val_main_v84 (F := Ideal) x0 x1 x2 x3 x4 x5 x6 (ix4 a t h q)
    = (∑ s : Fin 128, val_main_v74 (F := Ideal) x0 x1 x2 x3 x4 (ix4 a s h q) * val_main_v78 (F := Ideal) x5 (ix3 h t s)) + x6 (ix3 0 h t) := by
  pointwise [val_main_v84, val_main_v83, val_main_v82, val_main_v81, val_main_v80, val_main_v79, val_main_v50]

theorem v85_at : val_main_v85 (F := Ideal) x0 x1 x2 x3 x4 x5 x6 (ix2 i k)
    = val_main_v84 (F := Ideal) x0 x1 x2 x3 x4 x5 x6 (ix4 ⟨i.val / 128, by omega⟩ ⟨i.val % 128, by omega⟩ ⟨k.val / 128, by omega⟩ ⟨k.val % 128, by omega⟩) := by
  pointwise [val_main_v85]

/-- Rows laid out by tile and head. -/
theorem v74_at (a : Fin 64) (t q : Fin 128) (h : Fin 8) : val_main_v74 (F := Ideal) x0 x1 x2 x3 x4 (ix4 a t h q)
    = val_main_v73 (F := Ideal) x0 x1 x2 x3 x4 (ix2 ⟨a.val * 128 + t.val, by omega⟩ ⟨h.val * 128 + q.val, by omega⟩) := by
  pointwise [val_main_v74]

theorem v85_mixed : val_main_v85 (F := Ideal) x0 x1 x2 x3 x4 x5 x6 (ix2 i k)
    = mixed (n := 8192) (by decide) (fun h t s => x5 (ix4 0 h t s)) (fun h t => x6 (ix3 0 h t))
        (fun r => ln (fun k => val_main_v32 (F := Ideal) x0 x1 x2 (ix2 r ⟨1024 + k.val, by omega⟩)) (row x3 0) (row x4 0)) i k := by
  rw [v85_at, v84_at]
  unfold mixed mix
  refine congrArg (· + _) (Finset.sum_congr rfl fun s _ => ?_)
  rw [v74_at, v78_at, v73_at, mul_comm]
  have e : (⟨k.val / 128 * 128 + k.val % 128, by omega⟩ : Fin 1024) = k := Fin.ext (by show k.val / 128 * 128 + k.val % 128 = k.val; omega)
  rw [e]
  rfl

theorem v99_at : val_main_v99 (F := Ideal) x0 x1 x2 x3 x4 x5 x6 x7 (ix2 i k)
    = nrm (fun k => val_main_v32 (F := Ideal) x0 x1 x2 (ix2 i ⟨k.val, by omega⟩) * val_main_v85 (F := Ideal) x0 x1 x2 x3 x4 x5 x6 (ix2 i k)) (row x7 0) k := by
  pointwise [val_main_v99, val_main_v98, val_main_v97, val_main_v96, val_main_v95, val_main_v94, val_main_v93, val_main_v92, val_main_v91,
    val_main_v90, val_main_v89, val_main_v88, val_main_v87, val_main_v86, val_main_v51, val_main_cst_13, val_main_cst_14, val_main_cst_15, val_main_v45]
  rfl

end Cert.MixReferenceIdeal.Mix

end
-- ==== Proof.MixClaim.lean ====
/- The claims about the mixer's forward call: the frames of the three programs, and that both idealized programs end at
   the same seven arrays. -/
module

public import proofs.«01_k».proof.Defs
public import proofs.«01_k».proof.Proof.MixHost
public import proofs.«01_k».proof.Proof.MixRef
public import proofs.«01_k».proof.Proof.Gen.MixKernel.Frame
public import proofs.«01_k».proof.Proof.Gen.MixReferenceIdeal.Run

@[expose] public section

set_option maxRecDepth 16384

noncomputable section

namespace Cert.Mix

open Idealize.ShloMosaic Idealize.ShloMosaic.TcCoe Idealize.SL.Sem Cert.Ffn
open Cert.MixKernelIdeal (S8192x1024 S8192x2048 S8192x1536 S8192x128 S1x1024)
open Cert.MixKernelIdeal.Mix hiding row
open Cert.MixReferenceIdeal.Mix

theorem frame_reference : Cert.quiescent_MixReferenceIdeal := fun m ρ _ =>
  (θ_run _ _ _).mono (fun _ h => ⟨fun c => (h c).2.2.2.2.2.2.2, sem_eq_zero_of_no_sems (by decide) _⟩)
    (Cert.MixReferenceIdeal.Value.run (F := Ideal) m ρ)

theorem preserves : Cert.preserves_MixKernel_MixKernelIdeal :=
  ⟨IdealRules.named_const.statement _ "half_sqrt" .f32 _ _ rfl, IdealRules.named_const.statement _ "density" .f32 _ _ rfl⟩

section Values

variable (m : (ℓ : Loc MixKernelIdeal.nD MixKernelIdeal.τ MixKernelIdeal.sig) → Buf (Elt Ideal) ℓ) (c : Dev MixKernelIdeal.nD)

/-- The seven results. -/
abbrev rN := nArr (aX m c) (aG m c)
abbrev rAct : FVec Ideal S8192x2048 .bf16 := fun i => gel (prj (aX m c) (aG m c) (wut m c) (i 0) (i 1))
abbrev rSlp : FVec Ideal S8192x2048 .bf16 := fun i => slp (prj (aX m c) (aG m c) (wut m c) (i 0) (i 1))
abbrev rZ : FVec Ideal S8192x1024 .bf16 :=
  fun i => prj (n := 2688) (aX m c) (aG m c) (wzt m c) (i 0) ⟨(i 1).val, Nat.lt_trans (i 1).isLt (by decide)⟩
abbrev rX : FVec Ideal S8192x1536 .bf16 :=
  fun i => prj (n := 2688) (aX m c) (aG m c) (wzt m c) (i 0) ⟨1024 + (i 1).val, by have h : (i 1).val < 1536 := (i 1).isLt; omega⟩
abbrev rD : FVec Ideal S8192x128 .f32 :=
  fun i => prj (n := 2688) (aX m c) (aG m c) (wzt m c) (i 0) ⟨2560 + (i 1).val, by have h : (i 1).val < 128 := (i 1).isLt; omega⟩
abbrev rYa := yaArr (aX m c) (aG m c) (wut m c) (aLg m c) (aLb m c) (fun i => aWs m c (ix4 0 (i 0) (i 1) (i 2)))
  (fun i => aBs m c (ix3 0 (i 1) (i 0))) (aGo m c)

/-- The columns of the projection's weight, in the kernel's two parts. -/
theorem wut_row (j : Fin 2048) : (fun k => wut m c (ix2 j k)) = cols (aW m c) ⟨j.val, by omega⟩ := rfl
theorem wzt_row (j : Fin 2688) (h : j.val < 2576) : (fun k => wzt m c (ix2 j k)) = cols (aW m c) ⟨2048 + j.val, by omega⟩ :=
  funext fun k => dif_pos h
theorem wzt_row_zero (j : Fin 2688) (h : ¬ j.val < 2576) : (fun k => wzt m c (ix2 j k)) = fun _ => 0 :=
  funext fun k => dif_neg h

theorem ref_n : MixReferenceIdeal.Read.val_main_v100 (F := Ideal) (aX m c) (aG m c) = rN m c := by
  funext i
  obtain ⟨r, k, rfl⟩ : ∃ (r : Fin 8192) (k : Fin 1024), i = (ix2 r k : S8192x1024.Idx) := ⟨i 0, i 1, eq_ix2 i⟩
  exact v13_at ..

theorem ref_act : MixReferenceIdeal.Read.val_main_v101 (F := Ideal) (aX m c) (aG m c) (aW m c) = rAct m c := by
  funext i
  obtain ⟨r, k, rfl⟩ : ∃ (r : Fin 8192) (k : Fin 2048), i = (ix2 r k : S8192x2048.Idx) := ⟨i 0, i 1, eq_ix2 i⟩
  exact (v32_at ..).trans (congrArg gel (v21_at ..))

theorem ref_slope : MixReferenceIdeal.Read.val_main_v102 (F := Ideal) (aX m c) (aG m c) (aW m c) = rSlp m c := by
  funext i
  obtain ⟨r, k, rfl⟩ : ∃ (r : Fin 8192) (k : Fin 2048), i = (ix2 r k : S8192x2048.Idx) := ⟨i 0, i 1, eq_ix2 i⟩
  exact (v44_at ..).trans (congrArg slp (v21_at ..))

theorem ref_z : MixReferenceIdeal.Read.val_main_v103 (F := Ideal) (aX m c) (aG m c) (aW m c) = rZ m c := by
  funext i
  obtain ⟨r, k, rfl⟩ : ∃ (r : Fin 8192) (k : Fin 1024), i = (ix2 r k : S8192x1024.Idx) := ⟨i 0, i 1, eq_ix2 i⟩
  exact (v18_at ..).trans (congrArg (dot _) (wzt_row m c ⟨k.val, by omega⟩ (by show k.val < 2576; omega)).symm)

theorem ref_xbc : MixReferenceIdeal.Read.val_main_v104 (F := Ideal) (aX m c) (aG m c) (aW m c) = rX m c := by
  funext i
  obtain ⟨r, k, rfl⟩ : ∃ (r : Fin 8192) (k : Fin 1536), i = (ix2 r k : S8192x1536.Idx) := ⟨i 0, i 1, eq_ix2 i⟩
  have e : (⟨3072 + k.val, by omega⟩ : Fin 4624) = ⟨2048 + (1024 + k.val), by omega⟩ := Fin.ext (by show 3072 + k.val = 2048 + (1024 + k.val); omega)
  refine (v19_at ..).trans (congrArg (dot _) ?_)
  rw [e]
  exact (wzt_row m c ⟨1024 + k.val, by omega⟩ (by show 1024 + k.val < 2576; omega)).symm

theorem ref_dt : MixReferenceIdeal.Read.val_main_v105 (F := Ideal) (aX m c) (aG m c) (aW m c) = rD m c := by
  funext i
  obtain ⟨r, k, rfl⟩ : ∃ (r : Fin 8192) (k : Fin 128), i = (ix2 r k : S8192x128.Idx) := ⟨i 0, i 1, eq_ix2 i⟩
  refine (v105_at ..).trans ?_
  by_cases h : k.val < 16
  · have e : (⟨4608 + k.val, by omega⟩ : Fin 4624) = ⟨2048 + (2560 + k.val), by omega⟩ := Fin.ext (by show 4608 + k.val = 2048 + (2560 + k.val); omega)
    rw [dif_pos h, e]
    exact congrArg (dot _) (wzt_row m c ⟨2560 + k.val, by omega⟩ (by show 2560 + k.val < 2576; omega)).symm
  · rw [dif_neg h]
    refine Eq.trans ?_ (congrArg (dot _) (wzt_row_zero m c ⟨2560 + k.val, by omega⟩ (by show ¬ 2560 + k.val < 2576; omega)).symm)
    simp [dot]

theorem ref_ya : MixReferenceIdeal.Read.val_main_v106 (F := Ideal) (aX m c) (aG m c) (aW m c) (aLg m c) (aLb m c) (aWs m c) (aBs m c) (aGo m c)
    = rYa m c := by
  funext i
  obtain ⟨r, k, rfl⟩ : ∃ (r : Fin 8192) (k : Fin 1024), i = (ix2 r k : S8192x1024.Idx) := ⟨i 0, i 1, eq_ix2 i⟩
  refine (v99_at ..).trans ?_
  simp only [v85_mixed, v32_at, v21_at]
  rfl

end Values

/-- Both programs end at the same arrays. -/
theorem value : Cert.algebraic_MixKernelIdeal_MixReferenceIdeal := fun m ρ m' ρ' _ hag =>
  ⟨rN m, rAct m, rSlp m, rZ m, rX m, rD m, rYa m,
    (θ_run _ _ _).mono (fun _ h c => by
      obtain ⟨h0, h1, h2, h3, h4, h5, h6, ha⟩ := h c
      refine ⟨h0.trans ?_, h1.trans ?_, h2.trans ?_, h3.trans ?_, h4.trans ?_, h5.trans ?_, h6.trans ?_, ha⟩
      · rw [final_9, MixKernelIdeal.Gen.V_main_arg0, MixKernelIdeal.Gen.V_main_arg1]
      · rw [final_10, MixKernelIdeal.Gen.V_main_arg0, MixKernelIdeal.Gen.V_main_arg1, V_wu]
      · rw [final_11, MixKernelIdeal.Gen.V_main_arg0, MixKernelIdeal.Gen.V_main_arg1, V_wu]
      · rw [final_12, MixKernelIdeal.Gen.V_main_arg0, MixKernelIdeal.Gen.V_main_arg1, V_wz]
      · rw [final_13, MixKernelIdeal.Gen.V_main_arg0, MixKernelIdeal.Gen.V_main_arg1, V_wz]
      · rw [final_14, MixKernelIdeal.Gen.V_main_arg0, MixKernelIdeal.Gen.V_main_arg1, V_wz]
      · rw [final_15, MixKernelIdeal.Gen.V_main_arg0, MixKernelIdeal.Gen.V_main_arg1, V_wu, MixKernelIdeal.Gen.V_main_arg3,
          MixKernelIdeal.Gen.V_main_arg4, V_ws, V_bs, MixKernelIdeal.Gen.V_main_arg7]
        rfl)
      (Cert.MixKernelIdeal.Value.run_blocks (F := Ideal) m ρ),
    (θ_run _ _ _).mono (fun _ h c => by
      obtain ⟨h0, h1, h2, h3, h4, h5, h6, ha⟩ := h c
      obtain ⟨a0, a1, a2, a3, a4, a5, a6, a7⟩ := hag c
      refine ⟨h0.trans ?_, h1.trans ?_, h2.trans ?_, h3.trans ?_, h4.trans ?_, h5.trans ?_, h6.trans ?_, ha⟩
      · rw [MixReferenceIdeal.Read.val_main_v100_eq, a0, a1]; exact ref_n m c
      · rw [MixReferenceIdeal.Read.val_main_v101_eq, a0, a1, a2]; exact ref_act m c
      · rw [MixReferenceIdeal.Read.val_main_v102_eq, a0, a1, a2]; exact ref_slope m c
      · rw [MixReferenceIdeal.Read.val_main_v103_eq, a0, a1, a2]; exact ref_z m c
      · rw [MixReferenceIdeal.Read.val_main_v104_eq, a0, a1, a2]; exact ref_xbc m c
      · rw [MixReferenceIdeal.Read.val_main_v105_eq, a0, a1, a2]; exact ref_dt m c
      · rw [MixReferenceIdeal.Read.val_main_v106_eq, a0, a1, a2, a3, a4, a5, a6, a7]; exact ref_ya m c)
      (Cert.MixReferenceIdeal.Value.run (F := Ideal) m' ρ')⟩

end Cert.Mix

end
-- ==== Proof.MixBwdRun.lean ====
/- The backward call of the token mixer's gating, one grid point at a time: what the body does to its buffers at a point after
   the first, where the six running sums already hold what the earlier points left. The first point's run is the generated one. -/
module

public import proofs.«01_k».proof.Proof.Gen.MixBwdKernelIdeal.Frame.RunA

@[expose] public section

set_option maxRecDepth 16384

noncomputable section

namespace Cert.MixBwdKernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MixBwdKernelIdeal.Gen

variable {F : FTy → Type} [FloatOps F]

local notation "𝕄" => MT nD τ sig Unit (Elt F) ℕ (UR sig nD τ) ℕ

/-- The fourteen input blocks of a point. -/
structure Blocks (F : FTy → Type) where
  dh : Vec F S256x1024 .f32
  h : Vec F S256x1024 .f32
  g : Vec F S1x1024 .f32
  act : Vec F S256x2048 .bf16
  slope : Vec F S256x2048 .bf16
  dya : Vec F S256x1024 .bf16
  dzxd : Vec F S256x2688 .bf16
  wuv : Vec F S2048x1024 .bf16
  wzxd : Vec F S2688x1024 .bf16
  lng : Vec F S1x1024 .f32
  lnb : Vec F S1x1024 .f32
  ws : Vec F S8x128x128 .f32
  bst : Vec F S128x8 .f32
  gout : Vec F S1x1024 .f32

/-- The six sums over the points, as they stand before or after a point. -/
structure Sums (F : FTy → Type) where
  dg : Vec F S1x1024 .f32
  dlng : Vec F S1x1024 .f32
  dlnb : Vec F S1x1024 .f32
  dws : Vec F S8x128x128 .f32
  dbst : Vec F S128x8 .f32
  dgout : Vec F S1x1024 .f32

/-- What the body stores into each buffer it writes, last store first: the two row blocks, the six sums, the two scratch
    arrays. -/
structure Stores (F : FTy → Type) where
  dhi : List (View.Piece (Elt F) S256x1024 .f32)
  duv : List (View.Piece (Elt F) S256x2048 .bf16)
  dg : List (View.Piece (Elt F) S1x1024 .f32)
  dlng : List (View.Piece (Elt F) S1x1024 .f32)
  dlnb : List (View.Piece (Elt F) S1x1024 .f32)
  dws : List (View.Piece (Elt F) S8x128x128 .f32)
  dbst : List (View.Piece (Elt F) S128x8 .f32)
  dgout : List (View.Piece (Elt F) S1x1024 .f32)
  mixed : List (View.Piece (Elt F) S256x1024 .f32)
  dvn : List (View.Piece (Elt F) S256x1024 .f32)
section Point
variable {m0 : Memref sig .tc .vmem S256x1024 .f32} (w0 : m0.IsWhole)
  {m1 : Memref sig .tc .vmem S256x1024 .f32} (w1 : m1.IsWhole)
  {m2 : Memref sig .tc .vmem S1x1024 .f32} (w2 : m2.IsWhole)
  {m3 : Memref sig .tc .vmem S256x2048 .bf16} (w3 : m3.IsWhole)
  {m4 : Memref sig .tc .vmem S256x2048 .bf16} (w4 : m4.IsWhole)
  {m5 : Memref sig .tc .vmem S256x1024 .bf16} (w5 : m5.IsWhole)
  {m6 : Memref sig .tc .vmem S256x2688 .bf16} (w6 : m6.IsWhole)
  {m7 : Memref sig .tc .vmem S2048x1024 .bf16} (w7 : m7.IsWhole)
  {m8 : Memref sig .tc .vmem S2688x1024 .bf16} (w8 : m8.IsWhole)
  {m9 : Memref sig .tc .vmem S1x1024 .f32} (w9 : m9.IsWhole)
  {m10 : Memref sig .tc .vmem S1x1024 .f32} (w10 : m10.IsWhole)
  {m11 : Memref sig .tc .vmem S8x128x128 .f32} (w11 : m11.IsWhole)
  {m12 : Memref sig .tc .vmem S128x8 .f32} (w12 : m12.IsWhole)
  {m13 : Memref sig .tc .vmem S1x1024 .f32} (w13 : m13.IsWhole)
  {m14 : Memref sig .tc .vmem S256x1024 .f32} (w14 : m14.IsWhole)
  {m15 : Memref sig .tc .vmem S256x2048 .bf16} (w15 : m15.IsWhole)
  {m16 : Memref sig .tc .vmem S1x1024 .f32} (w16 : m16.IsWhole)
  {m17 : Memref sig .tc .vmem S1x1024 .f32} (w17 : m17.IsWhole)
  {m18 : Memref sig .tc .vmem S1x1024 .f32} (w18 : m18.IsWhole)
  {m19 : Memref sig .tc .vmem S8x128x128 .f32} (w19 : m19.IsWhole)
  {m20 : Memref sig .tc .vmem S128x8 .f32} (w20 : m20.IsWhole)
  {m21 : Memref sig .tc .vmem S1x1024 .f32} (w21 : m21.IsWhole)
  {m22 : Memref sig .tc .vmem S256x1024 .f32} (w22 : m22.IsWhole)
  {m23 : Memref sig .tc .vmem S256x1024 .f32} (w23 : m23.IsWhole)

/-- The stores `p` are what the body does at a point: from its input blocks `x`, the sums so far `a` and the other buffers at
    anything, it runs to its end, leaves the inputs as they were and every other buffer with the stores `p` written into it. -/
@[reducible] def Runs (c : Dev nD) (i : grid0.Coords) (x : Blocks F) (a : Sums F) (p : Stores F) : Prop :=
  ∀ (E : Set ℕ) (K : PUnit → sProp 𝕄),
        iprop(owns (c : Thread nD τ) m0 fullShare x.dh
            ∗ owns (c : Thread nD τ) m1 fullShare x.h
            ∗ owns (c : Thread nD τ) m2 fullShare x.g
            ∗ owns (c : Thread nD τ) m3 fullShare x.act
            ∗ owns (c : Thread nD τ) m4 fullShare x.slope
            ∗ owns (c : Thread nD τ) m5 fullShare x.dya
            ∗ owns (c : Thread nD τ) m6 fullShare x.dzxd
            ∗ owns (c : Thread nD τ) m7 fullShare x.wuv
            ∗ owns (c : Thread nD τ) m8 fullShare x.wzxd
            ∗ owns (c : Thread nD τ) m9 fullShare x.lng
            ∗ owns (c : Thread nD τ) m10 fullShare x.lnb
            ∗ owns (c : Thread nD τ) m11 fullShare x.ws
            ∗ owns (c : Thread nD τ) m12 fullShare x.bst
            ∗ owns (c : Thread nD τ) m13 fullShare x.gout
            ∗ (∃ d, owns (c : Thread nD τ) m14 fullShare d)
            ∗ (∃ d, owns (c : Thread nD τ) m15 fullShare d)
            ∗ owns (c : Thread nD τ) m16 fullShare a.dg
            ∗ owns (c : Thread nD τ) m17 fullShare a.dlng
            ∗ owns (c : Thread nD τ) m18 fullShare a.dlnb
            ∗ owns (c : Thread nD τ) m19 fullShare a.dws
            ∗ owns (c : Thread nD τ) m20 fullShare a.dbst
            ∗ owns (c : Thread nD τ) m21 fullShare a.dgout
            ∗ (∃ d, owns (c : Thread nD τ) m22 fullShare d)
            ∗ (∃ d, owns (c : Thread nD τ) m23 fullShare d)
            ∗ (iprop(owns (c : Thread nD τ) m0 fullShare x.dh
            ∗ owns (c : Thread nD τ) m1 fullShare x.h
            ∗ owns (c : Thread nD τ) m2 fullShare x.g
            ∗ owns (c : Thread nD τ) m3 fullShare x.act
            ∗ owns (c : Thread nD τ) m4 fullShare x.slope
            ∗ owns (c : Thread nD τ) m5 fullShare x.dya
            ∗ owns (c : Thread nD τ) m6 fullShare x.dzxd
            ∗ owns (c : Thread nD τ) m7 fullShare x.wuv
            ∗ owns (c : Thread nD τ) m8 fullShare x.wzxd
            ∗ owns (c : Thread nD τ) m9 fullShare x.lng
            ∗ owns (c : Thread nD τ) m10 fullShare x.lnb
            ∗ owns (c : Thread nD τ) m11 fullShare x.ws
            ∗ owns (c : Thread nD τ) m12 fullShare x.bst
            ∗ owns (c : Thread nD τ) m13 fullShare x.gout
            ∗ (∃ f, m14.view.loc (c : Thread nD τ) ↦[m14.view.set]{fullShare} m14.view.writes (Elt F) f p.dhi)
            ∗ (∃ f, m15.view.loc (c : Thread nD τ) ↦[m15.view.set]{fullShare} m15.view.writes (Elt F) f p.duv)
            ∗ (∃ f, m16.view.loc (c : Thread nD τ) ↦[m16.view.set]{fullShare} m16.view.writes (Elt F) f p.dg)
            ∗ (∃ f, m17.view.loc (c : Thread nD τ) ↦[m17.view.set]{fullShare} m17.view.writes (Elt F) f p.dlng)
            ∗ (∃ f, m18.view.loc (c : Thread nD τ) ↦[m18.view.set]{fullShare} m18.view.writes (Elt F) f p.dlnb)
            ∗ (∃ f, m19.view.loc (c : Thread nD τ) ↦[m19.view.set]{fullShare} m19.view.writes (Elt F) f p.dws)
            ∗ (∃ f, m20.view.loc (c : Thread nD τ) ↦[m20.view.set]{fullShare} m20.view.writes (Elt F) f p.dbst)
            ∗ (∃ f, m21.view.loc (c : Thread nD τ) ↦[m21.view.set]{fullShare} m21.view.writes (Elt F) f p.dgout)
            ∗ (∃ f, m22.view.loc (c : Thread nD τ) ↦[m22.view.set]{fullShare} m22.view.writes (Elt F) f p.mixed)
            ∗ (∃ f, m23.view.loc (c : Thread nD τ) ↦[m23.view.set]{fullShare} m23.view.writes (Elt F) f p.dvn)) -∗ K ⟨⟩))
          ⊢ wp frame (wpE (defs₀ (F := F)) Variants.none c none) E (cc0_mix_bwd i m0 w0 m1 w1 m2 w2 m3 w3 m4 w4 m5 w5 m6 w6 m7 w7 m8 w8 m9 w9 m10 w10 m11 w11 m12 w12 m13 w13 m14 w14 m15 w15 m16 w16 m17 w17 m18 w18 m19 w19 m20 w20 m21 w21 m22 w22 m23 w23) K

set_option maxHeartbeats 3000000 in
/-- A point after the first. -/
def later (c : Dev nD) (i : grid0.Coords) (hc : ¬cond0_0 i) (x : Blocks F) (a : Sums F) :
    { p : Stores F // Runs w0 w1 w2 w3 w4 w5 w6 w7 w8 w9 w10 w11 w12 w13 w14 w15 w16 w17 w18 w19 w20 w21 w22 w23 c i x a p } := by
  refine ⟨⟨?_, ?_, ?_, ?_, ?_, ?_, ?_, ?_, ?_, ?_⟩, fun E K => ?run⟩
  case run =>
    simp only [cc0_mix_bwd_eq_skeleton]; unfold cc0_mix_bwd_skel
    simp only [k0_part20_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %e0, B0⟩, ⟨%f1, %e1, B1⟩, ⟨%f2, %e2, B2⟩, ⟨%f3, %e3, B3⟩, ⟨%f4, %e4, B4⟩, ⟨%f5, %e5, B5⟩, ⟨%f6, %e6, B6⟩, ⟨%f7, %e7, B7⟩, ⟨%f8, %e8, B8⟩, ⟨%f9, %e9, B9⟩, ⟨%f10, %e10, B10⟩, ⟨%f11, %e11, B11⟩, ⟨%f12, %e12, B12⟩, ⟨%f13, %e13, B13⟩, ⟨%d14, %f14, -, B14⟩, ⟨%d15, %f15, -, B15⟩, ⟨%f16, %e16, B16⟩, ⟨%f17, %e17, B17⟩, ⟨%f18, %e18, B18⟩, ⟨%f19, %e19, B19⟩, ⟨%f20, %e20, B20⟩, ⟨%f21, %e21, B21⟩, ⟨%d22, %f22, -, B22⟩, ⟨%d23, %f23, -, B23⟩, Hk⟩
    obtain rfl := w0.eq_unread e0; obtain rfl := w1.eq_unread e1; obtain rfl := w2.eq_unread e2; obtain rfl := w3.eq_unread e3; obtain rfl := w4.eq_unread e4; obtain rfl := w5.eq_unread e5; obtain rfl := w6.eq_unread e6; obtain rfl := w7.eq_unread e7; obtain rfl := w8.eq_unread e8; obtain rfl := w9.eq_unread e9; obtain rfl := w10.eq_unread e10; obtain rfl := w11.eq_unread e11; obtain rfl := w12.eq_unread e12; obtain rfl := w13.eq_unread e13; obtain rfl := w16.eq_unread e16; obtain rfl := w17.eq_unread e17; obtain rfl := w18.eq_unread e18; obtain rfl := w19.eq_unread e19; obtain rfl := w20.eq_unread e20; obtain rfl := w21.eq_unread e21
    sl_exec (disch := first | sl_exact hc)
    sl_step
    iapply Hk
    isplitl [B0]
    · iexists _; isplitr; · ipureintro; exact w0.read_unread _
      iexact B0
    isplitl [B1]
    · iexists _; isplitr; · ipureintro; exact w1.read_unread _
      iexact B1
    isplitl [B2]
    · iexists _; isplitr; · ipureintro; exact w2.read_unread _
      iexact B2
    isplitl [B3]
    · iexists _; isplitr; · ipureintro; exact w3.read_unread _
      iexact B3
    isplitl [B4]
    · iexists _; isplitr; · ipureintro; exact w4.read_unread _
      iexact B4
    isplitl [B5]
    · iexists _; isplitr; · ipureintro; exact w5.read_unread _
      iexact B5
    isplitl [B6]
    · iexists _; isplitr; · ipureintro; exact w6.read_unread _
      iexact B6
    isplitl [B7]
    · iexists _; isplitr; · ipureintro; exact w7.read_unread _
      iexact B7
    isplitl [B8]
    · iexists _; isplitr; · ipureintro; exact w8.read_unread _
      iexact B8
    isplitl [B9]
    · iexists _; isplitr; · ipureintro; exact w9.read_unread _
      iexact B9
    isplitl [B10]
    · iexists _; isplitr; · ipureintro; exact w10.read_unread _
      iexact B10
    isplitl [B11]
    · iexists _; isplitr; · ipureintro; exact w11.read_unread _
      iexact B11
    isplitl [B12]
    · iexists _; isplitr; · ipureintro; exact w12.read_unread _
      iexact B12
    isplitl [B13]
    · iexists _; isplitr; · ipureintro; exact w13.read_unread _
      iexact B13
    isplitl [B14]; · iexists _; iexact B14
    isplitl [B15]; · iexists _; iexact B15
    isplitl [B16]; · iexists _; iexact B16
    isplitl [B17]; · iexists _; iexact B17
    isplitl [B18]; · iexists _; iexact B18
    isplitl [B19]; · iexists _; iexact B19
    isplitl [B20]; · iexists _; iexact B20
    isplitl [B21]; · iexists _; iexact B21
    isplitl [B22]; · iexists _; iexact B22
    iexists _; iexact B23

/-- The first point: the body sets the sums to zero before it adds to them, so what they held does not matter. -/
def first (c : Dev nD) (i : grid0.Coords) (hc : cond0_0 i) (x : Blocks F) (a : Sums F) :
    { p : Stores F // Runs w0 w1 w2 w3 w4 w5 w6 w7 w8 w9 w10 w11 w12 w13 w14 w15 w16 w17 w18 w19 w20 w21 w22 w23 c i x a p } :=
  let r := kernelRun0_A c i m0 w0 m1 w1 m2 w2 m3 w3 m4 w4 m5 w5 m6 w6 m7 w7 m8 w8 m9 w9 m10 w10 m11 w11 m12 w12 m13 w13 m14 w14 m15 w15 m16 w16 m17 w17 m18 w18 m19 w19 m20 w20 m21 w21 m22 w22 m23 w23 hc x.dh x.h x.g x.act x.slope x.dya x.dzxd x.wuv x.wzxd x.lng x.lnb x.ws x.bst x.gout
  ⟨⟨r.1, r.2.1, r.2.2.1, r.2.2.2.1, r.2.2.2.2.1, r.2.2.2.2.2.1, r.2.2.2.2.2.2.1, r.2.2.2.2.2.2.2.1, r.2.2.2.2.2.2.2.2.1, r.2.2.2.2.2.2.2.2.2.1⟩, fun E K => by
    iintro ⟨B0, B1, B2, B3, B4, B5, B6, B7, B8, B9, B10, B11, B12, B13, B14, B15, B16, B17, B18, B19, B20, B21, B22, B23, Hk⟩
    iapply (r.2.2.2.2.2.2.2.2.2.2 E K)
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    isplitl [B15]; · iexact B15
    isplitl [B16]; · iexists _; iexact B16
    isplitl [B17]; · iexists _; iexact B17
    isplitl [B18]; · iexists _; iexact B18
    isplitl [B19]; · iexists _; iexact B19
    isplitl [B20]; · iexists _; iexact B20
    isplitl [B21]; · iexists _; iexact B21
    isplitl [B22]; · iexact B22
    isplitl [B23]; · iexact B23
    iexact Hk⟩

end Point

end Cert.MixBwdKernelIdeal.Hand

end
-- ==== Proof.MixBwdFrame.lean ====
/- The run of the backward call of the token mixer's gating: what every buffer holds after each grid point, the body's
   obligation at a point, and the whole program's run with the argument arrays unchanged. -/
module

public import proofs.«01_k».proof.Proof.MixBwdRun
public import Idealize.ShloMosaic.Lib.Claim

@[expose] public section

set_option maxRecDepth 16384

noncomputable section

namespace Cert.MixBwdKernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixBwdKernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the output buffers hold after a point. -/
structure Out (F : FTy → Type) extends Sums F where
  dhi : Vec F S256x1024 .f32
  duv : Vec F S256x2048 .bf16

/-- The contents that stores covering their buffers leave. -/
def Stores.out (p : Stores F) : Out F where
  dhi := VO0_14.read (Elt F) (VO0_14.writes (Elt F) VO0_14.junk p.dhi)
  duv := VO0_15.read (Elt F) (VO0_15.writes (Elt F) VO0_15.junk p.duv)
  dg := VO0_16.read (Elt F) (VO0_16.writes (Elt F) VO0_16.junk p.dg)
  dlng := VO0_17.read (Elt F) (VO0_17.writes (Elt F) VO0_17.junk p.dlng)
  dlnb := VO0_18.read (Elt F) (VO0_18.writes (Elt F) VO0_18.junk p.dlnb)
  dws := VO0_19.read (Elt F) (VO0_19.writes (Elt F) VO0_19.junk p.dws)
  dbst := VO0_20.read (Elt F) (VO0_20.writes (Elt F) VO0_20.junk p.dbst)
  dgout := VO0_21.read (Elt F) (VO0_21.writes (Elt F) VO0_21.junk p.dgout)

/-- The stores into each output reach every element of it. -/
structure Stores.Cover (p : Stores F) : Prop where
  dhi : ∀ y, ∃ pc ∈ p.dhi, y ∈ pc.1.set
  duv : ∀ y, ∃ pc ∈ p.duv, y ∈ pc.1.set
  dg : ∀ y, ∃ pc ∈ p.dg, y ∈ pc.1.set
  dlng : ∀ y, ∃ pc ∈ p.dlng, y ∈ pc.1.set
  dlnb : ∀ y, ∃ pc ∈ p.dlnb, y ∈ pc.1.set
  dws : ∀ y, ∃ pc ∈ p.dws, y ∈ pc.1.set
  dbst : ∀ y, ∃ pc ∈ p.dbst, y ∈ pc.1.set
  dgout : ∀ y, ∃ pc ∈ p.dgout, y ∈ pc.1.set

/-- The input blocks of point `t`. -/
def blocks (c : Dev nD) (t : Fin cfg0.N) : Blocks F where
  dh := iblk m c 0 t
  h := iblk m c 1 t
  g := iblk m c 2 t
  act := iblk m c 3 t
  slope := iblk m c 4 t
  dya := iblk m c 5 t
  dzxd := iblk m c 6 t
  wuv := iblk m c 7 t
  wzxd := iblk m c 8 t
  lng := iblk m c 9 t
  lnb := iblk m c 10 t
  ws := iblk m c 11 t
  bst := iblk m c 12 t
  gout := iblk m c 13 t

/-- The body's stores at point `t`, on the buffers it is handed there. -/
def point (c : Dev nD) (t : Fin cfg0.N) (x : Blocks F) (a : Sums F) :
    { p : Stores F // Runs (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) (hs0_19 t) (hs0_20 t) (hs0_21 t) (Memref.isWhole_whole _ : scM0_0.IsWhole) (Memref.isWhole_whole _ : scM0_1.IsWhole) c (grid0.coords t) x a p } :=
  if h : t.val % 32 = 0 then first (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) (hs0_19 t) (hs0_20 t) (hs0_21 t) (Memref.isWhole_whole _ : scM0_0.IsWhole) (Memref.isWhole_whole _ : scM0_1.IsWhole) c (grid0.coords t) ((hcond0_0 t).mpr h) x a
  else later (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) (hs0_19 t) (hs0_20 t) (hs0_21 t) (Memref.isWhole_whole _ : scM0_0.IsWhole) (Memref.isWhole_whole _ : scM0_1.IsWhole) c (grid0.coords t) (fun hc => h ((hcond0_0 t).mp hc)) x a

theorem point_first (c : Dev nD) (t : Fin cfg0.N) (h : t.val % 32 = 0) (x : Blocks F) (a : Sums F) :
    point c t x a = first (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) (hs0_19 t) (hs0_20 t) (hs0_21 t) (Memref.isWhole_whole _ : scM0_0.IsWhole) (Memref.isWhole_whole _ : scM0_1.IsWhole) c (grid0.coords t) ((hcond0_0 t).mpr h) x a := dif_pos h

theorem point_later (c : Dev nD) (t : Fin cfg0.N) (h : ¬t.val % 32 = 0) (x : Blocks F) (a : Sums F) :
    point c t x a = later (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) (hs0_19 t) (hs0_20 t) (hs0_21 t) (Memref.isWhole_whole _ : scM0_0.IsWhole) (Memref.isWhole_whole _ : scM0_1.IsWhole) c (grid0.coords t) (fun hc => h ((hcond0_0 t).mp hc)) x a := dif_neg h

/-- At the first point the stores do not depend on what the sums held. -/
theorem point_zero (c : Dev nD) (t : Fin cfg0.N) (h : t.val % 32 = 0) (x : Blocks F) (a b : Sums F) :
    (point c t x a).1 = (point c t x b).1 := by
  rw [point_first c t h, point_first c t h]; rfl

theorem first_cover (c : Dev nD) (i : grid0.Coords) (hc : cond0_0 i) (x : Blocks F) (a : Sums F)
    {m0 : Memref sig .tc .vmem S256x1024 .f32} (w0 : m0.IsWhole) {m1 : Memref sig .tc .vmem S256x1024 .f32} (w1 : m1.IsWhole) {m2 : Memref sig .tc .vmem S1x1024 .f32} (w2 : m2.IsWhole) {m3 : Memref sig .tc .vmem S256x2048 .bf16} (w3 : m3.IsWhole) {m4 : Memref sig .tc .vmem S256x2048 .bf16} (w4 : m4.IsWhole) {m5 : Memref sig .tc .vmem S256x1024 .bf16} (w5 : m5.IsWhole) {m6 : Memref sig .tc .vmem S256x2688 .bf16} (w6 : m6.IsWhole) {m7 : Memref sig .tc .vmem S2048x1024 .bf16} (w7 : m7.IsWhole) {m8 : Memref sig .tc .vmem S2688x1024 .bf16} (w8 : m8.IsWhole) {m9 : Memref sig .tc .vmem S1x1024 .f32} (w9 : m9.IsWhole) {m10 : Memref sig .tc .vmem S1x1024 .f32} (w10 : m10.IsWhole) {m11 : Memref sig .tc .vmem S8x128x128 .f32} (w11 : m11.IsWhole) {m12 : Memref sig .tc .vmem S128x8 .f32} (w12 : m12.IsWhole) {m13 : Memref sig .tc .vmem S1x1024 .f32} (w13 : m13.IsWhole) {m14 : Memref sig .tc .vmem S256x1024 .f32} (w14 : m14.IsWhole) {m15 : Memref sig .tc .vmem S256x2048 .bf16} (w15 : m15.IsWhole) {m16 : Memref sig .tc .vmem S1x1024 .f32} (w16 : m16.IsWhole) {m17 : Memref sig .tc .vmem S1x1024 .f32} (w17 : m17.IsWhole) {m18 : Memref sig .tc .vmem S1x1024 .f32} (w18 : m18.IsWhole) {m19 : Memref sig .tc .vmem S8x128x128 .f32} (w19 : m19.IsWhole) {m20 : Memref sig .tc .vmem S128x8 .f32} (w20 : m20.IsWhole) {m21 : Memref sig .tc .vmem S1x1024 .f32} (w21 : m21.IsWhole) {m22 : Memref sig .tc .vmem S256x1024 .f32} (w22 : m22.IsWhole) {m23 : Memref sig .tc .vmem S256x1024 .f32} (w23 : m23.IsWhole) :
    (first w0 w1 w2 w3 w4 w5 w6 w7 w8 w9 w10 w11 w12 w13 w14 w15 w16 w17 w18 w19 w20 w21 w22 w23 c i hc x a).1.Cover where
  dhi y := View.cover_of_tiledL _ S256x1024.size (by sl_kernel_rfl) y
  duv y := View.cover_of_tiledL _ S256x2048.size (by sl_kernel_rfl) y
  dg y := View.cover_of_tiledL _ S1x1024.size (by sl_kernel_rfl) y
  dlng y := View.cover_of_tiledL _ S1x1024.size (by sl_kernel_rfl) y
  dlnb y := View.cover_of_tiledL _ S1x1024.size (by sl_kernel_rfl) y
  dws y := View.cover_of_tiledBy _ ![1, 128, 128] (by sl_kernel_rfl) y
  dbst y := View.cover_of_tiledL _ S128x8.size (by sl_kernel_rfl) y
  dgout y := View.cover_of_tiledL _ S1x1024.size (by sl_kernel_rfl) y

theorem later_cover (c : Dev nD) (i : grid0.Coords) (hc : ¬cond0_0 i) (x : Blocks F) (a : Sums F)
    {m0 : Memref sig .tc .vmem S256x1024 .f32} (w0 : m0.IsWhole) {m1 : Memref sig .tc .vmem S256x1024 .f32} (w1 : m1.IsWhole) {m2 : Memref sig .tc .vmem S1x1024 .f32} (w2 : m2.IsWhole) {m3 : Memref sig .tc .vmem S256x2048 .bf16} (w3 : m3.IsWhole) {m4 : Memref sig .tc .vmem S256x2048 .bf16} (w4 : m4.IsWhole) {m5 : Memref sig .tc .vmem S256x1024 .bf16} (w5 : m5.IsWhole) {m6 : Memref sig .tc .vmem S256x2688 .bf16} (w6 : m6.IsWhole) {m7 : Memref sig .tc .vmem S2048x1024 .bf16} (w7 : m7.IsWhole) {m8 : Memref sig .tc .vmem S2688x1024 .bf16} (w8 : m8.IsWhole) {m9 : Memref sig .tc .vmem S1x1024 .f32} (w9 : m9.IsWhole) {m10 : Memref sig .tc .vmem S1x1024 .f32} (w10 : m10.IsWhole) {m11 : Memref sig .tc .vmem S8x128x128 .f32} (w11 : m11.IsWhole) {m12 : Memref sig .tc .vmem S128x8 .f32} (w12 : m12.IsWhole) {m13 : Memref sig .tc .vmem S1x1024 .f32} (w13 : m13.IsWhole) {m14 : Memref sig .tc .vmem S256x1024 .f32} (w14 : m14.IsWhole) {m15 : Memref sig .tc .vmem S256x2048 .bf16} (w15 : m15.IsWhole) {m16 : Memref sig .tc .vmem S1x1024 .f32} (w16 : m16.IsWhole) {m17 : Memref sig .tc .vmem S1x1024 .f32} (w17 : m17.IsWhole) {m18 : Memref sig .tc .vmem S1x1024 .f32} (w18 : m18.IsWhole) {m19 : Memref sig .tc .vmem S8x128x128 .f32} (w19 : m19.IsWhole) {m20 : Memref sig .tc .vmem S128x8 .f32} (w20 : m20.IsWhole) {m21 : Memref sig .tc .vmem S1x1024 .f32} (w21 : m21.IsWhole) {m22 : Memref sig .tc .vmem S256x1024 .f32} (w22 : m22.IsWhole) {m23 : Memref sig .tc .vmem S256x1024 .f32} (w23 : m23.IsWhole) :
    (later w0 w1 w2 w3 w4 w5 w6 w7 w8 w9 w10 w11 w12 w13 w14 w15 w16 w17 w18 w19 w20 w21 w22 w23 c i hc x a).1.Cover where
  dhi y := View.cover_of_tiledL _ S256x1024.size (by sl_kernel_rfl) y
  duv y := View.cover_of_tiledL _ S256x2048.size (by sl_kernel_rfl) y
  dg y := View.cover_of_tiledL _ S1x1024.size (by sl_kernel_rfl) y
  dlng y := View.cover_of_tiledL _ S1x1024.size (by sl_kernel_rfl) y
  dlnb y := View.cover_of_tiledL _ S1x1024.size (by sl_kernel_rfl) y
  dws y := View.cover_of_tiledBy _ ![1, 128, 128] (by sl_kernel_rfl) y
  dbst y := View.cover_of_tiledL _ S128x8.size (by sl_kernel_rfl) y
  dgout y := View.cover_of_tiledL _ S1x1024.size (by sl_kernel_rfl) y

theorem point_cover (c : Dev nD) (t : Fin cfg0.N) (x : Blocks F) (a : Sums F) : (point c t x a).1.Cover := by
  by_cases h : t.val % 32 = 0
  · rw [point_first c t h]; exact first_cover ..
  · rw [point_later c t h]; exact later_cover ..

/-- What the output buffers hold after point `n`: the point's stores over what the point before left in the sums. -/
def outAt (c : Dev nD) : (n : ℕ) → n < cfg0.N → Out F
  | 0, h => (point c ⟨0, h⟩ (blocks m c ⟨0, h⟩) ⟨VO0_16.read (Elt F) VO0_16.junk, VO0_17.read (Elt F) VO0_17.junk, VO0_18.read (Elt F) VO0_18.junk, VO0_19.read (Elt F) VO0_19.junk, VO0_20.read (Elt F) VO0_20.junk, VO0_21.read (Elt F) VO0_21.junk⟩).1.out
  | n + 1, h => (point c ⟨n + 1, h⟩ (blocks m c ⟨n + 1, h⟩) (outAt c n (Nat.lt_of_succ_lt h)).toSums).1.out

theorem outAt_later (c : Dev nD) (t : Fin cfg0.N) (h : ¬t.val % 32 = 0) :
    outAt m c t.val t.isLt
      = (point c t (blocks m c t) (outAt m c (t.val - 1) (Nat.lt_of_le_of_lt (Nat.sub_le _ _) t.isLt)).toSums).1.out := by
  obtain ⟨n, hn⟩ := t
  cases n with
  | zero => exact absurd (Nat.zero_mod _) h
  | succ n => rfl

theorem outAt_first (c : Dev nD) (t : Fin cfg0.N) (h : t.val % 32 = 0) (a : Sums F) :
    outAt m c t.val t.isLt = (point c t (blocks m c t) a).1.out := by
  have h32 : cfg0.N = 32 := N_0
  obtain ⟨n, hn⟩ := t
  cases n with
  | zero => exact congrArg Stores.out (point_zero c _ h _ _ _)
  | succ n => have h' : (n + 1) % 32 = 0 := h; omega

/-- The proof data: the arrays as the region finds them, every input buffer at its block, every output buffer at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outAt m c t.val t.isLt).dhi
    | ⟨15, _⟩ => (outAt m c t.val t.isLt).duv
    | ⟨16, _⟩ => (outAt m c t.val t.isLt).dg
    | ⟨17, _⟩ => (outAt m c t.val t.isLt).dlng
    | ⟨18, _⟩ => (outAt m c t.val t.isLt).dlnb
    | ⟨19, _⟩ => (outAt m c t.val t.isLt).dws
    | ⟨20, _⟩ => (outAt m c t.val t.isLt).dbst
    | ⟨21, _⟩ => (outAt m c t.val t.isLt).dgout
    | ⟨_ + 22, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  before0_0_of m _ (A_eq m c 0) (fun _ => by dsimp only [dats]) t d
theorem before_1 (c : Dev nD) (t : Fin cfg0.N) (d) : (dats m 0 c).before 1 t d = iblk m c 1 t :=
  before0_1_of m _ (A_eq m c 1) (fun _ => by dsimp only [dats]) t d
theorem before_2 (c : Dev nD) (t : Fin cfg0.N) (d) : (dats m 0 c).before 2 t d = iblk m c 2 t :=
  before0_2_of m _ (A_eq m c 2) (fun _ => by dsimp only [dats]) t d
theorem before_3 (c : Dev nD) (t : Fin cfg0.N) (d) : (dats m 0 c).before 3 t d = iblk m c 3 t :=
  before0_3_of m _ (A_eq m c 3) (fun _ => by dsimp only [dats]) t d
theorem before_4 (c : Dev nD) (t : Fin cfg0.N) (d) : (dats m 0 c).before 4 t d = iblk m c 4 t :=
  before0_4_of m _ (A_eq m c 4) (fun _ => by dsimp only [dats]) t d
theorem before_5 (c : Dev nD) (t : Fin cfg0.N) (d) : (dats m 0 c).before 5 t d = iblk m c 5 t :=
  before0_5_of m _ (A_eq m c 5) (fun _ => by dsimp only [dats]) t d
theorem before_6 (c : Dev nD) (t : Fin cfg0.N) (d) : (dats m 0 c).before 6 t d = iblk m c 6 t :=
  before0_6_of m _ (A_eq m c 6) (fun _ => by dsimp only [dats]) t d
theorem before_7 (c : Dev nD) (t : Fin cfg0.N) (d) : (dats m 0 c).before 7 t d = iblk m c 7 t :=
  before0_7_of m _ (A_eq m c 7) (fun _ => by dsimp only [dats]) t d
theorem before_8 (c : Dev nD) (t : Fin cfg0.N) (d) : (dats m 0 c).before 8 t d = iblk m c 8 t :=
  before0_8_of m _ (A_eq m c 8) (fun _ => by dsimp only [dats]) t d
theorem before_9 (c : Dev nD) (t : Fin cfg0.N) (d) : (dats m 0 c).before 9 t d = iblk m c 9 t :=
  before0_9_of m _ (A_eq m c 9) (fun _ => by dsimp only [dats]) t d
theorem before_10 (c : Dev nD) (t : Fin cfg0.N) (d) : (dats m 0 c).before 10 t d = iblk m c 10 t :=
  before0_10_of m _ (A_eq m c 10) (fun _ => by dsimp only [dats]) t d
theorem before_11 (c : Dev nD) (t : Fin cfg0.N) (d) : (dats m 0 c).before 11 t d = iblk m c 11 t :=
  before0_11_of m _ (A_eq m c 11) (fun _ => by dsimp only [dats]) t d
theorem before_12 (c : Dev nD) (t : Fin cfg0.N) (d) : (dats m 0 c).before 12 t d = iblk m c 12 t :=
  before0_12_of m _ (A_eq m c 12) (fun _ => by dsimp only [dats]) t d
theorem before_13 (c : Dev nD) (t : Fin cfg0.N) (d) : (dats m 0 c).before 13 t d = iblk m c 13 t :=
  before0_13_of m _ (A_eq m c 13) (fun _ => by dsimp only [dats]) t d
theorem after_14 (c : Dev nD) (t : Fin cfg0.N) : (dats m 0 c).after 14 t = (outAt m c t.val t.isLt).dhi := by dsimp only [dats]
theorem after_15 (c : Dev nD) (t : Fin cfg0.N) : (dats m 0 c).after 15 t = (outAt m c t.val t.isLt).duv := by dsimp only [dats]
theorem after_16 (c : Dev nD) (t : Fin cfg0.N) : (dats m 0 c).after 16 t = (outAt m c t.val t.isLt).dg := by dsimp only [dats]
theorem after_17 (c : Dev nD) (t : Fin cfg0.N) : (dats m 0 c).after 17 t = (outAt m c t.val t.isLt).dlng := by dsimp only [dats]
theorem after_18 (c : Dev nD) (t : Fin cfg0.N) : (dats m 0 c).after 18 t = (outAt m c t.val t.isLt).dlnb := by dsimp only [dats]
theorem after_19 (c : Dev nD) (t : Fin cfg0.N) : (dats m 0 c).after 19 t = (outAt m c t.val t.isLt).dws := by dsimp only [dats]
theorem after_20 (c : Dev nD) (t : Fin cfg0.N) : (dats m 0 c).after 20 t = (outAt m c t.val t.isLt).dbst := by dsimp only [dats]
theorem after_21 (c : Dev nD) (t : Fin cfg0.N) : (dats m 0 c).after 21 t = (outAt m c t.val t.isLt).dgout := by dsimp only [dats]

/-- The sums a point after the first finds are the ones the point before left. -/
theorem before_sums (c : Dev nD) (t : Fin cfg0.N) (h : ¬t.val % 32 = 0) (d16) (d17) (d18) (d19) (d20) (d21) :
    (⟨(dats m 0 c).before 16 t d16, (dats m 0 c).before 17 t d17, (dats m 0 c).before 18 t d18, (dats m 0 c).before 19 t d19, (dats m 0 c).before 20 t d20, (dats m 0 c).before 21 t d21⟩ : Sums F)
      = (outAt m c (t.val - 1) (Nat.lt_of_le_of_lt (Nat.sub_le _ _) t.isLt)).toSums := by
  have hN : t.val < 32 := lt_of_lt_of_eq t.isLt (show cfg0.N = 32 from N_0)
  rw [Dat.before_out_kept _ 16 rfl t (by omega) (Bool.eq_false_iff.mpr fun h => by have := (flush0_16 _).mp h; dsimp only at this; omega)
    (fun _ => rfl) (fun _ _ => rfl)]
  rw [Dat.before_out_kept _ 17 rfl t (by omega) (Bool.eq_false_iff.mpr fun h => by have := (flush0_17 _).mp h; dsimp only at this; omega)
    (fun _ => rfl) (fun _ _ => rfl)]
  rw [Dat.before_out_kept _ 18 rfl t (by omega) (Bool.eq_false_iff.mpr fun h => by have := (flush0_18 _).mp h; dsimp only at this; omega)
    (fun _ => rfl) (fun _ _ => rfl)]
  rw [Dat.before_out_kept _ 19 rfl t (by omega) (Bool.eq_false_iff.mpr fun h => by have := (flush0_19 _).mp h; dsimp only at this; omega)
    (fun _ => rfl) (fun _ _ => rfl)]
  rw [Dat.before_out_kept _ 20 rfl t (by omega) (Bool.eq_false_iff.mpr fun h => by have := (flush0_20 _).mp h; dsimp only at this; omega)
    (fun _ => rfl) (fun _ _ => rfl)]
  rw [Dat.before_out_kept _ 21 rfl t (by omega) (Bool.eq_false_iff.mpr fun h => by have := (flush0_21 _).mp h; dsimp only at this; omega)
    (fun _ => rfl) (fun _ _ => rfl)]
  dsimp only [dats]

/-- So what the stores at a point leave, from the sums it finds, is `outAt`. -/
theorem point_out (c : Dev nD) (t : Fin cfg0.N) (d16) (d17) (d18) (d19) (d20) (d21) :
    (point c t (blocks m c t) ⟨(dats m 0 c).before 16 t d16, (dats m 0 c).before 17 t d17, (dats m 0 c).before 18 t d18, (dats m 0 c).before 19 t d19, (dats m 0 c).before 20 t d20, (dats m 0 c).before 21 t d21⟩).1.out
      = outAt m c t.val t.isLt := by
  by_cases h : t.val % 32 = 0
  · rw [outAt_first m c t h]
  · rw [before_sums m c t h, outAt_later m c t h]

set_option maxHeartbeats 2400000 in
/-- The body at any point, from what its buffers hold there to what `dats` says they hold after it. -/
theorem sound_body (c : Dev nD) (t : Fin cfg0.N) :
    iprop((dats m 0 c).Φ t.castSucc ∗ (dats m 0 c).owesAt () t.castSucc
      ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)) ∗ (∃ d, owns (c : Thread nD τ) (ms0_14 t) fullShare ((dats m 0 c).before 14 t d)) ∗ (∃ d, owns (c : Thread nD τ) (ms0_15 t) fullShare ((dats m 0 c).before 15 t d)) ∗ (∃ d, owns (c : Thread nD τ) (ms0_16 t) fullShare ((dats m 0 c).before 16 t d)) ∗ (∃ d, owns (c : Thread nD τ) (ms0_17 t) fullShare ((dats m 0 c).before 17 t d)) ∗ (∃ d, owns (c : Thread nD τ) (ms0_18 t) fullShare ((dats m 0 c).before 18 t d)) ∗ (∃ d, owns (c : Thread nD τ) (ms0_19 t) fullShare ((dats m 0 c).before 19 t d)) ∗ (∃ d, owns (c : Thread nD τ) (ms0_20 t) fullShare ((dats m 0 c).before 20 t d)) ∗ (∃ d, owns (c : Thread nD τ) (ms0_21 t) fullShare ((dats m 0 c).before 21 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ owns (c : Thread nD τ) (ms0_10 t) fullShare ((dats m 0 c).after 10 t) ∗ owns (c : Thread nD τ) (ms0_11 t) fullShare ((dats m 0 c).after 11 t) ∗ owns (c : Thread nD τ) (ms0_12 t) fullShare ((dats m 0 c).after 12 t) ∗ owns (c : Thread nD τ) (ms0_13 t) fullShare ((dats m 0 c).after 13 t) ∗ owns (c : Thread nD τ) (ms0_14 t) fullShare ((dats m 0 c).after 14 t) ∗ owns (c : Thread nD τ) (ms0_15 t) fullShare ((dats m 0 c).after 15 t) ∗ owns (c : Thread nD τ) (ms0_16 t) fullShare ((dats m 0 c).after 16 t) ∗ owns (c : Thread nD τ) (ms0_17 t) fullShare ((dats m 0 c).after 17 t) ∗ owns (c : Thread nD τ) (ms0_18 t) fullShare ((dats m 0 c).after 18 t) ∗ owns (c : Thread nD τ) (ms0_19 t) fullShare ((dats m 0 c).after 19 t) ∗ owns (c : Thread nD τ) (ms0_20 t) fullShare ((dats m 0 c).after 20 t) ∗ owns (c : Thread nD τ) (ms0_21 t) fullShare ((dats m 0 c).after 21 t))) := by
  unfold bodyAt0
  simp only [before_0, before_1, before_2, before_3, before_4, before_5, before_6, before_7, before_8, before_9, before_10, before_11, before_12, before_13]
  rw [show (dats m 0 c).Φ t.succ = (dats m 0 c).Φ t.castSucc from rfl,
    show (dats m 0 c).owesAt () t.succ = (dats m 0 c).owesAt () t.castSucc from rfl,
    after_14, after_15, after_16, after_17, after_18, after_19, after_20, after_21]
  rw [show (dats m 0 c).Φ t.castSucc = Pipeline.ΦA spec0 c from rfl, PhiA0_eq]
  iintro ⟨⟨⟨S0, S1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  rw [← point_out m c t d16 d17 d18 d19 d20 d21]
  have cov := point_cover c t (blocks m c t) ⟨(dats m 0 c).before 16 t d16, (dats m 0 c).before 17 t d17, (dats m 0 c).before 18 t d18, (dats m 0 c).before 19 t d19, (dats m 0 c).before 20 t d20, (dats m 0 c).before 21 t d21⟩
  iapply (point c t (blocks m c t) ⟨(dats m 0 c).before 16 t d16, (dats m 0 c).before 17 t d17, (dats m 0 c).before 18 t d18, (dats m 0 c).before 19 t d19, (dats m 0 c).before 20 t d20, (dats m 0 c).before 21 t d21⟩).2 Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexact H16
  isplitl [H17]; · iexact H17
  isplitl [H18]; · iexact H18
  isplitl [H19]; · iexact H19
  isplitl [H20]; · iexact H20
  isplitl [H21]; · iexact H21
  isplitl [S0]; · iexact S0
  isplitl [S1]; · iexact S1
  iintro ⟨H0, H1, H2, H3, H4, H5, H6, H7, H8, H9, H10, H11, H12, H13, ⟨%f14, H14⟩, ⟨%f15, H15⟩, ⟨%f16, H16⟩, ⟨%f17, H17⟩, ⟨%f18, H18⟩, ⟨%f19, H19⟩, ⟨%f20, H20⟩, ⟨%f21, H21⟩, ⟨%g0, S0⟩, ⟨%g1, S1⟩⟩
  isplitl [S0 S1 Hg]
  · isplitl [S0 S1]
    · isplitl [S0]
      · iexists _; unfold owns; iexists _; isplitr
        swap; · iexact S0
        ipureintro; rfl
      · iexists _; unfold owns; iexists _; isplitr
        swap; · iexact S1
        ipureintro; rfl
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · unfold owns; iexists _; isplitr
    swap; · iexact H14
    ipureintro; exact View.read_writes_of_cover _ _ VO0_14 VO0_14.junk _ cov.dhi
  isplitl [H15]
  · unfold owns; iexists _; isplitr
    swap; · iexact H15
    ipureintro; exact View.read_writes_of_cover _ _ VO0_15 VO0_15.junk _ cov.duv
  isplitl [H16]
  · unfold owns; iexists _; isplitr
    swap; · iexact H16
    ipureintro; exact View.read_writes_of_cover _ _ VO0_16 VO0_16.junk _ cov.dg
  isplitl [H17]
  · unfold owns; iexists _; isplitr
    swap; · iexact H17
    ipureintro; exact View.read_writes_of_cover _ _ VO0_17 VO0_17.junk _ cov.dlng
  isplitl [H18]
  · unfold owns; iexists _; isplitr
    swap; · iexact H18
    ipureintro; exact View.read_writes_of_cover _ _ VO0_18 VO0_18.junk _ cov.dlnb
  isplitl [H19]
  · unfold owns; iexists _; isplitr
    swap; · iexact H19
    ipureintro; exact View.read_writes_of_cover _ _ VO0_19 VO0_19.junk _ cov.dws
  isplitl [H20]
  · unfold owns; iexists _; isplitr
    swap; · iexact H20
    ipureintro; exact View.read_writes_of_cover _ _ VO0_20 VO0_20.junk _ cov.dbst
  unfold owns; iexists _; isplitr
  swap; · iexact H21
  ipureintro; exact View.read_writes_of_cover _ _ VO0_21 VO0_21.junk _ cov.dgout

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (sound_body m c t) rfl .rfl fun _ => .rfl

set_option backward.isDefEq.respectTransparency.types false in
/-- Every execution ends, with every array of the pipeline at what the points' write-backs leave, every other buffer as the
    region found it, and every semaphore at zero. -/
theorem run_all : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as they began. -/
theorem frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.MixBwdKernelIdeal.Hand

end
-- ==== Proof.MixBwdFrames.lean ====
/- The frames of the mixer's backward call: the run is written once, over any floats. -/
module

public import proofs.«01_k».proof.Defs
public import proofs.«01_k».proof.Proof.MixBwdFrame
public import proofs.«01_k».proof.Proof.Gen.MixBwdKernel
public import proofs.«01_k».proof.Proof.Gen.MixBwdReferenceIdeal.Run

@[expose] public section

set_option maxRecDepth 16384

noncomputable section

namespace Cert.MixBwd

open Idealize.ShloMosaic Idealize.ShloMosaic.TcCoe Idealize.SL.Sem

section

open Cert.MixBwdKernelIdeal

/-- The frame over any floats, as one proposition. -/
def Framed (F : FTy → Type) [FloatOps F] [Cert.MixBwdKernelIdeal.Facts] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0)

theorem framed (F : FTy → Type) [FloatOps F] : Framed F := fun m ρ _ => Hand.frame (F := F) m ρ

end

/-- The printed program and the one read at the extended reals are one program, so its frame is one too. -/
theorem framed_eq : Framed Bits = Cert.quiescent_MixBwdKernel := by sl_kernel_rfl

theorem frame_kernel : Cert.quiescent_MixBwdKernel := framed_eq ▸ framed Bits

theorem frame_kernelIdeal : Cert.quiescent_MixBwdKernelIdeal := framed Ideal

theorem frame_reference : Cert.quiescent_MixBwdReferenceIdeal := fun m ρ _ =>
  (θ_run _ _ _).mono (fun _ h => ⟨fun c => (h c).2.2.2.2.2.2.2.2, sem_eq_zero_of_no_sems (by decide) _⟩)
    (Cert.MixBwdReferenceIdeal.Value.run (F := Ideal) m ρ)

end Cert.MixBwd

end
-- ==== Proof.MixBwdSpec.lean ====
/- The gradient of the token mixer's spatial gating, row by row over the extended reals: the functions both programs'
   arrays are read as. -/
module

public import proofs.«01_k».proof.Proof.MixSpec

@[expose] public section

noncomputable section

namespace Cert.Mix

open Idealize.ShloMosaic Cert.Ffn

/-- The mean square's cotangent, spread over a row, and the gradient of `x · rs x` against the cotangent `e`. -/
def rmsT (x e : Fin 1024 → EReal) : EReal :=
  Ideal.div ((∑ k, x k * e k) * (mhalf * Ideal.div (rs x) (ms x))) width
def rmsDx (x e : Fin 1024 → EReal) (k : Fin 1024) : EReal := e k * rs x + x k * rmsT x e + rmsT x e * x k

/-- The gradient of the layernorm before its weights, against the cotangent `e`. -/
def lnDx (v e : Fin 1024 → EReal) (k : Fin 1024) : EReal :=
  rmsDx (dev v) e k + Ideal.div (∑ k, -(rmsDx (dev v) e k)) width

/-- What the gating takes: the two halves of the activations, the cotangent of its output, the output norm's gain, the
    layernorm's gain and bias, the heads' weights and biases. -/
structure Gate (n : Nat) where
  U : Fin n → Fin 1024 → EReal
  V : Fin n → Fin 1024 → EReal
  ya : Fin n → Fin 1024 → EReal
  go : Fin 1024 → EReal
  lg : Fin 1024 → EReal
  lb : Fin 1024 → EReal
  W : Fin 8 → Fin 128 → Fin 128 → EReal
  B : Fin 8 → Fin 128 → EReal

namespace Gate

variable {n : Nat} (h : 128 ∣ n) (G : Gate n)

/-- The layernormed half, its rows mixed, and the gated row. -/
def vn (r : Fin n) : Fin 1024 → EReal := ln (G.V r) G.lg G.lb
def mx (r : Fin n) (k : Fin 1024) : EReal := mixed h G.W G.B G.vn r k
def pre (r : Fin n) (k : Fin 1024) : EReal := G.U r k * G.mx h r k

/-- The gated row's cotangent, and from it those of the first half and of the mixed rows. -/
def dpre (r : Fin n) : Fin 1024 → EReal := rmsDx (G.pre h r) (fun k => G.ya r k * G.go k)
def dug (r : Fin n) (k : Fin 1024) : EReal := G.dpre h r k * G.mx h r k
def dmx (r : Fin n) (k : Fin 1024) : EReal := G.dpre h r k * G.U r k

/-- The layernormed half's cotangent: the tile's rows against the head's weights, the other way. -/
def dvn (r : Fin n) (k : Fin 1024) : EReal :=
  ∑ t : Fin 128, (if place r ≤ t then G.W (head k) t (place r) else 0) * G.dmx h (tileRow h r t) k

/-- The second half's gradient. -/
def dvg (r : Fin n) : Fin 1024 → EReal := lnDx (G.V r) (fun k => G.dvn h r k * G.lg k)

/-- Both halves' gradients, side by side. -/
def dact (r : Fin n) (j : Fin 2048) : EReal :=
  if q : j.val < 1024 then G.dug h r ⟨j.val, q⟩ else G.dvg h r ⟨j.val - 1024, by omega⟩

/-- A row's parts of the gradients of the output norm's gain and the layernorm's gain. -/
def dgo (r : Fin n) (k : Fin 1024) : EReal := G.pre h r k * rs (G.pre h r) * G.ya r k
def dlg (r : Fin n) (k : Fin 1024) : EReal := lnr (G.V r) k * G.dvn h r k

/-- The gating of some of the rows. -/
def rows {a : Nat} (ρ : Fin a → Fin n) : Gate a where
  U r := G.U (ρ r)
  V r := G.V (ρ r)
  ya r := G.ya (ρ r)
  go := G.go
  lg := G.lg
  lb := G.lb
  W := G.W
  B := G.B

section Rows

variable {a : Nat} (h' : 128 ∣ a) (ρ : Fin a → Fin n) (hp : ∀ r, place (ρ r) = place r)
  (ht : ∀ r s, ρ (tileRow h' r s) = tileRow h (ρ r) s) (r : Fin a)

include hp ht

/-- Rows taken tile by tile have the gradients they have among all the rows. -/
theorem rows_mx : (G.rows ρ).mx h' r = G.mx h (ρ r) := by
  funext k
  simp only [mx, mixed, vn, rows, hp, ht]

theorem rows_pre : (G.rows ρ).pre h' r = G.pre h (ρ r) := by
  funext k; unfold pre; rw [rows_mx h G h' ρ hp ht]; rfl

theorem rows_dpre : (G.rows ρ).dpre h' r = G.dpre h (ρ r) := by
  unfold dpre; rw [rows_pre h G h' ρ hp ht]; rfl

theorem rows_dug : (G.rows ρ).dug h' r = G.dug h (ρ r) := by
  funext k; unfold dug; rw [rows_dpre h G h' ρ hp ht, rows_mx h G h' ρ hp ht]

theorem rows_dmx : (G.rows ρ).dmx h' r = G.dmx h (ρ r) := by
  funext k; unfold dmx; rw [rows_dpre h G h' ρ hp ht]; rfl

theorem rows_dvn : (G.rows ρ).dvn h' r = G.dvn h (ρ r) := by
  funext k; unfold dvn; simp only [rows_dmx h G h' ρ hp ht, ht, hp]; rfl

theorem rows_dvg : (G.rows ρ).dvg h' r = G.dvg h (ρ r) := by
  unfold dvg; rw [rows_dvn h G h' ρ hp ht]; rfl

theorem rows_dact : (G.rows ρ).dact h' r = G.dact h (ρ r) := by
  funext j; unfold dact; rw [rows_dug h G h' ρ hp ht, rows_dvg h G h' ρ hp ht]

theorem rows_dgo : (G.rows ρ).dgo h' r = G.dgo h (ρ r) := by
  funext k; unfold dgo; rw [rows_pre h G h' ρ hp ht]; rfl

theorem rows_dlg : (G.rows ρ).dlg h' r = G.dlg h (ρ r) := by
  funext k; unfold dlg; rw [rows_dvn h G h' ρ hp ht]; rfl

end Rows

/-- A tile's part of a head's weights' gradient, before its mask, and of the head's biases'. -/
def dW (c : Fin (n / 128)) (q : Fin 8) (t s : Fin 128) : EReal :=
  ∑ k : Fin 128, G.dmx h ⟨c.val * 128 + t.val, by omega⟩ ⟨q.val * 128 + k.val, by omega⟩
    * G.vn ⟨c.val * 128 + s.val, by omega⟩ ⟨q.val * 128 + k.val, by omega⟩
def dB (c : Fin (n / 128)) (t : Fin 128) (q : Fin 8) : EReal :=
  ∑ k : Fin 128, G.dmx h ⟨c.val * 128 + t.val, by omega⟩ ⟨q.val * 128 + k.val, by omega⟩

end Gate

end Cert.Mix

end
-- ==== Proof.Stack.lean ====
/- A stack of matrices stored slice by slice. -/
module

public import proofs.«01_k».proof.Proof.Tiles

@[expose] public section

noncomputable section

namespace Cert.Tiles

open Idealize.ShloMosaic Idealize.SL.Sem

/-- A slice of a stack of matrices misses the others, and places an element where it is. -/
theorem slice_miss {n a b h h' : Nat} (inb : ∀ i, (![h, 0, 0] : Fin 3 → Nat) i + (![1, a, b] : Fin 3 → Nat) i ≤ (⟨3, ![n, a, b]⟩ : Shape).size i)
    (y : (⟨3, ![n, a, b]⟩ : Shape).Idx) (hy : (y 0).val = h') (hne : h' ≠ h) : y ∉ (Rect.unit (s := ⟨3, ![n, a, b]⟩) ![h, 0, 0] ![1, a, b] inb).set :=
  Rect.not_mem_set_of_axis (Rect.unit (s := ⟨3, ![n, a, b]⟩) ![h, 0, 0] ![1, a, b] inb) y 0 h 1 rfl rfl rfl (by rw [hy]; omega)

theorem slice_emb {n a b h : Nat} (inb : ∀ i, (![h, 0, 0] : Fin 3 → Nat) i + (![1, a, b] : Fin 3 → Nat) i ≤ (⟨3, ![n, a, b]⟩ : Shape).size i)
    (hh : h < n) (t : Fin a) (s : Fin b) : (Rect.unit (s := ⟨3, ![n, a, b]⟩) ![h, 0, 0] ![1, a, b] inb).emb (ix3 0 t s) = ix3 ⟨h, hh⟩ t s := by
  funext i
  match i with
  | 0 => exact Fin.ext (Rect.idx_unit_val _ _ inb _ 0)
  | 1 => exact Fin.ext ((Rect.idx_unit_val _ _ inb _ 1).trans (Nat.zero_add _))
  | 2 => exact Fin.ext ((Rect.idx_unit_val _ _ inb _ 2).trans (Nat.zero_add _))

/-- A slice stored last reads as it was stored; another reads what was there before. -/
theorem canon_slice {e : EltTy} {n a b h : Nat} (inb : ∀ i, (![h, 0, 0] : Fin 3 → Nat) i + (![1, a, b] : Fin 3 → Nat) i ≤ (⟨3, ![n, a, b]⟩ : Shape).size i)
    (w : (⟨3, ![1, a, b]⟩ : Shape).Idx → Elt Ideal e) (L : List (View.Piece (Elt Ideal) ⟨3, ![n, a, b]⟩ e)) (hh : h < n) (t : Fin a) (s : Fin b) :
    View.canon (⟨Rect.unit (s := ⟨3, ![n, a, b]⟩) ![h, 0, 0] ![1, a, b] inb, w⟩ :: L) (ix3 ⟨h, hh⟩ t s) = w (ix3 0 t s) := by
  rw [← slice_emb inb hh t s]
  exact View.canon_cons_emb (Val := Elt Ideal) (Rect.unit (s := ⟨3, ![n, a, b]⟩) ![h, 0, 0] ![1, a, b] inb) w L _

theorem canon_other {e : EltTy} {n a b h : Nat} (inb : ∀ i, (![h, 0, 0] : Fin 3 → Nat) i + (![1, a, b] : Fin 3 → Nat) i ≤ (⟨3, ![n, a, b]⟩ : Shape).size i)
    (w : (⟨3, ![1, a, b]⟩ : Shape).Idx → Elt Ideal e) (L : List (View.Piece (Elt Ideal) ⟨3, ![n, a, b]⟩ e)) (h' : Fin n) (hne : h'.val ≠ h) (t : Fin a) (s : Fin b) :
    View.canon (⟨Rect.unit (s := ⟨3, ![n, a, b]⟩) ![h, 0, 0] ![1, a, b] inb, w⟩ :: L) (ix3 h' t s) = View.canon L (ix3 h' t s) :=
  View.canon_cons_of_not_mem (Val := Elt Ideal) _ L (slice_miss inb _ rfl hne)

theorem readCov_other {sig : RefSig} {κ : Kind} {sp : Space} {e : EltTy} {n a b h h' : Nat} (v : View sig κ sp ⟨3, ![n, a, b]⟩ e)
    (inb : ∀ i, (![h, 0, 0] : Fin 3 → Nat) i + (![1, a, b] : Fin 3 → Nat) i ≤ (⟨3, ![n, a, b]⟩ : Shape).size i)
    (inb' : ∀ i, (![h', 0, 0] : Fin 3 → Nat) i + (![1, a, b] : Fin 3 → Nat) i ≤ (⟨3, ![n, a, b]⟩ : Shape).size i)
    (w : (⟨3, ![1, a, b]⟩ : Shape).Idx → Elt Ideal e) (L : List (View.Piece (Elt Ideal) ⟨3, ![n, a, b]⟩ e)) (hne : h' ≠ h)
    (j : (⟨3, ![1, a, b]⟩ : Shape).Idx) :
    v.readCov (⟨Rect.unit (s := ⟨3, ![n, a, b]⟩) ![h, 0, 0] ![1, a, b] inb, w⟩ :: L) (Rect.unit (s := ⟨3, ![n, a, b]⟩) ![h', 0, 0] ![1, a, b] inb').toLoadRect j
      = v.readCov L (Rect.unit (s := ⟨3, ![n, a, b]⟩) ![h', 0, 0] ![1, a, b] inb').toLoadRect j := by
  refine View.read_writes_cons_miss (Val := Elt Ideal) v v.junk _ L _ (slice_miss inb _ ?_ hne)
  have := (j 0).isLt
  refine (Rect.idx_unit_val _ _ inb' _ 0).trans ?_
  have e : (j 0).val = 0 := by
    have : (j 0).val < 1 := (j 0).isLt
    omega
  exact congrArg (h' + ·) e

end Cert.Tiles

end
-- ==== Proof.MixBwdPay.lean ====
/- The backward body's values of the token mixer's gating, read at an element: the rows of `MixBwdSpec`. -/
module

public import proofs.«01_k».proof.Proof.MixBwdSpec
public import proofs.«01_k».proof.Proof.Stack
public import proofs.«01_k».proof.Proof.Gen.MixBwdKernelIdeal.Skeleton
public import Idealize.ShloMosaic.Lib.Pointwise

@[expose] public section

set_option maxRecDepth 16384

noncomputable section

namespace Cert.MixBwdKernelIdeal.Mix

open Cert.MixBwdKernelIdeal Cert.MixBwdKernelIdeal.Gen Cert.Ffn Cert.Mix Cert.Tiles
open Idealize.ShloMosaic Idealize.ShloMosaic.TcCoe Idealize.SL.Sem

/-- Row `r` of a matrix. -/
abbrev row {a b : Nat} (X : Shape.Idx ⟨2, ![a, b]⟩ → EReal) (r : Fin a) : Fin b → EReal := fun k => X (ix2 r k)

variable (x ct : FVec Ideal S256x1024 .f32) (g lg lb go old : FVec Ideal S1x1024 .f32) (wu : FVec Ideal S2048x1024 .bf16)
variable (wz : FVec Ideal S2688x1024 .bf16) (a ya : FVec Ideal S256x1024 .bf16) (sl : FVec Ideal S256x2048 .bf16) (dz : FVec Ideal S256x2688 .bf16)
variable (u v D dn dug dvg : FVec Ideal S256x1024 .f32)
variable (r : Fin 256) (k : Fin 1024) (j : Fin 2048) (l : Fin 2688)

theorem pay_dev : k0_pay9 (F := Ideal) a (ix2 r k) = dev (row a r) k := by
  pointwise [k0_pay9]
  rfl

theorem pay_devms (q : Fin 1) : k0_pay10 (F := Ideal) a (ix2 r q) = ms (dev (row a r)) := by
  pointwise [k0_pay10, pay_dev]
  rfl

theorem pay_devrs (q : Fin 1) : k0_pay11 (F := Ideal) a (ix2 r q) = rs (dev (row a r)) := by
  pointwise [k0_pay11, pay_devms]
  rfl

theorem pay_devt (q : Fin 1) : k0_pay12 (F := Ideal) a (ix2 r q) = mhalf * Ideal.div (rs (dev (row a r))) (ms (dev (row a r))) := by
  pointwise [k0_pay12, pay_devms, pay_devrs]

theorem pay_lnr : k0_pay13 (F := Ideal) a (ix2 r k) = lnr (row a r) k := by
  pointwise [k0_pay13, pay_dev, pay_devrs]
  rfl

theorem pay_ln : k0_pay16 (F := Ideal) (k0_pay14 a lg) (k0_pay15 lb) (ix2 r k) = ln (row a r) (row lg 0) (row lb 0) k := by
  pointwise [k0_pay16, k0_pay14, k0_pay15, pay_lnr]
  rfl

theorem pay_pre : k0_pay56 (F := Ideal) u v (ix2 r k) = u (ix2 r k) * v (ix2 r k) := by
  pointwise [k0_pay56]

theorem pay_prems (q : Fin 1) : k0_pay57 (F := Ideal) u v (ix2 r q) = ms (fun k => u (ix2 r k) * v (ix2 r k)) := by
  pointwise [k0_pay57, pay_pre]
  rfl

theorem pay_prers (q : Fin 1) : k0_pay58 (F := Ideal) u v (ix2 r q) = rs (fun k => u (ix2 r k) * v (ix2 r k)) := by
  pointwise [k0_pay58, pay_prems]
  rfl

theorem pay_pret (q : Fin 1) : k0_pay59 (F := Ideal) u v (ix2 r q)
    = mhalf * Ideal.div (rs (fun k => u (ix2 r k) * v (ix2 r k))) (ms (fun k => u (ix2 r k) * v (ix2 r k))) := by
  pointwise [k0_pay59, pay_prems, pay_prers]

theorem pay_dgout : k0_pay65 (F := Ideal) (k0_pay61 u v ya) old (ix2 0 k)
    = old (ix2 0 k) + ∑ r : Fin 256, u (ix2 r k) * v (ix2 r k) * rs (fun k => u (ix2 r k) * v (ix2 r k)) * ya (ix2 r k) := by
  pointwise [k0_pay65, k0_pay61, k0_pay60, pay_pre, pay_prers]

theorem pay_dpre : k0_pay64 (F := Ideal) (k0_pay56 u v) (k0_pay58 u v) (k0_pay59 u v) (k0_pay62 go ya) (k0_pay63 u v go ya) (ix2 r k)
    = rmsDx (fun k => u (ix2 r k) * v (ix2 r k)) (fun k => ya (ix2 r k) * go (ix2 0 k)) k := by
  pointwise [k0_pay64, pay_pre, pay_prers, pay_pret, k0_pay62, k0_pay63, k0_pay60]
  simp only [Finset.univ_unique, Finset.sum_singleton]
  rfl

theorem pay_dug : k0_pay66 (F := Ideal) v (k0_pay56 u v) (k0_pay58 u v) (k0_pay59 u v) (k0_pay62 go ya) (k0_pay63 u v go ya) (ix2 r k)
    = rmsDx (fun k => u (ix2 r k) * v (ix2 r k)) (fun k => ya (ix2 r k) * go (ix2 0 k)) k * v (ix2 r k) := by
  pointwise [k0_pay66, pay_dpre]

theorem pay_dmx : k0_pay67 (F := Ideal) u (k0_pay56 u v) (k0_pay58 u v) (k0_pay59 u v) (k0_pay62 go ya) (k0_pay63 u v go ya) (ix2 r k)
    = rmsDx (fun k => u (ix2 r k) * v (ix2 r k)) (fun k => ya (ix2 r k) * go (ix2 0 k)) k * u (ix2 r k) := by
  pointwise [k0_pay67, pay_dpre]

theorem pay_dlnb : k0_pay171 (F := Ideal) (k0_pay166 D) old (ix2 0 k) = old (ix2 0 k) + ∑ r : Fin 256, D (ix2 r k) := by
  pointwise [k0_pay171, k0_pay166]

theorem pay_dlng : k0_pay170 (F := Ideal) (k0_pay167 (k0_pay13 a) D) old (ix2 0 k)
    = old (ix2 0 k) + ∑ r : Fin 256, lnr (row a r) k * D (ix2 r k) := by
  pointwise [k0_pay170, k0_pay167, k0_pay165, pay_lnr]

theorem pay_dvg : k0_pay168 (F := Ideal) lg (k0_pay9 a) (k0_pay11 a) (k0_pay12 a) D (ix2 r k)
    = lnDx (row a r) (fun k => D (ix2 r k) * lg (ix2 0 k)) k := by
  pointwise [k0_pay168, k0_pay165, pay_dev, pay_devrs, pay_devt]
  simp only [Finset.univ_unique, Finset.sum_singleton, zero_sub]
  rfl

theorem pay_duv : k0_pay169 (F := Ideal) dug dvg sl (ix2 r j)
    = (if q : j.val < 1024 then dug (ix2 r ⟨j.val, q⟩) else dvg (ix2 r ⟨j.val - 1024, by omega⟩)) * sl (ix2 r j) := by
  pointwise [k0_pay169]

theorem pay_dn : k0_pay172 (F := Ideal) (k0_pay7 dz wz) dug dvg sl wu (ix2 r k)
    = (∑ l : Fin 2688, dz (ix2 r l) * wz (ix2 l k)) + ∑ j : Fin 2048, k0_pay169 (F := Ideal) dug dvg sl (ix2 r j) * wu (ix2 j k) := by
  pointwise [k0_pay172, k0_pay7]

theorem pay_hms (q : Fin 1) : k0_pay173 (F := Ideal) x (ix2 r q) = ms (row x r) := by
  pointwise [k0_pay173]
  rfl

theorem pay_hrs (q : Fin 1) : k0_pay174 (F := Ideal) x (ix2 r q) = rs (row x r) := by
  pointwise [k0_pay174, pay_hms]
  rfl

theorem pay_ht (q : Fin 1) : k0_pay175 (F := Ideal) x (ix2 r q) = mhalf * Ideal.div (rs (row x r)) (ms (row x r)) := by
  pointwise [k0_pay175, pay_hms, pay_hrs]

theorem pay_dhi : k0_pay177 (F := Ideal) dn x g (k0_pay174 x) (k0_pay175 x) ct (ix2 r k)
    = ct (ix2 r k) + rmsDx (row x r) (fun k => dn (ix2 r k) * g (ix2 0 k)) k := by
  pointwise [k0_pay177, pay_hrs, pay_ht]
  simp only [Finset.univ_unique, Finset.sum_singleton]
  rfl

theorem pay_dg : k0_pay178 (F := Ideal) dn (k0_pay176 x) old (ix2 0 k)
    = old (ix2 0 k) + ∑ r : Fin 256, x (ix2 r k) * rs (row x r) * dn (ix2 r k) := by
  pointwise [k0_pay178, k0_pay176, pay_hrs]

/-- One tile of the mixing, as the body computes it, from a head's weights, the tile's rows and the head's biases. -/
def tile (w : FVec Ideal S1x128x128 .f32) (vt : FVec Ideal S128x128 .bf16) (bt : FVec Ideal S128x1 .f32) : FVec Ideal S128x128 .f32 :=
  shapeCast S128x128 (addf (matmul dot_S128x128_S128x128_S128x128_1_0_0_1_n_n none (k0_pay19 (F := Ideal) w)
    vt (constant S128x128 .f32 0x00000000#32)) (broadcastTo S128x128 bt broadcasts_S128x1_S128x128)) shapeCasts_S128x128_S128x128

theorem tile_at (w : FVec Ideal S1x128x128 .f32) (vt : FVec Ideal S128x128 .bf16) (bt : FVec Ideal S128x1 .f32) (t k : Fin 128) :
    tile w vt bt (ix2 t k) = mix (fun s => w (ix3 0 t s)) (bt (ix2 t 0)) (fun s => vt (ix2 s k)) t := by
  pointwise [tile, k0_pay19, k0_pay18]
  simp only [mask_at, mix, ite_mul, zero_mul]

/-- One tile of the mixing's cotangent, from a head's weights and the mixed rows' cotangent. -/
def back (w : FVec Ideal S1x128x128 .f32) (dm : FVec Ideal S128x128 .f32) : FVec Ideal S128x128 .f32 :=
  shapeCast S128x128 (matmul dot_S128x128_S128x128_S128x128_0_0_1_1_n_n none (k0_pay70 (F := Ideal) w)
    (truncf .bf16 dm bitsLt_bf16_f32) (constant S128x128 .f32 0x00000000#32)) shapeCasts_S128x128_S128x128

theorem back_at (w : FVec Ideal S1x128x128 .f32) (dm : FVec Ideal S128x128 .f32) (s k : Fin 128) :
    back w dm (ix2 s k) = ∑ t : Fin 128, (if s ≤ t then w (ix3 0 t s) else 0) * dm (ix2 t k) := by
  pointwise [back, k0_pay70, k0_pay68]
  simp only [mask_at, ite_mul, zero_mul]

/-- A head's weights' gradient after a point's two tiles. -/
def slab (vn : FVec Ideal S256x1024 .bf16) (M : FVec Ideal S256x1024 .f32) (o : FVec Ideal S1x128x128 .f32) (q : Nat)
    (h0 : S256x1024.Slices ![0, q] S128x128) (h1 : S256x1024.Slices ![128, q] S128x128) : FVec Ideal S1x128x128 .f32 :=
  shapeCast S1x128x128 (addf (shapeCast S128x128 o shapeCasts_S1x128x128_S128x128)
    (select (k0_pay68) (addf (addf (broadcast S128x128 (Scalar.ofBits (F := Ideal) .f32 0x00000000#32))
      (matmul dot_S128x128_S128x128_S128x128_1_1_0_0_n_n none (truncf .bf16 (extractStridedSlice S128x128 ![0, q] M h0) bitsLt_bf16_f32)
        (extractStridedSlice S128x128 ![0, q] vn h0) (constant S128x128 .f32 0x00000000#32)))
      (matmul dot_S128x128_S128x128_S128x128_1_1_0_0_n_n none (truncf .bf16 (extractStridedSlice S128x128 ![128, q] M h1) bitsLt_bf16_f32)
        (extractStridedSlice S128x128 ![128, q] vn h1) (constant S128x128 .f32 0x00000000#32)))
      (broadcast S128x128 (Scalar.ofBits (F := Ideal) .f32 0x00000000#32)))) shapeCasts_S128x128_S1x128x128

theorem slab_at (vn : FVec Ideal S256x1024 .bf16) (M : FVec Ideal S256x1024 .f32) (o : FVec Ideal S1x128x128 .f32) (q : Nat)
    (h0 : S256x1024.Slices ![0, q] S128x128) (h1 : S256x1024.Slices ![128, q] S128x128) (hq : q + 128 ≤ 1024) (t s : Fin 128) :
    slab vn M o q h0 h1 (ix3 0 t s) = o (ix3 0 t s) + if s ≤ t then
      (∑ k : Fin 128, M (ix2 ⟨t.val, by omega⟩ ⟨q + k.val, by omega⟩) * vn (ix2 ⟨s.val, by omega⟩ ⟨q + k.val, by omega⟩))
      + ∑ k : Fin 128, M (ix2 ⟨128 + t.val, by omega⟩ ⟨q + k.val, by omega⟩) * vn (ix2 ⟨128 + s.val, by omega⟩ ⟨q + k.val, by omega⟩) else 0 := by
  have e {α : Type} (X : S256x1024.Idx → α) (t k : Fin 128) : extractStridedSlice S128x128 ![0, q] X h0 (ix2 t k)
      = X (ix2 ⟨t.val, by omega⟩ ⟨q + k.val, by omega⟩) :=
    (cut_at X h0 t k (by decide) hq).trans (congrArg (fun a => X (ix2 a _)) (Fin.ext (Nat.zero_add _)))
  have e' {α : Type} (X : S256x1024.Idx → α) (t k : Fin 128) : extractStridedSlice S128x128 ![128, q] X h1 (ix2 t k)
      = X (ix2 ⟨128 + t.val, by omega⟩ ⟨q + k.val, by omega⟩) := cut_at X h1 t k (by decide) hq
  pointwise [slab, k0_pay68]
  simp only [e, e', mask_at]

/-- The biases' gradient after one tile of head `h`. -/
def bias (dm : FVec Ideal S128x128 .f32) (h : BitVec 32) (acc : FVec Ideal S128x8 .f32) :
    FVec Ideal S128x8 .f32 :=
  addf acc (mulf (broadcastTo S128x8 (shapeCast S128x1 (multiReduction .add [1] S128 dm 0x00000000#32
      reduces_S128x128_S128 (.inl rfl) rfl) shapeCasts_S128_S128x1) broadcasts_S128x1_S128x8)
    (broadcastTo S128x8 (sitofp (F := Ideal) .f32 (extui 32 (cmpi .eq (iota .tc S1x8 32 [1] iota_S1x8_d1_w32) (broadcast S1x8 h)) natLt_1_32))
      broadcasts_S1x8_S128x8))

/-- A lane's mark as a number. -/
theorem mark_at (q h : Nat) (hq : q < 8) (hh : h < 8) :
    FloatOps.sitofp (F := Ideal) .f32 ((IntOp.cmpi CmpIPredicate.eq (BitVec.ofNat 32 q) (BitVec.ofNat 32 h)).setWidth 32)
      = if q = h then (1 : EReal) else 0 := by
  have e : (BitVec.ofNat 32 q == BitVec.ofNat 32 h) = decide (q = h) := by
    rw [Bool.eq_iff_iff, beq_iff_eq, decide_eq_true_iff]
    refine ⟨fun e => ?_, fun e => e ▸ rfl⟩
    have := congrArg BitVec.toNat e
    rwa [BitVec.toNat_ofNat, BitVec.toNat_ofNat, Nat.mod_eq_of_lt (by omega), Nat.mod_eq_of_lt (by omega)] at this
  unfold IntOp.cmpi
  simp only [e]
  show ((((BitVec.setWidth 32 (BitVec.ofBool (decide (q = h)))).toInt : ℝ)) : EReal) = _
  by_cases hqh : q = h <;> simp [hqh]

theorem bias_at (dm : FVec Ideal S128x128 .f32) (h : Nat) (hh : h < 8) (acc : FVec Ideal S128x8 .f32) (t : Fin 128) (p : Fin 8) :
    bias dm (BitVec.ofNat 32 h) acc (ix2 t p) = acc (ix2 t p) + if p.val = h then ∑ k : Fin 128, dm (ix2 t k) else 0 := by
  pointwise [bias]
  rw [mark_at p.val h p.isLt hh, mul_ite, mul_one, mul_zero]

end Cert.MixBwdKernelIdeal.Mix

end
-- ==== Proof.MixBwdVal.lean ====
/- What the backward body stores at a point, read at an element: the rows' gradients of `MixBwdSpec`, and each sum's old
   value plus the point's part. -/
module

public import proofs.«01_k».proof.Proof.MixBwdPay
public import proofs.«01_k».proof.Proof.MixBwdFrame
public import Idealize.ShloMosaic.Lib.Pipeline.ValueKit

@[expose] public section

set_option maxRecDepth 16384

noncomputable section

namespace Cert.MixBwdKernelIdeal.Mix

open Cert.MixBwdKernelIdeal Cert.MixBwdKernelIdeal.Gen Cert.MixBwdKernelIdeal.Hand Cert.Ffn Cert.Mix Cert.Tiles
open Idealize.ShloMosaic Idealize.ShloMosaic.TcCoe Idealize.SL.Sem

theorem even : 128 ∣ 256 := by decide

section Terms

variable (x : Blocks Ideal)

/-- The halves of the activations, the layernormed half and the mixed rows' cotangent, as the body computes them. -/
abbrev left : FVec Ideal S256x1024 .f32 := k0_pay8 (F := Ideal) (View.ld (Val := Elt Ideal) (e' := .bf16) x.act (Rect.unit (s := S256x2048) ![0, 0] ![256, 1024] inb_S256x2048_S256x1024_0_0))
abbrev right : FVec Ideal S256x1024 .bf16 := View.ld (Val := Elt Ideal) (e' := .bf16) x.act (Rect.unit (s := S256x2048) ![0, 1024] ![256, 1024] inb_S256x2048_S256x1024_0_1024)
abbrev normed : FVec Ideal S256x1024 .bf16 := k0_pay16 (F := Ideal) (k0_pay14 (right x) x.lng) (k0_pay15 x.lnb)
abbrev dmixed (V : FVec Ideal S256x1024 .f32) : FVec Ideal S256x1024 .f32 :=
  k0_pay67 (F := Ideal) (left x) (k0_pay56 (left x) V) (k0_pay58 (left x) V) (k0_pay59 (left x) V) (k0_pay62 x.gout x.dya) (k0_pay63 (left x) V x.gout x.dya)
abbrev dleft (V : FVec Ideal S256x1024 .f32) : FVec Ideal S256x1024 .f32 :=
  k0_pay66 (F := Ideal) V (k0_pay56 (left x) V) (k0_pay58 (left x) V) (k0_pay59 (left x) V) (k0_pay62 x.gout x.dya) (k0_pay63 (left x) V x.gout x.dya)
abbrev dright (D : FVec Ideal S256x1024 .f32) : FVec Ideal S256x1024 .f32 :=
  k0_pay168 (F := Ideal) x.lng (k0_pay9 (right x)) (k0_pay11 (right x)) (k0_pay12 (right x)) D

theorem slices (o : Nat) (ho : o + 128 ≤ 256) (h : Fin 8) : S256x1024.Slices ![o, h.val * 128] S128x128 :=
  ⟨rfl, fun a => by
    match a with
    | 0 => exact ho
    | 1 => show h.val * 128 + 128 ≤ 1024; omega⟩

/-- The biases' gradient after a point's tiles of one head. -/
def bias2 (M : FVec Ideal S256x1024 .f32) (h : Fin 8) (b : BitVec 32) (acc : FVec Ideal S128x8 .f32) : FVec Ideal S128x8 .f32 :=
  bias (extractStridedSlice S128x128 ![128, h.val * 128] M (slices 128 (by decide) h)) b
    (bias (extractStridedSlice S128x128 ![0, h.val * 128] M (slices 0 (by decide) h)) b acc)

/-- A point's stores in the body's own terms: `V` are the mixed rows and `D` their cotangent taken back through the mixing,
    as read from the scratch arrays. -/
structure Terms (a : Sums Ideal) (old : Fin 8 → FVec Ideal S1x128x128 .f32) (V D : FVec Ideal S256x1024 .f32) (o : Out Ideal) : Prop where
  dhi : o.dhi = k0_pay177 (F := Ideal) (k0_pay172 (k0_pay7 x.dzxd x.wzxd) (dleft x V) (dright x D) x.slope x.wuv) x.h x.g (k0_pay174 x.h) (k0_pay175 x.h) x.dh
  duv : o.duv = k0_pay169 (F := Ideal) (dleft x V) (dright x D) x.slope
  dg : o.dg = k0_pay178 (F := Ideal) (k0_pay172 (k0_pay7 x.dzxd x.wzxd) (dleft x V) (dright x D) x.slope x.wuv) (k0_pay176 x.h) a.dg
  dlng : o.dlng = k0_pay170 (F := Ideal) (k0_pay167 (k0_pay13 (right x)) D) a.dlng
  dlnb : o.dlnb = k0_pay171 (F := Ideal) (k0_pay166 D) a.dlnb
  dgout : o.dgout = k0_pay65 (F := Ideal) (k0_pay61 (left x) V x.dya) a.dgout
  dbst : o.dbst = k0_pay164 (F := Ideal) (bias2 (dmixed x V) 7 7#32 (bias2 (dmixed x V) 6 6#32 (bias2 (dmixed x V) 5 5#32 (bias2 (dmixed x V) 4 4#32
    (bias2 (dmixed x V) 3 3#32 (bias2 (dmixed x V) 2 2#32 (bias2 (dmixed x V) 1 1#32 (bias2 (dmixed x V) 0 0#32 k0_pay69)))))))) a.dbst
  dws : ∀ (h : Fin 8) (t s : Fin 128), o.dws (ix3 h t s)
    = slab (normed x) (dmixed x V) (old h) (h.val * 128) (slices 0 (by decide) h) (slices 128 (by decide) h) (ix3 0 t s)
  mixed : ∀ r k, V (ix2 r k) = mixed (n := 256) even (fun h t s => x.ws (ix3 h t s)) (fun h t => x.bst (ix2 t h)) (fun r k => normed x (ix2 r k)) r k
  dvn : ∀ (r : Fin 256) (k : Fin 1024), D (ix2 r k)
    = ∑ t : Fin 128, (if place r ≤ t then x.ws (ix3 (head k) t (place r)) else 0) * dmixed x V (ix2 (tileRow even r t) k)

end Terms

theorem cut_in (o q : Nat) (ho : o + 128 ≤ 256) (hq : q + 128 ≤ 1024) : S256x1024.Slices ![o, q] S128x128 :=
  ⟨rfl, fun a => by
    match a with
    | 0 => exact ho
    | 1 => exact hq⟩

theorem head_in (q : Nat) (hq : q + 128 ≤ 1024) : ∀ i, (![q / 128, 0, 0] : Fin 3 → Nat) i + (![1, 128, 128] : Fin 3 → Nat) i ≤ S8x128x128.size i := fun i => by
  match i with
  | 0 => show q / 128 + 1 ≤ 8; omega
  | 1 => exact le_rfl
  | 2 => exact le_rfl

theorem column (q : Nat) (hq : q + 128 ≤ 1024) : S128x8.Slices ![0, q / 128] S128x1 :=
  ⟨rfl, fun a => by
    match a with
    | 0 => exact le_rfl
    | 1 => show q / 128 + 1 ≤ 8; omega⟩

/-- One tile is the mixing at its rows and columns. -/
theorem tile_mixed (W : FVec Ideal S8x128x128 .f32) (B : FVec Ideal S128x8 .f32) (vn : FVec Ideal S256x1024 .bf16) (o q : Nat)
       (ho : o % 128 = 0) (ho' : o + 128 ≤ 256) (hq : q % 128 = 0) (hq' : q + 128 ≤ 1024) (inb2) (x : S128x128.Idx) :
    (fun y : S256x1024.Idx => mixed (n := 256) even (fun h t s => W (ix3 h t s)) (fun h t => B (ix2 t h)) (fun r k => vn (ix2 r k)) (y 0) (y 1))
        ((Rect.unit (s := S256x1024) ![o, q] ![128, 128] inb2).emb x)
      = tile (View.ld (Val := Elt Ideal) (e' := .f32) W (Rect.unit (s := S8x128x128) ![q / 128, 0, 0] ![1, 128, 128] (head_in q hq'))) (extractStridedSlice S128x128 ![o, q] vn (cut_in o q ho' hq'))
        (extractStridedSlice S128x1 ![0, q / 128] (k0_pay17 B) (column q hq')) x := by
  obtain ⟨t, k, rfl⟩ : ∃ t k : Fin 128, x = (ix2 t k : S128x128.Idx) := ⟨x 0, x 1, eq_ix2 x⟩
  symm
  rw [tile_at]
  rw [emb_at inb2 t k ho' (by omega), cut_at _ _ _ _ (by decide) (by omega)]
  have eh : head ⟨q + k.val, by omega⟩ = ⟨q / 128, by omega⟩ := Fin.ext (by show (q + k.val) / 128 = q / 128; omega)
  have ep : place (⟨o + t.val, by omega⟩ : Fin 256) = t := Fin.ext (by show (o + t.val) % 128 = t.val; omega)
  show _ = mix (fun s => W (ix3 (head ⟨q + k.val, _⟩) (place (⟨o + t.val, _⟩ : Fin 256)) s))
    (B (ix2 (place (⟨o + t.val, _⟩ : Fin 256)) (head ⟨q + k.val, _⟩)))
    (fun s => vn (ix2 (tileRow (n := 256) _ ⟨o + t.val, _⟩ s) ⟨q + k.val, _⟩)) (place (⟨o + t.val, _⟩ : Fin 256))
  rw [eh, ep]
  refine congr (congr (congr (congrArg mix ?_) ?_) ?_) rfl
  · funext s
    exact ld_at (e := .f32) W (q / 128) _ _ t s
  · show k0_pay17 (F := Ideal) B _ = _
    pointwise [k0_pay17]
  · funext s
    rw [cut_at _ _ _ _ ho' (by omega)]
    exact congrArg vn (congrArg (fun a => ix2 a _) (Fin.ext (by show o + s.val = (o + t.val) / 128 * 128 + s.val; omega)))

/-- One tile of the way back, likewise. -/
theorem tile_back (W : FVec Ideal S8x128x128 .f32) (M : FVec Ideal S256x1024 .f32) (o q : Nat)
    (ho : o % 128 = 0) (ho' : o + 128 ≤ 256) (hq : q % 128 = 0) (hq' : q + 128 ≤ 1024) (inb2) (x : S128x128.Idx) :
    (fun y : S256x1024.Idx => ∑ t : Fin 128, (if place (y 0) ≤ t then W (ix3 (head (y 1)) t (place (y 0))) else 0) * M (ix2 (tileRow (n := 256) even (y 0) t) (y 1)))
        ((Rect.unit (s := S256x1024) ![o, q] ![128, 128] inb2).emb x)
      = back (View.ld (Val := Elt Ideal) (e' := .f32) W (Rect.unit (s := S8x128x128) ![q / 128, 0, 0] ![1, 128, 128] (head_in q hq'))) (extractStridedSlice S128x128 ![o, q] M (cut_in o q ho' hq')) x := by
  obtain ⟨s, k, rfl⟩ : ∃ t k : Fin 128, x = (ix2 t k : S128x128.Idx) := ⟨x 0, x 1, eq_ix2 x⟩
  symm
  rw [back_at]
  rw [emb_at inb2 s k ho' (by omega)]
  have eh : head ⟨q + k.val, by omega⟩ = ⟨q / 128, by omega⟩ := Fin.ext (by show (q + k.val) / 128 = q / 128; omega)
  have ep : place (⟨o + s.val, by omega⟩ : Fin 256) = s := Fin.ext (by show (o + s.val) % 128 = s.val; omega)
  show _ = ∑ t : Fin 128, (if place (⟨o + s.val, _⟩ : Fin 256) ≤ t then W (ix3 (head ⟨q + k.val, _⟩) t (place (⟨o + s.val, _⟩ : Fin 256))) else 0)
    * M (ix2 (tileRow (n := 256) even ⟨o + s.val, _⟩ t) ⟨q + k.val, _⟩)
  rw [eh, ep]
  refine Finset.sum_congr rfl fun t _ => ?_
  rw [cut_at _ _ _ _ ho' (by omega), ld_at (e := .f32) W (q / 128) _ (by omega) t s]
  exact congrArg (_ * ·) (congrArg M (congrArg (fun a => ix2 a _) (Fin.ext (by show o + t.val = (o + s.val) / 128 * 128 + t.val; omega))))

section Points

variable (c : Dev nD) (i : grid0.Coords) (x : Blocks Ideal) (a : Sums Ideal) {m0 : Memref sig .tc .vmem S256x1024 .f32} (w0 : m0.IsWhole) {m1 : Memref sig .tc .vmem S256x1024 .f32} (w1 : m1.IsWhole) {m2 : Memref sig .tc .vmem S1x1024 .f32} (w2 : m2.IsWhole) {m3 : Memref sig .tc .vmem S256x2048 .bf16} (w3 : m3.IsWhole) {m4 : Memref sig .tc .vmem S256x2048 .bf16} (w4 : m4.IsWhole) {m5 : Memref sig .tc .vmem S256x1024 .bf16} (w5 : m5.IsWhole) {m6 : Memref sig .tc .vmem S256x2688 .bf16} (w6 : m6.IsWhole) {m7 : Memref sig .tc .vmem S2048x1024 .bf16} (w7 : m7.IsWhole) {m8 : Memref sig .tc .vmem S2688x1024 .bf16} (w8 : m8.IsWhole) {m9 : Memref sig .tc .vmem S1x1024 .f32} (w9 : m9.IsWhole) {m10 : Memref sig .tc .vmem S1x1024 .f32} (w10 : m10.IsWhole) {m11 : Memref sig .tc .vmem S8x128x128 .f32} (w11 : m11.IsWhole) {m12 : Memref sig .tc .vmem S128x8 .f32} (w12 : m12.IsWhole) {m13 : Memref sig .tc .vmem S1x1024 .f32} (w13 : m13.IsWhole) {m14 : Memref sig .tc .vmem S256x1024 .f32} (w14 : m14.IsWhole) {m15 : Memref sig .tc .vmem S256x2048 .bf16} (w15 : m15.IsWhole) {m16 : Memref sig .tc .vmem S1x1024 .f32} (w16 : m16.IsWhole) {m17 : Memref sig .tc .vmem S1x1024 .f32} (w17 : m17.IsWhole) {m18 : Memref sig .tc .vmem S1x1024 .f32} (w18 : m18.IsWhole) {m19 : Memref sig .tc .vmem S8x128x128 .f32} (w19 : m19.IsWhole) {m20 : Memref sig .tc .vmem S128x8 .f32} (w20 : m20.IsWhole) {m21 : Memref sig .tc .vmem S1x1024 .f32} (w21 : m21.IsWhole) {m22 : Memref sig .tc .vmem S256x1024 .f32} (w22 : m22.IsWhole) {m23 : Memref sig .tc .vmem S256x1024 .f32} (w23 : m23.IsWhole)

theorem slice_in (h : Fin 8) : ∀ i, (![h.val, 0, 0] : Fin 3 → Nat) i + (![1, 128, 128] : Fin 3 → Nat) i ≤ S8x128x128.size i := fun i => by
  match i with
  | 0 => exact Nat.succ_le_of_lt h.isLt
  | 1 => exact le_rfl
  | 2 => exact le_rfl

/-- What a read of a whole scratch array gives after a point's stores. -/
abbrev scratch (m : Memref sig .tc .vmem S256x1024 .f32) (L : List (View.Piece (Elt Ideal) S256x1024 .f32)) : FVec Ideal S256x1024 .f32 :=
  m.view.readCov L (Rect.unit (s := S256x1024) ![0, 0] ![256, 1024] inb_S256x1024_S256x1024_0_0).toLoadRect

theorem scratch_at (m : Memref sig .tc .vmem S256x1024 .f32) (L : List (View.Piece (Elt Ideal) S256x1024 .f32)) (G : S256x1024.Idx → EReal)
    (h : ∀ p ∈ L, ∀ x, p.2 x = G (p.1.emb x)) (hc : ∀ y, ∃ p ∈ L, y ∈ p.1.set) (r : Fin 256) (k : Fin 1024) :
    scratch m L (ix2 r k) = G (ix2 r k) :=
  (readCov_apply (e := .f32) _ G _ h hc _ _).trans (congrArg G (whole_at _ r k))

set_option maxHeartbeats 2000000 in
theorem later_terms (hc : ¬cond0_0 i) : Terms x a (fun h => View.ld (Val := Elt Ideal) (e' := .f32) a.dws (Rect.unit (s := S8x128x128) ![h.val, 0, 0] ![1, 128, 128] (slice_in h))) (scratch m22 (later w0 w1 w2 w3 w4 w5 w6 w7 w8 w9 w10 w11 w12 w13 w14 w15 w16 w17 w18 w19 w20 w21 w22 w23 c i hc x a).1.mixed) (scratch m23 (later w0 w1 w2 w3 w4 w5 w6 w7 w8 w9 w10 w11 w12 w13 w14 w15 w16 w17 w18 w19 w20 w21 w22 w23 c i hc x a).1.dvn) (later w0 w1 w2 w3 w4 w5 w6 w7 w8 w9 w10 w11 w12 w13 w14 w15 w16 w17 w18 w19 w20 w21 w22 w23 c i hc x a).1.out := by
  constructor
  case dgout => unfold later; dsimp only [Stores.out]; frame_out
  case dlnb => unfold later; dsimp only [Stores.out]; frame_out
  case dlng => unfold later; dsimp only [Stores.out]; frame_out
  case duv => unfold later; dsimp only [Stores.out]; frame_out
  case dg => unfold later; dsimp only [Stores.out]; frame_out
  case dhi => unfold later; dsimp only [Stores.out]; frame_out
  case dbst => unfold later; dsimp only [Stores.out]; frame_out; exact rfl
  case dws =>
    intro h t s
    unfold later; dsimp only [Stores.out]; frame_out
    match h with
    | ⟨7, _⟩ => exact (canon_slice _ _ _ (by decide) t s).trans rfl
    | ⟨6, _⟩ => exact (canon_other _ _ _ _ (by show (6 : Nat) ≠ 7; decide) t s).trans ((canon_slice _ _ _ (by decide) t s).trans rfl)
    | ⟨5, _⟩ => exact (canon_other _ _ _ _ (by show (5 : Nat) ≠ 7; decide) t s).trans ((canon_other _ _ _ _ (by show (5 : Nat) ≠ 6; decide) t s).trans ((canon_slice _ _ _ (by decide) t s).trans rfl))
    | ⟨4, _⟩ => exact (canon_other _ _ _ _ (by show (4 : Nat) ≠ 7; decide) t s).trans ((canon_other _ _ _ _ (by show (4 : Nat) ≠ 6; decide) t s).trans ((canon_other _ _ _ _ (by show (4 : Nat) ≠ 5; decide) t s).trans ((canon_slice _ _ _ (by decide) t s).trans rfl)))
    | ⟨3, _⟩ => exact (canon_other _ _ _ _ (by show (3 : Nat) ≠ 7; decide) t s).trans ((canon_other _ _ _ _ (by show (3 : Nat) ≠ 6; decide) t s).trans ((canon_other _ _ _ _ (by show (3 : Nat) ≠ 5; decide) t s).trans ((canon_other _ _ _ _ (by show (3 : Nat) ≠ 4; decide) t s).trans ((canon_slice _ _ _ (by decide) t s).trans rfl))))
    | ⟨2, _⟩ => exact (canon_other _ _ _ _ (by show (2 : Nat) ≠ 7; decide) t s).trans ((canon_other _ _ _ _ (by show (2 : Nat) ≠ 6; decide) t s).trans ((canon_other _ _ _ _ (by show (2 : Nat) ≠ 5; decide) t s).trans ((canon_other _ _ _ _ (by show (2 : Nat) ≠ 4; decide) t s).trans ((canon_other _ _ _ _ (by show (2 : Nat) ≠ 3; decide) t s).trans ((canon_slice _ _ _ (by decide) t s).trans rfl)))))
    | ⟨1, _⟩ => exact (canon_other _ _ _ _ (by show (1 : Nat) ≠ 7; decide) t s).trans ((canon_other _ _ _ _ (by show (1 : Nat) ≠ 6; decide) t s).trans ((canon_other _ _ _ _ (by show (1 : Nat) ≠ 5; decide) t s).trans ((canon_other _ _ _ _ (by show (1 : Nat) ≠ 4; decide) t s).trans ((canon_other _ _ _ _ (by show (1 : Nat) ≠ 3; decide) t s).trans ((canon_other _ _ _ _ (by show (1 : Nat) ≠ 2; decide) t s).trans ((canon_slice _ _ _ (by decide) t s).trans rfl))))))
    | ⟨0, _⟩ => exact (canon_other _ _ _ _ (by show (0 : Nat) ≠ 7; decide) t s).trans ((canon_other _ _ _ _ (by show (0 : Nat) ≠ 6; decide) t s).trans ((canon_other _ _ _ _ (by show (0 : Nat) ≠ 5; decide) t s).trans ((canon_other _ _ _ _ (by show (0 : Nat) ≠ 4; decide) t s).trans ((canon_other _ _ _ _ (by show (0 : Nat) ≠ 3; decide) t s).trans ((canon_other _ _ _ _ (by show (0 : Nat) ≠ 2; decide) t s).trans ((canon_other _ _ _ _ (by show (0 : Nat) ≠ 1; decide) t s).trans ((canon_slice _ _ _ (by decide) t s).trans rfl)))))))
  case mixed =>
    intro r k
    unfold later; frame_out
    refine scratch_at _ _ (fun y : S256x1024.Idx => mixed (n := 256) even (fun h t s => x.ws (ix3 h t s))
      (fun h t => x.bst (ix2 t h)) (fun r k => normed x (ix2 r k)) (y 0) (y 1)) ?_ ?_ r k
    · repeat'
        first
        | exact List.forall_mem_nil _
        | refine List.forall_mem_cons.mpr ⟨?_, ?_⟩
      all_goals exact fun y => Eq.symm (tile_mixed x.ws x.bst (normed x) _ _ (by decide) (by decide) (by decide) (by decide) (by decide) y)
    · exact fun y => View.cover_of_tiledL _ ![128, 128] (by sl_kernel_rfl) y
  case dvn =>
    intro r k
    unfold later; frame_out
    refine scratch_at _ _ ((fun (M : FVec Ideal S256x1024 .f32) (y : S256x1024.Idx) => ∑ t : Fin 128, (if place (y 0) ≤ t then x.ws (ix3 (head (y 1)) t (place (y 0))) else 0)
      * M (ix2 (tileRow (n := 256) even (y 0) t) (y 1))) (dmixed x _)) ?_ ?_ r k
    · repeat'
        first
        | exact List.forall_mem_nil _
        | refine List.forall_mem_cons.mpr ⟨?_, ?_⟩
      all_goals exact fun y => Eq.symm (tile_back x.ws (dmixed x _) _ _ (by decide) (by decide) (by decide) (by decide) (by decide) y)
    · exact fun y => View.cover_of_tiledL _ ![128, 128] (by sl_kernel_rfl) y

end Points

end Cert.MixBwdKernelIdeal.Mix

end
-- ==== Proof.MixBwdPoint.lean ====
/- What the backward body stores at a point, read at an element: the gating's gradients of the point's rows, and each
   sum's old value plus the point's part. -/
module

public import proofs.«01_k».proof.Proof.MixBwdVal

@[expose] public section

set_option maxRecDepth 16384

noncomputable section

namespace Cert.MixBwdKernelIdeal.Mix

open Cert.MixBwdKernelIdeal Cert.MixBwdKernelIdeal.Gen Cert.MixBwdKernelIdeal.Hand Cert.Ffn Cert.Mix Cert.Tiles
open Idealize.ShloMosaic Idealize.ShloMosaic.TcCoe Idealize.SL.Sem

/-- The gating a point's blocks hold. -/
def gate (x : Blocks Ideal) : Gate 256 where
  U r k := (x.act : FVec Ideal S256x2048 .bf16) (ix2 r ⟨k.val, by omega⟩)
  V r k := (x.act : FVec Ideal S256x2048 .bf16) (ix2 r ⟨1024 + k.val, by omega⟩)
  ya r k := (x.dya : FVec Ideal S256x1024 .bf16) (ix2 r k)
  go k := (x.gout : FVec Ideal S1x1024 .f32) (ix2 0 k)
  lg k := (x.lng : FVec Ideal S1x1024 .f32) (ix2 0 k)
  lb k := (x.lnb : FVec Ideal S1x1024 .f32) (ix2 0 k)
  W h t s := (x.ws : FVec Ideal S8x128x128 .f32) (ix3 h t s)
  B h t := (x.bst : FVec Ideal S128x8 .f32) (ix2 t h)

/-- A row of the normed rows' cotangent. -/
def dnAt (x : Blocks Ideal) (r : Fin 256) (k : Fin 1024) : EReal :=
  (∑ l : Fin 2688, (x.dzxd : FVec Ideal S256x2688 .bf16) (ix2 r l) * (x.wzxd : FVec Ideal S2688x1024 .bf16) (ix2 l k))
    + ∑ j : Fin 2048, (gate x).dact even r j * (x.slope : FVec Ideal S256x2048 .bf16) (ix2 r j) * (x.wuv : FVec Ideal S2048x1024 .bf16) (ix2 j k)

variable (x : Blocks Ideal) (r : Fin 256) (k : Fin 1024)

theorem left_at : left x (ix2 r k) = (gate x).U r k := by
  pointwise [k0_pay8]
  rfl

theorem right_row : (fun k => right x (ix2 r k)) = (gate x).V r := by
  funext k
  refine (View.ld_unit_apply_of (Val := Elt Ideal) (e := .bf16) x.act ![0, 1024] ![256, 1024] inb_S256x2048_S256x1024_0_1024 (ix2 r k) (ix2 r ⟨1024 + k.val, by omega⟩) fun i => ?_)
  match i with
  | 0 => exact (Nat.zero_add _).symm
  | 1 => rfl

theorem normed_at : normed x (ix2 r k) = (gate x).vn r k := by
  refine (pay_ln ..).trans ?_
  show ln (fun k => right x (ix2 r k)) _ _ k = _
  rw [right_row]
  rfl

section Stored

variable {x} {a : Sums Ideal} {old : Fin 8 → FVec Ideal S1x128x128 .f32} {V D : FVec Ideal S256x1024 .f32} {o : Out Ideal} (T : Terms x a old V D o)

include T

theorem Terms.mx_at : V (ix2 r k) = (gate x).mx even r k := by
  rw [T.mixed, show (fun r k => normed x (ix2 r k)) = (gate x).vn from funext fun r => funext fun k => normed_at x r k]
  rfl

theorem Terms.pre_eq : (fun k => left x (ix2 r k) * V (ix2 r k)) = (gate x).pre even r := by
  funext k
  rw [left_at, T.mx_at]
  rfl

theorem Terms.dmx_at : dmixed x V (ix2 r k) = (gate x).dmx even r k := by
  refine (pay_dmx ..).trans ?_
  rw [T.pre_eq, left_at]
  rfl

theorem Terms.dug_at : dleft x V (ix2 r k) = (gate x).dug even r k := by
  refine (pay_dug ..).trans ?_
  rw [T.pre_eq, T.mx_at]
  rfl

theorem Terms.dvn_at : D (ix2 r k) = (gate x).dvn even r k := by
  rw [T.dvn]
  exact Finset.sum_congr rfl fun t _ => congrArg (_ * ·) (T.dmx_at ..)

theorem Terms.dvg_at : dright x D (ix2 r k) = (gate x).dvg even r k := by
  refine (pay_dvg ..).trans ?_
  show lnDx (fun k => right x (ix2 r k)) _ k = _
  rw [right_row]
  exact congrArg (fun f => lnDx _ f k) (funext fun k => congrArg (· * _) (T.dvn_at ..))

theorem Terms.dact_at (j : Fin 2048) : k0_pay169 (F := Ideal) (dleft x V) (dright x D) x.slope (ix2 r j)
    = (gate x).dact even r j * (x.slope : FVec Ideal S256x2048 .bf16) (ix2 r j) := by
  rw [pay_duv]
  refine congrArg (· * _) ?_
  unfold Gate.dact
  by_cases q : j.val < 1024
  · rw [dif_pos q, dif_pos q]; exact T.dug_at ..
  · rw [dif_neg q, dif_neg q]; exact T.dvg_at ..

theorem Terms.dn_at : k0_pay172 (F := Ideal) (k0_pay7 x.dzxd x.wzxd) (dleft x V) (dright x D) x.slope x.wuv (ix2 r k) = dnAt x r k := by
  refine (pay_dn ..).trans (congrArg (_ + ·) (Finset.sum_congr rfl fun j _ => congrArg (· * _) (T.dact_at ..)))

theorem Terms.duv_at (j : Fin 2048) : o.duv (ix2 r j) = (gate x).dact even r j * (x.slope : FVec Ideal S256x2048 .bf16) (ix2 r j) := by
  rw [T.duv]; exact T.dact_at ..

theorem Terms.dhi_at : o.dhi (ix2 r k) = (x.dh : FVec Ideal S256x1024 .f32) (ix2 r k)
    + rmsDx (fun k => (x.h : FVec Ideal S256x1024 .f32) (ix2 r k)) (fun k => dnAt x r k * (x.g : FVec Ideal S1x1024 .f32) (ix2 0 k)) k := by
  rw [T.dhi]
  refine (pay_dhi ..).trans (congrArg (fun f => _ + rmsDx _ f k) (funext fun k => congrArg (· * _) (T.dn_at ..)))

theorem Terms.dg_at : o.dg (ix2 0 k) = a.dg (ix2 0 k) + ∑ r : Fin 256, (x.h : FVec Ideal S256x1024 .f32) (ix2 r k)
    * rs (fun k => (x.h : FVec Ideal S256x1024 .f32) (ix2 r k)) * dnAt x r k := by
  rw [T.dg]
  exact (pay_dg ..).trans (congrArg (_ + ·) (Finset.sum_congr rfl fun r _ => congrArg (_ * ·) (T.dn_at ..)))

theorem Terms.dlng_at : o.dlng (ix2 0 k) = a.dlng (ix2 0 k) + ∑ r : Fin 256, (gate x).dlg even r k := by
  rw [T.dlng]
  refine (pay_dlng ..).trans (congrArg (_ + ·) (Finset.sum_congr rfl fun r _ => ?_))
  show lnr (fun k => right x (ix2 r k)) k * _ = _
  rw [right_row, T.dvn_at]
  rfl

theorem Terms.dlnb_at : o.dlnb (ix2 0 k) = a.dlnb (ix2 0 k) + ∑ r : Fin 256, (gate x).dvn even r k := by
  rw [T.dlnb]
  exact (pay_dlnb ..).trans (congrArg (_ + ·) (Finset.sum_congr rfl fun r _ => T.dvn_at ..))

theorem Terms.dgout_at : o.dgout (ix2 0 k) = a.dgout (ix2 0 k) + ∑ r : Fin 256, (gate x).dgo even r k := by
  rw [T.dgout]
  refine (pay_dgout ..).trans (congrArg (_ + ·) (Finset.sum_congr rfl fun r _ => ?_))
  rw [T.pre_eq, left_at, T.mx_at]
  rfl

theorem Terms.dws_at (h : Fin 8) (t s : Fin 128) : o.dws (ix3 h t s)
    = old h (ix3 0 t s) + if s ≤ t then ∑ c : Fin 2, (gate x).dW even c h t s else 0 := by
  rw [T.dws, slab_at _ _ _ _ _ _ (by omega), Fin.sum_univ_two]
  refine congrArg (_ + ·) (congrArg (fun z => if s ≤ t then z else 0) (congrArg₂ (· + ·) ?_ ?_))
  · refine Finset.sum_congr rfl fun k _ => ?_
    rw [T.dmx_at, normed_at]
    simp only [Fin.val_zero, Nat.zero_mul, Nat.zero_add]
  · refine Finset.sum_congr rfl fun k _ => ?_
    rw [T.dmx_at, normed_at]
    simp only [Fin.val_one, Nat.one_mul]

end Stored

/-- Two tiles' part of one head's biases. -/
theorem bias2_at (M : FVec Ideal S256x1024 .f32) (h : Fin 8) (b : BitVec 32) (hb : b = BitVec.ofNat 32 h.val) (acc : FVec Ideal S128x8 .f32) (t : Fin 128) (p : Fin 8) :
    bias2 M h b acc (ix2 t p) = if p = h then acc (ix2 t p) + ∑ c : Fin 2, ∑ k : Fin 128, M (ix2 ⟨c.val * 128 + t.val, by omega⟩ ⟨h.val * 128 + k.val, by omega⟩)
      else acc (ix2 t p) := by
  subst hb
  unfold bias2
  rw [bias_at _ _ h.isLt, bias_at _ _ h.isLt]
  by_cases e : p = h
  · rw [if_pos e, if_pos (congrArg Fin.val e), if_pos (congrArg Fin.val e), add_assoc, Fin.sum_univ_two]
    refine congrArg (_ + ·) (congrArg₂ (· + ·) ?_ ?_) <;> refine Finset.sum_congr rfl fun k _ => ?_
    · rw [cut_at _ _ _ _ (by decide) (by omega)]
      simp only [Fin.val_zero, Nat.zero_mul, Nat.zero_add]
    · rw [cut_at _ _ _ _ (by decide) (by omega)]
      simp only [Fin.val_one, Nat.one_mul]
  · rw [if_neg e, if_neg (fun h => e (Fin.ext h)), if_neg (fun h => e (Fin.ext h)), add_zero, add_zero]

theorem Terms.dbst_at {x : Blocks Ideal} {a : Sums Ideal} {old : Fin 8 → FVec Ideal S1x128x128 .f32} {V D : FVec Ideal S256x1024 .f32} {o : Out Ideal}
    (T : Terms x a old V D o) (t : Fin 128) (p : Fin 8) :
    o.dbst (ix2 t p) = a.dbst (ix2 t p) + ∑ c : Fin 2, (gate x).dB even c t p := by
  rw [T.dbst]
  have z : k0_pay69 (F := Ideal) (ix2 t p) = 0 := by
    simp [k0_pay69, Ideal.ofBits, Ideal.ieee]; rfl
  have e (y : FVec Ideal S128x8 .f32) (b : FVec Ideal S128x8 .f32) : k0_pay164 (F := Ideal) y b (ix2 t p) = b (ix2 t p) + y (ix2 t p) := by
    pointwise [k0_pay164]
  rw [e, bias2_at _ 7 (7#32) rfl, bias2_at _ 6 (6#32) rfl, bias2_at _ 5 (5#32) rfl, bias2_at _ 4 (4#32) rfl, bias2_at _ 3 (3#32) rfl, bias2_at _ 2 (2#32) rfl, bias2_at _ 1 (1#32) rfl,
    bias2_at _ 0 (0#32) rfl, z]
  refine congrArg (_ + ·) ?_
  have q (h : Fin 8) : ∑ c : Fin 2, ∑ k : Fin 128, dmixed x V (ix2 ⟨c.val * 128 + t.val, by omega⟩ ⟨h.val * 128 + k.val, by omega⟩)
      = ∑ c : Fin 2, (gate x).dB even c t h :=
    Finset.sum_congr rfl fun c _ => Finset.sum_congr rfl fun k _ => T.dmx_at ..
  simp only [q]
  match p with
  | 0 => simp
  | 1 => simp
  | 2 => simp
  | 3 => simp
  | 4 => simp
  | 5 => simp
  | 6 => simp
  | 7 => simp

end Cert.MixBwdKernelIdeal.Mix

end
-- ==== Proof.MixBwdVal0.lean ====
/- What the backward body stores at the first point, where every sum starts from zero. -/
module

public import proofs.«01_k».proof.Proof.MixBwdVal
public import Idealize.ShloMosaic.Lib.Pipeline.ValueKit

@[expose] public section

set_option maxRecDepth 16384

noncomputable section

namespace Cert.MixBwdKernelIdeal.Mix

open Cert.MixBwdKernelIdeal Cert.MixBwdKernelIdeal.Gen Cert.MixBwdKernelIdeal.Hand Cert.Ffn Cert.Mix Cert.Tiles
open Idealize.ShloMosaic Idealize.ShloMosaic.TcCoe Idealize.SL.Sem

/-- The sums a first point starts from. -/
abbrev zeros : Sums Ideal := ⟨k0_pay1 (F := Ideal), k0_pay2 (F := Ideal), k0_pay3 (F := Ideal), k0_pay4 (F := Ideal), k0_pay5 (F := Ideal), k0_pay6 (F := Ideal)⟩

theorem zero_read {κ sp} (v : View sig κ sp S8x128x128 .f32)
    (inb : ∀ i, (![0, 0, 0] : Fin 3 → Nat) i + (![8, 128, 128] : Fin 3 → Nat) i ≤ S8x128x128.size i) {h : Nat}
    (inb' : ∀ i, (![h, 0, 0] : Fin 3 → Nat) i + (![1, 128, 128] : Fin 3 → Nat) i ≤ S8x128x128.size i) (j : S1x128x128.Idx) :
    v.readCov (Val := Elt Ideal) [⟨Rect.unit (s := S8x128x128) ![0, 0, 0] ![8, 128, 128] inb, k0_pay4 (F := Ideal)⟩]
      (Rect.unit (s := S8x128x128) ![h, 0, 0] ![1, 128, 128] inb').toLoadRect j = (0 : EReal) := by
  refine readCov_apply (e := .f32) _ (fun _ => (0 : EReal)) _ ?_ ?_ _ _
  · refine List.forall_mem_cons.mpr ⟨fun y => ?_, List.forall_mem_nil _⟩
    show k0_pay4 (F := Ideal) y = 0
    simp [k0_pay4, Ideal.ofBits, Ideal.ieee]
    rfl
  · exact fun y => View.cover_of_tiledL _ ![8, 128, 128] (by sl_kernel_rfl) y

theorem slab_zero (vn : FVec Ideal S256x1024 .bf16) (M : FVec Ideal S256x1024 .f32) (q : Nat) (h0) (h1) (t s : Fin 128)
    {o : FVec Ideal S1x128x128 .f32} (ho : ∀ j, o j = (0 : EReal)) :
    slab vn M o q h0 h1 (ix3 0 t s) = slab vn M (fun _ => (0 : EReal)) q h0 h1 (ix3 0 t s) := by
  rw [show o = fun _ => (0 : EReal) from funext ho]
section Points

variable (c : Dev nD) (i : grid0.Coords) (x : Blocks Ideal) (a : Sums Ideal) {m0 : Memref sig .tc .vmem S256x1024 .f32} (w0 : m0.IsWhole) {m1 : Memref sig .tc .vmem S256x1024 .f32} (w1 : m1.IsWhole) {m2 : Memref sig .tc .vmem S1x1024 .f32} (w2 : m2.IsWhole) {m3 : Memref sig .tc .vmem S256x2048 .bf16} (w3 : m3.IsWhole) {m4 : Memref sig .tc .vmem S256x2048 .bf16} (w4 : m4.IsWhole) {m5 : Memref sig .tc .vmem S256x1024 .bf16} (w5 : m5.IsWhole) {m6 : Memref sig .tc .vmem S256x2688 .bf16} (w6 : m6.IsWhole) {m7 : Memref sig .tc .vmem S2048x1024 .bf16} (w7 : m7.IsWhole) {m8 : Memref sig .tc .vmem S2688x1024 .bf16} (w8 : m8.IsWhole) {m9 : Memref sig .tc .vmem S1x1024 .f32} (w9 : m9.IsWhole) {m10 : Memref sig .tc .vmem S1x1024 .f32} (w10 : m10.IsWhole) {m11 : Memref sig .tc .vmem S8x128x128 .f32} (w11 : m11.IsWhole) {m12 : Memref sig .tc .vmem S128x8 .f32} (w12 : m12.IsWhole) {m13 : Memref sig .tc .vmem S1x1024 .f32} (w13 : m13.IsWhole) {m14 : Memref sig .tc .vmem S256x1024 .f32} (w14 : m14.IsWhole) {m15 : Memref sig .tc .vmem S256x2048 .bf16} (w15 : m15.IsWhole) {m16 : Memref sig .tc .vmem S1x1024 .f32} (w16 : m16.IsWhole) {m17 : Memref sig .tc .vmem S1x1024 .f32} (w17 : m17.IsWhole) {m18 : Memref sig .tc .vmem S1x1024 .f32} (w18 : m18.IsWhole) {m19 : Memref sig .tc .vmem S8x128x128 .f32} (w19 : m19.IsWhole) {m20 : Memref sig .tc .vmem S128x8 .f32} (w20 : m20.IsWhole) {m21 : Memref sig .tc .vmem S1x1024 .f32} (w21 : m21.IsWhole) {m22 : Memref sig .tc .vmem S256x1024 .f32} (w22 : m22.IsWhole) {m23 : Memref sig .tc .vmem S256x1024 .f32} (w23 : m23.IsWhole)

set_option maxHeartbeats 2000000 in
theorem first_terms (hc : cond0_0 i) : Terms x zeros (fun _ _ => (0 : EReal)) (scratch m22 (first w0 w1 w2 w3 w4 w5 w6 w7 w8 w9 w10 w11 w12 w13 w14 w15 w16 w17 w18 w19 w20 w21 w22 w23 c i hc x a).1.mixed) (scratch m23 (first w0 w1 w2 w3 w4 w5 w6 w7 w8 w9 w10 w11 w12 w13 w14 w15 w16 w17 w18 w19 w20 w21 w22 w23 c i hc x a).1.dvn) (first w0 w1 w2 w3 w4 w5 w6 w7 w8 w9 w10 w11 w12 w13 w14 w15 w16 w17 w18 w19 w20 w21 w22 w23 c i hc x a).1.out := by
  constructor
  case dgout => unfold first; dsimp only [Stores.out]; frame_out
  case dlnb => unfold first; dsimp only [Stores.out]; frame_out
  case dlng => unfold first; dsimp only [Stores.out]; frame_out
  case duv => unfold first; dsimp only [Stores.out]; frame_out
  case dg => unfold first; dsimp only [Stores.out]; frame_out
  case dhi => unfold first; dsimp only [Stores.out]; frame_out
  case dbst => unfold first; dsimp only [Stores.out]; frame_out; exact rfl
  case dws =>
    intro h t s
    unfold first; dsimp only [Stores.out]; frame_out
    match h with
    | ⟨7, _⟩ => exact (canon_slice _ _ _ (by decide) t s).trans (slab_zero (normed x) (dmixed x _) (7 * 128) _ _ t s (fun j => (readCov_other _ _ _ _ _ (by decide) j).trans ((readCov_other _ _ _ _ _ (by decide) j).trans ((readCov_other _ _ _ _ _ (by decide) j).trans ((readCov_other _ _ _ _ _ (by decide) j).trans ((readCov_other _ _ _ _ _ (by decide) j).trans ((readCov_other _ _ _ _ _ (by decide) j).trans ((readCov_other _ _ _ _ _ (by decide) j).trans (zero_read _ _ _ j)))))))))
    | ⟨6, _⟩ => exact (canon_other _ _ _ _ (by show (6 : Nat) ≠ 7; decide) t s).trans ((canon_slice _ _ _ (by decide) t s).trans (slab_zero (normed x) (dmixed x _) (6 * 128) _ _ t s (fun j => (readCov_other _ _ _ _ _ (by decide) j).trans ((readCov_other _ _ _ _ _ (by decide) j).trans ((readCov_other _ _ _ _ _ (by decide) j).trans ((readCov_other _ _ _ _ _ (by decide) j).trans ((readCov_other _ _ _ _ _ (by decide) j).trans ((readCov_other _ _ _ _ _ (by decide) j).trans (zero_read _ _ _ j)))))))))
    | ⟨5, _⟩ => exact (canon_other _ _ _ _ (by show (5 : Nat) ≠ 7; decide) t s).trans ((canon_other _ _ _ _ (by show (5 : Nat) ≠ 6; decide) t s).trans ((canon_slice _ _ _ (by decide) t s).trans (slab_zero (normed x) (dmixed x _) (5 * 128) _ _ t s (fun j => (readCov_other _ _ _ _ _ (by decide) j).trans ((readCov_other _ _ _ _ _ (by decide) j).trans ((readCov_other _ _ _ _ _ (by decide) j).trans ((readCov_other _ _ _ _ _ (by decide) j).trans ((readCov_other _ _ _ _ _ (by decide) j).trans (zero_read _ _ _ j)))))))))
    | ⟨4, _⟩ => exact (canon_other _ _ _ _ (by show (4 : Nat) ≠ 7; decide) t s).trans ((canon_other _ _ _ _ (by show (4 : Nat) ≠ 6; decide) t s).trans ((canon_other _ _ _ _ (by show (4 : Nat) ≠ 5; decide) t s).trans ((canon_slice _ _ _ (by decide) t s).trans (slab_zero (normed x) (dmixed x _) (4 * 128) _ _ t s (fun j => (readCov_other _ _ _ _ _ (by decide) j).trans ((readCov_other _ _ _ _ _ (by decide) j).trans ((readCov_other _ _ _ _ _ (by decide) j).trans ((readCov_other _ _ _ _ _ (by decide) j).trans (zero_read _ _ _ j)))))))))
    | ⟨3, _⟩ => exact (canon_other _ _ _ _ (by show (3 : Nat) ≠ 7; decide) t s).trans ((canon_other _ _ _ _ (by show (3 : Nat) ≠ 6; decide) t s).trans ((canon_other _ _ _ _ (by show (3 : Nat) ≠ 5; decide) t s).trans ((canon_other _ _ _ _ (by show (3 : Nat) ≠ 4; decide) t s).trans ((canon_slice _ _ _ (by decide) t s).trans (slab_zero (normed x) (dmixed x _) (3 * 128) _ _ t s (fun j => (readCov_other _ _ _ _ _ (by decide) j).trans ((readCov_other _ _ _ _ _ (by decide) j).trans ((readCov_other _ _ _ _ _ (by decide) j).trans (zero_read _ _ _ j)))))))))
    | ⟨2, _⟩ => exact (canon_other _ _ _ _ (by show (2 : Nat) ≠ 7; decide) t s).trans ((canon_other _ _ _ _ (by show (2 : Nat) ≠ 6; decide) t s).trans ((canon_other _ _ _ _ (by show (2 : Nat) ≠ 5; decide) t s).trans ((canon_other _ _ _ _ (by show (2 : Nat) ≠ 4; decide) t s).trans ((canon_other _ _ _ _ (by show (2 : Nat) ≠ 3; decide) t s).trans ((canon_slice _ _ _ (by decide) t s).trans (slab_zero (normed x) (dmixed x _) (2 * 128) _ _ t s (fun j => (readCov_other _ _ _ _ _ (by decide) j).trans ((readCov_other _ _ _ _ _ (by decide) j).trans (zero_read _ _ _ j)))))))))
    | ⟨1, _⟩ => exact (canon_other _ _ _ _ (by show (1 : Nat) ≠ 7; decide) t s).trans ((canon_other _ _ _ _ (by show (1 : Nat) ≠ 6; decide) t s).trans ((canon_other _ _ _ _ (by show (1 : Nat) ≠ 5; decide) t s).trans ((canon_other _ _ _ _ (by show (1 : Nat) ≠ 4; decide) t s).trans ((canon_other _ _ _ _ (by show (1 : Nat) ≠ 3; decide) t s).trans ((canon_other _ _ _ _ (by show (1 : Nat) ≠ 2; decide) t s).trans ((canon_slice _ _ _ (by decide) t s).trans (slab_zero (normed x) (dmixed x _) (1 * 128) _ _ t s (fun j => (readCov_other _ _ _ _ _ (by decide) j).trans (zero_read _ _ _ j)))))))))
    | ⟨0, _⟩ => exact (canon_other _ _ _ _ (by show (0 : Nat) ≠ 7; decide) t s).trans ((canon_other _ _ _ _ (by show (0 : Nat) ≠ 6; decide) t s).trans ((canon_other _ _ _ _ (by show (0 : Nat) ≠ 5; decide) t s).trans ((canon_other _ _ _ _ (by show (0 : Nat) ≠ 4; decide) t s).trans ((canon_other _ _ _ _ (by show (0 : Nat) ≠ 3; decide) t s).trans ((canon_other _ _ _ _ (by show (0 : Nat) ≠ 2; decide) t s).trans ((canon_other _ _ _ _ (by show (0 : Nat) ≠ 1; decide) t s).trans ((canon_slice _ _ _ (by decide) t s).trans (slab_zero (normed x) (dmixed x _) (0 * 128) _ _ t s (fun j => zero_read _ _ _ j)))))))))
  case mixed =>
    intro r k
    unfold first; dsimp only [kernelRun0_A]; frame_out
    refine scratch_at _ _ (fun y : S256x1024.Idx => mixed (n := 256) even (fun h t s => x.ws (ix3 h t s))
      (fun h t => x.bst (ix2 t h)) (fun r k => normed x (ix2 r k)) (y 0) (y 1)) ?_ ?_ r k
    · repeat'
        first
        | exact List.forall_mem_nil _
        | refine List.forall_mem_cons.mpr ⟨?_, ?_⟩
      all_goals exact fun y => Eq.symm (tile_mixed x.ws x.bst (normed x) _ _ (by decide) (by decide) (by decide) (by decide) (by decide) y)
    · exact fun y => View.cover_of_tiledL _ ![128, 128] (by sl_kernel_rfl) y
  case dvn =>
    intro r k
    unfold first; dsimp only [kernelRun0_A]; frame_out
    refine scratch_at _ _ ((fun (M : FVec Ideal S256x1024 .f32) (y : S256x1024.Idx) => ∑ t : Fin 128, (if place (y 0) ≤ t then x.ws (ix3 (head (y 1)) t (place (y 0))) else 0)
      * M (ix2 (tileRow (n := 256) even (y 0) t) (y 1))) (dmixed x _)) ?_ ?_ r k
    · repeat'
        first
        | exact List.forall_mem_nil _
        | refine List.forall_mem_cons.mpr ⟨?_, ?_⟩
      all_goals exact fun y => Eq.symm (tile_back x.ws (dmixed x _) _ _ (by decide) (by decide) (by decide) (by decide) (by decide) y)
    · exact fun y => View.cover_of_tiledL _ ![128, 128] (by sl_kernel_rfl) y

end Points

end Cert.MixBwdKernelIdeal.Mix

end
-- ==== Proof.MixBwdBlk.lean ====
/- The backward call's arrays, the rows and tiles its points take of them, and the results they are to hold. -/
module

public import proofs.«01_k».proof.Proof.MixBwdPoint
public import proofs.«01_k».proof.Proof.MixBwdVal0

@[expose] public section

set_option maxRecDepth 16384

noncomputable section

namespace Cert.MixBwdKernelIdeal.Mix

open Cert.MixBwdKernelIdeal Cert.MixBwdKernelIdeal.Gen Cert.MixBwdKernelIdeal.Hand Cert.Ffn Cert.Mix Cert.Tiles
open Idealize.ShloMosaic Idealize.ShloMosaic.TcCoe Idealize.SL.Sem
open Idealize.ShloMosaic.Pipeline (Dat)

theorem tiles : 128 ∣ 8192 := by decide

/-- The array row a point's block row sits at. -/
def rowAt (t : Fin cfg0.N) (r : Fin 256) : Fin 8192 := ⟨t.val * 256 + r.val, by
  have h := t.isLt; have h32 : cfg0.N = 32 := N_0; omega⟩

theorem place_rowAt (t : Fin cfg0.N) (r : Fin 256) : place (rowAt t r) = place r :=
  Fin.ext (by show (t.val * 256 + r.val) % 128 = r.val % 128; omega)
theorem tile_rowAt (t : Fin cfg0.N) (r : Fin 256) (s : Fin 128) : rowAt t (tileRow even r s) = tileRow tiles (rowAt t r) s :=
  Fin.ext (by show t.val * 256 + (r.val / 128 * 128 + s.val) = (t.val * 256 + r.val) / 128 * 128 + s.val; omega)

theorem idx0 : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![0, 0] ∧ win0_9.index t = ![0, 0] ∧ win0_10.index t = ![0, 0]
    ∧ win0_11.index t = ![0, 0, 0] ∧ win0_12.index t = ![0, 0] ∧ win0_13.index t = ![0, 0] ∧ win0_14.index t = ![t.val, 0]
    ∧ win0_15.index t = ![t.val, 0] ∧ win0_16.index t = ![0, 0] ∧ win0_17.index t = ![0, 0] ∧ win0_18.index t = ![0, 0]
    ∧ win0_19.index t = ![0, 0, 0] ∧ win0_20.index t = ![0, 0] ∧ win0_21.index t = ![0, 0] :=
  (by decide +kernel : ∀ t : Fin grid0.N, _)

variable (m : (ℓ : Loc nD τ sig) → Buf (Elt Ideal) ℓ) (c : Dev nD)

theorem gate_ext {n : Nat} {G H : Gate n} (hU : ∀ r k, G.U r k = H.U r k) (hV : ∀ r k, G.V r k = H.V r k) (hy : ∀ r k, G.ya r k = H.ya r k)
    (ho : ∀ k, G.go k = H.go k) (hg : ∀ k, G.lg k = H.lg k) (hb : ∀ k, G.lb k = H.lb k) (hW : ∀ q t s, G.W q t s = H.W q t s)
    (hB : ∀ q t, G.B q t = H.B q t) : G = H := by
  cases G
  cases H
  rw [Gate.mk.injEq]
  exact ⟨funext₂ hU, funext₂ hV, funext₂ hy, funext ho, funext hg, funext hb, funext fun _ => funext₂ (hW _), funext₂ hB⟩

/-- The call's arrays. -/
abbrev ctA : FVec Ideal S8192x1024 .f32 := V m c main_arg8
abbrev hA : FVec Ideal S8192x1024 .f32 := V m c main_arg0
abbrev gA : FVec Ideal S1x1024 .f32 := V m c main_arg1
abbrev actA : FVec Ideal S8192x2048 .bf16 := V m c main_v45
abbrev slopeA : FVec Ideal S8192x2048 .bf16 := V m c main_v46
abbrev yaA : FVec Ideal S8192x1024 .bf16 := V m c main_arg9
abbrev zxA : FVec Ideal S8192x2688 .bf16 := V m c main_arg10
abbrev wuA : FVec Ideal S2048x1024 .bf16 := V m c main_v3
abbrev wzA : FVec Ideal S2688x1024 .bf16 := V m c main_v5
abbrev lgA : FVec Ideal S1x1024 .f32 := V m c main_arg3
abbrev lbA : FVec Ideal S1x1024 .f32 := V m c main_arg4
abbrev wsA : FVec Ideal S8x128x128 .f32 := V m c main_v47
abbrev bsA : FVec Ideal S128x8 .f32 := V m c main_v49
abbrev goA : FVec Ideal S1x1024 .f32 := V m c main_arg7

/-- The gating they hold, and the normed rows' cotangent. -/
def gateA : Gate 8192 where
  U r k := actA m c (ix2 r ⟨k.val, by omega⟩)
  V r k := actA m c (ix2 r ⟨1024 + k.val, by omega⟩)
  ya r k := yaA m c (ix2 r k)
  go k := goA m c (ix2 0 k)
  lg k := lgA m c (ix2 0 k)
  lb k := lbA m c (ix2 0 k)
  W h t s := wsA m c (ix3 h t s)
  B h t := bsA m c (ix2 t h)
def dnA (r : Fin 8192) (k : Fin 1024) : EReal :=
  (∑ l : Fin 2688, zxA m c (ix2 r l) * wzA m c (ix2 l k))
    + ∑ j : Fin 2048, (gateA m c).dact tiles r j * slopeA m c (ix2 r j) * wuA m c (ix2 j k)

/-- The results. -/
def duvArr : FVec Ideal S8192x2048 .bf16 := fun i => (gateA m c).dact tiles (i 0) (i 1) * slopeA m c (ix2 (i 0) (i 1))
def dhArr : FVec Ideal S8192x1024 .f32 := fun i => ctA m c (ix2 (i 0) (i 1))
  + rmsDx (fun k => hA m c (ix2 (i 0) k)) (fun k => dnA m c (i 0) k * gA m c (ix2 0 k)) (i 1)
def dgRow (r : Fin 8192) (k : Fin 1024) : EReal := hA m c (ix2 r k) * rs (fun k => hA m c (ix2 r k)) * dnA m c r k
def dgArr : FVec Ideal S1x1024 .f32 := fun i => ∑ r : Fin 8192, dgRow m c r (i 1)
def dlngArr : FVec Ideal S1x1024 .f32 := fun i => ∑ r : Fin 8192, (gateA m c).dlg tiles r (i 1)
def dlnbArr : FVec Ideal S1x1024 .f32 := fun i => ∑ r : Fin 8192, (gateA m c).dvn tiles r (i 1)
def dgoutArr : FVec Ideal S1x1024 .f32 := fun i => ∑ r : Fin 8192, (gateA m c).dgo tiles r (i 1)
def dwsArr : FVec Ideal S8x128x128 .f32 := fun i => if ((i 2 : Fin 128) ≤ (i 1 : Fin 128)) then ∑ a : Fin 64, (gateA m c).dW tiles a (i 0) (i 1) (i 2) else 0
def dbstArr : FVec Ideal S128x8 .f32 := fun i => ∑ a : Fin 64, (gateA m c).dB tiles a (i 0) (i 1)

section Blocks

variable (t : Fin cfg0.N)

theorem blk_ct (r : Fin 256) (k : Fin 1024) : iblk m c 0 t (ix2 r k) = ctA m c (ix2 (rowAt t r) k) := by
  blk_ext [iblk, idx0 t, rowAt]
theorem blk_h (r : Fin 256) (k : Fin 1024) : iblk m c 1 t (ix2 r k) = hA m c (ix2 (rowAt t r) k) := by
  blk_ext [iblk, idx0 t, rowAt]
theorem blk_g (k : Fin 1024) : iblk m c 2 t (ix2 (0 : Fin 1) k : S1x1024.Idx) = gA m c (ix2 (0 : Fin 1) k) := by
  blk_ext [iblk, idx0 t, rowAt]
theorem blk_act (r : Fin 256) (k : Fin 2048) : iblk m c 3 t (ix2 r k) = actA m c (ix2 (rowAt t r) k) := by
  blk_ext [iblk, idx0 t, rowAt]
theorem blk_slope (r : Fin 256) (k : Fin 2048) : iblk m c 4 t (ix2 r k) = slopeA m c (ix2 (rowAt t r) k) := by
  blk_ext [iblk, idx0 t, rowAt]
theorem blk_ya (r : Fin 256) (k : Fin 1024) : iblk m c 5 t (ix2 r k) = yaA m c (ix2 (rowAt t r) k) := by
  blk_ext [iblk, idx0 t, rowAt]
theorem blk_zx (r : Fin 256) (k : Fin 2688) : iblk m c 6 t (ix2 r k) = zxA m c (ix2 (rowAt t r) k) := by
  blk_ext [iblk, idx0 t, rowAt]
theorem blk_wu (r : Fin 2048) (k : Fin 1024) : iblk m c 7 t (ix2 r k) = wuA m c (ix2 r k) := by
  blk_ext [iblk, idx0 t, rowAt]
theorem blk_wz (r : Fin 2688) (k : Fin 1024) : iblk m c 8 t (ix2 r k) = wzA m c (ix2 r k) := by
  blk_ext [iblk, idx0 t, rowAt]
theorem blk_lg (k : Fin 1024) : iblk m c 9 t (ix2 (0 : Fin 1) k : S1x1024.Idx) = lgA m c (ix2 (0 : Fin 1) k) := by
  blk_ext [iblk, idx0 t, rowAt]
theorem blk_lb (k : Fin 1024) : iblk m c 10 t (ix2 (0 : Fin 1) k : S1x1024.Idx) = lbA m c (ix2 (0 : Fin 1) k) := by
  blk_ext [iblk, idx0 t, rowAt]
theorem blk_ws (h : Fin 8) (r s : Fin 128) : iblk m c 11 t (ix3 h r s) = wsA m c (ix3 h r s) := by
  blk_ext [iblk, idx0 t, rowAt]
theorem blk_bs (r : Fin 128) (h : Fin 8) : iblk m c 12 t (ix2 r h) = bsA m c (ix2 r h) := by
  blk_ext [iblk, idx0 t, rowAt]
theorem blk_go (k : Fin 1024) : iblk m c 13 t (ix2 (0 : Fin 1) k : S1x1024.Idx) = goA m c (ix2 (0 : Fin 1) k) := by
  blk_ext [iblk, idx0 t, rowAt]

/-- A point's blocks hold the gating's rows. -/
theorem gate_U (r : Fin 256) (k : Fin 1024) : (gate (blocks m c t)).U r k = ((gateA m c).rows (rowAt t)).U r k := blk_act m c t r ⟨k.val, by omega⟩
theorem gate_V (r : Fin 256) (k : Fin 1024) : (gate (blocks m c t)).V r k = ((gateA m c).rows (rowAt t)).V r k := blk_act m c t r ⟨1024 + k.val, by omega⟩
theorem gate_ya (r : Fin 256) (k : Fin 1024) : (gate (blocks m c t)).ya r k = ((gateA m c).rows (rowAt t)).ya r k := blk_ya m c t r k
theorem gate_go (k : Fin 1024) : (gate (blocks m c t)).go k = ((gateA m c).rows (rowAt t)).go k := blk_go m c t k
theorem gate_lg (k : Fin 1024) : (gate (blocks m c t)).lg k = ((gateA m c).rows (rowAt t)).lg k := blk_lg m c t k
theorem gate_lb (k : Fin 1024) : (gate (blocks m c t)).lb k = ((gateA m c).rows (rowAt t)).lb k := blk_lb m c t k
theorem gate_W (h : Fin 8) (r s : Fin 128) : (gate (blocks m c t)).W h r s = ((gateA m c).rows (rowAt t)).W h r s := blk_ws m c t h r s
theorem gate_B (h : Fin 8) (r : Fin 128) : (gate (blocks m c t)).B h r = ((gateA m c).rows (rowAt t)).B h r := blk_bs m c t r h
theorem gate_rows : gate (blocks m c t) = (gateA m c).rows (rowAt t) :=
  gate_ext (gate_U m c t) (gate_V m c t) (gate_ya m c t) (gate_go m c t) (gate_lg m c t) (gate_lb m c t) (gate_W m c t) (gate_B m c t)

variable (r : Fin 256) (k : Fin 1024)

theorem dact_rows : (gate (blocks m c t)).dact even r = (gateA m c).dact tiles (rowAt t r) := by
  rw [gate_rows]; exact Gate.rows_dact tiles _ even _ (place_rowAt t) (tile_rowAt t) r

theorem blocks_h : (blocks m c t).h (ix2 r k) = hA m c (ix2 (rowAt t r) k) := blk_h m c t r k
theorem blocks_ct : (blocks m c t).dh (ix2 r k) = ctA m c (ix2 (rowAt t r) k) := blk_ct m c t r k

theorem blocks_g : (blocks m c t).g (ix2 (0 : Fin 1) k) = gA m c (ix2 (0 : Fin 1) k) := blk_g m c t k
theorem blocks_slope (j : Fin 2048) : (blocks m c t).slope (ix2 r j) = slopeA m c (ix2 (rowAt t r) j) := blk_slope m c t r j
theorem blocks_zx (l : Fin 2688) : (blocks m c t).dzxd (ix2 r l) = zxA m c (ix2 (rowAt t r) l) := blk_zx m c t r l
theorem blocks_wz (l : Fin 2688) : (blocks m c t).wzxd (ix2 l k) = wzA m c (ix2 l k) := blk_wz m c t l k
theorem blocks_wu (j : Fin 2048) : (blocks m c t).wuv (ix2 j k) = wuA m c (ix2 j k) := blk_wu m c t j k

theorem dnAt_rows : dnAt (blocks m c t) r k = dnA m c (rowAt t r) k :=
  congrArg₂ (· + ·) (Finset.sum_congr rfl fun l _ => congrArg₂ (· * ·) (blocks_zx m c t r l) (blocks_wz m c t k l))
    (Finset.sum_congr rfl fun j _ => congrArg₂ (· * ·) (congrArg₂ (· * ·) (congrFun (dact_rows m c t r) j) (blocks_slope m c t r j)) (blocks_wu m c t k j))

theorem dvn_rows : (gate (blocks m c t)).dvn even r = (gateA m c).dvn tiles (rowAt t r) := by
  rw [gate_rows]; exact Gate.rows_dvn tiles _ even _ (place_rowAt t) (tile_rowAt t) r
theorem dlg_rows : (gate (blocks m c t)).dlg even r = (gateA m c).dlg tiles (rowAt t r) := by
  rw [gate_rows]; exact Gate.rows_dlg tiles _ even _ (place_rowAt t) (tile_rowAt t) r
theorem dgo_rows : (gate (blocks m c t)).dgo even r = (gateA m c).dgo tiles (rowAt t r) := by
  rw [gate_rows]; exact Gate.rows_dgo tiles _ even _ (place_rowAt t) (tile_rowAt t) r
theorem dmx_rows : (gate (blocks m c t)).dmx even r = (gateA m c).dmx tiles (rowAt t r) := by
  rw [gate_rows]; exact Gate.rows_dmx tiles _ even _ (place_rowAt t) (tile_rowAt t) r
theorem vn_rows : (gate (blocks m c t)).vn r = (gateA m c).vn (rowAt t r) := by
  rw [gate_rows]; rfl

/-- The array tile of a point's tile. -/
def tileAt (a : Fin 2) : Fin 64 := ⟨t.val * 2 + a.val, by have h := t.isLt; have h32 : cfg0.N = 32 := N_0; omega⟩

theorem rowAt_tile (a : Fin 2) (s : Fin 128) (h) (h') : rowAt t ⟨a.val * 128 + s.val, h⟩ = ⟨(tileAt t a).val * 128 + s.val, h'⟩ :=
  Fin.ext (by show t.val * 256 + (a.val * 128 + s.val) = (t.val * 2 + a.val) * 128 + s.val; omega)

theorem dW_rows (a : Fin 2) (h : Fin 8) (t' s : Fin 128) : (gate (blocks m c t)).dW even a h t' s = (gateA m c).dW tiles (tileAt t a) h t' s := by
  unfold Gate.dW
  refine Finset.sum_congr rfl fun k _ => ?_
  rw [dmx_rows, vn_rows, rowAt_tile t a t', rowAt_tile t a s]
theorem dB_rows (a : Fin 2) (t' : Fin 128) (h : Fin 8) : (gate (blocks m c t)).dB even a t' h = (gateA m c).dB tiles (tileAt t a) t' h := by
  unfold Gate.dB
  refine Finset.sum_congr rfl fun k _ => ?_
  rw [dmx_rows, rowAt_tile t a t']

/-- What a point leaves, over zeros at the first point and over what the point before left at a later one. -/
theorem terms_first (h : t.val % 32 = 0) : ∃ V D, Terms (blocks m c t) zeros (fun _ _ => (0 : EReal)) V D (outAt m c t.val t.isLt) := by
  rw [outAt_first m c t h zeros, point_first c t h]
  exact ⟨_, _, first_terms ..⟩
theorem terms_later (h : ¬t.val % 32 = 0) : ∃ V D, Terms (blocks m c t) (outAt m c (t.val - 1) (Nat.lt_of_le_of_lt (Nat.sub_le _ _) t.isLt)).toSums
    (fun h => View.ld (Val := Elt Ideal) (e' := .f32) (outAt m c (t.val - 1) (Nat.lt_of_le_of_lt (Nat.sub_le _ _) t.isLt)).dws (Rect.unit (s := S8x128x128) ![h.val, 0, 0] ![1, 128, 128] (slice_in h)))
    V D (outAt m c t.val t.isLt) := by
  rw [outAt_later m c t h, point_later c t h]
  exact ⟨_, _, later_terms ..⟩

/-- Every point's stores over some sums. -/
theorem terms_any : ∃ a old V D, Terms (blocks m c t) a old V D (outAt m c t.val t.isLt) := by
  by_cases h : t.val % 32 = 0
  · obtain ⟨V, D, T⟩ := terms_first m c t h; exact ⟨_, _, V, D, T⟩
  · obtain ⟨V, D, T⟩ := terms_later m c t h; exact ⟨_, _, V, D, T⟩

end Blocks

end Cert.MixBwdKernelIdeal.Mix

end
-- ==== Proof.MixBwdArr.lean ====
/- The backward call's eight result arrays as functions of its arrays. -/
module

public import proofs.«01_k».proof.Proof.MixBwdBlk

@[expose] public section

set_option maxRecDepth 16384

noncomputable section

namespace Cert.MixBwdKernelIdeal.Mix

open Cert.MixBwdKernelIdeal Cert.MixBwdKernelIdeal.Gen Cert.MixBwdKernelIdeal.Hand Cert.Ffn Cert.Mix Cert.Tiles
open Idealize.ShloMosaic Idealize.ShloMosaic.TcCoe Idealize.SL.Sem
open Idealize.ShloMosaic.Pipeline (Dat)

variable (m : (ℓ : Loc nD τ sig) → Buf (Elt Ideal) ℓ) (c : Dev nD)

theorem zero_row (k : Fin 1024) : k0_pay1 (F := Ideal) (ix2 0 k) = 0 ∧ k0_pay2 (F := Ideal) (ix2 0 k) = 0 ∧ k0_pay3 (F := Ideal) (ix2 0 k) = 0
    ∧ k0_pay6 (F := Ideal) (ix2 0 k) = 0 := by
  refine ⟨?_, ?_, ?_, ?_⟩ <;> simp [k0_pay1, k0_pay2, k0_pay3, k0_pay6, Ideal.ofBits, Ideal.ieee] <;> rfl
theorem zero_bias (t : Fin 128) (p : Fin 8) : k0_pay5 (F := Ideal) (ix2 t p) = 0 := by
  simp [k0_pay5, Ideal.ofBits, Ideal.ieee]; rfl

theorem final_14 : (dats (F := Ideal) m 0 c).arrAt 14 cfg0.N = dhArr m c := by
  refine (dats m 0 c).arrAt_eq_of_covers 14 _ (by decide +kernel) fun t _ y => ?_
  obtain ⟨r, k, rfl⟩ : ∃ (r : Fin 256) (k : Fin 1024), y = (ix2 r k : S256x1024.Idx) := ⟨y 0, y 1, eq_ix2 y⟩
  have e : ((cfg0.win 14).blk t).view.emb (ix2 r k : S256x1024.Idx) = (ix2 (rowAt t r) k : S8192x1024.Idx) := by
    blk_ext [idx0 t, rowAt]
  rw [e]
  blk_simp
  rw [after_14]
  obtain ⟨a, old, V', D, T⟩ := terms_any m c t
  exact (T.dhi_at r k).trans (congrArg₂ (· + ·) (blocks_ct m c t r k) (congrArg₂ (fun x e => rmsDx x e k)
    (funext fun k => blocks_h m c t r k) (funext fun k => congrArg₂ (· * ·) (dnAt_rows m c t r k) (blocks_g m c t k))))

theorem final_15 : (dats (F := Ideal) m 0 c).arrAt 15 cfg0.N = duvArr m c := by
  refine (dats m 0 c).arrAt_eq_of_covers 15 _ (by decide +kernel) fun t _ y => ?_
  obtain ⟨r, k, rfl⟩ : ∃ (r : Fin 256) (k : Fin 2048), y = (ix2 r k : S256x2048.Idx) := ⟨y 0, y 1, eq_ix2 y⟩
  have e : ((cfg0.win 15).blk t).view.emb (ix2 r k : S256x2048.Idx) = (ix2 (rowAt t r) k : S8192x2048.Idx) := by
    blk_ext [idx0 t, rowAt]
  rw [e]
  blk_simp
  rw [after_15]
  obtain ⟨a, old, V', D, T⟩ := terms_any m c t
  exact (T.duv_at r k).trans (congrArg₂ (· * ·) (congrFun (dact_rows m c t r) k) (blocks_slope m c t r k))

/-- The last point's sum of a quantity that every point adds its part to. -/
theorem sum_points {ι : Type} (f : (n : Nat) → n < cfg0.N → ι → EReal) (term : Fin cfg0.N → ι → EReal)
    (h0 : ∀ t : Fin cfg0.N, t.val % 32 = 0 → ∀ i, f t.val t.isLt i = 0 + term t i)
    (hs : ∀ t : Fin cfg0.N, ¬t.val % 32 = 0 → ∀ i, f t.val t.isLt i = f (t.val - 1) (Nat.lt_of_le_of_lt (Nat.sub_le _ _) t.isLt) i + term t i)
    (t : Fin cfg0.N) (ht : t.val + 1 = cfg0.N) (i : ι) : f t.val t.isLt i = ∑ p, term p i :=
  (Pipeline.eq_sum_fin_of_reset_step_apply_last f 32 (fun _ => 0) term h0 hs (show cfg0.N = 32 from N_0).le t ht i).trans (zero_add _)

/-- A sum over the points of sums over their rows, or over their tiles. -/
theorem sum_rows (f : Fin 8192 → EReal) : ∑ p : Fin cfg0.N, ∑ r : Fin 256, f (rowAt p r) = ∑ r, f r :=
  Fin.sum_mul_add_congr (L := 8192) (fun s r hl => rfl) (by rw [show cfg0.N = 32 from N_0])
theorem sum_tiles (f : Fin 64 → EReal) : ∑ p : Fin cfg0.N, ∑ a : Fin 2, f (tileAt p a) = ∑ a, f a :=
  Fin.sum_mul_add_congr (L := 64) (fun s r hl => rfl) (by rw [show cfg0.N = 32 from N_0])

theorem last_point {t : Fin cfg0.N} (h : t.val % 32 = 31) : t.val + 1 = cfg0.N := by
  have hN : cfg0.N = 32 := N_0
  have := t.isLt
  omega

theorem final_16 : (dats (F := Ideal) m 0 c).arrAt 16 cfg0.N = dgArr m c := by
  refine (dats m 0 c).arrAt_eq_of_covers 16 _ (by decide +kernel) fun t hf y => ?_
  obtain ⟨q, k, rfl⟩ : ∃ (q : Fin 1) (k : Fin 1024), y = (ix2 q k : S1x1024.Idx) := ⟨y 0, y 1, eq_ix2 y⟩
  obtain rfl : q = 0 := Subsingleton.elim _ _
  have e : ((cfg0.win 16).blk t).view.emb (ix2 (0 : Fin 1) k : S1x1024.Idx) = (ix2 0 k : S1x1024.Idx) := by
    blk_ext [idx0 t]
  rw [e]
  blk_simp
  rw [after_16]
  refine (sum_points (fun n h k => (outAt m c n h).dg (ix2 (0 : Fin 1) k))
    (fun t k => ∑ r : Fin 256, dgRow m c (rowAt t r) k) (fun t h k => ?_) (fun t h k => ?_) t (last_point ((flush0_16 t).mp hf)) k).trans ?_
  · obtain ⟨V', D, T⟩ := terms_first m c t h
    exact (T.dg_at k).trans (congrArg₂ (· + ·) (zero_row k).1 (Finset.sum_congr rfl fun r _ => congrArg₂ (· * ·) (congrArg₂ (· * ·) (blocks_h m c t r k) (congrArg rs (funext fun k => blocks_h m c t r k))) (dnAt_rows m c t r k)))
  · obtain ⟨V', D, T⟩ := terms_later m c t h
    exact (T.dg_at k).trans (congrArg (_ + ·) (Finset.sum_congr rfl fun r _ => congrArg₂ (· * ·) (congrArg₂ (· * ·) (blocks_h m c t r k) (congrArg rs (funext fun k => blocks_h m c t r k))) (dnAt_rows m c t r k)))
  · exact sum_rows fun r => dgRow m c r k

theorem final_17 : (dats (F := Ideal) m 0 c).arrAt 17 cfg0.N = dlngArr m c := by
  refine (dats m 0 c).arrAt_eq_of_covers 17 _ (by decide +kernel) fun t hf y => ?_
  obtain ⟨q, k, rfl⟩ : ∃ (q : Fin 1) (k : Fin 1024), y = (ix2 q k : S1x1024.Idx) := ⟨y 0, y 1, eq_ix2 y⟩
  obtain rfl : q = 0 := Subsingleton.elim _ _
  have e : ((cfg0.win 17).blk t).view.emb (ix2 (0 : Fin 1) k : S1x1024.Idx) = (ix2 0 k : S1x1024.Idx) := by
    blk_ext [idx0 t]
  rw [e]
  blk_simp
  rw [after_17]
  refine (sum_points (fun n h k => (outAt m c n h).dlng (ix2 (0 : Fin 1) k))
    (fun t k => ∑ r : Fin 256, (gateA m c).dlg tiles (rowAt t r) k) (fun t h k => ?_) (fun t h k => ?_) t (last_point ((flush0_17 t).mp hf)) k).trans ?_
  · obtain ⟨V', D, T⟩ := terms_first m c t h
    exact (T.dlng_at k).trans (congrArg₂ (· + ·) (zero_row k).2.1 (Finset.sum_congr rfl fun r _ => congrFun (dlg_rows m c t r) k))
  · obtain ⟨V', D, T⟩ := terms_later m c t h
    exact (T.dlng_at k).trans (congrArg (_ + ·) (Finset.sum_congr rfl fun r _ => congrFun (dlg_rows m c t r) k))
  · exact sum_rows fun r => (gateA m c).dlg tiles r k

theorem final_18 : (dats (F := Ideal) m 0 c).arrAt 18 cfg0.N = dlnbArr m c := by
  refine (dats m 0 c).arrAt_eq_of_covers 18 _ (by decide +kernel) fun t hf y => ?_
  obtain ⟨q, k, rfl⟩ : ∃ (q : Fin 1) (k : Fin 1024), y = (ix2 q k : S1x1024.Idx) := ⟨y 0, y 1, eq_ix2 y⟩
  obtain rfl : q = 0 := Subsingleton.elim _ _
  have e : ((cfg0.win 18).blk t).view.emb (ix2 (0 : Fin 1) k : S1x1024.Idx) = (ix2 0 k : S1x1024.Idx) := by
    blk_ext [idx0 t]
  rw [e]
  blk_simp
  rw [after_18]
  refine (sum_points (fun n h k => (outAt m c n h).dlnb (ix2 (0 : Fin 1) k))
    (fun t k => ∑ r : Fin 256, (gateA m c).dvn tiles (rowAt t r) k) (fun t h k => ?_) (fun t h k => ?_) t (last_point ((flush0_18 t).mp hf)) k).trans ?_
  · obtain ⟨V', D, T⟩ := terms_first m c t h
    exact (T.dlnb_at k).trans (congrArg₂ (· + ·) (zero_row k).2.2.1 (Finset.sum_congr rfl fun r _ => congrFun (dvn_rows m c t r) k))
  · obtain ⟨V', D, T⟩ := terms_later m c t h
    exact (T.dlnb_at k).trans (congrArg (_ + ·) (Finset.sum_congr rfl fun r _ => congrFun (dvn_rows m c t r) k))
  · exact sum_rows fun r => (gateA m c).dvn tiles r k

theorem final_21 : (dats (F := Ideal) m 0 c).arrAt 21 cfg0.N = dgoutArr m c := by
  refine (dats m 0 c).arrAt_eq_of_covers 21 _ (by decide +kernel) fun t hf y => ?_
  obtain ⟨q, k, rfl⟩ : ∃ (q : Fin 1) (k : Fin 1024), y = (ix2 q k : S1x1024.Idx) := ⟨y 0, y 1, eq_ix2 y⟩
  obtain rfl : q = 0 := Subsingleton.elim _ _
  have e : ((cfg0.win 21).blk t).view.emb (ix2 (0 : Fin 1) k : S1x1024.Idx) = (ix2 0 k : S1x1024.Idx) := by
    blk_ext [idx0 t]
  rw [e]
  blk_simp
  rw [after_21]
  refine (sum_points (fun n h k => (outAt m c n h).dgout (ix2 (0 : Fin 1) k))
    (fun t k => ∑ r : Fin 256, (gateA m c).dgo tiles (rowAt t r) k) (fun t h k => ?_) (fun t h k => ?_) t (last_point ((flush0_21 t).mp hf)) k).trans ?_
  · obtain ⟨V', D, T⟩ := terms_first m c t h
    exact (T.dgout_at k).trans (congrArg₂ (· + ·) (zero_row k).2.2.2 (Finset.sum_congr rfl fun r _ => congrFun (dgo_rows m c t r) k))
  · obtain ⟨V', D, T⟩ := terms_later m c t h
    exact (T.dgout_at k).trans (congrArg (_ + ·) (Finset.sum_congr rfl fun r _ => congrFun (dgo_rows m c t r) k))
  · exact sum_rows fun r => (gateA m c).dgo tiles r k

theorem final_20 : (dats (F := Ideal) m 0 c).arrAt 20 cfg0.N = dbstArr m c := by
  refine (dats m 0 c).arrAt_eq_of_covers 20 _ (by decide +kernel) fun t hf y => ?_
  obtain ⟨s, q, rfl⟩ : ∃ (s : Fin 128) (q : Fin 8), y = (ix2 s q : S128x8.Idx) := ⟨y 0, y 1, eq_ix2 y⟩
  have e : ((cfg0.win 20).blk t).view.emb (ix2 s q : S128x8.Idx) = (ix2 s q : S128x8.Idx) := by
    blk_ext [idx0 t]
  rw [e]
  blk_simp
  rw [after_20]
  refine (sum_points (fun n h (p : Fin 128 × Fin 8) => (outAt m c n h).dbst (ix2 p.1 p.2))
    (fun t p => ∑ a : Fin 2, (gateA m c).dB tiles (tileAt t a) p.1 p.2) (fun t h p => ?_) (fun t h p => ?_) t (last_point ((flush0_20 t).mp hf)) (s, q)).trans ?_
  · obtain ⟨V', D, T⟩ := terms_first m c t h
    exact (T.dbst_at p.1 p.2).trans (congrArg₂ (· + ·) (zero_bias p.1 p.2) (Finset.sum_congr rfl fun r _ => dB_rows m c t r p.1 p.2))
  · obtain ⟨V', D, T⟩ := terms_later m c t h
    exact (T.dbst_at p.1 p.2).trans (congrArg (_ + ·) (Finset.sum_congr rfl fun r _ => dB_rows m c t r p.1 p.2))
  · exact sum_tiles fun a => (gateA m c).dB tiles a s q

theorem final_19 : (dats (F := Ideal) m 0 c).arrAt 19 cfg0.N = dwsArr m c := by
  refine (dats m 0 c).arrAt_eq_of_covers 19 _ (by decide +kernel) fun t hf y => ?_
  obtain ⟨q, i, s, rfl⟩ : ∃ (q : Fin 8) (i s : Fin 128), y = (ix3 q i s : S8x128x128.Idx) := ⟨y 0, y 1, y 2, eq_ix3 y⟩
  have e : ((cfg0.win 19).blk t).view.emb (ix3 q i s : S8x128x128.Idx) = (ix3 q i s : S8x128x128.Idx) := by
    blk_ext [idx0 t]
  rw [e]
  blk_simp
  rw [after_19]
  refine (sum_points (fun n h (p : Fin 8 × Fin 128 × Fin 128) => (outAt m c n h).dws (ix3 p.1 p.2.1 p.2.2))
    (fun t p => if p.2.2 ≤ p.2.1 then ∑ a : Fin 2, (gateA m c).dW tiles (tileAt t a) p.1 p.2.1 p.2.2 else 0) (fun t h p => ?_) (fun t h p => ?_) t
    (last_point ((flush0_19 t).mp hf)) (q, i, s)).trans ?_
  · obtain ⟨V', D, T⟩ := terms_first m c t h
    refine (T.dws_at p.1 p.2.1 p.2.2).trans (congrArg (_ + ·) ?_)
    simp only [dW_rows]
  · obtain ⟨V', D, T⟩ := terms_later m c t h
    refine (T.dws_at p.1 p.2.1 p.2.2).trans (congrArg₂ (· + ·) (ld_at (e := .f32) _ p.1.val _ p.1.isLt p.2.1 p.2.2) ?_)
    simp only [dW_rows]
  · show _ = if s ≤ i then ∑ a : Fin 64, (gateA m c).dW tiles a q i s else 0
    by_cases hs : s ≤ i
    · simp only [if_pos hs]
      exact sum_tiles fun a => (gateA m c).dW tiles a q i s
    · simp only [if_neg hs, Finset.sum_const_zero]

end Cert.MixBwdKernelIdeal.Mix

end
-- ==== Proof.MixBwdFin.lean ====
/- The gelu and its gradient as reference.py's lines print them, and that finite arguments leave the gating's gradients
   finite, so that a gradient through the gelu is the cotangent times the gradient at a cotangent of one. -/
module

public import proofs.«01_k».proof.Proof.MixBwdSpec
public import proofs.«01_k».proof.Proof.FfnFin

@[expose] public section

noncomputable section

namespace Cert.Mix

open Idealize.ShloMosaic Cert.Ffn Cert

/-- The printed root of one half and the printed −2/√π. -/
abbrev s32 : EReal := Ideal.ofBits .f32 0x3F3504F3#32
abbrev k32 : EReal := Ideal.ofBits .f32 0xBF906EBB#32

/-- The gelu, and its gradient against the cotangent `d`. -/
def arg32 (p : EReal) : EReal := -p * s32
def act32 (p : EReal) : EReal := half * p * Ideal.erfc (arg32 p)
def dgel (p d : EReal) : EReal :=
  -(k32 * (half * p * d) * Ideal.exp (-(arg32 p * arg32 p)) * s32) + half * (d * Ideal.erfc (arg32 p))

theorem s32_eq : s32 = (((11863283 / 16777216 : ℝ)) : EReal) := by
  simp [s32, Ideal.ofBits, Ideal.ieee, -EReal.coe_mul]; norm_num
theorem k32_eq : k32 = ((-(9465531 / 8388608 : ℝ)) : EReal) := by
  simp [k32, Ideal.ofBits, Ideal.ieee, -EReal.coe_mul]; norm_num
theorem neg_half_eq : mhalf = ((-(1 / 2) : ℝ) : EReal) := by
  simp [mhalf, Ideal.ofBits, Ideal.ieee, -EReal.coe_mul]; norm_num

theorem erfc_real {x : EReal} (h : IsReal x) : IsReal (Ideal.erfc x) := by
  obtain ⟨r, rfl⟩ := h
  rw [Ideal.erfc, Ideal.erf_coe]
  exact IsReal.one.sub (IsReal.coe _)

theorem s32_real : IsReal s32 := s32_eq ▸ IsReal.coe _
theorem k32_real : IsReal k32 := k32_eq ▸ IsReal.coe _
theorem half_real : IsReal half := half_eq ▸ IsReal.coe _
theorem mhalf_real : IsReal mhalf := neg_half_eq ▸ IsReal.coe _

theorem act32_real {p : EReal} (h : IsReal p) : IsReal (act32 p) :=
  (half_real.mul h).mul (erfc_real (h.neg.mul s32_real))

/-- At finite values the gelu's gradient is linear in the cotangent. -/
theorem dgel_one {p d : EReal} (hp : IsReal p) (hd : IsReal d) : d * dgel p 1 = dgel p d := by
  have ha : IsReal (arg32 p) := hp.neg.mul s32_real
  obtain ⟨e, he⟩ := (ha.mul ha).neg.exp
  obtain ⟨f, hf⟩ := erfc_real ha
  obtain ⟨p', rfl⟩ := hp
  obtain ⟨d', rfl⟩ := hd
  unfold dgel
  rw [he, hf, half_eq, s32_eq, k32_eq, ← EReal.coe_one]
  simp only [← EReal.coe_mul, ← EReal.coe_neg, ← EReal.coe_add]
  congr 1
  ring

theorem rs_real {x : Fin 1024 → EReal} (hx : ∀ k, IsReal (x k)) : IsReal (rs x) := by
  obtain ⟨r, hr, hm⟩ := ms_real hx
  rw [rs, hm]; exact IsReal.rsqrt hr

theorem div_width {x : EReal} (hx : IsReal x) : IsReal (Ideal.div x width) := by
  rw [width_eq]; exact hx.div (by norm_num)

theorem rmsT_real {x e : Fin 1024 → EReal} (hx : ∀ k, IsReal (x k)) (he : ∀ k, IsReal (e k)) : IsReal (rmsT x e) := by
  obtain ⟨r, hr, hm⟩ := ms_real hx
  refine div_width ((IsReal.sum_univ fun k => (hx k).mul (he k)).mul (mhalf_real.mul ?_))
  rw [hm]
  exact (rs_real hx).div (ne_of_gt hr)

theorem rmsDx_real {x e : Fin 1024 → EReal} (hx : ∀ k, IsReal (x k)) (he : ∀ k, IsReal (e k)) (k : Fin 1024) :
    IsReal (rmsDx x e k) :=
  (((he k).mul (rs_real hx)).add ((hx k).mul (rmsT_real hx he))).add ((rmsT_real hx he).mul (hx k))

theorem dev_real {v : Fin 1024 → EReal} (hv : ∀ k, IsReal (v k)) (k : Fin 1024) : IsReal (dev v k) :=
  (hv k).sub (div_width (IsReal.sum_univ hv))

theorem lnDx_real {v e : Fin 1024 → EReal} (hv : ∀ k, IsReal (v k)) (he : ∀ k, IsReal (e k)) (k : Fin 1024) :
    IsReal (lnDx v e k) :=
  (rmsDx_real (dev_real hv) he k).add (div_width (IsReal.sum_univ fun k => (rmsDx_real (dev_real hv) he k).neg))

theorem ln_real {v g b : Fin 1024 → EReal} (hv : ∀ k, IsReal (v k)) (hg : ∀ k, IsReal (g k)) (hb : ∀ k, IsReal (b k))
    (k : Fin 1024) : IsReal (ln v g b k) :=
  (((dev_real hv k).mul (rs_real (dev_real hv))).mul (hg k)).add (hb k)

theorem ite_real {p : Prop} [Decidable p] {x : EReal} (hx : IsReal x) : IsReal (if p then x else 0) := by
  by_cases h : p
  · rw [if_pos h]; exact hx
  · rw [if_neg h]; exact IsReal.zero

theorem dot_real {n : Nat} {a w : Fin n → EReal} (ha : ∀ k, IsReal (a k)) (hw : ∀ k, IsReal (w k)) : IsReal (dot a w) :=
  IsReal.sum_univ fun k => (ha k).mul (hw k)

/-- A gating whose arrays are finite. -/
structure Gate.Real {n : Nat} (G : Gate n) : Prop where
  U : ∀ r k, IsReal (G.U r k)
  V : ∀ r k, IsReal (G.V r k)
  ya : ∀ r k, IsReal (G.ya r k)
  go : ∀ k, IsReal (G.go k)
  lg : ∀ k, IsReal (G.lg k)
  lb : ∀ k, IsReal (G.lb k)
  W : ∀ q t s, IsReal (G.W q t s)
  B : ∀ q t, IsReal (G.B q t)

namespace Gate.Real

variable {n : Nat} {h : 128 ∣ n} {G : Gate n} (R : G.Real)

include R

theorem mx (r : Fin n) (k : Fin 1024) : IsReal (G.mx h r k) :=
  (IsReal.sum_univ fun s => (ite_real (R.W _ _ _)).mul (ln_real (R.V _) R.lg R.lb _)).add (R.B _ _)
theorem pre (r : Fin n) (k : Fin 1024) : IsReal (G.pre h r k) := (R.U r k).mul (R.mx r k)
theorem dpre (r : Fin n) (k : Fin 1024) : IsReal (G.dpre h r k) :=
  rmsDx_real (R.pre r) (fun k => (R.ya r k).mul (R.go k)) k
theorem dug (r : Fin n) (k : Fin 1024) : IsReal (G.dug h r k) := (R.dpre r k).mul (R.mx r k)
theorem dmx (r : Fin n) (k : Fin 1024) : IsReal (G.dmx h r k) := (R.dpre r k).mul (R.U r k)
theorem dvn (r : Fin n) (k : Fin 1024) : IsReal (G.dvn h r k) :=
  IsReal.sum_univ fun t => (ite_real (R.W _ _ _)).mul (R.dmx _ k)
theorem dvg (r : Fin n) (k : Fin 1024) : IsReal (G.dvg h r k) :=
  lnDx_real (R.V r) (fun k => (R.dvn r k).mul (R.lg k)) k
theorem dact (r : Fin n) (j : Fin 2048) : IsReal (G.dact h r j) := by
  unfold Gate.dact
  split
  · exact R.dug r _
  · exact R.dvg r _

end Gate.Real

end Cert.Mix

end
-- ==== Proof.MixBwdHost.lean ====
/- The backward call's arrays before the call as functions of the program's arguments: the weights as the host laid them
   out, and the gelu of the projection with its slope. -/
module

public import proofs.«01_k».proof.Proof.MixBwdBlk
public import proofs.«01_k».proof.Proof.MixLaw
public import proofs.«01_k».proof.Proof.MixBwdFin

@[expose] public section

set_option maxRecDepth 16384

noncomputable section

namespace Cert.MixBwdKernelIdeal.Mix

open Cert.MixBwdKernelIdeal Cert.MixBwdKernelIdeal.Gen Cert.Ffn Cert.Mix
open Idealize.ShloMosaic Idealize.ShloMosaic.TcCoe Idealize.SL.Sem

variable (m : (ℓ : Loc nD τ sig) → Buf (Elt Ideal) ℓ) (c : Dev nD)

/-- The arguments on a device. -/
abbrev aX : FVec Ideal S8192x1024 .f32 := m ((c : Thread nD τ).loc main_arg0)
abbrev aG : FVec Ideal S1x1024 .f32 := m ((c : Thread nD τ).loc main_arg1)
abbrev aW : FVec Ideal S1x1024x4624 .f32 := m ((c : Thread nD τ).loc main_arg2)
abbrev aLg : FVec Ideal S1x1024 .f32 := m ((c : Thread nD τ).loc main_arg3)
abbrev aLb : FVec Ideal S1x1024 .f32 := m ((c : Thread nD τ).loc main_arg4)
abbrev aWs : FVec Ideal S1x8x128x128 .f32 := m ((c : Thread nD τ).loc main_arg5)
abbrev aBs : FVec Ideal S1x8x128 .f32 := m ((c : Thread nD τ).loc main_arg6)
abbrev aGo : FVec Ideal S1x1024 .f32 := m ((c : Thread nD τ).loc main_arg7)
abbrev aCt : FVec Ideal S8192x1024 .f32 := m ((c : Thread nD τ).loc main_arg8)
abbrev aYa : FVec Ideal S8192x1024 .bf16 := m ((c : Thread nD τ).loc main_arg9)
abbrev aZx : FVec Ideal S8192x2688 .bf16 := m ((c : Thread nD τ).loc main_arg10)

theorem V_wu (j : Fin 2048) (k : Fin 1024) : wuA m c (ix2 j k) = aW m c (ix3 0 k ⟨j.val, by omega⟩) := by
  have e : V m c main_v3 = extractStridedSlice S2048x1024 ![0, 0] (truncf .bf16 (transpose S4624x1024 [1, 0] (shapeCast S1024x4624 (aW m c) shapeCasts_S1x1024x4624_S1024x4624) transposes_S1024x4624_S4624x1024_1_0) bitsLt_bf16_f32) slices_S4624x1024_S2048x1024_0_0 := by
    show StableHlo.after (List.flatten [hostOps0, hostOps0_1, hostOps0_2]) (fun b => m (c, b)) (Proc.devRef .tc main_v3) = _
    simp only [hostOps0, hostOps0_1, hostOps0_2, List.flatten_cons, List.flatten_nil, List.append_nil, List.cons_append, List.nil_append]
    after_results_simp
    rfl
  refine (congrFun e (ix2 j k)).trans ?_
  pointwise []

theorem V_wz (l : Fin 2688) (k : Fin 1024) : wzA m c (ix2 l k) = if h : l.val < 2576 then aW m c (ix3 0 k ⟨2048 + l.val, by omega⟩) else 0 := by
  have e : V m c main_v5 = pad S2688x1024 ![0, 0] ![112, 0] ![0, 0] (extractStridedSlice S2576x1024 ![2048, 0] (truncf .bf16 (transpose S4624x1024 [1, 0] (shapeCast S1024x4624 (aW m c) shapeCasts_S1x1024x4624_S1024x4624) transposes_S1024x4624_S4624x1024_1_0) bitsLt_bf16_f32) slices_S4624x1024_S2576x1024_2048_0)
      (sitofp (F := Ideal) .bf16 (constantI S_ 32 0#32)) pads_S2576x1024_S2688x1024_01120_000 h_S_ := by
    show StableHlo.after (List.flatten [hostOps0, hostOps0_1, hostOps0_2]) (fun b => m (c, b)) (Proc.devRef .tc main_v5) = _
    simp only [hostOps0, hostOps0_1, hostOps0_2, List.flatten_cons, List.flatten_nil, List.append_nil, List.cons_append, List.nil_append]
    after_results_simp
    rfl
  refine (congrFun e (ix2 l k)).trans ?_
  pointwise []
  have z : (FloatOps.sitofp (F := Ideal) .bf16 (0#32) : EReal) = 0 := by
    show (((0#32 : BitVec 32).toInt : ℝ) : EReal) = 0
    simp
  rw [z]

theorem V_ws (h : Fin 8) (t s : Fin 128) : wsA m c (ix3 h t s) = aWs m c (ix4 0 h t s) := by
  have e : V m c main_v47 = shapeCast S8x128x128 (aWs m c) shapeCasts_S1x8x128x128_S8x128x128 := by
    show StableHlo.after (List.flatten [hostOps0, hostOps0_1, hostOps0_2]) (fun b => m (c, b)) (Proc.devRef .tc main_v47) = _
    simp only [hostOps0, hostOps0_1, hostOps0_2, List.flatten_cons, List.flatten_nil, List.append_nil, List.cons_append, List.nil_append]
    after_results_simp
    rfl
  refine (congrFun e (ix3 h t s)).trans ?_
  pointwise []

theorem V_bs (t : Fin 128) (h : Fin 8) : bsA m c (ix2 t h) = aBs m c (ix3 0 h t) := by
  have e : V m c main_v49 = transpose S128x8 [1, 0] (shapeCast S8x128 (aBs m c) shapeCasts_S1x8x128_S8x128) transposes_S8x128_S128x8_1_0 := by
    show StableHlo.after (List.flatten [hostOps0, hostOps0_1, hostOps0_2]) (fun b => m (c, b)) (Proc.devRef .tc main_v49) = _
    simp only [hostOps0, hostOps0_1, hostOps0_2, List.flatten_cons, List.flatten_nil, List.append_nil, List.cons_append, List.nil_append]
    after_results_simp
    rfl
  refine (congrFun e (ix2 t h)).trans ?_
  pointwise []

/-- The projection as the host computes it, and its elements. -/
def hostRs (x : FVec Ideal S8192x1024 .f32) : FVec Ideal S8192x1 .f32 :=
  Host.rsqrt (addf (Host.divf (broadcastInDim S8192x1 ![0] bcast_S8192_S8192x1_0 (Host.reduceAdd (mulf x x) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32)))
def hostNrm (x : FVec Ideal S8192x1024 .f32) (g : FVec Ideal S1x1024 .f32) : FVec Ideal S8192x1024 .f32 :=
  mulf (mulf x (broadcastInDim S8192x1024 ![0, 1] bcast_S8192x1_S8192x1024_0_1 (hostRs x)))
    (broadcastInDim S8192x1024 ![0, 1] bcast_S1x1024_S8192x1024_0_1 (broadcastInDim S1x1024 ![1] bcast_S1024_S1x1024_1 (shapeCast S1024 g shapeCasts_S1x1024_S1024)))
def hostP (x : FVec Ideal S8192x1024 .f32) (g : FVec Ideal S1x1024 .f32) (w : FVec Ideal S1x1024x4624 .f32) : FVec Ideal S8192x2048 .f32 :=
  Host.dotGeneral dot_S8192x1024_S1024x2048_S8192x2048_1_0_0_1_n_n none (hostNrm x g)
    (extractStridedSlice S1024x2048 ![0, 0] (shapeCast S1024x4624 w shapeCasts_S1x1024x4624_S1024x4624) slices_S1024x4624_S1024x2048_0_0)
def hostAll (w : BitVec 32) : FVec Ideal S8192x2048 .f32 := broadcastInDim S8192x2048 ![] bcast_S_S8192x2048 (constant S_ .f32 w)
def hostArg (p : FVec Ideal S8192x2048 .f32) : FVec Ideal S8192x2048 .f32 := mulf (Host.negf p) (hostAll 0x3F3504F3#32)
def hostAct (p : FVec Ideal S8192x2048 .f32) : FVec Ideal S8192x2048 .bf16 :=
  truncf .bf16 (mulf (mulf (hostAll 0x3F000000#32) p) (Host.erfc (hostArg p))) bitsLt_bf16_f32
def hostSlope (p : FVec Ideal S8192x2048 .f32) : FVec Ideal S8192x2048 .bf16 :=
  truncf .bf16 (addf (Host.negf (mulf (mulf (mulf (hostAll 0xBF906EBB#32) (mulf (mulf (hostAll 0x3F000000#32) p) (hostAll 0x3F800000#32)))
      (Host.exp (Host.negf (mulf (hostArg p) (hostArg p))))) (hostAll 0x3F3504F3#32)))
    (mulf (hostAll 0x3F000000#32) (mulf (hostAll 0x3F800000#32) (Host.erfc (hostArg p))))) bitsLt_bf16_f32

def projK (x : FVec Ideal S8192x1024 .f32) (g : FVec Ideal S1x1024 .f32) (w : FVec Ideal S1x1024x4624 .f32) (r : Fin 8192) (j : Fin 2048) : EReal :=
  dot (nrm (fun k => x (ix2 r k)) (fun k => g (ix2 0 k))) (fun k => w (ix3 0 k ⟨j.val, by omega⟩))

section Read

variable (x : FVec Ideal S8192x1024 .f32) (g : FVec Ideal S1x1024 .f32) (w : FVec Ideal S1x1024x4624 .f32) (p : FVec Ideal S8192x2048 .f32)
variable (r : Fin 8192) (k : Fin 1024) (j : Fin 2048)

theorem hostRs_at (q : Fin 1) : hostRs x (ix2 r q) = rs (fun k => x (ix2 r k)) := by
  pointwise [hostRs]
  rfl
theorem hostNrm_at : hostNrm x g (ix2 r k) = nrm (fun k => x (ix2 r k)) (fun k => g (ix2 0 k)) k := by
  pointwise [hostNrm, hostRs_at]
  rfl
theorem hostP_at : hostP x g w (ix2 r j) = projK x g w r j := by
  pointwise [hostP, hostNrm_at]
  rfl
theorem hostArg_at : hostArg p (ix2 r j) = arg32 (p (ix2 r j)) := by
  pointwise [hostArg, hostAll]
  rfl
theorem hostAct_at : hostAct p (ix2 r j) = act32 (p (ix2 r j)) := by
  pointwise [hostAct, hostAll, hostArg_at]
  rfl
theorem hostSlope_at : hostSlope p (ix2 r j) = dgel (p (ix2 r j)) 1 := by
  pointwise [hostSlope, hostAll, hostArg_at]
  rw [dgel, mul_one, one_mul]

end Read

theorem V_act (r : Fin 8192) (j : Fin 2048) : actA m c (ix2 r j) = act32 (projK (aX m c) (aG m c) (aW m c) r j) := by
  have e : V m c main_v45 = hostAct (hostP (aX m c) (aG m c) (aW m c)) := by
    show StableHlo.after (List.flatten [hostOps0, hostOps0_1, hostOps0_2]) (fun b => m (c, b)) (Proc.devRef .tc main_v45) = _
    simp only [hostOps0, hostOps0_1, hostOps0_2, List.flatten_cons, List.flatten_nil, List.append_nil, List.cons_append, List.nil_append]
    after_results_simp
    rfl
  exact (congrFun e (ix2 r j)).trans ((hostAct_at ..).trans (congrArg act32 (hostP_at ..)))

theorem V_slope (r : Fin 8192) (j : Fin 2048) : slopeA m c (ix2 r j) = dgel (projK (aX m c) (aG m c) (aW m c) r j) 1 := by
  have e : V m c main_v46 = hostSlope (hostP (aX m c) (aG m c) (aW m c)) := by
    show StableHlo.after (List.flatten [hostOps0, hostOps0_1, hostOps0_2]) (fun b => m (c, b)) (Proc.devRef .tc main_v46) = _
    simp only [hostOps0, hostOps0_1, hostOps0_2, List.flatten_cons, List.flatten_nil, List.append_nil, List.cons_append, List.nil_append]
    after_results_simp
    rfl
  exact (congrFun e (ix2 r j)).trans ((hostSlope_at ..).trans (congrArg (fun p => dgel p 1) (hostP_at ..)))

end Cert.MixBwdKernelIdeal.Mix

end
-- ==== Proof.Reduce.lean ====
/- A sum over the first and last axes of a four-axis array. -/
module

public import Idealize.ShloMosaic.Lib.Pointwise
public import Idealize.ShloMosaic.PureOps.Ideal.Laws

@[expose] public section

noncomputable section

namespace Cert.Tiles

open Idealize.ShloMosaic

variable {a b c d : Nat}

theorem outer_fiber (h : (⟨4, ![a, b, c, d]⟩ : Shape).ReducesTo [0, 3] ⟨2, ![b, c]⟩) (p : Fin b) (q : Fin c) (i : (⟨4, ![a, b, c, d]⟩ : Shape).Idx) :
    h.drop i = ix2 p q ↔ ∃ k : Fin a × Fin d, ix4 k.1 p q k.2 = i := by
  constructor
  · intro e
    refine ⟨(i 0, i 3), ?_⟩
    funext x; apply Fin.ext
    match x with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext x
    apply Fin.ext
    match x with
    | ⟨0, _⟩ => rfl
    | ⟨1, _⟩ => rfl

theorem reduce_outer (h : (⟨4, ![a, b, c, d]⟩ : Shape).ReducesTo [0, 3] ⟨2, ![b, c]⟩) (v : (⟨4, ![a, b, c, d]⟩ : Shape).Idx → EReal) (init : EReal)
    (p : Fin b) (q : Fin c) : Ideal.hostReduceAdd h v init (ix2 p q) = init + ∑ x : Fin a, ∑ y : Fin d, v (ix4 x p q y) :=
  congrArg (init + ·) <| (Finset.sum_filter_eq_sum_of_fiber _ (fun k : Fin a × Fin d => ix4 k.1 p q k.2)
    (fun _ _ e => Prod.ext (congrFun e 0) (congrFun e 3)) (outer_fiber h p q) v).trans (by simp only [Fintype.sum_prod_type])

end Cert.Tiles

end
-- ==== Proof.MixBwdRef.lean ====
/- The reference's arrays of the mixer's gradient, read at an element: the rows of `MixBwdSpec`. -/
module

public import proofs.«01_k».proof.Proof.MixLaw
public import proofs.«01_k».proof.Proof.MixBwdFin
public import proofs.«01_k».proof.Proof.Reduce
public import proofs.«01_k».proof.Proof.Gen.MixBwdReferenceIdeal.Read
public import Idealize.ShloMosaic.Lib.Pointwise
public import Idealize.ShloMosaic.PureOps.Ideal.Laws

@[expose] public section

set_option maxRecDepth 16384

noncomputable section

namespace Cert.MixBwdReferenceIdeal.Mix

open Cert.MixBwdReferenceIdeal Cert.MixBwdReferenceIdeal.Gen Cert.MixBwdReferenceIdeal.Read Cert.Ffn Cert.Mix
open Idealize.ShloMosaic Idealize.ShloMosaic.TcCoe Idealize.SL.Sem

/-- Row `r` of a matrix, and a weight's columns. -/
abbrev row {a b : Nat} (X : Shape.Idx ⟨2, ![a, b]⟩ → EReal) (r : Fin a) : Fin b → EReal := fun k => X (ix2 r k)
abbrev cols {a b : Nat} (w : Shape.Idx ⟨3, ![1, a, b]⟩ → EReal) : Fin b → Fin a → EReal := fun j k => w (ix3 0 k j)

theorem tiles : 128 ∣ 8192 := by decide

variable (x0 : FVec Ideal S8192x1024 .f32) (x1 x3 x4 x7 : FVec Ideal S1x1024 .f32) (x2 : FVec Ideal S1x1024x4624 .f32)
variable (x5 : FVec Ideal S1x8x128x128 .f32) (x6 : FVec Ideal S1x8x128 .f32) (x8 : FVec Ideal S8192x1024 .f32)
variable (x9 : FVec Ideal S8192x1024 .bf16) (x10 : FVec Ideal S8192x2688 .bf16)
variable (i : Fin 8192) (k : Fin 1024) (j : Fin 2048) (l : Fin 4624)

/-- The projection's first half, and the gating the reference's arrays hold. -/
def proj (r : Fin 8192) (j : Fin 2048) : EReal := dot (nrm (row x0 r) (row x1 0)) (cols x2 ⟨j.val, by omega⟩)
def gateR : Gate 8192 where
  U r k := act32 (proj x0 x1 x2 r ⟨k.val, by omega⟩)
  V r k := act32 (proj x0 x1 x2 r ⟨1024 + k.val, by omega⟩)
  ya r k := x9 (ix2 r k)
  go k := x7 (ix2 0 k)
  lg k := x3 (ix2 0 k)
  lb k := x4 (ix2 0 k)
  W h t s := x5 (ix4 0 h t s)
  B h t := x6 (ix3 0 h t)

theorem v8_at (q : Fin 1) : val_main_v8 (F := Ideal) x0 (ix2 i q) = rs (row x0 i) := by
  pointwise [val_main_v8, val_main_v7, val_main_v6, val_main_v5, val_main_v4, val_main_v3, val_main_v2, val_main_v1, val_main_cst,
    val_main_cst_0, val_main_cst_1]
  rfl

theorem v11_at (q : Fin 1) : val_main_v11 (F := Ideal) x0 (ix2 i q) = mhalf * Ideal.div (rs (row x0 i)) (ms (row x0 i)) := by
  pointwise [val_main_v11, val_main_v10, val_main_cst_2, val_main_v9, v8_at, val_main_v7, val_main_v6, val_main_v5, val_main_v4, val_main_v3, val_main_v2, val_main_v1, val_main_cst,
    val_main_cst_0, val_main_cst_1]
  rfl

theorem v13_at : val_main_v13 (F := Ideal) x0 (ix2 i k) = x0 (ix2 i k) * rs (row x0 i) := by
  pointwise [val_main_v13, val_main_v12, v8_at]

theorem v16_at : val_main_v16 (F := Ideal) x0 x1 (ix2 i k) = nrm (row x0 i) (row x1 0) k := by
  pointwise [val_main_v16, v13_at, val_main_v15, val_main_v14, val_main_v0]
  rfl

theorem v19_at : val_main_v19 (F := Ideal) x0 x1 x2 (ix2 i j) = proj x0 x1 x2 i j := by
  pointwise [val_main_v19, val_main_v18, val_main_v17, v16_at]
  rfl

theorem v24_at : val_main_v24 (F := Ideal) x0 x1 x2 (ix2 i j) = arg32 (proj x0 x1 x2 i j) := by
  pointwise [val_main_v24, val_main_v23, val_main_v22, val_main_cst_4, v19_at]
  rfl

theorem v29_at : val_main_v29 (F := Ideal) x0 x1 x2 (ix2 i j) = act32 (proj x0 x1 x2 i j) := by
  pointwise [val_main_v29, val_main_v25, val_main_v21, val_main_v20, val_main_cst_3, v24_at, v19_at]
  rfl

theorem v30_at : val_main_v30 (F := Ideal) x0 x1 x2 (ix2 i k) = (gateR x0 x1 x3 x4 x7 x2 x5 x6 x9).U i k := by
  pointwise [val_main_v30, v29_at]
  rfl

theorem v31_at : val_main_v31 (F := Ideal) x0 x1 x2 (ix2 i k) = (gateR x0 x1 x3 x4 x7 x2 x5 x6 x9).V i k := by
  pointwise [val_main_v31, v29_at]
  rfl

theorem v42_at : val_main_v42 (F := Ideal) x0 x1 x2 (ix2 i k) = dev ((gateR x0 x1 x3 x4 x7 x2 x5 x6 x9).V i) k := by
  pointwise [val_main_v42, val_main_v41, val_main_v40, val_main_v39, val_main_cst_6, val_main_v38, val_main_v37, val_main_cst_5,
    v31_at x0 x1 x3 x4 x7 x2 x5 x6 x9]
  rfl

theorem v50_at (q : Fin 1) : val_main_v50 (F := Ideal) x0 x1 x2 (ix2 i q) = rs (dev ((gateR x0 x1 x3 x4 x7 x2 x5 x6 x9).V i)) := by
  pointwise [val_main_v50, val_main_v49, val_main_v48, val_main_v47, val_main_v46, val_main_v45, val_main_v44, val_main_v43, val_main_cst_7,
    val_main_cst_8, val_main_cst_9, v42_at x0 x1 x3 x4 x7 x2 x5 x6 x9]
  rfl

theorem v53_at (q : Fin 1) : val_main_v53 (F := Ideal) x0 x1 x2 (ix2 i q)
    = mhalf * Ideal.div (rs (dev ((gateR x0 x1 x3 x4 x7 x2 x5 x6 x9).V i))) (ms (dev ((gateR x0 x1 x3 x4 x7 x2 x5 x6 x9).V i))) := by
  pointwise [val_main_v53, val_main_v52, val_main_cst_10, val_main_v51, v50_at x0 x1 x3 x4 x7 x2 x5 x6 x9, val_main_v49, val_main_v48, val_main_v47, val_main_v46, val_main_v45, val_main_v44, val_main_v43, val_main_cst_7,
    val_main_cst_8, val_main_cst_9, v42_at x0 x1 x3 x4 x7 x2 x5 x6 x9]
  rfl

theorem v55_at : val_main_v55 (F := Ideal) x0 x1 x2 (ix2 i k) = lnr ((gateR x0 x1 x3 x4 x7 x2 x5 x6 x9).V i) k := by
  pointwise [val_main_v55, val_main_v54, v42_at x0 x1 x3 x4 x7 x2 x5 x6 x9, v50_at x0 x1 x3 x4 x7 x2 x5 x6 x9]
  rfl

theorem v61_at : val_main_v61 (F := Ideal) x0 x1 x2 x3 x4 (ix2 i k) = (gateR x0 x1 x3 x4 x7 x2 x5 x6 x9).vn i k := by
  pointwise [val_main_v61, val_main_v60, val_main_v59, val_main_v58, val_main_v57, val_main_v56, val_main_v33, val_main_v32,
    v55_at x0 x1 x3 x4 x7 x2 x5 x6 x9]
  rfl

/-- The mask's bit, and the masked weights. -/
theorem v66_at (h : Fin 8) (t s : Fin 128) : val_main_v66_0 (F := Ideal) x5 (ix3 h t s) = if s ≤ t then x5 (ix4 0 h t s) else 0 := by
  pointwise [val_main_v66_0, val_main_v66_1, val_main_v64, val_main_call0_v5, val_main_call0_c_0, val_main_call0_v4, val_main_call0_v3,
    val_main_call0_v2, val_main_call0_v1, val_main_call0_v0, val_main_call0_c, val_main_v63, val_main_c, val_main_v65, val_main_cst_11, val_main_v34]
  exact mask_ge ..

/-- Rows laid out by tile and head. -/
theorem v62_at (a : Fin 64) (t q : Fin 128) (h : Fin 8) : val_main_v62 (F := Ideal) x0 x1 x2 x3 x4 (ix4 a t h q)
    = (gateR x0 x1 x3 x4 x7 x2 x5 x6 x9).vn ⟨a.val * 128 + t.val, by omega⟩ ⟨h.val * 128 + q.val, by omega⟩ := by
  pointwise [val_main_v62, v61_at x0 x1 x3 x4 x7 x2 x5 x6 x9]

theorem v72_at (a : Fin 64) (t q : Fin 128) (h : Fin 8) : val_main_v72 (F := Ideal) x0 x1 x2 x3 x4 x5 x6 (ix4 a t h q)
    = (∑ s : Fin 128, (gateR x0 x1 x3 x4 x7 x2 x5 x6 x9).vn ⟨a.val * 128 + s.val, by omega⟩ ⟨h.val * 128 + q.val, by omega⟩ * (if s ≤ t then x5 (ix4 0 h t s) else 0))
      + x6 (ix3 0 h t) := by
  pointwise [val_main_v72, val_main_v71, val_main_v70, val_main_v69, val_main_v68, val_main_v67, val_main_v35,
    v62_at x0 x1 x3 x4 x7 x2 x5 x6 x9, v66_at]

theorem v73_at : val_main_v73 (F := Ideal) x0 x1 x2 x3 x4 x5 x6 (ix2 i k) = (gateR x0 x1 x3 x4 x7 x2 x5 x6 x9).mx tiles i k := by
  have e : val_main_v73 (F := Ideal) x0 x1 x2 x3 x4 x5 x6 (ix2 i k)
      = val_main_v72 (F := Ideal) x0 x1 x2 x3 x4 x5 x6 (ix4 ⟨i.val / 128, by omega⟩ ⟨i.val % 128, by omega⟩ ⟨k.val / 128, by omega⟩ ⟨k.val % 128, by omega⟩) := by
    pointwise [val_main_v73]
  rw [e, v72_at x0 x1 x3 x4 x7 x2 x5 x6 x9]
  unfold Gate.mx mixed mix
  refine congrArg (· + _) (Finset.sum_congr rfl fun s _ => ?_)
  rw [mul_comm]
  have e : (⟨k.val / 128 * 128 + k.val % 128, by omega⟩ : Fin 1024) = k := Fin.ext (by show k.val / 128 * 128 + k.val % 128 = k.val; omega)
  rw [e]
  rfl

theorem v74_at : val_main_v74 (F := Ideal) x0 x1 x2 x3 x4 x5 x6 (ix2 i k) = (gateR x0 x1 x3 x4 x7 x2 x5 x6 x9).pre tiles i k := by
  pointwise [val_main_v74, v30_at x0 x1 x3 x4 x7 x2 x5 x6 x9, v73_at x0 x1 x3 x4 x7 x2 x5 x6 x9]
  rfl

theorem v82_at (q : Fin 1) : val_main_v82 (F := Ideal) x0 x1 x2 x3 x4 x5 x6 (ix2 i q) = rs ((gateR x0 x1 x3 x4 x7 x2 x5 x6 x9).pre tiles i) := by
  pointwise [val_main_v82, val_main_v81, val_main_v80, val_main_v79, val_main_v78, val_main_v77, val_main_v76, val_main_v75, val_main_cst_12,
    val_main_cst_13, val_main_cst_14, v74_at x0 x1 x3 x4 x7 x2 x5 x6 x9]
  rfl

theorem v85_at (q : Fin 1) : val_main_v85 (F := Ideal) x0 x1 x2 x3 x4 x5 x6 (ix2 i q)
    = mhalf * Ideal.div (rs ((gateR x0 x1 x3 x4 x7 x2 x5 x6 x9).pre tiles i)) (ms ((gateR x0 x1 x3 x4 x7 x2 x5 x6 x9).pre tiles i)) := by
  pointwise [val_main_v85, val_main_v84, val_main_cst_15, val_main_v83, v82_at x0 x1 x3 x4 x7 x2 x5 x6 x9, val_main_v81, val_main_v80, val_main_v79, val_main_v78, val_main_v77, val_main_v76, val_main_v75, val_main_cst_12,
    val_main_cst_13, val_main_cst_14, v74_at x0 x1 x3 x4 x7 x2 x5 x6 x9]
  rfl

theorem v92_at : val_main_v92 (F := Ideal) x0 x1 x2 x3 x4 x5 x6 x9 (ix2 i k) = (gateR x0 x1 x3 x4 x7 x2 x5 x6 x9).dgo tiles i k := by
  pointwise [val_main_v92, val_main_v91, val_main_v87, val_main_v86, v82_at x0 x1 x3 x4 x7 x2 x5 x6 x9, v74_at x0 x1 x3 x4 x7 x2 x5 x6 x9]
  rfl

theorem v198_at (q : Fin 1) : val_main_v198 (F := Ideal) x0 x1 x2 x3 x4 x5 x6 x9 (ix2 q k) = ∑ i, (gateR x0 x1 x3 x4 x7 x2 x5 x6 x9).dgo tiles i k := by
  pointwise [val_main_v198, val_main_v97, val_main_cst_17, val_main_v94, val_main_v93, val_main_cst_16, v92_at x0 x1 x3 x4 x7 x2 x5 x6 x9]
  simp only [Finset.univ_unique, Finset.sum_singleton]

theorem v96_at : val_main_v96 (F := Ideal) x7 x9 (ix2 i k) = (gateR x0 x1 x3 x4 x7 x2 x5 x6 x9).ya i k * (gateR x0 x1 x3 x4 x7 x2 x5 x6 x9).go k := by
  pointwise [val_main_v96, val_main_v91, val_main_v95, val_main_v88, val_main_v36]
  rfl

theorem v106_at : val_main_v106 (F := Ideal) x0 x1 x2 x3 x4 x5 x6 x7 x9 (ix1 i)
    = rmsT ((gateR x0 x1 x3 x4 x7 x2 x5 x6 x9).pre tiles i) (fun k => (gateR x0 x1 x3 x4 x7 x2 x5 x6 x9).ya i k * (gateR x0 x1 x3 x4 x7 x2 x5 x6 x9).go k) := by
  pointwise [val_main_v106, val_main_cst_20, val_main_v105, val_main_v104, val_main_cst_19, val_main_v103, val_main_v100, val_main_v99,
    val_main_cst_18, val_main_v98, v85_at x0 x1 x3 x4 x7 x2 x5 x6 x9, v74_at x0 x1 x3 x4 x7 x2 x5 x6 x9, v96_at x0 x1 x3 x4 x7 x2 x5 x6 x9]
  simp only [Finset.univ_unique, Finset.sum_singleton]
  rfl

theorem v111_at : val_main_v111 (F := Ideal) x0 x1 x2 x3 x4 x5 x6 x7 x9 (ix2 i k) = (gateR x0 x1 x3 x4 x7 x2 x5 x6 x9).dpre tiles i k := by
  pointwise [val_main_v111, val_main_v110, val_main_v109, val_main_v108, val_main_v107, val_main_v102, val_main_v101,
    v106_at, v82_at x0 x1 x3 x4 x7 x2 x5 x6 x9, v74_at x0 x1 x3 x4 x7 x2 x5 x6 x9, v96_at x0 x1 x3 x4 x7 x2 x5 x6 x9]
  rfl

theorem v112_at : val_main_v112 (F := Ideal) x0 x1 x2 x3 x4 x5 x6 x7 x9 (ix2 i k) = (gateR x0 x1 x3 x4 x7 x2 x5 x6 x9).dmx tiles i k := by
  pointwise [val_main_v112, v30_at x0 x1 x3 x4 x7 x2 x5 x6 x9, v111_at]
  exact mul_comm _ _

theorem v113_at : val_main_v113 (F := Ideal) x0 x1 x2 x3 x4 x5 x6 x7 x9 (ix2 i k) = (gateR x0 x1 x3 x4 x7 x2 x5 x6 x9).dug tiles i k := by
  pointwise [val_main_v113, v73_at x0 x1 x3 x4 x7 x2 x5 x6 x9, v111_at]
  rfl

theorem v114_at (a : Fin 64) (t q : Fin 128) (h : Fin 8) : val_main_v114 (F := Ideal) x0 x1 x2 x3 x4 x5 x6 x7 x9 (ix4 a t h q)
    = (gateR x0 x1 x3 x4 x7 x2 x5 x6 x9).dmx tiles ⟨a.val * 128 + t.val, by omega⟩ ⟨h.val * 128 + q.val, by omega⟩ := by
  pointwise [val_main_v114, v112_at]

theorem v123_at (h : Fin 8) (t s : Fin 128) : val_main_v123 (F := Ideal) x0 x1 x2 x3 x4 x5 x6 x7 x9 (ix3 h t s)
    = if s ≤ t then ∑ a : Fin 64, (gateR x0 x1 x3 x4 x7 x2 x5 x6 x9).dW tiles a h t s else 0 := by
  have e : val_main_v120 (F := Ideal) x0 x1 x2 x3 x4 x5 x6 x7 x9 (ix3 h t s) = ∑ a : Fin 64, (gateR x0 x1 x3 x4 x7 x2 x5 x6 x9).dW tiles a h t s := by
    pointwise [val_main_v120, val_main_v119, v114_at, v62_at x0 x1 x3 x4 x7 x2 x5 x6 x9]
    rfl
  pointwise [val_main_v123, val_main_call2_v0, val_main_call2_cst, val_main_v66_1, val_main_v64, val_main_call0_v5, val_main_call0_c_0, val_main_call0_v4, val_main_call0_v3,
    val_main_call0_v2, val_main_call0_v1, val_main_call0_v0, val_main_call0_c, val_main_v63, val_main_c, e]
  exact mask_ge ..

theorem v197_at (t : Fin 128) (h : Fin 8) : val_main_v197 (F := Ideal) x0 x1 x2 x3 x4 x5 x6 x7 x9 (ix2 t h) = ∑ a : Fin 64, (gateR x0 x1 x3 x4 x7 x2 x5 x6 x9).dB tiles a t h := by
  have e (t : Fin 128) (h : Fin 8) : val_main_v115 (F := Ideal) x0 x1 x2 x3 x4 x5 x6 x7 x9 (ix2 t h) = ∑ a : Fin 64, (gateR x0 x1 x3 x4 x7 x2 x5 x6 x9).dB tiles a t h := by
    unfold val_main_v115
    refine (Tiles.reduce_outer reducesTo_S64x128x8x128_S128x8_d0_3 _ _ t h).trans ?_
    pointwise [val_main_cst_21, v114_at]
    rfl
  have e' (q : Fin 1) (t : Fin 128) (h : Fin 8) (q' : Fin 1) : val_main_v116 (F := Ideal) x0 x1 x2 x3 x4 x5 x6 x7 x9 (ix4 q t h q') = ∑ a : Fin 64, (gateR x0 x1 x3 x4 x7 x2 x5 x6 x9).dB tiles a t h := by
    pointwise [val_main_v116, e]
  have e'' : val_main_v117 (F := Ideal) x0 x1 x2 x3 x4 x5 x6 x7 x9 (ix2 t h) = ∑ a : Fin 64, (gateR x0 x1 x3 x4 x7 x2 x5 x6 x9).dB tiles a t h := by
    unfold val_main_v117
    refine (Tiles.reduce_outer reducesTo_S1x128x8x1_S128x8_d0_3 _ _ t h).trans ?_
    pointwise [val_main_cst_22]
    simp only [Finset.univ_unique, Finset.sum_singleton, e']
  pointwise [val_main_v197, val_main_v118, e'']

theorem v121_at (h : Fin 8) (a : Fin 64) (q s : Fin 128) : val_main_v121 (F := Ideal) x0 x1 x2 x3 x4 x5 x6 x7 x9 (ix4 h a q s)
    = ∑ t : Fin 128, (gateR x0 x1 x3 x4 x7 x2 x5 x6 x9).dmx tiles ⟨a.val * 128 + t.val, by omega⟩ ⟨h.val * 128 + q.val, by omega⟩ * (if s ≤ t then x5 (ix4 0 h t s) else 0) := by
  pointwise [val_main_v121, val_main_v119, v114_at, v66_at]

theorem v124_at : val_main_v124 (F := Ideal) x0 x1 x2 x3 x4 x5 x6 x7 x9 (ix2 i k) = (gateR x0 x1 x3 x4 x7 x2 x5 x6 x9).dvn tiles i k := by
  pointwise [val_main_v124, val_main_v122, v121_at]
  unfold Gate.dvn
  refine Finset.sum_congr rfl fun t _ => ?_
  rw [mul_comm]
  have e : (⟨k.val / 128 * 128 + k.val % 128, by omega⟩ : Fin 1024) = k := Fin.ext (by show k.val / 128 * 128 + k.val % 128 = k.val; omega)
  rw [e]
  rfl

theorem v196_at (q : Fin 1) : val_main_v196 (F := Ideal) x0 x1 x2 x3 x4 x5 x6 x7 x9 (ix2 q k) = ∑ i, (gateR x0 x1 x3 x4 x7 x2 x5 x6 x9).dvn tiles i k := by
  pointwise [val_main_v196, val_main_v127, val_main_cst_24, val_main_v126, val_main_v125, val_main_cst_23, v124_at]
  simp only [Finset.univ_unique, Finset.sum_singleton]

theorem v195_at (q : Fin 1) : val_main_v195 (F := Ideal) x0 x1 x2 x3 x4 x5 x6 x7 x9 (ix2 q k) = ∑ i, (gateR x0 x1 x3 x4 x7 x2 x5 x6 x9).dlg tiles i k := by
  pointwise [val_main_v195, val_main_v133, val_main_cst_26, val_main_v130, val_main_v129, val_main_cst_25, val_main_v128, v124_at,
    v55_at x0 x1 x3 x4 x7 x2 x5 x6 x9]
  simp only [Finset.univ_unique, Finset.sum_singleton]
  rfl

theorem v132_at : val_main_v132 (F := Ideal) x0 x1 x2 x3 x4 x5 x6 x7 x9 (ix2 i k) = (gateR x0 x1 x3 x4 x7 x2 x5 x6 x9).dvn tiles i k * (gateR x0 x1 x3 x4 x7 x2 x5 x6 x9).lg k := by
  pointwise [val_main_v132, val_main_v131, val_main_v56, val_main_v32, v124_at]
  rfl

theorem v142_at : val_main_v142 (F := Ideal) x0 x1 x2 x3 x4 x5 x6 x7 x9 (ix1 i)
    = rmsT (dev ((gateR x0 x1 x3 x4 x7 x2 x5 x6 x9).V i)) (fun k => (gateR x0 x1 x3 x4 x7 x2 x5 x6 x9).dvn tiles i k * (gateR x0 x1 x3 x4 x7 x2 x5 x6 x9).lg k) := by
  pointwise [val_main_v142, val_main_cst_29, val_main_v141, val_main_v140, val_main_cst_28, val_main_v139, val_main_v136, val_main_v135,
    val_main_cst_27, val_main_v134, v53_at x0 x1 x3 x4 x7 x2 x5 x6 x9, v42_at x0 x1 x3 x4 x7 x2 x5 x6 x9, v132_at]
  simp only [Finset.univ_unique, Finset.sum_singleton]
  rfl

theorem v147_at : val_main_v147 (F := Ideal) x0 x1 x2 x3 x4 x5 x6 x7 x9 (ix2 i k)
    = rmsDx (dev ((gateR x0 x1 x3 x4 x7 x2 x5 x6 x9).V i)) (fun k => (gateR x0 x1 x3 x4 x7 x2 x5 x6 x9).dvn tiles i k * (gateR x0 x1 x3 x4 x7 x2 x5 x6 x9).lg k) k := by
  pointwise [val_main_v147, val_main_v146, val_main_v145, val_main_v144, val_main_v143, val_main_v138, val_main_v137,
    v142_at, v50_at x0 x1 x3 x4 x7 x2 x5 x6 x9, v42_at x0 x1 x3 x4 x7 x2 x5 x6 x9, v132_at]
  rfl

theorem v155_at : val_main_v155 (F := Ideal) x0 x1 x2 x3 x4 x5 x6 x7 x9 (ix2 i k) = (gateR x0 x1 x3 x4 x7 x2 x5 x6 x9).dvg tiles i k := by
  pointwise [val_main_v155, val_main_v154, val_main_v153, val_main_cst_32, val_main_v152, val_main_v151, val_main_cst_31, val_main_v150, val_main_v149,
    val_main_cst_30, val_main_v148, v147_at]
  simp only [Finset.univ_unique, Finset.sum_singleton]
  rfl

theorem v156_at : val_main_v156 (F := Ideal) x0 x1 x2 x3 x4 x5 x6 x7 x9 (ix2 i j) = (gateR x0 x1 x3 x4 x7 x2 x5 x6 x9).dact tiles i j := by
  pointwise [val_main_v156, v113_at, v155_at]
  rfl

theorem v167_at : val_main_v167 (F := Ideal) x0 x1 x2 x3 x4 x5 x6 x7 x9 (ix2 i j) = dgel (proj x0 x1 x2 i j) ((gateR x0 x1 x3 x4 x7 x2 x5 x6 x9).dact tiles i j) := by
  pointwise [val_main_v167, val_main_v166, val_main_v165, val_main_cst_35, val_main_v164, val_main_v163, val_main_v162, val_main_cst_34, val_main_v161,
    val_main_v160, val_main_v159, val_main_cst_33, val_main_v158, val_main_v157, val_main_v28, val_main_v27, val_main_v26, val_main_v25,
    val_main_v21, val_main_v20, val_main_cst_3, v19_at, v24_at, v156_at]
  rfl

/-- The normed rows' cotangent. -/
def dnR (r : Fin 8192) (k : Fin 1024) : EReal :=
  (∑ j : Fin 2048, dgel (proj x0 x1 x2 r j) ((gateR x0 x1 x3 x4 x7 x2 x5 x6 x9).dact tiles r j) * x2 (ix3 0 k ⟨j.val, by omega⟩))
    + ∑ l : Fin 2576, x10 (ix2 r ⟨l.val, by omega⟩) * x2 (ix3 0 k ⟨2048 + l.val, by omega⟩)

theorem v171_at : val_main_v171 (F := Ideal) x0 x1 x2 x3 x4 x5 x6 x7 x9 x10 (ix2 i k) = dnR x0 x1 x3 x4 x7 x2 x5 x6 x9 x10 i k := by
  pointwise [val_main_v171, val_main_v170, val_main_v169, val_main_v168, val_main_v17, v167_at]
  rfl

theorem v194_at (q : Fin 1) : val_main_v194 (F := Ideal) x0 x1 x2 x3 x4 x5 x6 x7 x9 x10 (ix2 q k)
    = ∑ i, x0 (ix2 i k) * rs (row x0 i) * dnR x0 x1 x3 x4 x7 x2 x5 x6 x9 x10 i k := by
  pointwise [val_main_v194, val_main_v177, val_main_cst_37, val_main_v174, val_main_v173, val_main_cst_36, val_main_v172, v13_at, v171_at]
  simp only [Finset.univ_unique, Finset.sum_singleton]

theorem v176_at : val_main_v176 (F := Ideal) x0 x1 x2 x3 x4 x5 x6 x7 x9 x10 (ix2 i k) = dnR x0 x1 x3 x4 x7 x2 x5 x6 x9 x10 i k * x1 (ix2 0 k) := by
  pointwise [val_main_v176, val_main_v175, val_main_v14, val_main_v0, v171_at]

theorem v186_at : val_main_v186 (F := Ideal) x0 x1 x2 x3 x4 x5 x6 x7 x9 x10 (ix1 i)
    = rmsT (row x0 i) (fun k => dnR x0 x1 x3 x4 x7 x2 x5 x6 x9 x10 i k * x1 (ix2 0 k)) := by
  pointwise [val_main_v186, val_main_cst_40, val_main_v185, val_main_v184, val_main_cst_39, val_main_v183, val_main_v180, val_main_v179,
    val_main_cst_38, val_main_v178, v11_at, v176_at]
  simp only [Finset.univ_unique, Finset.sum_singleton]
  rfl

theorem v192_at : val_main_v192 (F := Ideal) x0 x1 x2 x3 x4 x5 x6 x7 x8 x9 x10 (ix2 i k)
    = x8 (ix2 i k) + rmsDx (row x0 i) (fun k => dnR x0 x1 x3 x4 x7 x2 x5 x6 x9 x10 i k * x1 (ix2 0 k)) k := by
  pointwise [val_main_v192, val_main_v191, val_main_v190, val_main_v189, val_main_v188, val_main_v187, val_main_v182, val_main_v181,
    v186_at, v8_at, v176_at]
  rfl

theorem v193_at : val_main_v193 (F := Ideal) x0 x1 x2 x3 x4 x5 x6 x7 x9 (ix2 i j) = dgel (proj x0 x1 x2 i j) ((gateR x0 x1 x3 x4 x7 x2 x5 x6 x9).dact tiles i j) := by
  pointwise [val_main_v193, v167_at]

end Cert.MixBwdReferenceIdeal.Mix

end
-- ==== Proof.MixBwdClaim.lean ====
/- The claim about the mixer's backward call: where the arguments are finite, both idealized programs end at the same
   eight arrays. -/
module

public import proofs.«01_k».proof.Defs
public import proofs.«01_k».proof.Proof.FfnFin
public import proofs.«01_k».proof.Proof.MixBwdFrames
public import proofs.«01_k».proof.Proof.MixBwdArr
public import proofs.«01_k».proof.Proof.MixBwdHost
public import proofs.«01_k».proof.Proof.MixBwdRef
public import proofs.«01_k».proof.Proof.Gen.Pre_mixb_finite

@[expose] public section

set_option maxRecDepth 16384

noncomputable section

namespace Cert.MixBwd

open Idealize.ShloMosaic Idealize.ShloMosaic.TcCoe Idealize.SL.Sem Cert.Ffn Cert.Mix
open Cert.MixBwdKernelIdeal (S8192x1024 S8192x2048 S8x128x128 S128x8 S1x1024)
open Cert.MixBwdKernelIdeal.Mix hiding row gate_U gate_V gate_ya gate_go gate_lg gate_lb gate_W gate_B
open Cert.MixBwdReferenceIdeal.Mix hiding tiles

section Ends

open Cert.MixBwdKernelIdeal Cert.MixBwdKernelIdeal.Gen Cert.MixBwdKernelIdeal.Hand

variable (m : (ℓ : Loc nD τ sig) → Buf (Elt Ideal) ℓ) (c : Dev nD) (r : PUnit × MemSt nD τ sig (Elt Ideal))
variable (h : Pipeline.FramePost cfgs (dats (F := Ideal) m) 0 (V m) r)

include h

/-- Where the kernel's results end. -/
theorem end_0 : r.2.mem ((c : Thread nD τ).loc main_v50_0) = dhArr m c := Eq.trans (b := (dats (F := Ideal) m 0 c).arrAt 14 cfg0.N) ((h c).1 14) (final_14 m c)
theorem end_1 : r.2.mem ((c : Thread nD τ).loc main_v50_1) = duvArr m c := Eq.trans (b := (dats (F := Ideal) m 0 c).arrAt 15 cfg0.N) ((h c).1 15) (final_15 m c)
theorem end_2 : r.2.mem ((c : Thread nD τ).loc main_v50_2) = dgArr m c := Eq.trans (b := (dats (F := Ideal) m 0 c).arrAt 16 cfg0.N) ((h c).1 16) (final_16 m c)
theorem end_3 : r.2.mem ((c : Thread nD τ).loc main_v50_3) = dlngArr m c := Eq.trans (b := (dats (F := Ideal) m 0 c).arrAt 17 cfg0.N) ((h c).1 17) (final_17 m c)
theorem end_4 : r.2.mem ((c : Thread nD τ).loc main_v50_4) = dlnbArr m c := Eq.trans (b := (dats (F := Ideal) m 0 c).arrAt 18 cfg0.N) ((h c).1 18) (final_18 m c)
theorem end_5 : r.2.mem ((c : Thread nD τ).loc main_v50_5) = dwsArr m c := Eq.trans (b := (dats (F := Ideal) m 0 c).arrAt 19 cfg0.N) ((h c).1 19) (final_19 m c)
theorem end_6 : r.2.mem ((c : Thread nD τ).loc main_v50_6) = dbstArr m c := Eq.trans (b := (dats (F := Ideal) m 0 c).arrAt 20 cfg0.N) ((h c).1 20) (final_20 m c)
theorem end_7 : r.2.mem ((c : Thread nD τ).loc main_v50_7) = dgoutArr m c := Eq.trans (b := (dats (F := Ideal) m 0 c).arrAt 21 cfg0.N) ((h c).1 21) (final_21 m c)

end Ends

section Values

variable (m : (ℓ : Loc MixBwdKernelIdeal.nD MixBwdKernelIdeal.τ MixBwdKernelIdeal.sig) → Buf (Elt Ideal) ℓ)
variable (ρ : Dev MixBwdKernelIdeal.nD → PrngReg) (c : Dev MixBwdKernelIdeal.nD)

/-- What the precondition says of a device's arguments. -/
theorem pre_real (h : Cert.Pre_MixBwdKernelIdeal_mixb_finite m) : (∀ i, IsReal (aX m c i)) ∧ (∀ i, IsReal (aG m c i))
    ∧ (∀ i, IsReal (aW m c i)) ∧ (∀ i, IsReal (aLg m c i)) ∧ (∀ i, IsReal (aLb m c i)) ∧ (∀ i, IsReal (aWs m c i))
    ∧ (∀ i, IsReal (aBs m c i)) ∧ (∀ i, IsReal (aGo m c i)) ∧ ∀ i, IsReal (aYa m c i) := by
  have e := congrFun (h c) (fun a => a.elim0)
  obtain ⟨e, e8⟩ := IntOp.andi_eq_one.mp e
  obtain ⟨e, e7⟩ := IntOp.andi_eq_one.mp e
  obtain ⟨e, e6⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨IsReal.of_all _ _ _ _ _ _ _ e0, IsReal.of_all _ _ _ _ _ _ _ e1, IsReal.of_all _ _ _ _ _ _ _ e2, IsReal.of_all _ _ _ _ _ _ _ e3,
    IsReal.of_all _ _ _ _ _ _ _ e4, IsReal.of_all _ _ _ _ _ _ _ e5, IsReal.of_all _ _ _ _ _ _ _ e6, IsReal.of_all _ _ _ _ _ _ _ e7,
    IsReal.of_all _ _ _ _ _ _ _ e8⟩

/-- The gating of the reference at the kernel's arguments. -/
abbrev gt : Gate 8192 := gateR (aX m c) (aG m c) (aLg m c) (aLb m c) (aGo m c) (aW m c) (aWs m c) (aBs m c) (aYa m c)
abbrev pj (r : Fin 8192) (j : Fin 2048) : EReal := proj (aX m c) (aG m c) (aW m c) r j

theorem gate_U (r : Fin 8192) (k : Fin 1024) : (gateA m c).U r k = (gt m c).U r k := V_act m c r ⟨k.val, by omega⟩
theorem gate_V (r : Fin 8192) (k : Fin 1024) : (gateA m c).V r k = (gt m c).V r k := V_act m c r ⟨1024 + k.val, by omega⟩
theorem gate_ya (r : Fin 8192) (k : Fin 1024) : (gateA m c).ya r k = (gt m c).ya r k :=
  congrFun (MixBwdKernelIdeal.Gen.V_main_arg9 m c) (ix2 r k)
theorem gate_go (k : Fin 1024) : (gateA m c).go k = (gt m c).go k := congrFun (MixBwdKernelIdeal.Gen.V_main_arg7 m c) (ix2 0 k)
theorem gate_lg (k : Fin 1024) : (gateA m c).lg k = (gt m c).lg k := congrFun (MixBwdKernelIdeal.Gen.V_main_arg3 m c) (ix2 0 k)
theorem gate_lb (k : Fin 1024) : (gateA m c).lb k = (gt m c).lb k := congrFun (MixBwdKernelIdeal.Gen.V_main_arg4 m c) (ix2 0 k)
theorem gate_W (q : Fin 8) (t s : Fin 128) : (gateA m c).W q t s = (gt m c).W q t s := V_ws m c q t s
theorem gate_B (q : Fin 8) (t : Fin 128) : (gateA m c).B q t = (gt m c).B q t := V_bs m c t q
theorem gate_eq : gateA m c = gt m c :=
  gate_ext (gate_U m c) (gate_V m c) (gate_ya m c) (gate_go m c) (gate_lg m c) (gate_lb m c) (gate_W m c) (gate_B m c)

variable (h : Cert.Pre_MixBwdKernelIdeal_mixb_finite m)

include h

theorem pj_real (r : Fin 8192) (j : Fin 2048) : IsReal (pj m c r j) := by
  obtain ⟨hx, hg, hw, -⟩ := pre_real m c h
  exact dot_real (nrm_real (fun _ => hx _) (fun _ => hg _)) (fun _ => hw _)

theorem gt_real : (gt m c).Real := by
  obtain ⟨-, -, -, hlg, hlb, hws, hbs, hgo, hya⟩ := pre_real m c h
  exact ⟨fun r k => act32_real (pj_real m c h r _), fun r k => act32_real (pj_real m c h r _), fun _ _ => hya _, fun _ => hgo _,
    fun _ => hlg _, fun _ => hlb _, fun _ _ _ => hws _, fun _ _ => hbs _⟩

theorem duv_eq (r : Fin 8192) (j : Fin 2048) : (gateA m c).dact tiles r j * slopeA m c (ix2 r j)
    = dgel (pj m c r j) ((gt m c).dact tiles r j) := by
  rw [gate_eq, V_slope]
  exact dgel_one (pj_real m c h r j) ((gt_real m c h).dact r j)

/-- The columns the kernel pads meet zeros. -/
theorem tail_eq (r : Fin 8192) (k : Fin 1024) : ∑ l : Fin 2688, zxA m c (ix2 r l) * wzA m c (ix2 l k)
    = ∑ l : Fin 2576, aZx m c (ix2 r ⟨l.val, by omega⟩) * aW m c (ix3 0 k ⟨2048 + l.val, by omega⟩) := by
  rw [show zxA m c = aZx m c from MixBwdKernelIdeal.Gen.V_main_arg10 m c]
  refine (Fin.sum_univ_add (a := 2576) (b := 112) fun l : Fin 2688 => aZx m c (ix2 r l) * wzA m c (ix2 l k)).trans ?_
  have z (l : Fin 112) : aZx m c (ix2 r (Fin.natAdd 2576 l)) * wzA m c (ix2 (Fin.natAdd 2576 l) k) = 0 := by
    rw [V_wz, dif_neg (by show ¬ 2576 + l.val < 2576; omega), mul_zero]
  rw [Finset.sum_eq_zero fun l _ => z l, add_zero]
  refine Finset.sum_congr rfl fun l _ => ?_
  rw [V_wz, dif_pos (by show l.val < 2576; omega)]
  rfl

theorem dn_eq (r : Fin 8192) (k : Fin 1024) : dnA m c r k
    = dnR (aX m c) (aG m c) (aLg m c) (aLb m c) (aGo m c) (aW m c) (aWs m c) (aBs m c) (aYa m c) (aZx m c) r k := by
  rw [dnA, tail_eq m c h, add_comm]
  refine congrArg (· + _) (Finset.sum_congr rfl fun j _ => ?_)
  rw [duv_eq m c h, V_wu]

theorem ref_dh : MixBwdReferenceIdeal.Read.val_main_v192 (F := Ideal) (aX m c) (aG m c) (aW m c) (aLg m c) (aLb m c) (aWs m c) (aBs m c)
    (aGo m c) (aCt m c) (aYa m c) (aZx m c) = dhArr m c := by
  funext i
  obtain ⟨r, k, rfl⟩ : ∃ (r : Fin 8192) (k : Fin 1024), i = (ix2 r k : S8192x1024.Idx) := ⟨i 0, i 1, eq_ix2 i⟩
  refine (v192_at ..).trans ?_
  show _ = ctA m c (ix2 r k) + rmsDx (fun k => hA m c (ix2 r k)) (fun k => dnA m c r k * gA m c (ix2 0 k)) k
  simp only [dn_eq m c h]
  rw [show ctA m c = aCt m c from MixBwdKernelIdeal.Gen.V_main_arg8 m c, show hA m c = aX m c from MixBwdKernelIdeal.Gen.V_main_arg0 m c,
    show gA m c = aG m c from MixBwdKernelIdeal.Gen.V_main_arg1 m c]

theorem ref_duv : MixBwdReferenceIdeal.Read.val_main_v193 (F := Ideal) (aX m c) (aG m c) (aW m c) (aLg m c) (aLb m c) (aWs m c) (aBs m c)
    (aGo m c) (aYa m c) = duvArr m c := by
  funext i
  obtain ⟨r, k, rfl⟩ : ∃ (r : Fin 8192) (k : Fin 2048), i = (ix2 r k : S8192x2048.Idx) := ⟨i 0, i 1, eq_ix2 i⟩
  exact (v193_at ..).trans (duv_eq m c h r k).symm

theorem ref_dg : MixBwdReferenceIdeal.Read.val_main_v194 (F := Ideal) (aX m c) (aG m c) (aW m c) (aLg m c) (aLb m c) (aWs m c) (aBs m c)
    (aGo m c) (aYa m c) (aZx m c) = dgArr m c := by
  funext i
  obtain ⟨q, k, rfl⟩ : ∃ (q : Fin 1) (k : Fin 1024), i = (ix2 q k : S1x1024.Idx) := ⟨i 0, i 1, eq_ix2 i⟩
  refine (v194_at ..).trans ?_
  show _ = ∑ r : Fin 8192, hA m c (ix2 r k) * rs (fun k => hA m c (ix2 r k)) * dnA m c r k
  simp only [dn_eq m c h]
  rw [show hA m c = aX m c from MixBwdKernelIdeal.Gen.V_main_arg0 m c]

omit h

theorem ref_dlng : MixBwdReferenceIdeal.Read.val_main_v195 (F := Ideal) (aX m c) (aG m c) (aW m c) (aLg m c) (aLb m c) (aWs m c) (aBs m c)
    (aGo m c) (aYa m c) = dlngArr m c := by
  funext i
  obtain ⟨q, k, rfl⟩ : ∃ (q : Fin 1) (k : Fin 1024), i = (ix2 q k : S1x1024.Idx) := ⟨i 0, i 1, eq_ix2 i⟩
  refine (v195_at ..).trans ?_
  show _ = ∑ r : Fin 8192, (gateA m c).dlg tiles r k
  rw [gate_eq]

theorem ref_dlnb : MixBwdReferenceIdeal.Read.val_main_v196 (F := Ideal) (aX m c) (aG m c) (aW m c) (aLg m c) (aLb m c) (aWs m c) (aBs m c)
    (aGo m c) (aYa m c) = dlnbArr m c := by
  funext i
  obtain ⟨q, k, rfl⟩ : ∃ (q : Fin 1) (k : Fin 1024), i = (ix2 q k : S1x1024.Idx) := ⟨i 0, i 1, eq_ix2 i⟩
  refine (v196_at ..).trans ?_
  show _ = ∑ r : Fin 8192, (gateA m c).dvn tiles r k
  rw [gate_eq]

theorem ref_dws : MixBwdReferenceIdeal.Read.val_main_v123 (F := Ideal) (aX m c) (aG m c) (aW m c) (aLg m c) (aLb m c) (aWs m c) (aBs m c)
    (aGo m c) (aYa m c) = dwsArr m c := by
  funext i
  obtain ⟨q, t, s, rfl⟩ : ∃ (q : Fin 8) (t s : Fin 128), i = (ix3 q t s : S8x128x128.Idx) := ⟨i 0, i 1, i 2, eq_ix3 i⟩
  refine (v123_at ..).trans ?_
  show _ = if s ≤ t then ∑ a : Fin 64, (gateA m c).dW tiles a q t s else 0
  rw [gate_eq]

theorem ref_dbst : MixBwdReferenceIdeal.Read.val_main_v197 (F := Ideal) (aX m c) (aG m c) (aW m c) (aLg m c) (aLb m c) (aWs m c) (aBs m c)
    (aGo m c) (aYa m c) = dbstArr m c := by
  funext i
  obtain ⟨t, q, rfl⟩ : ∃ (t : Fin 128) (q : Fin 8), i = (ix2 t q : S128x8.Idx) := ⟨i 0, i 1, eq_ix2 i⟩
  refine (v197_at ..).trans ?_
  show _ = ∑ a : Fin 64, (gateA m c).dB tiles a t q
  rw [gate_eq]

theorem ref_dgout : MixBwdReferenceIdeal.Read.val_main_v198 (F := Ideal) (aX m c) (aG m c) (aW m c) (aLg m c) (aLb m c) (aWs m c) (aBs m c)
    (aYa m c) = dgoutArr m c := by
  funext i
  obtain ⟨q, k, rfl⟩ : ∃ (q : Fin 1) (k : Fin 1024), i = (ix2 q k : S1x1024.Idx) := ⟨i 0, i 1, eq_ix2 i⟩
  refine (v198_at (x7 := aGo m c) ..).trans ?_
  show _ = ∑ r : Fin 8192, (gateA m c).dgo tiles r k
  rw [gate_eq]

end Values

/-- Both programs end at the same arrays. -/
theorem value : Cert.algebraic_MixBwdKernelIdeal_MixBwdReferenceIdeal_pre_mixb_finite := fun m ρ m' ρ' hp hag =>
  ⟨dhArr m, duvArr m, dgArr m, dlngArr m, dlnbArr m, dwsArr m, dbstArr m, dgoutArr m,
    (θ_run _ _ _).mono (fun r h c => ⟨end_0 m c r h.1.1, end_1 m c r h.1.1, end_2 m c r h.1.1, end_3 m c r h.1.1, end_4 m c r h.1.1,
        end_5 m c r h.1.1, end_6 m c r h.1.1, end_7 m c r h.1.1, h.2.1 c⟩)
      (θ_run_and (MixBwdKernelIdeal.Hand.run_all (F := Ideal) m ρ) (MixBwdKernelIdeal.Hand.frame (F := Ideal) m ρ)),
    (θ_run _ _ _).mono (fun _ h c => by
      obtain ⟨h0, h1, h2, h3, h4, h5, h6, h7, ha⟩ := h c
      obtain ⟨b0, b1, b2, b3, b4, b5, b6, b7, b8, b9, b10⟩ := hag c
      have a0 : StableHlo.launchContents m' c (Proc.devRef .tc MixBwdReferenceIdeal.main_arg0) = aX m c := b0
      have a1 : StableHlo.launchContents m' c (Proc.devRef .tc MixBwdReferenceIdeal.main_arg1) = aG m c := b1
      have a2 : StableHlo.launchContents m' c (Proc.devRef .tc MixBwdReferenceIdeal.main_arg2) = aW m c := b2
      have a3 : StableHlo.launchContents m' c (Proc.devRef .tc MixBwdReferenceIdeal.main_arg3) = aLg m c := b3
      have a4 : StableHlo.launchContents m' c (Proc.devRef .tc MixBwdReferenceIdeal.main_arg4) = aLb m c := b4
      have a5 : StableHlo.launchContents m' c (Proc.devRef .tc MixBwdReferenceIdeal.main_arg5) = aWs m c := b5
      have a6 : StableHlo.launchContents m' c (Proc.devRef .tc MixBwdReferenceIdeal.main_arg6) = aBs m c := b6
      have a7 : StableHlo.launchContents m' c (Proc.devRef .tc MixBwdReferenceIdeal.main_arg7) = aGo m c := b7
      have a8 : StableHlo.launchContents m' c (Proc.devRef .tc MixBwdReferenceIdeal.main_arg8) = aCt m c := b8
      have a9 : StableHlo.launchContents m' c (Proc.devRef .tc MixBwdReferenceIdeal.main_arg9) = aYa m c := b9
      have a10 : StableHlo.launchContents m' c (Proc.devRef .tc MixBwdReferenceIdeal.main_arg10) = aZx m c := b10
      refine ⟨h0.trans ?_, h1.trans ?_, h2.trans ?_, h3.trans ?_, h4.trans ?_, h5.trans ?_, h6.trans ?_, h7.trans ?_, ha⟩
      · rw [MixBwdReferenceIdeal.Read.val_main_v192_eq, a0, a1, a2, a3, a4, a5, a6, a7, a8, a9, a10]; exact ref_dh m c hp
      · rw [MixBwdReferenceIdeal.Read.val_main_v193_eq, a0, a1, a2, a3, a4, a5, a6, a7, a9]; exact ref_duv m c hp
      · rw [MixBwdReferenceIdeal.Read.val_main_v194_eq, a0, a1, a2, a3, a4, a5, a6, a7, a9, a10]; exact ref_dg m c hp
      · rw [MixBwdReferenceIdeal.Read.val_main_v195_eq, a0, a1, a2, a3, a4, a5, a6, a7, a9]; exact ref_dlng m c
      · rw [MixBwdReferenceIdeal.Read.val_main_v196_eq, a0, a1, a2, a3, a4, a5, a6, a7, a9]; exact ref_dlnb m c
      · rw [MixBwdReferenceIdeal.Read.val_main_v123_eq, a0, a1, a2, a3, a4, a5, a6, a7, a9]; exact ref_dws m c
      · rw [MixBwdReferenceIdeal.Read.val_main_v197_eq, a0, a1, a2, a3, a4, a5, a6, a7, a9]; exact ref_dbst m c
      · rw [MixBwdReferenceIdeal.Read.val_main_v198_eq, a0, a1, a2, a3, a4, a5, a6, a9]; exact ref_dgout m c)
      (Cert.MixBwdReferenceIdeal.Value.run (F := Ideal) m' ρ')⟩

end Cert.MixBwd

end
-- ==== Proof.Ffn2Run.lean ====
/- The whole run of the second half-step's two calls, named buffer by buffer: every buffer of a core that outlives the run ends at
   the contents the chain of boundaries `W3` names. The frame states this of the arguments alone; the value proof
   reads the results off the same run. -/
module

public import proofs.«01_k».proof.Proof.Gen.Ffn2KernelIdeal.Frame

@[expose] public section

set_option maxRecDepth 16384

noncomputable section

namespace Cert.Ffn2KernelIdeal.Ffn2

open Cert.Ffn2KernelIdeal Cert.Ffn2KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer outside the scoped ones ends at its contents at the last boundary, and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W3 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

end Cert.Ffn2KernelIdeal.Ffn2

end
-- ==== Proof.Ffn2Pay.lean ====
/- What the second half-step's two calls store, read at an element of a block. The forward call first adds the mixed
   halves' projections to the residual row; the backward call ends with the projections' cotangents. -/
module

public import proofs.«01_k».proof.Proof.FfnBwd
public import proofs.«01_k».proof.Proof.Gen.Ffn2KernelIdeal.Skeleton

@[expose] public section

set_option maxRecDepth 16384

noncomputable section

namespace Cert.Ffn2

open Idealize.ShloMosaic

/-- A row plus the two mixed halves against the columns of their halves of the projection. -/
def mixed (h ya yb : Fin 1024 → EReal) (w0 w1 : Fin 1024 → Fin 1024 → EReal) (k : Fin 1024) : EReal :=
  h k + (∑ s, ya s * w0 s k) + ∑ s, yb s * w1 s k

/-- A row against the rows of a half of the projection. -/
def back (d : Fin 1024 → EReal) (w : Fin 1024 → Fin 1024 → EReal) (s : Fin 1024) : EReal := ∑ k, d k * w s k

end Cert.Ffn2

namespace Cert.Ffn2KernelIdeal.Ffn2

open Cert.Ffn2KernelIdeal Cert.Ffn2KernelIdeal.Gen Cert.Ffn Cert.Ffn2
open Cert.KernelIdeal.Ffn (row mat)
open Idealize.ShloMosaic Idealize.ShloMosaic.TcCoe Idealize.SL.Sem

variable (h x : FVec Ideal S256x1024 .f32) (ya yb : FVec Ideal S256x1024 .bf16) (w0 w1 : FVec Ideal S1024x1024 .bf16)
variable (g : FVec Ideal S1x1024 .f32)
variable (wg wu wd : FVec Ideal S2816x1024 .bf16) (a b : FVec Ideal S256x2816 .bf16) (ct : FVec Ideal S256x1024 .f32)
variable (r : Fin 256) (k : Fin 1024) (j : Fin 2816)

/-- The row the norm reads. -/
abbrev hrow : Fin 1024 → EReal := mixed (row h r) (row ya r) (row yb r) (mat w0) (mat w1)

theorem pay0_x : k0_pay3 (F := Ideal) h ya w0 yb w1 (ix2 r k) = hrow h ya yb w0 w1 r k := by
  pointwise [k0_pay3]
  rfl

theorem pay0_n : k0_pay4 (F := Ideal) h ya w0 yb w1 g (ix2 r k) = nrm (hrow h ya yb w0 w1 r) (row g 0) k := by
  pointwise [k0_pay4, pay0_x]
  rfl

theorem pay0_a : k0_pay5 (F := Ideal) h ya w0 yb w1 g wg (ix2 r j)
    = up (nrm (hrow h ya yb w0 w1 r) (row g 0)) (mat wg) j := by
  pointwise [k0_pay5, pay0_n]
  rfl

theorem pay0_b : k0_pay1 (F := Ideal) (k0_pay4 h ya w0 yb w1 g) wu (ix2 r j)
    = up (nrm (hrow h ya yb w0 w1 r) (row g 0)) (mat wu) j := by
  pointwise [k0_pay1, pay0_n]
  rfl

theorem pay0_h : k0_pay2 (F := Ideal) (k0_pay3 h ya w0 yb w1) (k0_pay4 h ya w0 yb w1 g) (k0_pay5 h ya w0 yb w1 g wg)
      wu wd (ix2 r k)
    = out (hrow h ya yb w0 w1 r) (fun j => gate (up (nrm (hrow h ya yb w0 w1 r) (row g 0)) (mat wg) j)
        (up (nrm (hrow h ya yb w0 w1 r) (row g 0)) (mat wu) j)) (mat wd) k := by
  pointwise [k0_pay2, pay0_x, pay0_a, pay0_b]
  simp only [out, gate, sg, zero_sub]

theorem pay1_d : k1_pay7 (F := Ideal) ct wd (ix2 r j) = dhm (row ct r) (mat wd) j := by
  pointwise [k1_pay7]
  rfl

theorem pay1_s : k1_pay10 (F := Ideal) a (ix2 r j) = sg (a (ix2 r j)) := by
  pointwise [k1_pay10, k1_pay8]
  simp only [sg, zero_sub]

theorem pay1_da : k1_pay12 (F := Ideal) ct wd a b (ix2 r j) = da (dhm (row ct r) (mat wd) j) (a (ix2 r j)) (b (ix2 r j)) := by
  pointwise [k1_pay12, k1_pay8, k1_pay9, pay1_d, pay1_s]
  rfl

theorem pay1_db : k1_pay13 (F := Ideal) ct wd a (ix2 r j) = db (dhm (row ct r) (mat wd) j) (a (ix2 r j)) := by
  pointwise [k1_pay13, k1_pay11, k1_pay8, pay1_d, pay1_s]
  rfl

theorem pay1_hm : k1_pay14 (F := Ideal) (k1_pay9 b) (k1_pay11 a) (ix2 r j) = gate (a (ix2 r j)) (b (ix2 r j)) := by
  pointwise [k1_pay14, k1_pay9, k1_pay11, k1_pay8, pay1_s]
  rfl

theorem pay1_dn (u v : FVec Ideal S256x2816 .bf16) :
    k1_pay15 (F := Ideal) u v wg wu (ix2 r k) = dn (row u r) (row v r) (mat wg) (mat wu) k := by
  pointwise [k1_pay15]
  rfl

theorem pay1_ms (q : Fin 1) : k1_pay17 (F := Ideal) x (ix2 r q) = ms (row x r) := by
  pointwise [k1_pay17, k1_pay16]
  rfl

theorem pay1_rs (q : Fin 1) : k1_pay18 (F := Ideal) x (ix2 r q) = rs (row x r) := by
  pointwise [k1_pay18, pay1_ms]
  rfl

theorem pay1_dg (u v : FVec Ideal S256x2816 .bf16) :
    k1_pay19 (F := Ideal) u v wg wu x (ix2 0 k) = ∑ r, dg (row x r) (dn (row u r) (row v r) (mat wg) (mat wu)) k := by
  pointwise [k1_pay19, k1_pay16, pay1_rs, pay1_dn]
  rfl

/-- The norm's input row's gradient, from the four values the last part of the body is given. -/
abbrev dxB (u v : FVec Ideal S256x2816 .bf16) : FVec Ideal S256x1024 .f32 :=
  k1_pay1 (F := Ideal) ct (k1_pay16 x) (k1_pay21 u v wg wu x g) (k1_pay22 u v wg wu x g) (k1_pay23 (F := Ideal))

theorem pay1_dx (u v : FVec Ideal S256x2816 .bf16) : dxB x g wg wu ct u v (ix2 r k)
      = dx (row ct r) (row x r) (row g 0) (dn (row u r) (row v r) (mat wg) (mat wu)) k := by
  pointwise [k1_pay1, k1_pay16, k1_pay20, k1_pay21, k1_pay22, k1_pay23, pay1_rs, pay1_ms, pay1_dn]
  simp only [Finset.univ_unique, Finset.sum_singleton]
  rfl

theorem pay1_ya (p q : FVec Ideal S256x1024 .f32) (s t : FVec Ideal S256x1 .f32) (w : FVec Ideal S1024x1024 .bf16) :
    k1_pay4 (F := Ideal) ct p q s t w (ix2 r k) = back (row (k1_pay1 (F := Ideal) ct p q s t) r) (mat w) k := by
  pointwise [k1_pay4, k1_pay3]
  rfl

theorem pay1_yb (p q : FVec Ideal S256x1024 .f32) (s t : FVec Ideal S256x1 .f32) (w : FVec Ideal S1024x1024 .bf16) :
    k1_pay5 (F := Ideal) ct p q s t w (ix2 r k) = back (row (k1_pay1 (F := Ideal) ct p q s t) r) (mat w) k := by
  pointwise [k1_pay5, k1_pay3]
  rfl

theorem pay1_acc (p q : FVec Ideal S1x1024 .f32) (k : Fin 1024) :
    k1_pay2 (F := Ideal) p q (ix2 0 k) = q (ix2 0 k) + p (ix2 0 k) := by
  pointwise [k1_pay2]

end Cert.Ffn2KernelIdeal.Ffn2

end
-- ==== Proof.Ffn2Fwd.lean ====
/- The second half-step's forward call: its five result arrays, from the blocks its points write. Four of them are the
   first half-step's row functions of the fifth, the residual plus the projected halves. -/
module

public import proofs.«01_k».proof.Proof.Ffn2Pay
public import proofs.«01_k».proof.Proof.Gen.Ffn2KernelIdeal.Frame
public import Idealize.ShloMosaic.Lib.Pipeline.ValueKit

@[expose] public section

set_option maxRecDepth 16384

noncomputable section

namespace Cert.Ffn2KernelIdeal.Ffn2

open Cert.Ffn2KernelIdeal Cert.Ffn2KernelIdeal.Gen Cert.Ffn Cert.Ffn2
open Cert.KernelIdeal.Ffn (row mat nArr upArr hArr)
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The projection's two halves. -/
def top (W : FVec Ideal S2048x1024 .bf16) (s k : Fin 1024) : EReal := W (ix2 ⟨s.val, by omega⟩ k)
def bot (W : FVec Ideal S2048x1024 .bf16) (s k : Fin 1024) : EReal := W (ix2 ⟨1024 + s.val, by omega⟩ k)

/-- The residual rows plus the projected halves. -/
def xArr (H : FVec Ideal S8192x1024 .f32) (Ya Yb : FVec Ideal S8192x1024 .bf16) (W : FVec Ideal S2048x1024 .bf16) :
    FVec Ideal S8192x1024 .f32 :=
  fun i => mixed (row H (i 0)) (row Ya (i 0)) (row Yb (i 0)) (top W) (bot W) (i 1)

theorem ld_top (W : FVec Ideal S2048x1024 .bf16) :
    mat (a := 1024) (b := 1024) (View.ld (Val := Elt Ideal) (e' := .bf16) W r0_1) = top W := by
  funext s k
  refine View.ld_unit_apply_of (Val := Elt Ideal) (e := .bf16) W ![0, 0] S1024x1024.size inb_S2048x1024_S1024x1024_0_0 (ix2 s k)
    (ix2 ⟨s.val, by omega⟩ k) fun a => ?_
  fin_cases a <;> simp

theorem ld_bot (W : FVec Ideal S2048x1024 .bf16) :
    mat (a := 1024) (b := 1024) (View.ld (Val := Elt Ideal) (e' := .bf16) W r0_2) = bot W := by
  funext s k
  refine View.ld_unit_apply_of (Val := Elt Ideal) (e := .bf16) W ![1024, 0] S1024x1024.size inb_S2048x1024_S1024x1024_1024_0
    (ix2 s k) (ix2 ⟨1024 + s.val, by omega⟩ k) fun a => ?_
  fin_cases a <;> simp

theorem idx0 : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![t.val, 0] ∧ win0_9.index t = ![t.val, 0]
    ∧ win0_10.index t = ![t.val, 0] ∧ win0_11.index t = ![t.val, 0] ∧ win0_12.index t = ![t.val, 0] :=
  (by decide +kernel : ∀ t : Fin grid0.N, _)

/-- The array row a point's block row sits at. -/
def rowAt (t : Fin cfg0.N) (r : Fin 256) : Fin 8192 := ⟨t.val * 256 + r.val, by
  have h := t.isLt; have h32 : cfg0.N = 32 := N_0; omega⟩

/-- The two values the stores share, by what they are computed from. -/
theorem val_n (x0 : FVec Ideal S256x1024 .f32) (x1 x2 : FVec Ideal S256x1024 .bf16) (x3 : FVec Ideal S2048x1024 .bf16)
    (x4 : FVec Ideal S1x1024 .f32) (x5 x6 x7 : FVec Ideal S2816x1024 .bf16) :
    k0_pay6 (F := Ideal) x0 x1 x2 x3 x4 x5 x6 x7 = k0_pay4 x0 x1 (View.ld x3 r0_1) x2 (View.ld x3 r0_2) x4 := by
  unfold k0_pay6; frame_out

theorem val_a (x0 : FVec Ideal S256x1024 .f32) (x1 x2 : FVec Ideal S256x1024 .bf16) (x3 : FVec Ideal S2048x1024 .bf16)
    (x4 : FVec Ideal S1x1024 .f32) (x5 x6 x7 : FVec Ideal S2816x1024 .bf16) :
    k0_pay7 (F := Ideal) x0 x1 x2 x3 x4 x5 x6 x7 = k0_pay5 x0 x1 (View.ld x3 r0_1) x2 (View.ld x3 r0_2) x4 x5 := by
  unfold k0_pay7; frame_out

section Blocks

variable (c : Dev nD) (t : Fin cfg0.N)

theorem row0_h (r : Fin 256) : row (iblk0 (F := Ideal) V c 0 t) r = row (V c main_arg0) (rowAt t r) := by
  funext k
  show iblk0 V c 0 t (ix2 r k) = V c main_arg0 (ix2 (rowAt t r) k)
  blk_ext [iblk0, idx0 t, rowAt]

theorem row0_ya (r : Fin 256) : row (iblk0 (F := Ideal) V c 1 t) r = row (V c main_arg1) (rowAt t r) := by
  funext k
  show iblk0 V c 1 t (ix2 r k) = V c main_arg1 (ix2 (rowAt t r) k)
  blk_ext [iblk0, idx0 t, rowAt]

theorem row0_yb (r : Fin 256) : row (iblk0 (F := Ideal) V c 2 t) r = row (V c main_arg2) (rowAt t r) := by
  funext k
  show iblk0 V c 2 t (ix2 r k) = V c main_arg2 (ix2 (rowAt t r) k)
  blk_ext [iblk0, idx0 t, rowAt]

theorem blk0_wo : iblk0 (F := Ideal) V c 3 t = V c main_v9 := by
  funext y; blk_ext [iblk0, idx0 t]

theorem blk0_g : iblk0 (F := Ideal) V c 4 t = V c main_arg4 := by
  funext y; blk_ext [iblk0, idx0 t]

theorem blk0_wg : iblk0 (F := Ideal) V c 5 t = V c main_v2 := by
  funext y; blk_ext [iblk0, idx0 t]

theorem blk0_wu : iblk0 (F := Ideal) V c 6 t = V c main_v5 := by
  funext y; blk_ext [iblk0, idx0 t]

theorem blk0_wd : iblk0 (F := Ideal) V c 7 t = V c main_v7 := by
  funext y; blk_ext [iblk0, idx0 t]

/-- The arrays' row a point's block row holds after the projection. -/
abbrev X0 := xArr (V c main_arg0) (V c main_arg1) (V c main_arg2) (V c main_v9)

theorem hrow0 (r : Fin 256) : hrow (iblk0 (F := Ideal) V c 0 t) (iblk0 (F := Ideal) V c 1 t) (iblk0 (F := Ideal) V c 2 t)
    (View.ld (Val := Elt Ideal) (e' := .bf16) (iblk0 (F := Ideal) V c 3 t) r0_1)
    (View.ld (Val := Elt Ideal) (e' := .bf16) (iblk0 (F := Ideal) V c 3 t) r0_2) r = row (X0 V c) (rowAt t r) := by
  unfold hrow
  rw [row0_h, row0_ya, row0_yb, blk0_wo, ld_top, ld_bot]
  rfl

end Blocks

/-- The residual rows after the projection. -/
theorem final0_8 (c : Dev nD) : (dat0 (F := Ideal) V c).arrAt 8 cfg0.N = X0 V c := by
  refine (dat0 V c).arrAt_eq_of_covers 8 _ (by decide +kernel) fun t _ y => ?_
  obtain ⟨r, k, rfl⟩ : ∃ (r : Fin 256) (k : Fin 1024), y = (ix2 r k : S256x1024.Idx) := ⟨y 0, y 1, eq_ix2 y⟩
  have e : ((cfg0.win 8).blk t).view.emb (ix2 r k : S256x1024.Idx) = (ix2 (rowAt t r) k : S8192x1024.Idx) := by
    blk_ext [idx0 t, rowAt]
  rw [e]
  blk_simp
  rw [after0_8]; frame_out
  refine (pay0_x ..).trans ?_
  rw [hrow0]

/-- The normed activations. -/
theorem final0_10 (c : Dev nD) : (dat0 (F := Ideal) V c).arrAt 10 cfg0.N = nArr (X0 V c) (V c main_arg4) := by
  refine (dat0 V c).arrAt_eq_of_covers 10 _ (by decide +kernel) fun t _ y => ?_
  obtain ⟨r, k, rfl⟩ : ∃ (r : Fin 256) (k : Fin 1024), y = (ix2 r k : S256x1024.Idx) := ⟨y 0, y 1, eq_ix2 y⟩
  have e : ((cfg0.win 10).blk t).view.emb (ix2 r k : S256x1024.Idx) = (ix2 (rowAt t r) k : S8192x1024.Idx) := by
    blk_ext [idx0 t, rowAt]
  rw [e]
  blk_simp
  rw [after0_10]; frame_out
  refine (pay0_n ..).trans ?_
  rw [hrow0, blk0_g]
  rfl

/-- The gated half of the hidden rows. -/
theorem final0_11 (c : Dev nD) : (dat0 (F := Ideal) V c).arrAt 11 cfg0.N
    = upArr (X0 V c) (V c main_arg4) (V c main_v2) := by
  refine (dat0 V c).arrAt_eq_of_covers 11 _ (by decide +kernel) fun t _ y => ?_
  obtain ⟨r, k, rfl⟩ : ∃ (r : Fin 256) (k : Fin 2816), y = (ix2 r k : S256x2816.Idx) := ⟨y 0, y 1, eq_ix2 y⟩
  have e : ((cfg0.win 11).blk t).view.emb (ix2 r k : S256x2816.Idx) = (ix2 (rowAt t r) k : S8192x2816.Idx) := by
    blk_ext [idx0 t, rowAt]
  rw [e]
  blk_simp
  rw [after0_11]; frame_out
  rw [val_a]
  refine (pay0_a ..).trans ?_
  rw [hrow0, blk0_g, blk0_wg]
  rfl

/-- The other half. -/
theorem final0_12 (c : Dev nD) : (dat0 (F := Ideal) V c).arrAt 12 cfg0.N
    = upArr (X0 V c) (V c main_arg4) (V c main_v5) := by
  refine (dat0 V c).arrAt_eq_of_covers 12 _ (by decide +kernel) fun t _ y => ?_
  obtain ⟨r, k, rfl⟩ : ∃ (r : Fin 256) (k : Fin 2816), y = (ix2 r k : S256x2816.Idx) := ⟨y 0, y 1, eq_ix2 y⟩
  have e : ((cfg0.win 12).blk t).view.emb (ix2 r k : S256x2816.Idx) = (ix2 (rowAt t r) k : S8192x2816.Idx) := by
    blk_ext [idx0 t, rowAt]
  rw [e]
  blk_simp
  rw [after0_12]; frame_out
  rw [val_n]
  refine (pay0_b ..).trans ?_
  rw [hrow0, blk0_g, blk0_wu]
  rfl

/-- The half-step's output. -/
theorem final0_9 (c : Dev nD) : (dat0 (F := Ideal) V c).arrAt 9 cfg0.N
    = hArr (X0 V c) (V c main_arg4) (V c main_v2) (V c main_v5) (V c main_v7) := by
  refine (dat0 V c).arrAt_eq_of_covers 9 _ (by decide +kernel) fun t _ y => ?_
  obtain ⟨r, k, rfl⟩ : ∃ (r : Fin 256) (k : Fin 1024), y = (ix2 r k : S256x1024.Idx) := ⟨y 0, y 1, eq_ix2 y⟩
  have e : ((cfg0.win 9).blk t).view.emb (ix2 r k : S256x1024.Idx) = (ix2 (rowAt t r) k : S8192x1024.Idx) := by
    blk_ext [idx0 t, rowAt]
  rw [e]
  blk_simp
  rw [after0_9]; frame_out
  rw [val_n, val_a]
  refine (pay0_h ..).trans ?_
  rw [hrow0, blk0_g, blk0_wg, blk0_wu, blk0_wd]
  rfl

end Cert.Ffn2KernelIdeal.Ffn2

end
-- ==== Proof.Ffn2Bwd.lean ====
/- The second half-step's backward call: its seven result arrays. Five are the first half-step's functions of the call's
   arrays; the last two are the projected halves' cotangents. -/
module

public import proofs.«01_k».proof.Proof.Ffn2Fwd

@[expose] public section

set_option maxRecDepth 16384

noncomputable section

namespace Cert.Ffn2KernelIdeal.Ffn2

open Cert.Ffn2KernelIdeal Cert.Ffn2KernelIdeal.Gen Cert.Ffn Cert.Ffn2
open Cert.KernelIdeal.Ffn (row mat daArr dbArr hmArr dnRow dxArr dgArr)
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The two halves' cotangents, from the residual rows' gradient. -/
def backTop (D : FVec Ideal S8192x1024 .f32) (W : FVec Ideal S2048x1024 .bf16) : FVec Ideal S8192x1024 .bf16 :=
  fun i => back (row D (i 0)) (top W) (i 1)
def backBot (D : FVec Ideal S8192x1024 .f32) (W : FVec Ideal S2048x1024 .bf16) : FVec Ideal S8192x1024 .bf16 :=
  fun i => back (row D (i 0)) (bot W) (i 1)

theorem idx1 : ∀ t : Fin cfg1.N, win1_0.index t = ![t.val, 0] ∧ win1_1.index t = ![t.val, 0] ∧ win1_2.index t = ![0, 0]
    ∧ win1_3.index t = ![t.val, 0] ∧ win1_4.index t = ![t.val, 0] ∧ win1_5.index t = ![0, 0] ∧ win1_6.index t = ![0, 0]
    ∧ win1_7.index t = ![0, 0] ∧ win1_8.index t = ![0, 0] ∧ win1_9.index t = ![t.val, 0] ∧ win1_10.index t = ![t.val, 0]
    ∧ win1_11.index t = ![t.val, 0] ∧ win1_12.index t = ![t.val, 0] ∧ win1_13.index t = ![0, 0]
    ∧ win1_14.index t = ![t.val, 0] ∧ win1_15.index t = ![t.val, 0] :=
  (by decide +kernel : ∀ t : Fin grid1.N, _)

section Blocks

variable (c : Dev nD) (t : Fin cfg1.N)

theorem row1_ct (r : Fin 256) : row (iblk1 (F := Ideal) V c 0 t) r = row (V c main_arg8) (rowAt t r) := by
  funext k
  show iblk1 V c 0 t (ix2 r k) = V c main_arg8 (ix2 (rowAt t r) k)
  blk_ext [iblk1, idx1 t, rowAt]

theorem row1_x (r : Fin 256) : row (iblk1 (F := Ideal) V c 1 t) r = row (V c main_v10_0) (rowAt t r) := by
  funext k
  show iblk1 V c 1 t (ix2 r k) = V c main_v10_0 (ix2 (rowAt t r) k)
  blk_ext [iblk1, idx1 t, rowAt]

theorem blk1_a (r : Fin 256) (j : Fin 2816) :
    iblk1 (F := Ideal) V c 3 t (ix2 r j) = V c main_v10_3 (ix2 (rowAt t r) j) := by
  blk_ext [iblk1, idx1 t, rowAt]

theorem blk1_b (r : Fin 256) (j : Fin 2816) :
    iblk1 (F := Ideal) V c 4 t (ix2 r j) = V c main_v10_4 (ix2 (rowAt t r) j) := by
  blk_ext [iblk1, idx1 t, rowAt]

theorem blk1_g : iblk1 (F := Ideal) V c 2 t = V c main_arg4 := by
  funext y; blk_ext [iblk1, idx1 t]

theorem blk1_wg : iblk1 (F := Ideal) V c 5 t = V c main_v2 := by
  funext y; blk_ext [iblk1, idx1 t]

theorem blk1_wu : iblk1 (F := Ideal) V c 6 t = V c main_v5 := by
  funext y; blk_ext [iblk1, idx1 t]

theorem blk1_wd : iblk1 (F := Ideal) V c 7 t = V c main_v7 := by
  funext y; blk_ext [iblk1, idx1 t]

theorem blk1_wo : iblk1 (F := Ideal) V c 8 t = V c main_v9 := by
  funext y; blk_ext [iblk1, idx1 t]

end Blocks

section Stored

variable (c : Dev nD) (t : Fin cfg1.N)

/-- The two hidden cotangents of a point's block. -/
def daB := k1_pay12 (F := Ideal) (iblk1 V c 0 t) (iblk1 V c 7 t) (iblk1 V c 3 t) (iblk1 V c 4 t)
def dbB := k1_pay13 (F := Ideal) (iblk1 V c 0 t) (iblk1 V c 7 t) (iblk1 V c 3 t)
/-- A point's part of the gain's gradient. -/
def dgB := k1_pay19 (F := Ideal) (daB V c t) (dbB V c t) (iblk1 V c 5 t) (iblk1 V c 6 t) (iblk1 V c 1 t)

theorem stored_da : (outsAt1 (F := Ideal) V c t.val t.isLt).2.1 = daB V c t := by
  by_cases h0 : t.val % 32 = 0
  · rw [outsAt1_A V c t h0]; frame_out; rfl
  · rw [outsAt1_B V c t h0]; frame_out; rfl

theorem stored_db : (outsAt1 (F := Ideal) V c t.val t.isLt).2.2.1 = dbB V c t := by
  by_cases h0 : t.val % 32 = 0
  · rw [outsAt1_A V c t h0]; frame_out; rfl
  · rw [outsAt1_B V c t h0]; frame_out; rfl

theorem stored_hm : (outsAt1 (F := Ideal) V c t.val t.isLt).2.2.2.1
    = k1_pay14 (k1_pay9 (iblk1 V c 4 t)) (k1_pay11 (iblk1 V c 3 t)) := by
  by_cases h0 : t.val % 32 = 0
  · rw [outsAt1_A V c t h0]; frame_out
  · rw [outsAt1_B V c t h0]; frame_out

/-- The residual rows' gradient of a point's block. -/
def dxV := dxB (iblk1 V c 1 t) (iblk1 V c 2 t) (iblk1 V c 5 t) (iblk1 V c 6 t) (iblk1 V c 0 t) (daB V c t) (dbB V c t)

theorem stored_dx : (outsAt1 (F := Ideal) V c t.val t.isLt).1 = dxV V c t := by
  by_cases h0 : t.val % 32 = 0
  · rw [outsAt1_A V c t h0]; frame_out; rfl
  · rw [outsAt1_B V c t h0]; frame_out; rfl

/-- A half's cotangent, over the half loaded of the projection. -/
def yaV (w : FVec Ideal S1024x1024 .bf16) := k1_pay4 (F := Ideal) (iblk1 V c 0 t) (k1_pay16 (iblk1 V c 1 t))
  (k1_pay21 (daB V c t) (dbB V c t) (iblk1 V c 5 t) (iblk1 V c 6 t) (iblk1 V c 1 t) (iblk1 V c 2 t))
  (k1_pay22 (daB V c t) (dbB V c t) (iblk1 V c 5 t) (iblk1 V c 6 t) (iblk1 V c 1 t) (iblk1 V c 2 t)) (k1_pay23 (F := Ideal)) w
def ybV (w : FVec Ideal S1024x1024 .bf16) := k1_pay5 (F := Ideal) (iblk1 V c 0 t) (k1_pay16 (iblk1 V c 1 t))
  (k1_pay21 (daB V c t) (dbB V c t) (iblk1 V c 5 t) (iblk1 V c 6 t) (iblk1 V c 1 t) (iblk1 V c 2 t))
  (k1_pay22 (daB V c t) (dbB V c t) (iblk1 V c 5 t) (iblk1 V c 6 t) (iblk1 V c 1 t) (iblk1 V c 2 t)) (k1_pay23 (F := Ideal)) w

theorem stored_ya : (outsAt1 (F := Ideal) V c t.val t.isLt).2.2.2.2.2.1
    = yaV V c t (View.ld (Val := Elt Ideal) (e' := .bf16) (iblk1 (F := Ideal) V c 8 t) r0_1) := by
  by_cases h0 : t.val % 32 = 0
  · rw [outsAt1_A V c t h0]; frame_out; rfl
  · rw [outsAt1_B V c t h0]; frame_out; rfl

theorem stored_yb : (outsAt1 (F := Ideal) V c t.val t.isLt).2.2.2.2.2.2
    = ybV V c t (View.ld (Val := Elt Ideal) (e' := .bf16) (iblk1 (F := Ideal) V c 8 t) r0_2) := by
  by_cases h0 : t.val % 32 = 0
  · rw [outsAt1_A V c t h0]; frame_out; rfl
  · rw [outsAt1_B V c t h0]; frame_out; rfl

theorem stored_dg_first (h0 : t.val % 32 = 0) :
    (outsAt1 (F := Ideal) V c t.val t.isLt).2.2.2.2.1 = k1_pay2 (dgB V c t) (k1_pay6 (F := Ideal)) := by
  rw [outsAt1_A V c t h0]; frame_out; rfl

theorem stored_dg_next (h0 : ¬t.val % 32 = 0) :
    (outsAt1 (F := Ideal) V c t.val t.isLt).2.2.2.2.1
      = k1_pay2 (dgB V c t) (outsAt1 V c (t.val - 1) (Nat.lt_of_le_of_lt (Nat.sub_le _ _) t.isLt)).2.2.2.2.1 := by
  rw [outsAt1_B V c t h0]; frame_out; rfl

end Stored

section Rows

variable (c : Dev nD) (t : Fin cfg1.N) (r : Fin 256)

theorem row_da : row (daB V c t) r
    = row (daArr (V c main_arg8) (V c main_v10_3) (V c main_v10_4) (V c main_v7)) (rowAt t r) := by
  funext j
  refine (pay1_da ..).trans ?_
  rw [row1_ct, blk1_wd, blk1_a, blk1_b]
  rfl

theorem row_db : row (dbB V c t) r = row (dbArr (V c main_arg8) (V c main_v10_3) (V c main_v7)) (rowAt t r) := by
  funext j
  refine (pay1_db ..).trans ?_
  rw [row1_ct, blk1_wd, blk1_a]
  rfl

theorem dgB_at (k : Fin 1024) : dgB V c t (ix2 0 k) = ∑ r : Fin 256, dg (row (V c main_v10_0) (rowAt t r))
    (dnRow (V c main_arg8) (V c main_v10_3) (V c main_v10_4) (V c main_v2) (V c main_v5) (V c main_v7) (rowAt t r)) k := by
  refine (pay1_dg ..).trans (Finset.sum_congr rfl fun r _ => ?_)
  rw [row1_x, row_da, row_db, blk1_wg, blk1_wu]
  rfl

end Rows

/-- The gated half's cotangent. -/
theorem final1_10 (c : Dev nD) : (dat1 (F := Ideal) V c).arrAt 10 cfg1.N
    = daArr (V c main_arg8) (V c main_v10_3) (V c main_v10_4) (V c main_v7) := by
  refine (dat1 V c).arrAt_eq_of_covers 10 _ (by decide +kernel) fun t _ y => ?_
  obtain ⟨r, k, rfl⟩ : ∃ (r : Fin 256) (k : Fin 2816), y = (ix2 r k : S256x2816.Idx) := ⟨y 0, y 1, eq_ix2 y⟩
  have e : ((cfg1.win 10).blk t).view.emb (ix2 r k : S256x2816.Idx) = (ix2 (rowAt t r) k : S8192x2816.Idx) := by
    blk_ext [idx1 t, rowAt]
  rw [e]
  blk_simp
  rw [after1_10, stored_da]
  exact congrFun (row_da V c t r) k

/-- The other half's cotangent. -/
theorem final1_11 (c : Dev nD) : (dat1 (F := Ideal) V c).arrAt 11 cfg1.N
    = dbArr (V c main_arg8) (V c main_v10_3) (V c main_v7) := by
  refine (dat1 V c).arrAt_eq_of_covers 11 _ (by decide +kernel) fun t _ y => ?_
  obtain ⟨r, k, rfl⟩ : ∃ (r : Fin 256) (k : Fin 2816), y = (ix2 r k : S256x2816.Idx) := ⟨y 0, y 1, eq_ix2 y⟩
  have e : ((cfg1.win 11).blk t).view.emb (ix2 r k : S256x2816.Idx) = (ix2 (rowAt t r) k : S8192x2816.Idx) := by
    blk_ext [idx1 t, rowAt]
  rw [e]
  blk_simp
  rw [after1_11, stored_db]
  exact congrFun (row_db V c t r) k

/-- The gated hidden rows. -/
theorem final1_12 (c : Dev nD) : (dat1 (F := Ideal) V c).arrAt 12 cfg1.N = hmArr (V c main_v10_3) (V c main_v10_4) := by
  refine (dat1 V c).arrAt_eq_of_covers 12 _ (by decide +kernel) fun t _ y => ?_
  obtain ⟨r, k, rfl⟩ : ∃ (r : Fin 256) (k : Fin 2816), y = (ix2 r k : S256x2816.Idx) := ⟨y 0, y 1, eq_ix2 y⟩
  have e : ((cfg1.win 12).blk t).view.emb (ix2 r k : S256x2816.Idx) = (ix2 (rowAt t r) k : S8192x2816.Idx) := by
    blk_ext [idx1 t, rowAt]
  rw [e]
  blk_simp
  rw [after1_12, stored_hm]
  refine (pay1_hm ..).trans ?_
  rw [blk1_a, blk1_b]
  rfl

/-- The gain's gradient: every block's rows, added up point after point. -/
theorem final1_13 (c : Dev nD) : (dat1 (F := Ideal) V c).arrAt 13 cfg1.N
    = dgArr (V c main_arg8) (V c main_v10_0) (V c main_v10_3) (V c main_v10_4) (V c main_v2) (V c main_v5) (V c main_v7) := by
  refine (dat1 V c).arrAt_eq_of_covers 13 _ (by decide +kernel) fun t hf y => ?_
  obtain ⟨q, k, rfl⟩ : ∃ (q : Fin 1) (k : Fin 1024), y = (ix2 q k : S1x1024.Idx) := ⟨y 0, y 1, eq_ix2 y⟩
  obtain rfl : q = 0 := Subsingleton.elim _ _
  have e : ((cfg1.win 13).blk t).view.emb (ix2 (0 : Fin 1) k : S1x1024.Idx) = (ix2 0 k : S1x1024.Idx) := by
    blk_ext [idx1 t]
  rw [e]
  blk_simp
  rw [after1_13]
  have hN : cfg1.N = 32 := N_1
  have hl : t.val + 1 = cfg1.N := by
    have h := (flush1_13 t).mp hf
    have := t.isLt
    omega
  refine (Pipeline.eq_sum_fin_of_reset_step_apply_last (fun n h => (fun k : Fin 1024 => (outsAt1 V c n h).2.2.2.2.1 (ix2 0 k)))
    32 (fun _ => 0) (fun t k => dgB V c t (ix2 0 k)) (fun t h k => ?_) (fun t h k => ?_) hN.le t hl k).trans ?_
  · show (outsAt1 V c t.val t.isLt).2.2.2.2.1 (ix2 0 k) = _
    rw [stored_dg_first V c t h, pay1_acc]
    congr 1
    simp [k1_pay6, Ideal.ofBits, Ideal.ieee]
    rfl
  · show (outsAt1 V c t.val t.isLt).2.2.2.2.1 (ix2 0 k) = _
    rw [stored_dg_next V c t h, pay1_acc]
  · rw [zero_add]
    simp only [dgB_at]
    exact Fin.sum_mul_add_congr (L := 8192) (fun s r hl => rfl) (by rw [hN])

/-- The arrays' gradient of the residual rows. -/
abbrev D1 (c : Dev nD) := dxArr (V c main_arg8) (V c main_v10_0) (V c main_arg4) (V c main_v10_3) (V c main_v10_4)
  (V c main_v2) (V c main_v5) (V c main_v7)

theorem row_dx (c : Dev nD) (t : Fin cfg1.N) (r : Fin 256) : row (dxV V c t) r = row (D1 V c) (rowAt t r) := by
  funext k
  refine (pay1_dx ..).trans ?_
  rw [row1_ct, row1_x, row_da, row_db, blk1_g, blk1_wg, blk1_wu]
  rfl

/-- The input rows' gradient. -/
theorem final1_9 (c : Dev nD) : (dat1 (F := Ideal) V c).arrAt 9 cfg1.N
    = D1 V c := by
  refine (dat1 V c).arrAt_eq_of_covers 9 _ (by decide +kernel) fun t _ y => ?_
  obtain ⟨r, k, rfl⟩ : ∃ (r : Fin 256) (k : Fin 1024), y = (ix2 r k : S256x1024.Idx) := ⟨y 0, y 1, eq_ix2 y⟩
  have e : ((cfg1.win 9).blk t).view.emb (ix2 r k : S256x1024.Idx) = (ix2 (rowAt t r) k : S8192x1024.Idx) := by
    blk_ext [idx1 t, rowAt]
  rw [e]
  blk_simp
  rw [after1_9, stored_dx]
  exact congrFun (row_dx V c t r) k

/-- The first half's cotangent. -/
theorem final1_14 (c : Dev nD) : (dat1 (F := Ideal) V c).arrAt 14 cfg1.N = backTop (D1 V c) (V c main_v9) := by
  refine (dat1 V c).arrAt_eq_of_covers 14 _ (by decide +kernel) fun t _ y => ?_
  obtain ⟨r, k, rfl⟩ : ∃ (r : Fin 256) (k : Fin 1024), y = (ix2 r k : S256x1024.Idx) := ⟨y 0, y 1, eq_ix2 y⟩
  have e : ((cfg1.win 14).blk t).view.emb (ix2 r k : S256x1024.Idx) = (ix2 (rowAt t r) k : S8192x1024.Idx) := by
    blk_ext [idx1 t, rowAt]
  rw [e]
  blk_simp
  rw [after1_14, stored_ya]
  refine (pay1_ya ..).trans ?_
  rw [blk1_wo, ld_top]
  exact congrArg (fun d => back d (top (V c main_v9)) k) (row_dx V c t r)

/-- The second half's cotangent. -/
theorem final1_15 (c : Dev nD) : (dat1 (F := Ideal) V c).arrAt 15 cfg1.N = backBot (D1 V c) (V c main_v9) := by
  refine (dat1 V c).arrAt_eq_of_covers 15 _ (by decide +kernel) fun t _ y => ?_
  obtain ⟨r, k, rfl⟩ : ∃ (r : Fin 256) (k : Fin 1024), y = (ix2 r k : S256x1024.Idx) := ⟨y 0, y 1, eq_ix2 y⟩
  have e : ((cfg1.win 15).blk t).view.emb (ix2 r k : S256x1024.Idx) = (ix2 (rowAt t r) k : S8192x1024.Idx) := by
    blk_ext [idx1 t, rowAt]
  rw [e]
  blk_simp
  rw [after1_15, stored_yb]
  refine (pay1_yb ..).trans ?_
  rw [blk1_wo, ld_bot]
  exact congrArg (fun d => back d (bot (V c main_v9)) k) (row_dx V c t r)

end Cert.Ffn2KernelIdeal.Ffn2

end
-- ==== Proof.Ffn2Host.lean ====
/- The second half-step's arrays between its two calls, as functions of the program's arguments: the weights the host laid
   out, what the forward call saved, and every result. -/
module

public import proofs.«01_k».proof.Proof.Ffn2Bwd

@[expose] public section

set_option maxRecDepth 16384

noncomputable section

namespace Cert.Ffn2KernelIdeal.Ffn2

open Cert.Ffn2KernelIdeal Cert.Ffn2KernelIdeal.Gen Cert.Ffn Cert.Ffn2
open Cert.KernelIdeal.Ffn (row mat nArr upArr hArr daArr dbArr hmArr dxArr dgArr)
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The arguments on a device. -/
abbrev aH : FVec Ideal S8192x1024 .f32 := m ((c : Thread nD τ).loc main_arg0)
abbrev aYa : FVec Ideal S8192x1024 .bf16 := m ((c : Thread nD τ).loc main_arg1)
abbrev aYb : FVec Ideal S8192x1024 .bf16 := m ((c : Thread nD τ).loc main_arg2)
abbrev aWo : FVec Ideal S1x2048x1024 .f32 := m ((c : Thread nD τ).loc main_arg3)
abbrev aG : FVec Ideal S1x1024 .f32 := m ((c : Thread nD τ).loc main_arg4)
abbrev aWg : FVec Ideal S1x1024x2816 .f32 := m ((c : Thread nD τ).loc main_arg5)
abbrev aWu : FVec Ideal S1x1024x2816 .f32 := m ((c : Thread nD τ).loc main_arg6)
abbrev aWd : FVec Ideal S1x2816x1024 .f32 := m ((c : Thread nD τ).loc main_arg7)
abbrev aCt : FVec Ideal S8192x1024 .f32 := m ((c : Thread nD τ).loc main_arg8)

/-- The weights as the calls take them. -/
def wgt : FVec Ideal S2816x1024 .bf16 := fun i => aWg m c (ix3 0 (i 1) (i 0))
def wut : FVec Ideal S2816x1024 .bf16 := fun i => aWu m c (ix3 0 (i 1) (i 0))
def wdt : FVec Ideal S2816x1024 .bf16 := fun i => aWd m c (ix3 0 (i 0) (i 1))
def wo : FVec Ideal S2048x1024 .bf16 := fun i => aWo m c (ix3 0 (i 0) (i 1))

theorem V1_wg : V1 m ρ c main_v2 = wgt m c := by
  show StableHlo.after hostOps0 (W0 m ρ c) (Proc.devRef .tc main_v2) = _
  after_results_simp
  funext i
  obtain ⟨r, k, rfl⟩ : ∃ (r : Fin 2816) (k : Fin 1024), i = (ix2 r k : S2816x1024.Idx) := ⟨i 0, i 1, eq_ix2 i⟩
  change truncf .bf16 (transpose S2816x1024 [1, 0] (shapeCast S1024x2816 (aWg m c) shapeCasts_S1x1024x2816_S1024x2816)
    transposes_S1024x2816_S2816x1024_1_0) bitsLt_bf16_f32 (ix2 r k) = _
  pointwise []
  rfl

theorem V1_wu : V1 m ρ c main_v5 = wut m c := by
  show StableHlo.after hostOps0 (W0 m ρ c) (Proc.devRef .tc main_v5) = _
  after_results_simp
  funext i
  obtain ⟨r, k, rfl⟩ : ∃ (r : Fin 2816) (k : Fin 1024), i = (ix2 r k : S2816x1024.Idx) := ⟨i 0, i 1, eq_ix2 i⟩
  change truncf .bf16 (transpose S2816x1024 [1, 0] (shapeCast S1024x2816 (aWu m c) shapeCasts_S1x1024x2816_S1024x2816)
    transposes_S1024x2816_S2816x1024_1_0) bitsLt_bf16_f32 (ix2 r k) = _
  pointwise []
  rfl

theorem V1_wd : V1 m ρ c main_v7 = wdt m c := by
  show StableHlo.after hostOps0 (W0 m ρ c) (Proc.devRef .tc main_v7) = _
  after_results_simp
  funext i
  obtain ⟨r, k, rfl⟩ : ∃ (r : Fin 2816) (k : Fin 1024), i = (ix2 r k : S2816x1024.Idx) := ⟨i 0, i 1, eq_ix2 i⟩
  change truncf .bf16 (shapeCast S2816x1024 (aWd m c) shapeCasts_S1x2816x1024_S2816x1024) bitsLt_bf16_f32 (ix2 r k) = _
  pointwise []
  rfl

theorem V1_wo : V1 m ρ c main_v9 = wo m c := by
  show StableHlo.after hostOps0 (W0 m ρ c) (Proc.devRef .tc main_v9) = _
  after_results_simp
  funext i
  obtain ⟨r, k, rfl⟩ : ∃ (r : Fin 2048) (k : Fin 1024), i = (ix2 r k : S2048x1024.Idx) := ⟨i 0, i 1, eq_ix2 i⟩
  change truncf .bf16 (shapeCast S2048x1024 (aWo m c) shapeCasts_S1x2048x1024_S2048x1024) bitsLt_bf16_f32 (ix2 r k) = _
  pointwise []
  rfl

theorem V1_h : V1 m ρ c main_arg0 = aH m c := W1_args m ρ c main_arg0 (by decide)
theorem V1_ya : V1 m ρ c main_arg1 = aYa m c := W1_args m ρ c main_arg1 (by decide)
theorem V1_yb : V1 m ρ c main_arg2 = aYb m c := W1_args m ρ c main_arg2 (by decide)
theorem V1_g : V1 m ρ c main_arg4 = aG m c := W1_args m ρ c main_arg4 (by decide)
theorem V1_ct : V1 m ρ c main_arg8 = aCt m c := W1_args m ρ c main_arg8 (by decide)

/-- The forward call's results as functions of the arguments. -/
abbrev X1 := xArr (aH m c) (aYa m c) (aYb m c) (wo m c)
abbrev H1 := hArr (X1 m c) (aG m c) (wgt m c) (wut m c) (wdt m c)
abbrev N1 := nArr (X1 m c) (aG m c)
abbrev A1 := upArr (X1 m c) (aG m c) (wgt m c)
abbrev B1 := upArr (X1 m c) (aG m c) (wut m c)

theorem V1_X : X0 (V1 m ρ) c = X1 m c := by
  unfold X0
  rw [V1_h, V1_ya, V1_yb, V1_wo]

theorem V2_x : V2 m ρ c main_v10_0 = X1 m c := by
  refine (W2_arr m ρ c 8).trans ((final0_8 (V1 m ρ) c).trans ?_)
  rw [V1_X]
theorem V2_h : V2 m ρ c main_v10_1 = H1 m c := by
  refine (W2_arr m ρ c 9).trans ((final0_9 (V1 m ρ) c).trans ?_)
  rw [V1_X, V1_g, V1_wg, V1_wu, V1_wd]
theorem V2_n : V2 m ρ c main_v10_2 = N1 m c := by
  refine (W2_arr m ρ c 10).trans ((final0_10 (V1 m ρ) c).trans ?_)
  rw [V1_X, V1_g]
theorem V2_a : V2 m ρ c main_v10_3 = A1 m c := by
  refine (W2_arr m ρ c 11).trans ((final0_11 (V1 m ρ) c).trans ?_)
  rw [V1_X, V1_g, V1_wg]
theorem V2_b : V2 m ρ c main_v10_4 = B1 m c := by
  refine (W2_arr m ρ c 12).trans ((final0_12 (V1 m ρ) c).trans ?_)
  rw [V1_X, V1_g, V1_wu]
theorem V2_wg : V2 m ρ c main_v2 = wgt m c := (W2_of m ρ c main_v2 (by decide)).trans (V1_wg m ρ c)
theorem V2_wu : V2 m ρ c main_v5 = wut m c := (W2_of m ρ c main_v5 (by decide)).trans (V1_wu m ρ c)
theorem V2_wd : V2 m ρ c main_v7 = wdt m c := (W2_of m ρ c main_v7 (by decide)).trans (V1_wd m ρ c)
theorem V2_wo : V2 m ρ c main_v9 = wo m c := (W2_of m ρ c main_v9 (by decide)).trans (V1_wo m ρ c)
theorem V2_g : V2 m ρ c main_arg4 = aG m c := (W2_of m ρ c main_arg4 (by decide)).trans (V1_g m ρ c)
theorem V2_ct : V2 m ρ c main_arg8 = aCt m c := (W2_of m ρ c main_arg8 (by decide)).trans (V1_ct m ρ c)

/-- The forward call's results are still there at the end. -/
theorem W3_x : W3 m ρ c (Proc.devRef .tc main_v10_0) = X1 m c := (W3_of m ρ c main_v10_0 (by decide)).trans (V2_x m ρ c)
theorem W3_h : W3 m ρ c (Proc.devRef .tc main_v10_1) = H1 m c := (W3_of m ρ c main_v10_1 (by decide)).trans (V2_h m ρ c)
theorem W3_n : W3 m ρ c (Proc.devRef .tc main_v10_2) = N1 m c := (W3_of m ρ c main_v10_2 (by decide)).trans (V2_n m ρ c)
theorem W3_a : W3 m ρ c (Proc.devRef .tc main_v10_3) = A1 m c := (W3_of m ρ c main_v10_3 (by decide)).trans (V2_a m ρ c)
theorem W3_b : W3 m ρ c (Proc.devRef .tc main_v10_4) = B1 m c := (W3_of m ρ c main_v10_4 (by decide)).trans (V2_b m ρ c)

/-- The backward call's results. -/
abbrev DX := dxArr (aCt m c) (X1 m c) (aG m c) (A1 m c) (B1 m c) (wgt m c) (wut m c) (wdt m c)
abbrev DA := daArr (aCt m c) (A1 m c) (B1 m c) (wdt m c)
abbrev DB := dbArr (aCt m c) (A1 m c) (wdt m c)
abbrev HM := hmArr (A1 m c) (B1 m c)
abbrev DG := dgArr (aCt m c) (X1 m c) (A1 m c) (B1 m c) (wgt m c) (wut m c) (wdt m c)
abbrev DYa := backTop (DX m c) (wo m c)
abbrev DYb := backBot (DX m c) (wo m c)

theorem V2_D : D1 (V2 m ρ) c = DX m c := by
  unfold D1
  rw [V2_ct, V2_x, V2_g, V2_a, V2_b, V2_wg, V2_wu, V2_wd]

theorem W3_dx : W3 m ρ c (Proc.devRef .tc main_v11_0) = DX m c := by
  refine (W3_arr m ρ c 9).trans ((final1_9 (V2 m ρ) c).trans ?_)
  rw [V2_D]
theorem W3_da : W3 m ρ c (Proc.devRef .tc main_v11_1) = DA m c := by
  refine (W3_arr m ρ c 10).trans ((final1_10 (V2 m ρ) c).trans ?_)
  rw [V2_ct, V2_a, V2_b, V2_wd]
theorem W3_db : W3 m ρ c (Proc.devRef .tc main_v11_2) = DB m c := by
  refine (W3_arr m ρ c 11).trans ((final1_11 (V2 m ρ) c).trans ?_)
  rw [V2_ct, V2_a, V2_wd]
theorem W3_hm : W3 m ρ c (Proc.devRef .tc main_v11_3) = HM m c := by
  refine (W3_arr m ρ c 12).trans ((final1_12 (V2 m ρ) c).trans ?_)
  rw [V2_a, V2_b]
theorem W3_dg : W3 m ρ c (Proc.devRef .tc main_v11_4) = DG m c := by
  refine (W3_arr m ρ c 13).trans ((final1_13 (V2 m ρ) c).trans ?_)
  rw [V2_ct, V2_x, V2_a, V2_b, V2_wg, V2_wu, V2_wd]
theorem W3_ya_ct : W3 m ρ c (Proc.devRef .tc main_v11_5) = DYa m c := by
  refine (W3_arr m ρ c 14).trans ((final1_14 (V2 m ρ) c).trans ?_)
  rw [V2_D, V2_wo]
theorem W3_yb_ct : W3 m ρ c (Proc.devRef .tc main_v11_6) = DYb m c := by
  refine (W3_arr m ρ c 15).trans ((final1_15 (V2 m ρ) c).trans ?_)
  rw [V2_D, V2_wo]

end Cert.Ffn2KernelIdeal.Ffn2

end
-- ==== Proof.Ffn2Ref.lean ====
/- The second half-step's reference, read at an element: the first half-step's rows, of the residual plus the product of
   the two mixed halves laid side by side with the projection. -/
module

public import proofs.«01_k».proof.Proof.FfnRef
public import proofs.«01_k».proof.Proof.Ffn2Pay
public import proofs.«01_k».proof.Proof.Gen.Ffn2ReferenceIdeal.Read
public import Idealize.ShloMosaic.Lib.Pointwise

@[expose] public section

set_option maxRecDepth 16384

noncomputable section

namespace Cert.Ffn2ReferenceIdeal.Ffn2

open Cert.Ffn2ReferenceIdeal Cert.Ffn2ReferenceIdeal.Gen Cert.Ffn2ReferenceIdeal.Read Cert.Ffn Cert.Ffn2
open Cert.ReferenceIdeal.Ffn (row cols rows)
open Idealize.ShloMosaic Idealize.ShloMosaic.TcCoe Idealize.SL.Sem

variable (x0 : FVec Ideal S8192x1024 .f32) (x1 x2 : FVec Ideal S8192x1024 .bf16) (x3 : FVec Ideal S1x2048x1024 .f32)
variable (x4 : FVec Ideal S1x1024 .f32) (x5 x6 : FVec Ideal S1x1024x2816 .f32)
variable (x7 : FVec Ideal S1x2816x1024 .f32) (x8 : FVec Ideal S8192x1024 .f32)
variable (i : Fin 8192) (k : Fin 1024) (j : Fin 2816)

/-- The rows the norm reads. -/
abbrev xin : FVec Ideal S8192x1024 .f32 := val_main_v5 (F := Ideal) x0 x1 x2 x3

theorem v5_at : xin x0 x1 x2 x3 (ix2 i k) = mixed (row x0 i) (row x1 i) (row x2 i)
    (fun s k => x3 (ix3 0 ⟨s.val, by omega⟩ k)) (fun s k => x3 (ix3 0 ⟨1024 + s.val, by omega⟩ k)) k := by
  pointwise [val_main_v5, val_main_v4, val_main_v3, val_main_v2, val_main_v1, val_main_v0]
  rw [← add_assoc]
  rfl

theorem v13_at (q : Fin 1) : val_main_v13 (F := Ideal) x0 x1 x2 x3 (ix2 i q) = ms (row (xin x0 x1 x2 x3) i) := by
  pointwise [val_main_v13, val_main_v12, val_main_v11, val_main_v10, val_main_v9, val_main_v8, val_main_v7, val_main_cst,
    val_main_cst_0, val_main_cst_1]
  rfl

theorem v14_at (q : Fin 1) : val_main_v14 (F := Ideal) x0 x1 x2 x3 (ix2 i q) = rs (row (xin x0 x1 x2 x3) i) := by
  pointwise [val_main_v14, v13_at]
  rfl

theorem v19_at : val_main_v19 (F := Ideal) x0 x1 x2 x3 (ix2 i k) = xin x0 x1 x2 x3 (ix2 i k) * rs (row (xin x0 x1 x2 x3) i) := by
  pointwise [val_main_v19, val_main_v18, v14_at]

theorem v22_at : val_main_v22 (F := Ideal) x0 x1 x2 x3 x4 (ix2 i k) = nrm (row (xin x0 x1 x2 x3) i) (row x4 0) k := by
  pointwise [val_main_v22, val_main_v21, val_main_v20, val_main_v6, v19_at]
  rfl

theorem v24_at : val_main_v24 (F := Ideal) x0 x1 x2 x3 x4 x5 (ix2 i j) = up (nrm (row (xin x0 x1 x2 x3) i) (row x4 0)) (cols x5) j := by
  pointwise [val_main_v24, val_main_v23, v22_at]
  rfl

theorem v26_at : val_main_v26 (F := Ideal) x0 x1 x2 x3 x4 x6 (ix2 i j) = up (nrm (row (xin x0 x1 x2 x3) i) (row x4 0)) (cols x6) j := by
  pointwise [val_main_v26, val_main_v25, v22_at]
  rfl

theorem s_at : val_main_v27_2 (F := Ideal) x0 x1 x2 x3 x4 x5 (ix2 i j) = sg (val_main_v24 (F := Ideal) x0 x1 x2 x3 x4 x5 (ix2 i j)) := by
  pointwise [val_main_v27_2, val_main_call0_v4, val_main_call0_v3, val_main_call0_v2, val_main_call0_v1, val_main_call0_v0,
    val_main_call0_cst, val_main_call0_cst_0]
  simp only [sg]

theorem v28_at : val_main_v28 (F := Ideal) x0 x1 x2 x3 x4 x5 x6 (ix2 i j)
    = gate (up (nrm (row (xin x0 x1 x2 x3) i) (row x4 0)) (cols x5) j) (up (nrm (row (xin x0 x1 x2 x3) i) (row x4 0)) (cols x6) j) := by
  pointwise [val_main_v28, val_main_v27_0, s_at, v24_at, v26_at]
  rfl

theorem v33_at : val_main_v33 (F := Ideal) x0 x1 x2 x3 x4 x5 x6 x7 (ix2 i k)
    = out (row (xin x0 x1 x2 x3) i) (fun j => gate (up (nrm (row (xin x0 x1 x2 x3) i) (row x4 0)) (cols x5) j) (up (nrm (row (xin x0 x1 x2 x3) i) (row x4 0)) (cols x6) j))
        (rows x7) k := by
  pointwise [val_main_v33, val_main_v32, val_main_v31, val_main_v30, val_main_v29, val_main_cst_3, v28_at]
  rfl

theorem v38_at : val_main_v38 (F := Ideal) x7 x8 (ix2 i j) = dhm (row x8 i) (rows x7) j := by
  pointwise [val_main_v38, val_main_v37, val_main_v36, val_main_v35, val_main_v29, val_main_cst_4]
  rfl

theorem v39_at : val_main_v39 (F := Ideal) x0 x1 x2 x3 x4 x5 x7 x8 (ix2 i j)
    = db (dhm (row x8 i) (rows x7) j) (up (nrm (row (xin x0 x1 x2 x3) i) (row x4 0)) (cols x5) j) := by
  pointwise [val_main_v39, val_main_v27_0, s_at, v24_at, v38_at]
  rw [mul_comm]
  rfl

/-- The gated half's gradient as the chain rule writes it. -/
theorem v41_at : val_main_v41 (F := Ideal) x0 x1 x2 x3 x4 x5 x6 x7 x8 (ix2 i j)
    = daChain (dhm (row x8 i) (rows x7) j) (up (nrm (row (xin x0 x1 x2 x3) i) (row x4 0)) (cols x5) j)
        (up (nrm (row (xin x0 x1 x2 x3) i) (row x4 0)) (cols x6) j) := by
  pointwise [val_main_v41, val_main_call1_v2, val_main_call1_v1, val_main_call1_v0, val_main_v40, val_main_v27_1,
    val_main_call0_v7, val_main_call0_v6, val_main_call0_cst_1, s_at, v24_at, v26_at, v38_at]
  rfl

section Grad

/-- The hidden rows' two gradients in the reference, at a row. -/
abbrev ru : Fin 2816 → EReal := row (val_main_v41 (F := Ideal) x0 x1 x2 x3 x4 x5 x6 x7 x8) i
abbrev rv : Fin 2816 → EReal := row (val_main_v39 (F := Ideal) x0 x1 x2 x3 x4 x5 x7 x8) i

theorem v44_at : val_main_v44 (F := Ideal) x0 x1 x2 x3 x4 x5 x6 x7 x8 (ix2 i k)
    = dn (ru x0 x1 x2 x3 x4 x5 x6 x7 x8 i) (rv x0 x1 x2 x3 x4 x5 x7 x8 i) (cols x5) (cols x6) k := by
  pointwise [val_main_v44, val_main_v43, val_main_v42, val_main_v23, val_main_v25]
  rw [add_comm]
  rfl

theorem v49_at : val_main_v49 (F := Ideal) x0 x1 x2 x3 x4 x5 x6 x7 x8 (ix2 i k)
    = dn (ru x0 x1 x2 x3 x4 x5 x6 x7 x8 i) (rv x0 x1 x2 x3 x4 x5 x7 x8 i) (cols x5) (cols x6) k * x4 (ix2 0 k) := by
  pointwise [val_main_v49, val_main_v48, val_main_v20, val_main_v6, v44_at]

theorem v17_at (q : Fin 1) : val_main_v17 (F := Ideal) x0 x1 x2 x3 (ix2 i q) = mhalf * Ideal.div (rs (row (xin x0 x1 x2 x3) i)) (ms (row (xin x0 x1 x2 x3) i)) := by
  pointwise [val_main_v17, val_main_v16, val_main_v15, val_main_cst_2, v14_at, v13_at]

theorem v60_at : val_main_v60 (F := Ideal) x0 x1 x2 x3 x4 x5 x6 x7 x8 (ix2 i k)
    = dms (row (xin x0 x1 x2 x3) i) (row x4 0) (dn (ru x0 x1 x2 x3 x4 x5 x6 x7 x8 i) (rv x0 x1 x2 x3 x4 x5 x7 x8 i) (cols x5) (cols x6)) := by
  pointwise [val_main_v60, val_main_v59, val_main_v58, val_main_v57, val_main_v56, val_main_v53, val_main_v52, val_main_v51,
    val_main_cst_7, val_main_cst_8, val_main_cst_9, v49_at, v17_at]
  simp only [Finset.univ_unique, Finset.sum_singleton]
  rfl

theorem v65_at : val_main_v65 (F := Ideal) x0 x1 x2 x3 x4 x5 x6 x7 x8 (ix2 i k)
    = dx (row x8 i) (row (xin x0 x1 x2 x3) i) (row x4 0) (dn (ru x0 x1 x2 x3 x4 x5 x6 x7 x8 i) (rv x0 x1 x2 x3 x4 x5 x7 x8 i) (cols x5) (cols x6)) k := by
  pointwise [val_main_v65, val_main_v34, val_main_v64, val_main_v63, val_main_v62, val_main_v61, val_main_v55, val_main_v54, v14_at, v49_at,
    v60_at]
  rfl

theorem v75_at (q : Fin 1) : val_main_v75 (F := Ideal) x0 x1 x2 x3 x4 x5 x6 x7 x8 (ix2 q k)
    = ∑ i, dg (row (xin x0 x1 x2 x3) i) (dn (ru x0 x1 x2 x3 x4 x5 x6 x7 x8 i) (rv x0 x1 x2 x3 x4 x5 x7 x8 i) (cols x5) (cols x6)) k := by
  pointwise [val_main_v75, val_main_v50, val_main_v47, val_main_v46, val_main_v45, val_main_cst_5, val_main_cst_6, v19_at, v44_at]
  simp only [Finset.univ_unique, Finset.sum_singleton]
  rfl

/-- The halves' cotangents: the residual rows' gradient against the projection's rows. -/
theorem v67_at : val_main_v67 (F := Ideal) x0 x1 x2 x3 x4 x5 x6 x7 x8 (ix2 i k)
    = back (row (val_main_v65 (F := Ideal) x0 x1 x2 x3 x4 x5 x6 x7 x8) i) (fun s k => x3 (ix3 0 ⟨s.val, by omega⟩ k)) k := by
  pointwise [val_main_v67, val_main_v66, val_main_v3]
  rfl

theorem v68_at : val_main_v68 (F := Ideal) x0 x1 x2 x3 x4 x5 x6 x7 x8 (ix2 i k)
    = back (row (val_main_v65 (F := Ideal) x0 x1 x2 x3 x4 x5 x6 x7 x8) i)
        (fun s k => x3 (ix3 0 ⟨1024 + s.val, by omega⟩ k)) k := by
  pointwise [val_main_v68, val_main_v66, val_main_v3]
  rfl

end Grad

end Cert.Ffn2ReferenceIdeal.Ffn2

end
-- ==== Proof.Ffn2Claim.lean ====
/- The claims about the second half-step: the frames of its programs, and that both idealized programs end at the same
   twelve arrays. -/
module

public import proofs.«01_k».proof.Defs
public import proofs.«01_k».proof.Proof.Ffn2Run
public import proofs.«01_k».proof.Proof.Ffn2Host
public import proofs.«01_k».proof.Proof.Ffn2Ref
public import proofs.«01_k».proof.Proof.FfnFin
public import proofs.«01_k».proof.Proof.Gen.Ffn2Kernel.Frame
public import proofs.«01_k».proof.Proof.Gen.Ffn2ReferenceIdeal.Run
public import proofs.«01_k».proof.Proof.Gen.Pre_ffn2_finite

@[expose] public section

set_option maxRecDepth 16384

noncomputable section

namespace Cert.Ffn2

open Idealize.ShloMosaic Idealize.ShloMosaic.TcCoe Idealize.SL.Sem
open Cert.Ffn2KernelIdeal (S8192x1024 S8192x2816 S1x1024)
open Cert.KernelIdeal.Ffn (nArr upArr hArr daArr dbArr hmArr dxArr dgArr)
open Cert.Ffn Cert.Ffn2KernelIdeal.Ffn2 Cert.Ffn2ReferenceIdeal.Ffn2

theorem frame_reference : Cert.quiescent_Ffn2ReferenceIdeal := fun m ρ _ =>
  (θ_run _ _ _).mono (fun _ h => ⟨fun c => (h c).2.2.2.2.2.2.2.2.2.2.2.2, sem_eq_zero_of_no_sems (by decide) _⟩)
    (Cert.Ffn2ReferenceIdeal.Value.run (F := Ideal) m ρ)

section Values

variable (m : (ℓ : Loc Ffn2KernelIdeal.nD Ffn2KernelIdeal.τ Ffn2KernelIdeal.sig) → Buf (Elt Ideal) ℓ) (ρ : Dev Ffn2KernelIdeal.nD → PrngReg)
variable (c : Dev Ffn2KernelIdeal.nD)

/-- What the precondition says of a device's arguments. -/
theorem pre_real (h : Cert.Pre_Ffn2KernelIdeal_ffn2_finite m) : (∀ i, IsReal (aH m c i)) ∧ (∀ i, IsReal (aYa m c i))
    ∧ (∀ i, IsReal (aYb m c i)) ∧ (∀ i, IsReal (aWo m c i)) ∧ (∀ i, IsReal (aG m c i))
    ∧ (∀ i, IsReal (aWu m c i)) ∧ (∀ i, IsReal (aWd m c i)) ∧ ∀ i, IsReal (aCt m c i) := by
  have e := congrFun (h c) (fun a => a.elim0)
  obtain ⟨e, e7⟩ := IntOp.andi_eq_one.mp e
  obtain ⟨e, e6⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨IsReal.of_all _ _ _ _ _ _ _ e0, IsReal.of_all _ _ _ _ _ _ _ e1, IsReal.of_all _ _ _ _ _ _ _ e2, IsReal.of_all _ _ _ _ _ _ _ e3,
    IsReal.of_all _ _ _ _ _ _ _ e4, IsReal.of_all _ _ _ _ _ _ _ e5, IsReal.of_all _ _ _ _ _ _ _ e6, IsReal.of_all _ _ _ _ _ _ _ e7⟩

/-- The rows the norm reads are finite. -/
theorem x_real (h : Cert.Pre_Ffn2KernelIdeal_ffn2_finite m) (i : S8192x1024.Idx) : IsReal (X1 m c i) := by
  obtain ⟨hh, ha, hb, ho, -, -, -, -⟩ := pre_real m c h
  exact ((hh _).add (IsReal.sum_univ fun _ => (ha _).mul (ho _))).add (IsReal.sum_univ fun _ => (hb _).mul (ho _))

/-- The reference's results at the kernel's arguments are the kernel's. -/
theorem ref_x : Ffn2ReferenceIdeal.Read.val_main_v5 (F := Ideal) (aH m c) (aYa m c) (aYb m c) (aWo m c) = X1 m c := by
  funext i
  obtain ⟨r, k, rfl⟩ : ∃ (r : Fin 8192) (k : Fin 1024), i = (ix2 r k : S8192x1024.Idx) := ⟨i 0, i 1, eq_ix2 i⟩
  exact v5_at ..

theorem ref_h : Ffn2ReferenceIdeal.Read.val_main_v33 (F := Ideal) (aH m c) (aYa m c) (aYb m c) (aWo m c) (aG m c) (aWg m c) (aWu m c) (aWd m c)
    = H1 m c := by
  funext i
  obtain ⟨r, k, rfl⟩ : ∃ (r : Fin 8192) (k : Fin 1024), i = (ix2 r k : S8192x1024.Idx) := ⟨i 0, i 1, eq_ix2 i⟩
  refine (v33_at ..).trans ?_
  rw [xin, ref_x]
  rfl

theorem ref_n : Ffn2ReferenceIdeal.Read.val_main_v69 (F := Ideal) (aH m c) (aYa m c) (aYb m c) (aWo m c) (aG m c)
    = N1 m c := by
  funext i
  obtain ⟨r, k, rfl⟩ : ∃ (r : Fin 8192) (k : Fin 1024), i = (ix2 r k : S8192x1024.Idx) := ⟨i 0, i 1, eq_ix2 i⟩
  refine (v22_at ..).trans ?_
  rw [xin, ref_x]
  rfl

theorem ref_a : Ffn2ReferenceIdeal.Read.val_main_v70 (F := Ideal) (aH m c) (aYa m c) (aYb m c) (aWo m c) (aG m c) (aWg m c)
    = A1 m c := by
  funext i
  obtain ⟨r, k, rfl⟩ : ∃ (r : Fin 8192) (k : Fin 2816), i = (ix2 r k : S8192x2816.Idx) := ⟨i 0, i 1, eq_ix2 i⟩
  refine (v24_at ..).trans ?_
  rw [xin, ref_x]
  rfl

theorem ref_b : Ffn2ReferenceIdeal.Read.val_main_v71 (F := Ideal) (aH m c) (aYa m c) (aYb m c) (aWo m c) (aG m c) (aWu m c)
    = B1 m c := by
  funext i
  obtain ⟨r, k, rfl⟩ : ∃ (r : Fin 8192) (k : Fin 2816), i = (ix2 r k : S8192x2816.Idx) := ⟨i 0, i 1, eq_ix2 i⟩
  refine (v26_at ..).trans ?_
  rw [xin, ref_x]
  rfl

theorem ref_hm : Ffn2ReferenceIdeal.Read.val_main_v74 (F := Ideal) (aH m c) (aYa m c) (aYb m c) (aWo m c) (aG m c) (aWg m c) (aWu m c)
    = HM m c := by
  funext i
  obtain ⟨r, k, rfl⟩ : ∃ (r : Fin 8192) (k : Fin 2816), i = (ix2 r k : S8192x2816.Idx) := ⟨i 0, i 1, eq_ix2 i⟩
  refine (v28_at ..).trans ?_
  rw [xin, ref_x]
  rfl

theorem ref_db : Ffn2ReferenceIdeal.Read.val_main_v39 (F := Ideal) (aH m c) (aYa m c) (aYb m c) (aWo m c) (aG m c) (aWg m c) (aWd m c) (aCt m c)
    = DB m c := by
  funext i
  obtain ⟨r, k, rfl⟩ : ∃ (r : Fin 8192) (k : Fin 2816), i = (ix2 r k : S8192x2816.Idx) := ⟨i 0, i 1, eq_ix2 i⟩
  refine (v39_at ..).trans ?_
  rw [xin, ref_x]
  rfl

/-- The gated half's gradient, where the arguments are finite. -/
theorem ref_v41 (h : Cert.Pre_Ffn2KernelIdeal_ffn2_finite m) :
    Ffn2ReferenceIdeal.Read.val_main_v41 (F := Ideal) (aH m c) (aYa m c) (aYb m c) (aWo m c) (aG m c) (aWg m c) (aWu m c) (aWd m c) (aCt m c)
      = DA m c := by
  obtain ⟨-, -, -, -, hg, hu, hd, hc⟩ := pre_real m c h
  funext i
  obtain ⟨r, k, rfl⟩ : ∃ (r : Fin 8192) (k : Fin 2816), i = (ix2 r k : S8192x2816.Idx) := ⟨i 0, i 1, eq_ix2 i⟩
  refine (v41_at ..).trans ?_
  rw [xin, ref_x]
  refine (da_eq ?_ _).symm
  exact (dhm_real (fun _ => hc _) (fun _ _ => hd _) _).mul
    (up_real (nrm_real (fun _ => x_real m c h _) (fun _ => hg _)) (fun _ _ => hu _) _)

theorem ref_dx (h : Cert.Pre_Ffn2KernelIdeal_ffn2_finite m) :
    Ffn2ReferenceIdeal.Read.val_main_v65 (F := Ideal) (aH m c) (aYa m c) (aYb m c) (aWo m c) (aG m c) (aWg m c) (aWu m c) (aWd m c) (aCt m c)
      = DX m c := by
  funext i
  obtain ⟨r, k, rfl⟩ : ∃ (r : Fin 8192) (k : Fin 1024), i = (ix2 r k : S8192x1024.Idx) := ⟨i 0, i 1, eq_ix2 i⟩
  refine (v65_at ..).trans ?_
  rw [ru, rv, ref_v41 m c h, ref_db m c, xin, ref_x]
  rfl

theorem ref_dg (h : Cert.Pre_Ffn2KernelIdeal_ffn2_finite m) :
    Ffn2ReferenceIdeal.Read.val_main_v75 (F := Ideal) (aH m c) (aYa m c) (aYb m c) (aWo m c) (aG m c) (aWg m c) (aWu m c) (aWd m c) (aCt m c)
      = DG m c := by
  funext i
  obtain ⟨r, k, rfl⟩ : ∃ (r : Fin 1) (k : Fin 1024), i = (ix2 r k : S1x1024.Idx) := ⟨i 0, i 1, eq_ix2 i⟩
  refine (v75_at ..).trans ?_
  simp only [ru, rv, ref_v41 m c h, ref_db m c, xin, ref_x]
  rfl

theorem ref_ya (h : Cert.Pre_Ffn2KernelIdeal_ffn2_finite m) :
    Ffn2ReferenceIdeal.Read.val_main_v67 (F := Ideal) (aH m c) (aYa m c) (aYb m c) (aWo m c) (aG m c) (aWg m c) (aWu m c) (aWd m c) (aCt m c)
      = DYa m c := by
  funext i
  obtain ⟨r, k, rfl⟩ : ∃ (r : Fin 8192) (k : Fin 1024), i = (ix2 r k : S8192x1024.Idx) := ⟨i 0, i 1, eq_ix2 i⟩
  refine (v67_at ..).trans ?_
  rw [ref_dx m c h]
  rfl

theorem ref_yb (h : Cert.Pre_Ffn2KernelIdeal_ffn2_finite m) :
    Ffn2ReferenceIdeal.Read.val_main_v68 (F := Ideal) (aH m c) (aYa m c) (aYb m c) (aWo m c) (aG m c) (aWg m c) (aWu m c) (aWd m c) (aCt m c)
      = DYb m c := by
  funext i
  obtain ⟨r, k, rfl⟩ : ∃ (r : Fin 8192) (k : Fin 1024), i = (ix2 r k : S8192x1024.Idx) := ⟨i 0, i 1, eq_ix2 i⟩
  refine (v68_at ..).trans ?_
  rw [ref_dx m c h]
  rfl

end Values

set_option maxHeartbeats 1000000 in
/-- Both programs end at the same arrays. -/
theorem value : Cert.algebraic_Ffn2KernelIdeal_Ffn2ReferenceIdeal_pre_ffn2_finite := fun m ρ m' ρ' hp hag =>
  ⟨X1 m, H1 m, N1 m, A1 m, B1 m, DX m, DA m, DB m, HM m, DG m, DYa m, DYb m,
    (θ_run _ _ _).mono (fun _ h c =>
      ⟨(h.1 c _ (Ffn2KernelIdeal.Gen.mem_uc _ (by decide))).trans (W3_x m ρ c),
        (h.1 c _ (Ffn2KernelIdeal.Gen.mem_uc _ (by decide))).trans (W3_h m ρ c),
        (h.1 c _ (Ffn2KernelIdeal.Gen.mem_uc _ (by decide))).trans (W3_n m ρ c),
        (h.1 c _ (Ffn2KernelIdeal.Gen.mem_uc _ (by decide))).trans (W3_a m ρ c),
        (h.1 c _ (Ffn2KernelIdeal.Gen.mem_uc _ (by decide))).trans (W3_b m ρ c),
        (h.1 c _ (Ffn2KernelIdeal.Gen.mem_uc _ (by decide))).trans (W3_dx m ρ c),
        (h.1 c _ (Ffn2KernelIdeal.Gen.mem_uc _ (by decide))).trans (W3_da m ρ c),
        (h.1 c _ (Ffn2KernelIdeal.Gen.mem_uc _ (by decide))).trans (W3_db m ρ c),
        (h.1 c _ (Ffn2KernelIdeal.Gen.mem_uc _ (by decide))).trans (W3_hm m ρ c),
        (h.1 c _ (Ffn2KernelIdeal.Gen.mem_uc _ (by decide))).trans (W3_dg m ρ c),
        (h.1 c _ (Ffn2KernelIdeal.Gen.mem_uc _ (by decide))).trans (W3_ya_ct m ρ c),
        (h.1 c _ (Ffn2KernelIdeal.Gen.mem_uc _ (by decide))).trans (W3_yb_ct m ρ c),
        (h.1 c _ (Ffn2KernelIdeal.Gen.mem_uc _ (by decide))).trans (Ffn2KernelIdeal.Gen.W3_main_arg0 m ρ c),
        (h.1 c _ (Ffn2KernelIdeal.Gen.mem_uc _ (by decide))).trans (Ffn2KernelIdeal.Gen.W3_main_arg1 m ρ c),
        (h.1 c _ (Ffn2KernelIdeal.Gen.mem_uc _ (by decide))).trans (Ffn2KernelIdeal.Gen.W3_main_arg2 m ρ c),
        (h.1 c _ (Ffn2KernelIdeal.Gen.mem_uc _ (by decide))).trans (Ffn2KernelIdeal.Gen.W3_main_arg3 m ρ c),
        (h.1 c _ (Ffn2KernelIdeal.Gen.mem_uc _ (by decide))).trans (Ffn2KernelIdeal.Gen.W3_main_arg4 m ρ c),
        (h.1 c _ (Ffn2KernelIdeal.Gen.mem_uc _ (by decide))).trans (Ffn2KernelIdeal.Gen.W3_main_arg5 m ρ c),
        (h.1 c _ (Ffn2KernelIdeal.Gen.mem_uc _ (by decide))).trans (Ffn2KernelIdeal.Gen.W3_main_arg6 m ρ c),
        (h.1 c _ (Ffn2KernelIdeal.Gen.mem_uc _ (by decide))).trans (Ffn2KernelIdeal.Gen.W3_main_arg7 m ρ c),
        (h.1 c _ (Ffn2KernelIdeal.Gen.mem_uc _ (by decide))).trans (Ffn2KernelIdeal.Gen.W3_main_arg8 m ρ c)⟩)
      (Ffn2KernelIdeal.Ffn2.run_all (F := Ideal) m ρ),
    (θ_run _ _ _).mono (fun _ h c => by
      obtain ⟨h0, h1, h2, h3, h4, h5, h6, h7, h8, h9, h10, h11, ha⟩ := h c
      obtain ⟨a0, a1, a2, a3, a4, a5, a6, a7, a8⟩ := hag c
      refine ⟨h0.trans ?_, h1.trans ?_, h2.trans ?_, h3.trans ?_, h4.trans ?_, h5.trans ?_, h6.trans ?_, h7.trans ?_,
        h8.trans ?_, h9.trans ?_, h10.trans ?_, h11.trans ?_, ha⟩
      · rw [Ffn2ReferenceIdeal.Read.val_main_v5_eq, a0, a1, a2, a3]; exact ref_x m c
      · rw [Ffn2ReferenceIdeal.Read.val_main_v33_eq, a0, a1, a2, a3, a4, a5, a6, a7]; exact ref_h m c
      · rw [Ffn2ReferenceIdeal.Read.val_main_v69_eq, a0, a1, a2, a3, a4]; exact ref_n m c
      · rw [Ffn2ReferenceIdeal.Read.val_main_v70_eq, a0, a1, a2, a3, a4, a5]; exact ref_a m c
      · rw [Ffn2ReferenceIdeal.Read.val_main_v71_eq, a0, a1, a2, a3, a4, a6]; exact ref_b m c
      · rw [Ffn2ReferenceIdeal.Read.val_main_v65_eq, a0, a1, a2, a3, a4, a5, a6, a7, a8]; exact ref_dx m c hp
      · rw [Ffn2ReferenceIdeal.Read.val_main_v72_eq, a0, a1, a2, a3, a4, a5, a6, a7, a8]; exact ref_v41 m c hp
      · rw [Ffn2ReferenceIdeal.Read.val_main_v73_eq, a0, a1, a2, a3, a4, a5, a7, a8]; exact ref_db m c
      · rw [Ffn2ReferenceIdeal.Read.val_main_v74_eq, a0, a1, a2, a3, a4, a5, a6]; exact ref_hm m c
      · rw [Ffn2ReferenceIdeal.Read.val_main_v75_eq, a0, a1, a2, a3, a4, a5, a6, a7, a8]; exact ref_dg m c hp
      · rw [Ffn2ReferenceIdeal.Read.val_main_v76_eq, a0, a1, a2, a3, a4, a5, a6, a7, a8]; exact ref_ya m c hp
      · rw [Ffn2ReferenceIdeal.Read.val_main_v77_eq, a0, a1, a2, a3, a4, a5, a6, a7, a8]; exact ref_yb m c hp)
      (Cert.Ffn2ReferenceIdeal.Value.run (F := Ideal) m' ρ')⟩

end Cert.Ffn2

end
-- ==== Proof.TailSpec.lean ====
/- The model's last step and its loss, row by row, over the extended reals: a row `h` of the activations goes through a
   norm and a logistic gate that weighs a projection of the row `p`, the sum is normed again, and the loss is the mean
   square of what separates it from the target row `t`. Both programs are shown to compute these rows. -/
module

public import proofs.«01_k».proof.Proof.FfnSpec

@[expose] public section

noncomputable section

namespace Cert.Tail

open Idealize.ShloMosaic Cert.Ffn

/-- The gate before the logistic function: a normed row against the gate's weight, plus its bias. -/
def pre (n : Fin 1024 → EReal) (w : Fin 1024 → Fin 1024 → EReal) (b : Fin 1024 → EReal) (k : Fin 1024) : EReal :=
  (∑ j, n j * w j k) + b k

/-- The projected row. -/
def proj (p : Fin 256 → EReal) (w : Fin 256 → Fin 1024 → EReal) (k : Fin 1024) : EReal := ∑ s, p s * w s k

/-- The row after the gated projection was added. -/
def mixed (h a u : Fin 1024 → EReal) (k : Fin 1024) : EReal := h k + sg (a k) * u k

/-- What separates the normed row from the target. -/
def err (y g t : Fin 1024 → EReal) (k : Fin 1024) : EReal := nrm y g k - t k

/-- A row's mean square. -/
def sq (e : Fin 1024 → EReal) : EReal := Ideal.div (∑ k, e k * e k) width

/-- The loss's derivative by an element of a row's error: half of it by each factor of the square. -/
def derr (e : EReal) : EReal := e * Ideal.div half width + Ideal.div half width * e

/-- A norm's gradient by its input row, of the cotangent `d`. -/
def back (x g d : Fin 1024 → EReal) (k : Fin 1024) : EReal :=
  d k * g k * rs x + x k * dms x g d + dms x g d * x k

/-- The gate's gradient: the cotangent `d`, the projection `u` and the logistic's derivative at `a`. -/
def dpre (d u a : EReal) : EReal := d * u * (sg a * (1 - sg a))

/-- The same gradient with the logistic's derivative as the derivative of a reciprocal. -/
def dpreQuot (d u a : EReal) : EReal :=
  -(-(d * u * Ideal.div 1 ((1 + Ideal.exp (-a)) * (1 + Ideal.exp (-a)))) * Ideal.exp (-a))

/-- The first normed row's cotangent. -/
def dn (v : Fin 1024 → EReal) (w : Fin 1024 → Fin 1024 → EReal) (j : Fin 1024) : EReal := ∑ k, v k * w j k

/-- What both programs are given: the rows of the activations, of the projection's input and of the targets, the two
    gains, the gate's bias and the two weights. -/
structure In where
  h : Fin 8192 → Fin 1024 → EReal
  p : Fin 8192 → Fin 256 → EReal
  t : Fin 8192 → Fin 1024 → EReal
  g : Fin 1024 → EReal
  w : Fin 1024 → Fin 1024 → EReal
  b : Fin 1024 → EReal
  wp : Fin 256 → Fin 1024 → EReal
  f : Fin 1024 → EReal

namespace In

variable (x : In) (r : Fin 8192) (k : Fin 1024)

/-- Row by row: the gate before the logistic function, the projection, their sum with the input, the error, the sum's
    cotangent, the gate's and the first norm's. -/
def a : Fin 1024 → EReal := pre (nrm (x.h r) x.g) x.w x.b
def u : Fin 1024 → EReal := proj (x.p r) x.wp
def y : Fin 1024 → EReal := mixed (x.h r) (x.a r) (x.u r)
def e : Fin 1024 → EReal := err (x.y r) x.f (x.t r)
def d : Fin 1024 → EReal := back (x.y r) x.f (fun k => derr (x.e r k))
def v : Fin 1024 → EReal := fun k => dpreQuot (x.d r k) (x.u r k) (x.a r k)
def n : Fin 1024 → EReal := dn (x.v r) x.w

/-- The results: the loss and the gradients by the rows, the two gains, the gate's weight and bias and the projection's
    weight. -/
def loss : EReal := half * ∑ r, sq (x.e r)
def dh : EReal := dx (x.d r) (x.h r) x.g (x.n r) k
def dgain : EReal := ∑ r, dg (x.h r) (x.n r) k
def dw (j : Fin 1024) : EReal := ∑ r, nrm (x.h r) x.g j * x.v r k
def db : EReal := ∑ r, x.v r k
def dwp (s : Fin 256) : EReal := ∑ r, x.p r s * (sg (x.a r k) * x.d r k)
def dfin : EReal := ∑ r, x.y r k * rs (x.y r) * derr (x.e r k)

end In

end Cert.Tail

end
-- ==== Proof.TailPay.lean ====
/- What the last step's body computes of a block of rows, read at an element: the rows of `TailSpec`. -/
module

public import proofs.«01_k».proof.Proof.TailSpec
public import proofs.«01_k».proof.Proof.Tiles
public import proofs.«01_k».proof.Proof.Gen.TailKernelIdeal.Skeleton
public import Idealize.ShloMosaic.Lib.Pointwise

@[expose] public section

set_option maxRecDepth 16384

noncomputable section

namespace Cert.TailKernelIdeal.Tail

open Cert.TailKernelIdeal Cert.TailKernelIdeal.Gen Cert.Ffn Cert.Tail
open Idealize.ShloMosaic Idealize.ShloMosaic.TcCoe Idealize.SL.Sem

/-- Row `r` of a matrix. -/
abbrev row {a b : Nat} (X : Shape.Idx ⟨2, ![a, b]⟩ → EReal) (r : Fin a) : Fin b → EReal := fun k => X (ix2 r k)

/-- A matrix by its coordinates. -/
abbrev mat {a b : Nat} (X : Shape.Idx ⟨2, ![a, b]⟩ → EReal) : Fin a → Fin b → EReal := fun r k => X (ix2 r k)

variable (h t : FVec Ideal S512x1024 .f32) (p : FVec Ideal S512x256 .f32) (g b f : FVec Ideal S1x1024 .f32)
variable (w : FVec Ideal S1024x1024 .bf16) (w0 w1 w2 w3 : FVec Ideal S1x256x256 .bf16)
variable (r : Fin 512) (k : Fin 1024)

/-- The blocks the body goes through: the gate before the logistic function, the projection, the sum, its mean square and
    the reciprocal root, and the error. -/
def aB := k0_pay15 (F := Ideal) h g w b
def uB := k0_pay18 (F := Ideal) (k0_pay14 p) (k0_pay16 p w0) (k0_pay17 w1) w2 w3
def yB := k0_pay24 (F := Ideal) h (k0_pay14 p) (aB h g b w) (k0_pay16 p w0) (k0_pay17 w1) w2 w3
def rB := k0_pay26 (F := Ideal) h (k0_pay14 p) (aB h g b w) (k0_pay16 p w0) (k0_pay17 w1) w2 w3
def qB := k0_pay27 (F := Ideal) h (k0_pay14 p) (aB h g b w) (k0_pay16 p w0) (k0_pay17 w1) w2 w3
def sB := k0_pay28 (F := Ideal) h (k0_pay14 p) (aB h g b w) (k0_pay16 p w0) (k0_pay17 w1) w2 w3
def eB := k0_pay29 (F := Ideal) h (k0_pay14 p) (aB h g b w) (k0_pay16 p w0) (k0_pay17 w1) w2 w3 f t

theorem pay_n : k0_pay13 (F := Ideal) h g (ix2 r k) = nrm (row h r) (row g 0) k := by
  pointwise [k0_pay13, k0_pay12, k0_pay10, k0_pay9]
  rfl

theorem aB_at : aB h g b w (ix2 r k) = pre (nrm (row h r) (row g 0)) (mat w) (row b 0) k := by
  pointwise [aB, k0_pay15, pay_n]
  rfl

theorem yB_at : yB h p g b w w0 w1 w2 w3 (ix2 r k)
    = mixed (row h r) (row (aB h g b w) r) (row (uB p w0 w1 w2 w3) r) k := by
  pointwise [yB, k0_pay24, k0_pay22, k0_pay21, k0_pay20]
  simp only [mixed, sg, zero_sub]
  rfl

theorem yB_row : row (yB h p g b w w0 w1 w2 w3) r = mixed (row h r) (row (aB h g b w) r) (row (uB p w0 w1 w2 w3) r) :=
  funext fun _ => yB_at ..

theorem rB_at (q : Fin 1) : rB h p g b w w0 w1 w2 w3 (ix2 r q) = rs (row (yB h p g b w w0 w1 w2 w3) r) := by
  pointwise [rB, k0_pay26, k0_pay25]
  rfl

theorem qB_at (q : Fin 1) : qB h p g b w w0 w1 w2 w3 (ix2 r q)
    = mhalf * Ideal.div (rs (row (yB h p g b w w0 w1 w2 w3) r)) (ms (row (yB h p g b w w0 w1 w2 w3) r)) := by
  pointwise [qB, k0_pay27, k0_pay26, k0_pay25]
  rfl

theorem sB_at : sB h p g b w w0 w1 w2 w3 (ix2 r k)
    = row (yB h p g b w w0 w1 w2 w3) r k * rs (row (yB h p g b w w0 w1 w2 w3) r) := by
  pointwise [sB, k0_pay28, k0_pay26, k0_pay25]
  rfl

theorem eB_at : eB h t p g b f w w0 w1 w2 w3 (ix2 r k)
    = err (row (yB h p g b w w0 w1 w2 w3) r) (row f 0) (row t r) k := by
  pointwise [eB, k0_pay29, k0_pay28, k0_pay26, k0_pay25, k0_pay19]
  rfl

/-- The projection, block of columns by block of columns: the four weights are the four blocks of `wp`'s columns. -/
theorem uB_at (wp : Fin 256 → Fin 1024 → EReal)
    (h0 : ∀ s c, w0 (ix3 0 s c) = wp s ⟨c.val, by omega⟩) (h1 : ∀ s c, w1 (ix3 0 s c) = wp s ⟨256 + c.val, by omega⟩)
    (h2 : ∀ s c, w2 (ix3 0 s c) = wp s ⟨512 + c.val, by omega⟩) (h3 : ∀ s c, w3 (ix3 0 s c) = wp s ⟨768 + c.val, by omega⟩) :
    uB p w0 w1 w2 w3 (ix2 r k) = proj (row p r) wp k := by
  pointwise [uB, k0_pay18, k0_pay17, k0_pay16, k0_pay14]
  by_cases a0 : k.val < 256
  · rw [dif_pos a0]
    exact Finset.sum_congr rfl fun s _ => congrArg (p (ix2 r s) * ·) (h0 ..)
  rw [dif_neg a0]
  by_cases a1 : k.val - 256 < 256
  · rw [dif_pos a1]
    exact Finset.sum_congr rfl fun s _ => congrArg (p (ix2 r s) * ·) ((h1 s ⟨k.val - 256, a1⟩).trans
      (congrArg (wp s) (Fin.ext (by show 256 + (k.val - 256) = k.val; omega))))
  rw [dif_neg a1]
  by_cases a2 : k.val - 256 - 256 < 256
  · rw [dif_pos a2]
    exact Finset.sum_congr rfl fun s _ => congrArg (p (ix2 r s) * ·) ((h2 s ⟨k.val - 256 - 256, a2⟩).trans
      (congrArg (wp s) (Fin.ext (by show 512 + (k.val - 256 - 256) = k.val; omega))))
  rw [dif_neg a2]
  exact Finset.sum_congr rfl fun s _ => congrArg (p (ix2 r s) * ·) ((h3 s ⟨k.val - 256 - 256 - 256, by omega⟩).trans
    (congrArg (wp s) (Fin.ext (by show 768 + (k.val - 256 - 256 - 256) = k.val; omega))))

section Rows

variable (y e u a : FVec Ideal S512x1024 .f32) (rb qb : FVec Ideal S512x1 .f32)

theorem pay_loss : k0_pay30 (F := Ideal) e = half * ∑ r : Fin 512, sq (row e r) := by
  pointwise [k0_pay30]
  rfl

theorem pay_derr : k0_pay31 (F := Ideal) e (ix2 r k) = derr (e (ix2 r k)) := by
  pointwise [k0_pay31]
  rfl

theorem pay_dgf : k0_pay32 (F := Ideal) y e (ix2 0 k) = ∑ r : Fin 512, y (ix2 r k) * derr (e (ix2 r k)) := by
  pointwise [k0_pay32, pay_derr]

theorem pay_dy (hr : ∀ q : Fin 1, rb (ix2 r q) = rs (row y r)) (hq : ∀ q : Fin 1, qb (ix2 r q) = mhalf * Ideal.div (rs (row y r)) (ms (row y r))) :
    k0_pay33 (F := Ideal) (k0_pay19 f) y rb qb e (ix2 r k) = back (row y r) (row f 0) (fun k => derr (e (ix2 r k))) k := by
  pointwise [k0_pay33, k0_pay19, pay_derr]
  simp only [hr, hq, Finset.univ_unique, Finset.sum_singleton]
  rfl

theorem pay_dp : k0_pay34 (F := Ideal) (k0_pay19 f) (k0_pay22 a) y rb qb e (ix2 r k)
    = sg (a (ix2 r k)) * k0_pay33 (F := Ideal) (k0_pay19 f) y rb qb e (ix2 r k) := by
  pointwise [k0_pay34, k0_pay22, k0_pay21, k0_pay20]
  simp only [sg, zero_sub]

theorem pay_dpre : k0_pay36 (F := Ideal) (k0_pay35 u (k0_pay19 f) (k0_pay20 a) (k0_pay23 a) y rb qb e) (Scalar.ofBits .f32 0x00000000#32) (ix2 r k)
    = dpreQuot (k0_pay33 (F := Ideal) (k0_pay19 f) y rb qb e (ix2 r k)) (u (ix2 r k)) (a (ix2 r k)) := by
  pointwise [k0_pay36, k0_pay35, k0_pay23, k0_pay21, k0_pay20]
  simp only [dpreQuot, zero_sub, mul_one]

theorem pay_dn (v : FVec Ideal S512x1024 .bf16) : k0_pay48 (F := Ideal) v w (ix2 r k) = dn (row v r) (mat w) k := by
  pointwise [k0_pay48]
  rfl

theorem pay_dg (v : FVec Ideal S512x1024 .bf16) : k0_pay49 (F := Ideal) (k0_pay12 h) v w (ix2 0 k)
    = ∑ r : Fin 512, dg (row h r) (dn (row v r) (mat w)) k := by
  pointwise [k0_pay49, k0_pay12, k0_pay10, k0_pay9, pay_dn]
  rfl

theorem pay_dh (v : FVec Ideal S512x1024 .bf16) : k0_pay2 (F := Ideal) h g (k0_pay10 h) (k0_pay11 h) y (k0_pay48 v w) (ix2 r k)
    = dx (row y r) (row h r) (row g 0) (dn (row v r) (mat w)) k := by
  pointwise [k0_pay2, k0_pay11, k0_pay10, k0_pay9, pay_dn]
  simp only [Finset.univ_unique, Finset.sum_singleton]
  rfl

end Rows

section Sums

variable (q : FVec Ideal S1x1024 .f32) (v : FVec Ideal S512x1024 .f32) (z : FVec Ideal S1x256x256 .f32)
variable (j : Fin 1024) (s c : Fin 256) (l : Fin 128)

theorem add_loss (x : EReal) (q : FVec Ideal S1x128 .f32) : k0_pay37 (F := Ideal) x q (ix2 0 l) = q (ix2 0 l) + x := by
  pointwise [k0_pay37]

theorem add_dgf (d : FVec Ideal S1x1024 .f32) : k0_pay38 (F := Ideal) d q (ix2 0 k) = q (ix2 0 k) + d (ix2 0 k) := by
  pointwise [k0_pay38]

theorem add_dg (d : FVec Ideal S1x1024 .f32) : k0_pay1 (F := Ideal) d q (ix2 0 k) = q (ix2 0 k) + d (ix2 0 k) := by
  pointwise [k0_pay1]

theorem add_db (o : EReal) : k0_pay39 (F := Ideal) v o q (ix2 0 k)
    = q (ix2 0 k) + ∑ r : Fin 512, k0_pay36 (F := Ideal) v o (ix2 r k) := by
  pointwise [k0_pay39]

theorem add_dw (n : FVec Ideal S512x1024 .bf16) (o : EReal) (q : FVec Ideal S1024x1024 .f32) :
    k0_pay41 (F := Ideal) n v o q (ix2 j k) = q (ix2 j k) + ∑ r : Fin 512, n (ix2 r j) * k0_pay36 (F := Ideal) v o (ix2 r k) := by
  pointwise [k0_pay41, k0_pay40]

theorem add_dp0 : k0_pay44 (F := Ideal) (k0_pay43 (k0_pay14 p) v z) (ix3 0 s c)
    = z (ix3 0 s c) + ∑ r : Fin 512, p (ix2 r s) * v (ix2 r ⟨256 * 0 + c.val, by omega⟩) := by
  have e : (⟨256 * 0 + c.val, by omega⟩ : Fin 1024) = ⟨c.val, by omega⟩ := Fin.ext (Nat.zero_add _)
  rw [e]
  pointwise [k0_pay44, k0_pay43, k0_pay42, k0_pay14]

theorem add_dp1 : k0_pay45 (F := Ideal) (k0_pay14 p) (k0_pay42 v) z (ix3 0 s c)
    = z (ix3 0 s c) + ∑ r : Fin 512, p (ix2 r s) * v (ix2 r ⟨256 + c.val, by omega⟩) := by
  pointwise [k0_pay45, k0_pay42, k0_pay14]

theorem add_dp2 : k0_pay46 (F := Ideal) (k0_pay14 p) (k0_pay42 v) z (ix3 0 s c)
    = z (ix3 0 s c) + ∑ r : Fin 512, p (ix2 r s) * v (ix2 r ⟨512 + c.val, by omega⟩) := by
  pointwise [k0_pay46, k0_pay42, k0_pay14]

theorem add_dp3 : k0_pay47 (F := Ideal) (k0_pay14 p) (k0_pay42 v) z (ix3 0 s c)
    = z (ix3 0 s c) + ∑ r : Fin 512, p (ix2 r s) * v (ix2 r ⟨768 + c.val, by omega⟩) := by
  pointwise [k0_pay47, k0_pay42, k0_pay14]

end Sums

end Cert.TailKernelIdeal.Tail

end
-- ==== Proof.TailBlk.lean ====
/- The blocks of rows that the last step's grid points read, and the rows they make of them. -/
module

public import proofs.«01_k».proof.Proof.TailPay
public import proofs.«01_k».proof.Proof.Gen.TailKernelIdeal.Value

@[expose] public section

set_option maxRecDepth 16384

noncomputable section

namespace Cert.TailKernelIdeal.Tail

open Cert.TailKernelIdeal Cert.TailKernelIdeal.Gen Cert.Ffn Cert.Tail
open Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N) (r : Fin 512) (k : Fin 1024)

/-- What the call is given. -/
def inp : In where
  h := mat (V m c main_arg0)
  p := mat (V m c main_arg1)
  t := mat (V m c main_arg2)
  g := row (V m c main_arg3) 0
  w := mat (V m c main_v12)
  b := row (V m c main_arg5) 0
  wp s k := V m c main_v10 (ix3 ⟨k.val / 256, by omega⟩ s ⟨k.val % 256, by omega⟩)
  f := row (V m c main_v13) 0

theorem idx0 : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0, 0]
    ∧ win0_7.index t = ![0, 0] ∧ win0_8.index t = ![t.val, 0] ∧ win0_9.index t = ![0, 0] ∧ win0_10.index t = ![0, 0]
    ∧ win0_11.index t = ![0, 0] ∧ win0_12.index t = ![0, 0] ∧ win0_13.index t = ![0, 0, 0] ∧ win0_14.index t = ![0, 0] :=
  (by decide +kernel : ∀ t : Fin grid0.N, _)

/-- A block's row among all of them. -/
def rowAt : Fin 8192 := ⟨t.val * 512 + r.val, by
  have h := t.isLt; have h16 : cfg0.N = 16 := N_0; omega⟩

theorem blk_h : row (iblk (F := Ideal) m c 0 t) r = (inp m c).h (rowAt t r) := by
  funext k
  show iblk m c 0 t (ix2 r k) = V m c main_arg0 (ix2 (rowAt t r) k)
  blk_ext [iblk, idx0 t, rowAt]

theorem blk_p : row (iblk (F := Ideal) m c 1 t) r = (inp m c).p (rowAt t r) := by
  funext k
  show iblk m c 1 t (ix2 r k) = V m c main_arg1 (ix2 (rowAt t r) k)
  blk_ext [iblk, idx0 t, rowAt]

theorem blk_t : row (iblk (F := Ideal) m c 2 t) r = (inp m c).t (rowAt t r) := by
  funext k
  show iblk m c 2 t (ix2 r k) = V m c main_arg2 (ix2 (rowAt t r) k)
  blk_ext [iblk, idx0 t, rowAt]

theorem blk_g : iblk (F := Ideal) m c 3 t = V m c main_arg3 := by
  funext y; blk_ext [iblk, idx0 t]

theorem blk_w : iblk (F := Ideal) m c 4 t = V m c main_v12 := by
  funext y; blk_ext [iblk, idx0 t]

theorem blk_b : iblk (F := Ideal) m c 5 t = V m c main_arg5 := by
  funext y; blk_ext [iblk, idx0 t]

theorem blk_wp : iblk (F := Ideal) m c 6 t = V m c main_v10 := by
  funext y; blk_ext [iblk, idx0 t]

theorem blk_f : iblk (F := Ideal) m c 7 t = V m c main_v13 := by
  funext y; blk_ext [iblk, idx0 t]

/-- One of the projection's four weights, as a point loads it. -/
def wpB (q : Nat) (inb : ∀ i, (![q, 0, 0] : Fin 3 → Nat) i + (![1, 256, 256] : Fin 3 → Nat) i ≤ S4x256x256.size i) : FVec Ideal S1x256x256 .bf16 :=
  View.ld (Val := Elt Ideal) (iblk m c 6 t) (Rect.unit (s := S4x256x256) ![q, 0, 0] ![1, 256, 256] inb)

theorem wpB_at (q : Nat) (inb) (hq : q < 4) (s x : Fin 256) :
    wpB m c t q inb (ix3 0 s x) = (inp m c).wp s ⟨256 * q + x.val, by omega⟩ := by
  refine (Cert.Tiles.ld_at (iblk m c 6 t) q inb hq s x).trans ?_
  rw [blk_wp]
  show V m c main_v10 _ = V m c main_v10 _
  congr 1
  funext i
  match i with
  | 0 => exact Fin.ext (by show q = (256 * q + x.val) / 256; omega)
  | 1 => rfl
  | 2 => exact Fin.ext (by show x.val = (256 * q + x.val) % 256; omega)

/-- A point's blocks. -/
def tA := aB (iblk (F := Ideal) m c 0 t) (iblk m c 3 t) (iblk m c 5 t) (iblk m c 4 t)
def tU := uB (iblk (F := Ideal) m c 1 t) (wpB m c t 0 (by decide)) (wpB m c t 1 (by decide)) (wpB m c t 2 (by decide)) (wpB m c t 3 (by decide))
def tY := yB (iblk (F := Ideal) m c 0 t) (iblk m c 1 t) (iblk m c 3 t) (iblk m c 5 t) (iblk m c 4 t)
  (wpB m c t 0 (by decide)) (wpB m c t 1 (by decide)) (wpB m c t 2 (by decide)) (wpB m c t 3 (by decide))
def tR := rB (iblk (F := Ideal) m c 0 t) (iblk m c 1 t) (iblk m c 3 t) (iblk m c 5 t) (iblk m c 4 t)
  (wpB m c t 0 (by decide)) (wpB m c t 1 (by decide)) (wpB m c t 2 (by decide)) (wpB m c t 3 (by decide))
def tQ := qB (iblk (F := Ideal) m c 0 t) (iblk m c 1 t) (iblk m c 3 t) (iblk m c 5 t) (iblk m c 4 t)
  (wpB m c t 0 (by decide)) (wpB m c t 1 (by decide)) (wpB m c t 2 (by decide)) (wpB m c t 3 (by decide))
def tS := sB (iblk (F := Ideal) m c 0 t) (iblk m c 1 t) (iblk m c 3 t) (iblk m c 5 t) (iblk m c 4 t)
  (wpB m c t 0 (by decide)) (wpB m c t 1 (by decide)) (wpB m c t 2 (by decide)) (wpB m c t 3 (by decide))
def tE := eB (iblk (F := Ideal) m c 0 t) (iblk m c 2 t) (iblk m c 1 t) (iblk m c 3 t) (iblk m c 5 t) (iblk m c 7 t) (iblk m c 4 t)
  (wpB m c t 0 (by decide)) (wpB m c t 1 (by decide)) (wpB m c t 2 (by decide)) (wpB m c t 3 (by decide))
def tD := k0_pay33 (F := Ideal) (k0_pay19 (iblk m c 7 t)) (tY m c t) (tR m c t) (tQ m c t) (tE m c t)
def tP := k0_pay34 (F := Ideal) (k0_pay19 (iblk m c 7 t)) (k0_pay22 (tA m c t)) (tY m c t) (tR m c t) (tQ m c t) (tE m c t)
def tV0 := k0_pay35 (F := Ideal) (tU m c t) (k0_pay19 (iblk m c 7 t)) (k0_pay20 (tA m c t)) (k0_pay23 (tA m c t)) (tY m c t) (tR m c t) (tQ m c t) (tE m c t)
def tV := k0_pay36 (F := Ideal) (tV0 m c t) (Scalar.ofBits .f32 0x00000000#32)

theorem tA_row : row (tA m c t) r = (inp m c).a (rowAt t r) := by
  funext k
  refine (aB_at ..).trans ?_
  rw [blk_h, blk_g, blk_b, blk_w]
  rfl

theorem tU_row : row (tU m c t) r = (inp m c).u (rowAt t r) := by
  funext k
  refine (uB_at _ _ _ _ _ _ _ (inp m c).wp (fun s x => (wpB_at m c t 0 _ (by decide) s x).trans ?_) (fun s x => wpB_at m c t 1 _ (by decide) s x)
    (fun s x => wpB_at m c t 2 _ (by decide) s x) (fun s x => wpB_at m c t 3 _ (by decide) s x)).trans ?_
  · exact congrArg ((inp m c).wp s) (Fin.ext (by show 256 * 0 + x.val = x.val; omega))
  · rw [blk_p]
    rfl

theorem tY_row : row (tY m c t) r = (inp m c).y (rowAt t r) := by
  refine (yB_row ..).trans ?_
  rw [blk_h]
  exact congrArg₂ _ (tA_row m c t r) (tU_row m c t r)

theorem tR_at (q : Fin 1) : tR m c t (ix2 r q) = rs (row (tY m c t) r) := rB_at ..

theorem tQ_at (q : Fin 1) : tQ m c t (ix2 r q) = mhalf * Ideal.div (rs (row (tY m c t) r)) (ms (row (tY m c t) r)) := qB_at ..

theorem tS_at : tS m c t (ix2 r k) = (inp m c).y (rowAt t r) k * rs ((inp m c).y (rowAt t r)) := by
  rw [← tY_row]
  exact sB_at ..

theorem tE_row : row (tE m c t) r = (inp m c).e (rowAt t r) := by
  funext k
  refine (eB_at ..).trans ?_
  rw [blk_t, blk_f]
  exact congrArg (fun y => err y _ _ k) (tY_row m c t r)

theorem tA_at : tA m c t (ix2 r k) = (inp m c).a (rowAt t r) k := congrFun (tA_row m c t r) k
theorem tU_at : tU m c t (ix2 r k) = (inp m c).u (rowAt t r) k := congrFun (tU_row m c t r) k
theorem tE_at : tE m c t (ix2 r k) = (inp m c).e (rowAt t r) k := congrFun (tE_row m c t r) k

theorem tD_at : tD m c t (ix2 r k) = (inp m c).d (rowAt t r) k := by
  refine (pay_dy _ _ _ _ _ _ _ (tR_at m c t r) (tQ_at m c t r)).trans ?_
  rw [tY_row, blk_f]
  have e : (fun k => derr (tE m c t (ix2 r k))) = fun k => derr ((inp m c).e (rowAt t r) k) := funext fun k => congrArg derr (tE_at m c t r k)
  rw [e]
  rfl

theorem tP_at : tP m c t (ix2 r k) = sg ((inp m c).a (rowAt t r) k) * (inp m c).d (rowAt t r) k := by
  rw [← tA_at, ← tD_at]
  exact pay_dp ..

theorem tV_at : tV m c t (ix2 r k) = (inp m c).v (rowAt t r) k := by
  rw [In.v, ← tA_at, ← tD_at, ← tU_at]
  exact pay_dpre ..

theorem tV_row : row (tV m c t) r = (inp m c).v (rowAt t r) := funext fun k => tV_at m c t r k

end Cert.TailKernelIdeal.Tail

end
-- ==== Proof.TailPoint.lean ====
/- What a grid point of the last step stores: the first point over zeros, every other over what the point before it left. -/
module

public import proofs.«01_k».proof.Proof.TailBlk
public import proofs.«01_k».proof.Proof.Stack

@[expose] public section

set_option maxRecDepth 16384

noncomputable section

namespace Cert.TailKernelIdeal.Tail

open Cert.TailKernelIdeal Cert.TailKernelIdeal.Gen Cert.Ffn Cert.Tail Cert.Tiles
open Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- What the point before left. -/
abbrev prev := outsAt0 (F := Ideal) m c (t.val - 1) (Nat.lt_of_le_of_lt (Nat.sub_le _ _) t.isLt)

/-- The gate's cotangent as the two products take it. -/
def tW := k0_pay40 (F := Ideal) (tV0 m c t) (Scalar.ofBits .f32 0x00000000#32)

theorem stored_dh : (outsAt0 (F := Ideal) m c t.val t.isLt).1
    = k0_pay2 (iblk m c 0 t) (iblk m c 3 t) (k0_pay10 (iblk m c 0 t)) (k0_pay11 (iblk m c 0 t)) (tD m c t) (k0_pay48 (tW m c t) (iblk m c 4 t)) := by
  by_cases h0 : t.val % 16 = 0
  · rw [outsAt0_A m c t h0]; frame_out; rfl
  · rw [outsAt0_B m c t h0]; frame_out; rfl

theorem stored_loss_first (h0 : t.val % 16 = 0) : (outsAt0 (F := Ideal) m c t.val t.isLt).2.1
    = k0_pay37 (k0_pay30 (tE m c t)) (k0_pay3 (F := Ideal)) := by
  rw [outsAt0_A m c t h0]; frame_out; rfl

theorem stored_loss_next (h0 : ¬t.val % 16 = 0) : (outsAt0 (F := Ideal) m c t.val t.isLt).2.1
    = k0_pay37 (k0_pay30 (tE m c t)) (prev m c t).2.1 := by
  rw [outsAt0_B m c t h0]; frame_out; rfl

theorem stored_dg_first (h0 : t.val % 16 = 0) : (outsAt0 (F := Ideal) m c t.val t.isLt).2.2.1
    = k0_pay1 (k0_pay49 (k0_pay12 (iblk m c 0 t)) (tW m c t) (iblk m c 4 t)) (k0_pay4 (F := Ideal)) := by
  rw [outsAt0_A m c t h0]; frame_out; rfl

theorem stored_dg_next (h0 : ¬t.val % 16 = 0) : (outsAt0 (F := Ideal) m c t.val t.isLt).2.2.1
    = k0_pay1 (k0_pay49 (k0_pay12 (iblk m c 0 t)) (tW m c t) (iblk m c 4 t)) (prev m c t).2.2.1 := by
  rw [outsAt0_B m c t h0]; frame_out; rfl

theorem stored_dw_first (h0 : t.val % 16 = 0) : (outsAt0 (F := Ideal) m c t.val t.isLt).2.2.2.1
    = k0_pay41 (k0_pay13 (iblk m c 0 t) (iblk m c 3 t)) (tV0 m c t) (Scalar.ofBits .f32 0x00000000#32) (k0_pay5 (F := Ideal)) := by
  rw [outsAt0_A m c t h0]; frame_out; rfl

theorem stored_dw_next (h0 : ¬t.val % 16 = 0) : (outsAt0 (F := Ideal) m c t.val t.isLt).2.2.2.1
    = k0_pay41 (k0_pay13 (iblk m c 0 t) (iblk m c 3 t)) (tV0 m c t) (Scalar.ofBits .f32 0x00000000#32) (prev m c t).2.2.2.1 := by
  rw [outsAt0_B m c t h0]; frame_out; rfl

theorem stored_db_first (h0 : t.val % 16 = 0) : (outsAt0 (F := Ideal) m c t.val t.isLt).2.2.2.2.1
    = k0_pay39 (tV0 m c t) (Scalar.ofBits .f32 0x00000000#32) (k0_pay6 (F := Ideal)) := by
  rw [outsAt0_A m c t h0]; frame_out; rfl

theorem stored_db_next (h0 : ¬t.val % 16 = 0) : (outsAt0 (F := Ideal) m c t.val t.isLt).2.2.2.2.1
    = k0_pay39 (tV0 m c t) (Scalar.ofBits .f32 0x00000000#32) (prev m c t).2.2.2.2.1 := by
  rw [outsAt0_B m c t h0]; frame_out; rfl

theorem stored_df_first (h0 : t.val % 16 = 0) : (outsAt0 (F := Ideal) m c t.val t.isLt).2.2.2.2.2.2
    = k0_pay38 (k0_pay32 (tS m c t) (tE m c t)) (k0_pay8 (F := Ideal)) := by
  rw [outsAt0_A m c t h0]; frame_out; rfl

theorem stored_df_next (h0 : ¬t.val % 16 = 0) : (outsAt0 (F := Ideal) m c t.val t.isLt).2.2.2.2.2.2
    = k0_pay38 (k0_pay32 (tS m c t) (tE m c t)) (prev m c t).2.2.2.2.2.2 := by
  rw [outsAt0_B m c t h0]; frame_out; rfl

/-- Four slices stored one after the other: each reads as it was stored. -/
theorem canon_four (w0 w1 w2 w3 : S1x256x256.Idx → Elt Ideal .f32) (L : List (View.Piece (Elt Ideal) S4x256x256 .f32)) (i3 i2 i1 i0) (q : Fin 4) (s x : Fin 256) :
    View.canon (⟨Rect.unit (s := S4x256x256) ![3, 0, 0] ![1, 256, 256] i3, w3⟩ :: ⟨Rect.unit (s := S4x256x256) ![2, 0, 0] ![1, 256, 256] i2, w2⟩
      :: ⟨Rect.unit (s := S4x256x256) ![1, 0, 0] ![1, 256, 256] i1, w1⟩ :: ⟨Rect.unit (s := S4x256x256) ![0, 0, 0] ![1, 256, 256] i0, w0⟩ :: L) (ix3 q s x)
    = (![w0, w1, w2, w3] q) (ix3 0 s x) := by
  match q with
  | ⟨0, h⟩ => exact (canon_other i3 w3 _ ⟨0, h⟩ (by simp) s x).trans ((canon_other i2 w2 _ ⟨0, h⟩ (by simp) s x).trans
      ((canon_other i1 w1 _ ⟨0, h⟩ (by simp) s x).trans (canon_slice i0 w0 L (by decide) s x)))
  | ⟨1, h⟩ => exact (canon_other i3 w3 _ ⟨1, h⟩ (by simp) s x).trans ((canon_other i2 w2 _ ⟨1, h⟩ (by simp) s x).trans
      (canon_slice i1 w1 _ (by decide) s x))
  | ⟨2, h⟩ => exact (canon_other i3 w3 _ ⟨2, h⟩ (by simp) s x).trans (canon_slice i2 w2 _ (by decide) s x)
  | ⟨3, h⟩ => exact canon_slice i3 w3 _ (by decide) s x

/-- What one slice's sum adds. -/
def part (p : FVec Ideal S512x256 .f32) (v : FVec Ideal S512x1024 .f32) (q : Fin 4) (s x : Fin 256) : EReal :=
  ∑ r : Fin 512, p (ix2 r s) * v (ix2 r ⟨256 * q.val + x.val, by omega⟩)

theorem add_four (p : FVec Ideal S512x256 .f32) (v : FVec Ideal S512x1024 .f32) (z0 z1 z2 z3 : FVec Ideal S1x256x256 .f32) (q : Fin 4) (s x : Fin 256) :
    (![k0_pay44 (F := Ideal) (k0_pay43 (k0_pay14 p) v z0), k0_pay45 (k0_pay14 p) (k0_pay42 v) z1, k0_pay46 (k0_pay14 p) (k0_pay42 v) z2,
      k0_pay47 (k0_pay14 p) (k0_pay42 v) z3] q) (ix3 0 s x) = (![z0, z1, z2, z3] q) (ix3 0 s x) + part p v q s x := by
  match q with
  | ⟨0, h⟩ => exact add_dp0 ..
  | ⟨1, h⟩ => exact add_dp1 ..
  | ⟨2, h⟩ => exact add_dp2 ..
  | ⟨3, h⟩ => exact add_dp3 ..

theorem stored_dp_next (h0 : ¬t.val % 16 = 0) (q : Fin 4) (s x : Fin 256) :
    (outsAt0 (F := Ideal) m c t.val t.isLt).2.2.2.2.2.1 (ix3 q s x) = (prev m c t).2.2.2.2.2.1 (ix3 q s x) + part (iblk m c 1 t) (tP m c t) q s x := by
  rw [outsAt0_B m c t h0]; frame_out
  generalize hQ : k0_pay34 (F := Ideal) _ _ _ _ _ _ = Q
  have e : tP m c t = Q := by rw [← hQ]; rfl
  rw [e]
  refine (canon_four ..).trans ((add_four ..).trans (congrArg (· + _) ?_))
  match q with
  | ⟨0, h⟩ => exact ld_at _ 0 _ h s x
  | ⟨1, h⟩ => exact ld_at _ 1 _ h s x
  | ⟨2, h⟩ => exact ld_at _ 2 _ h s x
  | ⟨3, h⟩ => exact ld_at _ 3 _ h s x

/-- A slice read back from the zeros the first point stores. -/
theorem zeros_at (q : Nat) (inb : ∀ i, (![q, 0, 0] : Fin 3 → Nat) i + (![1, 256, 256] : Fin 3 → Nat) i ≤ S4x256x256.size i) (inb0)
    (j : (Rect.unit (s := S4x256x256) ![q, 0, 0] ![1, 256, 256] inb).toLoadRect.shape.Idx) : (ms0_13 t).view.readCov
      [(⟨Rect.unit ![0, 0, 0] ![4, 256, 256] inb0, k0_pay7 (F := Ideal)⟩ : View.Piece (Elt Ideal) S4x256x256 .f32)]
      (Rect.unit (s := S4x256x256) ![q, 0, 0] ![1, 256, 256] inb).toLoadRect j = (0 : EReal) := by
  refine readCov_apply (e := .f32) (s := S4x256x256) _ (fun _ => (0 : EReal)) _ ?_ ?_ _ j
  · intro p hp x
    obtain rfl := List.mem_singleton.mp hp
    simp [k0_pay7, Ideal.ofBits, Ideal.ieee]; rfl
  · intro y
    refine ⟨_, List.mem_singleton.mpr rfl, (Rect.mem_set_unit (inb := inb0)).mpr fun a => ?_⟩
    have := (y a).isLt
    match a with
    | 0 => exact ⟨Nat.zero_le _, by simpa using (y 0).isLt⟩
    | 1 => exact ⟨Nat.zero_le _, by simpa using (y 1).isLt⟩
    | 2 => exact ⟨Nat.zero_le _, by simpa using (y 2).isLt⟩

theorem stored_dp_first (h0 : t.val % 16 = 0) (q : Fin 4) (s x : Fin 256) :
    (outsAt0 (F := Ideal) m c t.val t.isLt).2.2.2.2.2.1 (ix3 q s x) = 0 + part (iblk m c 1 t) (tP m c t) q s x := by
  rw [outsAt0_A m c t h0]; frame_out
  generalize hQ : k0_pay34 (F := Ideal) _ _ _ _ _ _ = Q
  have e : tP m c t = Q := by rw [← hQ]; rfl
  rw [e]
  refine (canon_four ..).trans ((add_four ..).trans (congrArg (· + _) ?_))
  match q with
  | ⟨0, _⟩ => exact zeros_at t 0 _ _ _
  | ⟨1, _⟩ => exact (readCov_other (h := 0) (h' := 1) _ _ _ _ _ (by decide) _).trans (zeros_at t 1 _ _ _)
  | ⟨2, _⟩ =>
    exact (readCov_other (h := 1) (h' := 2) _ _ _ _ _ (by decide) _).trans
      ((readCov_other (h := 0) (h' := 2) _ _ _ _ _ (by decide) _).trans (zeros_at t 2 _ _ _))
  | ⟨3, _⟩ =>
    exact (readCov_other (h := 2) (h' := 3) _ _ _ _ _ (by decide) _).trans ((readCov_other (h := 1) (h' := 3) _ _ _ _ _ (by decide) _).trans
      ((readCov_other (h := 0) (h' := 3) _ _ _ _ _ (by decide) _).trans (zeros_at t 3 _ _ _)))

end Cert.TailKernelIdeal.Tail

end
-- ==== Proof.TailFin.lean ====
/- The two ways to write the gate's and the loss's derivatives agree, and a half of a sum is the sum of the halves. -/
module

public import proofs.«01_k».proof.Proof.FfnFin
public import proofs.«01_k».proof.Proof.TailSpec

@[expose] public section

noncomputable section

namespace Cert.Tail

open Idealize.ShloMosaic Cert Cert.Ffn

/-- At a finite activation the logistic's derivative is one number, whether it is written with the logistic or as the
    derivative of a reciprocal. -/
theorem dpre_eq (d u : EReal) {a : EReal} (h : IsReal a) : dpreQuot d u a = dpre d u a := by
  obtain ⟨a, rfl⟩ := h
  unfold dpreQuot dpre sg
  have hne : (1 + Real.exp (-a)) ≠ 0 := by positivity
  rw [neg_mul, neg_neg, mul_assoc]
  congr 1
  rw [← EReal.coe_neg, Ideal.exp_coe, ← EReal.coe_one, ← EReal.coe_add, ← EReal.coe_mul, Ideal.div_coe (mul_ne_zero hne hne), Ideal.div_coe hne]
  simp only [← EReal.coe_sub, ← EReal.coe_mul]
  congr 1
  field_simp
  ring

/-- The weight of an element's error in the loss. -/
def wt : EReal := Ideal.div half width
def two : EReal := Ideal.ofBits .f32 0x40000000#32

theorem wt_eq : wt = ((1 / 2048 : ℝ) : EReal) := by
  rw [wt, half_eq, width_eq, Ideal.div_coe (by norm_num), ← EReal.coe_mul]
  norm_num

theorem two_eq : two = ((2 : ℝ) : EReal) := by
  simp [two, Ideal.ofBits, Ideal.ieee, -EReal.coe_mul]; norm_num

theorem derr_eq (e : EReal) : wt * (two * e) = derr e := by
  have h : derr e = e * wt + wt * e := rfl
  rw [h, mul_comm e wt, wt_eq, two_eq, ← mul_assoc, ← EReal.coe_mul]
  have p : (0 : EReal) ≤ ((1 / 2048 : ℝ) : EReal) := EReal.coe_nonneg.mpr (by norm_num)
  rw [← EReal.right_distrib_of_nonneg p p, ← EReal.coe_add]
  norm_num

/-- Halves add up to the half of the sum. -/
theorem half_sum {ι : Type*} (s : Finset ι) (f : ι → EReal) : ∑ i ∈ s, half * f i = half * ∑ i ∈ s, f i := by
  classical
  induction s using Finset.induction_on with
  | empty => simp
  | insert a s h ih =>
    rw [Finset.sum_insert h, Finset.sum_insert h, ih, half_eq,
      EReal.left_distrib_of_nonneg_of_ne_top (EReal.coe_nonneg.mpr (by norm_num)) (EReal.coe_ne_top _)]

/-- The gate's activation is finite where the row, the gain, the weight and the bias are. -/
theorem pre_real {h g b : Fin 1024 → EReal} {w : Fin 1024 → Fin 1024 → EReal} (hh : ∀ k, IsReal (h k)) (hg : ∀ k, IsReal (g k))
    (hw : ∀ j k, IsReal (w j k)) (hb : ∀ k, IsReal (b k)) (k : Fin 1024) : IsReal (pre (nrm h g) w b k) :=
  (IsReal.sum_univ fun j => (nrm_real hh hg j).mul (hw j k)).add (hb k)

end Cert.Tail

end
-- ==== Proof.TailArr.lean ====
/- The last step's seven result arrays: the rows' gradient from the block each point writes, the loss and the five other
   gradients from the blocks that every point adds its rows to. -/
module

public import proofs.«01_k».proof.Proof.TailPoint
public import proofs.«01_k».proof.Proof.TailFin

@[expose] public section

set_option maxRecDepth 16384

noncomputable section

namespace Cert.TailKernelIdeal.Tail

open Cert.TailKernelIdeal Cert.TailKernelIdeal.Gen Cert.Ffn Cert.Tail
open Idealize.ShloMosaic Idealize.ShloMosaic.TcCoe Idealize.SL.Sem
open Idealize.ShloMosaic.Pipeline (Dat)

variable (m : (ℓ : Loc nD τ sig) → Buf (Elt Ideal) ℓ) (c : Dev nD)

/-- The results as functions of what the call is given. -/
def dhArr (x : In) : FVec Ideal S8192x1024 .f32 := fun i => x.dh (i 0) (i 1)
def lossArr (x : In) : FVec Ideal S1x128 .f32 := fun _ => x.loss
def dgArr (x : In) : FVec Ideal S1x1024 .f32 := fun i => x.dgain (i 1)
def dwArr (x : In) : FVec Ideal S1024x1024 .f32 := fun i => x.dw (i 1) (i 0)
def dbArr (x : In) : FVec Ideal S1x1024 .f32 := fun i => x.db (i 1)
def dpArr (x : In) : FVec Ideal S4x256x256 .f32 := fun i => x.dwp ⟨256 * (i 0).val + (i 2).val, by
  have h0 : (i 0).val < 4 := (i 0).isLt; have h2 : (i 2).val < 256 := (i 2).isLt; omega⟩ (i 1)
def dfArr (x : In) : FVec Ideal S1x1024 .f32 := fun i => x.dfin (i 1)

section Parts

variable (t : Fin cfg0.N) (r : Fin 512)

theorem tW_row : row (tW m c t) r = row (tV m c t) r := by
  funext k
  pointwise [tW, tV, k0_pay40, k0_pay36]

/-- A point's parts of the sums. -/
theorem part_loss : k0_pay30 (F := Ideal) (tE m c t) = half * ∑ r, sq ((inp m c).e (rowAt t r)) := by
  rw [pay_loss]
  simp only [tE_row]

theorem part_df (k : Fin 1024) : k0_pay32 (F := Ideal) (tS m c t) (tE m c t) (ix2 0 k)
    = ∑ r, (inp m c).y (rowAt t r) k * rs ((inp m c).y (rowAt t r)) * derr ((inp m c).e (rowAt t r) k) := by
  rw [pay_dgf]
  simp only [tS_at, tE_at]

theorem part_dg (k : Fin 1024) : k0_pay49 (F := Ideal) (k0_pay12 (iblk m c 0 t)) (tW m c t) (iblk m c 4 t) (ix2 0 k)
    = ∑ r, dg ((inp m c).h (rowAt t r)) ((inp m c).n (rowAt t r)) k := by
  rw [pay_dg]
  simp only [tW_row, tV_row, blk_h, blk_w]
  rfl

theorem part_dw (j k : Fin 1024) : (∑ r : Fin 512, k0_pay13 (F := Ideal) (iblk m c 0 t) (iblk m c 3 t) (ix2 r j)
      * k0_pay36 (F := Ideal) (tV0 m c t) (Scalar.ofBits .f32 0x00000000#32) (ix2 r k))
    = ∑ r, nrm ((inp m c).h (rowAt t r)) (inp m c).g j * (inp m c).v (rowAt t r) k := by
  refine Finset.sum_congr rfl fun r _ => ?_
  rw [pay_n, blk_h, blk_g]
  exact congrArg (_ * ·) (tV_at m c t r k)

theorem part_dp (q : Fin 4) (s x : Fin 256) : part (iblk m c 1 t) (tP m c t) q s x
    = ∑ r, (inp m c).p (rowAt t r) s * (sg ((inp m c).a (rowAt t r) ⟨256 * q.val + x.val, by omega⟩)
        * (inp m c).d (rowAt t r) ⟨256 * q.val + x.val, by omega⟩) := by
  unfold part
  refine Finset.sum_congr rfl fun r _ => ?_
  rw [tP_at]
  exact congrArg (· * _) (congrFun (blk_p m c t r) s)

end Parts

/-- What the last point leaves, where the first starts from zero and every point adds its rows: the sum over all rows. -/
theorem sum_of {ι : Type} (f : (n : Nat) → n < cfg0.N → ι → EReal) (g : Fin 8192 → ι → EReal)
    (first : ∀ t : Fin cfg0.N, t.val % 16 = 0 → ∀ k, f t.val t.isLt k = 0 + ∑ r : Fin 512, g (rowAt t r) k)
    (next : ∀ t : Fin cfg0.N, ¬t.val % 16 = 0 → ∀ k,
      f t.val t.isLt k = f (t.val - 1) (Nat.lt_of_le_of_lt (Nat.sub_le _ _) t.isLt) k + ∑ r : Fin 512, g (rowAt t r) k)
    (t : Fin cfg0.N) (hl : t.val % 16 = 15) (k : ι) : f t.val t.isLt k = ∑ r, g r k := by
  have hN : cfg0.N = 16 := N_0
  have ht := t.isLt
  refine (Pipeline.eq_sum_fin_of_reset_step_apply_last f 16 (fun _ => 0) (fun t k => ∑ r : Fin 512, g (rowAt t r) k) first next hN.le t
    (by omega) k).trans ?_
  rw [zero_add]
  exact Fin.sum_mul_add_congr (L := 8192) (fun s r hl => rfl) (by rw [hN])

/-- The arrays the first point starts from hold zeros. -/
theorem zero_row (k : Fin 1024) : k0_pay4 (F := Ideal) (ix2 0 k) = (0 : EReal) ∧ k0_pay6 (F := Ideal) (ix2 0 k) = (0 : EReal)
    ∧ k0_pay8 (F := Ideal) (ix2 0 k) = (0 : EReal) := by
  refine ⟨?_, ?_, ?_⟩ <;> simp [k0_pay4, k0_pay6, k0_pay8, Ideal.ofBits, Ideal.ieee] <;> rfl
theorem zero_loss (l : Fin 128) : k0_pay3 (F := Ideal) (ix2 0 l) = (0 : EReal) := by
  simp [k0_pay3, Ideal.ofBits, Ideal.ieee]; rfl
theorem zero_w (j k : Fin 1024) : k0_pay5 (F := Ideal) (ix2 j k) = (0 : EReal) := by
  simp [k0_pay5, Ideal.ofBits, Ideal.ieee]; rfl

theorem final_8 : (dats (F := Ideal) m 0 c).arrAt 8 cfg0.N = dhArr (inp m c) := by
  refine (dats m 0 c).arrAt_eq_of_covers 8 _ (by decide +kernel) fun t _ y => ?_
  obtain ⟨r, k, rfl⟩ : ∃ (r : Fin 512) (k : Fin 1024), y = (ix2 r k : S512x1024.Idx) := ⟨y 0, y 1, eq_ix2 y⟩
  have e : ((cfg0.win 8).blk t).view.emb (ix2 r k : S512x1024.Idx) = (ix2 (rowAt t r) k : S8192x1024.Idx) := by
    blk_ext [idx0 t, rowAt]
  rw [e]
  blk_simp
  rw [after0_8, stored_dh]
  refine (pay_dh ..).trans ?_
  have ed : row (tD m c t) r = (inp m c).d (rowAt t r) := funext fun k => tD_at m c t r k
  rw [ed, tW_row, tV_row, blk_h, blk_g, blk_w]
  rfl

theorem final_9 : (dats (F := Ideal) m 0 c).arrAt 9 cfg0.N = lossArr (inp m c) := by
  refine (dats m 0 c).arrAt_eq_of_covers 9 _ (by decide +kernel) fun t hf y => ?_
  obtain ⟨q, l, rfl⟩ : ∃ (q : Fin 1) (l : Fin 128), y = (ix2 q l : S1x128.Idx) := ⟨y 0, y 1, eq_ix2 y⟩
  obtain rfl : q = 0 := Subsingleton.elim _ _
  blk_simp
  rw [after0_9]
  refine (sum_of (fun n h (l : Fin 128) => (outsAt0 m c n h).2.1 (ix2 0 l)) (fun r _ => half * Cert.Tail.sq ((inp m c).e r)) (fun t h l => ?_) (fun t h l => ?_) t
    ((flush0_9 t).mp hf) l).trans (half_sum _ _)
  · show (outsAt0 m c t.val t.isLt).2.1 (ix2 0 l) = _
    rw [stored_loss_first m c t h, add_loss, zero_loss, part_loss, half_sum]
  · show (outsAt0 m c t.val t.isLt).2.1 (ix2 0 l) = _
    rw [stored_loss_next m c t h, add_loss, part_loss, half_sum]

theorem final_10 : (dats (F := Ideal) m 0 c).arrAt 10 cfg0.N = dgArr (inp m c) := by
  refine (dats m 0 c).arrAt_eq_of_covers 10 _ (by decide +kernel) fun t hf y => ?_
  obtain ⟨q, k, rfl⟩ : ∃ (q : Fin 1) (k : Fin 1024), y = (ix2 q k : S1x1024.Idx) := ⟨y 0, y 1, eq_ix2 y⟩
  obtain rfl : q = 0 := Subsingleton.elim _ _
  have e : ((cfg0.win 10).blk t).view.emb (ix2 (0 : Fin 1) k : S1x1024.Idx) = (ix2 0 k : S1x1024.Idx) := by
    blk_ext [idx0 t]
  rw [e]
  blk_simp
  rw [after0_10]
  refine sum_of (fun n h (k : Fin 1024) => (outsAt0 m c n h).2.2.1 (ix2 0 k)) (fun r k => dg ((inp m c).h r) ((inp m c).n r) k) (fun t h k => ?_)
    (fun t h k => ?_) t ((flush0_10 t).mp hf) k
  · show (outsAt0 m c t.val t.isLt).2.2.1 (ix2 0 k) = _
    rw [stored_dg_first m c t h, add_dg, (zero_row k).1, part_dg]
  · show (outsAt0 m c t.val t.isLt).2.2.1 (ix2 0 k) = _
    rw [stored_dg_next m c t h, add_dg, part_dg]

theorem final_11 : (dats (F := Ideal) m 0 c).arrAt 11 cfg0.N = dwArr (inp m c) := by
  refine (dats m 0 c).arrAt_eq_of_covers 11 _ (by decide +kernel) fun t hf y => ?_
  obtain ⟨j, k, rfl⟩ : ∃ (j k : Fin 1024), y = (ix2 j k : S1024x1024.Idx) := ⟨y 0, y 1, eq_ix2 y⟩
  have e : ((cfg0.win 11).blk t).view.emb (ix2 j k : S1024x1024.Idx) = (ix2 j k : S1024x1024.Idx) := by
    blk_ext [idx0 t]
  rw [e]
  blk_simp
  rw [after0_11]
  refine sum_of (fun n h (i : Fin 1024 × Fin 1024) => (outsAt0 m c n h).2.2.2.1 (ix2 i.1 i.2))
    (fun r i => nrm ((inp m c).h r) (inp m c).g i.1 * (inp m c).v r i.2) (fun t h i => ?_) (fun t h i => ?_) t ((flush0_11 t).mp hf) (j, k)
  · show (outsAt0 m c t.val t.isLt).2.2.2.1 (ix2 i.1 i.2) = _
    rw [stored_dw_first m c t h, add_dw, zero_w]
    exact congrArg (_ + ·) (part_dw m c t i.1 i.2)
  · show (outsAt0 m c t.val t.isLt).2.2.2.1 (ix2 i.1 i.2) = _
    rw [stored_dw_next m c t h, add_dw]
    exact congrArg (_ + ·) (part_dw m c t i.1 i.2)

theorem final_12 : (dats (F := Ideal) m 0 c).arrAt 12 cfg0.N = dbArr (inp m c) := by
  refine (dats m 0 c).arrAt_eq_of_covers 12 _ (by decide +kernel) fun t hf y => ?_
  obtain ⟨q, k, rfl⟩ : ∃ (q : Fin 1) (k : Fin 1024), y = (ix2 q k : S1x1024.Idx) := ⟨y 0, y 1, eq_ix2 y⟩
  obtain rfl : q = 0 := Subsingleton.elim _ _
  have e : ((cfg0.win 12).blk t).view.emb (ix2 (0 : Fin 1) k : S1x1024.Idx) = (ix2 0 k : S1x1024.Idx) := by
    blk_ext [idx0 t]
  rw [e]
  blk_simp
  rw [after0_12]
  refine sum_of (fun n h (k : Fin 1024) => (outsAt0 m c n h).2.2.2.2.1 (ix2 0 k)) (fun r k => (inp m c).v r k) (fun t h k => ?_)
    (fun t h k => ?_) t ((flush0_12 t).mp hf) k
  · show (outsAt0 m c t.val t.isLt).2.2.2.2.1 (ix2 0 k) = _
    rw [stored_db_first m c t h, add_db, (zero_row k).2.1]
    exact congrArg (_ + ·) (Finset.sum_congr rfl fun r _ => tV_at m c t r k)
  · show (outsAt0 m c t.val t.isLt).2.2.2.2.1 (ix2 0 k) = _
    rw [stored_db_next m c t h, add_db]
    exact congrArg (_ + ·) (Finset.sum_congr rfl fun r _ => tV_at m c t r k)

theorem final_13 : (dats (F := Ideal) m 0 c).arrAt 13 cfg0.N = dpArr (inp m c) := by
  refine (dats m 0 c).arrAt_eq_of_covers 13 _ (by decide +kernel) fun t hf y => ?_
  obtain ⟨q, s, x, rfl⟩ : ∃ (q : Fin 4) (s x : Fin 256), y = (ix3 q s x : S4x256x256.Idx) := ⟨y 0, y 1, y 2, eq_ix3 y⟩
  have e : ((cfg0.win 13).blk t).view.emb (ix3 q s x : S4x256x256.Idx) = (ix3 q s x : S4x256x256.Idx) := by
    blk_ext [idx0 t]
  rw [e]
  blk_simp
  rw [after0_13]
  refine sum_of (fun n h (i : Fin 4 × Fin 256 × Fin 256) => (outsAt0 m c n h).2.2.2.2.2.1 (ix3 i.1 i.2.1 i.2.2))
    (fun r i => (inp m c).p r i.2.1 * (sg ((inp m c).a r ⟨256 * i.1.val + i.2.2.val, by omega⟩) * (inp m c).d r ⟨256 * i.1.val + i.2.2.val, by omega⟩))
    (fun t h i => ?_) (fun t h i => ?_) t ((flush0_13 t).mp hf) (q, s, x)
  · exact (stored_dp_first m c t h i.1 i.2.1 i.2.2).trans (congrArg (_ + ·) (part_dp m c t i.1 i.2.1 i.2.2))
  · exact (stored_dp_next m c t h i.1 i.2.1 i.2.2).trans (congrArg (_ + ·) (part_dp m c t i.1 i.2.1 i.2.2))

theorem final_14 : (dats (F := Ideal) m 0 c).arrAt 14 cfg0.N = dfArr (inp m c) := by
  refine (dats m 0 c).arrAt_eq_of_covers 14 _ (by decide +kernel) fun t hf y => ?_
  obtain ⟨q, k, rfl⟩ : ∃ (q : Fin 1) (k : Fin 1024), y = (ix2 q k : S1x1024.Idx) := ⟨y 0, y 1, eq_ix2 y⟩
  obtain rfl : q = 0 := Subsingleton.elim _ _
  have e : ((cfg0.win 14).blk t).view.emb (ix2 (0 : Fin 1) k : S1x1024.Idx) = (ix2 0 k : S1x1024.Idx) := by
    blk_ext [idx0 t]
  rw [e]
  blk_simp
  rw [after0_14]
  refine sum_of (fun n h (k : Fin 1024) => (outsAt0 m c n h).2.2.2.2.2.2 (ix2 0 k))
    (fun r k => (inp m c).y r k * rs ((inp m c).y r) * derr ((inp m c).e r k)) (fun t h k => ?_) (fun t h k => ?_) t ((flush0_14 t).mp hf) k
  · show (outsAt0 m c t.val t.isLt).2.2.2.2.2.2 (ix2 0 k) = _
    rw [stored_df_first m c t h, add_dgf, (zero_row k).2.2, part_df]
  · show (outsAt0 m c t.val t.isLt).2.2.2.2.2.2 (ix2 0 k) = _
    rw [stored_df_next m c t h, add_dgf, part_df]

end Cert.TailKernelIdeal.Tail

end
-- ==== Proof.TailHost.lean ====
/- The last step's arrays before the call as functions of the program's arguments: the weights as the host laid them
   out. -/
module

public import proofs.«01_k».proof.Proof.TailArr

@[expose] public section

set_option maxRecDepth 16384

noncomputable section

namespace Cert.TailKernelIdeal.Tail

open Cert.TailKernelIdeal Cert.TailKernelIdeal.Gen Cert.Ffn Cert.Tail
open Idealize.ShloMosaic Idealize.ShloMosaic.TcCoe Idealize.SL.Sem

variable (m : (ℓ : Loc nD τ sig) → Buf (Elt Ideal) ℓ) (c : Dev nD)

/-- The arguments on a device. -/
abbrev aH : FVec Ideal S8192x1024 .f32 := m ((c : Thread nD τ).loc main_arg0)
abbrev aP : FVec Ideal S8192x256 .f32 := m ((c : Thread nD τ).loc main_arg1)
abbrev aT : FVec Ideal S8192x1024 .f32 := m ((c : Thread nD τ).loc main_arg2)
abbrev aG : FVec Ideal S1x1024 .f32 := m ((c : Thread nD τ).loc main_arg3)
abbrev aWg : FVec Ideal S1x1024x1024 .f32 := m ((c : Thread nD τ).loc main_arg4)
abbrev aBg : FVec Ideal S1x1024 .f32 := m ((c : Thread nD τ).loc main_arg5)
abbrev aWp : FVec Ideal S1x256x1024 .f32 := m ((c : Thread nD τ).loc main_arg6)
abbrev aGf : FVec Ideal S1024 .f32 := m ((c : Thread nD τ).loc main_arg7)

/-- What the step is given, of the arguments. -/
def argIn : In where
  h := row (aH m c)
  p := row (aP m c)
  t := row (aT m c)
  g := row (aG m c) 0
  w j k := aWg m c (ix3 0 j k)
  b := row (aBg m c) 0
  wp s k := aWp m c (ix3 0 s k)
  f k := aGf m c (ix1 k)

theorem V_w (j k : Fin 1024) : V m c main_v12 (ix2 j k) = aWg m c (ix3 0 j k) := by
  show StableHlo.after hostOps0 (fun b => m (c, b)) (Proc.devRef .tc main_v12) (ix2 j k) = _
  simp only [hostOps0]
  after_results_simp
  change truncf .bf16 (shapeCast S1024x1024 (aWg m c) shapeCasts_S1x1024x1024_S1024x1024) bitsLt_bf16_f32 (ix2 j k) = _
  pointwise []

theorem V_f (k : Fin 1024) : V m c main_v13 (ix2 0 k) = aGf m c (ix1 k) := by
  show StableHlo.after hostOps0 (fun b => m (c, b)) (Proc.devRef .tc main_v13) (ix2 0 k) = _
  simp only [hostOps0]
  after_results_simp
  change shapeCast S1x1024 (aGf m c) shapeCasts_S1024_S1x1024 (ix2 0 k) = _
  pointwise []

/-- One of the projection's four blocks of columns. -/
abbrev cut (o : Nat) (h : S256x1024.Slices ![0, o] S256x256) : FVec Ideal S1x256x256 .f32 :=
  broadcastInDim S1x256x256 ![1, 2] bcast_S256x256_S1x256x256_1_2 (extractStridedSlice S256x256 ![0, o] (shapeCast S256x1024 (aWp m c) shapeCasts_S1x256x1024_S256x1024) h)

theorem V_wp (q : Fin 4) (s x : Fin 256) : V m c main_v10 (ix3 q s x) = aWp m c (ix3 0 s ⟨256 * q.val + x.val, by omega⟩) := by
  show StableHlo.after hostOps0 (fun b => m (c, b)) (Proc.devRef .tc main_v10) (ix3 q s x) = _
  simp only [hostOps0]
  after_results_simp
  change truncf .bf16 (concatenate S4x256x256 0 [⟨S1x256x256, cut m c 0 slices_S256x1024_S256x256_0_0⟩, ⟨S1x256x256, cut m c 256 slices_S256x1024_S256x256_0_256⟩,
    ⟨S1x256x256, cut m c 512 slices_S256x1024_S256x256_0_512⟩, ⟨S1x256x256, cut m c 768 slices_S256x1024_S256x256_0_768⟩] _) bitsLt_bf16_f32 (ix3 q s x) = _
  pointwise [cut]
  match q with
  | ⟨0, _⟩ => exact congrArg (fun k => aWp m c (ix3 0 s k)) (Fin.ext (Nat.zero_add _).symm)
  | ⟨1, _⟩ => rfl
  | ⟨2, _⟩ => rfl
  | ⟨3, _⟩ => rfl

theorem inp_eq : inp m c = argIn m c := by
  have ew : mat (V m c main_v12) = fun j k => aWg m c (ix3 0 j k) := funext fun j => funext fun k => V_w m c j k
  have ef : row (V m c main_v13) 0 = fun k => aGf m c (ix1 k) := funext fun k => V_f m c k
  have ep : (fun (s : Fin 256) (k : Fin 1024) => V m c main_v10 (ix3 ⟨k.val / 256, by omega⟩ s ⟨k.val % 256, by omega⟩))
      = fun s k => aWp m c (ix3 0 s k) := funext fun s => funext fun k => (V_wp m c _ _ _).trans
    (congrArg (fun k => aWp m c (ix3 0 s k)) (Fin.ext (by show 256 * (k.val / 256) + k.val % 256 = k.val; omega)))
  unfold inp argIn
  rw [ew, ef, ep, V_main_arg0, V_main_arg1, V_main_arg2, V_main_arg3, V_main_arg5]

end Cert.TailKernelIdeal.Tail

end
-- ==== Proof.TailRef.lean ====
/- The reference's arrays of the last step, read at an element: the rows of `TailSpec`. -/
module

public import proofs.«01_k».proof.Proof.TailFin
public import proofs.«01_k».proof.Proof.Gen.TailReferenceIdeal.Read
public import Idealize.ShloMosaic.Lib.Pointwise

@[expose] public section

set_option maxRecDepth 16384

noncomputable section

namespace Cert.TailReferenceIdeal.Tail

open Cert.TailReferenceIdeal Cert.TailReferenceIdeal.Gen Cert.TailReferenceIdeal.Read Cert.Ffn Cert.Tail
open Idealize.ShloMosaic Idealize.ShloMosaic.TcCoe Idealize.SL.Sem

/-- Row `r` of a matrix. -/
abbrev row {a b : Nat} (X : Shape.Idx ⟨2, ![a, b]⟩ → EReal) (r : Fin a) : Fin b → EReal := fun k => X (ix2 r k)

variable (x0 : FVec Ideal S8192x1024 .f32) (x1 : FVec Ideal S8192x256 .f32) (x2 : FVec Ideal S8192x1024 .f32)
variable (x3 : FVec Ideal S1x1024 .f32) (x4 : FVec Ideal S1x1024x1024 .f32) (x5 : FVec Ideal S1x1024 .f32)
variable (x6 : FVec Ideal S1x256x1024 .f32) (x7 : FVec Ideal S1024 .f32)

/-- What the step is given, of the arguments. -/
def inp : In where
  h := row x0
  p := row x1
  t := row x2
  g := row x3 0
  w j k := x4 (ix3 0 j k)
  b := row x5 0
  wp s k := x6 (ix3 0 s k)
  f k := x7 (ix1 k)

variable (i : Fin 8192) (k : Fin 1024)

theorem v10_at (q : Fin 1) : val_main_v10 (F := Ideal) x0 (ix2 i q) = ms (row x0 i) := by
  pointwise [val_main_v10, val_main_v9, val_main_v8, val_main_v7, val_main_v6, val_main_v5, val_main_v4, val_main_cst, val_main_cst_0, val_main_cst_1]
  rfl

theorem v11_at (q : Fin 1) : val_main_v11 (F := Ideal) x0 (ix2 i q) = rs (row x0 i) := by
  pointwise [val_main_v11, v10_at]
  rfl

theorem v14_at (q : Fin 1) : val_main_v14 (F := Ideal) x0 (ix2 i q) = mhalf * Ideal.div (rs (row x0 i)) (ms (row x0 i)) := by
  pointwise [val_main_v14, val_main_v13, val_main_v12, val_main_cst_2, v10_at, v11_at]

theorem v16_at : val_main_v16 (F := Ideal) x0 (ix2 i k) = x0 (ix2 i k) * rs (row x0 i) := by
  pointwise [val_main_v16, val_main_v15, v11_at]

theorem v19_at : val_main_v19 (F := Ideal) x0 x3 (ix2 i k) = nrm (row x0 i) (row x3 0) k := by
  pointwise [val_main_v19, val_main_v18, val_main_v17, val_main_v0, v16_at]
  rfl

theorem v23_at : val_main_v23 (F := Ideal) x0 x3 x4 x5 (ix2 i k) = (inp x0 x1 x2 x3 x4 x5 x6 x7).a i k := by
  pointwise [val_main_v23, val_main_v22, val_main_v21, val_main_v20, val_main_v2, val_main_v1, v19_at]
  rfl

theorem v29_at : val_main_v29 (F := Ideal) x0 x3 x4 x5 (ix2 i k) = sg ((inp x0 x1 x2 x3 x4 x5 x6 x7).a i k) := by
  pointwise [val_main_v29, val_main_v28, val_main_v27, val_main_v26, val_main_v25, val_main_v24, val_main_cst_3, val_main_cst_4]
  rw [v23_at x0 x1 x2 x3 x4 x5 x6 x7]
  rfl

theorem v32_at : val_main_v32 (F := Ideal) x0 x3 x4 x5 (ix2 i k) = sg ((inp x0 x1 x2 x3 x4 x5 x6 x7).a i k) * (1 - sg ((inp x0 x1 x2 x3 x4 x5 x6 x7).a i k)) := by
  pointwise [val_main_v32, val_main_v31, val_main_v30, val_main_cst_5]
  rw [v29_at x0 x1 x2 x3 x4 x5 x6 x7]

theorem v33_at : val_main_v33 (F := Ideal) x1 x6 (ix2 i k) = (inp x0 x1 x2 x3 x4 x5 x6 x7).u i k := by
  pointwise [val_main_v33, val_main_v3]
  rfl

theorem v35_at : val_main_v35 (F := Ideal) x0 x1 x3 x4 x5 x6 (ix2 i k) = (inp x0 x1 x2 x3 x4 x5 x6 x7).y i k := by
  pointwise [val_main_v35, val_main_v34]
  rw [v29_at x0 x1 x2 x3 x4 x5 x6 x7, v33_at x0 x1 x2 x3 x4 x5 x6 x7]
  rfl

theorem v42_at (q : Fin 1) : val_main_v42 (F := Ideal) x0 x1 x3 x4 x5 x6 (ix2 i q) = ms ((inp x0 x1 x2 x3 x4 x5 x6 x7).y i) := by
  pointwise [val_main_v42, val_main_v41, val_main_v40, val_main_v39, val_main_v38, val_main_v37, val_main_v36, val_main_cst_6, val_main_cst_7, val_main_cst_8,
    v35_at x0 x1 x2 x3 x4 x5 x6 x7]
  rfl

theorem v43_at (q : Fin 1) : val_main_v43 (F := Ideal) x0 x1 x3 x4 x5 x6 (ix2 i q) = rs ((inp x0 x1 x2 x3 x4 x5 x6 x7).y i) := by
  pointwise [val_main_v43, v42_at x0 x1 x2 x3 x4 x5 x6 x7]
  rfl

theorem v46_at (q : Fin 1) : val_main_v46 (F := Ideal) x0 x1 x3 x4 x5 x6 (ix2 i q) = mhalf * Ideal.div (rs ((inp x0 x1 x2 x3 x4 x5 x6 x7).y i)) (ms ((inp x0 x1 x2 x3 x4 x5 x6 x7).y i)) := by
  pointwise [val_main_v46, val_main_v45, val_main_v44, val_main_cst_9, v42_at x0 x1 x2 x3 x4 x5 x6 x7, v43_at x0 x1 x2 x3 x4 x5 x6 x7]

theorem v48_at : val_main_v48 (F := Ideal) x0 x1 x3 x4 x5 x6 (ix2 i k) = (inp x0 x1 x2 x3 x4 x5 x6 x7).y i k * rs ((inp x0 x1 x2 x3 x4 x5 x6 x7).y i) := by
  pointwise [val_main_v48, val_main_v47, v35_at x0 x1 x2 x3 x4 x5 x6 x7, v43_at x0 x1 x2 x3 x4 x5 x6 x7]

theorem v52_at : val_main_v52 (F := Ideal) x0 x1 x2 x3 x4 x5 x6 x7 (ix2 i k) = (inp x0 x1 x2 x3 x4 x5 x6 x7).e i k := by
  pointwise [val_main_v52, val_main_v51, val_main_v50, val_main_v49, v48_at x0 x1 x2 x3 x4 x5 x6 x7]
  rfl

theorem v60_at : val_main_v60 (F := Ideal) x0 x1 x2 x3 x4 x5 x6 x7 ix0 = (inp x0 x1 x2 x3 x4 x5 x6 x7).loss := by
  pointwise [val_main_v60, val_main_v59, val_main_v58, val_main_v57, val_main_v56, val_main_v53, val_main_cst_11, val_main_cst_12, val_main_cst_13, val_main_cst_14,
    v52_at]
  rfl

theorem v66_at : val_main_v66 (F := Ideal) x0 x1 x2 x3 x4 x5 x6 x7 (ix2 i k) = derr ((inp x0 x1 x2 x3 x4 x5 x6 x7).e i k) := by
  pointwise [val_main_v66, val_main_v65, val_main_v64, val_main_v63, val_main_v62, val_main_v61, val_main_v55, val_main_v54, val_main_cst_15, val_main_cst_16,
    val_main_cst_17, val_main_cst_10, v52_at]
  refine Eq.trans ?_ (derr_eq _)
  simp [wt, two, half, width]

theorem v71_at : val_main_v71 (F := Ideal) x0 x1 x2 x3 x4 x5 x6 x7 (ix2 i k) = derr ((inp x0 x1 x2 x3 x4 x5 x6 x7).e i k) * (inp x0 x1 x2 x3 x4 x5 x6 x7).f k := by
  pointwise [val_main_v71, val_main_v70, val_main_v49, v66_at]
  rfl

theorem v82_at : val_main_v82 (F := Ideal) x0 x1 x2 x3 x4 x5 x6 x7 (ix2 i k) = dms ((inp x0 x1 x2 x3 x4 x5 x6 x7).y i) (inp x0 x1 x2 x3 x4 x5 x6 x7).f (fun k => derr ((inp x0 x1 x2 x3 x4 x5 x6 x7).e i k)) := by
  pointwise [val_main_v82, val_main_v81, val_main_v80, val_main_v79, val_main_v78, val_main_v75, val_main_v74, val_main_v73, val_main_cst_20, val_main_cst_21,
    val_main_cst_22, v71_at, v46_at x0 x1 x2 x3 x4 x5 x6 x7, v35_at x0 x1 x2 x3 x4 x5 x6 x7]
  simp only [Finset.univ_unique, Finset.sum_singleton]
  rfl

theorem v86_at : val_main_v86 (F := Ideal) x0 x1 x2 x3 x4 x5 x6 x7 (ix2 i k) = (inp x0 x1 x2 x3 x4 x5 x6 x7).d i k := by
  pointwise [val_main_v86, val_main_v85, val_main_v84, val_main_v83, val_main_v77, val_main_v76, v82_at, v71_at, v43_at x0 x1 x2 x3 x4 x5 x6 x7,
    v35_at x0 x1 x2 x3 x4 x5 x6 x7]
  rfl

theorem v72_at : val_main_v72 (F := Ideal) x0 x1 x2 x3 x4 x5 x6 x7 (ix1 k) = (inp x0 x1 x2 x3 x4 x5 x6 x7).dfin k := by
  pointwise [val_main_v72, val_main_v69, val_main_v68, val_main_v67, val_main_cst_18, val_main_cst_19, v66_at, v48_at x0 x1 x2 x3 x4 x5 x6 x7]
  simp only [Finset.univ_unique, Finset.sum_singleton]
  rfl

theorem v87_at : val_main_v87 (F := Ideal) x0 x1 x2 x3 x4 x5 x6 x7 (ix2 i k) = sg ((inp x0 x1 x2 x3 x4 x5 x6 x7).a i k) * (inp x0 x1 x2 x3 x4 x5 x6 x7).d i k := by
  pointwise [val_main_v87, v86_at, v29_at x0 x1 x2 x3 x4 x5 x6 x7]

theorem v90_at (s : Fin 256) : val_main_v90 (F := Ideal) x0 x1 x2 x3 x4 x5 x6 x7 (ix2 s k) = (inp x0 x1 x2 x3 x4 x5 x6 x7).dwp k s := by
  pointwise [val_main_v90, val_main_v89, v87_at]
  exact Finset.sum_congr rfl fun r _ => mul_comm _ _

theorem v130_at (q : Fin 4) (s x : Fin 256) : val_main_v130 (F := Ideal) x0 x1 x2 x3 x4 x5 x6 x7 (ix3 q s x) = (inp x0 x1 x2 x3 x4 x5 x6 x7).dwp ⟨256 * q.val + x.val, by omega⟩ s := by
  pointwise [val_main_v130, val_main_v129, val_main_v128, val_main_v127, val_main_v126, val_main_v125, val_main_v124, val_main_v123, val_main_v122, v90_at]
  match q with
  | ⟨0, _⟩ => exact congrArg (fun k => (inp x0 x1 x2 x3 x4 x5 x6 x7).dwp k s) (Fin.ext (Nat.zero_add _).symm)
  | ⟨1, _⟩ => rfl
  | ⟨2, _⟩ => rfl
  | ⟨3, _⟩ => rfl

section Gate

variable (ha : ∀ i k, IsReal ((inp x0 x1 x2 x3 x4 x5 x6 x7).a i k))
include ha

theorem v91_at : val_main_v91 (F := Ideal) x0 x1 x2 x3 x4 x5 x6 x7 (ix2 i k) = (inp x0 x1 x2 x3 x4 x5 x6 x7).v i k := by
  refine Eq.trans ?_ (dpre_eq _ _ (ha i k)).symm
  pointwise [val_main_v91, val_main_v88, v86_at, v33_at x0 x1 x2 x3 x4 x5 x6 x7, v32_at x0 x1 x2 x3 x4 x5 x6 x7]
  rfl

theorem v94_at : val_main_v94 (F := Ideal) x0 x1 x2 x3 x4 x5 x6 x7 (ix1 k) = (inp x0 x1 x2 x3 x4 x5 x6 x7).db k := by
  pointwise [val_main_v94, val_main_v93, val_main_v92, val_main_cst_23, val_main_cst_24, v91_at x0 x1 x2 x3 x4 x5 x6 x7 _ _ ha]
  simp only [Finset.univ_unique, Finset.sum_singleton]
  rfl

theorem v96_at (j : Fin 1024) : val_main_v96 (F := Ideal) x0 x1 x2 x3 x4 x5 x6 x7 (ix2 j k) = (inp x0 x1 x2 x3 x4 x5 x6 x7).dw k j := by
  pointwise [val_main_v96, val_main_v95, v19_at, v91_at x0 x1 x2 x3 x4 x5 x6 x7 _ _ ha]
  exact Finset.sum_congr rfl fun r _ => mul_comm _ _

theorem v97_at : val_main_v97 (F := Ideal) x0 x1 x2 x3 x4 x5 x6 x7 (ix2 i k) = (inp x0 x1 x2 x3 x4 x5 x6 x7).n i k := by
  pointwise [val_main_v97, val_main_v1, v91_at x0 x1 x2 x3 x4 x5 x6 x7 _ _ ha]
  rfl

theorem v103_at : val_main_v103 (F := Ideal) x0 x1 x2 x3 x4 x5 x6 x7 (ix1 k) = (inp x0 x1 x2 x3 x4 x5 x6 x7).dgain k := by
  pointwise [val_main_v103, val_main_v100, val_main_v99, val_main_v98, val_main_cst_25, val_main_cst_26, v16_at, v97_at x0 x1 x2 x3 x4 x5 x6 x7 _ _ ha]
  simp only [Finset.univ_unique, Finset.sum_singleton]
  rfl

theorem v102_at : val_main_v102 (F := Ideal) x0 x1 x2 x3 x4 x5 x6 x7 (ix2 i k) = (inp x0 x1 x2 x3 x4 x5 x6 x7).n i k * (inp x0 x1 x2 x3 x4 x5 x6 x7).g k := by
  pointwise [val_main_v102, val_main_v101, val_main_v17, val_main_v0, v97_at x0 x1 x2 x3 x4 x5 x6 x7 _ _ ha]
  rfl

theorem v114_at : val_main_v114 (F := Ideal) x0 x1 x2 x3 x4 x5 x6 x7 (ix2 i k) = dms ((inp x0 x1 x2 x3 x4 x5 x6 x7).h i) (inp x0 x1 x2 x3 x4 x5 x6 x7).g ((inp x0 x1 x2 x3 x4 x5 x6 x7).n i) := by
  pointwise [val_main_v114, val_main_v113, val_main_v112, val_main_v111, val_main_v110, val_main_v106, val_main_v105, val_main_v104, val_main_cst_27, val_main_cst_28,
    val_main_cst_29, v14_at, v102_at x0 x1 x2 x3 x4 x5 x6 x7 _ _ ha]
  simp only [Finset.univ_unique, Finset.sum_singleton]
  rfl

theorem v118_at : val_main_v118 (F := Ideal) x0 x1 x2 x3 x4 x5 x6 x7 (ix2 i k) = (inp x0 x1 x2 x3 x4 x5 x6 x7).dh i k := by
  pointwise [val_main_v118, val_main_v117, val_main_v116, val_main_v115, val_main_v109, val_main_v108, val_main_v107, v11_at, v86_at,
    v114_at x0 x1 x2 x3 x4 x5 x6 x7 _ _ ha, v102_at x0 x1 x2 x3 x4 x5 x6 x7 _ _ ha]
  show _ + _ + _ + _ = _ + (_ + _ + _)
  rw [add_assoc, add_assoc, add_assoc]
  rfl

end Gate

end Cert.TailReferenceIdeal.Tail

end
-- ==== Proof.TailClaim.lean ====
/- The claims about the last step: the frame of its reference, and that both idealized programs end at the same seven
   arrays. -/
module

public import proofs.«01_k».proof.Defs
public import proofs.«01_k».proof.Proof.TailHost
public import proofs.«01_k».proof.Proof.TailRef
public import proofs.«01_k».proof.Proof.Gen.TailReferenceIdeal.Run
public import proofs.«01_k».proof.Proof.Gen.Pre_tail_finite

@[expose] public section

set_option maxRecDepth 16384

noncomputable section

namespace Cert.Tail

open Idealize.ShloMosaic Idealize.ShloMosaic.TcCoe Idealize.SL.Sem
open Cert.TailKernelIdeal (S8192x1024 S1x128 S1x1024 S1024x1024 S4x256x256)
open Cert.TailKernelIdeal.Tail hiding row
open Cert.TailReferenceIdeal.Tail hiding row inp

theorem frame_reference : Cert.quiescent_TailReferenceIdeal := fun m ρ _ =>
  (θ_run _ _ _).mono (fun _ h => ⟨fun c => (h c).2.2.2.2.2.2.2, sem_eq_zero_of_no_sems (by decide) _⟩)
    (Cert.TailReferenceIdeal.Value.run (F := Ideal) m ρ)

section Values

variable (m : (ℓ : Loc TailKernelIdeal.nD TailKernelIdeal.τ TailKernelIdeal.sig) → Buf (Elt Ideal) ℓ) (c : Dev TailKernelIdeal.nD)

/-- Under the precondition the gate's activation is finite. -/
theorem gate_real (h : Cert.Pre_TailKernelIdeal_tail_finite m) (i : Fin 8192) (k : Fin 1024) : IsReal ((argIn m c).a i k) := by
  have e := congrFun (h c) (fun a => a.elim0)
  obtain ⟨e, e3⟩ := IntOp.andi_eq_one.mp e
  obtain ⟨e, e2⟩ := IntOp.andi_eq_one.mp e
  obtain ⟨e0, e1⟩ := IntOp.andi_eq_one.mp e
  exact pre_real (fun _ => IsReal.of_all (aH m c) _ _ _ _ _ _ e0 _) (fun _ => IsReal.of_all (aG m c) _ _ _ _ _ _ e1 _)
    (fun _ _ => IsReal.of_all (aWg m c) _ _ _ _ _ _ e2 _) (fun _ => IsReal.of_all (aBg m c) _ _ _ _ _ _ e3 _) k

theorem ref_dh (h : Cert.Pre_TailKernelIdeal_tail_finite m) :
    TailReferenceIdeal.Read.val_main_v118 (F := Ideal) (aH m c) (aP m c) (aT m c) (aG m c) (aWg m c) (aBg m c) (aWp m c) (aGf m c) = dhArr (argIn m c) := by
  funext i
  obtain ⟨r, k, rfl⟩ : ∃ (r : Fin 8192) (k : Fin 1024), i = (ix2 r k : S8192x1024.Idx) := ⟨i 0, i 1, eq_ix2 i⟩
  exact v118_at _ _ _ _ _ _ _ _ _ _ (gate_real m c h)

theorem ref_loss :
    TailReferenceIdeal.Read.val_main_v119 (F := Ideal) (aH m c) (aP m c) (aT m c) (aG m c) (aWg m c) (aBg m c) (aWp m c) (aGf m c) = lossArr (argIn m c) := by
  funext i
  obtain ⟨r, k, rfl⟩ : ∃ (r : Fin 1) (k : Fin 128), i = (ix2 r k : S1x128.Idx) := ⟨i 0, i 1, eq_ix2 i⟩
  pointwise [TailReferenceIdeal.Read.val_main_v119]
  exact v60_at ..

theorem ref_dg (h : Cert.Pre_TailKernelIdeal_tail_finite m) :
    TailReferenceIdeal.Read.val_main_v120 (F := Ideal) (aH m c) (aP m c) (aT m c) (aG m c) (aWg m c) (aBg m c) (aWp m c) (aGf m c) = dgArr (argIn m c) := by
  funext i
  obtain ⟨r, k, rfl⟩ : ∃ (r : Fin 1) (k : Fin 1024), i = (ix2 r k : S1x1024.Idx) := ⟨i 0, i 1, eq_ix2 i⟩
  pointwise [TailReferenceIdeal.Read.val_main_v120]
  exact v103_at _ _ _ _ _ _ _ _ _ (gate_real m c h)

theorem ref_dw (h : Cert.Pre_TailKernelIdeal_tail_finite m) :
    TailReferenceIdeal.Read.val_main_v96 (F := Ideal) (aH m c) (aP m c) (aT m c) (aG m c) (aWg m c) (aBg m c) (aWp m c) (aGf m c) = dwArr (argIn m c) := by
  funext i
  obtain ⟨r, k, rfl⟩ : ∃ (r k : Fin 1024), i = (ix2 r k : S1024x1024.Idx) := ⟨i 0, i 1, eq_ix2 i⟩
  exact v96_at _ _ _ _ _ _ _ _ _ (gate_real m c h) _

theorem ref_db (h : Cert.Pre_TailKernelIdeal_tail_finite m) :
    TailReferenceIdeal.Read.val_main_v121 (F := Ideal) (aH m c) (aP m c) (aT m c) (aG m c) (aWg m c) (aBg m c) (aWp m c) (aGf m c) = dbArr (argIn m c) := by
  funext i
  obtain ⟨r, k, rfl⟩ : ∃ (r : Fin 1) (k : Fin 1024), i = (ix2 r k : S1x1024.Idx) := ⟨i 0, i 1, eq_ix2 i⟩
  pointwise [TailReferenceIdeal.Read.val_main_v121]
  exact v94_at _ _ _ _ _ _ _ _ _ (gate_real m c h)

theorem ref_dp :
    TailReferenceIdeal.Read.val_main_v130 (F := Ideal) (aH m c) (aP m c) (aT m c) (aG m c) (aWg m c) (aBg m c) (aWp m c) (aGf m c) = dpArr (argIn m c) := by
  funext i
  obtain ⟨q, s, x, rfl⟩ : ∃ (q : Fin 4) (s x : Fin 256), i = (ix3 q s x : S4x256x256.Idx) := ⟨i 0, i 1, i 2, eq_ix3 i⟩
  exact v130_at ..

theorem ref_df :
    TailReferenceIdeal.Read.val_main_v131 (F := Ideal) (aH m c) (aP m c) (aT m c) (aG m c) (aWg m c) (aBg m c) (aWp m c) (aGf m c) = dfArr (argIn m c) := by
  funext i
  obtain ⟨r, k, rfl⟩ : ∃ (r : Fin 1) (k : Fin 1024), i = (ix2 r k : S1x1024.Idx) := ⟨i 0, i 1, eq_ix2 i⟩
  pointwise [TailReferenceIdeal.Read.val_main_v131]
  exact v72_at ..

end Values

/-- Both programs end at the same arrays. -/
theorem value : Cert.algebraic_TailKernelIdeal_TailReferenceIdeal_pre_tail_finite := fun m ρ m' ρ' hp hag =>
  ⟨fun c => dhArr (argIn m c), fun c => lossArr (argIn m c), fun c => dgArr (argIn m c), fun c => dwArr (argIn m c), fun c => dbArr (argIn m c),
    fun c => dpArr (argIn m c), fun c => dfArr (argIn m c),
    (θ_run _ _ _).mono (fun _ h c => by
      obtain ⟨h0, h1, h2, h3, h4, h5, h6, ha⟩ := h c
      refine ⟨h0.trans ?_, h1.trans ?_, h2.trans ?_, h3.trans ?_, h4.trans ?_, h5.trans ?_, h6.trans ?_, ha⟩
      · rw [final_8, inp_eq]
      · rw [final_9, inp_eq]
      · rw [final_10, inp_eq]
      · rw [final_11, inp_eq]
      · rw [final_12, inp_eq]
      · rw [final_13, inp_eq]
      · rw [final_14, inp_eq])
      (Cert.TailKernelIdeal.Value.run_blocks (F := Ideal) m ρ),
    (θ_run _ _ _).mono (fun _ h c => by
      obtain ⟨h0, h1, h2, h3, h4, h5, h6, ha⟩ := h c
      obtain ⟨a0, a1, a2, a3, a4, a5, a6, a7⟩ := hag c
      change StableHlo.launchContents m' c (Proc.devRef .tc TailReferenceIdeal.main_arg0) = aH m c at a0
      change StableHlo.launchContents m' c (Proc.devRef .tc TailReferenceIdeal.main_arg1) = aP m c at a1
      change StableHlo.launchContents m' c (Proc.devRef .tc TailReferenceIdeal.main_arg2) = aT m c at a2
      change StableHlo.launchContents m' c (Proc.devRef .tc TailReferenceIdeal.main_arg3) = aG m c at a3
      change StableHlo.launchContents m' c (Proc.devRef .tc TailReferenceIdeal.main_arg4) = aWg m c at a4
      change StableHlo.launchContents m' c (Proc.devRef .tc TailReferenceIdeal.main_arg5) = aBg m c at a5
      change StableHlo.launchContents m' c (Proc.devRef .tc TailReferenceIdeal.main_arg6) = aWp m c at a6
      change StableHlo.launchContents m' c (Proc.devRef .tc TailReferenceIdeal.main_arg7) = aGf m c at a7
      refine ⟨h0.trans ?_, h1.trans ?_, h2.trans ?_, h3.trans ?_, h4.trans ?_, h5.trans ?_, h6.trans ?_, ha⟩
      · rw [TailReferenceIdeal.Read.val_main_v118_eq, a0, a1, a2, a3, a4, a5, a6, a7]; exact ref_dh m c hp
      · rw [TailReferenceIdeal.Read.val_main_v119_eq, a0, a1, a2, a3, a4, a5, a6, a7]; exact ref_loss m c
      · rw [TailReferenceIdeal.Read.val_main_v120_eq, a0, a1, a2, a3, a4, a5, a6, a7]; exact ref_dg m c hp
      · rw [TailReferenceIdeal.Read.val_main_v96_eq, a0, a1, a2, a3, a4, a5, a6, a7]; exact ref_dw m c hp
      · rw [TailReferenceIdeal.Read.val_main_v121_eq, a0, a1, a2, a3, a4, a5, a6, a7]; exact ref_db m c hp
      · rw [TailReferenceIdeal.Read.val_main_v130_eq, a0, a1, a2, a3, a4, a5, a6, a7]; exact ref_dp m c
      · rw [TailReferenceIdeal.Read.val_main_v131_eq, a0, a1, a2, a3, a4, a5, a6, a7]; exact ref_df m c)
      (Cert.TailReferenceIdeal.Value.run (F := Ideal) m' ρ')⟩

end Cert.Tail

end
-- ==== Proof.AdamwClaim.lean ====
/- The optimiser's call at the input projection's shard: the three arrays it ends at, the reference's three, and the claims about
   both. The call works on its arguments laid out as rows of eight by 128; since every operation of a step is entry by
   entry, laying the arguments out and laying the results out come to the same. -/
module

public import proofs.«01_k».proof.Defs
public import proofs.«01_k».proof.Proof.Tiles
public import proofs.«01_k».proof.Proof.Gen.AdamwKernelIdeal.Value
public import proofs.«01_k».proof.Proof.Gen.AdamwReferenceIdeal.Run
public import proofs.«01_k».proof.Proof.Gen.AdamwReferenceIdeal.Read

@[expose] public section

set_option maxRecDepth 16384

noncomputable section

namespace Cert.Adamw

open Idealize.ShloMosaic Idealize.ShloMosaic.TcCoe Idealize.SL.Sem

/-- A number given by its bits. -/
abbrev num (b : BitVec 32) : EReal := Scalar.ofBits (F := Ideal) .f32 b

/-- The new first moment, the new second moment, and the step, of one entry. -/
def first (g m : EReal) : EReal := num 0x3F666666#32 * m + num 0x3DCCCCCD#32 * g
def second (g v : EReal) : EReal := num 0x3F7FBE77#32 * v + num 0x3A83126F#32 * (g * g)
def step (w g m v : EReal) : EReal :=
  num 0xBA83126F#32 * (FloatOps.divf (F := Ideal) (φ := .f32) (FloatOps.divf (F := Ideal) (φ := .f32) (first g m) (num 0x3F26BD02#32))
      (FloatOps.sqrt (F := Ideal) (φ := .f32) (FloatOps.divf (F := Ideal) (φ := .f32) (second g v) (num 0x3C231ACC#32)) + num 0x322BCC77#32)
    + num 0x3C23D70A#32 * w)

end Cert.Adamw

namespace Cert.AdamwKernelIdeal.Adamw

open Cert.AdamwKernelIdeal Cert.AdamwKernelIdeal.Gen Cert.Adamw
open Idealize.ShloMosaic Idealize.ShloMosaic.TcCoe Idealize.SL.Sem

/-- The layout the call works on. -/
abbrev lay (a : FVec Ideal S1x1024x1156 .f32) : FVec Ideal S1156x8x128 .f32 :=
  transpose S1156x8x128 [2, 0, 1] (shapeCast S8x128x1156 a shapeCasts_S1x1024x1156_S8x128x1156) transposes_S8x128x1156_S1156x8x128_2_0_1

variable (m : (ℓ : Loc nD τ sig) → Buf (Elt Ideal) ℓ) (c : Dev nD)

abbrev aW : FVec Ideal S1x1024x1156 .f32 := m ((c : Thread nD τ).loc main_arg0)
abbrev aG : FVec Ideal S1x1024x1156 .f32 := m ((c : Thread nD τ).loc main_arg1)
abbrev aM : FVec Ideal S1x1024x1156 .f32 := m ((c : Thread nD τ).loc main_arg2)
abbrev aV : FVec Ideal S1x1024x1156 .f32 := m ((c : Thread nD τ).loc main_arg3)

theorem V_w : V m c main_v1 = lay (aW m c) := by
  show StableHlo.after hostOps0 (fun b => m (c, b)) (Proc.devRef .tc main_v1) = _
  simp only [hostOps0]
  after_results_simp
  rfl
theorem V_g : V m c main_v3 = lay (aG m c) := by
  show StableHlo.after hostOps0 (fun b => m (c, b)) (Proc.devRef .tc main_v3) = _
  simp only [hostOps0]
  after_results_simp
  rfl
theorem V_m : V m c main_v5 = lay (aM m c) := by
  show StableHlo.after hostOps0 (fun b => m (c, b)) (Proc.devRef .tc main_v5) = _
  simp only [hostOps0]
  after_results_simp
  rfl
theorem V_v : V m c main_v7 = lay (aV m c) := by
  show StableHlo.after hostOps0 (fun b => m (c, b)) (Proc.devRef .tc main_v7) = _
  simp only [hostOps0]
  after_results_simp
  rfl

theorem idx0 : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0] :=
  (by decide +kernel : ∀ t : Fin grid0.N, _)

/-- The array row a point's block row sits at. -/
def rowAt (t : Fin cfg0.N) (r : Fin 289) : Fin 1156 := ⟨t.val * 289 + r.val, by
  have h := t.isLt; have h4 : cfg0.N = 4 := N_0; omega⟩

section Blocks
variable (t : Fin cfg0.N) (r : Fin 289) (a : Fin 8) (b : Fin 128)
theorem blk_w : iblk (F := Ideal) m c 0 t (ix3 r a b) = lay (aW m c) (ix3 (rowAt t r) a b) := by
  rw [← V_w]; blk_ext [iblk, idx0 t, rowAt]
theorem blk_g : iblk (F := Ideal) m c 1 t (ix3 r a b) = lay (aG m c) (ix3 (rowAt t r) a b) := by
  rw [← V_g]; blk_ext [iblk, idx0 t, rowAt]
theorem blk_m : iblk (F := Ideal) m c 2 t (ix3 r a b) = lay (aM m c) (ix3 (rowAt t r) a b) := by
  rw [← V_m]; blk_ext [iblk, idx0 t, rowAt]
theorem blk_v : iblk (F := Ideal) m c 3 t (ix3 r a b) = lay (aV m c) (ix3 (rowAt t r) a b) := by
  rw [← V_v]; blk_ext [iblk, idx0 t, rowAt]
end Blocks

/-- The body's results of its blocks, entry by entry. -/
theorem pay_step (g m v w : FVec Ideal S289x8x128 .f32) (y : S289x8x128.Idx) : k0_pay4 (F := Ideal) g m v w y = step (w y) (g y) (m y) (v y) := by
  simp only [k0_pay4, k0_pay3, k0_pay2, k0_pay1, shapeCast_self]; rfl
theorem pay_first (g m : FVec Ideal S289x8x128 .f32) (y : S289x8x128.Idx) : k0_pay2 (F := Ideal) g m y = first (g y) (m y) := by
  simp only [k0_pay2, k0_pay1, shapeCast_self]; rfl
theorem pay_second (g v : FVec Ideal S289x8x128 .f32) (y : S289x8x128.Idx) : k0_pay3 (F := Ideal) g v y = second (g y) (v y) := by
  simp only [k0_pay3, k0_pay1, shapeCast_self]; rfl

/-- The three result arrays of the arguments. -/
def stepArr (w g m v : FVec Ideal S1x1024x1156 .f32) : FVec Ideal S1156x8x128 .f32 := fun i => step (lay w i) (lay g i) (lay m i) (lay v i)
def firstArr (g m : FVec Ideal S1x1024x1156 .f32) : FVec Ideal S1156x8x128 .f32 := fun i => first (lay g i) (lay m i)
def secondArr (g v : FVec Ideal S1x1024x1156 .f32) : FVec Ideal S1156x8x128 .f32 := fun i => second (lay g i) (lay v i)

theorem final_4 : (dats (F := Ideal) m 0 c).arrAt 4 cfg0.N = stepArr (aW m c) (aG m c) (aM m c) (aV m c) := by
  refine (dats m 0 c).arrAt_eq_of_covers 4 _ (by decide +kernel) fun t _ y => ?_
  obtain ⟨r, a, b, rfl⟩ : ∃ (r : Fin 289) (a : Fin 8) (b : Fin 128), y = (ix3 r a b : S289x8x128.Idx) := ⟨y 0, y 1, y 2, eq_ix3 y⟩
  have e : ((cfg0.win 4).blk t).view.emb (ix3 r a b : S289x8x128.Idx) = (ix3 (rowAt t r) a b : S1156x8x128.Idx) := by
    blk_ext [idx0 t, rowAt]
  rw [e]
  blk_simp
  rw [after0_4]; frame_out
  refine (pay_step ..).trans ?_
  rw [blk_w, blk_g, blk_m, blk_v]
  rfl

theorem final_5 : (dats (F := Ideal) m 0 c).arrAt 5 cfg0.N = firstArr (aG m c) (aM m c) := by
  refine (dats m 0 c).arrAt_eq_of_covers 5 _ (by decide +kernel) fun t _ y => ?_
  obtain ⟨r, a, b, rfl⟩ : ∃ (r : Fin 289) (a : Fin 8) (b : Fin 128), y = (ix3 r a b : S289x8x128.Idx) := ⟨y 0, y 1, y 2, eq_ix3 y⟩
  have e : ((cfg0.win 5).blk t).view.emb (ix3 r a b : S289x8x128.Idx) = (ix3 (rowAt t r) a b : S1156x8x128.Idx) := by
    blk_ext [idx0 t, rowAt]
  rw [e]
  blk_simp
  rw [after0_5]; frame_out
  refine (pay_first ..).trans ?_
  rw [blk_g, blk_m]
  rfl

theorem final_6 : (dats (F := Ideal) m 0 c).arrAt 6 cfg0.N = secondArr (aG m c) (aV m c) := by
  refine (dats m 0 c).arrAt_eq_of_covers 6 _ (by decide +kernel) fun t _ y => ?_
  obtain ⟨r, a, b, rfl⟩ : ∃ (r : Fin 289) (a : Fin 8) (b : Fin 128), y = (ix3 r a b : S289x8x128.Idx) := ⟨y 0, y 1, y 2, eq_ix3 y⟩
  have e : ((cfg0.win 6).blk t).view.emb (ix3 r a b : S289x8x128.Idx) = (ix3 (rowAt t r) a b : S1156x8x128.Idx) := by
    blk_ext [idx0 t, rowAt]
  rw [e]
  blk_simp
  rw [after0_6]; frame_out
  refine (pay_second ..).trans ?_
  rw [blk_g, blk_v]
  rfl

end Cert.AdamwKernelIdeal.Adamw

namespace Cert.Adamw

open Idealize.ShloMosaic Idealize.ShloMosaic.TcCoe Idealize.SL.Sem
open Cert.AdamwKernelIdeal (S1x1024x1156)
open Cert.AdamwKernelIdeal.Adamw

variable (w g m v : FVec Ideal S1x1024x1156 .f32)

/-- The reference's results, laid out, are those arrays. -/
theorem ref_step : AdamwReferenceIdeal.Read.val_main_v25 (F := Ideal) w g m v = stepArr w g m v := by
  funext i
  rfl
theorem ref_first : AdamwReferenceIdeal.Read.val_main_v27 (F := Ideal) g m = firstArr g m := by
  funext i
  rfl
theorem ref_second : AdamwReferenceIdeal.Read.val_main_v29 (F := Ideal) g v = secondArr g v := by
  funext i
  rfl

theorem frame_reference : Cert.quiescent_AdamwReferenceIdeal := fun m ρ _ =>
  (θ_run _ _ _).mono (fun _ h => ⟨fun c => (h c).2.2.2, sem_eq_zero_of_no_sems (by decide) _⟩)
    (Cert.AdamwReferenceIdeal.Value.run (F := Ideal) m ρ)

/-- Both programs end at the same arrays. -/
theorem value : Cert.algebraic_AdamwKernelIdeal_AdamwReferenceIdeal := fun m ρ m' ρ' _ hag =>
  ⟨fun c => stepArr (aW m c) (aG m c) (aM m c) (aV m c), fun c => firstArr (aG m c) (aM m c), fun c => secondArr (aG m c) (aV m c),
    (θ_run _ _ _).mono (fun _ h c => by
      obtain ⟨h0, h1, h2, ha⟩ := h c
      exact ⟨h0.trans (final_4 m c), h1.trans (final_5 m c), h2.trans (final_6 m c), ha⟩)
      (Cert.AdamwKernelIdeal.Value.run_blocks (F := Ideal) m ρ),
    (θ_run _ _ _).mono (fun _ h c => by
      obtain ⟨h0, h1, h2, ha⟩ := h c
      obtain ⟨a0, a1, a2, a3⟩ := hag c
      change m' ((c.tc : Thread AdamwReferenceIdeal.nD AdamwReferenceIdeal.τ).loc AdamwReferenceIdeal.main_arg0) = aW m c at a0
      change m' ((c.tc : Thread AdamwReferenceIdeal.nD AdamwReferenceIdeal.τ).loc AdamwReferenceIdeal.main_arg1) = aG m c at a1
      change m' ((c.tc : Thread AdamwReferenceIdeal.nD AdamwReferenceIdeal.τ).loc AdamwReferenceIdeal.main_arg2) = aM m c at a2
      change m' ((c.tc : Thread AdamwReferenceIdeal.nD AdamwReferenceIdeal.τ).loc AdamwReferenceIdeal.main_arg3) = aV m c at a3
      refine ⟨h0.trans ?_, h1.trans ?_, h2.trans ?_, ha⟩
      · rw [AdamwReferenceIdeal.Read.val_main_v25_eq, a0, a1, a2, a3]; exact ref_step ..
      · rw [AdamwReferenceIdeal.Read.val_main_v27_eq, a1, a2]; exact ref_first ..
      · rw [AdamwReferenceIdeal.Read.val_main_v29_eq, a1, a3]; exact ref_second ..)
      (Cert.AdamwReferenceIdeal.Value.run (F := Ideal) m' ρ')⟩

end Cert.Adamw

end
-- ==== Proof.DwClaim.lean ====
/- The gradient of the down projection's matrix: the array the call ends at, the reference's, and the claims about both. The
   call goes over the 8192 rows of its operands in four blocks and keeps the running sum beside it; two column blocks of
   the result are gone through one after the other. -/
module

public import proofs.«01_k».proof.Defs
public import proofs.«01_k».proof.Proof.Tiles
public import proofs.«01_k».proof.Proof.Gen.DwKernelIdeal.Value
public import proofs.«01_k».proof.Proof.Gen.DwReferenceIdeal.Run
public import proofs.«01_k».proof.Proof.Gen.DwReferenceIdeal.Read
public import Idealize.ShloMosaic.Lib.Pointwise
public import Idealize.ShloMosaic.Lib.Pipeline.ReadBack

@[expose] public section

set_option maxRecDepth 16384

noncomputable section

namespace Cert.DwKernelIdeal.Dw

open Cert.DwKernelIdeal Cert.DwKernelIdeal.Gen
open Idealize.ShloMosaic Idealize.ShloMosaic.TcCoe Idealize.SL.Sem

variable (m : (ℓ : Loc nD τ sig) → Buf (Elt Ideal) ℓ) (c : Dev nD)

/-- The two operands: what the projection multiplied, and the cotangent of what it gave. -/
abbrev aH : FVec Ideal S8192x2816 .bf16 := m ((c : Thread nD τ).loc main_arg0)
abbrev aD : FVec Ideal S8192x1024 .f32 := m ((c : Thread nD τ).loc main_arg1)

/-- One row's part of one entry of the gradient, and the gradient. -/
def part (h : FVec Ideal S8192x2816 .bf16) (d : FVec Ideal S8192x1024 .f32) (r : Fin 2816) (k : Fin 1024) (s : Fin 8192) : EReal :=
  h (ix2 s r) * (d (ix2 s k) * Scalar.ofBits (F := Ideal) .f32 0x3F000000#32)
def gradArr (h : FVec Ideal S8192x2816 .bf16) (d : FVec Ideal S8192x1024 .f32) : FVec Ideal S2816x1024 .bf16 := fun i => ∑ s, part h d (i 0) (i 1) s

theorem idx0 : ∀ t : Fin cfg0.N, win0_0.index t = ![t.val % 4, 0] ∧ win0_1.index t = ![t.val % 4, t.val / 4] ∧ win0_2.index t = ![0, t.val / 4] :=
  (by decide +kernel : ∀ t : Fin grid0.N, _)

/-- The rows and the columns a point works on. -/
def rowAt (n : Nat) (s : Fin 2048) : Fin 8192 := ⟨n % 4 * 2048 + s.val, by omega⟩
def colAt (n : Nat) (k : Fin 512) : Fin 1024 := ⟨n / 4 % 2 * 512 + k.val, by omega⟩

theorem half_point (t : Fin cfg0.N) : t.val / 4 % 2 = t.val / 4 := by
  have h := t.isLt; have h8 : cfg0.N = 8 := N_0; omega

/-- The blocks of the operands at a point. -/
abbrev bH (t : Fin cfg0.N) : FVec Ideal S2048x2816 .bf16 := iblk (F := Ideal) m c 0 t
abbrev bD (t : Fin cfg0.N) : FVec Ideal S2048x512 .f32 := iblk (F := Ideal) m c 1 t

section Blocks
variable (t : Fin cfg0.N) (s : Fin 2048) (r : Fin 2816) (k : Fin 512)
theorem blk_h : iblk (F := Ideal) m c 0 t (ix2 s r) = aH m c (ix2 (rowAt t.val s) r) := by
  show iblk (F := Ideal) m c 0 t (ix2 s r) = V m c main_arg0 (ix2 (rowAt t.val s) r)
  blk_ext [iblk, idx0 t, rowAt]
theorem blk_d : iblk (F := Ideal) m c 1 t (ix2 s k) = aD m c (ix2 (rowAt t.val s) (colAt t.val k)) := by
  show iblk (F := Ideal) m c 1 t (ix2 s k) = V m c main_arg1 (ix2 (rowAt t.val s) (colAt t.val k))
  blk_ext [iblk, idx0 t, rowAt, colAt, half_point t]
end Blocks

/-- What the body adds to the running sum, and the zeros it starts from. -/
theorem pay_add (d : FVec Ideal S2048x512 .f32) (q : FVec Ideal S2816x512 .f32) (h : FVec Ideal S2048x2816 .bf16) (r : Fin 2816) (k : Fin 512) :
    k0_pay2 (F := Ideal) d q h (ix2 r k)
      = q (ix2 r k) + ∑ s : Fin 2048, h (ix2 s r) * (d (ix2 s k) * Scalar.ofBits (F := Ideal) .f32 0x3F000000#32) := by
  pointwise [k0_pay2]
theorem pay_zero (r : Fin 2816) (k : Fin 512) : k0_pay1 (F := Ideal) (ix2 r k) = (0 : EReal) := by
  simp [k0_pay1, Ideal.ofBits, Ideal.ieee]; rfl

/-- A point's part of the entry at row `r` and column `k` of its block. -/
def term (n : Nat) (r : Fin 2816) (k : Fin 512) : EReal := ∑ s : Fin 2048, part (aH m c) (aD m c) r (colAt n k) (rowAt n s)

section Points
variable (t : Fin cfg0.N) (r : Fin 2816) (k : Fin 512)

theorem sum_term : ∑ s : Fin 2048, bH m c t (ix2 s r) * (bD m c t (ix2 s k) * Scalar.ofBits (F := Ideal) .f32 0x3F000000#32) = term m c t.val r k :=
  Finset.sum_congr rfl fun s _ => by
    rw [show bH m c t (ix2 s r) = _ from blk_h m c t s r, show bD m c t (ix2 s k) = _ from blk_d m c t s k]; rfl

theorem kept_first (h0 : t.val % 4 = 0) : (outsAt0 (F := Ideal) m c t.val t.isLt).2 (ix2 r k) = 0 + term m c t.val r k := by
  rw [outsAt0_A m c t h0 (by omega)]; frame_out
  rw [← sum_term, ← pay_zero r k]
  exact pay_add ..

theorem kept_next (h0 : ¬t.val % 4 = 0) : (outsAt0 (F := Ideal) m c t.val t.isLt).2 (ix2 r k)
    = (outsAt0 (F := Ideal) m c (t.val - 1) (Nat.lt_of_le_of_lt (Nat.sub_le _ _) t.isLt)).2 (ix2 r k) + term m c t.val r k := by
  rw [← sum_term]
  by_cases h1 : t.val % 4 = 3
  · rw [outsAt0_C m c t h0 h1]; frame_out
    rw [read_unread_whole]
    exact pay_add ..
  · rw [outsAt0_B m c t h0 h1]; frame_out
    rw [read_unread_whole]
    exact pay_add ..

/-- The last of a block's points stores what it keeps. -/
theorem stored_last (h1 : t.val % 4 = 3) : (outsAt0 (F := Ideal) m c t.val t.isLt).1 (ix2 r k) = (outsAt0 (F := Ideal) m c t.val t.isLt).2 (ix2 r k) := by
  rw [outsAt0_C m c t (by omega) h1]; frame_out
  rfl

/-- What it stores: the sum over all rows. -/
theorem stored_sum (h1 : t.val % 4 = 3) : (outsAt0 (F := Ideal) m c t.val t.isLt).1 (ix2 r k)
    = ∑ s, part (aH m c) (aD m c) r (colAt t.val k) s := by
  rw [stored_last m c t r k h1]
  refine (Pipeline.eq_sum_of_reset_step_apply_of_mod (fun n h (i : Fin 2816 × Fin 512) => (outsAt0 (F := Ideal) m c n h).2 (ix2 i.1 i.2)) 4 (fun _ => 0)
    (fun n i => term m c n i.1 i.2) (fun t h i => kept_first m c t i.1 i.2 h) (fun t h i => kept_next m c t i.1 i.2 h) t h1 (r, k)).trans ?_
  rw [zero_add, Finset.sum_range]
  refine Fin.sum_mul_add_congr (L := 8192) fun p s hl => ?_
  have e1 : colAt (4 * (t.val / 4) + p.val) k = colAt t.val k := Fin.ext (by simp only [colAt]; omega)
  have e2 : rowAt (4 * (t.val / 4) + p.val) s = ⟨p.val * 2048 + s.val, hl⟩ := Fin.ext (by simp only [rowAt]; omega)
  rw [e1, e2]
end Points

theorem final_2 : (dats (F := Ideal) m 0 c).arrAt 2 cfg0.N = gradArr (aH m c) (aD m c) := by
  refine (dats m 0 c).arrAt_eq_of_covers 2 _ (by decide +kernel) fun t hf y => ?_
  obtain ⟨r, k, rfl⟩ : ∃ (r : Fin 2816) (k : Fin 512), y = (ix2 r k : S2816x512.Idx) := ⟨y 0, y 1, eq_ix2 y⟩
  have e : ((cfg0.win 2).blk t).view.emb (ix2 r k : S2816x512.Idx) = (ix2 r (colAt t.val k) : S2816x1024.Idx) := by
    blk_ext [idx0 t, colAt, half_point t]
  rw [e]
  blk_simp
  rw [after0_2]
  exact stored_sum m c t r k ((flush0_2 t).mp hf)

end Cert.DwKernelIdeal.Dw

namespace Cert.Dw

open Idealize.ShloMosaic Idealize.ShloMosaic.TcCoe Idealize.SL.Sem
open Cert.DwKernelIdeal (S8192x2816 S8192x1024)
open Cert.DwKernelIdeal.Dw

/-- The reference's gradient is that array. -/
theorem ref_grad (h : FVec Ideal S8192x2816 .bf16) (d : FVec Ideal S8192x1024 .f32) : DwReferenceIdeal.Read.val_main_v9 (F := Ideal) h d = gradArr h d := by
  funext i
  show DwReferenceIdeal.Read.val_main_v8 (F := Ideal) h d i = _
  rw [DwReferenceIdeal.Read.val_main_v8_apply, DwReferenceIdeal.Read.val_main_v7_apply]
  refine Finset.sum_congr rfl fun s _ => ?_
  rw [DwReferenceIdeal.Read.val_main_v6_apply, DwReferenceIdeal.Read.val_main_v5_apply, mul_comm]
  refine congrArg₂ (· * ·) (congrArg h (eq_ix2 _)) ((mul_comm _ _).trans (congrArg (· * _) (congrArg d (eq_ix2 _))))

theorem frame_reference : Cert.quiescent_DwReferenceIdeal := fun m ρ _ =>
  (θ_run _ _ _).mono (fun _ h => ⟨fun c => (h c).2, sem_eq_zero_of_no_sems (by decide) _⟩)
    (Cert.DwReferenceIdeal.Value.run (F := Ideal) m ρ)

/-- Both programs end at the same array. -/
theorem value : Cert.algebraic_DwKernelIdeal_DwReferenceIdeal := fun m ρ m' ρ' _ hag =>
  ⟨fun c => gradArr (aH m c) (aD m c),
    (θ_run _ _ _).mono (fun _ h c => by
      obtain ⟨h0, ha⟩ := h c
      exact ⟨h0.trans (final_2 m c), ha⟩)
      (Cert.DwKernelIdeal.Value.run_blocks (F := Ideal) m ρ),
    (θ_run _ _ _).mono (fun _ h c => by
      obtain ⟨h0, ha⟩ := h c
      obtain ⟨a0, a1⟩ := hag c
      change m' ((c.tc : Thread DwReferenceIdeal.nD DwReferenceIdeal.τ).loc DwReferenceIdeal.main_arg0) = aH m c at a0
      change m' ((c.tc : Thread DwReferenceIdeal.nD DwReferenceIdeal.τ).loc DwReferenceIdeal.main_arg1) = aD m c at a1
      refine ⟨h0.trans ?_, ha⟩
      rw [DwReferenceIdeal.Read.val_main_v9_eq, a0, a1]
      exact ref_grad ..)
      (Cert.DwReferenceIdeal.Value.run (F := Ideal) m' ρ')⟩

end Cert.Dw

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame

public import proofs.«01_k».proof.Proof.Gen.ReferenceIdeal.Run
public import proofs.«01_k».proof.Proof.Gen.ReferenceIdeal.Read
public import proofs.«01_k».proof.Proof.Gen.Pre_ffn_finite
public import proofs.«01_k».proof.Proof.Gen.Pre_mixb_finite
public import proofs.«01_k».proof.Proof.Gen.MixKernel
public import proofs.«01_k».proof.Proof.Gen.MixKernel.Skeleton
public import proofs.«01_k».proof.Proof.Gen.MixKernel.Launch
public import proofs.«01_k».proof.Proof.Gen.MixKernel.Points
public import proofs.«01_k».proof.Proof.Gen.MixKernel.Frame
public import proofs.«01_k».proof.Proof.Gen.MixKernelIdeal
public import proofs.«01_k».proof.Proof.Gen.MixKernelIdeal.Skeleton
public import proofs.«01_k».proof.Proof.Gen.MixKernelIdeal.Launch
public import proofs.«01_k».proof.Proof.Gen.MixKernelIdeal.Points
public import proofs.«01_k».proof.Proof.Gen.MixKernelIdeal.Frame
public import proofs.«01_k».proof.Proof.Gen.MixKernelIdeal.Value
public import proofs.«01_k».proof.Proof.Gen.MixReferenceIdeal.Run
public import proofs.«01_k».proof.Proof.Gen.MixReferenceIdeal.Read
public import proofs.«01_k».proof.Proof.Gen.MixBwdKernel
public import proofs.«01_k».proof.Proof.Gen.MixBwdKernelIdeal
public import proofs.«01_k».proof.Proof.Gen.MixBwdKernelIdeal.Skeleton
public import proofs.«01_k».proof.Proof.Gen.MixBwdKernelIdeal.Launch
public import proofs.«01_k».proof.Proof.Gen.MixBwdKernelIdeal.Points
public import proofs.«01_k».proof.Proof.Gen.MixBwdKernelIdeal.Frame.RunA
public import proofs.«01_k».proof.Proof.Gen.MixBwdReferenceIdeal.Run
public import proofs.«01_k».proof.Proof.Gen.MixBwdReferenceIdeal.Read
public import proofs.«01_k».proof.Proof.Gen.Pre_ffn2_finite
public import proofs.«01_k».proof.Proof.Gen.Ffn2Kernel
public import proofs.«01_k».proof.Proof.Gen.Ffn2Kernel.Frame
public import proofs.«01_k».proof.Proof.Gen.Ffn2KernelIdeal
public import proofs.«01_k».proof.Proof.Gen.Ffn2KernelIdeal.Frame
public import proofs.«01_k».proof.Proof.Gen.Ffn2ReferenceIdeal.Run
public import proofs.«01_k».proof.Proof.Gen.Ffn2ReferenceIdeal.Read
public import proofs.«01_k».proof.Proof.Gen.SsdBwdKernel
public import proofs.«01_k».proof.Proof.Gen.SsdBwdKernel.Frame
public import proofs.«01_k».proof.Proof.Gen.SsdBwdKernelIdeal
public import proofs.«01_k».proof.Proof.Gen.SsdBwdKernelIdeal.Frame
public import proofs.«01_k».proof.Proof.Gen.TailKernel
public import proofs.«01_k».proof.Proof.Gen.TailKernel.Skeleton
public import proofs.«01_k».proof.Proof.Gen.TailKernel.Launch
public import proofs.«01_k».proof.Proof.Gen.TailKernel.Points
public import proofs.«01_k».proof.Proof.Gen.TailKernel.Frame
public import proofs.«01_k».proof.Proof.Gen.TailKernelIdeal
public import proofs.«01_k».proof.Proof.Gen.TailKernelIdeal.Skeleton
public import proofs.«01_k».proof.Proof.Gen.TailKernelIdeal.Launch
public import proofs.«01_k».proof.Proof.Gen.TailKernelIdeal.Points
public import proofs.«01_k».proof.Proof.Gen.TailKernelIdeal.Frame
public import proofs.«01_k».proof.Proof.Gen.TailKernelIdeal.Value
public import proofs.«01_k».proof.Proof.Gen.TailReferenceIdeal
public import proofs.«01_k».proof.Proof.Gen.TailReferenceIdeal.Run
public import proofs.«01_k».proof.Proof.Gen.TailReferenceIdeal.Read
public import proofs.«01_k».proof.Proof.Gen.Pre_tail_finite
public import proofs.«01_k».proof.Proof.Gen.SsdFwdKernel
public import proofs.«01_k».proof.Proof.Gen.SsdFwdKernel.Skeleton
public import proofs.«01_k».proof.Proof.Gen.SsdFwdKernel.Launch
public import proofs.«01_k».proof.Proof.Gen.SsdFwdKernel.Points
public import proofs.«01_k».proof.Proof.Gen.SsdFwdKernel.Frame
public import proofs.«01_k».proof.Proof.Gen.SsdFwdKernelIdeal
public import proofs.«01_k».proof.Proof.Gen.SsdFwdKernelIdeal.Skeleton
public import proofs.«01_k».proof.Proof.Gen.SsdFwdKernelIdeal.Launch
public import proofs.«01_k».proof.Proof.Gen.SsdFwdKernelIdeal.Points
public import proofs.«01_k».proof.Proof.Gen.SsdFwdKernelIdeal.Frame
public import proofs.«01_k».proof.Proof.Gen.AdamwKernel
public import proofs.«01_k».proof.Proof.Gen.AdamwKernel.Skeleton
public import proofs.«01_k».proof.Proof.Gen.AdamwKernel.Launch
public import proofs.«01_k».proof.Proof.Gen.AdamwKernel.Points
public import proofs.«01_k».proof.Proof.Gen.AdamwKernel.Frame
public import proofs.«01_k».proof.Proof.Gen.AdamwKernelIdeal
public import proofs.«01_k».proof.Proof.Gen.AdamwKernelIdeal.Skeleton
public import proofs.«01_k».proof.Proof.Gen.AdamwKernelIdeal.Launch
public import proofs.«01_k».proof.Proof.Gen.AdamwKernelIdeal.Points
public import proofs.«01_k».proof.Proof.Gen.AdamwKernelIdeal.Frame
public import proofs.«01_k».proof.Proof.Gen.AdamwKernelIdeal.Value
public import proofs.«01_k».proof.Proof.Gen.AdamwReferenceIdeal
public import proofs.«01_k».proof.Proof.Gen.AdamwReferenceIdeal.Run
public import proofs.«01_k».proof.Proof.Gen.AdamwReferenceIdeal.Read
public import proofs.«01_k».proof.Proof.Gen.DwKernel
public import proofs.«01_k».proof.Proof.Gen.DwKernel.Skeleton
public import proofs.«01_k».proof.Proof.Gen.DwKernel.Launch
public import proofs.«01_k».proof.Proof.Gen.DwKernel.Points
public import proofs.«01_k».proof.Proof.Gen.DwKernel.Frame
public import proofs.«01_k».proof.Proof.Gen.DwKernelIdeal
public import proofs.«01_k».proof.Proof.Gen.DwKernelIdeal.Skeleton
public import proofs.«01_k».proof.Proof.Gen.DwKernelIdeal.Launch
public import proofs.«01_k».proof.Proof.Gen.DwKernelIdeal.Points
public import proofs.«01_k».proof.Proof.Gen.DwKernelIdeal.Frame
public import proofs.«01_k».proof.Proof.Gen.DwKernelIdeal.Value
public import proofs.«01_k».proof.Proof.Gen.DwReferenceIdeal
public import proofs.«01_k».proof.Proof.Gen.DwReferenceIdeal.Run
public import proofs.«01_k».proof.Proof.Gen.DwReferenceIdeal.Read
public import proofs.«01_k».proof.Proof.FfnClaim
public import proofs.«01_k».proof.Proof.MixClaim
public import proofs.«01_k».proof.Proof.MixBwdFrames
public import proofs.«01_k».proof.Proof.MixBwdClaim
public import proofs.«01_k».proof.Proof.Ffn2Claim
public import proofs.«01_k».proof.Proof.TailClaim
public import proofs.«01_k».proof.Proof.AdamwClaim
public import proofs.«01_k».proof.Proof.DwClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.MixKernel.Gen.facts, Cert.MixKernelIdeal.Gen.facts, Cert.MixReferenceIdeal.Gen.facts,
  Cert.MixBwdKernel.Gen.facts, Cert.MixBwdKernelIdeal.Gen.facts, Cert.MixBwdReferenceIdeal.Gen.facts,
  Cert.Ffn2Kernel.Gen.facts, Cert.Ffn2KernelIdeal.Gen.facts, Cert.Ffn2ReferenceIdeal.Gen.facts,
  Cert.SsdBwdKernel.Gen.facts, Cert.SsdBwdKernelIdeal.Gen.facts,
  Cert.TailKernel.Gen.facts, Cert.TailKernelIdeal.Gen.facts, Cert.TailReferenceIdeal.Gen.facts,
  Cert.SsdFwdKernel.Gen.facts, Cert.SsdFwdKernelIdeal.Gen.facts,
  Cert.AdamwKernel.Gen.facts, Cert.AdamwKernelIdeal.Gen.facts, Cert.AdamwReferenceIdeal.Gen.facts,
  Cert.DwKernel.Gen.facts, Cert.DwKernelIdeal.Gen.facts, Cert.DwReferenceIdeal.Gen.facts,
  Cert.Pre_ffn_finite.Gen.facts, Cert.Pre_mixb_finite.Gen.facts, Cert.Pre_ffn2_finite.Gen.facts, Cert.Pre_tail_finite.Gen.facts,
  fun m ρ _ => Cert.Kernel.Gen.frame m ρ, fun m ρ _ => Cert.KernelIdeal.Gen.frame m ρ,
  fun m ρ _ => Cert.KernelIdeal.Gen.frame m ρ, Cert.Ffn.frame_reference,
  fun m ρ _ => Cert.Ffn.frame_reference m ρ trivial,
  fun m ρ _ => Cert.MixKernel.Gen.frame m ρ, fun m ρ _ => Cert.MixKernelIdeal.Gen.frame m ρ, Cert.Mix.frame_reference,
  Cert.MixBwd.frame_kernel, Cert.MixBwd.frame_kernelIdeal, fun m ρ _ => Cert.MixBwd.frame_kernelIdeal m ρ trivial,
  Cert.MixBwd.frame_reference, fun m ρ _ => Cert.MixBwd.frame_reference m ρ trivial,
  fun m ρ _ => Cert.Ffn2Kernel.Gen.frame m ρ, fun m ρ _ => Cert.Ffn2KernelIdeal.Gen.frame m ρ,
  fun m ρ _ => Cert.Ffn2KernelIdeal.Gen.frame m ρ, Cert.Ffn2.frame_reference,
  fun m ρ _ => Cert.Ffn2.frame_reference m ρ trivial,
  fun m ρ _ => Cert.SsdBwdKernel.Gen.frame m ρ, fun m ρ _ => Cert.SsdBwdKernelIdeal.Gen.frame m ρ,
  fun m ρ _ => Cert.TailKernel.Gen.frame m ρ, fun m ρ _ => Cert.TailKernelIdeal.Gen.frame m ρ,
  fun m ρ _ => Cert.TailKernelIdeal.Gen.frame m ρ, Cert.Tail.frame_reference,
  fun m ρ _ => Cert.Tail.frame_reference m ρ trivial,
  fun m ρ _ => Cert.SsdFwdKernel.Gen.frame m ρ, fun m ρ _ => Cert.SsdFwdKernelIdeal.Gen.frame m ρ,
  fun m ρ _ => Cert.AdamwKernel.Gen.frame m ρ, fun m ρ _ => Cert.AdamwKernelIdeal.Gen.frame m ρ, Cert.Adamw.frame_reference,
  fun m ρ _ => Cert.DwKernel.Gen.frame m ρ, fun m ρ _ => Cert.DwKernelIdeal.Gen.frame m ρ, Cert.Dw.frame_reference,
  trivial, Cert.Ffn.value, Cert.Mix.preserves, Cert.Mix.value, trivial,
  Cert.MixBwd.value, trivial, Cert.Ffn2.value, trivial, trivial, Cert.Tail.value, trivial, trivial, Cert.Adamw.value, trivial, Cert.Dw.value⟩

end Cert.Proof

end
